-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11)
      ∧ r.2.mem ((c.tc : Thread Cert.Kernel17.nD Cert.Kernel17.τ).loc Cert.Kernel17.main_arg12) = m ((c.tc : Thread Cert.Kernel17.nD Cert.Kernel17.τ).loc Cert.Kernel17.main_arg12)
      ∧ r.2.mem ((c.tc : Thread Cert.Kernel17.nD Cert.Kernel17.τ).loc Cert.Kernel17.main_arg13) = m ((c.tc : Thread Cert.Kernel17.nD Cert.Kernel17.τ).loc Cert.Kernel17.main_arg13)
      ∧ r.2.mem ((c.tc : Thread Cert.Kernel17.nD Cert.Kernel17.τ).loc Cert.Kernel17.main_arg14) = m ((c.tc : Thread Cert.Kernel17.nD Cert.Kernel17.τ).loc Cert.Kernel17.main_arg14)
      ∧ r.2.mem ((c.tc : Thread Cert.Kernel17.nD Cert.Kernel17.τ).loc Cert.Kernel17.main_arg15) = m ((c.tc : Thread Cert.Kernel17.nD Cert.Kernel17.τ).loc Cert.Kernel17.main_arg15)
      ∧ r.2.mem ((c.tc : Thread Cert.Kernel17.nD Cert.Kernel17.τ).loc Cert.Kernel17.main_arg16) = m ((c.tc : Thread Cert.Kernel17.nD Cert.Kernel17.τ).loc Cert.Kernel17.main_arg16)
      ∧ r.2.mem ((c.tc : Thread Cert.Kernel17.nD Cert.Kernel17.τ).loc Cert.Kernel17.main_arg17) = m ((c.tc : Thread Cert.Kernel17.nD Cert.Kernel17.τ).loc Cert.Kernel17.main_arg17)
      ∧ r.2.mem ((c.tc : Thread Cert.Kernel17.nD Cert.Kernel17.τ).loc Cert.Kernel17.main_arg18) = m ((c.tc : Thread Cert.Kernel17.nD Cert.Kernel17.τ).loc Cert.Kernel17.main_arg18)
      ∧ r.2.mem ((c.tc : Thread Cert.Kernel17.nD Cert.Kernel17.τ).loc Cert.Kernel17.main_arg19) = m ((c.tc : Thread Cert.Kernel17.nD Cert.Kernel17.τ).loc Cert.Kernel17.main_arg19)
      ∧ r.2.mem ((c.tc : Thread Cert.Kernel17.nD Cert.Kernel17.τ).loc Cert.Kernel17.main_arg20) = m ((c.tc : Thread Cert.Kernel17.nD Cert.Kernel17.τ).loc Cert.Kernel17.main_arg20)
      ∧ r.2.mem ((c.tc : Thread Cert.Kernel17.nD Cert.Kernel17.τ).loc Cert.Kernel17.main_arg21) = m ((c.tc : Thread Cert.Kernel17.nD Cert.Kernel17.τ).loc Cert.Kernel17.main_arg21)
      ∧ r.2.mem ((c.tc : Thread Cert.Kernel17.nD Cert.Kernel17.τ).loc Cert.Kernel17.main_arg22) = m ((c.tc : Thread Cert.Kernel17.nD Cert.Kernel17.τ).loc Cert.Kernel17.main_arg22)
      ∧ r.2.mem ((c.tc : Thread Cert.Kernel17.nD Cert.Kernel17.τ).loc Cert.Kernel17.main_arg23) = m ((c.tc : Thread Cert.Kernel17.nD Cert.Kernel17.τ).loc Cert.Kernel17.main_arg23)
      ∧ r.2.mem ((c.tc : Thread Cert.Kernel17.nD Cert.Kernel17.τ).loc Cert.Kernel17.main_arg24) = m ((c.tc : Thread Cert.Kernel17.nD Cert.Kernel17.τ).loc Cert.Kernel17.main_arg24)
      ∧ r.2.mem ((c.tc : Thread Cert.Kernel17.nD Cert.Kernel17.τ).loc Cert.Kernel17.main_arg25) = m ((c.tc : Thread Cert.Kernel17.nD Cert.Kernel17.τ).loc Cert.Kernel17.main_arg25)
      ∧ r.2.mem ((c.tc : Thread Cert.Kernel17.nD Cert.Kernel17.τ).loc Cert.Kernel17.main_arg26) = m ((c.tc : Thread Cert.Kernel17.nD Cert.Kernel17.τ).loc Cert.Kernel17.main_arg26)
      ∧ r.2.mem ((c.tc : Thread Cert.Kernel17.nD Cert.Kernel17.τ).loc Cert.Kernel17.main_arg27) = m ((c.tc : Thread Cert.Kernel17.nD Cert.Kernel17.τ).loc Cert.Kernel17.main_arg27)
      ∧ r.2.mem ((c.tc : Thread Cert.Kernel17.nD Cert.Kernel17.τ).loc Cert.Kernel17.main_arg28) = m ((c.tc : Thread Cert.Kernel17.nD Cert.Kernel17.τ).loc Cert.Kernel17.main_arg28)
      ∧ r.2.mem ((c.tc : Thread Cert.Kernel17.nD Cert.Kernel17.τ).loc Cert.Kernel17.main_arg29) = m ((c.tc : Thread Cert.Kernel17.nD Cert.Kernel17.τ).loc Cert.Kernel17.main_arg29)
      ∧ r.2.mem ((c.tc : Thread Cert.Kernel17.nD Cert.Kernel17.τ).loc Cert.Kernel17.main_arg30) = m ((c.tc : Thread Cert.Kernel17.nD Cert.Kernel17.τ).loc Cert.Kernel17.main_arg30)
      ∧ r.2.mem ((c.tc : Thread Cert.Kernel17.nD Cert.Kernel17.τ).loc Cert.Kernel17.main_arg31) = m ((c.tc : Thread Cert.Kernel17.nD Cert.Kernel17.τ).loc Cert.Kernel17.main_arg31)
      ∧ r.2.mem ((c.tc : Thread Cert.Kernel17.nD Cert.Kernel17.τ).loc Cert.Kernel17.main_arg32) = m ((c.tc : Thread Cert.Kernel17.nD Cert.Kernel17.τ).loc Cert.Kernel17.main_arg32)
      ∧ r.2.mem ((c.tc : Thread Cert.Kernel17.nD Cert.Kernel17.τ).loc Cert.Kernel17.main_arg33) = m ((c.tc : Thread Cert.Kernel17.nD Cert.Kernel17.τ).loc Cert.Kernel17.main_arg33)
      ∧ r.2.mem ((c.tc : Thread Cert.Kernel17.nD Cert.Kernel17.τ).loc Cert.Kernel17.main_arg34) = m ((c.tc : Thread Cert.Kernel17.nD Cert.Kernel17.τ).loc Cert.Kernel17.main_arg34)
      ∧ r.2.mem ((c.tc : Thread Cert.Kernel17.nD Cert.Kernel17.τ).loc Cert.Kernel17.main_arg35) = m ((c.tc : Thread Cert.Kernel17.nD Cert.Kernel17.τ).loc Cert.Kernel17.main_arg35)
      ∧ r.2.mem ((c.tc : Thread Cert.Kernel17.nD Cert.Kernel17.τ).loc Cert.Kernel17.main_arg36) = m ((c.tc : Thread Cert.Kernel17.nD Cert.Kernel17.τ).loc Cert.Kernel17.main_arg36)
      ∧ r.2.mem ((c.tc : Thread Cert.Kernel17.nD Cert.Kernel17.τ).loc Cert.Kernel17.main_arg37) = m ((c.tc : Thread Cert.Kernel17.nD Cert.Kernel17.τ).loc Cert.Kernel17.main_arg37)
      ∧ r.2.mem ((c.tc : Thread Cert.Kernel17.nD Cert.Kernel17.τ).loc Cert.Kernel17.main_arg38) = m ((c.tc : Thread Cert.Kernel17.nD Cert.Kernel17.τ).loc Cert.Kernel17.main_arg38)
      ∧ r.2.mem ((c.tc : Thread Cert.Kernel17.nD Cert.Kernel17.τ).loc Cert.Kernel17.main_arg39) = m ((c.tc : Thread Cert.Kernel17.nD Cert.Kernel17.τ).loc Cert.Kernel17.main_arg39)
      ∧ r.2.mem ((c.tc : Thread Cert.Kernel17.nD Cert.Kernel17.τ).loc Cert.Kernel17.main_arg40) = m ((c.tc : Thread Cert.Kernel17.nD Cert.Kernel17.τ).loc Cert.Kernel17.main_arg40)
      ∧ r.2.mem ((c.tc : Thread Cert.Kernel17.nD Cert.Kernel17.τ).loc Cert.Kernel17.main_arg41) = m ((c.tc : Thread Cert.Kernel17.nD Cert.Kernel17.τ).loc Cert.Kernel17.main_arg41)
      ∧ r.2.mem ((c.tc : Thread Cert.Kernel17.nD Cert.Kernel17.τ).loc Cert.Kernel17.main_arg42) = m ((c.tc : Thread Cert.Kernel17.nD Cert.Kernel17.τ).loc Cert.Kernel17.main_arg42)
      ∧ r.2.mem ((c.tc : Thread Cert.Kernel17.nD Cert.Kernel17.τ).loc Cert.Kernel17.main_arg43) = m ((c.tc : Thread Cert.Kernel17.nD Cert.Kernel17.τ).loc Cert.Kernel17.main_arg43))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
      ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
      ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
      ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
      ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15)
      ∧ r.2.mem ((c.tc : Thread Cert.Kernel17Ideal.nD Cert.Kernel17Ideal.τ).loc Cert.Kernel17Ideal.main_arg16) = m ((c.tc : Thread Cert.Kernel17Ideal.nD Cert.Kernel17Ideal.τ).loc Cert.Kernel17Ideal.main_arg16)
      ∧ r.2.mem ((c.tc : Thread Cert.Kernel17Ideal.nD Cert.Kernel17Ideal.τ).loc Cert.Kernel17Ideal.main_arg17) = m ((c.tc : Thread Cert.Kernel17Ideal.nD Cert.Kernel17Ideal.τ).loc Cert.Kernel17Ideal.main_arg17)
      ∧ r.2.mem ((c.tc : Thread Cert.Kernel17Ideal.nD Cert.Kernel17Ideal.τ).loc Cert.Kernel17Ideal.main_arg18) = m ((c.tc : Thread Cert.Kernel17Ideal.nD Cert.Kernel17Ideal.τ).loc Cert.Kernel17Ideal.main_arg18)
      ∧ r.2.mem ((c.tc : Thread Cert.Kernel17Ideal.nD Cert.Kernel17Ideal.τ).loc Cert.Kernel17Ideal.main_arg19) = m ((c.tc : Thread Cert.Kernel17Ideal.nD Cert.Kernel17Ideal.τ).loc Cert.Kernel17Ideal.main_arg19)
      ∧ r.2.mem ((c.tc : Thread Cert.Kernel17Ideal.nD Cert.Kernel17Ideal.τ).loc Cert.Kernel17Ideal.main_arg20) = m ((c.tc : Thread Cert.Kernel17Ideal.nD Cert.Kernel17Ideal.τ).loc Cert.Kernel17Ideal.main_arg20)
      ∧ r.2.mem ((c.tc : Thread Cert.Kernel17Ideal.nD Cert.Kernel17Ideal.τ).loc Cert.Kernel17Ideal.main_arg21) = m ((c.tc : Thread Cert.Kernel17Ideal.nD Cert.Kernel17Ideal.τ).loc Cert.Kernel17Ideal.main_arg21)
      ∧ r.2.mem ((c.tc : Thread Cert.Kernel17Ideal.nD Cert.Kernel17Ideal.τ).loc Cert.Kernel17Ideal.main_arg22) = m ((c.tc : Thread Cert.Kernel17Ideal.nD Cert.Kernel17Ideal.τ).loc Cert.Kernel17Ideal.main_arg22)
      ∧ r.2.mem ((c.tc : Thread Cert.Kernel17Ideal.nD Cert.Kernel17Ideal.τ).loc Cert.Kernel17Ideal.main_arg23) = m ((c.tc : Thread Cert.Kernel17Ideal.nD Cert.Kernel17Ideal.τ).loc Cert.Kernel17Ideal.main_arg23)
      ∧ r.2.mem ((c.tc : Thread Cert.Kernel17Ideal.nD Cert.Kernel17Ideal.τ).loc Cert.Kernel17Ideal.main_arg24) = m ((c.tc : Thread Cert.Kernel17Ideal.nD Cert.Kernel17Ideal.τ).loc Cert.Kernel17Ideal.main_arg24)
      ∧ r.2.mem ((c.tc : Thread Cert.Kernel17Ideal.nD Cert.Kernel17Ideal.τ).loc Cert.Kernel17Ideal.main_arg25) = m ((c.tc : Thread Cert.Kernel17Ideal.nD Cert.Kernel17Ideal.τ).loc Cert.Kernel17Ideal.main_arg25)
      ∧ r.2.mem ((c.tc : Thread Cert.Kernel17Ideal.nD Cert.Kernel17Ideal.τ).loc Cert.Kernel17Ideal.main_arg26) = m ((c.tc : Thread Cert.Kernel17Ideal.nD Cert.Kernel17Ideal.τ).loc Cert.Kernel17Ideal.main_arg26)
      ∧ r.2.mem ((c.tc : Thread Cert.Kernel17Ideal.nD Cert.Kernel17Ideal.τ).loc Cert.Kernel17Ideal.main_arg27) = m ((c.tc : Thread Cert.Kernel17Ideal.nD Cert.Kernel17Ideal.τ).loc Cert.Kernel17Ideal.main_arg27)
      ∧ r.2.mem ((c.tc : Thread Cert.Kernel17Ideal.nD Cert.Kernel17Ideal.τ).loc Cert.Kernel17Ideal.main_arg28) = m ((c.tc : Thread Cert.Kernel17Ideal.nD Cert.Kernel17Ideal.τ).loc Cert.Kernel17Ideal.main_arg28)
      ∧ r.2.mem ((c.tc : Thread Cert.Kernel17Ideal.nD Cert.Kernel17Ideal.τ).loc Cert.Kernel17Ideal.main_arg29) = m ((c.tc : Thread Cert.Kernel17Ideal.nD Cert.Kernel17Ideal.τ).loc Cert.Kernel17Ideal.main_arg29)
      ∧ r.2.mem ((c.tc : Thread Cert.Kernel17Ideal.nD Cert.Kernel17Ideal.τ).loc Cert.Kernel17Ideal.main_arg30) = m ((c.tc : Thread Cert.Kernel17Ideal.nD Cert.Kernel17Ideal.τ).loc Cert.Kernel17Ideal.main_arg30)
      ∧ r.2.mem ((c.tc : Thread Cert.Kernel17Ideal.nD Cert.Kernel17Ideal.τ).loc Cert.Kernel17Ideal.main_arg31) = m ((c.tc : Thread Cert.Kernel17Ideal.nD Cert.Kernel17Ideal.τ).loc Cert.Kernel17Ideal.main_arg31)
      ∧ r.2.mem ((c.tc : Thread Cert.Kernel17Ideal.nD Cert.Kernel17Ideal.τ).loc Cert.Kernel17Ideal.main_arg32) = m ((c.tc : Thread Cert.Kernel17Ideal.nD Cert.Kernel17Ideal.τ).loc Cert.Kernel17Ideal.main_arg32)
      ∧ r.2.mem ((c.tc : Thread Cert.Kernel17Ideal.nD Cert.Kernel17Ideal.τ).loc Cert.Kernel17Ideal.main_arg33) = m ((c.tc : Thread Cert.Kernel17Ideal.nD Cert.Kernel17Ideal.τ).loc Cert.Kernel17Ideal.main_arg33)
      ∧ r.2.mem ((c.tc : Thread Cert.Kernel17Ideal.nD Cert.Kernel17Ideal.τ).loc Cert.Kernel17Ideal.main_arg34) = m ((c.tc : Thread Cert.Kernel17Ideal.nD Cert.Kernel17Ideal.τ).loc Cert.Kernel17Ideal.main_arg34)
      ∧ r.2.mem ((c.tc : Thread Cert.Kernel17Ideal.nD Cert.Kernel17Ideal.τ).loc Cert.Kernel17Ideal.main_arg35) = m ((c.tc : Thread Cert.Kernel17Ideal.nD Cert.Kernel17Ideal.τ).loc Cert.Kernel17Ideal.main_arg35)
      ∧ r.2.mem ((c.tc : Thread Cert.Kernel17Ideal.nD Cert.Kernel17Ideal.τ).loc Cert.Kernel17Ideal.main_arg36) = m ((c.tc : Thread Cert.Kernel17Ideal.nD Cert.Kernel17Ideal.τ).loc Cert.Kernel17Ideal.main_arg36)
      ∧ r.2.mem ((c.tc : Thread Cert.Kernel17Ideal.nD Cert.Kernel17Ideal.τ).loc Cert.Kernel17Ideal.main_arg37) = m ((c.tc : Thread Cert.Kernel17Ideal.nD Cert.Kernel17Ideal.τ).loc Cert.Kernel17Ideal.main_arg37)
      ∧ r.2.mem ((c.tc : Thread Cert.Kernel17Ideal.nD Cert.Kernel17Ideal.τ).loc Cert.Kernel17Ideal.main_arg38) = m ((c.tc : Thread Cert.Kernel17Ideal.nD Cert.Kernel17Ideal.τ).loc Cert.Kernel17Ideal.main_arg38)
      ∧ r.2.mem ((c.tc : Thread Cert.Kernel17Ideal.nD Cert.Kernel17Ideal.τ).loc Cert.Kernel17Ideal.main_arg39) = m ((c.tc : Thread Cert.Kernel17Ideal.nD Cert.Kernel17Ideal.τ).loc Cert.Kernel17Ideal.main_arg39)
      ∧ r.2.mem ((c.tc : Thread Cert.Kernel17Ideal.nD Cert.Kernel17Ideal.τ).loc Cert.Kernel17Ideal.main_arg40) = m ((c.tc : Thread Cert.Kernel17Ideal.nD Cert.Kernel17Ideal.τ).loc Cert.Kernel17Ideal.main_arg40)
      ∧ r.2.mem ((c.tc : Thread Cert.Kernel17Ideal.nD Cert.Kernel17Ideal.τ).loc Cert.Kernel17Ideal.main_arg41) = m ((c.tc : Thread Cert.Kernel17Ideal.nD Cert.Kernel17Ideal.τ).loc Cert.Kernel17Ideal.main_arg41)
      ∧ r.2.mem ((c.tc : Thread Cert.Kernel17Ideal.nD Cert.Kernel17Ideal.τ).loc Cert.Kernel17Ideal.main_arg42) = m ((c.tc : Thread Cert.Kernel17Ideal.nD Cert.Kernel17Ideal.τ).loc Cert.Kernel17Ideal.main_arg42)
      ∧ r.2.mem ((c.tc : Thread Cert.Kernel17Ideal.nD Cert.Kernel17Ideal.τ).loc Cert.Kernel17Ideal.main_arg43) = m ((c.tc : Thread Cert.Kernel17Ideal.nD Cert.Kernel17Ideal.τ).loc Cert.Kernel17Ideal.main_arg43))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11)
      ∧ r.2.mem ((c.tc : Thread Cert.Reference17Ideal.nD Cert.Reference17Ideal.τ).loc Cert.Reference17Ideal.main_arg12) = m ((c.tc : Thread Cert.Reference17Ideal.nD Cert.Reference17Ideal.τ).loc Cert.Reference17Ideal.main_arg12)
      ∧ r.2.mem ((c.tc : Thread Cert.Reference17Ideal.nD Cert.Reference17Ideal.τ).loc Cert.Reference17Ideal.main_arg13) = m ((c.tc : Thread Cert.Reference17Ideal.nD Cert.Reference17Ideal.τ).loc Cert.Reference17Ideal.main_arg13)
      ∧ r.2.mem ((c.tc : Thread Cert.Reference17Ideal.nD Cert.Reference17Ideal.τ).loc Cert.Reference17Ideal.main_arg14) = m ((c.tc : Thread Cert.Reference17Ideal.nD Cert.Reference17Ideal.τ).loc Cert.Reference17Ideal.main_arg14)
      ∧ r.2.mem ((c.tc : Thread Cert.Reference17Ideal.nD Cert.Reference17Ideal.τ).loc Cert.Reference17Ideal.main_arg15) = m ((c.tc : Thread Cert.Reference17Ideal.nD Cert.Reference17Ideal.τ).loc Cert.Reference17Ideal.main_arg15)
      ∧ r.2.mem ((c.tc : Thread Cert.Reference17Ideal.nD Cert.Reference17Ideal.τ).loc Cert.Reference17Ideal.main_arg16) = m ((c.tc : Thread Cert.Reference17Ideal.nD Cert.Reference17Ideal.τ).loc Cert.Reference17Ideal.main_arg16)
      ∧ r.2.mem ((c.tc : Thread Cert.Reference17Ideal.nD Cert.Reference17Ideal.τ).loc Cert.Reference17Ideal.main_arg17) = m ((c.tc : Thread Cert.Reference17Ideal.nD Cert.Reference17Ideal.τ).loc Cert.Reference17Ideal.main_arg17)
      ∧ r.2.mem ((c.tc : Thread Cert.Reference17Ideal.nD Cert.Reference17Ideal.τ).loc Cert.Reference17Ideal.main_arg18) = m ((c.tc : Thread Cert.Reference17Ideal.nD Cert.Reference17Ideal.τ).loc Cert.Reference17Ideal.main_arg18)
      ∧ r.2.mem ((c.tc : Thread Cert.Reference17Ideal.nD Cert.Reference17Ideal.τ).loc Cert.Reference17Ideal.main_arg19) = m ((c.tc : Thread Cert.Reference17Ideal.nD Cert.Reference17Ideal.τ).loc Cert.Reference17Ideal.main_arg19)
      ∧ r.2.mem ((c.tc : Thread Cert.Reference17Ideal.nD Cert.Reference17Ideal.τ).loc Cert.Reference17Ideal.main_arg20) = m ((c.tc : Thread Cert.Reference17Ideal.nD Cert.Reference17Ideal.τ).loc Cert.Reference17Ideal.main_arg20)
      ∧ r.2.mem ((c.tc : Thread Cert.Reference17Ideal.nD Cert.Reference17Ideal.τ).loc Cert.Reference17Ideal.main_arg21) = m ((c.tc : Thread Cert.Reference17Ideal.nD Cert.Reference17Ideal.τ).loc Cert.Reference17Ideal.main_arg21)
      ∧ r.2.mem ((c.tc : Thread Cert.Reference17Ideal.nD Cert.Reference17Ideal.τ).loc Cert.Reference17Ideal.main_arg22) = m ((c.tc : Thread Cert.Reference17Ideal.nD Cert.Reference17Ideal.τ).loc Cert.Reference17Ideal.main_arg22)
      ∧ r.2.mem ((c.tc : Thread Cert.Reference17Ideal.nD Cert.Reference17Ideal.τ).loc Cert.Reference17Ideal.main_arg23) = m ((c.tc : Thread Cert.Reference17Ideal.nD Cert.Reference17Ideal.τ).loc Cert.Reference17Ideal.main_arg23)
      ∧ r.2.mem ((c.tc : Thread Cert.Reference17Ideal.nD Cert.Reference17Ideal.τ).loc Cert.Reference17Ideal.main_arg24) = m ((c.tc : Thread Cert.Reference17Ideal.nD Cert.Reference17Ideal.τ).loc Cert.Reference17Ideal.main_arg24)
      ∧ r.2.mem ((c.tc : Thread Cert.Reference17Ideal.nD Cert.Reference17Ideal.τ).loc Cert.Reference17Ideal.main_arg25) = m ((c.tc : Thread Cert.Reference17Ideal.nD Cert.Reference17Ideal.τ).loc Cert.Reference17Ideal.main_arg25)
      ∧ r.2.mem ((c.tc : Thread Cert.Reference17Ideal.nD Cert.Reference17Ideal.τ).loc Cert.Reference17Ideal.main_arg26) = m ((c.tc : Thread Cert.Reference17Ideal.nD Cert.Reference17Ideal.τ).loc Cert.Reference17Ideal.main_arg26)
      ∧ r.2.mem ((c.tc : Thread Cert.Reference17Ideal.nD Cert.Reference17Ideal.τ).loc Cert.Reference17Ideal.main_arg27) = m ((c.tc : Thread Cert.Reference17Ideal.nD Cert.Reference17Ideal.τ).loc Cert.Reference17Ideal.main_arg27)
      ∧ r.2.mem ((c.tc : Thread Cert.Reference17Ideal.nD Cert.Reference17Ideal.τ).loc Cert.Reference17Ideal.main_arg28) = m ((c.tc : Thread Cert.Reference17Ideal.nD Cert.Reference17Ideal.τ).loc Cert.Reference17Ideal.main_arg28)
      ∧ r.2.mem ((c.tc : Thread Cert.Reference17Ideal.nD Cert.Reference17Ideal.τ).loc Cert.Reference17Ideal.main_arg29) = m ((c.tc : Thread Cert.Reference17Ideal.nD Cert.Reference17Ideal.τ).loc Cert.Reference17Ideal.main_arg29)
      ∧ r.2.mem ((c.tc : Thread Cert.Reference17Ideal.nD Cert.Reference17Ideal.τ).loc Cert.Reference17Ideal.main_arg30) = m ((c.tc : Thread Cert.Reference17Ideal.nD Cert.Reference17Ideal.τ).loc Cert.Reference17Ideal.main_arg30)
      ∧ r.2.mem ((c.tc : Thread Cert.Reference17Ideal.nD Cert.Reference17Ideal.τ).loc Cert.Reference17Ideal.main_arg31) = m ((c.tc : Thread Cert.Reference17Ideal.nD Cert.Reference17Ideal.τ).loc Cert.Reference17Ideal.main_arg31)
      ∧ r.2.mem ((c.tc : Thread Cert.Reference17Ideal.nD Cert.Reference17Ideal.τ).loc Cert.Reference17Ideal.main_arg32) = m ((c.tc : Thread Cert.Reference17Ideal.nD Cert.Reference17Ideal.τ).loc Cert.Reference17Ideal.main_arg32)
      ∧ r.2.mem ((c.tc : Thread Cert.Reference17Ideal.nD Cert.Reference17Ideal.τ).loc Cert.Reference17Ideal.main_arg33) = m ((c.tc : Thread Cert.Reference17Ideal.nD Cert.Reference17Ideal.τ).loc Cert.Reference17Ideal.main_arg33)
      ∧ r.2.mem ((c.tc : Thread Cert.Reference17Ideal.nD Cert.Reference17Ideal.τ).loc Cert.Reference17Ideal.main_arg34) = m ((c.tc : Thread Cert.Reference17Ideal.nD Cert.Reference17Ideal.τ).loc Cert.Reference17Ideal.main_arg34)
      ∧ r.2.mem ((c.tc : Thread Cert.Reference17Ideal.nD Cert.Reference17Ideal.τ).loc Cert.Reference17Ideal.main_arg35) = m ((c.tc : Thread Cert.Reference17Ideal.nD Cert.Reference17Ideal.τ).loc Cert.Reference17Ideal.main_arg35)
      ∧ r.2.mem ((c.tc : Thread Cert.Reference17Ideal.nD Cert.Reference17Ideal.τ).loc Cert.Reference17Ideal.main_arg36) = m ((c.tc : Thread Cert.Reference17Ideal.nD Cert.Reference17Ideal.τ).loc Cert.Reference17Ideal.main_arg36)
      ∧ r.2.mem ((c.tc : Thread Cert.Reference17Ideal.nD Cert.Reference17Ideal.τ).loc Cert.Reference17Ideal.main_arg37) = m ((c.tc : Thread Cert.Reference17Ideal.nD Cert.Reference17Ideal.τ).loc Cert.Reference17Ideal.main_arg37)
      ∧ r.2.mem ((c.tc : Thread Cert.Reference17Ideal.nD Cert.Reference17Ideal.τ).loc Cert.Reference17Ideal.main_arg38) = m ((c.tc : Thread Cert.Reference17Ideal.nD Cert.Reference17Ideal.τ).loc Cert.Reference17Ideal.main_arg38)
      ∧ r.2.mem ((c.tc : Thread Cert.Reference17Ideal.nD Cert.Reference17Ideal.τ).loc Cert.Reference17Ideal.main_arg39) = m ((c.tc : Thread Cert.Reference17Ideal.nD Cert.Reference17Ideal.τ).loc Cert.Reference17Ideal.main_arg39)
      ∧ r.2.mem ((c.tc : Thread Cert.Reference17Ideal.nD Cert.Reference17Ideal.τ).loc Cert.Reference17Ideal.main_arg40) = m ((c.tc : Thread Cert.Reference17Ideal.nD Cert.Reference17Ideal.τ).loc Cert.Reference17Ideal.main_arg40)
      ∧ r.2.mem ((c.tc : Thread Cert.Reference17Ideal.nD Cert.Reference17Ideal.τ).loc Cert.Reference17Ideal.main_arg41) = m ((c.tc : Thread Cert.Reference17Ideal.nD Cert.Reference17Ideal.τ).loc Cert.Reference17Ideal.main_arg41)
      ∧ r.2.mem ((c.tc : Thread Cert.Reference17Ideal.nD Cert.Reference17Ideal.τ).loc Cert.Reference17Ideal.main_arg42) = m ((c.tc : Thread Cert.Reference17Ideal.nD Cert.Reference17Ideal.τ).loc Cert.Reference17Ideal.main_arg42)
      ∧ r.2.mem ((c.tc : Thread Cert.Reference17Ideal.nD Cert.Reference17Ideal.τ).loc Cert.Reference17Ideal.main_arg43) = m ((c.tc : Thread Cert.Reference17Ideal.nD Cert.Reference17Ideal.τ).loc Cert.Reference17Ideal.main_arg43))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((9465531 / 16777216) * (Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v131) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_v61) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v51) = v0 c
          ∧ r.2.mem ((c.tc : Thread Cert.Reference18Ideal.nD Cert.Reference18Ideal.τ).loc Cert.Reference18Ideal.main_v52) = v1 c
          ∧ r.2.mem ((c.tc : Thread Cert.Reference18Ideal.nD Cert.Reference18Ideal.τ).loc Cert.Reference18Ideal.main_v28) = v2 c
          ∧ r.2.mem ((c.tc : Thread Cert.Reference18Ideal.nD Cert.Reference18Ideal.τ).loc Cert.Reference18Ideal.main_v25) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v21) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)
      ∧ m' ((c.tc : Thread Cert.Reference17Ideal.nD Cert.Reference17Ideal.τ).loc Cert.Reference17Ideal.main_arg12) = m ((c.tc : Thread Cert.Kernel17Ideal.nD Cert.Kernel17Ideal.τ).loc Cert.Kernel17Ideal.main_arg12)
      ∧ m' ((c.tc : Thread Cert.Reference17Ideal.nD Cert.Reference17Ideal.τ).loc Cert.Reference17Ideal.main_arg13) = m ((c.tc : Thread Cert.Kernel17Ideal.nD Cert.Kernel17Ideal.τ).loc Cert.Kernel17Ideal.main_arg13)
      ∧ m' ((c.tc : Thread Cert.Reference17Ideal.nD Cert.Reference17Ideal.τ).loc Cert.Reference17Ideal.main_arg14) = m ((c.tc : Thread Cert.Kernel17Ideal.nD Cert.Kernel17Ideal.τ).loc Cert.Kernel17Ideal.main_arg14)
      ∧ m' ((c.tc : Thread Cert.Reference17Ideal.nD Cert.Reference17Ideal.τ).loc Cert.Reference17Ideal.main_arg15) = m ((c.tc : Thread Cert.Kernel17Ideal.nD Cert.Kernel17Ideal.τ).loc Cert.Kernel17Ideal.main_arg15)
      ∧ m' ((c.tc : Thread Cert.Reference17Ideal.nD Cert.Reference17Ideal.τ).loc Cert.Reference17Ideal.main_arg16) = m ((c.tc : Thread Cert.Kernel17Ideal.nD Cert.Kernel17Ideal.τ).loc Cert.Kernel17Ideal.main_arg16)
      ∧ m' ((c.tc : Thread Cert.Reference17Ideal.nD Cert.Reference17Ideal.τ).loc Cert.Reference17Ideal.main_arg17) = m ((c.tc : Thread Cert.Kernel17Ideal.nD Cert.Kernel17Ideal.τ).loc Cert.Kernel17Ideal.main_arg17)
      ∧ m' ((c.tc : Thread Cert.Reference17Ideal.nD Cert.Reference17Ideal.τ).loc Cert.Reference17Ideal.main_arg18) = m ((c.tc : Thread Cert.Kernel17Ideal.nD Cert.Kernel17Ideal.τ).loc Cert.Kernel17Ideal.main_arg18)
      ∧ m' ((c.tc : Thread Cert.Reference17Ideal.nD Cert.Reference17Ideal.τ).loc Cert.Reference17Ideal.main_arg19) = m ((c.tc : Thread Cert.Kernel17Ideal.nD Cert.Kernel17Ideal.τ).loc Cert.Kernel17Ideal.main_arg19)
      ∧ m' ((c.tc : Thread Cert.Reference17Ideal.nD Cert.Reference17Ideal.τ).loc Cert.Reference17Ideal.main_arg20) = m ((c.tc : Thread Cert.Kernel17Ideal.nD Cert.Kernel17Ideal.τ).loc Cert.Kernel17Ideal.main_arg20)
      ∧ m' ((c.tc : Thread Cert.Reference17Ideal.nD Cert.Reference17Ideal.τ).loc Cert.Reference17Ideal.main_arg21) = m ((c.tc : Thread Cert.Kernel17Ideal.nD Cert.Kernel17Ideal.τ).loc Cert.Kernel17Ideal.main_arg21)
      ∧ m' ((c.tc : Thread Cert.Reference17Ideal.nD Cert.Reference17Ideal.τ).loc Cert.Reference17Ideal.main_arg22) = m ((c.tc : Thread Cert.Kernel17Ideal.nD Cert.Kernel17Ideal.τ).loc Cert.Kernel17Ideal.main_arg22)
      ∧ m' ((c.tc : Thread Cert.Reference17Ideal.nD Cert.Reference17Ideal.τ).loc Cert.Reference17Ideal.main_arg23) = m ((c.tc : Thread Cert.Kernel17Ideal.nD Cert.Kernel17Ideal.τ).loc Cert.Kernel17Ideal.main_arg23)
      ∧ m' ((c.tc : Thread Cert.Reference17Ideal.nD Cert.Reference17Ideal.τ).loc Cert.Reference17Ideal.main_arg24) = m ((c.tc : Thread Cert.Kernel17Ideal.nD Cert.Kernel17Ideal.τ).loc Cert.Kernel17Ideal.main_arg24)
      ∧ m' ((c.tc : Thread Cert.Reference17Ideal.nD Cert.Reference17Ideal.τ).loc Cert.Reference17Ideal.main_arg25) = m ((c.tc : Thread Cert.Kernel17Ideal.nD Cert.Kernel17Ideal.τ).loc Cert.Kernel17Ideal.main_arg25)
      ∧ m' ((c.tc : Thread Cert.Reference17Ideal.nD Cert.Reference17Ideal.τ).loc Cert.Reference17Ideal.main_arg26) = m ((c.tc : Thread Cert.Kernel17Ideal.nD Cert.Kernel17Ideal.τ).loc Cert.Kernel17Ideal.main_arg26)
      ∧ m' ((c.tc : Thread Cert.Reference17Ideal.nD Cert.Reference17Ideal.τ).loc Cert.Reference17Ideal.main_arg27) = m ((c.tc : Thread Cert.Kernel17Ideal.nD Cert.Kernel17Ideal.τ).loc Cert.Kernel17Ideal.main_arg27)
      ∧ m' ((c.tc : Thread Cert.Reference17Ideal.nD Cert.Reference17Ideal.τ).loc Cert.Reference17Ideal.main_arg28) = m ((c.tc : Thread Cert.Kernel17Ideal.nD Cert.Kernel17Ideal.τ).loc Cert.Kernel17Ideal.main_arg28)
      ∧ m' ((c.tc : Thread Cert.Reference17Ideal.nD Cert.Reference17Ideal.τ).loc Cert.Reference17Ideal.main_arg29) = m ((c.tc : Thread Cert.Kernel17Ideal.nD Cert.Kernel17Ideal.τ).loc Cert.Kernel17Ideal.main_arg29)
      ∧ m' ((c.tc : Thread Cert.Reference17Ideal.nD Cert.Reference17Ideal.τ).loc Cert.Reference17Ideal.main_arg30) = m ((c.tc : Thread Cert.Kernel17Ideal.nD Cert.Kernel17Ideal.τ).loc Cert.Kernel17Ideal.main_arg30)
      ∧ m' ((c.tc : Thread Cert.Reference17Ideal.nD Cert.Reference17Ideal.τ).loc Cert.Reference17Ideal.main_arg31) = m ((c.tc : Thread Cert.Kernel17Ideal.nD Cert.Kernel17Ideal.τ).loc Cert.Kernel17Ideal.main_arg31)
      ∧ m' ((c.tc : Thread Cert.Reference17Ideal.nD Cert.Reference17Ideal.τ).loc Cert.Reference17Ideal.main_arg32) = m ((c.tc : Thread Cert.Kernel17Ideal.nD Cert.Kernel17Ideal.τ).loc Cert.Kernel17Ideal.main_arg32)
      ∧ m' ((c.tc : Thread Cert.Reference17Ideal.nD Cert.Reference17Ideal.τ).loc Cert.Reference17Ideal.main_arg33) = m ((c.tc : Thread Cert.Kernel17Ideal.nD Cert.Kernel17Ideal.τ).loc Cert.Kernel17Ideal.main_arg33)
      ∧ m' ((c.tc : Thread Cert.Reference17Ideal.nD Cert.Reference17Ideal.τ).loc Cert.Reference17Ideal.main_arg34) = m ((c.tc : Thread Cert.Kernel17Ideal.nD Cert.Kernel17Ideal.τ).loc Cert.Kernel17Ideal.main_arg34)
      ∧ m' ((c.tc : Thread Cert.Reference17Ideal.nD Cert.Reference17Ideal.τ).loc Cert.Reference17Ideal.main_arg35) = m ((c.tc : Thread Cert.Kernel17Ideal.nD Cert.Kernel17Ideal.τ).loc Cert.Kernel17Ideal.main_arg35)
      ∧ m' ((c.tc : Thread Cert.Reference17Ideal.nD Cert.Reference17Ideal.τ).loc Cert.Reference17Ideal.main_arg36) = m ((c.tc : Thread Cert.Kernel17Ideal.nD Cert.Kernel17Ideal.τ).loc Cert.Kernel17Ideal.main_arg36)
      ∧ m' ((c.tc : Thread Cert.Reference17Ideal.nD Cert.Reference17Ideal.τ).loc Cert.Reference17Ideal.main_arg37) = m ((c.tc : Thread Cert.Kernel17Ideal.nD Cert.Kernel17Ideal.τ).loc Cert.Kernel17Ideal.main_arg37)
      ∧ m' ((c.tc : Thread Cert.Reference17Ideal.nD Cert.Reference17Ideal.τ).loc Cert.Reference17Ideal.main_arg38) = m ((c.tc : Thread Cert.Kernel17Ideal.nD Cert.Kernel17Ideal.τ).loc Cert.Kernel17Ideal.main_arg38)
      ∧ m' ((c.tc : Thread Cert.Reference17Ideal.nD Cert.Reference17Ideal.τ).loc Cert.Reference17Ideal.main_arg39) = m ((c.tc : Thread Cert.Kernel17Ideal.nD Cert.Kernel17Ideal.τ).loc Cert.Kernel17Ideal.main_arg39)
      ∧ m' ((c.tc : Thread Cert.Reference17Ideal.nD Cert.Reference17Ideal.τ).loc Cert.Reference17Ideal.main_arg40) = m ((c.tc : Thread Cert.Kernel17Ideal.nD Cert.Kernel17Ideal.τ).loc Cert.Kernel17Ideal.main_arg40)
      ∧ m' ((c.tc : Thread Cert.Reference17Ideal.nD Cert.Reference17Ideal.τ).loc Cert.Reference17Ideal.main_arg41) = m ((c.tc : Thread Cert.Kernel17Ideal.nD Cert.Kernel17Ideal.τ).loc Cert.Kernel17Ideal.main_arg41)
      ∧ m' ((c.tc : Thread Cert.Reference17Ideal.nD Cert.Reference17Ideal.τ).loc Cert.Reference17Ideal.main_arg42) = m ((c.tc : Thread Cert.Kernel17Ideal.nD Cert.Kernel17Ideal.τ).loc Cert.Kernel17Ideal.main_arg42)
      ∧ m' ((c.tc : Thread Cert.Reference17Ideal.nD Cert.Reference17Ideal.τ).loc Cert.Reference17Ideal.main_arg43) = m ((c.tc : Thread Cert.Kernel17Ideal.nD Cert.Kernel17Ideal.τ).loc Cert.Kernel17Ideal.main_arg43)) →
    ∃ (v0 : (c : Dev Cert.Kernel17Ideal.nD) → Buf (Elt Ideal) ((c.tc : Thread Cert.Kernel17Ideal.nD Cert.Kernel17Ideal.τ).loc Cert.Kernel17Ideal.main_v52_0)) (v1 : (c : Dev Cert.Kernel17Ideal.nD) → Buf (Elt Ideal) ((c.tc : Thread Cert.Kernel17Ideal.nD Cert.Kernel17Ideal.τ).loc Cert.Kernel17Ideal.main_v52_1)) (v2 : (c : Dev Cert.Kernel17Ideal.nD) → Buf (Elt Ideal) ((c.tc : Thread Cert.Kernel17Ideal.nD Cert.Kernel17Ideal.τ).loc Cert.Kernel17Ideal.main_v52_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v52_0) = v0 c
          ∧ r.2.mem ((c.tc : Thread Cert.Kernel17Ideal.nD Cert.Kernel17Ideal.τ).loc Cert.Kernel17Ideal.main_v52_1) = v1 c
          ∧ r.2.mem ((c.tc : Thread Cert.Kernel17Ideal.nD Cert.Kernel17Ideal.τ).loc Cert.Kernel17Ideal.main_v52_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
          ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
          ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
          ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
          ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15)
          ∧ r.2.mem ((c.tc : Thread Cert.Kernel17Ideal.nD Cert.Kernel17Ideal.τ).loc Cert.Kernel17Ideal.main_arg16) = m ((c.tc : Thread Cert.Kernel17Ideal.nD Cert.Kernel17Ideal.τ).loc Cert.Kernel17Ideal.main_arg16)
          ∧ r.2.mem ((c.tc : Thread Cert.Kernel17Ideal.nD Cert.Kernel17Ideal.τ).loc Cert.Kernel17Ideal.main_arg17) = m ((c.tc : Thread Cert.Kernel17Ideal.nD Cert.Kernel17Ideal.τ).loc Cert.Kernel17Ideal.main_arg17)
          ∧ r.2.mem ((c.tc : Thread Cert.Kernel17Ideal.nD Cert.Kernel17Ideal.τ).loc Cert.Kernel17Ideal.main_arg18) = m ((c.tc : Thread Cert.Kernel17Ideal.nD Cert.Kernel17Ideal.τ).loc Cert.Kernel17Ideal.main_arg18)
          ∧ r.2.mem ((c.tc : Thread Cert.Kernel17Ideal.nD Cert.Kernel17Ideal.τ).loc Cert.Kernel17Ideal.main_arg19) = m ((c.tc : Thread Cert.Kernel17Ideal.nD Cert.Kernel17Ideal.τ).loc Cert.Kernel17Ideal.main_arg19)
          ∧ r.2.mem ((c.tc : Thread Cert.Kernel17Ideal.nD Cert.Kernel17Ideal.τ).loc Cert.Kernel17Ideal.main_arg20) = m ((c.tc : Thread Cert.Kernel17Ideal.nD Cert.Kernel17Ideal.τ).loc Cert.Kernel17Ideal.main_arg20)
          ∧ r.2.mem ((c.tc : Thread Cert.Kernel17Ideal.nD Cert.Kernel17Ideal.τ).loc Cert.Kernel17Ideal.main_arg21) = m ((c.tc : Thread Cert.Kernel17Ideal.nD Cert.Kernel17Ideal.τ).loc Cert.Kernel17Ideal.main_arg21)
          ∧ r.2.mem ((c.tc : Thread Cert.Kernel17Ideal.nD Cert.Kernel17Ideal.τ).loc Cert.Kernel17Ideal.main_arg22) = m ((c.tc : Thread Cert.Kernel17Ideal.nD Cert.Kernel17Ideal.τ).loc Cert.Kernel17Ideal.main_arg22)
          ∧ r.2.mem ((c.tc : Thread Cert.Kernel17Ideal.nD Cert.Kernel17Ideal.τ).loc Cert.Kernel17Ideal.main_arg23) = m ((c.tc : Thread Cert.Kernel17Ideal.nD Cert.Kernel17Ideal.τ).loc Cert.Kernel17Ideal.main_arg23)
          ∧ r.2.mem ((c.tc : Thread Cert.Kernel17Ideal.nD Cert.Kernel17Ideal.τ).loc Cert.Kernel17Ideal.main_arg24) = m ((c.tc : Thread Cert.Kernel17Ideal.nD Cert.Kernel17Ideal.τ).loc Cert.Kernel17Ideal.main_arg24)
          ∧ r.2.mem ((c.tc : Thread Cert.Kernel17Ideal.nD Cert.Kernel17Ideal.τ).loc Cert.Kernel17Ideal.main_arg25) = m ((c.tc : Thread Cert.Kernel17Ideal.nD Cert.Kernel17Ideal.τ).loc Cert.Kernel17Ideal.main_arg25)
          ∧ r.2.mem ((c.tc : Thread Cert.Kernel17Ideal.nD Cert.Kernel17Ideal.τ).loc Cert.Kernel17Ideal.main_arg26) = m ((c.tc : Thread Cert.Kernel17Ideal.nD Cert.Kernel17Ideal.τ).loc Cert.Kernel17Ideal.main_arg26)
          ∧ r.2.mem ((c.tc : Thread Cert.Kernel17Ideal.nD Cert.Kernel17Ideal.τ).loc Cert.Kernel17Ideal.main_arg27) = m ((c.tc : Thread Cert.Kernel17Ideal.nD Cert.Kernel17Ideal.τ).loc Cert.Kernel17Ideal.main_arg27)
          ∧ r.2.mem ((c.tc : Thread Cert.Kernel17Ideal.nD Cert.Kernel17Ideal.τ).loc Cert.Kernel17Ideal.main_arg28) = m ((c.tc : Thread Cert.Kernel17Ideal.nD Cert.Kernel17Ideal.τ).loc Cert.Kernel17Ideal.main_arg28)
          ∧ r.2.mem ((c.tc : Thread Cert.Kernel17Ideal.nD Cert.Kernel17Ideal.τ).loc Cert.Kernel17Ideal.main_arg29) = m ((c.tc : Thread Cert.Kernel17Ideal.nD Cert.Kernel17Ideal.τ).loc Cert.Kernel17Ideal.main_arg29)
          ∧ r.2.mem ((c.tc : Thread Cert.Kernel17Ideal.nD Cert.Kernel17Ideal.τ).loc Cert.Kernel17Ideal.main_arg30) = m ((c.tc : Thread Cert.Kernel17Ideal.nD Cert.Kernel17Ideal.τ).loc Cert.Kernel17Ideal.main_arg30)
          ∧ r.2.mem ((c.tc : Thread Cert.Kernel17Ideal.nD Cert.Kernel17Ideal.τ).loc Cert.Kernel17Ideal.main_arg31) = m ((c.tc : Thread Cert.Kernel17Ideal.nD Cert.Kernel17Ideal.τ).loc Cert.Kernel17Ideal.main_arg31)
          ∧ r.2.mem ((c.tc : Thread Cert.Kernel17Ideal.nD Cert.Kernel17Ideal.τ).loc Cert.Kernel17Ideal.main_arg32) = m ((c.tc : Thread Cert.Kernel17Ideal.nD Cert.Kernel17Ideal.τ).loc Cert.Kernel17Ideal.main_arg32)
          ∧ r.2.mem ((c.tc : Thread Cert.Kernel17Ideal.nD Cert.Kernel17Ideal.τ).loc Cert.Kernel17Ideal.main_arg33) = m ((c.tc : Thread Cert.Kernel17Ideal.nD Cert.Kernel17Ideal.τ).loc Cert.Kernel17Ideal.main_arg33)
          ∧ r.2.mem ((c.tc : Thread Cert.Kernel17Ideal.nD Cert.Kernel17Ideal.τ).loc Cert.Kernel17Ideal.main_arg34) = m ((c.tc : Thread Cert.Kernel17Ideal.nD Cert.Kernel17Ideal.τ).loc Cert.Kernel17Ideal.main_arg34)
          ∧ r.2.mem ((c.tc : Thread Cert.Kernel17Ideal.nD Cert.Kernel17Ideal.τ).loc Cert.Kernel17Ideal.main_arg35) = m ((c.tc : Thread Cert.Kernel17Ideal.nD Cert.Kernel17Ideal.τ).loc Cert.Kernel17Ideal.main_arg35)
          ∧ r.2.mem ((c.tc : Thread Cert.Kernel17Ideal.nD Cert.Kernel17Ideal.τ).loc Cert.Kernel17Ideal.main_arg36) = m ((c.tc : Thread Cert.Kernel17Ideal.nD Cert.Kernel17Ideal.τ).loc Cert.Kernel17Ideal.main_arg36)
          ∧ r.2.mem ((c.tc : Thread Cert.Kernel17Ideal.nD Cert.Kernel17Ideal.τ).loc Cert.Kernel17Ideal.main_arg37) = m ((c.tc : Thread Cert.Kernel17Ideal.nD Cert.Kernel17Ideal.τ).loc Cert.Kernel17Ideal.main_arg37)
          ∧ r.2.mem ((c.tc : Thread Cert.Kernel17Ideal.nD Cert.Kernel17Ideal.τ).loc Cert.Kernel17Ideal.main_arg38) = m ((c.tc : Thread Cert.Kernel17Ideal.nD Cert.Kernel17Ideal.τ).loc Cert.Kernel17Ideal.main_arg38)
          ∧ r.2.mem ((c.tc : Thread Cert.Kernel17Ideal.nD Cert.Kernel17Ideal.τ).loc Cert.Kernel17Ideal.main_arg39) = m ((c.tc : Thread Cert.Kernel17Ideal.nD Cert.Kernel17Ideal.τ).loc Cert.Kernel17Ideal.main_arg39)
          ∧ r.2.mem ((c.tc : Thread Cert.Kernel17Ideal.nD Cert.Kernel17Ideal.τ).loc Cert.Kernel17Ideal.main_arg40) = m ((c.tc : Thread Cert.Kernel17Ideal.nD Cert.Kernel17Ideal.τ).loc Cert.Kernel17Ideal.main_arg40)
          ∧ r.2.mem ((c.tc : Thread Cert.Kernel17Ideal.nD Cert.Kernel17Ideal.τ).loc Cert.Kernel17Ideal.main_arg41) = m ((c.tc : Thread Cert.Kernel17Ideal.nD Cert.Kernel17Ideal.τ).loc Cert.Kernel17Ideal.main_arg41)
          ∧ r.2.mem ((c.tc : Thread Cert.Kernel17Ideal.nD Cert.Kernel17Ideal.τ).loc Cert.Kernel17Ideal.main_arg42) = m ((c.tc : Thread Cert.Kernel17Ideal.nD Cert.Kernel17Ideal.τ).loc Cert.Kernel17Ideal.main_arg42)
          ∧ r.2.mem ((c.tc : Thread Cert.Kernel17Ideal.nD Cert.Kernel17Ideal.τ).loc Cert.Kernel17Ideal.main_arg43) = m ((c.tc : Thread Cert.Kernel17Ideal.nD Cert.Kernel17Ideal.τ).loc Cert.Kernel17Ideal.main_arg43))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v277) = v0 c
          ∧ r.2.mem ((c.tc : Thread Cert.Reference17Ideal.nD Cert.Reference17Ideal.τ).loc Cert.Reference17Ideal.main_v291) = v1 c
          ∧ r.2.mem ((c.tc : Thread Cert.Reference17Ideal.nD Cert.Reference17Ideal.τ).loc Cert.Reference17Ideal.main_v305) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11)
          ∧ r.2.mem ((c.tc : Thread Cert.Reference17Ideal.nD Cert.Reference17Ideal.τ).loc Cert.Reference17Ideal.main_arg12) = m' ((c.tc : Thread Cert.Reference17Ideal.nD Cert.Reference17Ideal.τ).loc Cert.Reference17Ideal.main_arg12)
          ∧ r.2.mem ((c.tc : Thread Cert.Reference17Ideal.nD Cert.Reference17Ideal.τ).loc Cert.Reference17Ideal.main_arg13) = m' ((c.tc : Thread Cert.Reference17Ideal.nD Cert.Reference17Ideal.τ).loc Cert.Reference17Ideal.main_arg13)
          ∧ r.2.mem ((c.tc : Thread Cert.Reference17Ideal.nD Cert.Reference17Ideal.τ).loc Cert.Reference17Ideal.main_arg14) = m' ((c.tc : Thread Cert.Reference17Ideal.nD Cert.Reference17Ideal.τ).loc Cert.Reference17Ideal.main_arg14)
          ∧ r.2.mem ((c.tc : Thread Cert.Reference17Ideal.nD Cert.Reference17Ideal.τ).loc Cert.Reference17Ideal.main_arg15) = m' ((c.tc : Thread Cert.Reference17Ideal.nD Cert.Reference17Ideal.τ).loc Cert.Reference17Ideal.main_arg15)
          ∧ r.2.mem ((c.tc : Thread Cert.Reference17Ideal.nD Cert.Reference17Ideal.τ).loc Cert.Reference17Ideal.main_arg16) = m' ((c.tc : Thread Cert.Reference17Ideal.nD Cert.Reference17Ideal.τ).loc Cert.Reference17Ideal.main_arg16)
          ∧ r.2.mem ((c.tc : Thread Cert.Reference17Ideal.nD Cert.Reference17Ideal.τ).loc Cert.Reference17Ideal.main_arg17) = m' ((c.tc : Thread Cert.Reference17Ideal.nD Cert.Reference17Ideal.τ).loc Cert.Reference17Ideal.main_arg17)
          ∧ r.2.mem ((c.tc : Thread Cert.Reference17Ideal.nD Cert.Reference17Ideal.τ).loc Cert.Reference17Ideal.main_arg18) = m' ((c.tc : Thread Cert.Reference17Ideal.nD Cert.Reference17Ideal.τ).loc Cert.Reference17Ideal.main_arg18)
          ∧ r.2.mem ((c.tc : Thread Cert.Reference17Ideal.nD Cert.Reference17Ideal.τ).loc Cert.Reference17Ideal.main_arg19) = m' ((c.tc : Thread Cert.Reference17Ideal.nD Cert.Reference17Ideal.τ).loc Cert.Reference17Ideal.main_arg19)
          ∧ r.2.mem ((c.tc : Thread Cert.Reference17Ideal.nD Cert.Reference17Ideal.τ).loc Cert.Reference17Ideal.main_arg20) = m' ((c.tc : Thread Cert.Reference17Ideal.nD Cert.Reference17Ideal.τ).loc Cert.Reference17Ideal.main_arg20)
          ∧ r.2.mem ((c.tc : Thread Cert.Reference17Ideal.nD Cert.Reference17Ideal.τ).loc Cert.Reference17Ideal.main_arg21) = m' ((c.tc : Thread Cert.Reference17Ideal.nD Cert.Reference17Ideal.τ).loc Cert.Reference17Ideal.main_arg21)
          ∧ r.2.mem ((c.tc : Thread Cert.Reference17Ideal.nD Cert.Reference17Ideal.τ).loc Cert.Reference17Ideal.main_arg22) = m' ((c.tc : Thread Cert.Reference17Ideal.nD Cert.Reference17Ideal.τ).loc Cert.Reference17Ideal.main_arg22)
          ∧ r.2.mem ((c.tc : Thread Cert.Reference17Ideal.nD Cert.Reference17Ideal.τ).loc Cert.Reference17Ideal.main_arg23) = m' ((c.tc : Thread Cert.Reference17Ideal.nD Cert.Reference17Ideal.τ).loc Cert.Reference17Ideal.main_arg23)
          ∧ r.2.mem ((c.tc : Thread Cert.Reference17Ideal.nD Cert.Reference17Ideal.τ).loc Cert.Reference17Ideal.main_arg24) = m' ((c.tc : Thread Cert.Reference17Ideal.nD Cert.Reference17Ideal.τ).loc Cert.Reference17Ideal.main_arg24)
          ∧ r.2.mem ((c.tc : Thread Cert.Reference17Ideal.nD Cert.Reference17Ideal.τ).loc Cert.Reference17Ideal.main_arg25) = m' ((c.tc : Thread Cert.Reference17Ideal.nD Cert.Reference17Ideal.τ).loc Cert.Reference17Ideal.main_arg25)
          ∧ r.2.mem ((c.tc : Thread Cert.Reference17Ideal.nD Cert.Reference17Ideal.τ).loc Cert.Reference17Ideal.main_arg26) = m' ((c.tc : Thread Cert.Reference17Ideal.nD Cert.Reference17Ideal.τ).loc Cert.Reference17Ideal.main_arg26)
          ∧ r.2.mem ((c.tc : Thread Cert.Reference17Ideal.nD Cert.Reference17Ideal.τ).loc Cert.Reference17Ideal.main_arg27) = m' ((c.tc : Thread Cert.Reference17Ideal.nD Cert.Reference17Ideal.τ).loc Cert.Reference17Ideal.main_arg27)
          ∧ r.2.mem ((c.tc : Thread Cert.Reference17Ideal.nD Cert.Reference17Ideal.τ).loc Cert.Reference17Ideal.main_arg28) = m' ((c.tc : Thread Cert.Reference17Ideal.nD Cert.Reference17Ideal.τ).loc Cert.Reference17Ideal.main_arg28)
          ∧ r.2.mem ((c.tc : Thread Cert.Reference17Ideal.nD Cert.Reference17Ideal.τ).loc Cert.Reference17Ideal.main_arg29) = m' ((c.tc : Thread Cert.Reference17Ideal.nD Cert.Reference17Ideal.τ).loc Cert.Reference17Ideal.main_arg29)
          ∧ r.2.mem ((c.tc : Thread Cert.Reference17Ideal.nD Cert.Reference17Ideal.τ).loc Cert.Reference17Ideal.main_arg30) = m' ((c.tc : Thread Cert.Reference17Ideal.nD Cert.Reference17Ideal.τ).loc Cert.Reference17Ideal.main_arg30)
          ∧ r.2.mem ((c.tc : Thread Cert.Reference17Ideal.nD Cert.Reference17Ideal.τ).loc Cert.Reference17Ideal.main_arg31) = m' ((c.tc : Thread Cert.Reference17Ideal.nD Cert.Reference17Ideal.τ).loc Cert.Reference17Ideal.main_arg31)
          ∧ r.2.mem ((c.tc : Thread Cert.Reference17Ideal.nD Cert.Reference17Ideal.τ).loc Cert.Reference17Ideal.main_arg32) = m' ((c.tc : Thread Cert.Reference17Ideal.nD Cert.Reference17Ideal.τ).loc Cert.Reference17Ideal.main_arg32)
          ∧ r.2.mem ((c.tc : Thread Cert.Reference17Ideal.nD Cert.Reference17Ideal.τ).loc Cert.Reference17Ideal.main_arg33) = m' ((c.tc : Thread Cert.Reference17Ideal.nD Cert.Reference17Ideal.τ).loc Cert.Reference17Ideal.main_arg33)
          ∧ r.2.mem ((c.tc : Thread Cert.Reference17Ideal.nD Cert.Reference17Ideal.τ).loc Cert.Reference17Ideal.main_arg34) = m' ((c.tc : Thread Cert.Reference17Ideal.nD Cert.Reference17Ideal.τ).loc Cert.Reference17Ideal.main_arg34)
          ∧ r.2.mem ((c.tc : Thread Cert.Reference17Ideal.nD Cert.Reference17Ideal.τ).loc Cert.Reference17Ideal.main_arg35) = m' ((c.tc : Thread Cert.Reference17Ideal.nD Cert.Reference17Ideal.τ).loc Cert.Reference17Ideal.main_arg35)
          ∧ r.2.mem ((c.tc : Thread Cert.Reference17Ideal.nD Cert.Reference17Ideal.τ).loc Cert.Reference17Ideal.main_arg36) = m' ((c.tc : Thread Cert.Reference17Ideal.nD Cert.Reference17Ideal.τ).loc Cert.Reference17Ideal.main_arg36)
          ∧ r.2.mem ((c.tc : Thread Cert.Reference17Ideal.nD Cert.Reference17Ideal.τ).loc Cert.Reference17Ideal.main_arg37) = m' ((c.tc : Thread Cert.Reference17Ideal.nD Cert.Reference17Ideal.τ).loc Cert.Reference17Ideal.main_arg37)
          ∧ r.2.mem ((c.tc : Thread Cert.Reference17Ideal.nD Cert.Reference17Ideal.τ).loc Cert.Reference17Ideal.main_arg38) = m' ((c.tc : Thread Cert.Reference17Ideal.nD Cert.Reference17Ideal.τ).loc Cert.Reference17Ideal.main_arg38)
          ∧ r.2.mem ((c.tc : Thread Cert.Reference17Ideal.nD Cert.Reference17Ideal.τ).loc Cert.Reference17Ideal.main_arg39) = m' ((c.tc : Thread Cert.Reference17Ideal.nD Cert.Reference17Ideal.τ).loc Cert.Reference17Ideal.main_arg39)
          ∧ r.2.mem ((c.tc : Thread Cert.Reference17Ideal.nD Cert.Reference17Ideal.τ).loc Cert.Reference17Ideal.main_arg40) = m' ((c.tc : Thread Cert.Reference17Ideal.nD Cert.Reference17Ideal.τ).loc Cert.Reference17Ideal.main_arg40)
          ∧ r.2.mem ((c.tc : Thread Cert.Reference17Ideal.nD Cert.Reference17Ideal.τ).loc Cert.Reference17Ideal.main_arg41) = m' ((c.tc : Thread Cert.Reference17Ideal.nD Cert.Reference17Ideal.τ).loc Cert.Reference17Ideal.main_arg41)
          ∧ r.2.mem ((c.tc : Thread Cert.Reference17Ideal.nD Cert.Reference17Ideal.τ).loc Cert.Reference17Ideal.main_arg42) = m' ((c.tc : Thread Cert.Reference17Ideal.nD Cert.Reference17Ideal.τ).loc Cert.Reference17Ideal.main_arg42)
          ∧ r.2.mem ((c.tc : Thread Cert.Reference17Ideal.nD Cert.Reference17Ideal.τ).loc Cert.Reference17Ideal.main_arg43) = m' ((c.tc : Thread Cert.Reference17Ideal.nD Cert.Reference17Ideal.τ).loc Cert.Reference17Ideal.main_arg43))

def preserves_Kernel20_Kernel20Ideal : Prop :=
  True

def algebraic_Kernel20Ideal_Reference20Ideal_on_first_layer_Kernel20Ideal [hKernel20Ideal : Cert.Kernel20Ideal.Facts] [hReference20Ideal : Cert.Reference20Ideal.Facts] [hOn_first_layer_Kernel20Ideal : Cert.On_first_layer_Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).1 i = 1#1 → r.2.mem ((c.tc : Thread Cert.Kernel20Ideal.nD Cert.Kernel20Ideal.τ).loc Cert.Kernel20Ideal.main_v0_0) i = v0 c i)
          ∧ (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.1 i = 1#1 → r.2.mem ((c.tc : Thread Cert.Kernel20Ideal.nD Cert.Kernel20Ideal.τ).loc Cert.Kernel20Ideal.main_v0_1) i = v1 c i)
          ∧ (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.1 i = 1#1 → r.2.mem ((c.tc : Thread Cert.Kernel20Ideal.nD Cert.Kernel20Ideal.τ).loc Cert.Kernel20Ideal.main_v0_2) i = v2 c i)
          ∧ (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.2 i = 1#1 → r.2.mem ((c.tc : Thread Cert.Kernel20Ideal.nD Cert.Kernel20Ideal.τ).loc Cert.Kernel20Ideal.main_v0_3) i = v3 c i)
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).1 i = 1#1 → r.2.mem ((c.tc : Thread Cert.Reference20Ideal.nD Cert.Reference20Ideal.τ).loc Cert.Reference20Ideal.main_v31) i = v0 c i)
          ∧ (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.1 i = 1#1 → r.2.mem ((c.tc : Thread Cert.Reference20Ideal.nD Cert.Reference20Ideal.τ).loc Cert.Reference20Ideal.main_v32) i = v1 c i)
          ∧ (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.1 i = 1#1 → r.2.mem ((c.tc : Thread Cert.Reference20Ideal.nD Cert.Reference20Ideal.τ).loc Cert.Reference20Ideal.main_v33) i = v2 c i)
          ∧ (∀ i : (⟨3, ![2, 256, 1024]⟩ : Shape).Idx, (Cert.On_first_layer_Kernel20Ideal.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.2 i = 1#1 → r.2.mem ((c.tc : Thread Cert.Reference20Ideal.nD Cert.Reference20Ideal.τ).loc Cert.Reference20Ideal.main_v34) i = v3 c i)
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v30) = v0 c
          ∧ r.2.mem ((c.tc : Thread Cert.Reference21Ideal.nD Cert.Reference21Ideal.τ).loc Cert.Reference21Ideal.main_v31) = v1 c
          ∧ r.2.mem ((c.tc : Thread Cert.Reference21Ideal.nD Cert.Reference21Ideal.τ).loc Cert.Reference21Ideal.main_v32) = v2 c
          ∧ r.2.mem ((c.tc : Thread Cert.Reference21Ideal.nD Cert.Reference21Ideal.τ).loc Cert.Reference21Ideal.main_v33) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal_on_first_layer_Kernel22Ideal [hKernel22Ideal : Cert.Kernel22Ideal.Facts] [hReference22Ideal : Cert.Reference22Ideal.Facts] [hOn_first_layer_Kernel22Ideal : Cert.On_first_layer_Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).1 i = 1#1 → r.2.mem ((c.tc : Thread Cert.Kernel22Ideal.nD Cert.Kernel22Ideal.τ).loc Cert.Kernel22Ideal.main_v0_0) i = v0 c i)
          ∧ (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.1 i = 1#1 → r.2.mem ((c.tc : Thread Cert.Kernel22Ideal.nD Cert.Kernel22Ideal.τ).loc Cert.Kernel22Ideal.main_v0_1) i = v1 c i)
          ∧ (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.2.1 i = 1#1 → r.2.mem ((c.tc : Thread Cert.Kernel22Ideal.nD Cert.Kernel22Ideal.τ).loc Cert.Kernel22Ideal.main_v0_2) i = v2 c i)
          ∧ (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.2.2 i = 1#1 → r.2.mem ((c.tc : Thread Cert.Kernel22Ideal.nD Cert.Kernel22Ideal.τ).loc Cert.Kernel22Ideal.main_v0_3) i = v3 c i)
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).1 i = 1#1 → r.2.mem ((c.tc : Thread Cert.Reference22Ideal.nD Cert.Reference22Ideal.τ).loc Cert.Reference22Ideal.main_v31) i = v0 c i)
          ∧ (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.1 i = 1#1 → r.2.mem ((c.tc : Thread Cert.Reference22Ideal.nD Cert.Reference22Ideal.τ).loc Cert.Reference22Ideal.main_v32) i = v1 c i)
          ∧ (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.2.1 i = 1#1 → r.2.mem ((c.tc : Thread Cert.Reference22Ideal.nD Cert.Reference22Ideal.τ).loc Cert.Reference22Ideal.main_v33) i = v2 c i)
          ∧ (∀ i : (⟨3, ![2, 128, 1024]⟩ : Shape).Idx, (Cert.On_first_layer_Kernel22Ideal.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.2.2 i = 1#1 → r.2.mem ((c.tc : Thread Cert.Reference22Ideal.nD Cert.Reference22Ideal.τ).loc Cert.Reference22Ideal.main_v34) i = v3 c i)
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v30) = v0 c
          ∧ r.2.mem ((c.tc : Thread Cert.Reference23Ideal.nD Cert.Reference23Ideal.τ).loc Cert.Reference23Ideal.main_v31) = v1 c
          ∧ r.2.mem ((c.tc : Thread Cert.Reference23Ideal.nD Cert.Reference23Ideal.τ).loc Cert.Reference23Ideal.main_v32) = v2 c
          ∧ r.2.mem ((c.tc : Thread Cert.Reference23Ideal.nD Cert.Reference23Ideal.τ).loc Cert.Reference23Ideal.main_v33) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal_on_first_layer_Kernel24Ideal [hKernel24Ideal : Cert.Kernel24Ideal.Facts] [hReference24Ideal : Cert.Reference24Ideal.Facts] [hOn_first_layer_Kernel24Ideal : Cert.On_first_layer_Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).1 i = 1#1 → r.2.mem ((c.tc : Thread Cert.Kernel24Ideal.nD Cert.Kernel24Ideal.τ).loc Cert.Kernel24Ideal.main_v0_0) i = v0 c i)
          ∧ (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.1 i = 1#1 → r.2.mem ((c.tc : Thread Cert.Kernel24Ideal.nD Cert.Kernel24Ideal.τ).loc Cert.Kernel24Ideal.main_v0_1) i = v1 c i)
          ∧ (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.2.1 i = 1#1 → r.2.mem ((c.tc : Thread Cert.Kernel24Ideal.nD Cert.Kernel24Ideal.τ).loc Cert.Kernel24Ideal.main_v0_2) i = v2 c i)
          ∧ (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.2.2 i = 1#1 → r.2.mem ((c.tc : Thread Cert.Kernel24Ideal.nD Cert.Kernel24Ideal.τ).loc Cert.Kernel24Ideal.main_v0_3) i = v3 c i)
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).1 i = 1#1 → r.2.mem ((c.tc : Thread Cert.Reference24Ideal.nD Cert.Reference24Ideal.τ).loc Cert.Reference24Ideal.main_v31) i = v0 c i)
          ∧ (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.1 i = 1#1 → r.2.mem ((c.tc : Thread Cert.Reference24Ideal.nD Cert.Reference24Ideal.τ).loc Cert.Reference24Ideal.main_v32) i = v1 c i)
          ∧ (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.2.1 i = 1#1 → r.2.mem ((c.tc : Thread Cert.Reference24Ideal.nD Cert.Reference24Ideal.τ).loc Cert.Reference24Ideal.main_v33) i = v2 c i)
          ∧ (∀ i : (⟨3, ![4, 352, 1024]⟩ : Shape).Idx, (Cert.On_first_layer_Kernel24Ideal.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))).2.2.2 i = 1#1 → r.2.mem ((c.tc : Thread Cert.Reference24Ideal.nD Cert.Reference24Ideal.τ).loc Cert.Reference24Ideal.main_v34) i = v3 c i)
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v30) = v0 c
          ∧ r.2.mem ((c.tc : Thread Cert.Reference25Ideal.nD Cert.Reference25Ideal.τ).loc Cert.Reference25Ideal.main_v31) = v1 c
          ∧ r.2.mem ((c.tc : Thread Cert.Reference25Ideal.nD Cert.Reference25Ideal.τ).loc Cert.Reference25Ideal.main_v32) = v2 c
          ∧ r.2.mem ((c.tc : Thread Cert.Reference25Ideal.nD Cert.Reference25Ideal.τ).loc Cert.Reference25Ideal.main_v33) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v30) = v0 c
          ∧ r.2.mem ((c.tc : Thread Cert.Reference26Ideal.nD Cert.Reference26Ideal.τ).loc Cert.Reference26Ideal.main_v31) = v1 c
          ∧ r.2.mem ((c.tc : Thread Cert.Reference26Ideal.nD Cert.Reference26Ideal.τ).loc Cert.Reference26Ideal.main_v32) = v2 c
          ∧ r.2.mem ((c.tc : Thread Cert.Reference26Ideal.nD Cert.Reference26Ideal.τ).loc Cert.Reference26Ideal.main_v33) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v30) = v0 c
          ∧ r.2.mem ((c.tc : Thread Cert.Reference27Ideal.nD Cert.Reference27Ideal.τ).loc Cert.Reference27Ideal.main_v31) = v1 c
          ∧ r.2.mem ((c.tc : Thread Cert.Reference27Ideal.nD Cert.Reference27Ideal.τ).loc Cert.Reference27Ideal.main_v32) = v2 c
          ∧ r.2.mem ((c.tc : Thread Cert.Reference27Ideal.nD Cert.Reference27Ideal.τ).loc Cert.Reference27Ideal.main_v33) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7))

def preserves_Kernel28_Kernel28Ideal : Prop :=
  True

def algebraic_Kernel28Ideal_Reference28Ideal_on_first_layer_halves [hKernel28Ideal : Cert.Kernel28Ideal.Facts] [hReference28Ideal : Cert.Reference28Ideal.Facts] [hOn_first_layer_halves : Cert.On_first_layer_halves.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).1 i = 1#1 → r.2.mem ((c.tc : Thread Cert.Kernel28Ideal.nD Cert.Kernel28Ideal.τ).loc Cert.Kernel28Ideal.main_v0_0) i = v0 c i)
          ∧ (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).2.1 i = 1#1 → r.2.mem ((c.tc : Thread Cert.Kernel28Ideal.nD Cert.Kernel28Ideal.τ).loc Cert.Kernel28Ideal.main_v0_1) i = v1 c i)
          ∧ (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).2.2.1 i = 1#1 → r.2.mem ((c.tc : Thread Cert.Kernel28Ideal.nD Cert.Kernel28Ideal.τ).loc Cert.Kernel28Ideal.main_v0_2) i = v2 c i)
          ∧ (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).2.2.2 i = 1#1 → r.2.mem ((c.tc : Thread Cert.Kernel28Ideal.nD Cert.Kernel28Ideal.τ).loc Cert.Kernel28Ideal.main_v0_3) i = v3 c i)
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).1 i = 1#1 → r.2.mem ((c.tc : Thread Cert.Reference28Ideal.nD Cert.Reference28Ideal.τ).loc Cert.Reference28Ideal.main_v32) i = v0 c i)
          ∧ (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).2.1 i = 1#1 → r.2.mem ((c.tc : Thread Cert.Reference28Ideal.nD Cert.Reference28Ideal.τ).loc Cert.Reference28Ideal.main_v33) i = v1 c i)
          ∧ (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).2.2.1 i = 1#1 → r.2.mem ((c.tc : Thread Cert.Reference28Ideal.nD Cert.Reference28Ideal.τ).loc Cert.Reference28Ideal.main_v34) i = v2 c i)
          ∧ (∀ i : (⟨3, ![2, 1024, 512]⟩ : Shape).Idx, (Cert.On_first_layer_halves.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))).2.2.2 i = 1#1 → r.2.mem ((c.tc : Thread Cert.Reference28Ideal.nD Cert.Reference28Ideal.τ).loc Cert.Reference28Ideal.main_v35) i = v3 c i)
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v31) = v0 c
          ∧ r.2.mem ((c.tc : Thread Cert.Reference29Ideal.nD Cert.Reference29Ideal.τ).loc Cert.Reference29Ideal.main_v32) = v1 c
          ∧ r.2.mem ((c.tc : Thread Cert.Reference29Ideal.nD Cert.Reference29Ideal.τ).loc Cert.Reference29Ideal.main_v33) = v2 c
          ∧ r.2.mem ((c.tc : Thread Cert.Reference29Ideal.nD Cert.Reference29Ideal.τ).loc Cert.Reference29Ideal.main_v34) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel17 : Cert.Kernel17.Facts) (hKernel17Ideal : Cert.Kernel17Ideal.Facts) (hReference17Ideal : Cert.Reference17Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hOn_first_layer_Kernel20Ideal : Cert.On_first_layer_Kernel20Ideal.Facts) (hOn_first_layer_Kernel22Ideal : Cert.On_first_layer_Kernel22Ideal.Facts) (hOn_first_layer_Kernel24Ideal : Cert.On_first_layer_Kernel24Ideal.Facts) (hOn_first_layer_halves : Cert.On_first_layer_halves.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel17_Kernel17Ideal
    ∧ algebraic_Kernel17Ideal_Reference17Ideal (hKernel17Ideal := hKernel17Ideal) (hReference17Ideal := hReference17Ideal)
    ∧ preserves_Kernel20_Kernel20Ideal
    ∧ algebraic_Kernel20Ideal_Reference20Ideal_on_first_layer_Kernel20Ideal (hKernel20Ideal := hKernel20Ideal) (hReference20Ideal := hReference20Ideal) (hOn_first_layer_Kernel20Ideal := hOn_first_layer_Kernel20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_on_first_layer_Kernel22Ideal (hKernel22Ideal := hKernel22Ideal) (hReference22Ideal := hReference22Ideal) (hOn_first_layer_Kernel22Ideal := hOn_first_layer_Kernel22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_on_first_layer_Kernel24Ideal (hKernel24Ideal := hKernel24Ideal) (hReference24Ideal := hReference24Ideal) (hOn_first_layer_Kernel24Ideal := hOn_first_layer_Kernel24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_on_first_layer_halves (hKernel28Ideal := hKernel28Ideal) (hReference28Ideal := hReference28Ideal) (hOn_first_layer_halves := hOn_first_layer_halves)
    ∧ preserves_Kernel29_Kernel29Ideal
    ∧ algebraic_Kernel29Ideal_Reference29Ideal (hKernel29Ideal := hKernel29Ideal) (hReference29Ideal := hReference29Ideal)
-- ==== On_first_layer_Kernel20Ideal.lean ====
abbrev S8x256x1024 : Shape := ⟨3, ![8, 256, 1024]⟩
abbrev S2x256x1024 : Shape := ⟨3, ![2, 256, 1024]⟩
abbrev S_ : Shape := ⟨0, ![]⟩

class Facts : Prop where
  bcast_S_S2x256x1024 : S_.BroadcastsInDim S2x256x1024 (![] : Fin 0 → Fin S2x256x1024.rank)

variable [Facts]

def fn {F : FTy → Type} [FloatOps F] (main_arg0 : FVec F S8x256x1024 .bf16) (main_arg1 : FVec F S2x256x1024 .f32) (main_arg2 : FVec F S2x256x1024 .f32) (main_arg3 : FVec F S2x256x1024 .f32) : IVec S2x256x1024 1 × IVec S2x256x1024 1 × IVec S2x256x1024 1 × IVec S2x256x1024 1 :=
  let main_v0 : IVec S2x256x1024 32 := iotaInDim S2x256x1024 32 0
  let main_c : IVec S_ 32 := constantI S_ 32 0#32
  let main_v1 : IVec S2x256x1024 32 := broadcastInDim S2x256x1024 ![] bcast_S_S2x256x1024 main_c
  let main_v2 : IVec S2x256x1024 1 := cmpi .eq main_v0 main_v1
  (main_v2, main_v2, main_v2, main_v2)
-- ==== On_first_layer_Kernel22Ideal.lean ====
abbrev S8x128x1024 : Shape := ⟨3, ![8, 128, 1024]⟩
abbrev S2x128x1024 : Shape := ⟨3, ![2, 128, 1024]⟩
abbrev S_ : Shape := ⟨0, ![]⟩

class Facts : Prop where
  bcast_S_S2x128x1024 : S_.BroadcastsInDim S2x128x1024 (![] : Fin 0 → Fin S2x128x1024.rank)

variable [Facts]

def fn {F : FTy → Type} [FloatOps F] (main_arg0 : FVec F S8x128x1024 .bf16) (main_arg1 : FVec F S2x128x1024 .f32) (main_arg2 : FVec F S2x128x1024 .f32) (main_arg3 : FVec F S2x128x1024 .f32) : IVec S2x128x1024 1 × IVec S2x128x1024 1 × IVec S2x128x1024 1 × IVec S2x128x1024 1 :=
  let main_v0 : IVec S2x128x1024 32 := iotaInDim S2x128x1024 32 0
  let main_c : IVec S_ 32 := constantI S_ 32 0#32
  let main_v1 : IVec S2x128x1024 32 := broadcastInDim S2x128x1024 ![] bcast_S_S2x128x1024 main_c
  let main_v2 : IVec S2x128x1024 1 := cmpi .eq main_v0 main_v1
  (main_v2, main_v2, main_v2, main_v2)
-- ==== On_first_layer_Kernel24Ideal.lean ====
abbrev S8x352x1024 : Shape := ⟨3, ![8, 352, 1024]⟩
abbrev S4x352x1024 : Shape := ⟨3, ![4, 352, 1024]⟩
abbrev S_ : Shape := ⟨0, ![]⟩

class Facts : Prop where
  bcast_S_S4x352x1024 : S_.BroadcastsInDim S4x352x1024 (![] : Fin 0 → Fin S4x352x1024.rank)

variable [Facts]

def fn {F : FTy → Type} [FloatOps F] (main_arg0 : FVec F S8x352x1024 .bf16) (main_arg1 : FVec F S4x352x1024 .f32) (main_arg2 : FVec F S4x352x1024 .f32) (main_arg3 : FVec F S4x352x1024 .f32) : IVec S4x352x1024 1 × IVec S4x352x1024 1 × IVec S4x352x1024 1 × IVec S4x352x1024 1 :=
  let main_v0 : IVec S4x352x1024 32 := iotaInDim S4x352x1024 32 0
  let main_c : IVec S_ 32 := constantI S_ 32 0#32
  let main_v1 : IVec S4x352x1024 32 := broadcastInDim S4x352x1024 ![] bcast_S_S4x352x1024 main_c
  let main_v2 : IVec S4x352x1024 1 := cmpi .eq main_v0 main_v1
  (main_v2, main_v2, main_v2, main_v2)
-- ==== On_first_layer_halves.lean ====
abbrev S8x512x512 : Shape := ⟨3, ![8, 512, 512]⟩
abbrev S2x1024x512 : Shape := ⟨3, ![2, 1024, 512]⟩
abbrev S_ : Shape := ⟨0, ![]⟩

class Facts : Prop where
  bcast_S_S2x1024x512 : S_.BroadcastsInDim S2x1024x512 (![] : Fin 0 → Fin S2x1024x512.rank)

variable [Facts]

def fn {F : FTy → Type} [FloatOps F] (main_arg0 : FVec F S8x512x512 .bf16) (main_arg1 : FVec F S8x512x512 .bf16) (main_arg2 : FVec F S2x1024x512 .f32) (main_arg3 : FVec F S2x1024x512 .f32) (main_arg4 : FVec F S2x1024x512 .f32) : IVec S2x1024x512 1 × IVec S2x1024x512 1 × IVec S2x1024x512 1 × IVec S2x1024x512 1 :=
  let main_v0 : IVec S2x1024x512 32 := iotaInDim S2x1024x512 32 0
  let main_c : IVec S_ 32 := constantI S_ 32 0#32
  let main_v1 : IVec S2x1024x512 32 := broadcastInDim S2x1024x512 ![] bcast_S_S2x1024x512 main_c
  let main_v2 : IVec S2x1024x512 1 := cmpi .eq main_v0 main_v1
  (main_v2, main_v2, main_v2, main_v2)
-- ==== Pre_finite.lean ====
abbrev S4096x4096 : Shape := ⟨2, ![4096, 4096]⟩
abbrev S8x128x128 : Shape := ⟨3, ![8, 128, 128]⟩
abbrev S8x128x1 : Shape := ⟨3, ![8, 128, 1]⟩
abbrev S1x2048 : Shape := ⟨2, ![1, 2048]⟩
abbrev S4096x2048 : Shape := ⟨2, ![4096, 2048]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128x1 : S_.BroadcastsInDim S8x128x1 (![] : Fin 0 → Fin S8x128x1.rank)
  reducesTo_S8x128x1_S_d0_1_2 : S8x128x1.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S1x2048 .f32) (main_arg5 : FVec F S4096x2048 .bf16) (main_v14 : IVec S_ 1) (main_v15 : FVec F S1x2048 .f32) (main_v16 : FVec F S1x2048 .f32) : IVec S_ 1 :=
  let main_v17 : IVec S1x2048 1 := cmpf .olt main_v15 main_v16
  let main_c_5 : IVec S_ 1 := constantI S_ 1 1#1
  let main_v18 : IVec S_ 1 := (fun x v => Host.reduce IntOp.andi x v reducesTo_S1x2048_S_d0_1 h_S_) main_v17 main_c_5
  let main_v19 : IVec S_ 1 := andi main_v14 main_v18
  let main_v20 : FVec F S1x2048 .f32 := Host.absf main_arg4
  let main_cst_6 : FVec F S_ .f32 := constant S_ .f32 0x7F800000#32
  let main_v21 : FVec F S1x2048 .f32 := broadcastInDim S1x2048 ![] bcast_S_S1x2048 main_cst_6
  let main_v22 : IVec S1x2048 1 := cmpf .olt main_v20 main_v21
  let main_c_7 : IVec S_ 1 := constantI S_ 1 1#1
  let main_v23 : IVec S_ 1 := (fun x v => Host.reduce IntOp.andi x v reducesTo_S1x2048_S_d0_1 h_S_) main_v22 main_c_7
  let main_v24 : IVec S_ 1 := andi main_v19 main_v23
  let main_v25 : FVec F S4096x2048 .f32 := (extf .f32 · bitsLt_bf16_f32) main_arg5
  let main_v26 : FVec F S4096x2048 .f32 := Host.absf main_v25
  let main_cst_8 : FVec F S_ .f32 := constant S_ .f32 0x7F800000#32
  let main_v27 : FVec F S4096x2048 .f32 := broadcastInDim S4096x2048 ![] bcast_S_S4096x2048 main_cst_8
  let main_v28 : IVec S4096x2048 1 := cmpf .olt main_v26 main_v27
  let main_c_9 : IVec S_ 1 := constantI S_ 1 1#1
  let main_v29 : IVec S_ 1 := (fun x v => Host.reduce IntOp.andi x v reducesTo_S4096x2048_S_d0_1 h_S_) main_v28 main_c_9
  let main_v30 : IVec S_ 1 := andi main_v24 main_v29
  main_v30

def fn {F : FTy → Type} [FloatOps F] (main_arg0 : FVec F S4096x4096 .bf16) (main_arg1 : FVec F S8x128x128 .f32) (main_arg2 : FVec F S8x128x1 .f32) (main_arg3 : FVec F S1x2048 .f32) (main_arg4 : FVec F S1x2048 .f32) (main_arg5 : FVec F S4096x2048 .bf16) : IVec S_ 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S8x128x128 .f32 := Host.absf main_arg1
  let main_cst_0 : FVec F S_ .f32 := constant S_ .f32 0x7F800000#32
  let main_v6 : FVec F S8x128x128 .f32 := broadcastInDim S8x128x128 ![] bcast_S_S8x128x128 main_cst_0
  let main_v7 : IVec S8x128x128 1 := cmpf .olt main_v5 main_v6
  let main_c_1 : IVec S_ 1 := constantI S_ 1 1#1
  let main_v8 : IVec S_ 1 := (fun x v => Host.reduce IntOp.andi x v reducesTo_S8x128x128_S_d0_1_2 h_S_) main_v7 main_c_1
  let main_v9 : IVec S_ 1 := andi main_v4 main_v8
  let main_v10 : FVec F S8x128x1 .f32 := Host.absf main_arg2
  let main_cst_2 : FVec F S_ .f32 := constant S_ .f32 0x7F800000#32
  let main_v11 : FVec F S8x128x1 .f32 := broadcastInDim S8x128x1 ![] bcast_S_S8x128x1 main_cst_2
  let main_v12 : IVec S8x128x1 1 := cmpf .olt main_v10 main_v11
  let main_c_3 : IVec S_ 1 := constantI S_ 1 1#1
  let main_v13 : IVec S_ 1 := (fun x v => Host.reduce IntOp.andi x v reducesTo_S8x128x1_S_d0_1_2 h_S_) main_v12 main_c_3
  let main_v14 : IVec S_ 1 := andi main_v9 main_v13
  let main_v15 : FVec F S1x2048 .f32 := Host.absf main_arg3
  let main_cst_4 : FVec F S_ .f32 := constant S_ .f32 0x7F800000#32
  let main_v16 : FVec F S1x2048 .f32 := broadcastInDim S1x2048 ![] bcast_S_S1x2048 main_cst_4
  fn_part1 (F := F) main_arg4 main_arg5 main_v14 main_v15 main_v16
-- ==== Kernel.lean ====
abbrev S4096x4096 : Shape := ⟨2, ![4096, 4096]⟩
abbrev S8x128x128 : Shape := ⟨3, ![8, 128, 128]⟩
abbrev S8x128x1 : Shape := ⟨3, ![8, 128, 1]⟩
abbrev S1x2048 : Shape := ⟨2, ![1, 2048]⟩
abbrev S4096x2048 : Shape := ⟨2, ![4096, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1792 : Shape := ⟨2, ![128, 1792]⟩
abbrev S7x128x1 : Shape := ⟨3, ![7, 128, 1]⟩
abbrev S256x128 : Shape := ⟨2, ![256, 128]⟩
abbrev S7x128x128 : Shape := ⟨3, ![7, 128, 128]⟩
abbrev S128x1536 : Shape := ⟨2, ![128, 1536]⟩
abbrev S6x128x1 : Shape := ⟨3, ![6, 128, 1]⟩
abbrev S6x128x128 : Shape := ⟨3, ![6, 128, 128]⟩
abbrev S128x1280 : Shape := ⟨2, ![128, 1280]⟩
abbrev S128x512 : Shape := ⟨2, ![128, 512]⟩
abbrev S5x128x1 : Shape := ⟨3, ![5, 128, 1]⟩
abbrev S2x128x1 : Shape := ⟨3, ![2, 128, 1]⟩
abbrev S5x128x128 : Shape := ⟨3, ![5, 128, 128]⟩
abbrev S2x128x128 : Shape := ⟨3, ![2, 128, 128]⟩
abbrev S128x1024 : Shape := ⟨2, ![128, 1024]⟩
abbrev S128x768 : Shape := ⟨2, ![128, 768]⟩
abbrev S4x128x1 : Shape := ⟨3, ![4, 128, 1]⟩
abbrev S3x128x1 : Shape := ⟨3, ![3, 128, 1]⟩
abbrev S4x128x128 : Shape := ⟨3, ![4, 128, 128]⟩
abbrev S3x128x128 : Shape := ⟨3, ![3, 128, 128]⟩
abbrev S2048 : Shape := ⟨1, ![2048]⟩

abbrev nBuf : Space → Nat
  | .hbm => 11
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S8x128x128, .f32⟩
  | .hbm, ⟨2, _⟩ => ⟨S8x128x1, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S4096x4096, .bf16⟩
  | .hbm, ⟨7, _⟩ => ⟨S8x128x128, .f32⟩
  | .hbm, ⟨8, _⟩ => ⟨S8x128x1, .f32⟩
  | .hbm, ⟨9, _⟩ => ⟨S1x2048, .f32⟩
  | .hbm, ⟨10, _⟩ => ⟨S1x2048, .f32⟩
  | .local _ .vmem, ⟨0, _⟩ => ⟨S128x4096, .bf16⟩
  | .local _ .vmem, ⟨1, _⟩ => ⟨S128x4096, .bf16⟩
  | .local _ .vmem, ⟨2, _⟩ => ⟨S8x128x128, .f32⟩
  | .local _ .vmem, ⟨3, _⟩ => ⟨S8x128x1, .f32⟩
  | .local _ .vmem, ⟨4, _⟩ => ⟨S1x2048, .f32⟩
  | .local _ .vmem, ⟨5, _⟩ => ⟨S1x2048, .f32⟩
  | .local _ .vmem, ⟨6, _⟩ => ⟨S128x2048, .bf16⟩
  | .local _ .vmem, ⟨7, _⟩ => ⟨S128x2048, .bf16⟩
  | .local _ .vmem, ⟨8, _⟩ => ⟨S128x4096, .bf16⟩
  | .local _ .vmem, ⟨9, _⟩ => ⟨S128x4096, .bf16⟩
  | .local _ .vmem, ⟨10, _⟩ => ⟨S8x128x128, .f32⟩
  | .local _ .vmem, ⟨11, _⟩ => ⟨S8x128x1, .f32⟩
  | .local _ .vmem, ⟨12, _⟩ => ⟨S1x2048, .f32⟩
  | .local _ .vmem, ⟨13, _⟩ => ⟨S1x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((9465531 / 16777216) * (Real.sqrt 2)⁻¹ : ℝ) : EReal)
  | _ => none
-- ==== ReferenceIdeal.lean ====
abbrev S4096x4096 : Shape := ⟨2, ![4096, 4096]⟩
abbrev S8x128x128 : Shape := ⟨3, ![8, 128, 128]⟩
abbrev S8x128x1 : Shape := ⟨3, ![8, 128, 1]⟩
abbrev S1x2048 : Shape := ⟨2, ![1, 2048]⟩
abbrev S4096x2048 : Shape := ⟨2, ![4096, 2048]⟩
abbrev S1x4096x4096 : Shape := ⟨3, ![1, 4096, 4096]⟩
abbrev S1x4096x2048 : Shape := ⟨3, ![1, 4096, 2048]⟩
abbrev S2048 : Shape := ⟨1, ![2048]⟩
abbrev S8x128 : Shape := ⟨2, ![8, 128]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x32x128x8x256 : Shape := ⟨5, ![1, 32, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x32x256x128 : Shape := ⟨5, ![8, 1, 32, 256, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩

abbrev nBuf : Space → Nat
  | .hbm => 187
  | .vmem => 0
  | .smem => 0
  | _ => 0

abbrev hbmTy0_0 (i : Nat) : BufTy := match i % 128 with
  | 0 => ⟨S4096x4096, .bf16⟩
  | 1 => ⟨S8x128x128, .f32⟩
  | 2 => ⟨S8x128x1, .f32⟩
  | 3 => ⟨S1x2048, .f32⟩
  | 4 => ⟨S1x2048, .f32⟩
  | 5 => ⟨S4096x2048, .bf16⟩
  | 6 => ⟨S4096x4096, .f32⟩
  | 7 => ⟨S1x4096x4096, .f32⟩
  | 8 => ⟨S4096x2048, .f32⟩
  | 9 => ⟨S1x4096x2048, .f32⟩
  | 10 => ⟨S2048, .f32⟩
  | 11 => ⟨S2048, .f32⟩
  | 12 => ⟨S8x128, .f32⟩
  | 13 => ⟨S_, .f32⟩
  | 14 => ⟨S_, .f32⟩
  | 15 => ⟨S_, .f32⟩
  | 16 => ⟨S1x4096x4096, .f32⟩
  | 17 => ⟨S1x4096x4096, .f32⟩
  | 18 => ⟨S1x4096x4096, .f32⟩
  | 19 => ⟨S1x4096x4096, .f32⟩
  | 20 => ⟨S1x4096x4096, .f32⟩
  | 21 => ⟨S1x4096x4096, .f32⟩
  | 22 => ⟨S1x4096x4096, .f32⟩
  | 23 => ⟨S1x4096x4096, .f32⟩
  | 24 => ⟨S1x4096x4096, .f32⟩
  | 25 => ⟨S1x4096x4096, .f32⟩
  | 26 => ⟨S1x4096x2048, .f32⟩
  | 27 => ⟨S1x4096x2048, .f32⟩
  | 28 => ⟨S_, .f32⟩
  | 29 => ⟨S1x4096, .f32⟩
  | 30 => ⟨S1x4096x1, .f32⟩
  | 31 => ⟨S_, .f32⟩
  | 32 => ⟨S1x4096x1, .f32⟩
  | 33 => ⟨S1x4096x1, .f32⟩
  | 34 => ⟨S1x4096x2048, .f32⟩
  | 35 => ⟨S1x4096x2048, .f32⟩
  | 36 => ⟨S1x4096x2048, .f32⟩
  | 37 => ⟨S_, .f32⟩
  | 38 => ⟨S1x4096x2048, .f32⟩
  | 39 => ⟨S1x4096x2048, .f32⟩
  | 40 => ⟨S_, .f32⟩
  | 41 => ⟨S1x4096, .f32⟩
  | 42 => ⟨S1x4096x1, .f32⟩
  | 43 => ⟨S_, .f32⟩
  | 44 => ⟨S1x4096x1, .f32⟩
  | 45 => ⟨S1x4096x1, .f32⟩
  | 46 => ⟨S1x4096x2048, .f32⟩
  | 47 => ⟨S1x4096x2048, .f32⟩
  | 48 => ⟨S_, .f32⟩
  | 49 => ⟨S1x4096x1, .f32⟩
  | 50 => ⟨S1x4096x1, .f32⟩
  | 51 => ⟨S1x4096x1, .f32⟩
  | 52 => ⟨S1x4096x1, .f32⟩
  | 53 => ⟨S_, .f32⟩
  | 54 => ⟨S1x4096x1, .f32⟩
  | 55 => ⟨S1x4096x1, .f32⟩
  | 56 => ⟨S1x4096x2048, .f32⟩
  | 57 => ⟨S1x4096x2048, .f32⟩
  | 58 => ⟨S1x1x2048, .f32⟩
  | 59 => ⟨S1x4096x2048, .f32⟩
  | 60 => ⟨S1x4096x2048, .f32⟩
  | 61 => ⟨S1x1x2048, .f32⟩
  | 62 => ⟨S1x4096x2048, .f32⟩
  | 63 => ⟨S1x4096x2048, .f32⟩
  | 64 => ⟨S1x32x128x8x256, .f32⟩
  | 65 => ⟨S128, .i32⟩
  | 66 => ⟨S_, .i32⟩
  | 67 => ⟨S_, .i32⟩
  | 68 => ⟨S128, .i32⟩
  | 69 => ⟨S128, .i32⟩
  | 70 => ⟨S128, .i32⟩
  | 71 => ⟨S_, .i32⟩
  | 72 => ⟨S128, .i32⟩
  | 73 => ⟨S128, .i1⟩
  | 74 => ⟨S128, .i32⟩
  | 75 => ⟨S128, .i32⟩
  | 76 => ⟨S_, .i32⟩
  | 77 => ⟨S128, .i32⟩
  | 78 => ⟨S128, .i1⟩
  | 79 => ⟨S128, .i1⟩
  | 80 => ⟨S_, .i32⟩
  | 81 => ⟨S128, .i32⟩
  | 82 => ⟨S128, .i32⟩
  | 83 => ⟨S128, .i32⟩
  | 84 => ⟨S128x1, .i32⟩
  | 85 => ⟨S1x128, .i32⟩
  | 86 => ⟨S128x128, .i32⟩
  | 87 => ⟨S128x128, .i32⟩
  | 88 => ⟨S128x128, .i1⟩
  | 89 => ⟨S1x128x128, .i1⟩
  | 90 => ⟨S_, .i32⟩
  | 91 => ⟨S_, .f32⟩
  | 92 => ⟨S8x128x128, .i1⟩
  | 93 => ⟨S8x128x128, .f32⟩
  | 94 => ⟨S8x128x128, .f32⟩
  | 95 => ⟨S_, .f32⟩
  | 96 => ⟨S8x128x128, .f32⟩
  | 97 => ⟨S8x1x32x256x128, .f32⟩
  | 98 => ⟨S1x32x128x8x256, .f32⟩
  | 99 => ⟨S128x8, .f32⟩
  | 100 => ⟨S1x1x128x8x1, .f32⟩
  | 101 => ⟨S1x32x128x8x256, .f32⟩
  | 102 => ⟨S1x32x128x8x256, .f32⟩
  | 103 => ⟨S1x4096x2048, .f32⟩
  | 104 => ⟨S1x4096x2048, .f32⟩
  | 105 => ⟨S1x4096x2048, .f32⟩
  | 106 => ⟨S1x4096x2048, .f32⟩
  | 107 => ⟨S1x32x128x8x256, .f32⟩
  | 108 => ⟨S_, .f32⟩
  | 109 => ⟨S1x128x8, .f32⟩
  | 110 => ⟨S1x1x128x8x1, .f32⟩
  | 111 => ⟨S_, .f32⟩
  | 112 => ⟨S128x8, .f32⟩
  | 113 => ⟨S8x128, .f32⟩
  | 114 => ⟨S8x1x32x256x128, .f32⟩
  | 115 => ⟨S8x128x128, .f32⟩
  | 116 => ⟨S8x1x32x256x128, .f32⟩
  | 117 => ⟨S1x32x128x8x256, .f32⟩
  | 118 => ⟨S_, .f32⟩
  | 119 => ⟨S8x128x128, .f32⟩
  | 120 => ⟨S8x128x128, .f32⟩
  | 121 => ⟨S1x4096x2048, .f32⟩
  | 122 => ⟨S_, .f32⟩
  | 123 => ⟨S1x2048, .f32⟩
  | 124 => ⟨S1x1x2048, .f32⟩
  | 125 => ⟨S_, .f32⟩
  | 126 => ⟨S2048, .f32⟩
  | 127 => ⟨S1x4096x2048, .f32⟩
  | _ => ⟨S4096x4096, .bf16⟩

abbrev hbmTy0_1 (i : Nat) : BufTy := match i % 128 with
  | 0 => ⟨S_, .f32⟩
  | 1 => ⟨S1x2048, .f32⟩
  | 2 => ⟨S1x1x2048, .f32⟩
  | 3 => ⟨S1x4096x2048, .f32⟩
  | 4 => ⟨S1x4096x2048, .f32⟩
  | 5 => ⟨S_, .f32⟩
  | 6 => ⟨S2048, .f32⟩
  | 7 => ⟨S1x4096x2048, .f32⟩
  | 8 => ⟨S_, .f32⟩
  | 9 => ⟨S1x4096, .f32⟩
  | 10 => ⟨S1x4096x1, .f32⟩
  | 11 => ⟨S1x4096x2048, .f32⟩
  | 12 => ⟨S1x4096x2048, .f32⟩
  | 13 => ⟨S1x4096x1, .f32⟩
  | 14 => ⟨S1x4096x2048, .f32⟩
  | 15 => ⟨S_, .f32⟩
  | 16 => ⟨S1x4096, .f32⟩
  | 17 => ⟨S1x4096x1, .f32⟩
  | 18 => ⟨S_, .f32⟩
  | 19 => ⟨S1x4096x1, .f32⟩
  | 20 => ⟨S1x4096x1, .f32⟩
  | 21 => ⟨S_, .f32⟩
  | 22 => ⟨S4096, .f32⟩
  | 23 => ⟨S1x4096, .f32⟩
  | 24 => ⟨S1x4096x2048, .f32⟩
  | 25 => ⟨S1x4096x2048, .f32⟩
  | 26 => ⟨S1x4096x2048, .f32⟩
  | 27 => ⟨S_, .f32⟩
  | 28 => ⟨S1x4096, .f32⟩
  | 29 => ⟨S1x4096x1, .f32⟩
  | 30 => ⟨S1x4096x2048, .f32⟩
  | 31 => ⟨S1x4096x1, .f32⟩
  | 32 => ⟨S_, .f32⟩
  | 33 => ⟨S1x4096x1, .f32⟩
  | 34 => ⟨S1x4096x1, .f32⟩
  | 35 => ⟨S_, .f32⟩
  | 36 => ⟨S4096, .f32⟩
  | 37 => ⟨S1x4096, .f32⟩
  | 38 => ⟨S1x4096x2048, .f32⟩
  | 39 => ⟨S1x4096x2048, .f32⟩
  | 40 => ⟨S1x4096x4096, .f32⟩
  | 41 => ⟨S1x4096x4096, .f32⟩
  | 42 => ⟨S1x4096x4096, .f32⟩
  | 43 => ⟨S_, .f32⟩
  | 44 => ⟨S1x4096x4096, .f32⟩
  | 45 => ⟨S1x4096x4096, .f32⟩
  | 46 => ⟨S1x4096x4096, .f32⟩
  | 47 => ⟨S1x4096x4096, .f32⟩
  | 48 => ⟨S1x4096x4096, .f32⟩
  | 49 => ⟨S1x4096x4096, .f32⟩
  | 50 => ⟨S_, .f32⟩
  | 51 => ⟨S1x4096x4096, .f32⟩
  | 52 => ⟨S1x4096x4096, .f32⟩
  | 53 => ⟨S1x4096x4096, .f32⟩
  | 54 => ⟨S4096x4096, .f32⟩
  | 55 => ⟨S4096x4096, .bf16⟩
  | 56 => ⟨S8x128x1, .f32⟩
  | 57 => ⟨S1x2048, .f32⟩
  | 58 => ⟨S1x2048, .f32⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_8 : Ref sig .tc := ⟨.hbm, 90, rfl⟩
abbrev main_call1_v0 : Ref sig .tc := ⟨.hbm, 91, rfl⟩
abbrev main_v58_1 : Ref sig .tc := ⟨.hbm, 92, rfl⟩
abbrev main_call1_v2 : Ref sig .tc := ⟨.hbm, 93, rfl⟩
abbrev main_v58_0 : Ref sig .tc := ⟨.hbm, 94, rfl⟩
abbrev main_call1_cst : Ref sig .tc := ⟨.hbm, 95, rfl⟩
abbrev main_v58_2 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_9 : Ref sig .tc := ⟨.hbm, 108, rfl⟩
abbrev main_v70 : Ref sig .tc := ⟨.hbm, 109, rfl⟩
abbrev main_v71 : Ref sig .tc := ⟨.hbm, 110, rfl⟩
abbrev main_cst_10 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call2_cst : Ref sig .tc := ⟨.hbm, 118, rfl⟩
abbrev main_call2_v0 : Ref sig .tc := ⟨.hbm, 119, rfl⟩
abbrev main_v78 : Ref sig .tc := ⟨.hbm, 120, rfl⟩
abbrev main_v79 : Ref sig .tc := ⟨.hbm, 121, rfl⟩
abbrev main_cst_11 : Ref sig .tc := ⟨.hbm, 122, rfl⟩
abbrev main_v80 : Ref sig .tc := ⟨.hbm, 123, rfl⟩
abbrev main_v81 : Ref sig .tc := ⟨.hbm, 124, rfl⟩
abbrev main_cst_12 : Ref sig .tc := ⟨.hbm, 125, rfl⟩
abbrev main_v82 : Ref sig .tc := ⟨.hbm, 126, rfl⟩
abbrev main_v83 : Ref sig .tc := ⟨.hbm, 127, rfl⟩
abbrev main_cst_13 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_14 : Ref sig .tc := ⟨.hbm, 133, rfl⟩
abbrev main_v88 : Ref sig .tc := ⟨.hbm, 134, rfl⟩
abbrev main_v89 : Ref sig .tc := ⟨.hbm, 135, rfl⟩
abbrev main_cst_15 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_16 : Ref sig .tc := ⟨.hbm, 143, rfl⟩
abbrev main_v96 : Ref sig .tc := ⟨.hbm, 144, rfl⟩
abbrev main_v97 : Ref sig .tc := ⟨.hbm, 145, rfl⟩
abbrev main_cst_17 : Ref sig .tc := ⟨.hbm, 146, rfl⟩
abbrev main_v98 : Ref sig .tc := ⟨.hbm, 147, rfl⟩
abbrev main_v99 : Ref sig .tc := ⟨.hbm, 148, rfl⟩
abbrev main_cst_18 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_19 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_20 : Ref sig .tc := ⟨.hbm, 160, rfl⟩
abbrev main_v109 : Ref sig .tc := ⟨.hbm, 161, rfl⟩
abbrev main_v110 : Ref sig .tc := ⟨.hbm, 162, rfl⟩
abbrev main_cst_21 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_22 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_23 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S1x1024, .f32⟩
  | .hbm, ⟨82, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x5632 : Shape := ⟨2, ![4096, 5632]⟩
abbrev S8x704x1024 : Shape := ⟨3, ![8, 704, 1024]⟩
abbrev S4096x1024 : Shape := ⟨2, ![4096, 1024]⟩
abbrev S512x5632 : Shape := ⟨2, ![512, 5632]⟩
abbrev S512x1024 : Shape := ⟨2, ![512, 1024]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S8x704x1024, .bf16⟩
  | .hbm, ⟨2, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S8x704x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x5632 : Shape := ⟨2, ![4096, 5632]⟩
abbrev S8x704x1024 : Shape := ⟨3, ![8, 704, 1024]⟩
abbrev S5632x1024 : Shape := ⟨2, ![5632, 1024]⟩
abbrev S1024x5632 : Shape := ⟨2, ![1024, 5632]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S8x704x1024, .bf16⟩
  | .hbm, ⟨2, _⟩ => ⟨S5632x1024, .bf16⟩
  | .hbm, ⟨3, _⟩ => ⟨S1024x5632, .bf16⟩
  | .hbm, ⟨4, _⟩ => ⟨S_, .f32⟩
  | .hbm, ⟨5, _⟩ => ⟨S4096x1024, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S4096x1024, .f32⟩
  | .hbm, ⟨10, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x4096 : Shape := ⟨2, ![4096, 4096]⟩
abbrev S8x1024x512 : Shape := ⟨3, ![8, 1024, 512]⟩
abbrev S4096x1024 : Shape := ⟨2, ![4096, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x4096 : Shape := ⟨2, ![4096, 4096]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S_, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S4x1024x512 : Shape := ⟨3, ![4, 1024, 512]⟩
abbrev S512x2048 : Shape := ⟨2, ![512, 2048]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1024x512, .bf16⟩
  | .local _ .vmem, ⟨3, _⟩ => ⟨S4x1024x512, .bf16⟩
  | .local _ .vmem, ⟨4, _⟩ => ⟨S512x2048, .bf16⟩
  | .local _ .vmem, ⟨5, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S4x1024x512 : Shape := ⟨3, ![4, 1024, 512]⟩
abbrev S512x2048 : Shape := ⟨2, ![512, 2048]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S4x1024x512, .bf16⟩
  | .local _ .vmem, ⟨3, _⟩ => ⟨S4x1024x512, .bf16⟩
  | .local _ .vmem, ⟨4, _⟩ => ⟨S512x2048, .f32⟩
  | .local _ .vmem, ⟨5, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S1024x8x512, .bf16⟩
  | .hbm, ⟨3, _⟩ => ⟨S1024x4096, .bf16⟩
  | .hbm, ⟨4, _⟩ => ⟨S4096x1024, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S8x704x1024 : Shape := ⟨3, ![8, 704, 1024]⟩
abbrev S4096x5632 : Shape := ⟨2, ![4096, 5632]⟩
abbrev S512x1024 : Shape := ⟨2, ![512, 1024]⟩
abbrev S4x704x1024 : Shape := ⟨3, ![4, 704, 1024]⟩
abbrev S512x2816 : Shape := ⟨2, ![512, 2816]⟩
abbrev S1x704x1024 : Shape := ⟨3, ![1, 704, 1024]⟩
abbrev S704x1024 : Shape := ⟨2, ![704, 1024]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x704x1024, .bf16⟩
  | .hbm, ⟨2, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S4x704x1024, .bf16⟩
  | .local _ .vmem, ⟨3, _⟩ => ⟨S4x704x1024, .bf16⟩
  | .local _ .vmem, ⟨4, _⟩ => ⟨S512x2816, .bf16⟩
  | .local _ .vmem, ⟨5, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S8x704x1024 : Shape := ⟨3, ![8, 704, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x704x1024, .bf16⟩
  | .hbm, ⟨2, _⟩ => ⟨S5632x1024, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference18Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel19.lean ====
abbrev S8x1024 : Shape := ⟨2, ![8, 1024]⟩
abbrev S4x8x768 : Shape := ⟨3, ![4, 8, 768]⟩
abbrev S8x4x1x6144 : Shape := ⟨4, ![8, 4, 1, 6144]⟩
abbrev S4x1024x768 : Shape := ⟨3, ![4, 1024, 768]⟩
abbrev S4x1x6144 : Shape := ⟨3, ![4, 1, 6144]⟩
abbrev S1x8x768 : Shape := ⟨3, ![1, 8, 768]⟩
abbrev S8x1x1x6144 : Shape := ⟨4, ![8, 1, 1, 6144]⟩
abbrev S1x1024x768 : Shape := ⟨3, ![1, 1024, 768]⟩
abbrev S1x1x6144 : Shape := ⟨3, ![1, 1, 6144]⟩
abbrev S8x768 : Shape := ⟨2, ![8, 768]⟩
abbrev S1024x768 : Shape := ⟨2, ![1024, 768]⟩
abbrev S1x1x1x6144 : Shape := ⟨4, ![1, 1, 1, 6144]⟩
abbrev S1x6144 : Shape := ⟨2, ![1, 6144]⟩

abbrev nBuf : Space → Nat
  | .hbm => 5
  | .vmem => 9
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S8x4x1x6144, .f32⟩
  | .hbm, ⟨3, _⟩ => ⟨S4x1024x768, .f32⟩
  | .hbm, ⟨4, _⟩ => ⟨S4x1x6144, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S8x1x1x6144, .f32⟩
  | .local _ .vmem, ⟨4, _⟩ => ⟨S8x1x1x6144, .f32⟩
  | .local _ .vmem, ⟨5, _⟩ => ⟨S1x1024x768, .f32⟩
  | .local _ .vmem, ⟨6, _⟩ => ⟨S1x1024x768, .f32⟩
  | .local _ .vmem, ⟨7, _⟩ => ⟨S1x1x6144, .f32⟩
  | .local _ .vmem, ⟨8, _⟩ => ⟨S1x1x6144, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S8x1024 : Shape := ⟨2, ![8, 1024]⟩
abbrev S4x8x768 : Shape := ⟨3, ![4, 8, 768]⟩
abbrev S8x4x1x6144 : Shape := ⟨4, ![8, 4, 1, 6144]⟩
abbrev S_ : Shape := ⟨0, ![]⟩
abbrev S4x1024x768 : Shape := ⟨3, ![4, 1024, 768]⟩
abbrev S4x768 : Shape := ⟨2, ![4, 768]⟩
abbrev S4x768x8 : Shape := ⟨3, ![4, 768, 8]⟩
abbrev S4x1x768 : Shape := ⟨3, ![4, 1, 768]⟩
abbrev S4x6144 : Shape := ⟨2, ![4, 6144]⟩
abbrev S4x8x6144 : Shape := ⟨3, ![4, 8, 6144]⟩
abbrev S4x1x6144 : Shape := ⟨3, ![4, 1, 6144]⟩
abbrev S4x768x1024 : Shape := ⟨3, ![4, 768, 1024]⟩
abbrev S8x4x6144 : Shape := ⟨3, ![8, 4, 6144]⟩

abbrev nBuf : Space → Nat
  | .hbm => 39
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S8x4x1x6144, .f32⟩
  | .hbm, ⟨3, _⟩ => ⟨S_, .f32⟩
  | .hbm, ⟨4, _⟩ => ⟨S4x1024x768, .f32⟩
  | .hbm, ⟨5, _⟩ => ⟨S_, .f32⟩
  | .hbm, ⟨6, _⟩ => ⟨S4x768, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S4x768x8, .f32⟩
  | .hbm, ⟨17, _⟩ => ⟨S4x8x768, .f32⟩
  | .hbm, ⟨18, _⟩ => ⟨S4x1x768, .f32⟩
  | .hbm, ⟨19, _⟩ => ⟨S4x8x768, .f32⟩
  | .hbm, ⟨20, _⟩ => ⟨S4x8x768, .f32⟩
  | .hbm, ⟨21, _⟩ => ⟨S_, .f32⟩
  | .hbm, ⟨22, _⟩ => ⟨S4x6144, .f32⟩
  | .hbm, ⟨23, _⟩ => ⟨S_, .f32⟩
  | .hbm, ⟨24, _⟩ => ⟨S4x8x6144, .f32⟩
  | .hbm, ⟨25, _⟩ => ⟨S4x1x6144, .f32⟩
  | .hbm, ⟨26, _⟩ => ⟨S4x8x6144, .f32⟩
  | .hbm, ⟨27, _⟩ => ⟨S4x8x6144, .f32⟩
  | .hbm, ⟨28, _⟩ => ⟨S4x768x8, .f32⟩
  | .hbm, ⟨29, _⟩ => ⟨S4x768x1024, .f32⟩
  | .hbm, ⟨30, _⟩ => ⟨S4x1024x768, .f32⟩
  | .hbm, ⟨31, _⟩ => ⟨S8x4x6144, .f32⟩
  | .hbm, ⟨32, _⟩ => ⟨S4x8x6144, .f32⟩
  | .hbm, ⟨33, _⟩ => ⟨S_, .f32⟩
  | .hbm, ⟨34, _⟩ => ⟨S4x6144, .f32⟩
  | .hbm, ⟨35, _⟩ => ⟨S4x1x6144, .f32⟩
  | .hbm, ⟨36, _⟩ => ⟨S_, .f32⟩
  | .hbm, ⟨37, _⟩ => ⟨S4x6144, .f32⟩
  | .hbm, ⟨38, _⟩ => ⟨S4x1x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel17.lean ====
abbrev S2x2048 : Shape := ⟨2, ![2, 2048]⟩
abbrev S2x8x128x128 : Shape := ⟨4, ![2, 8, 128, 128]⟩
abbrev S2x8x128 : Shape := ⟨3, ![2, 8, 128]⟩
abbrev S4x5632 : Shape := ⟨2, ![4, 5632]⟩
abbrev S4x6144 : Shape := ⟨2, ![4, 6144]⟩
abbrev S1024 : Shape := ⟨1, ![1024]⟩
abbrev S2x128 : Shape := ⟨2, ![2, 128]⟩
abbrev S4x2x128 : Shape := ⟨3, ![4, 2, 128]⟩
abbrev S4x3x704 : Shape := ⟨3, ![4, 3, 704]⟩
abbrev S4096 : Shape := ⟨1, ![4096]⟩
abbrev S262144 : Shape := ⟨1, ![262144]⟩
abbrev S2048 : Shape := ⟨1, ![2048]⟩
abbrev S22528 : Shape := ⟨1, ![22528]⟩
abbrev S24576 : Shape := ⟨1, ![24576]⟩
abbrev S256 : Shape := ⟨1, ![256]⟩
abbrev S8448 : Shape := ⟨1, ![8448]⟩
abbrev S330496 : Shape := ⟨1, ![330496]⟩
abbrev S_ : Shape := ⟨0, ![]⟩
abbrev S330752 : Shape := ⟨1, ![330752]⟩
abbrev S2584x128 : Shape := ⟨2, ![2584, 128]⟩
abbrev S152x128 : Shape := ⟨2, ![152, 128]⟩

abbrev nBuf : Space → Nat
  | .hbm => 107
  | .vmem => 14
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x8x128x128, .f32⟩
  | .hbm, ⟨3, _⟩ => ⟨S2x8x128, .f32⟩
  | .hbm, ⟨4, _⟩ => ⟨S4x5632, .f32⟩
  | .hbm, ⟨5, _⟩ => ⟨S4x6144, .f32⟩
  | .hbm, ⟨6, _⟩ => ⟨S1024, .f32⟩
  | .hbm, ⟨7, _⟩ => ⟨S2x128, .f32⟩
  | .hbm, ⟨8, _⟩ => ⟨S2x128, .f32⟩
  | .hbm, ⟨9, _⟩ => ⟨S4x2x128, .f32⟩
  | .hbm, ⟨10, _⟩ => ⟨S4x3x704, .f32⟩
  | .hbm, ⟨11, _⟩ => ⟨S2x2048, .f32⟩
  | .hbm, ⟨12, _⟩ => ⟨S2x2048, .f32⟩
  | .hbm, ⟨13, _⟩ => ⟨S2x8x128x128, .f32⟩
  | .hbm, ⟨14, _⟩ => ⟨S2x8x128, .f32⟩
  | .hbm, ⟨15, _⟩ => ⟨S4x5632, .f32⟩
  | .hbm, ⟨16, _⟩ => ⟨S4x6144, .f32⟩
  | .hbm, ⟨17, _⟩ => ⟨S1024, .f32⟩
  | .hbm, ⟨18, _⟩ => ⟨S2x128, .f32⟩
  | .hbm, ⟨19, _⟩ => ⟨S2x128, .f32⟩
  | .hbm, ⟨20, _⟩ => ⟨S4x2x128, .f32⟩
  | .hbm, ⟨21, _⟩ => ⟨S4x3x704, .f32⟩
  | .hbm, ⟨22, _⟩ => ⟨S2x2048, .f32⟩
  | .hbm, ⟨23, _⟩ => ⟨S2x2048, .f32⟩
  | .hbm, ⟨24, _⟩ => ⟨S2x8x128x128, .f32⟩
  | .hbm, ⟨25, _⟩ => ⟨S2x8x128, .f32⟩
  | .hbm, ⟨26, _⟩ => ⟨S4x5632, .f32⟩
  | .hbm, ⟨27, _⟩ => ⟨S4x6144, .f32⟩
  | .hbm, ⟨28, _⟩ => ⟨S1024, .f32⟩
  | .hbm, ⟨29, _⟩ => ⟨S2x128, .f32⟩
  | .hbm, ⟨30, _⟩ => ⟨S2x128, .f32⟩
  | .hbm, ⟨31, _⟩ => ⟨S4x2x128, .f32⟩
  | .hbm, ⟨32, _⟩ => ⟨S4x3x704, .f32⟩
  | .hbm, ⟨33, _⟩ => ⟨S2x2048, .f32⟩
  | .hbm, ⟨34, _⟩ => ⟨S2x2048, .f32⟩
  | .hbm, ⟨35, _⟩ => ⟨S2x8x128x128, .f32⟩
  | .hbm, ⟨36, _⟩ => ⟨S2x8x128, .f32⟩
  | .hbm, ⟨37, _⟩ => ⟨S4x5632, .f32⟩
  | .hbm, ⟨38, _⟩ => ⟨S4x6144, .f32⟩
  | .hbm, ⟨39, _⟩ => ⟨S1024, .f32⟩
  | .hbm, ⟨40, _⟩ => ⟨S2x128, .f32⟩
  | .hbm, ⟨41, _⟩ => ⟨S2x128, .f32⟩
  | .hbm, ⟨42, _⟩ => ⟨S4x2x128, .f32⟩
  | .hbm, ⟨43, _⟩ => ⟨S4x3x704, .f32⟩
  | .hbm, ⟨44, _⟩ => ⟨S4096, .f32⟩
  | .hbm, ⟨45, _⟩ => ⟨S4096, .f32⟩
  | .hbm, ⟨46, _⟩ => ⟨S262144, .f32⟩
  | .hbm, ⟨47, _⟩ => ⟨S2048, .f32⟩
  | .hbm, ⟨48, _⟩ => ⟨S22528, .f32⟩
  | .hbm, ⟨49, _⟩ => ⟨S24576, .f32⟩
  | .hbm, ⟨50, _⟩ => ⟨S256, .f32⟩
  | .hbm, ⟨51, _⟩ => ⟨S256, .f32⟩
  | .hbm, ⟨52, _⟩ => ⟨S1024, .f32⟩
  | .hbm, ⟨53, _⟩ => ⟨S8448, .f32⟩
  | .hbm, ⟨54, _⟩ => ⟨S330496, .f32⟩
  | .hbm, ⟨55, _⟩ => ⟨S_, .i32⟩
  | .hbm, ⟨56, _⟩ => ⟨S_, .f32⟩
  | .hbm, ⟨57, _⟩ => ⟨S330752, .f32⟩
  | .hbm, ⟨58, _⟩ => ⟨S2584x128, .f32⟩
  | .hbm, ⟨59, _⟩ => ⟨S4096, .f32⟩
  | .hbm, ⟨60, _⟩ => ⟨S4096, .f32⟩
  | .hbm, ⟨61, _⟩ => ⟨S262144, .f32⟩
  | .hbm, ⟨62, _⟩ => ⟨S2048, .f32⟩
  | .hbm, ⟨63, _⟩ => ⟨S22528, .f32⟩
  | .hbm, ⟨64, _⟩ => ⟨S24576, .f32⟩
  | .hbm, ⟨65, _⟩ => ⟨S256, .f32⟩
  | .hbm, ⟨66, _⟩ => ⟨S256, .f32⟩
  | .hbm, ⟨67, _⟩ => ⟨S1024, .f32⟩
  | .hbm, ⟨68, _⟩ => ⟨S8448, .f32⟩
  | .hbm, ⟨69, _⟩ => ⟨S330496, .f32⟩
  | .hbm, ⟨70, _⟩ => ⟨S_, .i32⟩
  | .hbm, ⟨71, _⟩ => ⟨S_, .f32⟩
  | .hbm, ⟨72, _⟩ => ⟨S330752, .f32⟩
  | .hbm, ⟨73, _⟩ => ⟨S2584x128, .f32⟩
  | .hbm, ⟨74, _⟩ => ⟨S4096, .f32⟩
  | .hbm, ⟨75, _⟩ => ⟨S4096, .f32⟩
  | .hbm, ⟨76, _⟩ => ⟨S262144, .f32⟩
  | .hbm, ⟨77, _⟩ => ⟨S2048, .f32⟩
  | .hbm, ⟨78, _⟩ => ⟨S22528, .f32⟩
  | .hbm, ⟨79, _⟩ => ⟨S24576, .f32⟩
  | .hbm, ⟨80, _⟩ => ⟨S256, .f32⟩
  | .hbm, ⟨81, _⟩ => ⟨S256, .f32⟩
  | .hbm, ⟨82, _⟩ => ⟨S1024, .f32⟩
  | .hbm, ⟨83, _⟩ => ⟨S8448, .f32⟩
  | .hbm, ⟨84, _⟩ => ⟨S330496, .f32⟩
  | .hbm, ⟨85, _⟩ => ⟨S_, .i32⟩
  | .hbm, ⟨86, _⟩ => ⟨S_, .f32⟩
  | .hbm, ⟨87, _⟩ => ⟨S330752, .f32⟩
  | .hbm, ⟨88, _⟩ => ⟨S2584x128, .f32⟩
  | .hbm, ⟨89, _⟩ => ⟨S4096, .f32⟩
  | .hbm, ⟨90, _⟩ => ⟨S4096, .f32⟩
  | .hbm, ⟨91, _⟩ => ⟨S262144, .f32⟩
  | .hbm, ⟨92, _⟩ => ⟨S2048, .f32⟩
  | .hbm, ⟨93, _⟩ => ⟨S22528, .f32⟩
  | .hbm, ⟨94, _⟩ => ⟨S24576, .f32⟩
  | .hbm, ⟨95, _⟩ => ⟨S256, .f32⟩
  | .hbm, ⟨96, _⟩ => ⟨S256, .f32⟩
  | .hbm, ⟨97, _⟩ => ⟨S1024, .f32⟩
  | .hbm, ⟨98, _⟩ => ⟨S8448, .f32⟩
  | .hbm, ⟨99, _⟩ => ⟨S330496, .f32⟩
  | .hbm, ⟨100, _⟩ => ⟨S_, .i32⟩
  | .hbm, ⟨101, _⟩ => ⟨S_, .f32⟩
  | .hbm, ⟨102, _⟩ => ⟨S330752, .f32⟩
  | .hbm, ⟨103, _⟩ => ⟨S2584x128, .f32⟩
  | .hbm, ⟨104, _⟩ => ⟨S2584x128, .f32⟩
  | .hbm, ⟨105, _⟩ => ⟨S2584x128, .f32⟩
  | .hbm, ⟨106, _⟩ => ⟨S2584x128, .f32⟩
  | .local _ .vmem, ⟨0, _⟩ => ⟨S152x128, .f32⟩
  | .local _ .vmem, ⟨1, _⟩ => ⟨S152x128, .f32⟩
  | .local _ .vmem, ⟨2, _⟩ => ⟨S152x128, .f32⟩
  | .local _ .vmem, ⟨3, _⟩ => ⟨S152x128, .f32⟩
  | .local _ .vmem, ⟨4, _⟩ => ⟨S152x128, .f32⟩
  | .local _ .vmem, ⟨5, _⟩ => ⟨S152x128, .f32⟩
  | .local _ .vmem, ⟨6, _⟩ => ⟨S152x128, .f32⟩
  | .local _ .vmem, ⟨7, _⟩ => ⟨S152x128, .f32⟩
  | .local _ .vmem, ⟨8, _⟩ => ⟨S152x128, .f32⟩
  | .local _ .vmem, ⟨9, _⟩ => ⟨S152x128, .f32⟩
  | .local _ .vmem, ⟨10, _⟩ => ⟨S152x128, .f32⟩
  | .local _ .vmem, ⟨11, _⟩ => ⟨S152x128, .f32⟩
  | .local _ .vmem, ⟨12, _⟩ => ⟨S152x128, .f32⟩
  | .local _ .vmem, ⟨13, _⟩ => ⟨S152x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_c : Ref sig .tc := ⟨.hbm, 55, rfl⟩
abbrev main_call0_v0 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_0 : Ref sig .tc := ⟨.hbm, 70, rfl⟩
abbrev main_call1_v0 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_1 : Ref sig .tc := ⟨.hbm, 85, rfl⟩
abbrev main_call2_v0 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_2 : Ref sig .tc := ⟨.hbm, 100, rfl⟩
abbrev main_call3_v0 : Ref sig .tc := ⟨.hbm, 101, rfl⟩
abbrev main_v50 : Ref sig .tc := ⟨.hbm, 102, rfl⟩
abbrev main_v51 : Ref sig .tc := ⟨.hbm, 103, rfl⟩
abbrev main_v52_0 : Ref sig .tc := ⟨.hbm, 104, rfl⟩
abbrev main_v52_1 : Ref sig .tc := ⟨.hbm, 105, rfl⟩
abbrev main_v52_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2x2048 : Shape := ⟨2, ![2, 2048]⟩
abbrev S2x8x128x128 : Shape := ⟨4, ![2, 8, 128, 128]⟩
abbrev S2x8x128 : Shape := ⟨3, ![2, 8, 128]⟩
abbrev S4x5632 : Shape := ⟨2, ![4, 5632]⟩
abbrev S4x6144 : Shape := ⟨2, ![4, 6144]⟩
abbrev S1024 : Shape := ⟨1, ![1024]⟩
abbrev S2x128 : Shape := ⟨2, ![2, 128]⟩
abbrev S4x2x128 : Shape := ⟨3, ![4, 2, 128]⟩
abbrev S4x3x704 : Shape := ⟨3, ![4, 3, 704]⟩
abbrev S_ : Shape := ⟨0, ![]⟩
abbrev S4096 : Shape := ⟨1, ![4096]⟩
abbrev S262144 : Shape := ⟨1, ![262144]⟩
abbrev S2048 : Shape := ⟨1, ![2048]⟩
abbrev S22528 : Shape := ⟨1, ![22528]⟩
abbrev S24576 : Shape := ⟨1, ![24576]⟩
abbrev S256 : Shape := ⟨1, ![256]⟩
abbrev S8448 : Shape := ⟨1, ![8448]⟩
abbrev S330496 : Shape := ⟨1, ![330496]⟩
abbrev S330752 : Shape := ⟨1, ![330752]⟩
abbrev S2584x128 : Shape := ⟨2, ![2584, 128]⟩

abbrev nBuf : Space → Nat
  | .hbm => 452
  | .vmem => 0
  | .smem => 0
  | _ => 0

abbrev hbmTy0_0 (i : Nat) : BufTy := match i % 128 with
  | 0 => ⟨S2x2048, .f32⟩
  | 1 => ⟨S2x2048, .f32⟩
  | 2 => ⟨S2x8x128x128, .f32⟩
  | 3 => ⟨S2x8x128, .f32⟩
  | 4 => ⟨S4x5632, .f32⟩
  | 5 => ⟨S4x6144, .f32⟩
  | 6 => ⟨S1024, .f32⟩
  | 7 => ⟨S2x128, .f32⟩
  | 8 => ⟨S2x128, .f32⟩
  | 9 => ⟨S4x2x128, .f32⟩
  | 10 => ⟨S4x3x704, .f32⟩
  | 11 => ⟨S2x2048, .f32⟩
  | 12 => ⟨S2x2048, .f32⟩
  | 13 => ⟨S2x8x128x128, .f32⟩
  | 14 => ⟨S2x8x128, .f32⟩
  | 15 => ⟨S4x5632, .f32⟩
  | 16 => ⟨S4x6144, .f32⟩
  | 17 => ⟨S1024, .f32⟩
  | 18 => ⟨S2x128, .f32⟩
  | 19 => ⟨S2x128, .f32⟩
  | 20 => ⟨S4x2x128, .f32⟩
  | 21 => ⟨S4x3x704, .f32⟩
  | 22 => ⟨S2x2048, .f32⟩
  | 23 => ⟨S2x2048, .f32⟩
  | 24 => ⟨S2x8x128x128, .f32⟩
  | 25 => ⟨S2x8x128, .f32⟩
  | 26 => ⟨S4x5632, .f32⟩
  | 27 => ⟨S4x6144, .f32⟩
  | 28 => ⟨S1024, .f32⟩
  | 29 => ⟨S2x128, .f32⟩
  | 30 => ⟨S2x128, .f32⟩
  | 31 => ⟨S4x2x128, .f32⟩
  | 32 => ⟨S4x3x704, .f32⟩
  | 33 => ⟨S2x2048, .f32⟩
  | 34 => ⟨S2x2048, .f32⟩
  | 35 => ⟨S2x8x128x128, .f32⟩
  | 36 => ⟨S2x8x128, .f32⟩
  | 37 => ⟨S4x5632, .f32⟩
  | 38 => ⟨S4x6144, .f32⟩
  | 39 => ⟨S1024, .f32⟩
  | 40 => ⟨S2x128, .f32⟩
  | 41 => ⟨S2x128, .f32⟩
  | 42 => ⟨S4x2x128, .f32⟩
  | 43 => ⟨S4x3x704, .f32⟩
  | 44 => ⟨S_, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S_, .f32⟩
  | 63 => ⟨S2x2048, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S_, .f32⟩
  | 78 => ⟨S2x2048, .f32⟩
  | 79 => ⟨S2x2048, .f32⟩
  | 80 => ⟨S_, .f32⟩
  | 81 => ⟨S2x2048, .f32⟩
  | 82 => ⟨S2x2048, .f32⟩
  | 83 => ⟨S2x2048, .f32⟩
  | 84 => ⟨S_, .f32⟩
  | 85 => ⟨S2x2048, .f32⟩
  | 86 => ⟨S2x2048, .f32⟩
  | 87 => ⟨S2x2048, .f32⟩
  | 88 => ⟨S_, .f32⟩
  | 89 => ⟨S2x2048, .f32⟩
  | 90 => ⟨S2x2048, .f32⟩
  | 91 => ⟨S2x2048, .f32⟩
  | 92 => ⟨S_, .f32⟩
  | 93 => ⟨S2x2048, .f32⟩
  | 94 => ⟨S2x2048, .f32⟩
  | 95 => ⟨S_, .f32⟩
  | 96 => ⟨S2x2048, .f32⟩
  | 97 => ⟨S2x2048, .f32⟩
  | 98 => ⟨S2x2048, .f32⟩
  | 99 => ⟨S_, .f32⟩
  | 100 => ⟨S2x2048, .f32⟩
  | 101 => ⟨S2x2048, .f32⟩
  | 102 => ⟨S2x2048, .f32⟩
  | 103 => ⟨S_, .f32⟩
  | 104 => ⟨S2x2048, .f32⟩
  | 105 => ⟨S2x2048, .f32⟩
  | 106 => ⟨S2x2048, .f32⟩
  | 107 => ⟨S_, .f32⟩
  | 108 => ⟨S2x2048, .f32⟩
  | 109 => ⟨S2x2048, .f32⟩
  | 110 => ⟨S_, .f32⟩
  | 111 => ⟨S2x8x128x128, .f32⟩
  | 112 => ⟨S2x8x128x128, .f32⟩
  | 113 => ⟨S_, .f32⟩
  | 114 => ⟨S2x8x128x128, .f32⟩
  | 115 => ⟨S2x8x128x128, .f32⟩
  | 116 => ⟨S2x8x128x128, .f32⟩
  | 117 => ⟨S_, .f32⟩
  | 118 => ⟨S2x8x128x128, .f32⟩
  | 119 => ⟨S2x8x128x128, .f32⟩
  | 120 => ⟨S2x8x128x128, .f32⟩
  | 121 => ⟨S_, .f32⟩
  | 122 => ⟨S2x8x128x128, .f32⟩
  | 123 => ⟨S2x8x128x128, .f32⟩
  | 124 => ⟨S2x8x128x128, .f32⟩
  | 125 => ⟨S_, .f32⟩
  | 126 => ⟨S2x8x128x128, .f32⟩
  | 127 => ⟨S2x8x128x128, .f32⟩
  | _ => ⟨S2x2048, .f32⟩

abbrev hbmTy0_1 (i : Nat) : BufTy := match i % 128 with
  | 0 => ⟨S_, .f32⟩
  | 1 => ⟨S2x8x128x128, .f32⟩
  | 2 => ⟨S2x8x128x128, .f32⟩
  | 3 => ⟨S2x8x128x128, .f32⟩
  | 4 => ⟨S_, .f32⟩
  | 5 => ⟨S2x8x128x128, .f32⟩
  | 6 => ⟨S2x8x128x128, .f32⟩
  | 7 => ⟨S2x8x128x128, .f32⟩
  | 8 => ⟨S_, .f32⟩
  | 9 => ⟨S2x8x128x128, .f32⟩
  | 10 => ⟨S2x8x128x128, .f32⟩
  | 11 => ⟨S2x8x128x128, .f32⟩
  | 12 => ⟨S_, .f32⟩
  | 13 => ⟨S2x8x128x128, .f32⟩
  | 14 => ⟨S2x8x128x128, .f32⟩
  | 15 => ⟨S_, .f32⟩
  | 16 => ⟨S2x8x128, .f32⟩
  | 17 => ⟨S2x8x128, .f32⟩
  | 18 => ⟨S_, .f32⟩
  | 19 => ⟨S2x8x128, .f32⟩
  | 20 => ⟨S2x8x128, .f32⟩
  | 21 => ⟨S2x8x128, .f32⟩
  | 22 => ⟨S_, .f32⟩
  | 23 => ⟨S2x8x128, .f32⟩
  | 24 => ⟨S2x8x128, .f32⟩
  | 25 => ⟨S2x8x128, .f32⟩
  | 26 => ⟨S_, .f32⟩
  | 27 => ⟨S2x8x128, .f32⟩
  | 28 => ⟨S2x8x128, .f32⟩
  | 29 => ⟨S2x8x128, .f32⟩
  | 30 => ⟨S_, .f32⟩
  | 31 => ⟨S2x8x128, .f32⟩
  | 32 => ⟨S2x8x128, .f32⟩
  | 33 => ⟨S_, .f32⟩
  | 34 => ⟨S2x8x128, .f32⟩
  | 35 => ⟨S2x8x128, .f32⟩
  | 36 => ⟨S2x8x128, .f32⟩
  | 37 => ⟨S_, .f32⟩
  | 38 => ⟨S2x8x128, .f32⟩
  | 39 => ⟨S2x8x128, .f32⟩
  | 40 => ⟨S2x8x128, .f32⟩
  | 41 => ⟨S_, .f32⟩
  | 42 => ⟨S2x8x128, .f32⟩
  | 43 => ⟨S2x8x128, .f32⟩
  | 44 => ⟨S2x8x128, .f32⟩
  | 45 => ⟨S_, .f32⟩
  | 46 => ⟨S2x8x128, .f32⟩
  | 47 => ⟨S2x8x128, .f32⟩
  | 48 => ⟨S_, .f32⟩
  | 49 => ⟨S4x5632, .f32⟩
  | 50 => ⟨S4x5632, .f32⟩
  | 51 => ⟨S_, .f32⟩
  | 52 => ⟨S4x5632, .f32⟩
  | 53 => ⟨S4x5632, .f32⟩
  | 54 => ⟨S4x5632, .f32⟩
  | 55 => ⟨S_, .f32⟩
  | 56 => ⟨S4x5632, .f32⟩
  | 57 => ⟨S4x5632, .f32⟩
  | 58 => ⟨S4x5632, .f32⟩
  | 59 => ⟨S_, .f32⟩
  | 60 => ⟨S4x5632, .f32⟩
  | 61 => ⟨S4x5632, .f32⟩
  | 62 => ⟨S4x5632, .f32⟩
  | 63 => ⟨S_, .f32⟩
  | 64 => ⟨S4x5632, .f32⟩
  | 65 => ⟨S4x5632, .f32⟩
  | 66 => ⟨S_, .f32⟩
  | 67 => ⟨S4x5632, .f32⟩
  | 68 => ⟨S4x5632, .f32⟩
  | 69 => ⟨S4x5632, .f32⟩
  | 70 => ⟨S_, .f32⟩
  | 71 => ⟨S4x5632, .f32⟩
  | 72 => ⟨S4x5632, .f32⟩
  | 73 => ⟨S4x5632, .f32⟩
  | 74 => ⟨S_, .f32⟩
  | 75 => ⟨S4x5632, .f32⟩
  | 76 => ⟨S4x5632, .f32⟩
  | 77 => ⟨S4x5632, .f32⟩
  | 78 => ⟨S_, .f32⟩
  | 79 => ⟨S4x5632, .f32⟩
  | 80 => ⟨S4x5632, .f32⟩
  | 81 => ⟨S_, .f32⟩
  | 82 => ⟨S4x6144, .f32⟩
  | 83 => ⟨S4x6144, .f32⟩
  | 84 => ⟨S_, .f32⟩
  | 85 => ⟨S4x6144, .f32⟩
  | 86 => ⟨S4x6144, .f32⟩
  | 87 => ⟨S4x6144, .f32⟩
  | 88 => ⟨S_, .f32⟩
  | 89 => ⟨S4x6144, .f32⟩
  | 90 => ⟨S4x6144, .f32⟩
  | 91 => ⟨S4x6144, .f32⟩
  | 92 => ⟨S_, .f32⟩
  | 93 => ⟨S4x6144, .f32⟩
  | 94 => ⟨S4x6144, .f32⟩
  | 95 => ⟨S4x6144, .f32⟩
  | 96 => ⟨S_, .f32⟩
  | 97 => ⟨S4x6144, .f32⟩
  | 98 => ⟨S4x6144, .f32⟩
  | 99 => ⟨S_, .f32⟩
  | 100 => ⟨S4x6144, .f32⟩
  | 101 => ⟨S4x6144, .f32⟩
  | 102 => ⟨S4x6144, .f32⟩
  | 103 => ⟨S_, .f32⟩
  | 104 => ⟨S4x6144, .f32⟩
  | 105 => ⟨S4x6144, .f32⟩
  | 106 => ⟨S4x6144, .f32⟩
  | 107 => ⟨S_, .f32⟩
  | 108 => ⟨S4x6144, .f32⟩
  | 109 => ⟨S4x6144, .f32⟩
  | 110 => ⟨S4x6144, .f32⟩
  | 111 => ⟨S_, .f32⟩
  | 112 => ⟨S4x6144, .f32⟩
  | 113 => ⟨S4x6144, .f32⟩
  | 114 => ⟨S_, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S2x2048, .f32⟩

abbrev hbmTy0_2 (i : Nat) : BufTy := match i % 128 with
  | 0 => ⟨S1024, .f32⟩
  | 1 => ⟨S_, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .f32⟩
  | 19 => ⟨S_, .f32⟩
  | 20 => ⟨S2x128, .f32⟩
  | 21 => ⟨S2x128, .f32⟩
  | 22 => ⟨S_, .f32⟩
  | 23 => ⟨S2x128, .f32⟩
  | 24 => ⟨S2x128, .f32⟩
  | 25 => ⟨S2x128, .f32⟩
  | 26 => ⟨S_, .f32⟩
  | 27 => ⟨S2x128, .f32⟩
  | 28 => ⟨S2x128, .f32⟩
  | 29 => ⟨S2x128, .f32⟩
  | 30 => ⟨S_, .f32⟩
  | 31 => ⟨S2x128, .f32⟩
  | 32 => ⟨S2x128, .f32⟩
  | 33 => ⟨S2x128, .f32⟩
  | 34 => ⟨S_, .f32⟩
  | 35 => ⟨S2x128, .f32⟩
  | 36 => ⟨S2x128, .f32⟩
  | 37 => ⟨S_, .f32⟩
  | 38 => ⟨S2x128, .f32⟩
  | 39 => ⟨S2x128, .f32⟩
  | 40 => ⟨S2x128, .f32⟩
  | 41 => ⟨S_, .f32⟩
  | 42 => ⟨S2x128, .f32⟩
  | 43 => ⟨S2x128, .f32⟩
  | 44 => ⟨S2x128, .f32⟩
  | 45 => ⟨S_, .f32⟩
  | 46 => ⟨S2x128, .f32⟩
  | 47 => ⟨S2x128, .f32⟩
  | 48 => ⟨S2x128, .f32⟩
  | 49 => ⟨S_, .f32⟩
  | 50 => ⟨S2x128, .f32⟩
  | 51 => ⟨S2x128, .f32⟩
  | 52 => ⟨S_, .f32⟩
  | 53 => ⟨S2x128, .f32⟩
  | 54 => ⟨S2x128, .f32⟩
  | 55 => ⟨S_, .f32⟩
  | 56 => ⟨S2x128, .f32⟩
  | 57 => ⟨S2x128, .f32⟩
  | 58 => ⟨S2x128, .f32⟩
  | 59 => ⟨S_, .f32⟩
  | 60 => ⟨S2x128, .f32⟩
  | 61 => ⟨S2x128, .f32⟩
  | 62 => ⟨S2x128, .f32⟩
  | 63 => ⟨S_, .f32⟩
  | 64 => ⟨S2x128, .f32⟩
  | 65 => ⟨S2x128, .f32⟩
  | 66 => ⟨S2x128, .f32⟩
  | 67 => ⟨S_, .f32⟩
  | 68 => ⟨S2x128, .f32⟩
  | 69 => ⟨S2x128, .f32⟩
  | 70 => ⟨S_, .f32⟩
  | 71 => ⟨S2x128, .f32⟩
  | 72 => ⟨S2x128, .f32⟩
  | 73 => ⟨S2x128, .f32⟩
  | 74 => ⟨S_, .f32⟩
  | 75 => ⟨S2x128, .f32⟩
  | 76 => ⟨S2x128, .f32⟩
  | 77 => ⟨S2x128, .f32⟩
  | 78 => ⟨S_, .f32⟩
  | 79 => ⟨S2x128, .f32⟩
  | 80 => ⟨S2x128, .f32⟩
  | 81 => ⟨S2x128, .f32⟩
  | 82 => ⟨S_, .f32⟩
  | 83 => ⟨S2x128, .f32⟩
  | 84 => ⟨S2x128, .f32⟩
  | 85 => ⟨S_, .f32⟩
  | 86 => ⟨S4x2x128, .f32⟩
  | 87 => ⟨S4x2x128, .f32⟩
  | 88 => ⟨S_, .f32⟩
  | 89 => ⟨S4x2x128, .f32⟩
  | 90 => ⟨S4x2x128, .f32⟩
  | 91 => ⟨S4x2x128, .f32⟩
  | 92 => ⟨S_, .f32⟩
  | 93 => ⟨S4x2x128, .f32⟩
  | 94 => ⟨S4x2x128, .f32⟩
  | 95 => ⟨S4x2x128, .f32⟩
  | 96 => ⟨S_, .f32⟩
  | 97 => ⟨S4x2x128, .f32⟩
  | 98 => ⟨S4x2x128, .f32⟩
  | 99 => ⟨S4x2x128, .f32⟩
  | 100 => ⟨S_, .f32⟩
  | 101 => ⟨S4x2x128, .f32⟩
  | 102 => ⟨S4x2x128, .f32⟩
  | 103 => ⟨S_, .f32⟩
  | 104 => ⟨S4x2x128, .f32⟩
  | 105 => ⟨S4x2x128, .f32⟩
  | 106 => ⟨S4x2x128, .f32⟩
  | 107 => ⟨S_, .f32⟩
  | 108 => ⟨S4x2x128, .f32⟩
  | 109 => ⟨S4x2x128, .f32⟩
  | 110 => ⟨S4x2x128, .f32⟩
  | 111 => ⟨S_, .f32⟩
  | 112 => ⟨S4x2x128, .f32⟩
  | 113 => ⟨S4x2x128, .f32⟩
  | 114 => ⟨S4x2x128, .f32⟩
  | 115 => ⟨S_, .f32⟩
  | 116 => ⟨S4x2x128, .f32⟩
  | 117 => ⟨S4x2x128, .f32⟩
  | 118 => ⟨S_, .f32⟩
  | 119 => ⟨S4x3x704, .f32⟩
  | 120 => ⟨S4x3x704, .f32⟩
  | 121 => ⟨S_, .f32⟩
  | 122 => ⟨S4x3x704, .f32⟩
  | 123 => ⟨S4x3x704, .f32⟩
  | 124 => ⟨S4x3x704, .f32⟩
  | 125 => ⟨S_, .f32⟩
  | 126 => ⟨S4x3x704, .f32⟩
  | 127 => ⟨S4x3x704, .f32⟩
  | _ => ⟨S2x2048, .f32⟩

abbrev hbmTy0_3 (i : Nat) : BufTy := match i % 128 with
  | 0 => ⟨S4x3x704, .f32⟩
  | 1 => ⟨S_, .f32⟩
  | 2 => ⟨S4x3x704, .f32⟩
  | 3 => ⟨S4x3x704, .f32⟩
  | 4 => ⟨S4x3x704, .f32⟩
  | 5 => ⟨S_, .f32⟩
  | 6 => ⟨S4x3x704, .f32⟩
  | 7 => ⟨S4x3x704, .f32⟩
  | 8 => ⟨S_, .f32⟩
  | 9 => ⟨S4x3x704, .f32⟩
  | 10 => ⟨S4x3x704, .f32⟩
  | 11 => ⟨S4x3x704, .f32⟩
  | 12 => ⟨S_, .f32⟩
  | 13 => ⟨S4x3x704, .f32⟩
  | 14 => ⟨S4x3x704, .f32⟩
  | 15 => ⟨S4x3x704, .f32⟩
  | 16 => ⟨S_, .f32⟩
  | 17 => ⟨S4x3x704, .f32⟩
  | 18 => ⟨S4x3x704, .f32⟩
  | 19 => ⟨S4x3x704, .f32⟩
  | 20 => ⟨S_, .f32⟩
  | 21 => ⟨S4x3x704, .f32⟩
  | 22 => ⟨S4x3x704, .f32⟩
  | 23 => ⟨S4096, .f32⟩
  | 24 => ⟨S4096, .f32⟩
  | 25 => ⟨S262144, .f32⟩
  | 26 => ⟨S2048, .f32⟩
  | 27 => ⟨S22528, .f32⟩
  | 28 => ⟨S24576, .f32⟩
  | 29 => ⟨S256, .f32⟩
  | 30 => ⟨S256, .f32⟩
  | 31 => ⟨S1024, .f32⟩
  | 32 => ⟨S8448, .f32⟩
  | 33 => ⟨S330496, .f32⟩
  | 34 => ⟨S_, .f32⟩
  | 35 => ⟨S256, .f32⟩
  | 36 => ⟨S330752, .f32⟩
  | 37 => ⟨S2584x128, .f32⟩
  | 38 => ⟨S4096, .f32⟩
  | 39 => ⟨S4096, .f32⟩
  | 40 => ⟨S262144, .f32⟩
  | 41 => ⟨S2048, .f32⟩
  | 42 => ⟨S22528, .f32⟩
  | 43 => ⟨S24576, .f32⟩
  | 44 => ⟨S256, .f32⟩
  | 45 => ⟨S256, .f32⟩
  | 46 => ⟨S1024, .f32⟩
  | 47 => ⟨S8448, .f32⟩
  | 48 => ⟨S330496, .f32⟩
  | 49 => ⟨S_, .f32⟩
  | 50 => ⟨S256, .f32⟩
  | 51 => ⟨S330752, .f32⟩
  | 52 => ⟨S2584x128, .f32⟩
  | 53 => ⟨S4096, .f32⟩
  | 54 => ⟨S4096, .f32⟩
  | 55 => ⟨S262144, .f32⟩
  | 56 => ⟨S2048, .f32⟩
  | 57 => ⟨S22528, .f32⟩
  | 58 => ⟨S24576, .f32⟩
  | 59 => ⟨S256, .f32⟩
  | 60 => ⟨S256, .f32⟩
  | 61 => ⟨S1024, .f32⟩
  | 62 => ⟨S8448, .f32⟩
  | 63 => ⟨S330496, .f32⟩
  | 64 => ⟨S_, .f32⟩
  | 65 => ⟨S256, .f32⟩
  | 66 => ⟨S330752, .f32⟩
  | 67 => ⟨S2584x128, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_cst_98 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_cst_99 : Ref sig .tc := ⟨.hbm, 433, rfl⟩
abbrev main_v289 : Ref sig .tc := ⟨.hbm, 434, rfl⟩
abbrev main_v290 : Ref sig .tc := ⟨.hbm, 435, rfl⟩
abbrev main_v291 : Ref sig .tc := ⟨.hbm, 436, rfl⟩
abbrev main_v292 : Ref sig .tc := ⟨.hbm, 437, rfl⟩
abbrev main_v293 : Ref sig .tc := ⟨.hbm, 438, rfl⟩
abbrev main_v294 : Ref sig .tc := ⟨.hbm, 439, rfl⟩
abbrev main_v295 : Ref sig .tc := ⟨.hbm, 440, rfl⟩
abbrev main_v296 : Ref sig .tc := ⟨.hbm, 441, rfl⟩
abbrev main_v297 : Ref sig .tc := ⟨.hbm, 442, rfl⟩
abbrev main_v298 : Ref sig .tc := ⟨.hbm, 443, rfl⟩
abbrev main_v299 : Ref sig .tc := ⟨.hbm, 444, rfl⟩
abbrev main_v300 : Ref sig .tc := ⟨.hbm, 445, rfl⟩
abbrev main_v301 : Ref sig .tc := ⟨.hbm, 446, rfl⟩
abbrev main_v302 : Ref sig .tc := ⟨.hbm, 447, rfl⟩
abbrev main_cst_100 : Ref sig .tc := ⟨.hbm, 448, rfl⟩
abbrev main_v303 : Ref sig .tc := ⟨.hbm, 449, rfl⟩
abbrev main_v304 : Ref sig .tc := ⟨.hbm, 450, rfl⟩
abbrev main_v305 : Ref sig .tc := ⟨.hbm, 451, rfl⟩

abbrev nD : Nat := 1
abbrev τ : Topo := Topo.v7x

variable {F : FTy → Type} [FloatOps F]
-- ==== Kernel20.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel20Ideal.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference20Ideal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S2x256x1024, .f32⟩
  | .hbm, ⟨8, _⟩ => ⟨S2x256x1024, .i32⟩
  | .hbm, ⟨9, _⟩ => ⟨S_, .i32⟩
  | .hbm, ⟨10, _⟩ => ⟨S2x256x1024, .i32⟩
  | .hbm, ⟨11, _⟩ => ⟨S2x256x1024, .i1⟩
  | .hbm, ⟨12, _⟩ => ⟨S_, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S_, .f32⟩
  | .hbm, ⟨46, _⟩ => ⟨S2x256x1024, .f32⟩
  | .hbm, ⟨47, _⟩ => ⟨S2x256x1024, .f32⟩
  | .hbm, ⟨48, _⟩ => ⟨S2x256x1024, .f32⟩
  | .hbm, ⟨49, _⟩ => ⟨S2x256x1024, .f32⟩
  | .hbm, ⟨50, _⟩ => ⟨S2x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel21.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel21Ideal.lean ====
abbrev S8x256x1024 : Shape := ⟨3, ![8, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference21Ideal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S2x256x1024, .f32⟩
  | .hbm, ⟨12, _⟩ => ⟨S2x256x1024, .i32⟩
  | .hbm, ⟨13, _⟩ => ⟨S_, .i32⟩
  | .hbm, ⟨14, _⟩ => ⟨S2x256x1024, .i32⟩
  | .hbm, ⟨15, _⟩ => ⟨S2x256x1024, .i1⟩
  | .hbm, ⟨16, _⟩ => ⟨S_, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S2x256x1024, .f32⟩
  | .hbm, ⟨46, _⟩ => ⟨S_, .f32⟩
  | .hbm, ⟨47, _⟩ => ⟨S2x256x1024, .f32⟩
  | .hbm, ⟨48, _⟩ => ⟨S2x256x1024, .f32⟩
  | .hbm, ⟨49, _⟩ => ⟨S2x256x1024, .f32⟩
  | .hbm, ⟨50, _⟩ => ⟨S2x256x1024, .f32⟩
  | .hbm, ⟨51, _⟩ => ⟨S2x256x1024, .f32⟩
  | .hbm, ⟨52, _⟩ => ⟨S2x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel22.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel22Ideal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference22Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S2x128x1024, .f32⟩
  | .hbm, ⟨8, _⟩ => ⟨S2x128x1024, .i32⟩
  | .hbm, ⟨9, _⟩ => ⟨S_, .i32⟩
  | .hbm, ⟨10, _⟩ => ⟨S2x128x1024, .i32⟩
  | .hbm, ⟨11, _⟩ => ⟨S2x128x1024, .i1⟩
  | .hbm, ⟨12, _⟩ => ⟨S_, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S_, .f32⟩
  | .hbm, ⟨46, _⟩ => ⟨S2x128x1024, .f32⟩
  | .hbm, ⟨47, _⟩ => ⟨S2x128x1024, .f32⟩
  | .hbm, ⟨48, _⟩ => ⟨S2x128x1024, .f32⟩
  | .hbm, ⟨49, _⟩ => ⟨S2x128x1024, .f32⟩
  | .hbm, ⟨50, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel23.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel23Ideal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference23Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S2x128x1024, .f32⟩
  | .hbm, ⟨12, _⟩ => ⟨S2x128x1024, .i32⟩
  | .hbm, ⟨13, _⟩ => ⟨S_, .i32⟩
  | .hbm, ⟨14, _⟩ => ⟨S2x128x1024, .i32⟩
  | .hbm, ⟨15, _⟩ => ⟨S2x128x1024, .i1⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | .hbm, ⟨49, _⟩ => ⟨S2x128x1024, .f32⟩
  | .hbm, ⟨50, _⟩ => ⟨S2x128x1024, .f32⟩
  | .hbm, ⟨51, _⟩ => ⟨S2x128x1024, .f32⟩
  | .hbm, ⟨52, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel24.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel24Ideal.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference24Ideal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S4x352x1024, .f32⟩
  | .hbm, ⟨8, _⟩ => ⟨S4x352x1024, .i32⟩
  | .hbm, ⟨9, _⟩ => ⟨S_, .i32⟩
  | .hbm, ⟨10, _⟩ => ⟨S4x352x1024, .i32⟩
  | .hbm, ⟨11, _⟩ => ⟨S4x352x1024, .i1⟩
  | .hbm, ⟨12, _⟩ => ⟨S_, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S_, .f32⟩
  | .hbm, ⟨46, _⟩ => ⟨S4x352x1024, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel25.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel25Ideal.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference25Ideal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S4x352x1024, .f32⟩
  | .hbm, ⟨12, _⟩ => ⟨S4x352x1024, .i32⟩
  | .hbm, ⟨13, _⟩ => ⟨S_, .i32⟩
  | .hbm, ⟨14, _⟩ => ⟨S4x352x1024, .i32⟩
  | .hbm, ⟨15, _⟩ => ⟨S4x352x1024, .i1⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S4x352x1024, .f32⟩
  | .hbm, ⟨51, _⟩ => ⟨S4x352x1024, .f32⟩
  | .hbm, ⟨52, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel26.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel26Ideal.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference26Ideal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S4x352x1024, .f32⟩
  | .hbm, ⟨12, _⟩ => ⟨S4x352x1024, .i32⟩
  | .hbm, ⟨13, _⟩ => ⟨S_, .i32⟩
  | .hbm, ⟨14, _⟩ => ⟨S4x352x1024, .i32⟩
  | .hbm, ⟨15, _⟩ => ⟨S4x352x1024, .i1⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S4x352x1024, .f32⟩
  | .hbm, ⟨51, _⟩ => ⟨S4x352x1024, .f32⟩
  | .hbm, ⟨52, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel27.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel27Ideal.lean ====
abbrev S8x352x1024 : Shape := ⟨3, ![8, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S8x352x1024 : Shape := ⟨3, ![8, 352, 1024]⟩
abbrev S4x352x1024 : Shape := ⟨3, ![4, 352, 1024]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S4x352x1024, .f32⟩
  | .hbm, ⟨12, _⟩ => ⟨S4x352x1024, .i32⟩
  | .hbm, ⟨13, _⟩ => ⟨S_, .i32⟩
  | .hbm, ⟨14, _⟩ => ⟨S4x352x1024, .i32⟩
  | .hbm, ⟨15, _⟩ => ⟨S4x352x1024, .i1⟩
  | .hbm, ⟨16, _⟩ => ⟨S_, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S4x352x1024, .f32⟩
  | .hbm, ⟨51, _⟩ => ⟨S4x352x1024, .f32⟩
  | .hbm, ⟨52, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel28.lean ====
abbrev S8x512x512 : Shape := ⟨3, ![8, 512, 512]⟩
abbrev S2x1024x512 : Shape := ⟨3, ![2, 1024, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x512x512, .bf16⟩
  | .hbm, ⟨1, _⟩ => ⟨S8x512x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel28Ideal.lean ====
abbrev S8x512x512 : Shape := ⟨3, ![8, 512, 512]⟩
abbrev S2x1024x512 : Shape := ⟨3, ![2, 1024, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x512x512, .bf16⟩
  | .hbm, ⟨1, _⟩ => ⟨S8x512x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference28Ideal.lean ====
abbrev S8x512x512 : Shape := ⟨3, ![8, 512, 512]⟩
abbrev S2x1024x512 : Shape := ⟨3, ![2, 1024, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S8x512x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .bf16⟩
  | .hbm, ⟨6, _⟩ => ⟨S8x1024x512, .f32⟩
  | .hbm, ⟨7, _⟩ => ⟨S_, .f32⟩
  | .hbm, ⟨8, _⟩ => ⟨S1024x512, .f32⟩
  | .hbm, ⟨9, _⟩ => ⟨S2x1024x512, .f32⟩
  | .hbm, ⟨10, _⟩ => ⟨S2x1024x512, .i32⟩
  | .hbm, ⟨11, _⟩ => ⟨S_, .i32⟩
  | .hbm, ⟨12, _⟩ => ⟨S2x1024x512, .i32⟩
  | .hbm, ⟨13, _⟩ => ⟨S2x1024x512, .i1⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | .hbm, ⟨47, _⟩ => ⟨S_, .f32⟩
  | .hbm, ⟨48, _⟩ => ⟨S2x1024x512, .f32⟩
  | .hbm, ⟨49, _⟩ => ⟨S2x1024x512, .f32⟩
  | .hbm, ⟨50, _⟩ => ⟨S2x1024x512, .f32⟩
  | .hbm, ⟨51, _⟩ => ⟨S2x1024x512, .f32⟩
  | .hbm, ⟨52, _⟩ => ⟨S2x1024x512, .f32⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel29.lean ====
abbrev S8x512x512 : Shape := ⟨3, ![8, 512, 512]⟩
abbrev S2x1024x512 : Shape := ⟨3, ![2, 1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S8x512x512, .bf16⟩
  | .hbm, ⟨1, _⟩ => ⟨S8x512x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference29Ideal.lean ====
abbrev S8x512x512 : Shape := ⟨3, ![8, 512, 512]⟩
abbrev S2x1024x512 : Shape := ⟨3, ![2, 1024, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S8x512x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S8x1024x512, .bf16⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S2x1024x512, .f32⟩
  | .hbm, ⟨14, _⟩ => ⟨S2x1024x512, .i32⟩
  | .hbm, ⟨15, _⟩ => ⟨S_, .i32⟩
  | .hbm, ⟨16, _⟩ => ⟨S2x1024x512, .i32⟩
  | .hbm, ⟨17, _⟩ => ⟨S2x1024x512, .i1⟩
  | .hbm, ⟨18, _⟩ => ⟨S_, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S2x1024x512, .f32⟩
  | .hbm, ⟨33, _⟩ => ⟨S_, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | .hbm, ⟨47, _⟩ => ⟨S2x1024x512, .f32⟩
  | .hbm, ⟨48, _⟩ => ⟨S_, .f32⟩
  | .hbm, ⟨49, _⟩ => ⟨S2x1024x512, .f32⟩
  | .hbm, ⟨50, _⟩ => ⟨S2x1024x512, .f32⟩
  | .hbm, ⟨51, _⟩ => ⟨S2x1024x512, .f32⟩
  | .hbm, ⟨52, _⟩ => ⟨S2x1024x512, .f32⟩
  | .hbm, ⟨53, _⟩ => ⟨S2x1024x512, .f32⟩
  | .hbm, ⟨54, _⟩ => ⟨S2x1024x512, .f32⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.Norm.Rows.lean ====
/-
  What one block of the norm's backward computes, row by row.

  A grid point holds 512 of the 4096 rows. Each array the body computes from its blocks is, at row `p` and column `k`,
  what the reference computes at row `512 t + p` and column `k`: the two programs apply the same operations to the same
  entries, apart from the order of two sums and of two products.
-/
module

public import proofs.«01_k».proof.Proof.Gen.Kernel2Ideal.Skeleton
public import proofs.«01_k».proof.Proof.Gen.Reference2Ideal.Read
public import Idealize.ShloMosaic.Lib.ValueIdx
public import Idealize.ShloMosaic.Lib.Pointwise
public import Idealize.ShloMosaic.Lib.Pipeline.Value

@[expose] public section

noncomputable section

namespace Cert.Norm

open Idealize.ShloMosaic Idealize.ShloMosaic.TcCoe
open Cert.Kernel2Ideal Cert.Kernel2Ideal.Gen Cert.Reference2Ideal.Read

/-- Row `p` of block `t`, as a row of the whole array. -/
def row (t : Fin 8) (p : Fin 512) : Fin 4096 := ⟨t.val * 512 + p.val, by omega⟩

/-- The block of 512 rows at grid point `t`. -/
def blk {α : Type} (t : Fin 8) (x : S4096x1024.Idx → α) : S512x1024.Idx → α := fun j => x (ix2 (row t (j 0)) (j 1))

variable (t : Fin 8) (x0 : Vec Ideal S4096x1024 .f32) (x1 x2 : Vec Ideal S1x1024 .f32) (x4 : Vec Ideal S4096x1024 .bf16)
  (x5 : Vec Ideal S4096x1024 .f32) (x6 : Vec Ideal S4096x1024 .bf16) (x7 : Vec Ideal S1x1024 .f32)

/-- The bits of `+0.0` read as zero. -/
theorem zero_bits : (FloatOps.ofBits .f32 0x00000000#32 : Ideal .f32) = (0 : EReal) := by
  show Ideal.ofBits .f32 0x00000000#32 = 0
  simp

/-! Where the reference's layout operations read. -/

theorem idx2 (r : Fin 4096) (k : Fin 1024) : idx_main_v2 (idx_main_v3 (ix2 r 0)) k = ix2 r k := funext fun a => by fin_cases a <;> rfl
theorem idx12 (r : Fin 4096) (k : Fin 1024) : idx_main_v12 (ix2 r k) = ix2 r 0 := funext fun a => by fin_cases a <;> rfl
theorem idx15 (r : Fin 4096) (k : Fin 1024) : idx_main_v0 (idx_main_v14 (idx_main_v15 (ix2 r k))) = ix2 0 k :=
  funext fun a => Fin.ext (by fin_cases a <;> simp <;> omega)
theorem idx29 (r : Fin 4096) (k : Fin 1024) : idx_main_v29 (ix2 r k) = ix2 0 k := funext fun a => by fin_cases a <;> rfl
theorem idx34 (r : Fin 4096) (k : Fin 1024) : idx_main_v0 (idx_main_v14 (idx_main_v34 (ix2 r k))) = ix2 0 k :=
  funext fun a => Fin.ext (by fin_cases a <;> simp <;> omega)
theorem idx38 (r : Fin 4096) (k : Fin 1024) : idx_main_v38 (idx_main_v39 (ix2 r 0)) k = ix2 r k :=
  funext fun a => Fin.ext (by fin_cases a <;> simp <;> omega)
theorem idx40 (r : Fin 4096) (k : Fin 1024) : idx_main_v40 (ix2 r k) = ix2 r 0 := funext fun a => by fin_cases a <;> rfl
theorem idx46 (r : Fin 4096) (k : Fin 1024) (z : Fin 1) : idx_main_v46 (idx_main_v47 (ix2 r k)) z = ix2 r 0 := funext fun a => by fin_cases a <;> fin_cases z <;> rfl
theorem idx55 (r : Fin 4096) (k : Fin 1024) : idx_main_v55 (ix2 r k) = ix2 0 k := funext fun a => by fin_cases a <;> rfl
theorem idx24 (k : Fin 1024) (r : Fin 4096) : idx_main_v24 (idx_main_v25 (ix2 0 k)) r = ix2 r k :=
  funext fun a => Fin.ext (by fin_cases a <;> simp <;> omega)
theorem idx27 (k : Fin 1024) (r : Fin 4096) : idx_main_v27 (idx_main_v28 (ix2 0 k)) r = ix2 r k :=
  funext fun a => Fin.ext (by fin_cases a <;> simp <;> omega)
theorem idx58 (k : Fin 1024) (r : Fin 4096) : idx_main_v58 (idx_main_v59 (ix2 0 k)) r = ix2 r k :=
  funext fun a => Fin.ext (by fin_cases a <;> simp <;> omega)
theorem idx32 (k : Fin 1024) (z : Fin 1) (r : Fin 4096) : idx_main_v32 (idx_main_v33 (idx_main_v36 (idx_main_v60 (ix2 0 k)) z)) r = ix2 r k :=
  funext fun a => Fin.ext (by fin_cases a <;> simp <;> omega)

/-- The mean of a row's squares, plus epsilon. -/
theorem meansq (p : Fin 512) (c : Fin 1) :
    k0_pay7 (F := Ideal) (blk t x0) (ix2 p c) = val_main_v7 (F := Ideal) x0 (ix2 (row t p) 0) := by
  rw [val_main_v7_apply, val_main_v6_apply, val_main_cst_1_apply, val_main_v5_apply, val_main_v4_apply,
    val_main_cst_0_apply, val_main_v3_apply, val_main_v2_apply, val_main_cst_apply, zero_bits]
  unfold k0_pay7
  pointwise
  simp only [idx2, val_main_v1_apply]
  rfl

/-- The reciprocal root of it. -/
theorem rstd (p : Fin 512) (c : Fin 1) :
    k0_pay8 (F := Ideal) (blk t x0) (ix2 p c) = val_main_v8 (F := Ideal) x0 (ix2 (row t p) 0) := by
  rw [val_main_v8_apply, ← meansq t x0 p c]
  rfl

/-- The derivative of the reciprocal root. -/
theorem drstd (p : Fin 512) (c : Fin 1) :
    k0_pay9 (F := Ideal) (blk t x0) (ix2 p c) = val_main_v11 (F := Ideal) x0 (ix2 (row t p) 0) := by
  rw [val_main_v11_apply, val_main_v10_apply, val_main_cst_2_apply, val_main_v9_apply, ← meansq t x0 p c, ← rstd t x0 p c]
  rfl

/-- The normalised entry. -/
theorem normed (p : Fin 512) (k : Fin 1024) :
    k0_pay10 (F := Ideal) (blk t x0) (ix2 p k) = val_main_v13 (F := Ideal) x0 (ix2 (row t p) k) := by
  rw [val_main_v13_apply, val_main_v12_apply, idx12, ← rstd t x0 p 0]
  unfold k0_pay10
  pointwise
  rfl

/-- The gradient that comes in, scaled back by the modulation. -/
theorem scaled (p : Fin 512) (k : Fin 1024) :
    k0_pay14 (F := Ideal) x2 (blk t x4) (ix2 p k) = val_main_v30 (F := Ideal) x2 x4 (ix2 (row t p) k) := by
  rw [val_main_v30_apply, val_main_v23_apply, val_main_v29_apply, val_main_v18_apply, val_main_v17_apply, val_main_cst_3_apply, idx29]
  unfold k0_pay14 k0_pay11
  pointwise
  rfl

/-- The gradient at the normalised entry. -/
theorem weighted (p : Fin 512) (k : Fin 1024) :
    k0_pay16 (F := Ideal) x1 x2 (blk t x4) (ix2 p k) = val_main_v35 (F := Ideal) x1 x2 x4 (ix2 (row t p) k) := by
  rw [val_main_v35_apply, val_main_v34_apply, val_main_v14_apply, val_main_v0_apply, idx34, ← scaled t x2 x4 p k]
  unfold k0_pay16
  pointwise

/-- Its product with the row, summed along the row. -/
theorem rowdot (p : Fin 512) :
    k0_pay17 (F := Ideal) (blk t x0) x1 x2 (blk t x4) (ix1 p) = val_main_v39 (F := Ideal) x0 x1 x2 x4 (ix2 (row t p) 0) := by
  rw [val_main_v39_apply, val_main_v38_apply, val_main_cst_8_apply, zero_bits]
  unfold k0_pay17
  pointwise
  simp only [idx38, val_main_v37_apply, ← weighted t x1 x2 x4]
  rfl

/-- The gradient of the input row. -/
theorem dx (p : Fin 512) (k : Fin 1024) :
    k0_pay18 (F := Ideal) (blk t x0) (k0_pay8 (blk t x0)) (k0_pay9 (blk t x0)) (k0_pay16 x1 x2 (blk t x4))
      (k0_pay17 (blk t x0) x1 x2 (blk t x4)) (blk t x5) (ix2 p k)
      = val_main_v51 (F := Ideal) x0 x1 x2 x4 x5 (ix2 (row t p) k) := by
  rw [val_main_v51_apply, val_main_v50_apply, val_main_v49_apply, val_main_v48_apply, val_main_v47_apply, val_main_v46_apply,
    val_main_cst_10_apply, zero_bits, val_main_v42_apply, val_main_v41_apply, val_main_v40_apply, idx40, ← rstd t x0 p 0,
    ← weighted t x1 x2 x4 p k]
  simp only [idx46, val_main_v45_apply, val_main_v44_apply, val_main_cst_9_apply, val_main_v43_apply, ← drstd t x0 p 0,
    ← rowdot t x0 x1 x2 x4 p]
  unfold k0_pay18
  pointwise
  have hz : ∀ z : Fin 1, k0_pay9 (F := Ideal) (blk t x0) (ix2 p z) = k0_pay9 (F := Ideal) (blk t x0) (ix2 p 0) := fun z => by fin_cases z; rfl
  simp only [hz]
  show _ + x5 (ix2 (row t p) k) = x5 (ix2 (row t p) k) + _ + _ + _
  rw [add_comm, ← add_assoc, ← add_assoc]
  rfl

/-- What the block adds to the gradient of the shift, column by column. -/
theorem dshift (c : Fin 1) (k : Fin 1024) :
    k0_pay12 (F := Ideal) (blk t x4) (ix2 c k) = ∑ p, val_main_v23 (F := Ideal) x4 (ix2 (row t p) k) := by
  unfold k0_pay12 k0_pay11
  simp only [val_main_v23_apply]
  pointwise
  rfl

/-- What the block adds to the gradient of the scale. -/
theorem dscale (c : Fin 1) (k : Fin 1024) :
    k0_pay13 (F := Ideal) (blk t x0) x1 (blk t x4) (ix2 c k) = ∑ p, val_main_v26 (F := Ideal) x0 x1 x4 (ix2 (row t p) k) := by
  simp only [val_main_v26_apply, val_main_v23_apply, val_main_v16_apply, val_main_v15_apply, val_main_v14_apply,
    val_main_v0_apply, idx15, ← normed t x0]
  unfold k0_pay13 k0_pay11
  pointwise
  rfl

/-- What the block adds to the gradient of the norm's weight. -/
theorem dweight (c : Fin 1) (k : Fin 1024) :
    k0_pay15 (F := Ideal) (blk t x0) x2 (blk t x4) (ix2 c k) = ∑ p, val_main_v31 (F := Ideal) x0 x2 x4 (ix2 (row t p) k) := by
  simp only [val_main_v31_apply, ← normed t x0, ← scaled t x2 x4]
  unfold k0_pay15
  pointwise

/-- The entry that the gate's gradient sums. -/
theorem gated (p : Fin 512) (k : Fin 1024) :
    k0_pay23 (F := Ideal) (blk t x0) (k0_pay8 (blk t x0)) (k0_pay9 (blk t x0)) (k0_pay16 x1 x2 (blk t x4))
      (k0_pay17 (blk t x0) x1 x2 (blk t x4)) (blk t x5) (blk t x6) (ix2 p k)
      = val_main_v57 (F := Ideal) x0 x1 x2 x4 x5 x6 (ix2 (row t p) k) := by
  rw [val_main_v57_apply, val_main_v52_apply, ← dx t x0 x1 x2 x4 x5 p k]
  unfold k0_pay23
  pointwise
  rfl

/-- What the block adds to the gradient of the gate. -/
theorem dgate (acc : Vec Ideal S1x1024 .f32) (y : S1x1024.Idx) :
    k0_pay1 (F := Ideal) (k0_pay22 acc) (k0_pay23 (blk t x0) (k0_pay8 (blk t x0)) (k0_pay9 (blk t x0)) (k0_pay16 x1 x2 (blk t x4))
      (k0_pay17 (blk t x0) x1 x2 (blk t x4)) (blk t x5) (blk t x6)) y
      = acc y + ∑ p, val_main_v57 (F := Ideal) x0 x1 x2 x4 x5 x6 (ix2 (row t p) (y 1)) := by
  obtain ⟨z, k, rfl⟩ : ∃ (z : Fin 1) (k : Fin 1024), y = ix2 z k := ⟨y 0, y 1, eq_ix2 y⟩
  show _ = _ + ∑ p, val_main_v57 (F := Ideal) x0 x1 x2 x4 x5 x6 (ix2 (row t p) k)
  simp only [← gated t x0]
  unfold k0_pay1 k0_pay22
  pointwise

/-- The gradient of the branch's output. -/
theorem dbranch (p : Fin 512) (k : Fin 1024) :
    k0_pay2 (F := Ideal) (k0_pay18 (blk t x0) (k0_pay8 (blk t x0)) (k0_pay9 (blk t x0)) (k0_pay16 x1 x2 (blk t x4))
      (k0_pay17 (blk t x0) x1 x2 (blk t x4)) (blk t x5)) x7 (ix2 p k)
      = val_main_v61 (F := Ideal) x0 x1 x2 x4 x5 x7 (ix2 (row t p) k) := by
  rw [val_main_v61_apply, val_main_v56_apply, val_main_v55_apply, idx55, ← dx t x0 x1 x2 x4 x5 p k]
  unfold k0_pay2
  pointwise
  exact mul_comm _ _

end Cert.Norm
-- ==== Proof.Norm.Arrays.lean ====
/-
  What each array of the norm's backward holds after the kernel has run, as the reference's array.

  The gradients of the input and of the branch are written block by block; the four gradients of the row vectors are
  accumulated in one block, which the first point resets and the last one writes back.
-/
module

public import proofs.«01_k».proof.Proof.Norm.Rows
public import proofs.«01_k».proof.Proof.Gen.Kernel2Ideal.Value
public import Idealize.ShloMosaic.Lib.Pipeline.ValueKit

@[expose] public section

noncomputable section

namespace Cert.Norm

open Idealize.ShloMosaic Idealize.ShloMosaic.TcCoe Idealize.SL.Sem
open Idealize.ShloMosaic.Pipeline (Dat)
open Cert.Kernel2Ideal Cert.Kernel2Ideal.Gen Cert.Reference2Ideal.Read

variable (m : (ℓ : Loc nD τ sig) → Buf (Elt Ideal) ℓ) (c : Dev nD)

/-- A grid point, as one of the eight blocks of rows. -/
def pt (t : Fin cfg0.N) : Fin 8 := ⟨t.val, lt_of_lt_of_eq t.isLt N_0⟩

/-! The input blocks: 512 rows of the arrays, and the whole row vectors. -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val, 0] := (by decide +kernel : ∀ t : Fin grid0.N, _)
theorem at13 : ∀ t : Fin cfg0.N, win0_13.index t = ![t.val, 0] := (by decide +kernel : ∀ t : Fin grid0.N, _)

theorem iblk0 (t : Fin cfg0.N) : iblk m c 0 t = blk (pt t) (m (c.tc.loc main_arg0)) := by
  funext j
  refine congrArg (m (c.tc.loc main_arg0)) (?_ : ((win0_0).blk t).view.emb j = ix2 (row (pt t) (j 0)) (j 1))
  blk_ext [at0, pt, row]

theorem iblk1 (t : Fin cfg0.N) : iblk m c 1 t = m (c.tc.loc main_arg1) := by
  funext j
  refine congrArg (m (c.tc.loc main_arg1)) (?_ : ((win0_1).blk t).view.emb j = j)
  blk_ext [at1]

theorem iblk2 (t : Fin cfg0.N) : iblk m c 2 t = m (c.tc.loc main_arg2) := by
  funext j
  refine congrArg (m (c.tc.loc main_arg2)) (?_ : ((win0_2).blk t).view.emb j = j)
  blk_ext [at2]

theorem iblk4 (t : Fin cfg0.N) : iblk m c 4 t = blk (pt t) (m (c.tc.loc main_arg4)) := by
  funext j
  refine congrArg (m (c.tc.loc main_arg4)) (?_ : ((win0_4).blk t).view.emb j = ix2 (row (pt t) (j 0)) (j 1))
  blk_ext [at4, pt, row]

theorem iblk5 (t : Fin cfg0.N) : iblk m c 5 t = blk (pt t) (m (c.tc.loc main_arg5)) := by
  funext j
  refine congrArg (m (c.tc.loc main_arg5)) (?_ : ((win0_5).blk t).view.emb j = ix2 (row (pt t) (j 0)) (j 1))
  blk_ext [at5, pt, row]

theorem iblk6 (t : Fin cfg0.N) : iblk m c 6 t = blk (pt t) (m (c.tc.loc main_arg6)) := by
  funext j
  refine congrArg (m (c.tc.loc main_arg6)) (?_ : ((win0_6).blk t).view.emb j = ix2 (row (pt t) (j 0)) (j 1))
  blk_ext [at6, pt, row]

theorem iblk7 (t : Fin cfg0.N) : iblk m c 7 t = m (c.tc.loc main_arg7) := by
  funext j
  refine congrArg (m (c.tc.loc main_arg7)) (?_ : ((win0_7).blk t).view.emb j = j)
  blk_ext [at7]

/-- The gradient of the input. -/
theorem final_dx : (dats m 0 c).arrAt 8 cfg0.N = val_main_v51 (F := Ideal)
    (m (c.tc.loc main_arg0)) (m (c.tc.loc main_arg1)) (m (c.tc.loc main_arg2)) (m (c.tc.loc main_arg4)) (m (c.tc.loc main_arg5)) := by
  refine (dats m 0 c).arrAt_eq_of_covers 8 _ (by decide +kernel) fun t hf y => ?_
  have hy : (win0_8.blk t).view.emb y = ix2 (row (pt t) (y 0)) (y 1) := by blk_ext [at8, pt, row]
  blk_simp
  rw [after0_8]
  refine Eq.trans ?_ (congrArg _ hy.symm)
  by_cases h0 : t.val % 8 = 0
  · rw [outsAt0_A m c t h0]
    frame_out
    rw [iblk0, iblk1, iblk2, iblk4, iblk5]
    exact (congrArg _ (eq_ix2 y)).trans (dx (pt t) _ _ _ _ _ (y 0) (y 1))
  · rw [outsAt0_B m c t h0]
    frame_out
    rw [iblk0, iblk1, iblk2, iblk4, iblk5]
    exact (congrArg _ (eq_ix2 y)).trans (dx (pt t) _ _ _ _ _ (y 0) (y 1))

/-- The gradient of the branch's output. -/
theorem final_dy : (dats m 0 c).arrAt 13 cfg0.N = val_main_v61 (F := Ideal)
    (m (c.tc.loc main_arg0)) (m (c.tc.loc main_arg1)) (m (c.tc.loc main_arg2)) (m (c.tc.loc main_arg4)) (m (c.tc.loc main_arg5)) (m (c.tc.loc main_arg7)) := by
  refine (dats m 0 c).arrAt_eq_of_covers 13 _ (by decide +kernel) fun t hf y => ?_
  have hy : (win0_13.blk t).view.emb y = ix2 (row (pt t) (y 0)) (y 1) := by blk_ext [at13, pt, row]
  blk_simp
  rw [after0_13]
  refine Eq.trans ?_ (congrArg _ hy.symm)
  by_cases h0 : t.val % 8 = 0
  · rw [outsAt0_A m c t h0]
    frame_out
    rw [iblk0, iblk1, iblk2, iblk4, iblk5, iblk7]
    exact (congrArg _ (eq_ix2 y)).trans (dbranch (pt t) _ _ _ _ _ _ (y 0) (y 1))
  · rw [outsAt0_B m c t h0]
    frame_out
    rw [iblk0, iblk1, iblk2, iblk4, iblk5, iblk7]
    exact (congrArg _ (eq_ix2 y)).trans (dbranch (pt t) _ _ _ _ _ _ (y 0) (y 1))

/-- Summing over the eight blocks and the 512 rows of each is summing over the 4096 rows. -/
theorem sum_rows (f : Fin 4096 → EReal) : (∑ t : Fin cfg0.N, ∑ p : Fin 512, f (row (pt t) p)) = ∑ r : Fin 4096, f r :=
  Fin.sum_mul_add_congr fun _ _ _ => rfl

/-- The zero block holds zero. -/
theorem pay3_apply (y : S1x1024.Idx) : k0_pay3 (F := Ideal) y = 0 := zero_bits
theorem pay4_apply (y : S1x1024.Idx) : k0_pay4 (F := Ideal) y = 0 := zero_bits
theorem pay5_apply (y : S1x1024.Idx) : k0_pay5 (F := Ideal) y = 0 := zero_bits
theorem pay6_apply (y : S1x1024.Idx) : k0_pay6 (F := Ideal) y = 0 := zero_bits

/-- Adding a block's part to what was accumulated. -/
theorem pay19_apply (x acc : Vec Ideal S1x1024 .f32) (y : S1x1024.Idx) : k0_pay19 (F := Ideal) x acc y = acc y + x y := by
  unfold k0_pay19; pointwise
theorem pay20_apply (x acc : Vec Ideal S1x1024 .f32) (y : S1x1024.Idx) : k0_pay20 (F := Ideal) x acc y = acc y + x y := by
  unfold k0_pay20; pointwise
theorem pay21_apply (x acc : Vec Ideal S1x1024 .f32) (y : S1x1024.Idx) : k0_pay21 (F := Ideal) x acc y = acc y + x y := by
  unfold k0_pay21; pointwise

/-- The gradient of the norm's weight: the blocks' parts, summed. -/
theorem final_dgn : (dats m 0 c).arrAt 9 cfg0.N = val_main_v60 (F := Ideal)
    (m (c.tc.loc main_arg0)) (m (c.tc.loc main_arg2)) (m (c.tc.loc main_arg4)) := by
  funext i
  refine ((dats m 0 c).arrAt_emb_eq_after_last 9 t0_7 (by decide +kernel) i).trans ?_
  blk_simp
  rw [after0_9, Pipeline.eq_sum_fin_of_reset_step_apply_last (fun n h => (outsAt0 m c n h).2.1) 8 (fun _ => 0)
    (fun t => k0_pay15 (F := Ideal) (iblk m c 0 t) (iblk m c 2 t) (iblk m c 4 t))
    (fun t h j => by rw [outsAt0_A m c t h]; frame_out; rw [pay19_apply, pay3_apply])
    (fun t h j => by rw [outsAt0_B m c t h]; frame_out; rw [pay19_apply])
    (le_of_eq N_0) t0_7 rfl i, zero_add]
  obtain ⟨z, k, rfl⟩ : ∃ (z : Fin 1) (k : Fin 1024), i = ix2 z k := ⟨i 0, i 1, eq_ix2 i⟩
  obtain rfl : z = 0 := Subsingleton.elim _ _
  rw [val_main_v60_apply, val_main_v36_apply, val_main_cst_7_apply, zero_bits, zero_add, Fin.sum_univ_one, val_main_v33_apply,
    val_main_v32_apply, val_main_cst_6_apply, zero_bits, zero_add, ← sum_rows]
  simp only [idx32]
  refine Fin.sum_fin_congr fun t => ?_
  rw [iblk0, iblk2, iblk4, dweight (pt t)]

/-- The gradient of the scale: the blocks' parts, summed. -/
theorem final_dsc : (dats m 0 c).arrAt 10 cfg0.N = val_main_v28 (F := Ideal)
    (m (c.tc.loc main_arg0)) (m (c.tc.loc main_arg1)) (m (c.tc.loc main_arg4)) := by
  funext i
  refine ((dats m 0 c).arrAt_emb_eq_after_last 10 t0_7 (by decide +kernel) i).trans ?_
  blk_simp
  rw [after0_10, Pipeline.eq_sum_fin_of_reset_step_apply_last (fun n h => (outsAt0 m c n h).2.2.1) 8 (fun _ => 0)
    (fun t => k0_pay13 (F := Ideal) (iblk m c 0 t) (iblk m c 1 t) (iblk m c 4 t))
    (fun t h j => by rw [outsAt0_A m c t h]; frame_out; rw [pay20_apply, pay4_apply])
    (fun t h j => by rw [outsAt0_B m c t h]; frame_out; rw [pay20_apply])
    (le_of_eq N_0) t0_7 rfl i, zero_add]
  obtain ⟨z, k, rfl⟩ : ∃ (z : Fin 1) (k : Fin 1024), i = ix2 z k := ⟨i 0, i 1, eq_ix2 i⟩
  obtain rfl : z = 0 := Subsingleton.elim _ _
  rw [val_main_v28_apply, val_main_v27_apply, val_main_cst_5_apply, zero_bits, zero_add, ← sum_rows]
  simp only [idx27]
  refine Fin.sum_fin_congr fun t => ?_
  rw [iblk0, iblk1, iblk4, dscale (pt t)]

/-- The gradient of the shift: the blocks' parts, summed. -/
theorem final_dsh : (dats m 0 c).arrAt 11 cfg0.N = val_main_v25 (F := Ideal)
    (m (c.tc.loc main_arg4)) := by
  funext i
  refine ((dats m 0 c).arrAt_emb_eq_after_last 11 t0_7 (by decide +kernel) i).trans ?_
  blk_simp
  rw [after0_11, Pipeline.eq_sum_fin_of_reset_step_apply_last (fun n h => (outsAt0 m c n h).2.2.2.1) 8 (fun _ => 0)
    (fun t => k0_pay12 (F := Ideal) (iblk m c 4 t))
    (fun t h j => by rw [outsAt0_A m c t h]; frame_out; rw [pay21_apply, pay5_apply])
    (fun t h j => by rw [outsAt0_B m c t h]; frame_out; rw [pay21_apply])
    (le_of_eq N_0) t0_7 rfl i, zero_add]
  obtain ⟨z, k, rfl⟩ : ∃ (z : Fin 1) (k : Fin 1024), i = ix2 z k := ⟨i 0, i 1, eq_ix2 i⟩
  obtain rfl : z = 0 := Subsingleton.elim _ _
  rw [val_main_v25_apply, val_main_v24_apply, val_main_cst_4_apply, zero_bits, zero_add, ← sum_rows]
  simp only [idx24]
  refine Fin.sum_fin_congr fun t => ?_
  rw [iblk4, dshift (pt t)]

/-- The gradient of the gate: the blocks' parts, summed. -/
theorem final_dg : (dats m 0 c).arrAt 12 cfg0.N = val_main_v59 (F := Ideal)
    (m (c.tc.loc main_arg0)) (m (c.tc.loc main_arg1)) (m (c.tc.loc main_arg2)) (m (c.tc.loc main_arg4)) (m (c.tc.loc main_arg5)) (m (c.tc.loc main_arg6)) := by
  funext i
  refine ((dats m 0 c).arrAt_emb_eq_after_last 12 t0_7 (by decide +kernel) i).trans ?_
  obtain ⟨z, k, rfl⟩ : ∃ (z : Fin 1) (k : Fin 1024), i = ix2 z k := ⟨i 0, i 1, eq_ix2 i⟩
  obtain rfl : z = 0 := Subsingleton.elim _ _
  blk_simp
  rw [after0_12, Pipeline.eq_sum_fin_of_reset_step_apply_last (fun n h => (outsAt0 m c n h).2.2.2.2.1) 8 (fun _ => 0)
    (fun t j => ∑ p, val_main_v57 (F := Ideal) (m (c.tc.loc main_arg0)) (m (c.tc.loc main_arg1)) (m (c.tc.loc main_arg2)) (m (c.tc.loc main_arg4)) (m (c.tc.loc main_arg5)) (m (c.tc.loc main_arg6))
      (ix2 (row (pt t) p) (j 1)))
    (fun t h j => by
      rw [outsAt0_A m c t h]; frame_out
      rw [iblk0, iblk1, iblk2, iblk4, iblk5, iblk6, dgate (pt t), pay6_apply])
    (fun t h j => by
      rw [outsAt0_B m c t h]; frame_out
      rw [iblk0, iblk1, iblk2, iblk4, iblk5, iblk6, dgate (pt t)])
    (le_of_eq N_0) t0_7 rfl (ix2 0 k), zero_add]
  rw [val_main_v59_apply, val_main_v58_apply, val_main_cst_11_apply, zero_bits, zero_add, ← sum_rows]
  simp only [idx58]
  rfl

end Cert.Norm
-- ==== Proof.Norm.Claim.lean ====
/-
  The claims about the norm's backward: its frames, and its equation with the reference.
-/
module

public import proofs.«01_k».proof.Defs
public import proofs.«01_k».proof.Proof.Norm.Arrays
public import proofs.«01_k».proof.Proof.Gen.Kernel2.Frame
public import proofs.«01_k».proof.Proof.Gen.Reference2Ideal.Run

@[expose] public section

noncomputable section

namespace Cert.Norm

open Idealize.ShloMosaic Idealize.ShloMosaic.TcCoe Idealize.SL.Sem
open Cert.Reference2Ideal.Read

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem preserves : Cert.preserves_Kernel2_Kernel2Ideal := trivial

/-- All six results of the kernel are the reference's. -/
theorem algebraic : Cert.algebraic_Kernel2Ideal_Reference2Ideal := by
  intro m ρ m' ρ' _ hagree
  refine ⟨_, _, _, _, _, _, Cert.Kernel2Ideal.Value.run_blocks m ρ, ?_⟩
  refine (θ_run Cert.Reference2Ideal.defs _ _).mono (fun _ h c => ?_) (Cert.Reference2Ideal.Value.run (F := Ideal) m' ρ')
  obtain ⟨h51, h60, h28, h25, h59, h61, hargs⟩ := h c
  obtain ⟨a0, a1, a2, a3, a4, a5, a6, a7⟩ := hagree c
  refine ⟨h51.trans ?_, h60.trans ?_, h28.trans ?_, h25.trans ?_, h59.trans ?_, h61.trans ?_, hargs⟩
  · rw [val_main_v51_eq, a0, a1, a2, a4, a5]; exact (final_dx m c).symm
  · rw [val_main_v60_eq, a0, a2, a4]; exact (final_dgn m c).symm
  · rw [val_main_v28_eq, a0, a1, a4]; exact (final_dsc m c).symm
  · rw [val_main_v25_eq, a4]; exact (final_dsh m c).symm
  · rw [val_main_v59_eq, a0, a1, a2, a4, a5, a6]; exact (final_dg m c).symm
  · rw [val_main_v61_eq, a0, a1, a2, a4, a5, a7]; exact (final_dy m c).symm

end Cert.Norm
-- ==== Proof.Gm.Blocks.lean ====
/-
  The blocks of the spatial gating mixer's backward: a grid point works on one chunk block of 128 rows.
-/
module

public import proofs.«01_k».proof.Proof.Gen.KernelIdeal.Value
public import Idealize.ShloMosaic.Lib.Pipeline.ValueKit
public import Idealize.ShloMosaic.Lib.ValueIdx
public import Idealize.ShloMosaic.Lib.Pointwise

@[expose] public section

noncomputable section

namespace Cert.Gm

open Idealize.ShloMosaic Idealize.ShloMosaic.TcCoe Idealize.SL.Sem
open Idealize.ShloMosaic.Pipeline (Dat)
open Cert.KernelIdeal Cert.KernelIdeal.Gen

/-- Row `p` of block `t`. -/
def row (t : Fin 32) (p : Fin 128) : Fin 4096 := ⟨t.val * 128 + p.val, by omega⟩

/-- Block `t` of an array of 4096 rows. -/
def blk {n : ℕ} {α : Type} (t : Fin 32) (x : (⟨2, ![4096, n]⟩ : Shape).Idx → α) : (⟨2, ![128, n]⟩ : Shape).Idx → α :=
  fun j => x (ix2 (row t (j 0)) (j 1))

variable (m : (ℓ : Loc nD τ sig) → Buf (Elt Ideal) ℓ) (c : Dev nD)

/-- A grid point, as one of the 32 blocks of rows. -/
def pt (t : Fin cfg0.N) : Fin 32 := ⟨t.val, lt_of_lt_of_eq t.isLt N_0⟩

/-! The input blocks: 128 rows of the arrays, and the whole weights, offsets and row vectors. -/

theorem at0 : ∀ t : Fin cfg0.N, win0_0.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at7 : ∀ t : Fin cfg0.N, win0_7.index t = ![0, 0, 0] := (by decide +kernel : ∀ t : Fin grid0.N, _)
theorem at8 : ∀ t : Fin cfg0.N, win0_8.index t = ![0, 0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)

theorem iblk0 (t : Fin cfg0.N) : iblk m c 0 t = blk (pt t) (m (c.tc.loc main_arg0)) := by
  funext j
  refine congrArg (m (c.tc.loc main_arg0)) (?_ : ((win0_0).blk t).view.emb j = ix2 (row (pt t) (j 0)) (j 1))
  blk_ext [at0, pt, row]

theorem iblk5 (t : Fin cfg0.N) : iblk m c 5 t = blk (pt t) (m (c.tc.loc main_arg5)) := by
  funext j
  refine congrArg (m (c.tc.loc main_arg5)) (?_ : ((win0_5).blk t).view.emb j = ix2 (row (pt t) (j 0)) (j 1))
  blk_ext [at5, pt, row]

theorem iblk1 (t : Fin cfg0.N) : iblk m c 1 t = m (c.tc.loc main_arg1) := by
  funext j
  refine congrArg (m (c.tc.loc main_arg1)) (?_ : ((win0_1).blk t).view.emb j = j)
  blk_ext [at1]

theorem iblk2 (t : Fin cfg0.N) : iblk m c 2 t = m (c.tc.loc main_arg2) := by
  funext j
  refine congrArg (m (c.tc.loc main_arg2)) (?_ : ((win0_2).blk t).view.emb j = j)
  blk_ext [at2]

theorem iblk3 (t : Fin cfg0.N) : iblk m c 3 t = m (c.tc.loc main_arg3) := by
  funext j
  refine congrArg (m (c.tc.loc main_arg3)) (?_ : ((win0_3).blk t).view.emb j = j)
  blk_ext [at3]

theorem iblk4 (t : Fin cfg0.N) : iblk m c 4 t = m (c.tc.loc main_arg4) := by
  funext j
  refine congrArg (m (c.tc.loc main_arg4)) (?_ : ((win0_4).blk t).view.emb j = j)
  blk_ext [at4]

end Cert.Gm
-- ==== Proof.Gm.Heads.lean ====
/-
  The payloads of the spatial gating mixer's backward, head by head, at an index.

  The kernel adds up zero-padded pieces, one per head: at a column of head `h` only that head's piece remains.
-/
module

public import proofs.«01_k».proof.Proof.Gm.Blocks

@[expose] public section

set_option maxRecDepth 4000

noncomputable section

namespace Cert.Gm

open Idealize.ShloMosaic Idealize.ShloMosaic.TcCoe Idealize.SL.Sem
open Cert.KernelIdeal Cert.KernelIdeal.Gen

/-- Column `j` of head `h`. -/
def col (h : Fin 8) (j : Fin 256) : Fin 2048 := ⟨h.val * 256 + j.val, by omega⟩

/-- The zero bits are the number zero. -/
theorem zero_bits : (FloatOps.ofBits .f32 0x00000000#32 : Ideal .f32) = (0 : EReal) := by
  show Ideal.ofBits .f32 0x00000000#32 = 0
  simp

/-- The chunk of a column, as an array of integers. -/
abbrev colChunk : IVec S128x128 32 :=
  k0_pay24 (iota Kind.tc S128x128 32 [1] iota_S128x128_d1_w32) (64#32) k0_pay21 k0_pay22 k0_pay23

/-- The chunk mask's bits: a row attends to the chunks up to its own. -/
abbrev maskBits : IVec S128x128 1 := cmpi .sge k0_pay20 colChunk

theorem rowChunk_apply (p q : Fin 128) : (k0_pay20 : IVec S128x128 32) (ix2 p q) = BitVec.ofNat 32 (p.val / 64) := by
  unfold k0_pay20; pointwise; revert p; decide +kernel

theorem colChunk_apply (p q : Fin 128) : colChunk (ix2 p q) = BitVec.ofNat 32 (q.val / 64) := by
  unfold colChunk k0_pay24 k0_pay21 k0_pay22 k0_pay23; pointwise; revert q; decide +kernel

theorem maskBits_apply (p q : Fin 128) : maskBits (ix2 p q) = if q.val / 64 ≤ p.val / 64 then 1#1 else 0#1 := by
  unfold maskBits
  rw [cmpi_apply, rowChunk_apply, colChunk_apply]
  revert p q; decide +kernel

/-- A select on the mask. -/
theorem select_mask {α : Type} (p q : Fin 128) (a b : α) :
    Scalar.select (maskBits (ix2 p q)) a b = if q.val / 64 ≤ p.val / 64 then a else b := by
  rw [maskBits_apply]; split_ifs <;> rfl

/-- A piece of 256 columns at head `k` of a zero row. -/
def piece (k : ℕ) (n : Fin 2048) (f : Fin 256 → EReal) : EReal :=
  if h : k * 256 ≤ n.val ∧ n.val < k * 256 + 256 then f ⟨n.val - k * 256, by omega⟩ else 0

theorem piece_self (h : Fin 8) (j : Fin 256) (f : Fin 256 → EReal) : piece h.val (col h j) f = f j := by
  have hj := j.isLt
  unfold piece col
  rw [dif_pos (by constructor <;> simp only <;> omega)]
  exact congrArg f (Fin.ext (by simp only; omega))

theorem piece_ne (k : ℕ) (h : Fin 8) (j : Fin 256) (f : Fin 256 → EReal) (hk : k ≠ h.val) : piece k (col h j) f = 0 := by
  have hj := j.isLt
  unfold piece col
  rw [dif_neg]
  simp only
  omega

theorem piece_in (k : ℕ) (n : Fin 2048) (f : Fin 256 → EReal) (h₀ : k * 256 ≤ n.val) (h₁ : n.val < k * 256 + 256) :
    piece k n f = f ⟨n.val - k * 256, by omega⟩ := dif_pos ⟨h₀, h₁⟩

theorem piece_out (k : ℕ) (n : Fin 2048) (f : Fin 256 → EReal) (h : n.val < k * 256 ∨ k * 256 + 256 ≤ n.val) : piece k n f = 0 :=
  dif_neg (by omega)

/-- The value at head `k` of a zero stack. -/
def slab (k : ℕ) (h : Fin 8) (v : EReal) : EReal := if h.val = k then v else 0

variable (ws : Vec Ideal S8x128x128 .f32) (bs : Vec Ideal S8x128x1 .f32) (u vn : Vec Ideal S128x2048 .f32) (d : Vec Ideal S128x2048 .bf16)

/-- The masked weight of head `h`. -/
def weight (h : Fin 8) (p q : Fin 128) : EReal := if q.val / 64 ≤ p.val / 64 then ws (ix3 h p q) else 0

/-- The spatial product of head `h`, with its offset. -/
def spatial (h : Fin 8) (p : Fin 128) (j : Fin 256) : EReal :=
  (∑ q : Fin 128, weight ws h p q * vn (ix2 q (col h j))) + bs (ix3 h p 0)

theorem weight_0 (p q : Fin 128) : (k0_pay26 ws k0_pay20 (iota Kind.tc S128x128 32 [1] iota_S128x128_d1_w32) (64#32) k0_pay21 k0_pay22 k0_pay23) (ix2 p q) = weight ws 0 p q := by
  unfold k0_pay26 k0_pay25; pointwise; exact select_mask p q _ _

theorem weight_1 (p q : Fin 128) : (k0_pay31 ws k0_pay20 (iota Kind.tc S128x128 32 [1] iota_S128x128_d1_w32) (64#32) k0_pay21 k0_pay22 k0_pay23) (ix2 p q) = weight ws 1 p q := by
  unfold k0_pay31 k0_pay30; pointwise; exact select_mask p q _ _

theorem weight_2 (p q : Fin 128) : (k0_pay36 ws k0_pay20 (iota Kind.tc S128x128 32 [1] iota_S128x128_d1_w32) (64#32) k0_pay21 k0_pay22 k0_pay23) (ix2 p q) = weight ws 2 p q := by
  unfold k0_pay36 k0_pay35; pointwise; exact select_mask p q _ _

theorem weight_3 (p q : Fin 128) : (k0_pay41 ws k0_pay20 colChunk) (ix2 p q) = weight ws 3 p q := by
  unfold k0_pay41 k0_pay40; pointwise; exact select_mask p q _ _

theorem weight_4 (p q : Fin 128) : (k0_pay46 ws k0_pay20 colChunk) (ix2 p q) = weight ws 4 p q := by
  unfold k0_pay46 k0_pay45; pointwise; exact select_mask p q _ _

theorem weight_5 (p q : Fin 128) : (k0_pay51 ws k0_pay20 colChunk) (ix2 p q) = weight ws 5 p q := by
  unfold k0_pay51 k0_pay50; pointwise; exact select_mask p q _ _

theorem weight_6 (p q : Fin 128) : (k0_pay57 (k0_pay55 k0_pay20 colChunk) (k0_pay56 ws)) (ix2 p q) = weight ws 6 p q := by
  unfold k0_pay57 k0_pay55 k0_pay56; pointwise; exact select_mask p q _ _

theorem weight_7 (p q : Fin 128) : (k0_pay62 ws k0_pay20 colChunk) (ix2 p q) = weight ws 7 p q := by
  unfold k0_pay62 k0_pay61; pointwise; exact select_mask p q _ _

theorem spatial_0 (p : Fin 128) (j : Fin 256) : (k0_pay28 ws bs vn k0_pay20 (iota Kind.tc S128x128 32 [1] iota_S128x128_d1_w32) (64#32) k0_pay21 k0_pay22 k0_pay23) (ix2 p j) = spatial ws bs vn 0 p j := by
  unfold k0_pay28 k0_pay27; pointwise
  exact congrArg (· + bs (ix3 0 p 0)) (Finset.sum_congr rfl fun q _ => congrArg₂ (· * ·) (weight_0 ws p q)
    (congrArg (fun k => vn (ix2 q k)) (Fin.ext (by change j.val = 0 * 256 + j.val; omega))))

theorem spatial_1 (p : Fin 128) (j : Fin 256) : (k0_pay33 ws bs vn k0_pay20 (iota Kind.tc S128x128 32 [1] iota_S128x128_d1_w32) (64#32) k0_pay21 k0_pay22 k0_pay23) (ix2 p j) = spatial ws bs vn 1 p j := by
  unfold k0_pay33 k0_pay32; pointwise
  exact congrArg (· + bs (ix3 1 p 0)) (Finset.sum_congr rfl fun q _ => congrArg₂ (· * ·) (weight_1 ws p q)
    (congrArg (fun k => vn (ix2 q k)) (Fin.ext (by change 256 + j.val = 1 * 256 + j.val; omega))))

theorem spatial_2 (p : Fin 128) (j : Fin 256) : (k0_pay38 bs vn (k0_pay36 ws k0_pay20 (iota Kind.tc S128x128 32 [1] iota_S128x128_d1_w32) (64#32) k0_pay21 k0_pay22 k0_pay23)) (ix2 p j) = spatial ws bs vn 2 p j := by
  unfold k0_pay38 k0_pay37; pointwise
  exact congrArg (· + bs (ix3 2 p 0)) (Finset.sum_congr rfl fun q _ => congrArg₂ (· * ·) (weight_2 ws p q)
    (congrArg (fun k => vn (ix2 q k)) (Fin.ext (by change 512 + j.val = 2 * 256 + j.val; omega))))

theorem spatial_3 (p : Fin 128) (j : Fin 256) : (k0_pay43 ws bs vn k0_pay20 colChunk) (ix2 p j) = spatial ws bs vn 3 p j := by
  unfold k0_pay43 k0_pay42; pointwise
  exact congrArg (· + bs (ix3 3 p 0)) (Finset.sum_congr rfl fun q _ => congrArg₂ (· * ·) (weight_3 ws p q)
    (congrArg (fun k => vn (ix2 q k)) (Fin.ext (by change 768 + j.val = 3 * 256 + j.val; omega))))

theorem spatial_4 (p : Fin 128) (j : Fin 256) : (k0_pay48 ws bs vn k0_pay20 colChunk) (ix2 p j) = spatial ws bs vn 4 p j := by
  unfold k0_pay48 k0_pay47; pointwise
  exact congrArg (· + bs (ix3 4 p 0)) (Finset.sum_congr rfl fun q _ => congrArg₂ (· * ·) (weight_4 ws p q)
    (congrArg (fun k => vn (ix2 q k)) (Fin.ext (by change 1024 + j.val = 4 * 256 + j.val; omega))))

theorem spatial_5 (p : Fin 128) (j : Fin 256) : (k0_pay53 ws bs vn k0_pay20 colChunk) (ix2 p j) = spatial ws bs vn 5 p j := by
  unfold k0_pay53 k0_pay52; pointwise
  exact congrArg (· + bs (ix3 5 p 0)) (Finset.sum_congr rfl fun q _ => congrArg₂ (· * ·) (weight_5 ws p q)
    (congrArg (fun k => vn (ix2 q k)) (Fin.ext (by change 1280 + j.val = 5 * 256 + j.val; omega))))

theorem spatial_6 (p : Fin 128) (j : Fin 256) : (k0_pay59 bs vn (k0_pay55 k0_pay20 colChunk) (k0_pay56 ws)) (ix2 p j) = spatial ws bs vn 6 p j := by
  unfold k0_pay59 k0_pay58; pointwise
  exact congrArg (· + bs (ix3 6 p 0)) (Finset.sum_congr rfl fun q _ => congrArg₂ (· * ·) (weight_6 ws p q)
    (congrArg (fun k => vn (ix2 q k)) (Fin.ext (by change 1536 + j.val = 6 * 256 + j.val; omega))))

theorem pay79 (s e : FVec Ideal S128x256 .f32) (a : FVec Ideal S128x2048 .f32) (p : Fin 128) (n : Fin 2048) : k0_pay79 s e a (ix2 p n) = a (ix2 p n) + piece 6 n (fun j => e (ix2 p j) * s (ix2 p j)) := by
  have hn := n.isLt
  unfold k0_pay79; pointwise
  split_ifs
  all_goals try (exfalso; omega)
  all_goals first | rw [piece_in 6 n _ (by omega) (by omega)] | rw [piece_out 6 n _ (by omega)]
  all_goals first | rfl | (simp only [add_zero, zero_add] <;> rfl)

theorem pay88 (s e s5 e5 : FVec Ideal S128x256 .f32) (a : FVec Ideal S128x2048 .f32) (p : Fin 128) (n : Fin 2048) : k0_pay88 s e a (FloatOps.ofBits FTy.f32 0#32) (k0_pay84 s5 e5) (ix2 p n) = a (ix2 p n) + piece 5 n (fun j => e5 (ix2 p j) * s5 (ix2 p j)) + piece 4 n (fun j => e (ix2 p j) * s (ix2 p j)) := by
  have hn := n.isLt
  unfold k0_pay88 k0_pay84; pointwise
  split_ifs
  all_goals try (exfalso; omega)
  all_goals first | rw [piece_in 5 n _ (by omega) (by omega)] | rw [piece_out 5 n _ (by omega)]
  all_goals first | rw [piece_in 4 n _ (by omega) (by omega)] | rw [piece_out 4 n _ (by omega)]
  all_goals first | rfl | (simp only [add_zero, zero_add] <;> rfl)

theorem pay93 (s e : FVec Ideal S128x256 .f32) (a : FVec Ideal S128x2048 .f32) (p : Fin 128) (n : Fin 2048) : k0_pay93 s e a (ix2 p n) = a (ix2 p n) + piece 3 n (fun j => e (ix2 p j) * s (ix2 p j)) := by
  have hn := n.isLt
  unfold k0_pay93; pointwise
  split_ifs
  all_goals try (exfalso; omega)
  all_goals first | rw [piece_in 3 n _ (by omega) (by omega)] | rw [piece_out 3 n _ (by omega)]
  all_goals first | rfl | (simp only [add_zero, zero_add] <;> rfl)

theorem pay103 (s1 s2 e1 e2 : FVec Ideal S128x256 .f32) (a : FVec Ideal S128x2048 .f32) (p : Fin 128) (n : Fin 2048) : k0_pay103 s1 s2 e1 e2 a (ix2 p n) = a (ix2 p n) + piece 2 n (fun j => e2 (ix2 p j) * s2 (ix2 p j)) + piece 1 n (fun j => e1 (ix2 p j) * s1 (ix2 p j)) := by
  have hn := n.isLt
  unfold k0_pay103; pointwise
  split_ifs
  all_goals try (exfalso; omega)
  all_goals first | rw [piece_in 2 n _ (by omega) (by omega)] | rw [piece_out 2 n _ (by omega)]
  all_goals first | rw [piece_in 1 n _ (by omega) (by omega)] | rw [piece_out 1 n _ (by omega)]
  all_goals first | rfl | (simp only [add_zero, zero_add] <;> rfl)

theorem pay107 (s e : FVec Ideal S128x256 .f32) (a : FVec Ideal S128x2048 .f32) (p : Fin 128) (n : Fin 2048) : k0_pay107 s e a (ix2 p n) = a (ix2 p n) + piece 0 n (fun j => e (ix2 p j) * s (ix2 p j)) := by
  have hn := n.isLt
  unfold k0_pay107; pointwise
  split_ifs
  all_goals try (exfalso; omega)
  all_goals first | rw [piece_in 0 n _ (by omega) (by omega)] | rw [piece_out 0 n _ (by omega)]
  all_goals first | rfl | (simp only [add_zero, zero_add] <;> rfl)

theorem pay74 (p : Fin 128) (n : Fin 2048) : k0_pay74 ws bs vn k0_pay20 colChunk d (ix2 p n)
    = piece 7 n (fun j => d (ix2 p (col 7 j)) * spatial ws bs vn 7 p j) := by
  have hn := n.isLt
  unfold k0_pay74 k0_pay72 k0_pay64 k0_pay63; pointwise; simp only [weight_7]
  split_ifs
  all_goals try (exfalso; omega)
  all_goals first | rw [piece_in 7 n _ (by omega) (by omega)] | rw [piece_out 7 n _ (by omega)]
  all_goals first | rfl | (simp only [add_zero, zero_add] <;> rfl)

/-- A product of head 7, transposed. -/
theorem pay76 (p : Fin 128) (j : Fin 256) : k0_pay76 ws u k0_pay20 colChunk d (ix2 p j)
    = ∑ r : Fin 128, u (ix2 r (col 7 j)) * d (ix2 r (col 7 j)) * weight ws 7 r p := by
  unfold k0_pay76 k0_pay73 k0_pay72 k0_pay64; pointwise; simp only [weight_7]; rfl

theorem pay81 (w : FVec Ideal S128x128 .bf16) (s e : FVec Ideal S128x256 .f32) (f : FVec Ideal S128x256 .bf16) (p : Fin 128) (n : Fin 2048) : k0_pay81 w s e f (ix2 p n) = piece 7 n (fun j => f (ix2 p j)) + piece 6 n (fun j => ∑ r : Fin 128, (s (ix2 r j) * e (ix2 r j)) * w (ix2 r p)) := by
  have hn := n.isLt
  unfold k0_pay81 k0_pay78; pointwise
  split_ifs
  all_goals try (exfalso; omega)
  all_goals first | rw [piece_in 7 n _ (by omega) (by omega)] | rw [piece_out 7 n _ (by omega)]
  all_goals first | rw [piece_in 6 n _ (by omega) (by omega)] | rw [piece_out 6 n _ (by omega)]
  all_goals first | rfl | (simp only [add_zero, zero_add] <;> rfl)

theorem pay85 (w : FVec Ideal S128x128 .bf16) (a : FVec Ideal S128x2048 .f32) (s : FVec Ideal S128x256 .f32) (p : Fin 128) (n : Fin 2048) : k0_pay85 w a s (ix2 p n) = a (ix2 p n) + piece 5 n (fun j => ∑ r : Fin 128, s (ix2 r j) * w (ix2 r p)) := by
  have hn := n.isLt
  unfold k0_pay85; pointwise
  split_ifs
  all_goals try (exfalso; omega)
  all_goals first | rw [piece_in 5 n _ (by omega) (by omega)] | rw [piece_out 5 n _ (by omega)]
  all_goals first | rfl | (simp only [add_zero, zero_add] <;> rfl)

theorem pay90 (w : FVec Ideal S128x128 .bf16) (s e : FVec Ideal S128x256 .f32) (p : Fin 128) (j : Fin 256) : k0_pay90 w s e (ix2 p j)
    = ∑ r : Fin 128, (s (ix2 r j) * e (ix2 r j)) * w (ix2 r p) := by
  unfold k0_pay90 k0_pay87; pointwise

theorem pay95 (w : FVec Ideal S128x128 .bf16) (s e : FVec Ideal S128x256 .f32) (a : FVec Ideal S128x2048 .f32) (f : FVec Ideal S128x256 .bf16) (p : Fin 128) (n : Fin 2048) : k0_pay95 w s e a f (ix2 p n) = a (ix2 p n) + piece 4 n (fun j => f (ix2 p j)) + piece 3 n (fun j => ∑ r : Fin 128, (s (ix2 r j) * e (ix2 r j)) * w (ix2 r p)) := by
  have hn := n.isLt
  unfold k0_pay95 k0_pay92; pointwise
  split_ifs
  all_goals try (exfalso; omega)
  all_goals first | rw [piece_in 4 n _ (by omega) (by omega)] | rw [piece_out 4 n _ (by omega)]
  all_goals first | rw [piece_in 3 n _ (by omega) (by omega)] | rw [piece_out 3 n _ (by omega)]
  all_goals first | rfl | (simp only [add_zero, zero_add] <;> rfl)

theorem pay100 (w : FVec Ideal S128x128 .bf16) (s e : FVec Ideal S128x256 .f32) (a : FVec Ideal S128x2048 .f32) (p : Fin 128) (n : Fin 2048) : k0_pay100 w s e a (ix2 p n) = a (ix2 p n) + piece 2 n (fun j => ∑ r : Fin 128, (s (ix2 r j) * e (ix2 r j)) * w (ix2 r p)) := by
  have hn := n.isLt
  unfold k0_pay100 k0_pay98; pointwise
  split_ifs
  all_goals try (exfalso; omega)
  all_goals first | rw [piece_in 2 n _ (by omega) (by omega)] | rw [piece_out 2 n _ (by omega)]
  all_goals first | rfl | (simp only [add_zero, zero_add] <;> rfl)

theorem pay109 (w w1 : FVec Ideal S128x128 .bf16) (s e s1 : FVec Ideal S128x256 .f32) (a : FVec Ideal S128x2048 .f32) (p : Fin 128) (n : Fin 2048) : k0_pay109 w s w1 e a s1 (ix2 p n) = a (ix2 p n) + piece 1 n (fun j => ∑ r : Fin 128, s1 (ix2 r j) * w1 (ix2 r p)) + piece 0 n (fun j => ∑ r : Fin 128, (s (ix2 r j) * e (ix2 r j)) * w (ix2 r p)) := by
  have hn := n.isLt
  unfold k0_pay109 k0_pay106; pointwise
  split_ifs
  all_goals try (exfalso; omega)
  all_goals first | rw [piece_in 1 n _ (by omega) (by omega)] | rw [piece_out 1 n _ (by omega)]
  all_goals first | rw [piece_in 0 n _ (by omega) (by omega)] | rw [piece_out 0 n _ (by omega)]
  all_goals first | rfl | (simp only [add_zero, zero_add] <;> rfl)

theorem pay75 (h : Fin 8) (p : Fin 128) : k0_pay75 u d (ix3 h p 0)
    = slab 7 h (∑ j : Fin 256, u (ix2 p (col 7 j)) * d (ix2 p (col 7 j))) := by
  unfold k0_pay75 k0_pay73 k0_pay72 k0_pay64; pointwise
  unfold slab
  fin_cases h <;> simp <;> rfl

theorem pay80 (s e : FVec Ideal S128x256 .f32) (a : FVec Ideal S8x128x1 .f32) (h : Fin 8) (p : Fin 128) : k0_pay80 s e a (ix3 h p 0) = a (ix3 h p 0) + slab 6 h (∑ j : Fin 256, s (ix2 p j) * e (ix2 p j)) := by
  unfold k0_pay80 k0_pay78; pointwise
  unfold slab
  fin_cases h <;> simp

theorem pay89 (s e s5 : FVec Ideal S128x256 .f32) (a : FVec Ideal S8x128x1 .f32) (h : Fin 8) (p : Fin 128) : k0_pay89 s e a s5 (ix3 h p 0) = a (ix3 h p 0) + slab 5 h (∑ j : Fin 256, s5 (ix2 p j)) + slab 4 h (∑ j : Fin 256, s (ix2 p j) * e (ix2 p j)) := by
  unfold k0_pay89 k0_pay87; pointwise
  unfold slab
  fin_cases h <;> simp

theorem pay94 (s e : FVec Ideal S128x256 .f32) (a : FVec Ideal S8x128x1 .f32) (h : Fin 8) (p : Fin 128) : k0_pay94 s e a (ix3 h p 0) = a (ix3 h p 0) + slab 3 h (∑ j : Fin 256, s (ix2 p j) * e (ix2 p j)) := by
  unfold k0_pay94 k0_pay92; pointwise
  unfold slab
  fin_cases h <;> simp

theorem pay99 (s e : FVec Ideal S128x256 .f32) (a : FVec Ideal S8x128x1 .f32) (h : Fin 8) (p : Fin 128) : k0_pay99 s e a (ix3 h p 0) = a (ix3 h p 0) + slab 2 h (∑ j : Fin 256, s (ix2 p j) * e (ix2 p j)) := by
  unfold k0_pay99 k0_pay98; pointwise
  unfold slab
  fin_cases h <;> simp

theorem pay108 (s e s1 e1 : FVec Ideal S128x256 .f32) (a : FVec Ideal S8x128x1 .f32) (h : Fin 8) (p : Fin 128) : k0_pay108 s e a (k0_pay104 s1 e1) (FloatOps.ofBits FTy.f32 0#32) (ix3 h p 0) = a (ix3 h p 0) + slab 1 h (∑ j : Fin 256, s1 (ix2 p j) * e1 (ix2 p j)) + slab 0 h (∑ j : Fin 256, s (ix2 p j) * e (ix2 p j)) := by
  unfold k0_pay108 k0_pay106 k0_pay104 k0_pay102; pointwise
  unfold slab
  fin_cases h <;> simp

theorem pay77 (p q : Fin 128) : k0_pay77 u vn d (ix2 p q)
    = ∑ j : Fin 256, u (ix2 p (col 7 j)) * d (ix2 p (col 7 j)) * vn (ix2 q (col 7 j)) := by
  unfold k0_pay77 k0_pay73 k0_pay72 k0_pay64 k0_pay63; pointwise; rfl

theorem pay82 (m6 m7 : IVec S128x128 1) (v : FVec Ideal S128x256 .bf16) (s e : FVec Ideal S128x256 .f32) (f : FVec Ideal S128x128 .bf16) (h : Fin 8) (p : Fin 128) (q : Fin 128) : k0_pay82 m6 v s m7 e f (ix3 h p q) = slab 7 h (Scalar.select (m7 (ix2 p q)) (f (ix2 p q)) 0) + slab 6 h (Scalar.select (m6 (ix2 p q)) (∑ j : Fin 256, s (ix2 p j) * e (ix2 p j) * v (ix2 q j)) 0) := by
  unfold k0_pay82 k0_pay78; pointwise
  unfold slab
  fin_cases h <;> simp

theorem pay86 (m5 : IVec S128x128 1) (v : FVec Ideal S128x256 .bf16) (s : FVec Ideal S128x256 .f32) (a : FVec Ideal S8x128x128 .f32) (h : Fin 8) (p : Fin 128) (q : Fin 128) : k0_pay86 m5 v a s (ix3 h p q) = a (ix3 h p q) + slab 5 h (Scalar.select (m5 (ix2 p q)) (∑ j : Fin 256, s (ix2 p j) * v (ix2 q j)) 0) := by
  unfold k0_pay86; pointwise
  unfold slab
  fin_cases h <;> simp

theorem pay91 (m4 : IVec S128x128 1) (v : FVec Ideal S128x256 .bf16) (s : FVec Ideal S128x256 .f32) (a : FVec Ideal S8x128x128 .f32) (h : Fin 8) (p : Fin 128) (q : Fin 128) : k0_pay91 m4 v a s (ix3 h p q) = a (ix3 h p q) + slab 4 h (Scalar.select (m4 (ix2 p q)) (∑ j : Fin 256, s (ix2 p j) * v (ix2 q j)) 0) := by
  unfold k0_pay91; pointwise
  unfold slab
  fin_cases h <;> simp

theorem pay101 (m2 m3 : IVec S128x128 1) (v v3 : FVec Ideal S128x256 .bf16) (s e s3 e3 : FVec Ideal S128x256 .f32) (a : FVec Ideal S8x128x128 .f32) (h : Fin 8) (p : Fin 128) (q : Fin 128) : k0_pay101 m2 v s e a (k0_pay96 m3 v3 s3 e3) (FloatOps.ofBits FTy.f32 0#32) k0_pay97 (ix3 h p q) = a (ix3 h p q) + slab 3 h (Scalar.select (m3 (ix2 p q)) (∑ j : Fin 256, s3 (ix2 p j) * e3 (ix2 p j) * v3 (ix2 q j)) 0) + slab 2 h (Scalar.select (m2 (ix2 p q)) (∑ j : Fin 256, s (ix2 p j) * e (ix2 p j) * v (ix2 q j)) 0) := by
  unfold k0_pay101 k0_pay96 k0_pay97 k0_pay98 k0_pay92; pointwise
  unfold slab
  fin_cases h <;> simp

theorem pay105 (m1 : IVec S128x128 1) (v : FVec Ideal S128x256 .bf16) (s : FVec Ideal S128x256 .f32) (a : FVec Ideal S8x128x128 .f32) (h : Fin 8) (p : Fin 128) (q : Fin 128) : k0_pay105 m1 v a s (ix3 h p q) = a (ix3 h p q) + slab 1 h (Scalar.select (m1 (ix2 p q)) (∑ j : Fin 256, s (ix2 p j) * v (ix2 q j)) 0) := by
  unfold k0_pay105; pointwise
  unfold slab
  fin_cases h <;> simp

theorem pay111 (m0 : IVec S128x128 1) (v : FVec Ideal S128x256 .bf16) (s e : FVec Ideal S128x256 .f32) (a : FVec Ideal S8x128x128 .f32) (h : Fin 8) (p : Fin 128) (q : Fin 128) : k0_pay111 a (k0_pay110 m0 v s e) (ix3 h p q) = a (ix3 h p q) + slab 0 h (Scalar.select (m0 (ix2 p q)) (∑ j : Fin 256, s (ix2 p j) * e (ix2 p j) * v (ix2 q j)) 0) := by
  unfold k0_pay111 k0_pay110 k0_pay106; pointwise
  unfold slab
  fin_cases h <;> simp

end Cert.Gm
-- ==== Proof.Gm.Compose.lean ====
/-
  The four head-by-head arrays of the spatial gating mixer's backward.

  Each is the sum of eight padded pieces; at an entry of head `h` it is that head's piece.
-/
module

public import proofs.«01_k».proof.Proof.Gm.Heads

@[expose] public section

set_option maxRecDepth 4000

noncomputable section

namespace Cert.Gm

open Idealize.ShloMosaic Idealize.ShloMosaic.TcCoe Idealize.SL.Sem
open Cert.KernelIdeal Cert.KernelIdeal.Gen

variable (ws : Vec Ideal S8x128x128 .f32) (bs : Vec Ideal S8x128x1 .f32) (u vn : Vec Ideal S128x2048 .f32) (d : Vec Ideal S128x2048 .bf16)

/-! The columns of one head, cut out of an array. -/

theorem pay29 (p : Fin 128) (j : Fin 256) : k0_pay29 (F := Ideal) u (ix2 p j) = u (ix2 p (col 0 j)) := by
  unfold k0_pay29; pointwise
  exact congrArg (fun k => u (ix2 p k)) (Fin.ext (by change j.val = 0 * 256 + j.val; omega))

theorem pay34 (p : Fin 128) (j : Fin 256) : k0_pay34 (F := Ideal) u (ix2 p j) = u (ix2 p (col 1 j)) := by
  unfold k0_pay34; pointwise
  exact congrArg (fun k => u (ix2 p k)) (Fin.ext (by change 256 + j.val = 1 * 256 + j.val; omega))

theorem pay39 (p : Fin 128) (j : Fin 256) : k0_pay39 (F := Ideal) u (ix2 p j) = u (ix2 p (col 2 j)) := by
  unfold k0_pay39; pointwise
  exact congrArg (fun k => u (ix2 p k)) (Fin.ext (by change 512 + j.val = 2 * 256 + j.val; omega))

theorem pay44 (p : Fin 128) (j : Fin 256) : k0_pay44 (F := Ideal) u (ix2 p j) = u (ix2 p (col 3 j)) := by
  unfold k0_pay44; pointwise
  exact congrArg (fun k => u (ix2 p k)) (Fin.ext (by change 768 + j.val = 3 * 256 + j.val; omega))

theorem pay49 (p : Fin 128) (j : Fin 256) : k0_pay49 (F := Ideal) u (ix2 p j) = u (ix2 p (col 4 j)) := by
  unfold k0_pay49; pointwise
  exact congrArg (fun k => u (ix2 p k)) (Fin.ext (by change 1024 + j.val = 4 * 256 + j.val; omega))

theorem pay54 (p : Fin 128) (j : Fin 256) : k0_pay54 (F := Ideal) u (ix2 p j) = u (ix2 p (col 5 j)) := by
  unfold k0_pay54; pointwise
  exact congrArg (fun k => u (ix2 p k)) (Fin.ext (by change 1280 + j.val = 5 * 256 + j.val; omega))

theorem pay60 (p : Fin 128) (j : Fin 256) : k0_pay60 (F := Ideal) u (ix2 p j) = u (ix2 p (col 6 j)) := by
  unfold k0_pay60; pointwise
  exact congrArg (fun k => u (ix2 p k)) (Fin.ext (by change 1536 + j.val = 6 * 256 + j.val; omega))

theorem pay65 (p : Fin 128) (j : Fin 256) : k0_pay65 (F := Ideal) d (ix2 p j) = d (ix2 p (col 0 j)) := by
  unfold k0_pay65; pointwise
  exact congrArg (fun k => d (ix2 p k)) (Fin.ext (by change j.val = 0 * 256 + j.val; omega))

theorem pay66 (p : Fin 128) (j : Fin 256) : k0_pay66 (F := Ideal) d (ix2 p j) = d (ix2 p (col 1 j)) := by
  unfold k0_pay66; pointwise
  exact congrArg (fun k => d (ix2 p k)) (Fin.ext (by change 256 + j.val = 1 * 256 + j.val; omega))

theorem pay67 (p : Fin 128) (j : Fin 256) : k0_pay67 (F := Ideal) d (ix2 p j) = d (ix2 p (col 2 j)) := by
  unfold k0_pay67; pointwise
  exact congrArg (fun k => d (ix2 p k)) (Fin.ext (by change 512 + j.val = 2 * 256 + j.val; omega))

theorem pay68 (p : Fin 128) (j : Fin 256) : k0_pay68 (F := Ideal) d (ix2 p j) = d (ix2 p (col 3 j)) := by
  unfold k0_pay68; pointwise
  exact congrArg (fun k => d (ix2 p k)) (Fin.ext (by change 768 + j.val = 3 * 256 + j.val; omega))

theorem pay69 (p : Fin 128) (j : Fin 256) : k0_pay69 (F := Ideal) d (ix2 p j) = d (ix2 p (col 4 j)) := by
  unfold k0_pay69; pointwise
  exact congrArg (fun k => d (ix2 p k)) (Fin.ext (by change 1024 + j.val = 4 * 256 + j.val; omega))

theorem pay70 (p : Fin 128) (j : Fin 256) : k0_pay70 (F := Ideal) d (ix2 p j) = d (ix2 p (col 5 j)) := by
  unfold k0_pay70; pointwise
  exact congrArg (fun k => d (ix2 p k)) (Fin.ext (by change 1280 + j.val = 5 * 256 + j.val; omega))

theorem pay71 (p : Fin 128) (j : Fin 256) : k0_pay71 (F := Ideal) d (ix2 p j) = d (ix2 p (col 6 j)) := by
  unfold k0_pay71; pointwise
  exact congrArg (fun k => d (ix2 p k)) (Fin.ext (by change 1536 + j.val = 6 * 256 + j.val; omega))

theorem pay27 (p : Fin 128) (j : Fin 256) : k0_pay27 (F := Ideal) vn (ix2 p j) = vn (ix2 p (col 0 j)) := by
  unfold k0_pay27; pointwise
  exact congrArg (fun k => vn (ix2 p k)) (Fin.ext (by change j.val = 0 * 256 + j.val; omega))

theorem pay32 (p : Fin 128) (j : Fin 256) : k0_pay32 (F := Ideal) vn (ix2 p j) = vn (ix2 p (col 1 j)) := by
  unfold k0_pay32; pointwise
  exact congrArg (fun k => vn (ix2 p k)) (Fin.ext (by change 256 + j.val = 1 * 256 + j.val; omega))

theorem pay37 (p : Fin 128) (j : Fin 256) : k0_pay37 (F := Ideal) vn (ix2 p j) = vn (ix2 p (col 2 j)) := by
  unfold k0_pay37; pointwise
  exact congrArg (fun k => vn (ix2 p k)) (Fin.ext (by change 512 + j.val = 2 * 256 + j.val; omega))

theorem pay42 (p : Fin 128) (j : Fin 256) : k0_pay42 (F := Ideal) vn (ix2 p j) = vn (ix2 p (col 3 j)) := by
  unfold k0_pay42; pointwise
  exact congrArg (fun k => vn (ix2 p k)) (Fin.ext (by change 768 + j.val = 3 * 256 + j.val; omega))

theorem pay47 (p : Fin 128) (j : Fin 256) : k0_pay47 (F := Ideal) vn (ix2 p j) = vn (ix2 p (col 4 j)) := by
  unfold k0_pay47; pointwise
  exact congrArg (fun k => vn (ix2 p k)) (Fin.ext (by change 1024 + j.val = 4 * 256 + j.val; omega))

theorem pay52 (p : Fin 128) (j : Fin 256) : k0_pay52 (F := Ideal) vn (ix2 p j) = vn (ix2 p (col 5 j)) := by
  unfold k0_pay52; pointwise
  exact congrArg (fun k => vn (ix2 p k)) (Fin.ext (by change 1280 + j.val = 5 * 256 + j.val; omega))

theorem pay58 (p : Fin 128) (j : Fin 256) : k0_pay58 (F := Ideal) vn (ix2 p j) = vn (ix2 p (col 6 j)) := by
  unfold k0_pay58; pointwise
  exact congrArg (fun k => vn (ix2 p k)) (Fin.ext (by change 1536 + j.val = 6 * 256 + j.val; omega))

theorem pay83 (s e : FVec Ideal S128x256 .f32) (p : Fin 128) (j : Fin 256) : k0_pay83 s e (ix2 p j) = s (ix2 p j) * e (ix2 p j) := by
  unfold k0_pay83; pointwise

theorem pay87 (s e : FVec Ideal S128x256 .f32) (p : Fin 128) (j : Fin 256) : k0_pay87 s e (ix2 p j) = s (ix2 p j) * e (ix2 p j) := by
  unfold k0_pay87; pointwise

theorem pay102 (s e : FVec Ideal S128x256 .f32) (p : Fin 128) (j : Fin 256) : k0_pay102 s e (ix2 p j) = s (ix2 p j) * e (ix2 p j) := by
  unfold k0_pay102; pointwise

theorem piece_col (k : ℕ) (h : Fin 8) (j : Fin 256) (f : Fin 256 → EReal) : piece k (col h j) f = if h.val = k then f j else 0 := by
  split_ifs with hk
  · subst hk; exact piece_self h j f
  · exact piece_ne k h j f (Ne.symm hk)

/-- The spatial product of head 0, with its offset. -/
def spatial0 : FVec Ideal S128x256 .f32 := k0_pay28 ws bs vn k0_pay20 (iota Kind.tc S128x128 32 [1] iota_S128x128_d1_w32) (64#32) k0_pay21 k0_pay22 k0_pay23

theorem spatial0_apply (p : Fin 128) (j : Fin 256) : spatial0 ws bs vn (ix2 p j) = spatial ws bs vn 0 p j := spatial_0 ws bs vn p j

/-- The spatial product of head 1, with its offset. -/
def spatial1 : FVec Ideal S128x256 .f32 := k0_pay33 ws bs vn k0_pay20 (iota Kind.tc S128x128 32 [1] iota_S128x128_d1_w32) (64#32) k0_pay21 k0_pay22 k0_pay23

theorem spatial1_apply (p : Fin 128) (j : Fin 256) : spatial1 ws bs vn (ix2 p j) = spatial ws bs vn 1 p j := spatial_1 ws bs vn p j

/-- The masked weights of head 0. -/
def weight0 : FVec Ideal S128x128 .bf16 := k0_pay26 ws k0_pay20 (iota Kind.tc S128x128 32 [1] iota_S128x128_d1_w32) (64#32) k0_pay21 k0_pay22 k0_pay23

theorem weight0_apply (p q : Fin 128) : weight0 ws (ix2 p q) = weight ws 0 p q := weight_0 ws p q

/-- The masked weights of head 1. -/
def weight1 : FVec Ideal S128x128 .bf16 := k0_pay31 ws k0_pay20 (iota Kind.tc S128x128 32 [1] iota_S128x128_d1_w32) (64#32) k0_pay21 k0_pay22 k0_pay23

theorem weight1_apply (p q : Fin 128) : weight1 ws (ix2 p q) = weight ws 1 p q := weight_1 ws p q

/-- The masked weights of head 2. -/
def weight2 : FVec Ideal S128x128 .bf16 := k0_pay36 ws k0_pay20 (iota Kind.tc S128x128 32 [1] iota_S128x128_d1_w32) (64#32) k0_pay21 k0_pay22 k0_pay23

theorem weight2_apply (p q : Fin 128) : weight2 ws (ix2 p q) = weight ws 2 p q := weight_2 ws p q

theorem spatial2_apply (p : Fin 128) (j : Fin 256) : k0_pay38 bs vn (weight2 ws) (ix2 p j) = spatial ws bs vn 2 p j := spatial_2 ws bs vn p j

/-- The gradient of the gate's first factor. -/
def gateGrad : FVec Ideal S128x2048 .f32 :=
  k0_pay107 (spatial0 ws bs vn) (k0_pay65 d)
    (k0_pay103 (spatial1 ws bs vn) (k0_pay38 bs vn (weight2 ws)) (k0_pay66 d) (k0_pay67 d)
      (k0_pay93 (k0_pay43 ws bs vn k0_pay20 colChunk) (k0_pay68 d)
        (k0_pay88 (k0_pay48 ws bs vn k0_pay20 colChunk) (k0_pay69 d)
          (k0_pay79 (k0_pay59 bs vn (k0_pay55 k0_pay20 colChunk) (k0_pay56 ws)) (k0_pay71 d) (k0_pay74 ws bs vn k0_pay20 colChunk d))
          (FloatOps.ofBits FTy.f32 0#32) (k0_pay84 (k0_pay53 ws bs vn k0_pay20 colChunk) (k0_pay70 d)))))

/-- The gradient of the normalised rows. -/
def normGrad : FVec Ideal S128x2048 .f32 :=
  k0_pay109 (weight0 ws) (k0_pay29 u) (weight1 ws) (k0_pay65 d)
    (k0_pay100 (weight2 ws) (k0_pay39 u) (k0_pay67 d)
      (k0_pay95 (k0_pay41 ws k0_pay20 colChunk) (k0_pay44 u) (k0_pay68 d)
        (k0_pay85 (k0_pay51 ws k0_pay20 colChunk)
          (k0_pay81 (k0_pay57 (k0_pay55 k0_pay20 colChunk) (k0_pay56 ws)) (k0_pay60 u) (k0_pay71 d) (k0_pay76 ws u k0_pay20 colChunk d))
          (k0_pay83 (k0_pay54 u) (k0_pay70 d)))
        (k0_pay90 (k0_pay46 ws k0_pay20 colChunk) (k0_pay49 u) (k0_pay69 d))))
    (k0_pay102 (k0_pay34 u) (k0_pay66 d))

/-- The gradient of the spatial weights. -/
def weightGrad : FVec Ideal S8x128x128 .f32 :=
  k0_pay111
    (k0_pay105 (k0_pay30 k0_pay20 (iota Kind.tc S128x128 32 [1] iota_S128x128_d1_w32) (64#32) k0_pay21 k0_pay22 k0_pay23) (k0_pay32 vn)
      (k0_pay101 (k0_pay35 k0_pay20 (iota Kind.tc S128x128 32 [1] iota_S128x128_d1_w32) (64#32) k0_pay21 k0_pay22 k0_pay23) (k0_pay37 vn) (k0_pay39 u) (k0_pay67 d)
        (k0_pay91 (k0_pay45 k0_pay20 colChunk) (k0_pay47 vn)
          (k0_pay86 (k0_pay50 k0_pay20 colChunk) (k0_pay52 vn)
            (k0_pay82 (k0_pay55 k0_pay20 colChunk) (k0_pay58 vn) (k0_pay60 u) (k0_pay61 k0_pay20 colChunk) (k0_pay71 d) (k0_pay77 u vn d))
            (k0_pay83 (k0_pay54 u) (k0_pay70 d)))
          (k0_pay87 (k0_pay49 u) (k0_pay69 d)))
        (k0_pay96 (k0_pay40 k0_pay20 colChunk) (k0_pay42 vn) (k0_pay44 u) (k0_pay68 d)) (FloatOps.ofBits FTy.f32 0#32) k0_pay97)
      (k0_pay102 (k0_pay34 u) (k0_pay66 d)))
    (k0_pay110 (k0_pay25 k0_pay20 (iota Kind.tc S128x128 32 [1] iota_S128x128_d1_w32) (64#32) k0_pay21 k0_pay22 k0_pay23) (k0_pay27 vn) (k0_pay29 u) (k0_pay65 d))

/-- The gradient of the spatial offsets. -/
def offsetGrad : FVec Ideal S8x128x1 .f32 :=
  k0_pay108 (k0_pay29 u) (k0_pay65 d)
    (k0_pay99 (k0_pay39 u) (k0_pay67 d)
      (k0_pay94 (k0_pay44 u) (k0_pay68 d)
        (k0_pay89 (k0_pay49 u) (k0_pay69 d)
          (k0_pay80 (k0_pay60 u) (k0_pay71 d) (k0_pay75 u d))
          (k0_pay83 (k0_pay54 u) (k0_pay70 d)))))
    (k0_pay104 (k0_pay34 u) (k0_pay66 d)) (FloatOps.ofBits FTy.f32 0#32)

theorem gateGrad_apply (h : Fin 8) (p : Fin 128) (j : Fin 256) :
    gateGrad ws bs vn d (ix2 p (col h j)) = d (ix2 p (col h j)) * spatial ws bs vn h p j := by
  unfold gateGrad
  rw [pay107, pay103, pay93, pay88, pay79, pay74]
  simp only [piece_col, spatial0_apply, spatial1_apply, spatial2_apply, spatial_3, spatial_4, spatial_5, spatial_6, pay65, pay66, pay67, pay68, pay69, pay70, pay71]
  fin_cases h <;> simp

theorem normGrad_apply (h : Fin 8) (p : Fin 128) (j : Fin 256) :
    normGrad ws u d (ix2 p (col h j)) = ∑ r : Fin 128, u (ix2 r (col h j)) * d (ix2 r (col h j)) * weight ws h r p := by
  unfold normGrad
  rw [pay109, pay100, pay95, pay85, pay81]
  simp only [piece_col, pay76, pay90, pay83, pay102, weight0_apply, weight1_apply, weight2_apply, weight_3, weight_4, weight_5, weight_6, pay29, pay34, pay39, pay44, pay49, pay54, pay60, pay65, pay66, pay67, pay68, pay69, pay70, pay71]
  fin_cases h <;> simp

theorem weightGrad_apply (h : Fin 8) (p q : Fin 128) :
    weightGrad u vn d (ix3 h p q)
      = if q.val / 64 ≤ p.val / 64 then ∑ j : Fin 256, u (ix2 p (col h j)) * d (ix2 p (col h j)) * vn (ix2 q (col h j)) else 0 := by
  unfold weightGrad
  rw [pay111, pay105, pay101, pay91, pay86, pay82, pay77]
  simp only [pay83, pay87, pay102, pay29, pay34, pay39, pay44, pay49, pay54, pay60, pay65, pay66, pay67, pay68, pay69, pay70, pay71, pay27, pay32, pay37, pay42, pay47, pay52, pay58]
  rw [← select_mask p q]
  unfold slab
  fin_cases h <;> simp <;> rfl

theorem offsetGrad_apply (h : Fin 8) (p : Fin 128) :
    offsetGrad u d (ix3 h p 0) = ∑ j : Fin 256, u (ix2 p (col h j)) * d (ix2 p (col h j)) := by
  unfold offsetGrad
  rw [pay108, pay99, pay94, pay89, pay80, pay75]
  simp only [pay83, pay29, pay34, pay39, pay44, pay49, pay54, pay60, pay65, pay66, pay67, pay68, pay69, pay70, pay71]
  unfold slab
  fin_cases h <;> simp

end Cert.Gm
-- ==== Proof.Gm.Gelu.lean ====
/-
  The gelu and its derivative, as the kernel writes them and as the reference does.

  The kernel takes one half of `1 + erf (y / √2)`; the reference one half of `erfc (-y √½)`, and the derivative that
  follows from it. The two derivatives are equal at real numbers, so this module also keeps the notion of an entry that is
  a real number, which addition, multiplication, division by a positive number and finite sums keep.
-/
module

public import proofs.«01_k».proof.Proof.Gm.Blocks

@[expose] public section

noncomputable section

namespace Cert.Gm

open Idealize.ShloMosaic Idealize.ShloMosaic.TcCoe Idealize.SL.Sem
open Cert.KernelIdeal Cert.KernelIdeal.Gen

/-! The constants' values. -/

theorem half_bits : (FloatOps.ofBits .f32 0x3F000000#32 : Ideal .f32) = (((1 / 2 : ℝ)) : EReal) := by
  show Ideal.ofBits .f32 0x3F000000#32 = _
  simp [Ideal.ofBits, Ideal.ieee] <;> rw [← EReal.coe_mul] <;> norm_num

theorem mhalf_bits : (FloatOps.ofBits .f32 0xBF000000#32 : Ideal .f32) = (((-(1 / 2) : ℝ)) : EReal) := by
  show Ideal.ofBits .f32 0xBF000000#32 = _
  simp [Ideal.ofBits, Ideal.ieee] <;> rw [← EReal.coe_mul] <;> norm_num

theorem one_bits : (FloatOps.ofBits .f32 0x3F800000#32 : Ideal .f32) = ((1 : ℝ) : EReal) := by
  show Ideal.ofBits .f32 0x3F800000#32 = _
  simp [Ideal.ofBits, Ideal.ieee] <;> rw [← EReal.coe_mul] <;> norm_num

theorem two_bits : (FloatOps.ofBits .f32 0x40000000#32 : Ideal .f32) = ((2 : ℝ) : EReal) := by
  show Ideal.ofBits .f32 0x40000000#32 = _
  simp [Ideal.ofBits, Ideal.ieee] <;> rw [← EReal.coe_mul] <;> norm_num

theorem width_bits : (FloatOps.ofBits .f32 0x45000000#32 : Ideal .f32) = ((2048 : ℝ) : EReal) := by
  show Ideal.ofBits .f32 0x45000000#32 = _
  simp [Ideal.ofBits, Ideal.ieee] <;> rw [← EReal.coe_mul] <;> norm_num

theorem slope_bits : (FloatOps.ofBits .f32 0xBF906EBB#32 : Ideal .f32) = (((-(9465531 / 8388608) : ℝ)) : EReal) := by
  show Ideal.ofBits .f32 0xBF906EBB#32 = _
  simp [Ideal.ofBits, Ideal.ieee] <;> rw [← EReal.coe_mul] <;> norm_num

theorem eps_bits : ∃ e : ℝ, 0 < e ∧ (FloatOps.ofBits .f32 0x358637BD#32 : Ideal .f32) = (e : EReal) := by
  refine ⟨_, ?_, show Ideal.ofBits .f32 0x358637BD#32 = _ by simp [Ideal.ofBits, Ideal.ieee]; rfl⟩
  norm_num

theorem infinity_bits : (FloatOps.ofBits .f32 0x7F800000#32 : Ideal .f32) = (⊤ : EReal) := by
  show Ideal.ofBits .f32 0x7F800000#32 = _
  simp [Ideal.ofBits, Ideal.ieee]

theorem inv_sqrt2_value : (Named.named κ "inv_sqrt2" 0x3F3504F3#32 : Ideal .f32) = (((Real.sqrt 2)⁻¹ : ℝ) : EReal) :=
  IdealRules.named_const.ideal_named_scalar _ _ _ _ rfl

theorem inv_sqrt2pi_value : (Named.named κ "inv_sqrt2pi" 0x3ECC422A#32 : Ideal .f32)
    = (((9465531 / 16777216) * (Real.sqrt 2)⁻¹ : ℝ) : EReal) :=
  IdealRules.named_const.ideal_named_scalar _ _ _ _ rfl

theorem sqrt_half : Ideal.sqrt (((1 / 2 : ℝ)) : EReal) = (((Real.sqrt 2)⁻¹ : ℝ) : EReal) := by
  have h : ¬ ((1 / 2 : ℝ) < 0) := by norm_num
  rw [show Ideal.sqrt (((1 / 2 : ℝ)) : EReal) = if (1 / 2 : ℝ) < 0 then ⊥ else ((Real.sqrt (1 / 2) : ℝ) : EReal) from rfl, if_neg h,
    one_div, Real.sqrt_inv]

/-! Real entries. -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.neg {x : EReal} (hx : IsReal x) : IsReal (-x) := by
  obtain ⟨a, rfl⟩ := hx; exact ⟨-a, (EReal.coe_neg a).symm⟩
theorem IsReal.erf {x : EReal} (hx : IsReal x) : IsReal (Ideal.erf x) := by
  obtain ⟨a, rfl⟩ := hx; exact ⟨_, rfl⟩
theorem IsReal.erfc {x : EReal} (hx : IsReal x) : IsReal (Ideal.erfc x) := (IsReal.coe 1).sub hx.erf
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih
theorem IsReal.div {x : EReal} (hx : IsReal x) {r : ℝ} (hr : r ≠ 0) : IsReal (Ideal.div x (r : EReal)) := by
  rw [Ideal.div_coe hr]; exact hx.mul (IsReal.coe _)

/-- Where the absolute value is below infinity the entry is real. -/
theorem IsReal.of_abs_lt {x : EReal} (h : max x (-x) < ⊤) : IsReal x := by
  induction x using EReal.rec with
  | bot => simp at h
  | top => simp at h
  | coe r => exact ⟨r, rfl⟩

/-- A non-negative real. -/
def IsNonneg (x : EReal) : Prop := ∃ r : ℝ, 0 ≤ r ∧ x = (r : EReal)

theorem IsReal.sq {x : EReal} (hx : IsReal x) : IsNonneg (x * x) := by
  obtain ⟨a, rfl⟩ := hx; exact ⟨a * a, mul_self_nonneg a, (EReal.coe_mul a a).symm⟩
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem IsNonneg.sum {ι : Type} (s : Finset ι) (f : ι → EReal) (h : ∀ i, IsNonneg (f i)) : IsNonneg (∑ i ∈ s, f i) := by
  classical
  induction s using Finset.induction_on with
  | empty => exact ⟨0, le_refl _, rfl⟩
  | insert a s ha ih => rw [Finset.sum_insert ha]; exact (h a).add ih

/-! The gelu. -/

/-- The value: the kernel's writing is the reference's. -/
theorem gelu_eq (y : EReal) :
    y * ((FloatOps.ofBits .f32 0x3F000000#32 : Ideal .f32)
        * ((FloatOps.ofBits .f32 0x3F800000#32 : Ideal .f32) + Ideal.erf (y * (Named.named κ "inv_sqrt2" 0x3F3504F3#32 : Ideal .f32))))
      = ((FloatOps.ofBits .f32 0x3F000000#32 : Ideal .f32) * y)
        * Ideal.erfc (-y * Ideal.sqrt (FloatOps.ofBits .f32 0x3F000000#32 : Ideal .f32)) := by
  rw [one_bits, inv_sqrt2_value, half_bits, sqrt_half, EReal.neg_mul, Ideal.erfc_neg, EReal.coe_one]
  generalize (1 + Ideal.erf (y * (((Real.sqrt 2)⁻¹ : ℝ) : EReal))) = e
  rw [mul_left_comm, mul_assoc]

/-- The derivative times a real cotangent: the kernel's writing is the reference's. -/
theorem dgelu_eq {y g : EReal} (hy : IsReal y) (hg : IsReal g) :
    g * ((FloatOps.ofBits .f32 0x3F000000#32 : Ideal .f32)
          * ((FloatOps.ofBits .f32 0x3F800000#32 : Ideal .f32) + Ideal.erf (y * (Named.named κ "inv_sqrt2" 0x3F3504F3#32 : Ideal .f32)))
        + y * (Ideal.exp (((FloatOps.ofBits .f32 0xBF000000#32 : Ideal .f32) * y) * y) * (Named.named κ "inv_sqrt2pi" 0x3ECC422A#32 : Ideal .f32)))
      = -((((FloatOps.ofBits .f32 0xBF906EBB#32 : Ideal .f32) * (((FloatOps.ofBits .f32 0x3F000000#32 : Ideal .f32) * y) * g))
            * Ideal.exp (-((-y * Ideal.sqrt (FloatOps.ofBits .f32 0x3F000000#32 : Ideal .f32))
                * (-y * Ideal.sqrt (FloatOps.ofBits .f32 0x3F000000#32 : Ideal .f32)))))
          * Ideal.sqrt (FloatOps.ofBits .f32 0x3F000000#32 : Ideal .f32))
        + (FloatOps.ofBits .f32 0x3F000000#32 : Ideal .f32)
          * (g * Ideal.erfc (-y * Ideal.sqrt (FloatOps.ofBits .f32 0x3F000000#32 : Ideal .f32))) := by
  obtain ⟨y, rfl⟩ := hy
  obtain ⟨g, rfl⟩ := hg
  rw [one_bits, inv_sqrt2_value, inv_sqrt2pi_value, half_bits, mhalf_bits, slope_bits, sqrt_half, EReal.neg_mul, Ideal.erfc_neg,
    neg_mul_neg, ← EReal.coe_one]
  have hs : (Real.sqrt 2)⁻¹ * (Real.sqrt 2)⁻¹ = 1 / 2 := by
    rw [← mul_inv, Real.mul_self_sqrt (by norm_num)]; norm_num
  have he : Ideal.exp (-(((y : EReal) * (((Real.sqrt 2)⁻¹ : ℝ) : EReal)) * ((y : EReal) * (((Real.sqrt 2)⁻¹ : ℝ) : EReal))))
      = Ideal.exp (((((-(1 / 2) : ℝ)) : EReal) * y) * y) := by
    refine congrArg Ideal.exp ?_
    rw [← EReal.coe_mul, ← EReal.coe_mul, ← EReal.coe_neg, ← EReal.coe_mul, ← EReal.coe_mul]
    refine congrArg _ ?_
    calc -(y * (Real.sqrt 2)⁻¹ * (y * (Real.sqrt 2)⁻¹)) = -(y * y * ((Real.sqrt 2)⁻¹ * (Real.sqrt 2)⁻¹)) := by ring
      _ = -(1 / 2) * y * y := by rw [hs]; ring
  rw [he]
  obtain ⟨a, ha⟩ : IsReal (Ideal.erf ((y : EReal) * (((Real.sqrt 2)⁻¹ : ℝ) : EReal))) := ((IsReal.coe y).mul (IsReal.coe _)).erf
  obtain ⟨b, hb⟩ : IsReal (Ideal.exp (((((-(1 / 2) : ℝ)) : EReal) * y) * y)) := by
    rw [← EReal.coe_mul, ← EReal.coe_mul]; exact ⟨_, rfl⟩
  rw [ha, hb]
  simp only [← EReal.coe_mul, ← EReal.coe_add, ← EReal.coe_neg]
  refine congrArg _ ?_
  ring

end Cert.Gm
-- ==== Proof.Gm.HostSums.lean ====
/-
  The reference's sums over several axes, and its mask.

  The reference sums over several axes at once in six places and contracts three axes in one product; each is read here at
  an index, as a sum over the axes that are longer than one.
-/
module

public import proofs.«01_k».proof.Proof.Gm.Heads
public import proofs.«01_k».proof.Proof.Gen.ReferenceIdeal.Read
public import Idealize.ShloMosaic.Lib.IdealHost

@[expose] public section

set_option maxRecDepth 4000

noncomputable section

namespace Cert.Gm

open Idealize.ShloMosaic Idealize.ShloMosaic.TcCoe Idealize.SL.Sem
open Cert.ReferenceIdeal Cert.ReferenceIdeal.Gen Cert.ReferenceIdeal.Read

/-- A sum over several axes is the sum over any family that runs once through the indices that fall on the result's index. -/
theorem reduce_of {s r u : Shape} {axes : List (Fin s.rank)} (x : FVec Ideal s .f32) (init : u.Idx → Ideal .f32)
    (h : s.ReducesTo axes r) (hu : 0 < u.numel) (j : r.Idx) {ι : Type} [Fintype ι] (e : ι → s.Idx)
    (inj : Function.Injective e) (on : ∀ k, h.drop (e k) = j) (all : ∀ i, h.drop i = j → ∃ k, e k = i) :
    Host.reduceAdd x init h hu j = init (Shape.Idx.first hu) + ∑ k, x (e k) := by
  rw [ValueIdx.hostReduceAdd_apply]
  unfold Ideal.hostReduceAdd
  refine congrArg (init (Shape.Idx.first hu) + ·) (Eq.symm ?_)
  refine Finset.sum_bij (fun k _ => e k) (fun k _ => ?_) (fun a _ b _ hab => inj hab) (fun i hi => ?_) (fun _ _ => rfl)
  · exact Finset.mem_filter.mpr ⟨Finset.mem_univ _, on k⟩
  · obtain ⟨k, hk⟩ := all i (Finset.mem_filter.mp hi).2
    exact ⟨k, Finset.mem_univ _, hk⟩

/-- The sum over the two unit axes of a row. -/
theorem sum_row (x : FVec Ideal S1x1x2048 .f32) (init : S_.Idx → Ideal .f32) (n : Fin 2048) :
    Host.reduceAdd x init reducesTo_S1x1x2048_S2048_d0_1 h_S_ (ix1 n) = init (Shape.Idx.first h_S_) + x (ix3 0 0 n) := by
  rw [reduce_of x init reducesTo_S1x1x2048_S2048_d0_1 h_S_ (ix1 n) (fun _ : Fin 1 => ix3 0 0 n)
    (fun a b _ => Subsingleton.elim a b)
    (fun _ => funext fun b => Fin.ext (by
      fin_cases b
      exact reducesTo_S1x1x2048_S2048_d0_1.drop_apply_val_of_eq _ 0 2))
    (fun i hi => ⟨0, funext fun a => Fin.ext (by
      have h2 := reducesTo_S1x1x2048_S2048_d0_1.drop_apply_val_of_eq i 0 2
      rw [hi] at h2
      have h0 := (i 0).isLt
      have h1 := (i 1).isLt
      fin_cases a
      · change 0 = (i 0).val; change (i 0).val < 1 at h0; omega
      · change 0 = (i 1).val; change (i 1).val < 1 at h1; omega
      · exact h2)⟩)]
  rw [Finset.univ_unique, Finset.sum_singleton]

/-- The sum over the two unit axes of a column. -/
theorem sum_column (x : FVec Ideal S1x4096x1 .f32) (init : S_.Idx → Ideal .f32) (n : Fin 4096) :
    Host.reduceAdd x init reducesTo_S1x4096x1_S4096_d0_2 h_S_ (ix1 n) = init (Shape.Idx.first h_S_) + x (ix3 0 n 0) := by
  rw [reduce_of x init reducesTo_S1x4096x1_S4096_d0_2 h_S_ (ix1 n) (fun _ : Fin 1 => ix3 0 n 0)
    (fun a b _ => Subsingleton.elim a b)
    (fun _ => funext fun b => Fin.ext (by
      fin_cases b
      exact reducesTo_S1x4096x1_S4096_d0_2.drop_apply_val_of_eq _ 0 1))
    (fun i hi => ⟨0, funext fun a => Fin.ext (by
      have h2 := reducesTo_S1x4096x1_S4096_d0_2.drop_apply_val_of_eq i 0 1
      rw [hi] at h2
      have h0 := (i 0).isLt
      have h1 := (i 2).isLt
      fin_cases a
      · change 0 = (i 0).val; change (i 0).val < 1 at h0; omega
      · exact h2
      · change 0 = (i 2).val; change (i 2).val < 1 at h1; omega)⟩)]
  rw [Finset.univ_unique, Finset.sum_singleton]

/-- The sum over the three unit axes of the offsets' gradient. -/
theorem sum_offset (x : FVec Ideal S1x1x128x8x1 .f32) (init : S_.Idx → Ideal .f32) (p : Fin 128) (h : Fin 8) :
    Host.reduceAdd x init reducesTo_S1x1x128x8x1_S128x8_d0_1_4 h_S_ (ix2 p h)
      = init (Shape.Idx.first h_S_) + x (ix5 0 0 p h 0) := by
  rw [reduce_of x init reducesTo_S1x1x128x8x1_S128x8_d0_1_4 h_S_ (ix2 p h) (fun _ : Fin 1 => ix5 0 0 p h 0)
    (fun a b _ => Subsingleton.elim a b)
    (fun _ => funext fun b => Fin.ext (by
      fin_cases b
      · exact reducesTo_S1x1x128x8x1_S128x8_d0_1_4.drop_apply_val_of_eq _ 0 2
      · exact reducesTo_S1x1x128x8x1_S128x8_d0_1_4.drop_apply_val_of_eq _ 1 3))
    (fun i hi => ⟨0, funext fun a => Fin.ext (by
      have h2 := reducesTo_S1x1x128x8x1_S128x8_d0_1_4.drop_apply_val_of_eq i 0 2
      have h3 := reducesTo_S1x1x128x8x1_S128x8_d0_1_4.drop_apply_val_of_eq i 1 3
      rw [hi] at h2 h3
      have h0 := (i 0).isLt
      have h1 := (i 1).isLt
      have h4 := (i 4).isLt
      fin_cases a
      · change 0 = (i 0).val; change (i 0).val < 1 at h0; omega
      · change 0 = (i 1).val; change (i 1).val < 1 at h1; omega
      · exact h2
      · exact h3
      · change 0 = (i 4).val; change (i 4).val < 1 at h4; omega)⟩)]
  rw [Finset.univ_unique, Finset.sum_singleton]

/-- The sum over the blocks and the columns of a head. -/
theorem sum_head (x : FVec Ideal S1x32x128x8x256 .f32) (init : S_.Idx → Ideal .f32) (p : Fin 128) (h : Fin 8) :
    Host.reduceAdd x init reducesTo_S1x32x128x8x256_S1x128x8_d1_4 h_S_ (ix3 0 p h)
      = init (Shape.Idx.first h_S_) + ∑ k : Fin 32 × Fin 256, x (ix5 0 k.1 p h k.2) := by
  refine reduce_of x init reducesTo_S1x32x128x8x256_S1x128x8_d1_4 h_S_ (ix3 0 p h) (fun k : Fin 32 × Fin 256 => ix5 0 k.1 p h k.2)
    (fun a b hab => Prod.ext (congrFun hab 1) (congrFun hab 4))
    (fun k => funext fun b => Fin.ext (by
      fin_cases b
      · exact reducesTo_S1x32x128x8x256_S1x128x8_d1_4.drop_apply_val_of_eq _ 0 0
      · exact reducesTo_S1x32x128x8x256_S1x128x8_d1_4.drop_apply_val_of_eq _ 1 2
      · exact reducesTo_S1x32x128x8x256_S1x128x8_d1_4.drop_apply_val_of_eq _ 2 3))
    (fun i hi => ⟨(i 1, i 4), funext fun a => Fin.ext (by
      have h0 := reducesTo_S1x32x128x8x256_S1x128x8_d1_4.drop_apply_val_of_eq i 0 0
      have h2 := reducesTo_S1x32x128x8x256_S1x128x8_d1_4.drop_apply_val_of_eq i 1 2
      have h3 := reducesTo_S1x32x128x8x256_S1x128x8_d1_4.drop_apply_val_of_eq i 2 3
      rw [hi] at h0 h2 h3
      fin_cases a
      · exact h0
      · rfl
      · exact h2
      · exact h3
      · rfl)⟩)

/-! The product that contracts three axes: a unit axis, the blocks, and the columns of a head. -/

/-- The indices of the contracted axes. -/
def inner (k : Fin 32 × Fin 256) : dot_S8x1x32x256x128_S1x32x128x8x256_S8x128x128_123_014_4_2_0_3.contr.Idx :=
  fun (a : Fin 3) => match a with
    | ⟨0, _⟩ => ⟨0, (Nat.zero_lt_one : 0 < 1)⟩
    | ⟨1, _⟩ => ⟨k.1.val, k.1.isLt⟩
    | ⟨2, _⟩ => ⟨k.2.val, k.2.isLt⟩

theorem inner_bijective : Function.Bijective inner :=
  ⟨fun a b hab => Prod.ext (Fin.ext (congrArg Fin.val (congrFun hab (1 : Fin 3)))) (Fin.ext (congrArg Fin.val (congrFun hab (2 : Fin 3)))),
    fun q => ⟨(⟨(q (1 : Fin 3)).val, (q (1 : Fin 3)).isLt⟩, ⟨(q (2 : Fin 3)).val, (q (2 : Fin 3)).isLt⟩),
      funext fun (a : Fin 3) => Fin.ext (by
        have h0 := (q (0 : Fin 3)).isLt
        fin_cases a
        · change 0 = (q (0 : Fin 3)).val; change (q (0 : Fin 3)).val < 1 at h0; omega
        · rfl
        · rfl)⟩⟩

theorem left_index (h : Fin 8) (p q : Fin 128) (k : Fin 32 × Fin 256) :
    dot_S8x1x32x256x128_S1x32x128x8x256_S8x128x128_123_014_4_2_0_3.lhsIdx (ix3 h p q) (inner k) = ix5 h 0 k.1 k.2 p :=
  funext fun a => Fin.ext (by
    match a with
    | ⟨0, _⟩ =>
      show (dot_S8x1x32x256x128_S1x32x128x8x256_S8x128x128_123_014_4_2_0_3.lhsIdx (ix3 h p q) (inner k) (0 : Fin S8x1x32x256x128.rank)).val = _
      unfold DotDims.lhsIdx
      rw [dif_pos (show (0 : Fin S8x1x32x256x128.rank) ∈ dot_S8x1x32x256x128_S1x32x128x8x256_S8x128x128_123_014_4_2_0_3.lhsBatch by decide)]
      rfl
    | ⟨1, _⟩ =>
      show (dot_S8x1x32x256x128_S1x32x128x8x256_S8x128x128_123_014_4_2_0_3.lhsIdx (ix3 h p q) (inner k) (1 : Fin S8x1x32x256x128.rank)).val = _
      unfold DotDims.lhsIdx
      rw [dif_neg (show ¬(1 : Fin S8x1x32x256x128.rank) ∈ dot_S8x1x32x256x128_S1x32x128x8x256_S8x128x128_123_014_4_2_0_3.lhsBatch by decide), dif_neg (show ¬(1 : Fin S8x1x32x256x128.rank) ∈ dot_S8x1x32x256x128_S1x32x128x8x256_S8x128x128_123_014_4_2_0_3.lhsNonContracting by decide)]
      rfl
    | ⟨2, _⟩ =>
      show (dot_S8x1x32x256x128_S1x32x128x8x256_S8x128x128_123_014_4_2_0_3.lhsIdx (ix3 h p q) (inner k) (2 : Fin S8x1x32x256x128.rank)).val = _
      unfold DotDims.lhsIdx
      rw [dif_neg (show ¬(2 : Fin S8x1x32x256x128.rank) ∈ dot_S8x1x32x256x128_S1x32x128x8x256_S8x128x128_123_014_4_2_0_3.lhsBatch by decide), dif_neg (show ¬(2 : Fin S8x1x32x256x128.rank) ∈ dot_S8x1x32x256x128_S1x32x128x8x256_S8x128x128_123_014_4_2_0_3.lhsNonContracting by decide)]
      rfl
    | ⟨3, _⟩ =>
      show (dot_S8x1x32x256x128_S1x32x128x8x256_S8x128x128_123_014_4_2_0_3.lhsIdx (ix3 h p q) (inner k) (3 : Fin S8x1x32x256x128.rank)).val = _
      unfold DotDims.lhsIdx
      rw [dif_neg (show ¬(3 : Fin S8x1x32x256x128.rank) ∈ dot_S8x1x32x256x128_S1x32x128x8x256_S8x128x128_123_014_4_2_0_3.lhsBatch by decide), dif_neg (show ¬(3 : Fin S8x1x32x256x128.rank) ∈ dot_S8x1x32x256x128_S1x32x128x8x256_S8x128x128_123_014_4_2_0_3.lhsNonContracting by decide)]
      rfl
    | ⟨4, _⟩ =>
      show (dot_S8x1x32x256x128_S1x32x128x8x256_S8x128x128_123_014_4_2_0_3.lhsIdx (ix3 h p q) (inner k) (4 : Fin S8x1x32x256x128.rank)).val = _
      unfold DotDims.lhsIdx
      rw [dif_neg (show ¬(4 : Fin S8x1x32x256x128.rank) ∈ dot_S8x1x32x256x128_S1x32x128x8x256_S8x128x128_123_014_4_2_0_3.lhsBatch by decide), dif_pos (show (4 : Fin S8x1x32x256x128.rank) ∈ dot_S8x1x32x256x128_S1x32x128x8x256_S8x128x128_123_014_4_2_0_3.lhsNonContracting by decide)]
      rfl)

theorem right_index (h : Fin 8) (p q : Fin 128) (k : Fin 32 × Fin 256) :
    dot_S8x1x32x256x128_S1x32x128x8x256_S8x128x128_123_014_4_2_0_3.rhsIdx (ix3 h p q) (inner k) = ix5 0 k.1 q h k.2 :=
  funext fun a => Fin.ext (by
    match a with
    | ⟨0, _⟩ =>
      show (dot_S8x1x32x256x128_S1x32x128x8x256_S8x128x128_123_014_4_2_0_3.rhsIdx (ix3 h p q) (inner k) (0 : Fin S1x32x128x8x256.rank)).val = _
      unfold DotDims.rhsIdx
      rw [dif_neg (show ¬(0 : Fin S1x32x128x8x256.rank) ∈ dot_S8x1x32x256x128_S1x32x128x8x256_S8x128x128_123_014_4_2_0_3.rhsBatch by decide), dif_neg (show ¬(0 : Fin S1x32x128x8x256.rank) ∈ dot_S8x1x32x256x128_S1x32x128x8x256_S8x128x128_123_014_4_2_0_3.rhsNonContracting by decide)]
      rfl
    | ⟨1, _⟩ =>
      show (dot_S8x1x32x256x128_S1x32x128x8x256_S8x128x128_123_014_4_2_0_3.rhsIdx (ix3 h p q) (inner k) (1 : Fin S1x32x128x8x256.rank)).val = _
      unfold DotDims.rhsIdx
      rw [dif_neg (show ¬(1 : Fin S1x32x128x8x256.rank) ∈ dot_S8x1x32x256x128_S1x32x128x8x256_S8x128x128_123_014_4_2_0_3.rhsBatch by decide), dif_neg (show ¬(1 : Fin S1x32x128x8x256.rank) ∈ dot_S8x1x32x256x128_S1x32x128x8x256_S8x128x128_123_014_4_2_0_3.rhsNonContracting by decide)]
      rfl
    | ⟨2, _⟩ =>
      show (dot_S8x1x32x256x128_S1x32x128x8x256_S8x128x128_123_014_4_2_0_3.rhsIdx (ix3 h p q) (inner k) (2 : Fin S1x32x128x8x256.rank)).val = _
      unfold DotDims.rhsIdx
      rw [dif_neg (show ¬(2 : Fin S1x32x128x8x256.rank) ∈ dot_S8x1x32x256x128_S1x32x128x8x256_S8x128x128_123_014_4_2_0_3.rhsBatch by decide), dif_pos (show (2 : Fin S1x32x128x8x256.rank) ∈ dot_S8x1x32x256x128_S1x32x128x8x256_S8x128x128_123_014_4_2_0_3.rhsNonContracting by decide)]
      rfl
    | ⟨3, _⟩ =>
      show (dot_S8x1x32x256x128_S1x32x128x8x256_S8x128x128_123_014_4_2_0_3.rhsIdx (ix3 h p q) (inner k) (3 : Fin S1x32x128x8x256.rank)).val = _
      unfold DotDims.rhsIdx
      rw [dif_pos (show (3 : Fin S1x32x128x8x256.rank) ∈ dot_S8x1x32x256x128_S1x32x128x8x256_S8x128x128_123_014_4_2_0_3.rhsBatch by decide)]
      rfl
    | ⟨4, _⟩ =>
      show (dot_S8x1x32x256x128_S1x32x128x8x256_S8x128x128_123_014_4_2_0_3.rhsIdx (ix3 h p q) (inner k) (4 : Fin S1x32x128x8x256.rank)).val = _
      unfold DotDims.rhsIdx
      rw [dif_neg (show ¬(4 : Fin S1x32x128x8x256.rank) ∈ dot_S8x1x32x256x128_S1x32x128x8x256_S8x128x128_123_014_4_2_0_3.rhsBatch by decide), dif_neg (show ¬(4 : Fin S1x32x128x8x256.rank) ∈ dot_S8x1x32x256x128_S1x32x128x8x256_S8x128x128_123_014_4_2_0_3.rhsNonContracting by decide)]
      rfl)

/-- The product at an index. -/
theorem dot_apply (l : FVec Ideal S8x1x32x256x128 .f32) (r : FVec Ideal S1x32x128x8x256 .f32) (h : Fin 8) (p q : Fin 128) :
    Host.dotGeneral dot_S8x1x32x256x128_S1x32x128x8x256_S8x128x128_123_014_4_2_0_3 none l r (ix3 h p q)
      = ∑ k : Fin 32 × Fin 256, l (ix5 h 0 k.1 k.2 p) * r (ix5 0 k.1 q h k.2) := by
  simp only [Host.dotGeneral]
  rw [Ideal.dotGeneral_apply, ← inner_bijective.sum_comp]
  simp only [left_index, right_index]

/-! The mask. -/

theorem chunk (n : Fin 128) : val_main_v51 (F := Ideal) (ix1 n) = BitVec.ofNat 32 (n.val / 64) := by
  revert n; decide +kernel

theorem mask (h : Fin 8) (p q : Fin 128) :
    val_main_v58_1 (F := Ideal) (ix3 h p q) = if q.val / 64 ≤ p.val / 64 then 1#1 else 0#1 := by
  rw [val_main_v58_1_apply, val_main_v57_apply, val_main_v56_apply, val_main_v54_apply, val_main_v52_apply, val_main_v55_apply, val_main_v53_apply]
  rw [show idx_main_v52 (idx_main_v54 (idx_main_v57 (idx_main_v58_1 (ix3 h p q)))) = ix1 p from funext fun a => by fin_cases a; rfl,
    show idx_main_v53 (idx_main_v55 (idx_main_v57 (idx_main_v58_1 (ix3 h p q)))) = ix1 q from funext fun a => by fin_cases a; rfl,
    chunk, chunk]
  revert p q; decide +kernel

theorem select_chunk {α : Type} (h : Fin 8) (p q : Fin 128) (a b : α) :
    Scalar.select (val_main_v58_1 (F := Ideal) (ix3 h p q)) a b = if q.val / 64 ≤ p.val / 64 then a else b := by
  rw [mask]; split_ifs <;> rfl

/-- The masked weights. -/
theorem masked (x1 : Vec Ideal S8x128x128 .f32) (h : Fin 8) (p q : Fin 128) :
    val_main_v58_0 (F := Ideal) x1 (ix3 h p q) = weight x1 h p q := by
  rw [val_main_v58_0_apply, select_chunk, val_main_call1_v2_apply, val_main_call1_v0_apply, val_main_c_8_apply]
  unfold weight
  refine if_congr Iff.rfl rfl ?_
  show (((0#32 : BitVec 32).toInt : ℝ) : EReal) = 0
  simp

end Cert.Gm
-- ==== Proof.Gm.Rows.lean ====
/-
  What one block of the spatial gating mixer's backward computes, row by row.

  A grid point holds 128 of the 4096 rows, one block of the spatial product. Up to the gradient of the normalised rows, and
  from there to the gradient of the second half of the gelu, the kernel applies the reference's operations to the same
  entries.
-/
module

public import proofs.«01_k».proof.Proof.Gm.Compose
public import proofs.«01_k».proof.Proof.Gm.Gelu
public import proofs.«01_k».proof.Proof.Gm.HostSums

@[expose] public section

set_option maxRecDepth 4000

noncomputable section

namespace Cert.Gm

open Idealize.ShloMosaic Idealize.ShloMosaic.TcCoe Idealize.SL.Sem
open Cert.KernelIdeal Cert.KernelIdeal.Gen Cert.ReferenceIdeal.Read

variable (t : Fin 32) (x0 : Vec Ideal S4096x4096 .bf16) (x1 : Vec Ideal S8x128x128 .f32) (x2 : Vec Ideal S8x128x1 .f32)
  (x3 x4 : Vec Ideal S1x2048 .f32) (x5 : Vec Ideal S4096x2048 .bf16)

/-- A column of the first half. -/
def lo (k : Fin 2048) : Fin 4096 := ⟨k.val, by omega⟩

/-- A column of the second half. -/
def hi (k : Fin 2048) : Fin 4096 := ⟨2048 + k.val, by omega⟩

/-! Where the reference's layout operations read. -/

theorem idx1 (r n : Fin 4096) : idx_main_v1 (ix3 0 r n) = ix2 r n := funext fun a => by fin_cases a <;> rfl
theorem idx3 (r : Fin 4096) (k : Fin 2048) : idx_main_v3 (ix3 0 r k) = ix2 r k := funext fun a => by fin_cases a <;> rfl
theorem idx18 (r : Fin 4096) (k : Fin 2048) : idx_main_v18 (ix3 0 r k) = ix3 0 r (lo k) := funext fun a => by fin_cases a <;> rfl
theorem idx19 (r : Fin 4096) (k : Fin 2048) : idx_main_v19 (ix3 0 r k) = ix3 0 r (hi k) := funext fun a => by fin_cases a <;> rfl
theorem idx20 (r : Fin 4096) (k : Fin 2048) : idx_main_v20 (idx_main_v21 (ix3 0 r 0)) k = ix3 0 r k := funext fun a => by fin_cases a <;> rfl
theorem idx24 (r : Fin 4096) (k : Fin 2048) : idx_main_v24 (ix3 0 r k) = ix3 0 r 0 := funext fun a => by fin_cases a <;> rfl
theorem idx29 (r : Fin 4096) (k : Fin 2048) : idx_main_v29 (idx_main_v30 (ix3 0 r 0)) k = ix3 0 r k := funext fun a => by fin_cases a <;> rfl
theorem idx33 (r : Fin 4096) (k : Fin 2048) : idx_main_v33 (ix3 0 r k) = ix3 0 r 0 := funext fun a => by fin_cases a <;> rfl
theorem idx41 (r : Fin 4096) (k : Fin 2048) : idx_main_v41 (ix3 0 r k) = ix3 0 r 0 := funext fun a => by fin_cases a <;> rfl
theorem idx44 (r : Fin 4096) (k : Fin 2048) : idx_main_v4 (idx_main_v43 (idx_main_v44 (ix3 0 r k))) = ix2 0 k :=
  funext fun a => Fin.ext (by fin_cases a <;> simp <;> omega)
theorem idx47 (r : Fin 4096) (k : Fin 2048) : idx_main_v5 (idx_main_v46 (idx_main_v47 (ix3 0 r k))) = ix2 0 k :=
  funext fun a => Fin.ext (by fin_cases a <;> simp <;> omega)
theorem idx86 (r : Fin 4096) (k : Fin 2048) : idx_main_v4 (idx_main_v43 (idx_main_v86 (ix3 0 r k))) = ix2 0 k :=
  funext fun a => Fin.ext (by fin_cases a <;> simp <;> omega)
theorem idx49 (p : Fin 128) (h : Fin 8) (j : Fin 256) : idx_main_v49 (ix5 0 t p h j) = ix3 0 (row t p) (col h j) :=
  funext fun a => Fin.ext (by fin_cases a <;> simp [row, col] <;> omega)
theorem idx69 (p : Fin 128) (h : Fin 8) (j : Fin 256) : idx_main_v69 (ix5 0 t p h j) = ix3 0 (row t p) (col h j) :=
  funext fun a => Fin.ext (by fin_cases a <;> simp [row, col] <;> omega)
theorem idx65 (p : Fin 128) (h : Fin 8) (j : Fin 256) : idx_main_v65 (ix3 0 (row t p) (col h j)) = ix5 0 t p h j :=
  funext fun a => Fin.ext (by fin_cases a <;> simp [row, col] <;> omega)
theorem idx79 (p : Fin 128) (h : Fin 8) (j : Fin 256) : idx_main_v79 (ix3 0 (row t p) (col h j)) = ix5 0 t p h j :=
  funext fun a => Fin.ext (by fin_cases a <;> simp [row, col] <;> omega)
theorem idx60 (p : Fin 128) (h : Fin 8) (j : Fin 256) : idx_main_v60 (ix5 0 t p h j) = ix5 h 0 t j p := funext fun a => by fin_cases a <;> rfl
theorem idx77 (p : Fin 128) (h : Fin 8) (j : Fin 256) : idx_main_v77 (ix5 0 t p h j) = ix5 h 0 t j p := funext fun a => by fin_cases a <;> rfl
theorem idx74 (p : Fin 128) (h : Fin 8) (j : Fin 256) : idx_main_v74 (ix5 h 0 t j p) = ix5 0 t p h j := funext fun a => by fin_cases a <;> rfl
theorem lidx59 (p q : Fin 128) (h : Fin 8) (j : Fin 256) : lidx_main_v59 (ix5 h 0 t j p) q = ix5 0 t q h j := funext fun a => by fin_cases a <;> rfl
theorem ridx59 (p q : Fin 128) (h : Fin 8) (j : Fin 256) : ridx_main_v59 (ix5 h 0 t j p) q = ix3 h p q := funext fun a => by fin_cases a <;> rfl
theorem lidx76 (p q : Fin 128) (h : Fin 8) (j : Fin 256) : lidx_main_v76 (ix5 h 0 t j p) q = ix5 h 0 t j q := funext fun a => by fin_cases a <;> rfl
theorem ridx76 (p q : Fin 128) (h : Fin 8) (j : Fin 256) : ridx_main_v76 (ix5 h 0 t j p) q = ix3 h q p := funext fun a => by fin_cases a <;> rfl
theorem idx63 (p : Fin 128) (h : Fin 8) (j : Fin 256) : idx_main_v6 (idx_main_v61 (idx_main_v62 (idx_main_v63 (ix5 0 t p h j)))) = ix3 h p 0 :=
  funext fun a => Fin.ext (by fin_cases a <;> simp <;> omega)

/-! The gelu's two halves. -/

theorem entry (r n : Fin 4096) : val_main_v1 (F := Ideal) x0 (ix3 0 r n) = x0 (ix2 r n) := by
  rw [val_main_v1_apply, idx1, val_main_v0_apply]; rfl

theorem arg (r n : Fin 4096) : val_main_v12 (F := Ideal) x0 (ix3 0 r n)
    = -(x0 (ix2 r n)) * Ideal.sqrt (FloatOps.ofBits .f32 0x3F000000#32 : Ideal .f32) := by
  rw [val_main_v12_apply, val_main_v10_apply, val_main_v11_apply, val_main_v7_apply, val_main_cst_apply, entry]; rfl

theorem gelu (r n : Fin 4096) : val_main_v17 (F := Ideal) x0 (ix3 0 r n)
    = ((FloatOps.ofBits .f32 0x3F000000#32 : Ideal .f32) * x0 (ix2 r n))
      * Ideal.erfc (-(x0 (ix2 r n)) * Ideal.sqrt (FloatOps.ofBits .f32 0x3F000000#32 : Ideal .f32)) := by
  rw [val_main_v17_apply, val_main_v9_apply, val_main_v8_apply, val_main_cst_0_apply, val_main_v13_apply, arg, entry]; rfl

theorem gelu_one (y : EReal) :
    y * ((FloatOps.ofBits .f32 0x3F000000#32 : Ideal .f32)
        * (1 + Ideal.erf (y * (Named.named κ "inv_sqrt2" 0x3F3504F3#32 : Ideal .f32))))
      = ((FloatOps.ofBits .f32 0x3F000000#32 : Ideal .f32) * y)
        * Ideal.erfc (-y * Ideal.sqrt (FloatOps.ofBits .f32 0x3F000000#32 : Ideal .f32)) := by
  have h := gelu_eq y
  rw [one_bits] at h
  exact h

/-- The gate's first factor. -/
theorem first (p : Fin 128) (k : Fin 2048) :
    k0_pay5 (F := Ideal) (blk t x0) (ix2 p k) = val_main_v18 (F := Ideal) x0 (ix3 0 (row t p) k) := by
  rw [val_main_v18_apply, idx18, gelu]
  unfold k0_pay5 k0_pay4 k0_pay3 k0_pay2
  pointwise
  exact gelu_one _

/-- The half that is normalised. -/
theorem second (p : Fin 128) (k : Fin 2048) :
    k0_pay8 (F := Ideal) (blk t x0) (ix2 p k) = val_main_v19 (F := Ideal) x0 (ix3 0 (row t p) k) := by
  rw [val_main_v19_apply, idx19, gelu]
  unfold k0_pay8 k0_pay7 k0_pay6 k0_pay2
  pointwise
  exact gelu_one _

/-! The normalised rows. -/

/-- The mean of a row. -/
theorem mean (p : Fin 128) (c : Fin 1) :
    k0_pay9 (F := Ideal) (blk t x0) (ix2 p c) = val_main_v23 (F := Ideal) x0 (ix3 0 (row t p) 0) := by
  rw [val_main_v23_apply, val_main_v22_apply, val_main_cst_2_apply, val_main_v21_apply, val_main_v20_apply, val_main_cst_1_apply, zero_bits]
  simp only [idx20, ← second t x0]
  unfold k0_pay9
  pointwise

/-- The centred entry. -/
theorem centred (p : Fin 128) (k : Fin 2048) :
    k0_pay10 (F := Ideal) (blk t x0) (ix2 p k) = val_main_v25 (F := Ideal) x0 (ix3 0 (row t p) k) := by
  rw [val_main_v25_apply, val_main_v24_apply, idx24, ← second t x0 p k, ← mean t x0 p 0]
  unfold k0_pay10
  pointwise

theorem centred' (p : Fin 128) (k : Fin 2048) :
    k0_pay14 (F := Ideal) (k0_pay8 (blk t x0)) (k0_pay9 (blk t x0)) (ix2 p k) = val_main_v34 (F := Ideal) x0 (ix3 0 (row t p) k) := by
  rw [val_main_v34_apply, val_main_v33_apply, idx33, ← second t x0 p k, ← mean t x0 p 0]
  unfold k0_pay14
  pointwise

/-- Twice the centred entry. -/
theorem doubled (p : Fin 128) (k : Fin 2048) :
    k0_pay11 (F := Ideal) (blk t x0) (ix2 p k) = val_main_v28 (F := Ideal) x0 (ix3 0 (row t p) k) := by
  rw [val_main_v28_apply, val_main_v27_apply, val_main_cst_3_apply, ← centred t x0 p k]
  unfold k0_pay11
  pointwise

/-- The variance of a row, plus epsilon. -/
theorem variance (p : Fin 128) (c : Fin 1) :
    k0_pay15 (F := Ideal) (k0_pay12 (blk t x0)) k0_pay13 (ix2 p c) = val_main_v36 (F := Ideal) x0 (ix3 0 (row t p) 0) := by
  rw [val_main_v36_apply, val_main_v35_apply, val_main_cst_6_apply, val_main_v32_apply, val_main_v31_apply, val_main_cst_5_apply,
    val_main_v30_apply, val_main_v29_apply, val_main_cst_4_apply, zero_bits]
  simp only [idx29, val_main_v26_apply, ← centred t x0]
  unfold k0_pay15 k0_pay12 k0_pay13
  pointwise

/-- The reciprocal root. -/
theorem rstd (p : Fin 128) (c : Fin 1) :
    k0_pay16 (F := Ideal) (k0_pay12 (blk t x0)) k0_pay13 (ix2 p c) = val_main_v37 (F := Ideal) x0 (ix3 0 (row t p) 0) := by
  rw [val_main_v37_apply, ← variance t x0 p c]
  rfl

/-- Its derivative. -/
theorem drstd (p : Fin 128) (c : Fin 1) :
    k0_pay17 (F := Ideal) (k0_pay12 (blk t x0)) k0_pay13 (ix2 p c) = val_main_v40 (F := Ideal) x0 (ix3 0 (row t p) 0) := by
  rw [val_main_v40_apply, val_main_v39_apply, val_main_cst_7_apply, val_main_v38_apply, ← variance t x0 p c, ← rstd t x0 p c]
  rfl

/-- The entry before the affine map. -/
theorem scaled (p : Fin 128) (k : Fin 2048) :
    k0_pay18 (F := Ideal) (k0_pay8 (blk t x0)) (k0_pay9 (blk t x0)) (k0_pay12 (blk t x0)) k0_pay13 (ix2 p k)
      = val_main_v42 (F := Ideal) x0 (ix3 0 (row t p) k) := by
  rw [val_main_v42_apply, val_main_v41_apply, idx41, ← centred' t x0 p k, ← rstd t x0 p 0]
  unfold k0_pay18
  pointwise

/-- The normalised rows of a block. -/
def normed : FVec Ideal S128x2048 .f32 :=
  k0_pay19 x3 x4 (k0_pay8 (blk t x0)) (k0_pay9 (blk t x0)) (k0_pay12 (blk t x0)) k0_pay13

theorem normed_apply (p : Fin 128) (k : Fin 2048) :
    normed t x0 x3 x4 (ix2 p k) = val_main_v48 (F := Ideal) x0 x3 x4 (ix3 0 (row t p) k) := by
  rw [val_main_v48_apply, val_main_v45_apply, val_main_v44_apply, val_main_v43_apply, val_main_v4_apply, idx44,
    val_main_v47_apply, val_main_v46_apply, val_main_v5_apply, idx47, ← scaled t x0 p k]
  unfold normed k0_pay19
  pointwise

/-! The spatial product and its gradients. -/

theorem col_surj (n : Fin 2048) : ∃ h j, n = col h j :=
  ⟨⟨n.val / 256, by omega⟩, ⟨n.val % 256, by omega⟩, Fin.ext (by simp only [col]; omega)⟩

theorem gate (h : Fin 8) (p : Fin 128) (j : Fin 256) :
    spatial x1 x2 (normed t x0 x3 x4) h p j = val_main_v65 (F := Ideal) x0 x1 x2 x3 x4 (ix3 0 (row t p) (col h j)) := by
  rw [val_main_v65_apply, idx65, val_main_v64_apply, val_main_v60_apply, idx60, val_main_v59_apply, val_main_v63_apply,
    val_main_v62_apply, val_main_v61_apply, val_main_v6_apply, idx63]
  simp only [lidx59, ridx59, masked, val_main_v49_apply, idx49, ← normed_apply]
  unfold spatial
  exact congrArg (· + x2 (ix3 h p 0)) (Finset.sum_congr rfl fun q _ => mul_comm _ _)

theorem cotangent (p : Fin 128) (k : Fin 2048) :
    blk t x5 (ix2 p k) = val_main_v3 (F := Ideal) x5 (ix3 0 (row t p) k) := by
  rw [val_main_v3_apply, idx3, val_main_v2_apply]; rfl

/-- The gradient of the gate's first factor. -/
theorem firstGrad (p : Fin 128) (k : Fin 2048) :
    gateGrad x1 x2 (normed t x0 x3 x4) (blk t x5) (ix2 p k) = val_main_v68 (F := Ideal) x0 x1 x2 x3 x4 x5 (ix3 0 (row t p) k) := by
  obtain ⟨h, j, rfl⟩ := col_surj k
  rw [gateGrad_apply, gate, cotangent, val_main_v68_apply]
  rfl

/-- The gradient of the spatial product. -/
theorem productGrad (h : Fin 8) (p : Fin 128) (j : Fin 256) :
    k0_pay5 (F := Ideal) (blk t x0) (ix2 p (col h j)) * blk t x5 (ix2 p (col h j)) = val_main_v69 (F := Ideal) x0 x5 (ix5 0 t p h j) := by
  rw [first, cotangent, val_main_v69_apply, idx69, val_main_v67_apply]
  rfl

/-- The gradient of the normalised rows of a block. -/
def normedGrad : FVec Ideal S128x2048 .f32 := normGrad x1 (k0_pay5 (blk t x0)) (blk t x5)

theorem normedGrad_apply (p : Fin 128) (k : Fin 2048) :
    normedGrad t x0 x1 x5 (ix2 p k) = val_main_v79 (F := Ideal) x0 x1 x5 (ix3 0 (row t p) k) := by
  obtain ⟨h, j, rfl⟩ := col_surj k
  unfold normedGrad
  rw [normGrad_apply, val_main_v79_apply, idx79, val_main_v77_apply, idx77, val_main_v76_apply]
  simp only [lidx76, ridx76, masked, val_main_v74_apply, idx74, ← productGrad]

/-! The normalisation's backward. -/

theorem idx90 (r : Fin 4096) (k : Fin 2048) : idx_main_v90 (idx_main_v91 (ix3 0 r 0)) k = ix3 0 r k := funext fun a => Fin.ext (by fin_cases a <;> simp <;> omega)
theorem idx92 (r : Fin 4096) (k : Fin 2048) : idx_main_v92 (ix3 0 r k) = ix3 0 r 0 := funext fun a => by fin_cases a <;> rfl
theorem idx96 (r : Fin 4096) (k : Fin 2048) : idx_main_v96 (idx_main_v97 (ix3 0 r 0)) k = ix3 0 r k := funext fun a => Fin.ext (by fin_cases a <;> simp <;> omega)
theorem idx102 (r : Fin 4096) (k : Fin 2048) : idx_main_v101 (idx_main_v102 (ix3 0 r k)) = ix1 r := funext fun a => by fin_cases a <;> rfl
theorem idx105 (r : Fin 4096) (k : Fin 2048) : idx_main_v105 (idx_main_v106 (ix3 0 r 0)) k = ix3 0 r k := funext fun a => Fin.ext (by fin_cases a <;> simp <;> omega)
theorem idx113 (r : Fin 4096) (k : Fin 2048) : idx_main_v112 (idx_main_v113 (ix3 0 r k)) = ix1 r := funext fun a => by fin_cases a <;> rfl

/-- The gradient of the second half of the gelu, from the gradient of the normalised rows. -/
def halfGrad : FVec Ideal S128x2048 .f32 :=
  k0_pay114 x3 (k0_pay11 (blk t x0)) (k0_pay14 (k0_pay8 (blk t x0)) (k0_pay9 (blk t x0))) (k0_pay16 (k0_pay12 (blk t x0)) k0_pay13)
    (k0_pay17 (k0_pay12 (blk t x0)) k0_pay13) (normedGrad t x0 x1 x5)

theorem affineGrad (p : Fin 128) (k : Fin 2048) :
    normedGrad t x0 x1 x5 (ix2 p k) * x3 (ix2 0 k) = val_main_v87 (F := Ideal) x0 x1 x3 x5 (ix3 0 (row t p) k) := by
  rw [normedGrad_apply, val_main_v87_apply, val_main_v86_apply, val_main_v43_apply, val_main_v4_apply, idx86]
  rfl

theorem directGrad (p : Fin 128) (k : Fin 2048) :
    val_main_v93 (F := Ideal) x0 x1 x3 x5 (ix3 0 (row t p) k)
      = normedGrad t x0 x1 x5 (ix2 p k) * x3 (ix2 0 k) * k0_pay16 (F := Ideal) (k0_pay12 (blk t x0)) k0_pay13 (ix2 p 0) := by
  rw [val_main_v93_apply, val_main_v92_apply, idx92, ← affineGrad, ← rstd t x0 p 0]
  rfl

/-- The gradient of the variance's square root, spread over the row. -/
theorem spreadGrad (p : Fin 128) (k : Fin 2048) :
    val_main_v103 (F := Ideal) x0 x1 x3 x5 (ix3 0 (row t p) k)
      = Ideal.div ((∑ n : Fin 2048, k0_pay14 (F := Ideal) (k0_pay8 (blk t x0)) (k0_pay9 (blk t x0)) (ix2 p n)
            * (normedGrad t x0 x1 x5 (ix2 p n) * x3 (ix2 0 n)))
          * k0_pay17 (F := Ideal) (k0_pay12 (blk t x0)) k0_pay13 (ix2 p 0)) (FloatOps.ofBits .f32 0x45000000#32 : Ideal .f32)
        * k0_pay11 (F := Ideal) (blk t x0) (ix2 p k) := by
  rw [val_main_v103_apply, val_main_v102_apply, val_main_v101_apply, idx102]
  unfold val_main_v100
  rw [sum_column, val_main_cst_18_apply, zero_bits, zero_add, val_main_v99_apply, val_main_v98_apply, val_main_cst_17_apply,
    val_main_v94_apply, val_main_v91_apply, val_main_v90_apply, val_main_cst_15_apply, zero_bits, zero_add, ← doubled t x0 p k, ← drstd t x0 p 0]
  simp only [idx90, val_main_v89_apply, ← centred' t x0, ← affineGrad]
  rfl

theorem zero_minus (x : EReal) : (0 : EReal) - x = -x := by rw [sub_eq_add_neg, zero_add]

theorem halfGrad_apply (p : Fin 128) (k : Fin 2048) :
    halfGrad t x0 x1 x3 x5 (ix2 p k) = val_main_v114 (F := Ideal) x0 x1 x3 x5 (ix3 0 (row t p) k) := by
  rw [val_main_v114_apply, val_main_v107_apply, val_main_v113_apply, val_main_v112_apply, idx113]
  unfold val_main_v111
  rw [sum_column, val_main_cst_21_apply, zero_bits, zero_add, val_main_v110_apply, val_main_v109_apply, val_main_cst_20_apply,
    val_main_v108_apply, val_main_v97_apply, val_main_v96_apply, val_main_cst_16_apply, zero_bits, zero_add, val_main_v106_apply,
    val_main_v105_apply, val_main_cst_19_apply, zero_bits, zero_add]
  simp only [idx96, idx105, val_main_v95_apply, val_main_v104_apply, directGrad, spreadGrad]
  unfold halfGrad k0_pay114
  pointwise
  simp only [zero_minus, Fin.sum_univ_one]

end Cert.Gm
-- ==== Proof.Gm.Real.lean ====
/-
  From real arguments the reference's backward computes real numbers.

  The kernel adds the two terms of the gelu's derivative before it multiplies by the cotangent, and the reference after. On
  real numbers the two are equal; so every value that reaches the gelu's derivative is shown to be a real number. The one
  place that needs an argument is the reciprocal root: the variance is a sum of squares and epsilon is positive.
-/
module

public import proofs.«01_k».proof.Proof.Gm.HostSums
public import proofs.«01_k».proof.Proof.Gm.Gelu

@[expose] public section

set_option maxRecDepth 4000

noncomputable section

namespace Cert.Gm

open Idealize.ShloMosaic Idealize.ShloMosaic.TcCoe Idealize.SL.Sem
open Cert.ReferenceIdeal Cert.ReferenceIdeal.Gen Cert.ReferenceIdeal.Read

/-- A positive real. -/
def IsPositive (x : EReal) : Prop := ∃ r : ℝ, 0 < r ∧ x = (r : EReal)

theorem IsPositive.real {x : EReal} (h : IsPositive x) : IsReal x := by obtain ⟨r, _, rfl⟩ := h; exact ⟨r, rfl⟩
theorem IsPositive.rsqrt {x : EReal} (h : IsPositive x) : IsReal (Ideal.rsqrt x) := by
  obtain ⟨r, hr, rfl⟩ := h
  refine ⟨(Real.sqrt r)⁻¹, ?_⟩
  rw [show Ideal.rsqrt (r : EReal) = if r < 0 then ⊥ else if r = 0 then ⊤ else (((Real.sqrt r)⁻¹ : ℝ) : EReal) from rfl,
    if_neg (not_lt.mpr hr.le), if_neg hr.ne']
theorem IsNonneg.div_pos {x : EReal} (hx : IsNonneg x) {r : ℝ} (hr : 0 < r) : IsNonneg (Ideal.div x (r : EReal)) := by
  obtain ⟨a, ha, rfl⟩ := hx
  rw [Ideal.div_coe hr.ne']
  exact ⟨a * (1 / r), mul_nonneg ha (one_div_nonneg.mpr hr.le), (EReal.coe_mul a (1 / r)).symm⟩
theorem IsNonneg.add_pos {x y : EReal} (hx : IsNonneg x) (hy : IsPositive y) : IsPositive (x + y) := by
  obtain ⟨a, ha, rfl⟩ := hx; obtain ⟨b, hb, rfl⟩ := hy
  exact ⟨a + b, add_pos_of_nonneg_of_pos ha hb, (EReal.coe_add a b).symm⟩
theorem IsReal.div_pos {x y : EReal} (hx : IsReal x) (hy : IsPositive y) : IsReal (Ideal.div x y) := by
  obtain ⟨b, hb, rfl⟩ := hy; exact hx.div hb.ne'
theorem IsReal.of_eq {x y : EReal} (h : x = y) (hy : IsReal y) : IsReal x := h ▸ hy

theorem real_half : IsReal (FloatOps.ofBits .f32 0x3F000000#32 : Ideal .f32) := ⟨_, half_bits⟩
theorem real_mhalf : IsReal (FloatOps.ofBits .f32 0xBF000000#32 : Ideal .f32) := ⟨_, mhalf_bits⟩
theorem real_two : IsReal (FloatOps.ofBits .f32 0x40000000#32 : Ideal .f32) := ⟨_, two_bits⟩
theorem real_zero : IsReal (FloatOps.ofBits .f32 0x00000000#32 : Ideal .f32) := ⟨0, zero_bits⟩
theorem positive_width : IsPositive (FloatOps.ofBits .f32 0x45000000#32 : Ideal .f32) := ⟨2048, by norm_num, width_bits⟩
theorem positive_eps : IsPositive (FloatOps.ofBits .f32 0x358637BD#32 : Ideal .f32) := by
  obtain ⟨e, he, h⟩ := eps_bits; exact ⟨e, he, h⟩
theorem real_root : IsReal (Ideal.sqrt (FloatOps.ofBits .f32 0x3F000000#32 : Ideal .f32)) := by
  rw [half_bits, sqrt_half]; exact IsReal.coe _

variable {x0 : Vec Ideal S4096x4096 .bf16} {x1 : Vec Ideal S8x128x128 .f32} {x2 : Vec Ideal S8x128x1 .f32}
  {x3 x4 : Vec Ideal S1x2048 .f32} {x5 : Vec Ideal S4096x2048 .bf16}
  (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i))

include h0 in
theorem real_v1 (i : S1x4096x4096.Idx) : IsReal (val_main_v1 (F := Ideal) x0 i) := by
  rw [val_main_v1_apply, val_main_v0_apply]
  exact h0 _

include h0 in
theorem real_v17 (i : S1x4096x4096.Idx) : IsReal (val_main_v17 (F := Ideal) x0 i) := by
  rw [val_main_v17_apply, val_main_v9_apply, val_main_v8_apply, val_main_cst_0_apply, val_main_v13_apply, val_main_v12_apply, val_main_v10_apply, val_main_v11_apply, val_main_v7_apply, val_main_cst_apply]
  exact (real_half.mul (real_v1 h0 _)).mul (IsReal.erfc (((real_v1 h0 _).neg).mul real_root))

include h0 in
theorem real_v18 (i : S1x4096x2048.Idx) : IsReal (val_main_v18 (F := Ideal) x0 i) := by
  rw [val_main_v18_apply]
  exact real_v17 h0 _

include h0 in
theorem real_v19 (i : S1x4096x2048.Idx) : IsReal (val_main_v19 (F := Ideal) x0 i) := by
  rw [val_main_v19_apply]
  exact real_v17 h0 _

include h0 in
theorem real_v20 (i : S1x4096.Idx) : IsReal (val_main_v20 (F := Ideal) x0 i) := by
  rw [val_main_v20_apply, val_main_cst_1_apply]
  exact real_zero.add (IsReal.sum _ _ fun k => real_v19 h0 _)

include h0 in
theorem real_v23 (i : S1x4096x1.Idx) : IsReal (val_main_v23 (F := Ideal) x0 i) := by
  rw [val_main_v23_apply, val_main_v22_apply, val_main_cst_2_apply, val_main_v21_apply]
  exact (real_v20 h0 _).div_pos positive_width

include h0 in
theorem real_v25 (i : S1x4096x2048.Idx) : IsReal (val_main_v25 (F := Ideal) x0 i) := by
  rw [val_main_v25_apply, val_main_v24_apply]
  exact (real_v19 h0 _).sub (real_v23 h0 _)

include h0 in
theorem real_v28 (i : S1x4096x2048.Idx) : IsReal (val_main_v28 (F := Ideal) x0 i) := by
  rw [val_main_v28_apply, val_main_v27_apply, val_main_cst_3_apply]
  exact real_two.mul (real_v25 h0 _)

include h0 in
theorem real_v34 (i : S1x4096x2048.Idx) : IsReal (val_main_v34 (F := Ideal) x0 i) := by
  rw [val_main_v34_apply, val_main_v33_apply]
  exact (real_v19 h0 _).sub (real_v23 h0 _)

include h0 in
theorem real_v32 (i : S1x4096x1.Idx) : IsNonneg (val_main_v32 (F := Ideal) x0 i) := by
  rw [val_main_v32_apply, val_main_v31_apply, val_main_cst_5_apply, val_main_v30_apply, val_main_v29_apply, val_main_cst_4_apply, zero_bits, zero_add, width_bits]
  exact (IsNonneg.sum _ _ fun k => by rw [val_main_v26_apply]; exact (real_v25 h0 _).sq).div_pos (r := 2048) (by norm_num)

include h0 in
theorem real_v36 (i : S1x4096x1.Idx) : IsPositive (val_main_v36 (F := Ideal) x0 i) := by
  rw [val_main_v36_apply, val_main_v35_apply, val_main_cst_6_apply]
  exact (real_v32 h0 _).add_pos positive_eps

include h0 in
theorem real_v37 (i : S1x4096x1.Idx) : IsReal (val_main_v37 (F := Ideal) x0 i) := by
  rw [val_main_v37_apply]
  exact (real_v36 h0 _).rsqrt

include h0 in
theorem real_v40 (i : S1x4096x1.Idx) : IsReal (val_main_v40 (F := Ideal) x0 i) := by
  rw [val_main_v40_apply, val_main_v39_apply, val_main_cst_7_apply, val_main_v38_apply]
  exact real_mhalf.mul ((real_v37 h0 _).div_pos (real_v36 h0 _))

include h0 in
theorem real_v42 (i : S1x4096x2048.Idx) : IsReal (val_main_v42 (F := Ideal) x0 i) := by
  rw [val_main_v42_apply, val_main_v41_apply]
  exact (real_v34 h0 _).mul (real_v37 h0 _)

include h3 in
theorem real_v43 (i : S1x1x2048.Idx) : IsReal (val_main_v43 (F := Ideal) x3 i) := by
  rw [val_main_v43_apply, val_main_v4_apply]
  exact h3 _

include h4 in
theorem real_v46 (i : S1x1x2048.Idx) : IsReal (val_main_v46 (F := Ideal) x4 i) := by
  rw [val_main_v46_apply, val_main_v5_apply]
  exact h4 _

include h0 h3 h4 in
theorem real_v48 (i : S1x4096x2048.Idx) : IsReal (val_main_v48 (F := Ideal) x0 x3 x4 i) := by
  rw [val_main_v48_apply, val_main_v45_apply, val_main_v44_apply, val_main_v47_apply]
  exact ((real_v42 h0 _).mul (real_v43 h3 _)).add (real_v46 h4 _)

include h1 in
theorem real_v58 (i : S8x128x128.Idx) : IsReal (val_main_v58_0 (F := Ideal) x1 i) := by
  obtain ⟨h, p, q, rfl⟩ : ∃ h p q, i = ix3 h p q := ⟨i 0, i 1, i 2, funext fun a => by fin_cases a <;> rfl⟩
  rw [masked]
  unfold weight
  split_ifs
  · exact h1 _
  · exact IsReal.zero

include h0 h1 h2 h3 h4 in
theorem real_v65 (i : S1x4096x2048.Idx) : IsReal (val_main_v65 (F := Ideal) x0 x1 x2 x3 x4 i) := by
  rw [val_main_v65_apply, val_main_v64_apply, val_main_v60_apply, val_main_v59_apply, val_main_v63_apply, val_main_v62_apply, val_main_v61_apply, val_main_v6_apply]
  exact (IsReal.sum _ _ fun k => (IsReal.of_eq (val_main_v49_apply (F := Ideal) x0 x3 x4 _) (real_v48 h0 h3 h4 _)).mul (real_v58 h1 _)).add (h2 _)

include h5 in
theorem real_v3 (i : S1x4096x2048.Idx) : IsReal (val_main_v3 (F := Ideal) x5 i) := by
  rw [val_main_v3_apply, val_main_v2_apply]
  exact h5 _

include h0 h1 h2 h3 h4 h5 in
theorem real_v68 (i : S1x4096x2048.Idx) : IsReal (val_main_v68 (F := Ideal) x0 x1 x2 x3 x4 x5 i) := by
  rw [val_main_v68_apply]
  exact (real_v3 h5 _).mul (real_v65 h0 h1 h2 h3 h4 _)

include h0 h5 in
theorem real_v69 (i : S1x32x128x8x256.Idx) : IsReal (val_main_v69 (F := Ideal) x0 x5 i) := by
  rw [val_main_v69_apply, val_main_v67_apply]
  exact (real_v18 h0 _).mul (real_v3 h5 _)

include h0 h1 h5 in
theorem real_v79 (i : S1x4096x2048.Idx) : IsReal (val_main_v79 (F := Ideal) x0 x1 x5 i) := by
  rw [val_main_v79_apply, val_main_v77_apply, val_main_v76_apply]
  exact IsReal.sum _ _ fun k => (IsReal.of_eq (val_main_v74_apply (F := Ideal) x0 x5 _) (real_v69 h0 h5 _)).mul (real_v58 h1 _)

include h0 h1 h3 h5 in
theorem real_v87 (i : S1x4096x2048.Idx) : IsReal (val_main_v87 (F := Ideal) x0 x1 x3 x5 i) := by
  rw [val_main_v87_apply, val_main_v86_apply]
  exact (real_v79 h0 h1 h5 _).mul (real_v43 h3 _)

include h0 h1 h3 h5 in
theorem real_v89 (i : S1x4096x2048.Idx) : IsReal (val_main_v89 (F := Ideal) x0 x1 x3 x5 i) := by
  rw [val_main_v89_apply]
  exact (real_v34 h0 _).mul (real_v87 h0 h1 h3 h5 _)

include h0 h1 h3 h5 in
theorem real_v91 (i : S1x4096x1.Idx) : IsReal (val_main_v91 (F := Ideal) x0 x1 x3 x5 i) := by
  rw [val_main_v91_apply, val_main_v90_apply, val_main_cst_15_apply]
  exact real_zero.add (IsReal.sum _ _ fun k => real_v89 h0 h1 h3 h5 _)

include h0 h1 h3 h5 in
theorem real_v93 (i : S1x4096x2048.Idx) : IsReal (val_main_v93 (F := Ideal) x0 x1 x3 x5 i) := by
  rw [val_main_v93_apply, val_main_v92_apply]
  exact (real_v87 h0 h1 h3 h5 _).mul (real_v37 h0 _)

include h0 h1 h3 h5 in
theorem real_v94 (i : S1x4096x1.Idx) : IsReal (val_main_v94 (F := Ideal) x0 x1 x3 x5 i) := by
  rw [val_main_v94_apply]
  exact (real_v91 h0 h1 h3 h5 _).mul (real_v40 h0 _)

include h0 h1 h3 h5 in
theorem real_v95 (i : S1x4096x2048.Idx) : IsReal (val_main_v95 (F := Ideal) x0 x1 x3 x5 i) := by
  rw [val_main_v95_apply]
  exact (real_v93 h0 h1 h3 h5 _).neg

include h0 h1 h3 h5 in
theorem real_v97 (i : S1x4096x1.Idx) : IsReal (val_main_v97 (F := Ideal) x0 x1 x3 x5 i) := by
  rw [val_main_v97_apply, val_main_v96_apply, val_main_cst_16_apply]
  exact real_zero.add (IsReal.sum _ _ fun k => real_v95 h0 h1 h3 h5 _)

include h0 h1 h3 h5 in
theorem real_v99 (i : S1x4096x1.Idx) : IsReal (val_main_v99 (F := Ideal) x0 x1 x3 x5 i) := by
  rw [val_main_v99_apply, val_main_v98_apply, val_main_cst_17_apply]
  exact (real_v94 h0 h1 h3 h5 _).div_pos positive_width

include h0 h1 h3 h5 in
theorem real_v100 (i : S4096.Idx) : IsReal (val_main_v100 (F := Ideal) x0 x1 x3 x5 i) := by
  obtain ⟨n, rfl⟩ : ∃ n, i = ix1 n := ⟨i 0, funext fun a => by fin_cases a; rfl⟩
  unfold val_main_v100
  rw [sum_column, val_main_cst_18_apply]
  exact real_zero.add (real_v99 h0 h1 h3 h5 _)

include h0 h1 h3 h5 in
theorem real_v103 (i : S1x4096x2048.Idx) : IsReal (val_main_v103 (F := Ideal) x0 x1 x3 x5 i) := by
  rw [val_main_v103_apply, val_main_v102_apply, val_main_v101_apply]
  exact (real_v100 h0 h1 h3 h5 _).mul (real_v28 h0 _)

include h0 h1 h3 h5 in
theorem real_v104 (i : S1x4096x2048.Idx) : IsReal (val_main_v104 (F := Ideal) x0 x1 x3 x5 i) := by
  rw [val_main_v104_apply]
  exact (real_v103 h0 h1 h3 h5 _).neg

include h0 h1 h3 h5 in
theorem real_v106 (i : S1x4096x1.Idx) : IsReal (val_main_v106 (F := Ideal) x0 x1 x3 x5 i) := by
  rw [val_main_v106_apply, val_main_v105_apply, val_main_cst_19_apply]
  exact real_zero.add (IsReal.sum _ _ fun k => real_v104 h0 h1 h3 h5 _)

include h0 h1 h3 h5 in
theorem real_v107 (i : S1x4096x2048.Idx) : IsReal (val_main_v107 (F := Ideal) x0 x1 x3 x5 i) := by
  rw [val_main_v107_apply]
  exact (real_v93 h0 h1 h3 h5 _).add (real_v103 h0 h1 h3 h5 _)

include h0 h1 h3 h5 in
theorem real_v110 (i : S1x4096x1.Idx) : IsReal (val_main_v110 (F := Ideal) x0 x1 x3 x5 i) := by
  rw [val_main_v110_apply, val_main_v109_apply, val_main_cst_20_apply, val_main_v108_apply]
  exact ((real_v97 h0 h1 h3 h5 _).add (real_v106 h0 h1 h3 h5 _)).div_pos positive_width

include h0 h1 h3 h5 in
theorem real_v111 (i : S4096.Idx) : IsReal (val_main_v111 (F := Ideal) x0 x1 x3 x5 i) := by
  obtain ⟨n, rfl⟩ : ∃ n, i = ix1 n := ⟨i 0, funext fun a => by fin_cases a; rfl⟩
  unfold val_main_v111
  rw [sum_column, val_main_cst_21_apply]
  exact real_zero.add (real_v110 h0 h1 h3 h5 _)

include h0 h1 h3 h5 in
theorem real_v114 (i : S1x4096x2048.Idx) : IsReal (val_main_v114 (F := Ideal) x0 x1 x3 x5 i) := by
  rw [val_main_v114_apply, val_main_v113_apply, val_main_v112_apply]
  exact (real_v107 h0 h1 h3 h5 _).add (real_v111 h0 h1 h3 h5 _)

end Cert.Gm
-- ==== Proof.Gm.Grad.lean ====
/-
  The five results of the spatial gating mixer's backward, block by block.

  The gradient of the input is written a block of rows at a time. The four gradients of the parameters are sums over the
  blocks; each theorem below gives the reference's entry as such a sum.
-/
module

public import proofs.«01_k».proof.Proof.Gm.Rows
public import proofs.«01_k».proof.Proof.Gm.Real
public import Idealize.ShloMosaic.Lib.Pipeline.ValueKit

@[expose] public section

set_option maxRecDepth 4000

noncomputable section

namespace Cert.Gm

open Idealize.ShloMosaic Idealize.ShloMosaic.TcCoe Idealize.SL.Sem
open Cert.KernelIdeal Cert.KernelIdeal.Gen Cert.ReferenceIdeal.Read

variable (t : Fin 32) (x0 : Vec Ideal S4096x4096 .bf16) (x1 : Vec Ideal S8x128x128 .f32) (x2 : Vec Ideal S8x128x1 .f32)
  (x3 x4 : Vec Ideal S1x2048 .f32) (x5 : Vec Ideal S4096x2048 .bf16)

/-! The gradient of the input. -/

theorem joined_lo (r : Fin 4096) (k : Fin 2048) :
    val_main_v115 (F := Ideal) x0 x1 x2 x3 x4 x5 (ix3 0 r (lo k)) = val_main_v68 (F := Ideal) x0 x1 x2 x3 x4 x5 (ix3 0 r k) := by
  unfold val_main_v115
  generalize val_main_v68 (F := Ideal) x0 x1 x2 x3 x4 x5 = y
  generalize val_main_v114 (F := Ideal) x0 x1 x3 x5 = z
  exact concatenate_pair_apply_left (s₁ := Cert.ReferenceIdeal.S1x4096x2048) (s₂ := Cert.ReferenceIdeal.S1x4096x2048) 2 y z _
    (ix3 0 r (lo k)) rfl (ix3 0 r k) (fun b => match b with | ⟨0, _⟩ => rfl | ⟨1, _⟩ => rfl | ⟨2, _⟩ => rfl)

theorem joined_hi (r : Fin 4096) (k : Fin 2048) :
    val_main_v115 (F := Ideal) x0 x1 x2 x3 x4 x5 (ix3 0 r (hi k)) = val_main_v114 (F := Ideal) x0 x1 x3 x5 (ix3 0 r k) := by
  unfold val_main_v115
  generalize val_main_v68 (F := Ideal) x0 x1 x2 x3 x4 x5 = y
  generalize val_main_v114 (F := Ideal) x0 x1 x3 x5 = z
  exact concatenate_pair_apply_right (s₁ := Cert.ReferenceIdeal.S1x4096x2048) (s₂ := Cert.ReferenceIdeal.S1x4096x2048) 2 y z _
    (ix3 0 r (hi k)) rfl rfl (ix3 0 r k) (fun b hb => match b, hb with
      | ⟨0, _⟩, _ => rfl | ⟨1, _⟩, _ => rfl | ⟨2, _⟩, hb => absurd rfl hb)
    (by change k.val + 2048 = 2048 + k.val; omega)

theorem idx127 (r n : Fin 4096) : idx_main_v127 (ix2 r n) = ix3 0 r n :=
  funext fun a => Fin.ext (by fin_cases a <;> simp <;> omega)

/-- The reference's entry, from the cotangent of the gelu. -/
theorem input_apply (r n : Fin 4096) :
    val_main_v128 (F := Ideal) x0 x1 x2 x3 x4 x5 (ix2 r n)
      = -((((FloatOps.ofBits .f32 0xBF906EBB#32 : Ideal .f32) * (((FloatOps.ofBits .f32 0x3F000000#32 : Ideal .f32) * x0 (ix2 r n))
              * val_main_v115 (F := Ideal) x0 x1 x2 x3 x4 x5 (ix3 0 r n)))
            * Ideal.exp (-((-(x0 (ix2 r n)) * Ideal.sqrt (FloatOps.ofBits .f32 0x3F000000#32 : Ideal .f32))
                * (-(x0 (ix2 r n)) * Ideal.sqrt (FloatOps.ofBits .f32 0x3F000000#32 : Ideal .f32)))))
          * Ideal.sqrt (FloatOps.ofBits .f32 0x3F000000#32 : Ideal .f32))
        + (FloatOps.ofBits .f32 0x3F000000#32 : Ideal .f32)
          * (val_main_v115 (F := Ideal) x0 x1 x2 x3 x4 x5 (ix3 0 r n)
            * Ideal.erfc (-(x0 (ix2 r n)) * Ideal.sqrt (FloatOps.ofBits .f32 0x3F000000#32 : Ideal .f32))) := by
  rw [val_main_v128_apply, val_main_v127_apply, idx127, val_main_v126_apply, val_main_v123_apply, val_main_v122_apply,
    val_main_v120_apply, val_main_v119_apply, val_main_v118_apply, val_main_cst_22_apply, val_main_v116_apply, val_main_v9_apply,
    val_main_v8_apply, val_main_cst_0_apply, val_main_v16_apply, val_main_v15_apply, val_main_v14_apply, arg, val_main_v121_apply,
    val_main_v7_apply, val_main_cst_apply, val_main_v125_apply, val_main_v124_apply, val_main_cst_23_apply, val_main_v117_apply,
    val_main_v13_apply, arg, entry]
  rfl

/-- The kernel's block of the gradient of the input. -/
def inputGrad : FVec Ideal S128x4096 .bf16 :=
  k0_pay116 (k0_pay3 (blk t x0)) (k0_pay4 (blk t x0)) (k0_pay7 (blk t x0)) (gateGrad x1 x2 (normed t x0 x3 x4) (blk t x5))
    (halfGrad t x0 x1 x3 x5) (k0_pay115 (k0_pay6 (blk t x0)))

variable (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i))

theorem dgelu_one {y g : EReal} (hy : IsReal y) (hg : IsReal g) :
    g * ((FloatOps.ofBits .f32 0x3F000000#32 : Ideal .f32)
          * (1 + Ideal.erf (y * (Named.named κ "inv_sqrt2" 0x3F3504F3#32 : Ideal .f32)))
        + y * (Ideal.exp (((FloatOps.ofBits .f32 0xBF000000#32 : Ideal .f32) * y) * y) * (Named.named κ "inv_sqrt2pi" 0x3ECC422A#32 : Ideal .f32)))
      = -((((FloatOps.ofBits .f32 0xBF906EBB#32 : Ideal .f32) * (((FloatOps.ofBits .f32 0x3F000000#32 : Ideal .f32) * y) * g))
            * Ideal.exp (-((-y * Ideal.sqrt (FloatOps.ofBits .f32 0x3F000000#32 : Ideal .f32))
                * (-y * Ideal.sqrt (FloatOps.ofBits .f32 0x3F000000#32 : Ideal .f32)))))
          * Ideal.sqrt (FloatOps.ofBits .f32 0x3F000000#32 : Ideal .f32))
        + (FloatOps.ofBits .f32 0x3F000000#32 : Ideal .f32)
          * (g * Ideal.erfc (-y * Ideal.sqrt (FloatOps.ofBits .f32 0x3F000000#32 : Ideal .f32))) := by
  have h := dgelu_eq hy hg
  rw [one_bits] at h
  exact h

/-- The kernel's entry in the first half. -/
theorem inputGrad_lo (p : Fin 128) (k : Fin 2048) :
    inputGrad t x0 x1 x2 x3 x4 x5 (ix2 p (lo k))
      = gateGrad x1 x2 (normed t x0 x3 x4) (blk t x5) (ix2 p k)
        * (k0_pay4 (F := Ideal) (blk t x0) (ix2 p k) + k0_pay3 (F := Ideal) (blk t x0) (ix2 p k)
          * (Ideal.exp (((FloatOps.ofBits .f32 0xBF000000#32 : Ideal .f32) * k0_pay3 (F := Ideal) (blk t x0) (ix2 p k)) * k0_pay3 (F := Ideal) (blk t x0) (ix2 p k))
            * (Named.named κ "inv_sqrt2pi" 0x3ECC422A#32 : Ideal .f32))) := by
  unfold inputGrad k0_pay116
  pointwise
  have hn : (lo k).val < 2048 := k.isLt
  rw [dif_pos hn, dif_pos hn, zero_add]
  rfl

theorem inputGrad_hi (p : Fin 128) (k : Fin 2048) :
    inputGrad t x0 x1 x2 x3 x4 x5 (ix2 p (hi k))
      = halfGrad t x0 x1 x3 x5 (ix2 p k)
        * (k0_pay7 (F := Ideal) (blk t x0) (ix2 p k) + k0_pay115 (F := Ideal) (k0_pay6 (blk t x0)) (ix2 p k)) := by
  unfold inputGrad k0_pay116
  pointwise
  have hn : ¬ (hi k).val < 2048 := by simp only [hi]; omega
  have e : (hi k).val - 2048 = k.val := by simp only [hi]; omega
  rw [dif_neg hn, dif_neg hn, add_zero]
  simp only [e, Fin.eta]

include h0 h1 h2 h3 h4 h5 in
/-- The kernel's block is the reference's. -/
theorem inputGrad_apply (p : Fin 128) (n : Fin 4096) :
    inputGrad t x0 x1 x2 x3 x4 x5 (ix2 p n) = val_main_v128 (F := Ideal) x0 x1 x2 x3 x4 x5 (ix2 (row t p) n) := by
  rw [input_apply]
  by_cases hn : n.val < 2048
  · obtain ⟨k, rfl⟩ : ∃ k : Fin 2048, n = lo k := ⟨⟨n.val, hn⟩, rfl⟩
    rw [inputGrad_lo, joined_lo, firstGrad]
    refine Eq.trans ?_ (dgelu_one (h0 _) (real_v68 h0 h1 h2 h3 h4 h5 _))
    unfold k0_pay4 k0_pay3 k0_pay2
    pointwise
    rfl
  · obtain ⟨k, rfl⟩ : ∃ k : Fin 2048, n = hi k := ⟨⟨n.val - 2048, by omega⟩, Fin.ext (by simp only [hi]; omega)⟩
    rw [inputGrad_hi, joined_hi, halfGrad_apply]
    refine Eq.trans ?_ (dgelu_one (h0 _) (real_v114 h0 h1 h3 h5 _))
    unfold k0_pay115 k0_pay7 k0_pay6 k0_pay2
    pointwise
    rfl

/-! The gradients of the parameters, summed over the blocks. -/

/-- Summing over the 32 blocks and the 128 rows of each is summing over the 4096 rows. -/
theorem sum_rows (f : Fin 4096 → EReal) : (∑ t : Fin 32, ∑ p : Fin 128, f (row t p)) = ∑ r : Fin 4096, f r :=
  Fin.sum_mul_add_congr fun _ _ _ => rfl

theorem weights_sum (h : Fin 8) (p q : Fin 128) :
    ∑ t : Fin 32, weightGrad (k0_pay5 (F := Ideal) (blk t x0)) (normed t x0 x3 x4) (blk t x5) (ix3 h p q)
      = val_main_v78 (F := Ideal) x0 x3 x4 x5 (ix3 h p q) := by
  rw [val_main_v78_apply, select_chunk, val_main_call2_v0_apply, val_main_call2_cst_apply, zero_bits]
  simp only [weightGrad_apply]
  split_ifs
  · unfold val_main_v75
    rw [dot_apply, Fintype.sum_prod_type]
    refine Finset.sum_congr rfl fun t _ => Finset.sum_congr rfl fun j _ => ?_
    rw [productGrad, normed_apply, val_main_v74_apply, idx74, val_main_v49_apply, idx49]
  · exact Finset.sum_const_zero

theorem idx129 (h : Fin 8) (p : Fin 128) : idx_main_v73 (idx_main_v129 (ix3 h p 0)) = ix2 p h :=
  funext fun a => Fin.ext (by fin_cases a <;> simp <;> omega)
theorem idx71 (h : Fin 8) (p : Fin 128) : idx_main_v71 (ix5 0 0 p h 0) = ix3 0 p h :=
  funext fun a => Fin.ext (by fin_cases a <;> simp <;> omega)

theorem offsets_sum (h : Fin 8) (p : Fin 128) :
    ∑ t : Fin 32, offsetGrad (k0_pay5 (F := Ideal) (blk t x0)) (blk t x5) (ix3 h p 0)
      = val_main_v129 (F := Ideal) x0 x5 (ix3 h p 0) := by
  rw [val_main_v129_apply, val_main_v73_apply, idx129]
  unfold val_main_v72
  rw [sum_offset, val_main_cst_10_apply, zero_bits, zero_add, val_main_v71_apply, idx71]
  unfold val_main_v70
  rw [sum_head, val_main_cst_9_apply, zero_bits, zero_add, Fintype.sum_prod_type]
  refine Finset.sum_congr rfl fun t _ => ?_
  rw [offsetGrad_apply]
  exact Finset.sum_congr rfl fun j _ => productGrad t x0 x5 h p j

theorem idx130 (k : Fin 2048) : idx_main_v130 (ix2 0 k) = ix1 k := funext fun a => Fin.ext (by fin_cases a <;> simp <;> omega)
theorem idx131 (k : Fin 2048) : idx_main_v131 (ix2 0 k) = ix1 k := funext fun a => Fin.ext (by fin_cases a <;> simp <;> omega)
theorem idx84 (k : Fin 2048) (r : Fin 4096) : idx_main_v84 (idx_main_v85 (ix3 0 0 k)) r = ix3 0 r k :=
  funext fun a => Fin.ext (by fin_cases a <;> simp <;> omega)
theorem idx80 (k : Fin 2048) (r : Fin 4096) : idx_main_v80 (idx_main_v81 (ix3 0 0 k)) r = ix3 0 r k :=
  funext fun a => Fin.ext (by fin_cases a <;> simp <;> omega)

theorem scales_sum (k : Fin 2048) :
    ∑ t : Fin 32, k0_pay113 (F := Ideal) (k0_pay18 (k0_pay8 (blk t x0)) (k0_pay9 (blk t x0)) (k0_pay12 (blk t x0)) k0_pay13) (normedGrad t x0 x1 x5) (ix2 0 k)
      = val_main_v130 (F := Ideal) x0 x1 x5 (ix2 0 k) := by
  rw [val_main_v130_apply, idx130]
  unfold val_main_v88
  rw [sum_row, val_main_cst_14_apply, zero_bits, zero_add, val_main_v85_apply, val_main_v84_apply, val_main_cst_13_apply, zero_bits, zero_add,
    ← sum_rows]
  refine Finset.sum_congr rfl fun t _ => ?_
  simp only [idx84, val_main_v83_apply, ← scaled t x0, ← normedGrad_apply t x0 x1 x5]
  unfold k0_pay113
  pointwise

theorem shifts_sum (k : Fin 2048) :
    ∑ t : Fin 32, k0_pay112 (F := Ideal) (normedGrad t x0 x1 x5) (ix2 0 k) = val_main_v131 (F := Ideal) x0 x1 x5 (ix2 0 k) := by
  rw [val_main_v131_apply, idx131]
  unfold val_main_v82
  rw [sum_row, val_main_cst_12_apply, zero_bits, zero_add, val_main_v81_apply, val_main_v80_apply, val_main_cst_11_apply, zero_bits, zero_add,
    ← sum_rows]
  refine Finset.sum_congr rfl fun t _ => ?_
  simp only [idx80, ← normedGrad_apply t x0 x1 x5]
  unfold k0_pay112
  pointwise

end Cert.Gm
-- ==== Proof.Gm.Arrays.lean ====
/-
  What each array of the spatial gating mixer's backward holds after the kernel has run, as the reference's array.

  The gradient of the input is written block by block; the four gradients of the parameters are accumulated in one block,
  which the first point resets and the last one writes back.
-/
module

public import proofs.«01_k».proof.Proof.Gm.Grad

@[expose] public section

set_option maxRecDepth 4000

noncomputable section

namespace Cert.Gm

open Idealize.ShloMosaic Idealize.ShloMosaic.TcCoe Idealize.SL.Sem
open Idealize.ShloMosaic.Pipeline (Dat)
open Cert.KernelIdeal Cert.KernelIdeal.Gen Cert.ReferenceIdeal.Read

variable (m : (ℓ : Loc nD τ sig) → Buf (Elt Ideal) ℓ) (c : Dev nD)

section
variable (h0 : ∀ i, IsReal (m (c.tc.loc main_arg0) i)) (h1 : ∀ i, IsReal (m (c.tc.loc main_arg1) i)) (h2 : ∀ i, IsReal (m (c.tc.loc main_arg2) i))
  (h3 : ∀ i, IsReal (m (c.tc.loc main_arg3) i)) (h4 : ∀ i, IsReal (m (c.tc.loc main_arg4) i)) (h5 : ∀ i, IsReal (m (c.tc.loc main_arg5) i))

include h0 h1 h2 h3 h4 h5 in
/-- The gradient of the input. -/
theorem final_dz : (dats m 0 c).arrAt 6 cfg0.N = val_main_v128 (F := Ideal)
    (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t hf y => ?_
  have hy : (win0_6.blk t).view.emb y = ix2 (row (pt t) (y 0)) (y 1) := by blk_ext [at6, pt, row]
  blk_simp
  rw [after0_6]
  refine Eq.trans ?_ (congrArg _ hy.symm)
  by_cases h0' : t.val % 32 = 0
  · rw [outsAt0_A m c t h0']
    frame_out
    rw [iblk0, iblk1, iblk2, iblk3, iblk4, iblk5]
    exact (congrArg _ (eq_ix2 y)).trans (inputGrad_apply (pt t) _ _ _ _ _ _ h0 h1 h2 h3 h4 h5 (y 0) (y 1))
  · rw [outsAt0_B m c t h0']
    frame_out
    rw [iblk0, iblk1, iblk2, iblk3, iblk4, iblk5]
    exact (congrArg _ (eq_ix2 y)).trans (inputGrad_apply (pt t) _ _ _ _ _ _ h0 h1 h2 h3 h4 h5 (y 0) (y 1))
end

/-- The last grid point. -/
def last : Fin cfg0.N := ⟨31, by rw [show cfg0.N = 32 from N_0]; decide⟩

/-- The zero blocks hold zero. -/
theorem pay117_apply (y : S8x128x128.Idx) : k0_pay117 (F := Ideal) y = 0 := zero_bits
theorem pay118_apply (y : S8x128x1.Idx) : k0_pay118 (F := Ideal) y = 0 := zero_bits
theorem pay119_apply (y : S1x2048.Idx) : k0_pay119 (F := Ideal) y = 0 := zero_bits
theorem pay120_apply (y : S1x2048.Idx) : k0_pay120 (F := Ideal) y = 0 := zero_bits

/-- Adding a block's part to what was accumulated. -/
theorem pay121_apply (x acc : Vec Ideal S8x128x128 .f32) (y : S8x128x128.Idx) : k0_pay121 (F := Ideal) x acc y = acc y + x y := by
  unfold k0_pay121; pointwise
theorem pay122_apply (x acc : Vec Ideal S8x128x1 .f32) (y : S8x128x1.Idx) : k0_pay122 (F := Ideal) x acc y = acc y + x y := by
  unfold k0_pay122; pointwise
theorem pay123_apply (x acc : Vec Ideal S1x2048 .f32) (y : S1x2048.Idx) : k0_pay123 (F := Ideal) x acc y = acc y + x y := by
  unfold k0_pay123; pointwise
theorem pay1_apply (x acc : Vec Ideal S1x2048 .f32) (y : S1x2048.Idx) : k0_pay1 (F := Ideal) x acc y = acc y + x y := by
  unfold k0_pay1; pointwise

/-- Summing over the grid's points is summing over the 32 blocks. -/
theorem sum_points (f : Fin 32 → EReal) : (∑ t : Fin cfg0.N, f (pt t)) = ∑ t : Fin 32, f t :=
  Equiv.sum_comp (finCongr N_0) f

/-- The gradient of the spatial weights: the blocks' parts, summed. -/
theorem final_dws : (dats m 0 c).arrAt 7 cfg0.N = val_main_v78 (F := Ideal)
    (m (c.tc.loc main_arg0)) (m (c.tc.loc main_arg3)) (m (c.tc.loc main_arg4)) (m (c.tc.loc main_arg5)) := by
  funext i
  refine ((dats m 0 c).arrAt_emb_eq_after_last 7 last (by decide +kernel) i).trans ?_
  obtain ⟨h, p, q, rfl⟩ : ∃ (h : Fin 8) (p q : Fin 128), i = ix3 h p q := ⟨i 0, i 1, i 2, eq_ix3 i⟩
  blk_simp
  rw [after0_7, Pipeline.eq_sum_fin_of_reset_step_apply_last (fun n h => (outsAt0 m c n h).2.1) 32 (fun _ => 0)
    (fun t => weightGrad (k0_pay5 (F := Ideal) (blk (pt t) (m (c.tc.loc main_arg0))))
      (normed (pt t) (m (c.tc.loc main_arg0)) (m (c.tc.loc main_arg3)) (m (c.tc.loc main_arg4))) (blk (pt t) (m (c.tc.loc main_arg5))))
    (fun t h j => by
      rw [outsAt0_A m c t h]; frame_out
      rw [iblk0, iblk3, iblk4, iblk5, pay121_apply, pay117_apply]; rfl)
    (fun t h j => by
      rw [outsAt0_B m c t h]; frame_out
      rw [iblk0, iblk3, iblk4, iblk5, pay121_apply]; rfl)
    (le_of_eq N_0) last rfl (ix3 h p q), zero_add]
  rw [← weights_sum]
  exact sum_points fun t => weightGrad (k0_pay5 (F := Ideal) (blk t (m (c.tc.loc main_arg0))))
      (normed t (m (c.tc.loc main_arg0)) (m (c.tc.loc main_arg3)) (m (c.tc.loc main_arg4))) (blk t (m (c.tc.loc main_arg5))) (ix3 h p q)

/-- The gradient of the spatial offsets: the blocks' parts, summed. -/
theorem final_dbs : (dats m 0 c).arrAt 8 cfg0.N = val_main_v129 (F := Ideal) (m (c.tc.loc main_arg0)) (m (c.tc.loc main_arg5)) := by
  funext i
  refine ((dats m 0 c).arrAt_emb_eq_after_last 8 last (by decide +kernel) i).trans ?_
  obtain ⟨h, p, z, rfl⟩ : ∃ (h : Fin 8) (p : Fin 128) (z : Fin 1), i = ix3 h p z := ⟨i 0, i 1, i 2, eq_ix3 i⟩
  obtain rfl : z = 0 := Subsingleton.elim _ _
  blk_simp
  rw [after0_8, Pipeline.eq_sum_fin_of_reset_step_apply_last (fun n h => (outsAt0 m c n h).2.2.1) 32 (fun _ => 0)
    (fun t => offsetGrad (k0_pay5 (F := Ideal) (blk (pt t) (m (c.tc.loc main_arg0)))) (blk (pt t) (m (c.tc.loc main_arg5))))
    (fun t h j => by
      rw [outsAt0_A m c t h]; frame_out
      rw [iblk0, iblk5, pay122_apply, pay118_apply]; rfl)
    (fun t h j => by
      rw [outsAt0_B m c t h]; frame_out
      rw [iblk0, iblk5, pay122_apply]; rfl)
    (le_of_eq N_0) last rfl (ix3 h p 0), zero_add]
  rw [← offsets_sum]
  exact sum_points fun t => offsetGrad (k0_pay5 (F := Ideal) (blk t (m (c.tc.loc main_arg0)))) (blk t (m (c.tc.loc main_arg5))) (ix3 h p 0)

/-- The gradient of the normalisation's scale: the blocks' parts, summed. -/
theorem final_dlng : (dats m 0 c).arrAt 9 cfg0.N = val_main_v130 (F := Ideal)
    (m (c.tc.loc main_arg0)) (m (c.tc.loc main_arg1)) (m (c.tc.loc main_arg5)) := by
  funext i
  refine ((dats m 0 c).arrAt_emb_eq_after_last 9 last (by decide +kernel) i).trans ?_
  obtain ⟨z, k, rfl⟩ : ∃ (z : Fin 1) (k : Fin 2048), i = ix2 z k := ⟨i 0, i 1, eq_ix2 i⟩
  obtain rfl : z = 0 := Subsingleton.elim _ _
  blk_simp
  rw [after0_9, Pipeline.eq_sum_fin_of_reset_step_apply_last (fun n h => (outsAt0 m c n h).2.2.2.1) 32 (fun _ => 0)
    (fun t => k0_pay113 (F := Ideal) (k0_pay18 (k0_pay8 (blk (pt t) (m (c.tc.loc main_arg0)))) (k0_pay9 (blk (pt t) (m (c.tc.loc main_arg0))))
        (k0_pay12 (blk (pt t) (m (c.tc.loc main_arg0)))) k0_pay13)
      (normedGrad (pt t) (m (c.tc.loc main_arg0)) (m (c.tc.loc main_arg1)) (m (c.tc.loc main_arg5))))
    (fun t h j => by
      rw [outsAt0_A m c t h]; frame_out
      rw [iblk0, iblk1, iblk5, pay123_apply, pay119_apply]; rfl)
    (fun t h j => by
      rw [outsAt0_B m c t h]; frame_out
      rw [iblk0, iblk1, iblk5, pay123_apply]; rfl)
    (le_of_eq N_0) last rfl (ix2 0 k), zero_add]
  rw [← scales_sum]
  exact sum_points fun t => k0_pay113 (F := Ideal) (k0_pay18 (k0_pay8 (blk t (m (c.tc.loc main_arg0)))) (k0_pay9 (blk t (m (c.tc.loc main_arg0))))
        (k0_pay12 (blk t (m (c.tc.loc main_arg0)))) k0_pay13)
      (normedGrad t (m (c.tc.loc main_arg0)) (m (c.tc.loc main_arg1)) (m (c.tc.loc main_arg5))) (ix2 0 k)

/-- The gradient of the normalisation's shift: the blocks' parts, summed. -/
theorem final_dlnb : (dats m 0 c).arrAt 10 cfg0.N = val_main_v131 (F := Ideal)
    (m (c.tc.loc main_arg0)) (m (c.tc.loc main_arg1)) (m (c.tc.loc main_arg5)) := by
  funext i
  refine ((dats m 0 c).arrAt_emb_eq_after_last 10 last (by decide +kernel) i).trans ?_
  obtain ⟨z, k, rfl⟩ : ∃ (z : Fin 1) (k : Fin 2048), i = ix2 z k := ⟨i 0, i 1, eq_ix2 i⟩
  obtain rfl : z = 0 := Subsingleton.elim _ _
  blk_simp
  rw [after0_10, Pipeline.eq_sum_fin_of_reset_step_apply_last (fun n h => (outsAt0 m c n h).2.2.2.2) 32 (fun _ => 0)
    (fun t => k0_pay112 (F := Ideal) (normedGrad (pt t) (m (c.tc.loc main_arg0)) (m (c.tc.loc main_arg1)) (m (c.tc.loc main_arg5))))
    (fun t h j => by
      rw [outsAt0_A m c t h]; frame_out
      rw [iblk0, iblk1, iblk5, pay1_apply, pay120_apply]; rfl)
    (fun t h j => by
      rw [outsAt0_B m c t h]; frame_out
      rw [iblk0, iblk1, iblk5, pay1_apply]; rfl)
    (le_of_eq N_0) last rfl (ix2 0 k), zero_add]
  rw [← shifts_sum]
  exact sum_points fun t => k0_pay112 (F := Ideal) (normedGrad t (m (c.tc.loc main_arg0)) (m (c.tc.loc main_arg1)) (m (c.tc.loc main_arg5))) (ix2 0 k)

end Cert.Gm
-- ==== Proof.Gm.Frames.lean ====
/-
  The claims about the spatial gating mixer's backward that are not about its values: every run returns and leaves the
  arguments as they were, and the two named constants are the real numbers their bits stand for.
-/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Gm

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "inv_sqrt2" .f32 0x3F3504F3#32 _ rfl,
    IdealRules.named_const.statement Cert.KernelIdeal.κ "inv_sqrt2pi" .f32 0x3ECC422A#32 _ rfl⟩

end Cert.Gm
-- ==== Proof.Gm.Claim.lean ====
/-
  The equation of the spatial gating mixer's backward with its reference, at finite arguments.

  The precondition is a conjunction, over the arguments, of `|x| < ∞` at every entry; at the ideal instance it says that
  every entry is a real number.
-/
module

public import proofs.«01_k».proof.Proof.Gm.Arrays
public import proofs.«01_k».proof.Proof.Gm.Frames
public import Idealize.ShloMosaic.Lib.ReduceAll

@[expose] public section

noncomputable section

namespace Cert.Gm

open Idealize.ShloMosaic Idealize.ShloMosaic.TcCoe Idealize.SL.Sem
open Cert.ReferenceIdeal.Read

/-- The side conditions of the precondition's operations. -/
theorem finite_facts : Cert.Pre_finite.Facts where
  bitsLt_bf16_f32 := by decide
  bcast_S_S4096x4096 := by decide
  reducesTo_S4096x4096_S_d0_1 := by decide
  h_S_ := by decide
  bcast_S_S8x128x128 := by decide
  reducesTo_S8x128x128_S_d0_1_2 := by decide
  bcast_S_S8x128x1 := by decide
  reducesTo_S8x128x1_S_d0_1_2 := by decide
  bcast_S_S1x2048 := by decide
  reducesTo_S1x2048_S_d0_1 := by decide
  bcast_S_S4096x2048 := by decide
  reducesTo_S4096x2048_S_d0_1 := by decide

instance : Subsingleton (Cert.Pre_finite.S_).Idx := ⟨fun _ _ => funext fun a => a.elim0⟩

/-- A conjunction over all entries of `|x| < ∞` says that every entry is a real number. -/
theorem real_of_all {s : Shape} {axes : List (Fin s.rank)} (x : FVec Ideal s .f32)
    (hb : Cert.Pre_finite.S_.BroadcastsInDim s (![] : Fin 0 → Fin s.rank)) (h : s.ReducesTo axes Cert.Pre_finite.S_)
    (hu : 0 < Cert.Pre_finite.S_.numel) (j : Cert.Pre_finite.S_.Idx)
    (e : Host.reduce IntOp.andi (cmpf .olt (Host.absf x) (broadcastInDim s ![] hb (constant (F := Ideal) Cert.Pre_finite.S_ .f32 0x7F800000#32)))
      (constantI Cert.Pre_finite.S_ 1 1#1) h hu j = 1#1) (i : s.Idx) : IsReal (x i) := by
  have hi := Host.reduce_andi_all _ _ h hu j e i
  have hc : FloatOps.cmpf (F := Ideal) (φ := .f32) .olt (FloatOps.absf (F := Ideal) (x i)) (FloatOps.ofBits .f32 0x7F800000#32) = 1#1 := hi
  rw [infinity_bits, Ideal.cmpf_def, Ideal.absf_def] at hc
  refine IsReal.of_abs_lt ?_
  by_contra hn
  rw [Ideal.cmp, decide_eq_false hn] at hc
  exact absurd hc (by decide)

section
local instance : Cert.Pre_finite.Facts := finite_facts

/-- The precondition makes every entry of every argument a real number. -/
theorem real_args (x0 : FVec Ideal Cert.Pre_finite.S4096x4096 .bf16) (x1 : FVec Ideal Cert.Pre_finite.S8x128x128 .f32)
    (x2 : FVec Ideal Cert.Pre_finite.S8x128x1 .f32) (x3 x4 : FVec Ideal Cert.Pre_finite.S1x2048 .f32)
    (x5 : FVec Ideal Cert.Pre_finite.S4096x2048 .bf16) (e : Cert.Pre_finite.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) := by
  have e0 := congrFun e (fun a => a.elim0)
  unfold Cert.Pre_finite.fn Cert.Pre_finite.fn_part1 at e0
  obtain ⟨e0, f5⟩ := IntOp.andi_eq_one.1 e0
  obtain ⟨e0, f4⟩ := IntOp.andi_eq_one.1 e0
  obtain ⟨e0, f3⟩ := IntOp.andi_eq_one.1 e0
  obtain ⟨e0, f2⟩ := IntOp.andi_eq_one.1 e0
  obtain ⟨f0, f1⟩ := IntOp.andi_eq_one.1 e0
  exact ⟨real_of_all _ _ _ _ _ f0, real_of_all _ _ _ _ _ f1, real_of_all _ _ _ _ _ f2, real_of_all _ _ _ _ _ f3,
    real_of_all _ _ _ _ _ f4, real_of_all _ _ _ _ _ f5⟩

theorem frame_ideal_finite : Cert.quiescent_KernelIdeal_pre_finite := fun m ρ _ => Cert.KernelIdeal.Gen.frame m ρ

theorem frame_reference_finite : Cert.quiescent_ReferenceIdeal_pre_finite := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- All five results of the kernel are the reference's. -/
theorem algebraic : Cert.algebraic_KernelIdeal_ReferenceIdeal_pre_finite := by
  intro m ρ m' ρ' hpre hagree
  refine ⟨_, _, _, _, _, Cert.KernelIdeal.Value.run_blocks m ρ, ?_⟩
  refine (θ_run Cert.ReferenceIdeal.defs _ _).mono (fun _ h c => ?_) (Cert.ReferenceIdeal.Value.run (F := Ideal) m' ρ')
  obtain ⟨hdz, hdws, hdbs, hdlng, hdlnb, hargs⟩ := h c
  obtain ⟨a0, a1, a2, a3, a4, a5⟩ := hagree c
  obtain ⟨h0, h1, h2, h3, h4, h5⟩ := real_args _ _ _ _ _ _ (hpre c)
  refine ⟨hdz.trans ?_, hdws.trans ?_, hdbs.trans ?_, hdlng.trans ?_, hdlnb.trans ?_, hargs⟩
  · refine (val_main_v128_eq _).trans ?_
    show val_main_v128 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) = _
    rw [a0, a1, a2, a3, a4, a5]; exact (final_dz m c h0 h1 h2 h3 h4 h5).symm
  · refine (val_main_v78_eq _).trans ?_
    show val_main_v78 (F := Ideal) (m' (c.tc.loc Cert.ReferenceIdeal.main_arg0)) (m' (c.tc.loc Cert.ReferenceIdeal.main_arg3)) (m' (c.tc.loc Cert.ReferenceIdeal.main_arg4)) (m' (c.tc.loc Cert.ReferenceIdeal.main_arg5)) = _
    rw [a0, a3, a4, a5]; exact (final_dws m c).symm
  · refine (val_main_v129_eq _).trans ?_
    show val_main_v129 (F := Ideal) (m' (c.tc.loc Cert.ReferenceIdeal.main_arg0)) (m' (c.tc.loc Cert.ReferenceIdeal.main_arg5)) = _
    rw [a0, a5]; exact (final_dbs m c).symm
  · refine (val_main_v130_eq _).trans ?_
    show val_main_v130 (F := Ideal) (m' (c.tc.loc Cert.ReferenceIdeal.main_arg0)) (m' (c.tc.loc Cert.ReferenceIdeal.main_arg1)) (m' (c.tc.loc Cert.ReferenceIdeal.main_arg5)) = _
    rw [a0, a1, a5]; exact (final_dlng m c).symm
  · refine (val_main_v131_eq _).trans ?_
    show val_main_v131 (F := Ideal) (m' (c.tc.loc Cert.ReferenceIdeal.main_arg0)) (m' (c.tc.loc Cert.ReferenceIdeal.main_arg1)) (m' (c.tc.loc Cert.ReferenceIdeal.main_arg5)) = _
    rw [a0, a1, a5]; exact (final_dlnb m c).symm

end

end Cert.Gm
-- ==== Proof.Prod.DwDown.lean ====
/-
  The gradient of the feed-forward layer's second weight: its hidden activations, transposed, times the incoming gradient.

  A grid point computes 256 rows of the gradient, from 256 columns of the activations and the whole incoming gradient.
-/
module

public import proofs.«01_k».proof.Defs
public import proofs.«01_k».proof.Proof.Gen.Kernel3.Frame
public import proofs.«01_k».proof.Proof.Gen.Kernel3Ideal.Value
public import proofs.«01_k».proof.Proof.Gen.Reference3Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DwDown

open Idealize.ShloMosaic Idealize.ShloMosaic.TcCoe Idealize.SL.Sem
open Idealize.ShloMosaic.Pipeline (Dat)
open Cert.Kernel3Ideal Cert.Kernel3Ideal.Gen Cert.Reference3Ideal.Read

/-- Column `p` of block `t` of the left operand, as a column of the whole array. -/
def col (t : Fin cfg0.N) (p : Fin 256) : Fin 2816 := ⟨t.val * 256 + p.val, by have := lt_of_lt_of_eq t.isLt N_0; omega⟩

/-- What the body computes from its blocks: the product of the left one, transposed, with the right one. -/
theorem pay (x : Vec Ideal S4096x256 .bf16) (w : Vec Ideal S4096x1024 .bf16) (p : Fin 256) (q : Fin 1024) :
    k0_pay1 (F := Ideal) x w (ix2 p q) = ∑ k : Fin 4096, x (ix2 k p) * w (ix2 k q) := by
  unfold k0_pay1
  pointwise

/-- What the reference computes. -/
theorem value (x : (⟨S4096x2816, .bf16⟩ : BufTy).Contents (Elt Ideal)) (w : (⟨S4096x1024, .bf16⟩ : BufTy).Contents (Elt Ideal)) (p : Fin 2816) (q : Fin 1024) :
    val_main_v6 (F := Ideal) x w (ix2 p q) = ∑ k : Fin 4096, x (ix2 k p) * w (ix2 k q) := by
  rw [val_main_v6_apply, val_main_v5_apply, val_main_v4_apply]
  refine Finset.sum_congr rfl fun k _ => ?_
  rw [val_main_v3_apply, val_main_v1_apply]
  refine (mul_comm _ _).trans (congrArg₂ (· * ·) (congrArg x ?_) (congrArg w ?_)) <;> exact funext fun a => by fin_cases a <;> rfl

variable (m : (ℓ : Loc nD τ sig) → Buf (Elt Ideal) ℓ) (c : Dev nD)

theorem at0 : ∀ t : Fin cfg0.N, win0_0.index t = ![0, t.val] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The left block: 256 columns. -/
theorem iblk0 (t : Fin cfg0.N) : iblk m c 0 t = fun j : S4096x256.Idx => m (c.tc.loc main_arg0) (ix2 (j 0) (col t (j 1))) := by
  funext j
  refine congrArg (m (c.tc.loc main_arg0)) (?_ : ((win0_0).blk t).view.emb j = ix2 (j 0) (col t (j 1)))
  blk_ext [at0, col]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v6 (F := Ideal) (m (c.tc.loc main_arg0)) (m (c.tc.loc main_arg1)) := by
  refine (dats m 0 c).arrAt_eq_of_covers 2 _ (by decide +kernel) fun t hf y => ?_
  have hy : (win0_2.blk t).view.emb y = ix2 (col t (y 0)) (y 1) := by blk_ext [at2, col]
  blk_simp
  rw [after0_2]
  refine Eq.trans ?_ (congrArg _ hy.symm)
  frame_out
  rw [iblk0, iblk1]
  exact (congrArg _ (eq_ix2 y)).trans ((pay _ _ _ _).trans (value _ _ _ _).symm)

/-! The claims. -/

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- The kernel's result is the reference's. -/
theorem algebraic : Cert.algebraic_Kernel3Ideal_Reference3Ideal := by
  intro m ρ m' ρ' _ hagree
  refine ⟨_, Cert.Kernel3Ideal.Value.run_blocks m ρ, ?_⟩
  refine (θ_run Cert.Reference3Ideal.defs _ _).mono (fun _ h c => ?_) (Cert.Reference3Ideal.Value.run (F := Ideal) m' ρ')
  obtain ⟨hv, hargs⟩ := h c
  obtain ⟨a0, a1⟩ := hagree c
  refine ⟨hv.trans ?_, hargs⟩
  rw [val_main_v6_eq, a0, a1]
  exact (final m c).symm

end Cert.DwDown
-- ==== Proof.Prod.Dhid.lean ====
/-
  The gradient of the feed-forward layer's hidden activations: the incoming gradient times the second weight, transposed.

  A grid point computes 512 rows, from 512 rows of the incoming gradient and the whole weight.
-/
module

public import proofs.«01_k».proof.Defs
public import proofs.«01_k».proof.Proof.Gen.Kernel4.Frame
public import proofs.«01_k».proof.Proof.Gen.Kernel4Ideal.Value
public import proofs.«01_k».proof.Proof.Gen.Reference4Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.Dhid

open Idealize.ShloMosaic Idealize.ShloMosaic.TcCoe Idealize.SL.Sem
open Idealize.ShloMosaic.Pipeline (Dat)
open Cert.Kernel4Ideal Cert.Kernel4Ideal.Gen Cert.Reference4Ideal.Read

/-- Row `p` of block `t`, as a row of the whole array. -/
def row (t : Fin cfg0.N) (p : Fin 512) : Fin 4096 := ⟨t.val * 512 + p.val, by have := lt_of_lt_of_eq t.isLt N_0; omega⟩

/-- What the body computes from its blocks: the product of the left one with the right one, transposed. -/
theorem pay (x : Vec Ideal S512x1024 .bf16) (w : Vec Ideal S2816x1024 .bf16) (p : Fin 512) (q : Fin 2816) :
    k0_pay1 (F := Ideal) x w (ix2 p q) = ∑ k : Fin 1024, x (ix2 p k) * w (ix2 q k) := by
  unfold k0_pay1
  pointwise

/-- What the reference computes. -/
theorem value (x : (⟨S4096x1024, .bf16⟩ : BufTy).Contents (Elt Ideal)) (w : (⟨S2816x1024, .bf16⟩ : BufTy).Contents (Elt Ideal)) (p : Fin 4096) (q : Fin 2816) :
    val_main_v5 (F := Ideal) x w (ix2 p q) = ∑ k : Fin 1024, x (ix2 p k) * w (ix2 q k) := by
  rw [val_main_v5_apply, val_main_v4_apply]
  refine Finset.sum_congr rfl fun k _ => ?_
  rw [val_main_v3_apply, val_main_v1_apply]
  refine congrArg₂ (· * ·) (congrArg x ?_) (congrArg w ?_) <;> exact funext fun a => by fin_cases a <;> rfl

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The left block: 512 rows. -/
theorem iblk0 (t : Fin cfg0.N) : iblk m c 0 t = fun j : S512x1024.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v5 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (y 1) := by blk_ext [at2, row]
  blk_simp
  rw [after0_2]
  refine Eq.trans ?_ (congrArg _ hy.symm)
  frame_out
  rw [iblk0, iblk1]
  exact (congrArg _ (eq_ix2 y)).trans ((pay _ _ _ _).trans (value _ _ _ _).symm)

/-! The claims. -/

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- The kernel's result is the reference's. -/
theorem algebraic : Cert.algebraic_Kernel4Ideal_Reference4Ideal := by
  intro m ρ m' ρ' _ hagree
  refine ⟨_, Cert.Kernel4Ideal.Value.run_blocks m ρ, ?_⟩
  refine (θ_run Cert.Reference4Ideal.defs _ _).mono (fun _ h c => ?_) (Cert.Reference4Ideal.Value.run (F := Ideal) m' ρ')
  obtain ⟨hv, hargs⟩ := h c
  obtain ⟨a0, a1⟩ := hagree c
  refine ⟨hv.trans ?_, hargs⟩
  rw [val_main_v5_eq, a0, a1]
  exact (final m c).symm

end Cert.Dhid
-- ==== Proof.Prod.DwOutA.lean ====
/-
  The gradient of the first mixer's output weight: what was mixed, transposed, times the incoming gradient.

  A grid point computes 512 rows of the gradient, from 512 columns of the activations and the whole incoming gradient.
-/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DwOutA

open Idealize.ShloMosaic Idealize.ShloMosaic.TcCoe Idealize.SL.Sem
open Idealize.ShloMosaic.Pipeline (Dat)
open Cert.Kernel5Ideal Cert.Kernel5Ideal.Gen Cert.Reference5Ideal.Read

/-- Column `p` of block `t` of the left operand, as a column of the whole array. -/
def col (t : Fin cfg0.N) (p : Fin 512) : Fin 2048 := ⟨t.val * 512 + p.val, by have := lt_of_lt_of_eq t.isLt N_0; omega⟩

/-- What the body computes from its blocks: the product of the left one, transposed, with the right one. -/
theorem pay (x : Vec Ideal S4096x512 .bf16) (w : Vec Ideal S4096x1024 .bf16) (p : Fin 512) (q : Fin 1024) :
    k0_pay1 (F := Ideal) x w (ix2 p q) = ∑ k : Fin 4096, x (ix2 k p) * w (ix2 k q) := by
  unfold k0_pay1
  pointwise

/-- What the reference computes. -/
theorem value (x : (⟨S4096x2048, .bf16⟩ : BufTy).Contents (Elt Ideal)) (w : (⟨S4096x1024, .bf16⟩ : BufTy).Contents (Elt Ideal)) (p : Fin 2048) (q : Fin 1024) :
    val_main_v6 (F := Ideal) x w (ix2 p q) = ∑ k : Fin 4096, x (ix2 k p) * w (ix2 k q) := by
  rw [val_main_v6_apply, val_main_v5_apply, val_main_v4_apply]
  refine Finset.sum_congr rfl fun k _ => ?_
  rw [val_main_v3_apply, val_main_v1_apply]
  refine (mul_comm _ _).trans (congrArg₂ (· * ·) (congrArg x ?_) (congrArg w ?_)) <;> exact funext fun a => by fin_cases a <;> rfl

variable (m : (ℓ : Loc nD τ sig) → Buf (Elt Ideal) ℓ) (c : Dev nD)

theorem at0 : ∀ t : Fin cfg0.N, win0_0.index t = ![0, t.val] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The left block: 512 columns. -/
theorem iblk0 (t : Fin cfg0.N) : iblk m c 0 t = fun j : S4096x512.Idx => m (c.tc.loc main_arg0) (ix2 (j 0) (col t (j 1))) := by
  funext j
  refine congrArg (m (c.tc.loc main_arg0)) (?_ : ((win0_0).blk t).view.emb j = ix2 (j 0) (col t (j 1)))
  blk_ext [at0, col]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v6 (F := Ideal) (m (c.tc.loc main_arg0)) (m (c.tc.loc main_arg1)) := by
  refine (dats m 0 c).arrAt_eq_of_covers 2 _ (by decide +kernel) fun t hf y => ?_
  have hy : (win0_2.blk t).view.emb y = ix2 (col t (y 0)) (y 1) := by blk_ext [at2, col]
  blk_simp
  rw [after0_2]
  refine Eq.trans ?_ (congrArg _ hy.symm)
  frame_out
  rw [iblk0, iblk1]
  exact (congrArg _ (eq_ix2 y)).trans ((pay _ _ _ _).trans (value _ _ _ _).symm)

/-! The claims. -/

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- The kernel's result is the reference's. -/
theorem algebraic : Cert.algebraic_Kernel5Ideal_Reference5Ideal := by
  intro m ρ m' ρ' _ hagree
  refine ⟨_, Cert.Kernel5Ideal.Value.run_blocks m ρ, ?_⟩
  refine (θ_run Cert.Reference5Ideal.defs _ _).mono (fun _ h c => ?_) (Cert.Reference5Ideal.Value.run (F := Ideal) m' ρ')
  obtain ⟨hv, hargs⟩ := h c
  obtain ⟨a0, a1⟩ := hagree c
  refine ⟨hv.trans ?_, hargs⟩
  rw [val_main_v6_eq, a0, a1]
  exact (final m c).symm

end Cert.DwOutA
-- ==== Proof.Prod.DmixedA.lean ====
/-
  The gradient of what the first mixer mixed: the incoming gradient times the output weight, transposed.

  A grid point computes 512 rows, from 512 rows of the incoming gradient and the whole weight.
-/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DmixedA

open Idealize.ShloMosaic Idealize.ShloMosaic.TcCoe Idealize.SL.Sem
open Idealize.ShloMosaic.Pipeline (Dat)
open Cert.Kernel6Ideal Cert.Kernel6Ideal.Gen Cert.Reference6Ideal.Read

/-- Row `p` of block `t`, as a row of the whole array. -/
def row (t : Fin cfg0.N) (p : Fin 512) : Fin 4096 := ⟨t.val * 512 + p.val, by have := lt_of_lt_of_eq t.isLt N_0; omega⟩

/-- What the body computes from its blocks: the product of the left one with the right one, transposed. -/
theorem pay (x : Vec Ideal S512x1024 .bf16) (w : Vec Ideal S2048x1024 .bf16) (p : Fin 512) (q : Fin 2048) :
    k0_pay1 (F := Ideal) x w (ix2 p q) = ∑ k : Fin 1024, x (ix2 p k) * w (ix2 q k) := by
  unfold k0_pay1
  pointwise

/-- What the reference computes. -/
theorem value (x : (⟨S4096x1024, .bf16⟩ : BufTy).Contents (Elt Ideal)) (w : (⟨S2048x1024, .bf16⟩ : BufTy).Contents (Elt Ideal)) (p : Fin 4096) (q : Fin 2048) :
    val_main_v5 (F := Ideal) x w (ix2 p q) = ∑ k : Fin 1024, x (ix2 p k) * w (ix2 q k) := by
  rw [val_main_v5_apply, val_main_v4_apply]
  refine Finset.sum_congr rfl fun k _ => ?_
  rw [val_main_v3_apply, val_main_v1_apply]
  refine congrArg₂ (· * ·) (congrArg x ?_) (congrArg w ?_) <;> exact funext fun a => by fin_cases a <;> rfl

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The left block: 512 rows. -/
theorem iblk0 (t : Fin cfg0.N) : iblk m c 0 t = fun j : S512x1024.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v5 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (y 1) := by blk_ext [at2, row]
  blk_simp
  rw [after0_2]
  refine Eq.trans ?_ (congrArg _ hy.symm)
  frame_out
  rw [iblk0, iblk1]
  exact (congrArg _ (eq_ix2 y)).trans ((pay _ _ _ _).trans (value _ _ _ _).symm)

/-! The claims. -/

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

/-- The kernel's result is the reference's. -/
theorem algebraic : Cert.algebraic_Kernel6Ideal_Reference6Ideal := by
  intro m ρ m' ρ' _ hagree
  refine ⟨_, Cert.Kernel6Ideal.Value.run_blocks m ρ, ?_⟩
  refine (θ_run Cert.Reference6Ideal.defs _ _).mono (fun _ h c => ?_) (Cert.Reference6Ideal.Value.run (F := Ideal) m' ρ')
  obtain ⟨hv, hargs⟩ := h c
  obtain ⟨a0, a1⟩ := hagree c
  refine ⟨hv.trans ?_, hargs⟩
  rw [val_main_v5_eq, a0, a1]
  exact (final m c).symm

end Cert.DmixedA
-- ==== Proof.Prod.DwOutB.lean ====
/-
  The gradient of the second mixer's output weight: what was mixed, transposed, times the incoming gradient.

  A grid point computes 512 rows of the gradient, from 512 columns of the activations and the whole incoming gradient.
-/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DwOutB

open Idealize.ShloMosaic Idealize.ShloMosaic.TcCoe Idealize.SL.Sem
open Idealize.ShloMosaic.Pipeline (Dat)
open Cert.Kernel7Ideal Cert.Kernel7Ideal.Gen Cert.Reference7Ideal.Read

/-- Column `p` of block `t` of the left operand, as a column of the whole array. -/
def col (t : Fin cfg0.N) (p : Fin 512) : Fin 1024 := ⟨t.val * 512 + p.val, by have := lt_of_lt_of_eq t.isLt N_0; omega⟩

/-- What the body computes from its blocks: the product of the left one, transposed, with the right one. -/
theorem pay (x : Vec Ideal S4096x512 .bf16) (w : Vec Ideal S4096x1024 .bf16) (p : Fin 512) (q : Fin 1024) :
    k0_pay1 (F := Ideal) x w (ix2 p q) = ∑ k : Fin 4096, x (ix2 k p) * w (ix2 k q) := by
  unfold k0_pay1
  pointwise

/-- What the reference computes. -/
theorem value (x : (⟨S4096x1024, .bf16⟩ : BufTy).Contents (Elt Ideal)) (w : (⟨S4096x1024, .bf16⟩ : BufTy).Contents (Elt Ideal)) (p : Fin 1024) (q : Fin 1024) :
    val_main_v6 (F := Ideal) x w (ix2 p q) = ∑ k : Fin 4096, x (ix2 k p) * w (ix2 k q) := by
  rw [val_main_v6_apply, val_main_v5_apply, val_main_v4_apply]
  refine Finset.sum_congr rfl fun k _ => ?_
  rw [val_main_v3_apply, val_main_v1_apply]
  refine (mul_comm _ _).trans (congrArg₂ (· * ·) (congrArg x ?_) (congrArg w ?_)) <;> exact funext fun a => by fin_cases a <;> rfl

variable (m : (ℓ : Loc nD τ sig) → Buf (Elt Ideal) ℓ) (c : Dev nD)

theorem at0 : ∀ t : Fin cfg0.N, win0_0.index t = ![0, t.val] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The left block: 512 columns. -/
theorem iblk0 (t : Fin cfg0.N) : iblk m c 0 t = fun j : S4096x512.Idx => m (c.tc.loc main_arg0) (ix2 (j 0) (col t (j 1))) := by
  funext j
  refine congrArg (m (c.tc.loc main_arg0)) (?_ : ((win0_0).blk t).view.emb j = ix2 (j 0) (col t (j 1)))
  blk_ext [at0, col]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v6 (F := Ideal) (m (c.tc.loc main_arg0)) (m (c.tc.loc main_arg1)) := by
  refine (dats m 0 c).arrAt_eq_of_covers 2 _ (by decide +kernel) fun t hf y => ?_
  have hy : (win0_2.blk t).view.emb y = ix2 (col t (y 0)) (y 1) := by blk_ext [at2, col]
  blk_simp
  rw [after0_2]
  refine Eq.trans ?_ (congrArg _ hy.symm)
  frame_out
  rw [iblk0, iblk1]
  exact (congrArg _ (eq_ix2 y)).trans ((pay _ _ _ _).trans (value _ _ _ _).symm)

/-! The claims. -/

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

/-- The kernel's result is the reference's. -/
theorem algebraic : Cert.algebraic_Kernel7Ideal_Reference7Ideal := by
  intro m ρ m' ρ' _ hagree
  refine ⟨_, Cert.Kernel7Ideal.Value.run_blocks m ρ, ?_⟩
  refine (θ_run Cert.Reference7Ideal.defs _ _).mono (fun _ h c => ?_) (Cert.Reference7Ideal.Value.run (F := Ideal) m' ρ')
  obtain ⟨hv, hargs⟩ := h c
  obtain ⟨a0, a1⟩ := hagree c
  refine ⟨hv.trans ?_, hargs⟩
  rw [val_main_v6_eq, a0, a1]
  exact (final m c).symm

end Cert.DwOutB
-- ==== Proof.Prod.DmixedB.lean ====
/-
  The gradient of what the second mixer mixed: the incoming gradient times the output weight, transposed.

  A grid point computes 512 rows, from 512 rows of the incoming gradient and the whole weight.
-/
module

public import proofs.«01_k».proof.Defs
public import proofs.«01_k».proof.Proof.Gen.Kernel8.Frame
public import proofs.«01_k».proof.Proof.Gen.Kernel8Ideal.Value
public import proofs.«01_k».proof.Proof.Gen.Reference8Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DmixedB

open Idealize.ShloMosaic Idealize.ShloMosaic.TcCoe Idealize.SL.Sem
open Idealize.ShloMosaic.Pipeline (Dat)
open Cert.Kernel8Ideal Cert.Kernel8Ideal.Gen Cert.Reference8Ideal.Read

/-- Row `p` of block `t`, as a row of the whole array. -/
def row (t : Fin cfg0.N) (p : Fin 512) : Fin 4096 := ⟨t.val * 512 + p.val, by have := lt_of_lt_of_eq t.isLt N_0; omega⟩

/-- What the body computes from its blocks: the product of the left one with the right one, transposed. -/
theorem pay (x : Vec Ideal S512x1024 .bf16) (w : Vec Ideal S1024x1024 .bf16) (p : Fin 512) (q : Fin 1024) :
    k0_pay1 (F := Ideal) x w (ix2 p q) = ∑ k : Fin 1024, x (ix2 p k) * w (ix2 q k) := by
  unfold k0_pay1
  pointwise

/-- What the reference computes. -/
theorem value (x : (⟨S4096x1024, .bf16⟩ : BufTy).Contents (Elt Ideal)) (w : (⟨S1024x1024, .bf16⟩ : BufTy).Contents (Elt Ideal)) (p : Fin 4096) (q : Fin 1024) :
    val_main_v5 (F := Ideal) x w (ix2 p q) = ∑ k : Fin 1024, x (ix2 p k) * w (ix2 q k) := by
  rw [val_main_v5_apply, val_main_v4_apply]
  refine Finset.sum_congr rfl fun k _ => ?_
  rw [val_main_v3_apply, val_main_v1_apply]
  refine congrArg₂ (· * ·) (congrArg x ?_) (congrArg w ?_) <;> exact funext fun a => by fin_cases a <;> rfl

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The left block: 512 rows. -/
theorem iblk0 (t : Fin cfg0.N) : iblk m c 0 t = fun j : S512x1024.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v5 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (y 1) := by blk_ext [at2, row]
  blk_simp
  rw [after0_2]
  refine Eq.trans ?_ (congrArg _ hy.symm)
  frame_out
  rw [iblk0, iblk1]
  exact (congrArg _ (eq_ix2 y)).trans ((pay _ _ _ _).trans (value _ _ _ _).symm)

/-! The claims. -/

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves : Cert.preserves_Kernel8_Kernel8Ideal := trivial

/-- The kernel's result is the reference's. -/
theorem algebraic : Cert.algebraic_Kernel8Ideal_Reference8Ideal := by
  intro m ρ m' ρ' _ hagree
  refine ⟨_, Cert.Kernel8Ideal.Value.run_blocks m ρ, ?_⟩
  refine (θ_run Cert.Reference8Ideal.defs _ _).mono (fun _ h c => ?_) (Cert.Reference8Ideal.Value.run (F := Ideal) m' ρ')
  obtain ⟨hv, hargs⟩ := h c
  obtain ⟨a0, a1⟩ := hagree c
  refine ⟨hv.trans ?_, hargs⟩
  rw [val_main_v5_eq, a0, a1]
  exact (final m c).symm

end Cert.DmixedB
-- ==== Proof.Prod.DwUp.lean ====
/-
  The gradient of the feed-forward layer's first weight, transposed: the gradient of the layer's activations, transposed, times
  its input.

  A grid point computes 512 rows, from 512 columns of the gradient and the whole input.
-/
module

public import proofs.«01_k».proof.Defs
public import proofs.«01_k».proof.Proof.Gen.Kernel9.Frame
public import proofs.«01_k».proof.Proof.Gen.Kernel9Ideal.Value
public import proofs.«01_k».proof.Proof.Gen.Reference9Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DwUp

open Idealize.ShloMosaic Idealize.ShloMosaic.TcCoe Idealize.SL.Sem
open Idealize.ShloMosaic.Pipeline (Dat)
open Cert.Kernel9Ideal Cert.Kernel9Ideal.Gen Cert.Reference9Ideal.Read

/-- Column `p` of block `t` of the left operand, as a column of the whole array. -/
def col (t : Fin cfg0.N) (p : Fin 512) : Fin 5632 := ⟨t.val * 512 + p.val, by have := lt_of_lt_of_eq t.isLt N_0; omega⟩

/-- What the body computes from its blocks: the product of the left one, transposed, with the right one. -/
theorem pay (x : Vec Ideal S4096x512 .bf16) (w : Vec Ideal S4096x1024 .bf16) (p : Fin 512) (q : Fin 1024) :
    k0_pay1 (F := Ideal) x w (ix2 p q) = ∑ k : Fin 4096, x (ix2 k p) * w (ix2 k q) := by
  unfold k0_pay1
  pointwise

/-- What the reference computes. -/
theorem value (x : (⟨S4096x5632, .bf16⟩ : BufTy).Contents (Elt Ideal)) (w : (⟨S4096x1024, .bf16⟩ : BufTy).Contents (Elt Ideal)) (p : Fin 5632) (q : Fin 1024) :
    val_main_v7 (F := Ideal) x w (ix2 p q) = ∑ k : Fin 4096, x (ix2 k p) * w (ix2 k q) := by
  rw [val_main_v7_apply, val_main_v6_apply, val_main_v5_apply, val_main_v4_apply]
  refine Finset.sum_congr rfl fun k _ => ?_
  rw [val_main_v3_apply, val_main_v1_apply]
  refine congrArg₂ (· * ·) (congrArg x ?_) (congrArg w ?_) <;> exact funext fun a => by fin_cases a <;> rfl

variable (m : (ℓ : Loc nD τ sig) → Buf (Elt Ideal) ℓ) (c : Dev nD)

theorem at0 : ∀ t : Fin cfg0.N, win0_0.index t = ![0, t.val] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)

/-- The left block: 512 columns. -/
theorem iblk0 (t : Fin cfg0.N) : iblk m c 0 t = fun j : S4096x512.Idx => m (c.tc.loc main_arg0) (ix2 (j 0) (col t (j 1))) := by
  funext j
  refine congrArg (m (c.tc.loc main_arg0)) (?_ : ((win0_0).blk t).view.emb j = ix2 (j 0) (col t (j 1)))
  blk_ext [at0, col]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v7 (F := Ideal) (m (c.tc.loc main_arg0)) (m (c.tc.loc main_arg1)) := by
  refine (dats m 0 c).arrAt_eq_of_covers 2 _ (by decide +kernel) fun t hf y => ?_
  have hy : (win0_2.blk t).view.emb y = ix2 (col t (y 0)) (y 1) := by blk_ext [at2, col]
  blk_simp
  rw [after0_2]
  refine Eq.trans ?_ (congrArg _ hy.symm)
  frame_out
  rw [iblk0, iblk1]
  exact (congrArg _ (eq_ix2 y)).trans ((pay _ _ _ _).trans (value _ _ _ _).symm)

/-! The claims. -/

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves : Cert.preserves_Kernel9_Kernel9Ideal := trivial

/-- The kernel's result is the reference's. -/
theorem algebraic : Cert.algebraic_Kernel9Ideal_Reference9Ideal := by
  intro m ρ m' ρ' _ hagree
  refine ⟨_, Cert.Kernel9Ideal.Value.run_blocks m ρ, ?_⟩
  refine (θ_run Cert.Reference9Ideal.defs _ _).mono (fun _ h c => ?_) (Cert.Reference9Ideal.Value.run (F := Ideal) m' ρ')
  obtain ⟨hv, hargs⟩ := h c
  obtain ⟨a0, a1⟩ := hagree c
  refine ⟨hv.trans ?_, hargs⟩
  rw [val_main_v7_eq, a0, a1]
  exact (final m c).symm

end Cert.DwUp
-- ==== Proof.Prod.Dh2.lean ====
/-
  The gradient of the feed-forward layer's input: the gradient of its activations times the first weight, transposed.

  The weight comes in eight parts, each already transposed. A grid point computes 512 rows as a sum of eight products, one
  for each part; the reference is one product with the whole weight.
-/
module

public import proofs.«01_k».proof.Defs
public import proofs.«01_k».proof.Proof.Gen.Kernel10.Frame
public import proofs.«01_k».proof.Proof.Gen.Kernel10Ideal.Value
public import proofs.«01_k».proof.Proof.Gen.Reference10Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.Dh2

open Idealize.ShloMosaic Idealize.ShloMosaic.TcCoe Idealize.SL.Sem
open Idealize.ShloMosaic.Pipeline (Dat)
open Cert.Kernel10Ideal Cert.Kernel10Ideal.Gen Cert.Reference10Ideal.Read

/-- Row `p` of block `t`, as a row of the whole array. -/
def row (t : Fin cfg0.N) (p : Fin 512) : Fin 4096 := ⟨t.val * 512 + p.val, by have := lt_of_lt_of_eq t.isLt N_0; omega⟩

/-- The block the body stores: eight partial products, one for each part of the weight. -/
theorem parts (x : Vec Ideal S512x5632 .bf16) (w : Vec Ideal S8x704x1024 .bf16) (p : Fin 512) (q : Fin 1024) :
    out0_2 (F := Ideal) x w (ix2 p q) = ∑ s : Fin 8, ∑ k : Fin 704, x (ix2 p ⟨s.val * 704 + k.val, by omega⟩) * w (ix3 s k q) := by
  frame_out
  unfold k0_pay1 k0_pay2
  pointwise
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    refine Finset.sum_congr rfl fun k _ => congrArg₂ (· * ·) (congrArg x ?_) rfl <;>
    exact funext fun a => Fin.ext (by fin_cases a <;> simp)

/-- What the reference computes. -/
theorem value (x : (⟨S4096x5632, .bf16⟩ : BufTy).Contents (Elt Ideal)) (w : (⟨S8x704x1024, .bf16⟩ : BufTy).Contents (Elt Ideal)) (p : Fin 4096) (q : Fin 1024) :
    val_main_v7 (F := Ideal) x w (ix2 p q) = ∑ s : Fin 8, ∑ k : Fin 704, x (ix2 p ⟨s.val * 704 + k.val, by omega⟩) * w (ix3 s k q) := by
  rw [val_main_v7_apply, val_main_v6_apply]
  refine (Fin.sum_mul_add_congr fun s k hl => ?_).symm
  rw [val_main_v5_apply, val_main_v3_apply, val_main_v1_apply, val_main_v0_apply]
  refine congrArg₂ (· * ·) (congrArg x ?_) (congrArg w ?_) <;>
    exact funext fun a => Fin.ext (by fin_cases a <;> simp <;> omega)

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![t.val, 0] := (by decide +kernel : ∀ t : Fin grid0.N, _)

/-- The left block: 512 rows. -/
theorem iblk0 (t : Fin cfg0.N) : iblk m c 0 t = fun j : S512x5632.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v7 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (y 1) := by blk_ext [at2, row]
  blk_simp
  rw [after0_2]
  refine Eq.trans ?_ (congrArg _ hy.symm)
  rw [iblk0, iblk1]
  refine ((congrArg _ (eq_ix2 y)).trans (parts _ _ _ _)).trans (Eq.trans ?_ (value _ _ _ _).symm)
  exact Finset.sum_congr rfl fun s _ => Finset.sum_congr rfl fun k _ => rfl

/-! The claims. -/

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem preserves : Cert.preserves_Kernel10_Kernel10Ideal := trivial

/-- The kernel's result is the reference's. -/
theorem algebraic : Cert.algebraic_Kernel10Ideal_Reference10Ideal := by
  intro m ρ m' ρ' _ hagree
  refine ⟨_, Cert.Kernel10Ideal.Value.run_blocks m ρ, ?_⟩
  refine (θ_run Cert.Reference10Ideal.defs _ _).mono (fun _ h c => ?_) (Cert.Reference10Ideal.Value.run (F := Ideal) m' ρ')
  obtain ⟨hv, hargs⟩ := h c
  obtain ⟨a0, a1⟩ := hagree c
  refine ⟨hv.trans ?_, hargs⟩
  rw [val_main_v7_eq, a0, a1]
  exact (final m c).symm

end Cert.Dh2
-- ==== Proof.Prod.DhMix.lean ====
/-
  The gradient of a mixer's input: the gradient of what it projected to times the input weight, transposed.

  The weight comes in eight parts, 512 columns each. A grid point computes 512 rows as a sum of eight products, one for each
  part; the reference is one product with the whole weight.
-/
module

public import proofs.«01_k».proof.Defs
public import proofs.«01_k».proof.Proof.Gen.Kernel11.Frame
public import proofs.«01_k».proof.Proof.Gen.Kernel11Ideal.Value
public import proofs.«01_k».proof.Proof.Gen.Reference11Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DhMix

open Idealize.ShloMosaic Idealize.ShloMosaic.TcCoe Idealize.SL.Sem
open Idealize.ShloMosaic.Pipeline (Dat)
open Cert.Kernel11Ideal Cert.Kernel11Ideal.Gen Cert.Reference11Ideal.Read

/-- Row `p` of block `t`, as a row of the whole array. -/
def row (t : Fin cfg0.N) (p : Fin 512) : Fin 4096 := ⟨t.val * 512 + p.val, by have := lt_of_lt_of_eq t.isLt N_0; omega⟩

/-- The block the body stores: eight partial products, one for each part of the weight. -/
theorem parts (x : Vec Ideal S512x4096 .bf16) (w : Vec Ideal S8x1024x512 .bf16) (p : Fin 512) (q : Fin 1024) :
    out0_2 (F := Ideal) x w (ix2 p q) = ∑ s : Fin 8, ∑ k : Fin 512, x (ix2 p ⟨s.val * 512 + k.val, by omega⟩) * w (ix3 s q k) := by
  frame_out
  unfold k0_pay1 k0_pay2
  pointwise
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    refine Finset.sum_congr rfl fun k _ => congrArg₂ (· * ·) (congrArg x ?_) rfl <;>
    exact funext fun a => Fin.ext (by fin_cases a <;> simp)

/-- What the reference computes. -/
theorem value (x : (⟨S4096x4096, .bf16⟩ : BufTy).Contents (Elt Ideal)) (w : (⟨S8x1024x512, .bf16⟩ : BufTy).Contents (Elt Ideal)) (p : Fin 4096) (q : Fin 1024) :
    val_main_v7 (F := Ideal) x w (ix2 p q) = ∑ s : Fin 8, ∑ k : Fin 512, x (ix2 p ⟨s.val * 512 + k.val, by omega⟩) * w (ix3 s q k) := by
  rw [val_main_v7_apply, val_main_v6_apply]
  refine (Fin.sum_mul_add_congr fun s k hl => ?_).symm
  rw [val_main_v5_apply, val_main_v3_apply, val_main_v1_apply, val_main_v0_apply]
  refine congrArg₂ (· * ·) (congrArg x ?_) (congrArg w ?_) <;>
    exact funext fun a => Fin.ext (by fin_cases a <;> simp <;> omega)

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![t.val, 0] := (by decide +kernel : ∀ t : Fin grid0.N, _)

/-- The left block: 512 rows. -/
theorem iblk0 (t : Fin cfg0.N) : iblk m c 0 t = fun j : S512x4096.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: the whole array. -/
theorem iblk1 (t : Fin cfg0.N) : iblk m c 1 t = m (c.tc.loc main_arg1) := by
  funext j
  refine congrArg (m (c.tc.loc main_arg1)) (?_ : ((win0_1).blk t).view.emb j = j)
  blk_ext [at1]

/-- The result array after the kernel has run. -/
theorem final : (dats m 0 c).arrAt 2 cfg0.N = val_main_v7 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (y 1) := by blk_ext [at2, row]
  blk_simp
  rw [after0_2]
  refine Eq.trans ?_ (congrArg _ hy.symm)
  rw [iblk0, iblk1]
  refine ((congrArg _ (eq_ix2 y)).trans (parts _ _ _ _)).trans (Eq.trans ?_ (value _ _ _ _).symm)
  exact Finset.sum_congr rfl fun s _ => Finset.sum_congr rfl fun k _ => rfl

/-! The claims. -/

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem preserves : Cert.preserves_Kernel11_Kernel11Ideal := trivial

/-- The kernel's result is the reference's. -/
theorem algebraic : Cert.algebraic_Kernel11Ideal_Reference11Ideal := by
  intro m ρ m' ρ' _ hagree
  refine ⟨_, Cert.Kernel11Ideal.Value.run_blocks m ρ, ?_⟩
  refine (θ_run Cert.Reference11Ideal.defs _ _).mono (fun _ h c => ?_) (Cert.Reference11Ideal.Value.run (F := Ideal) m' ρ')
  obtain ⟨hv, hargs⟩ := h c
  obtain ⟨a0, a1⟩ := hagree c
  refine ⟨hv.trans ?_, hargs⟩
  rw [val_main_v7_eq, a0, a1]
  exact (final m c).symm

end Cert.DhMix
-- ==== Proof.Prod.DwIn.lean ====
/-
  The gradient of a mixer's input weight: the layer's input, transposed, times the gradient of what it projected to, laid out by
  the device that owns each part.

  A grid point computes the 512 columns of one device, from the whole input and 512 columns of the gradient.
-/
module

public import proofs.«01_k».proof.Defs
public import proofs.«01_k».proof.Proof.Gen.Kernel12.Frame
public import proofs.«01_k».proof.Proof.Gen.Kernel12Ideal.Value
public import proofs.«01_k».proof.Proof.Gen.Reference12Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.DwIn

open Idealize.ShloMosaic Idealize.ShloMosaic.TcCoe Idealize.SL.Sem
open Idealize.ShloMosaic.Pipeline (Dat)
open Cert.Kernel12Ideal Cert.Kernel12Ideal.Gen Cert.Reference12Ideal.Read

/-- Column `q` of block `t`, as a column of the whole array. -/
def col (t : Fin cfg0.N) (q : Fin 512) : Fin 4096 := ⟨t.val * 512 + q.val, by have := lt_of_lt_of_eq t.isLt N_0; omega⟩

/-- A grid point, as the device whose part it computes. -/
def owner (t : Fin cfg0.N) : Fin 8 := ⟨t.val, lt_of_lt_of_eq t.isLt N_0⟩

/-- What the body computes from its blocks: the product of the left one, transposed, with the right one. -/
theorem pay (x : Vec Ideal S4096x1024 .bf16) (w : Vec Ideal S4096x512 .bf16) (z : Fin 1) (p : Fin 1024) (q : Fin 512) :
    k0_pay1 (F := Ideal) x w (ix3 z p q) = ∑ k : Fin 4096, x (ix2 k p) * w (ix2 k q) := by
  unfold k0_pay1
  pointwise

/-- What the reference computes. -/
theorem value (x : (⟨S4096x1024, .bf16⟩ : BufTy).Contents (Elt Ideal)) (w : (⟨S4096x4096, .bf16⟩ : BufTy).Contents (Elt Ideal)) (t : Fin cfg0.N) (p : Fin 1024) (q : Fin 512) :
    val_main_v8 (F := Ideal) x w (ix3 (owner t) p q) = ∑ k : Fin 4096, x (ix2 k p) * w (ix2 k (col t q)) := by
  rw [val_main_v8_apply, val_main_v7_apply, val_main_v6_apply, val_main_v5_apply, val_main_v4_apply]
  refine Finset.sum_congr rfl fun k _ => ?_
  rw [val_main_v3_apply, val_main_v1_apply]
  have ht := lt_of_lt_of_eq t.isLt N_0
  refine (mul_comm _ _).trans (congrArg₂ (· * ·) (congrArg x ?_) (congrArg w ?_)) <;>
    exact funext fun a => Fin.ext (by fin_cases a <;> simp [owner, col] <;> omega)

variable (m : (ℓ : Loc nD τ sig) → Buf (Elt Ideal) ℓ) (c : Dev nD)

theorem at0 : ∀ t : Fin cfg0.N, win0_0.index t = ![0, 0] := (by decide +kernel : ∀ t : Fin grid0.N, _)
theorem at1 : ∀ t : Fin cfg0.N, win0_1.index t = ![0, t.val] := (by decide +kernel : ∀ t : Fin grid0.N, _)
theorem at2 : ∀ t : Fin cfg0.N, win0_2.index t = ![t.val, 0, 0] := (by decide +kernel : ∀ t : Fin grid0.N, _)

/-- The left block: the whole array. -/
theorem iblk0 (t : Fin cfg0.N) : iblk m c 0 t = m (c.tc.loc main_arg0) := by
  funext j
  refine congrArg (m (c.tc.loc main_arg0)) (?_ : ((win0_0).blk t).view.emb j = j)
  blk_ext [at0]

/-- The right block: 512 columns. -/
theorem iblk1 (t : Fin cfg0.N) : iblk m c 1 t = fun j : S4096x512.Idx => m (c.tc.loc main_arg1) (ix2 (j 0) (col t (j 1))) := by
  funext j
  refine congrArg (m (c.tc.loc main_arg1)) (?_ : ((win0_1).blk t).view.emb j = ix2 (j 0) (col t (j 1)))
  blk_ext [at1, col]

/-- The result array after the kernel has run. -/
theorem final : (dats m 0 c).arrAt 2 cfg0.N = val_main_v8 (F := Ideal) (m (c.tc.loc main_arg0)) (m (c.tc.loc main_arg1)) := by
  refine (dats m 0 c).arrAt_eq_of_covers 2 _ (by decide +kernel) fun t hf y => ?_
  have hy : (win0_2.blk t).view.emb y = ix3 (owner t) (y 1) (y 2) := by blk_ext [at2, owner]
  blk_simp
  rw [after0_2]
  refine Eq.trans ?_ (congrArg _ hy.symm)
  frame_out
  rw [iblk0, iblk1]
  exact (congrArg _ (eq_ix3 y)).trans ((pay _ _ _ _ _).trans (value _ _ _ _ _).symm)

/-! The claims. -/

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem preserves : Cert.preserves_Kernel12_Kernel12Ideal := trivial

/-- The kernel's result is the reference's. -/
theorem algebraic : Cert.algebraic_Kernel12Ideal_Reference12Ideal := by
  intro m ρ m' ρ' _ hagree
  refine ⟨_, Cert.Kernel12Ideal.Value.run_blocks m ρ, ?_⟩
  refine (θ_run Cert.Reference12Ideal.defs _ _).mono (fun _ h c => ?_) (Cert.Reference12Ideal.Value.run (F := Ideal) m' ρ')
  obtain ⟨hv, hargs⟩ := h c
  obtain ⟨a0, a1⟩ := hagree c
  refine ⟨hv.trans ?_, hargs⟩
  rw [val_main_v8_eq, a0, a1]
  exact (final m c).symm

end Cert.DwIn
-- ==== Proof.Prod.GmIn.lean ====
/-
  The first mixer's input projection: the layer's input times the input weight.

  The weight comes in eight parts, 512 columns each. A grid point computes 512 rows and the columns of four parts, part by
  part; the reference is one product with the whole weight.
-/
module

public import proofs.«01_k».proof.Defs
public import proofs.«01_k».proof.Proof.Gen.Kernel13.Frame
public import proofs.«01_k».proof.Proof.Gen.Kernel13Ideal.Value
public import proofs.«01_k».proof.Proof.Gen.Reference13Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.GmIn

open Idealize.ShloMosaic Idealize.ShloMosaic.TcCoe Idealize.SL.Sem
open Idealize.ShloMosaic.Pipeline (Dat)
open Cert.Kernel13Ideal Cert.Kernel13Ideal.Gen Cert.Reference13Ideal.Read

/-- The row block and the column half a grid point works on. -/
def row (t : Fin cfg0.N) (p : Fin 512) : Fin 4096 := ⟨t.val % 8 * 512 + p.val, by omega⟩
def col (t : Fin cfg0.N) (q : Fin 2048) : Fin 4096 := ⟨t.val / 8 * 2048 + q.val, by have := lt_of_lt_of_eq t.isLt N_0; omega⟩

/-- The part of the weight that holds column `q` of the product, and the column there. -/
def part (q : Fin 4096) : Fin 8 := ⟨q.val / 512, by omega⟩
def within (q : Fin 4096) : Fin 512 := ⟨q.val % 512, by omega⟩

/-- The part among the four of a grid point's weight block. -/
def part4 (q : Fin 2048) : Fin 4 := ⟨q.val / 512, by omega⟩
def within4 (q : Fin 2048) : Fin 512 := ⟨q.val % 512, by omega⟩

/-! What each of the four products of the body is. -/

theorem pay1 (x : Vec Ideal S512x1024 .bf16) (w : Vec Ideal S1x1024x512 .bf16) (p : Fin 512) (q : Fin 512) :
    k0_pay1 (F := Ideal) x w (ix2 p q) = ∑ k : Fin 1024, x (ix2 p k) * w (ix3 (0 : Fin 1) k q) := by
  unfold k0_pay1; pointwise
theorem pay2 (x : Vec Ideal S512x1024 .bf16) (w : Vec Ideal S1x1024x512 .bf16) (p : Fin 512) (q : Fin 512) :
    k0_pay2 (F := Ideal) x w (ix2 p q) = ∑ k : Fin 1024, x (ix2 p k) * w (ix3 (0 : Fin 1) k q) := by
  unfold k0_pay2; pointwise
theorem pay3 (x : Vec Ideal S512x1024 .bf16) (w : Vec Ideal S1x1024x512 .bf16) (p : Fin 512) (q : Fin 512) :
    k0_pay3 (F := Ideal) x w (ix2 p q) = ∑ k : Fin 1024, x (ix2 p k) * w (ix3 (0 : Fin 1) k q) := by
  unfold k0_pay3; pointwise
theorem pay4 (x : Vec Ideal S512x1024 .bf16) (w : Vec Ideal S1x1024x512 .bf16) (p : Fin 512) (q : Fin 512) :
    k0_pay4 (F := Ideal) x w (ix2 p q) = ∑ k : Fin 1024, x (ix2 p k) * w (ix3 (0 : Fin 1) k q) := by
  unfold k0_pay4; pointwise

/-- One part of the weight block. -/
theorem ld_part (w : Vec Ideal S4x1024x512 .bf16) (o : ℕ) (inb) (y : Fin 2048) (k : Fin 1024) (q : Fin 512) (h : y.val = o * 512 + q.val) :
    View.ld w (Rect.unit (s := S4x1024x512) ![o, 0, 0] S1x1024x512.size inb) (ix3 (0 : Fin 1) k q) = w (ix3 (part4 y) k (within4 y)) := by
  refine View.ld_unit_apply_of w _ _ inb _ _ fun a => ?_
  fin_cases a <;> simp [part4, within4] <;> omega

/-- The block the body stores: every column of it is a product with one column of the weight block. -/
theorem block (x : Vec Ideal S512x1024 .bf16) (w : Vec Ideal S4x1024x512 .bf16) (y : S512x2048.Idx) :
    out0_2 (F := Ideal) x w y = ∑ k : Fin 1024, x (ix2 (y 0) k) * w (ix3 (part4 (y 1)) k (within4 (y 1))) := by
  have hx (j : S512x512.Idx) (k : Fin 1024) (h : (y 0 : ℕ) = j 0) : View.ld x r0_0 (ix2 (j 0) k) = x (ix2 (y 0) k) :=
    View.ld_unit_apply_of x _ _ _ _ _ fun a => by fin_cases a <;> simp [h]
  canon_tiles j h
  · refine (congrArg _ (eq_ix2 j)).trans ((pay4 _ _ _ _).trans (Finset.sum_congr rfl fun k _ => congrArg₂ (· * ·) (hx j k h0) ?_))
    exact ld_part w 3 _ (y 1) k (j 1) (by omega)
  · refine (congrArg _ (eq_ix2 j)).trans ((pay3 _ _ _ _).trans (Finset.sum_congr rfl fun k _ => congrArg₂ (· * ·) (hx j k h0) ?_))
    exact ld_part w 2 _ (y 1) k (j 1) (by omega)
  · refine (congrArg _ (eq_ix2 j)).trans ((pay2 _ _ _ _).trans (Finset.sum_congr rfl fun k _ => congrArg₂ (· * ·) (hx j k h0) ?_))
    exact ld_part w 1 _ (y 1) k (j 1) (by omega)
  · refine (congrArg _ (eq_ix2 j)).trans ((pay1 _ _ _ _).trans (Finset.sum_congr rfl fun k _ => congrArg₂ (· * ·) (hx j k h0) ?_))
    exact ld_part w 0 _ (y 1) k (j 1) (by omega)

/-- What the reference computes. -/
theorem value (x : (⟨S4096x1024, .bf16⟩ : BufTy).Contents (Elt Ideal)) (w : (⟨S8x1024x512, .bf16⟩ : BufTy).Contents (Elt Ideal)) (p : Fin 4096) (q : Fin 4096) :
    val_main_v5 (F := Ideal) x w (ix2 p q) = ∑ k : Fin 1024, x (ix2 p k) * w (ix3 (part q) k (within q)) := by
  rw [val_main_v5_apply, val_main_v4_apply]
  refine Finset.sum_congr rfl fun k _ => ?_
  rw [val_main_v2_apply, val_main_v3_apply, val_main_v1_apply, val_main_v0_apply]
  refine congrArg₂ (· * ·) (congrArg x ?_) (congrArg w ?_) <;>
    exact funext fun a => Fin.ext (by fin_cases a <;> simp [part, within] <;> omega)

variable (m : (ℓ : Loc nD τ sig) → Buf (Elt Ideal) ℓ) (c : Dev nD)

theorem at0 : ∀ t : Fin cfg0.N, win0_0.index t = ![t.val % 8, 0] := (by decide +kernel : ∀ t : Fin grid0.N, _)
theorem at1 : ∀ t : Fin cfg0.N, win0_1.index t = ![t.val / 8, 0, 0] := (by decide +kernel : ∀ t : Fin grid0.N, _)
theorem at2 : ∀ t : Fin cfg0.N, win0_2.index t = ![t.val % 8, t.val / 8] := (by decide +kernel : ∀ t : Fin grid0.N, _)

/-- A part of the weight block, as one of the eight parts. -/
def part8 (t : Fin cfg0.N) (s : Fin 4) : Fin 8 := ⟨t.val / 8 * 4 + s.val, by have := lt_of_lt_of_eq t.isLt N_0; omega⟩

/-- The left block: 512 rows. -/
theorem iblk0 (t : Fin cfg0.N) : iblk m c 0 t = fun j : S512x1024.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: four of the eight parts. -/
theorem iblk1 (t : Fin cfg0.N) : iblk m c 1 t = fun j : S4x1024x512.Idx => m (c.tc.loc main_arg1) (ix3 (part8 t (j 0)) (j 1) (j 2)) := by
  funext j
  refine congrArg (m (c.tc.loc main_arg1)) (?_ : ((win0_1).blk t).view.emb j = ix3 (part8 t (j 0)) (j 1) (j 2))
  blk_ext [at1, part8]

theorem part8_eq (t : Fin cfg0.N) (q : Fin 2048) : part8 t (part4 q) = part (col t q) := Fin.ext (by simp only [part8, part4, part, col]; omega)
theorem within_eq (t : Fin cfg0.N) (q : Fin 2048) : within4 q = within (col t q) := Fin.ext (by simp only [within4, within, col]; omega)

/-- The result array after the kernel has run. -/
theorem final : (dats m 0 c).arrAt 2 cfg0.N = val_main_v5 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (col t (y 1)) := by blk_ext [at2, row, col]
  blk_simp
  rw [after0_2]
  refine Eq.trans ?_ (congrArg _ hy.symm)
  rw [iblk0, iblk1]
  refine (block _ _ y).trans (Eq.trans ?_ (value _ _ _ _).symm)
  refine Finset.sum_congr rfl fun k _ => congrArg₂ (· * ·) rfl ?_
  exact congrArg (m (c.tc.loc main_arg1)) (congrArg₂ (fun s r => (ix3 s k r : S8x1024x512.Idx)) (part8_eq t (y 1)) (within_eq t (y 1)))

/-! The claims. -/

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem preserves : Cert.preserves_Kernel13_Kernel13Ideal := trivial

/-- The kernel's result is the reference's. -/
theorem algebraic : Cert.algebraic_Kernel13Ideal_Reference13Ideal := by
  intro m ρ m' ρ' _ hagree
  refine ⟨_, Cert.Kernel13Ideal.Value.run_blocks m ρ, ?_⟩
  refine (θ_run Cert.Reference13Ideal.defs _ _).mono (fun _ h c => ?_) (Cert.Reference13Ideal.Value.run (F := Ideal) m' ρ')
  obtain ⟨hv, hargs⟩ := h c
  obtain ⟨a0, a1⟩ := hagree c
  refine ⟨hv.trans ?_, hargs⟩
  rw [val_main_v5_eq, a0, a1]
  exact (final m c).symm

end Cert.GmIn
-- ==== Proof.Prod.HgIn.lean ====
/-
  The second mixer's input projection: the layer's input times the input weight, in single precision.

  The weight comes in eight parts, 512 columns each. A grid point computes 512 rows and the columns of four parts, part by
  part; the reference is one product with the whole weight.
-/
module

public import proofs.«01_k».proof.Defs
public import proofs.«01_k».proof.Proof.Gen.Kernel14.Frame
public import proofs.«01_k».proof.Proof.Gen.Kernel14Ideal.Value
public import proofs.«01_k».proof.Proof.Gen.Reference14Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.HgIn

open Idealize.ShloMosaic Idealize.ShloMosaic.TcCoe Idealize.SL.Sem
open Idealize.ShloMosaic.Pipeline (Dat)
open Cert.Kernel14Ideal Cert.Kernel14Ideal.Gen Cert.Reference14Ideal.Read

/-- The row block and the column half a grid point works on. -/
def row (t : Fin cfg0.N) (p : Fin 512) : Fin 4096 := ⟨t.val % 8 * 512 + p.val, by omega⟩
def col (t : Fin cfg0.N) (q : Fin 2048) : Fin 4096 := ⟨t.val / 8 * 2048 + q.val, by have := lt_of_lt_of_eq t.isLt N_0; omega⟩

/-- The part of the weight that holds column `q` of the product, and the column there. -/
def part (q : Fin 4096) : Fin 8 := ⟨q.val / 512, by omega⟩
def within (q : Fin 4096) : Fin 512 := ⟨q.val % 512, by omega⟩

/-- The part among the four of a grid point's weight block. -/
def part4 (q : Fin 2048) : Fin 4 := ⟨q.val / 512, by omega⟩
def within4 (q : Fin 2048) : Fin 512 := ⟨q.val % 512, by omega⟩

/-! What each of the four products of the body is. -/

theorem pay1 (x : Vec Ideal S512x1024 .bf16) (w : Vec Ideal S1x1024x512 .bf16) (p : Fin 512) (q : Fin 512) :
    k0_pay1 (F := Ideal) x w (ix2 p q) = ∑ k : Fin 1024, x (ix2 p k) * w (ix3 (0 : Fin 1) k q) := by
  unfold k0_pay1; pointwise
theorem pay2 (x : Vec Ideal S512x1024 .bf16) (w : Vec Ideal S1x1024x512 .bf16) (p : Fin 512) (q : Fin 512) :
    k0_pay2 (F := Ideal) x w (ix2 p q) = ∑ k : Fin 1024, x (ix2 p k) * w (ix3 (0 : Fin 1) k q) := by
  unfold k0_pay2; pointwise
theorem pay3 (x : Vec Ideal S512x1024 .bf16) (w : Vec Ideal S1x1024x512 .bf16) (p : Fin 512) (q : Fin 512) :
    k0_pay3 (F := Ideal) x w (ix2 p q) = ∑ k : Fin 1024, x (ix2 p k) * w (ix3 (0 : Fin 1) k q) := by
  unfold k0_pay3; pointwise
theorem pay4 (x : Vec Ideal S512x1024 .bf16) (w : Vec Ideal S1x1024x512 .bf16) (p : Fin 512) (q : Fin 512) :
    k0_pay4 (F := Ideal) x w (ix2 p q) = ∑ k : Fin 1024, x (ix2 p k) * w (ix3 (0 : Fin 1) k q) := by
  unfold k0_pay4; pointwise

/-- One part of the weight block. -/
theorem ld_part (w : Vec Ideal S4x1024x512 .bf16) (o : ℕ) (inb) (y : Fin 2048) (k : Fin 1024) (q : Fin 512) (h : y.val = o * 512 + q.val) :
    View.ld w (Rect.unit (s := S4x1024x512) ![o, 0, 0] S1x1024x512.size inb) (ix3 (0 : Fin 1) k q) = w (ix3 (part4 y) k (within4 y)) := by
  refine View.ld_unit_apply_of w _ _ inb _ _ fun a => ?_
  fin_cases a <;> simp [part4, within4] <;> omega

/-- The block the body stores: every column of it is a product with one column of the weight block. -/
theorem block (x : Vec Ideal S512x1024 .bf16) (w : Vec Ideal S4x1024x512 .bf16) (y : S512x2048.Idx) :
    out0_2 (F := Ideal) x w y = ∑ k : Fin 1024, x (ix2 (y 0) k) * w (ix3 (part4 (y 1)) k (within4 (y 1))) := by
  have hx (j : S512x512.Idx) (k : Fin 1024) (h : (y 0 : ℕ) = j 0) : View.ld x r0_0 (ix2 (j 0) k) = x (ix2 (y 0) k) :=
    View.ld_unit_apply_of x _ _ _ _ _ fun a => by fin_cases a <;> simp [h]
  canon_tiles j h
  · refine (congrArg _ (eq_ix2 j)).trans ((pay4 _ _ _ _).trans (Finset.sum_congr rfl fun k _ => congrArg₂ (· * ·) (hx j k h0) ?_))
    exact ld_part w 3 _ (y 1) k (j 1) (by omega)
  · refine (congrArg _ (eq_ix2 j)).trans ((pay3 _ _ _ _).trans (Finset.sum_congr rfl fun k _ => congrArg₂ (· * ·) (hx j k h0) ?_))
    exact ld_part w 2 _ (y 1) k (j 1) (by omega)
  · refine (congrArg _ (eq_ix2 j)).trans ((pay2 _ _ _ _).trans (Finset.sum_congr rfl fun k _ => congrArg₂ (· * ·) (hx j k h0) ?_))
    exact ld_part w 1 _ (y 1) k (j 1) (by omega)
  · refine (congrArg _ (eq_ix2 j)).trans ((pay1 _ _ _ _).trans (Finset.sum_congr rfl fun k _ => congrArg₂ (· * ·) (hx j k h0) ?_))
    exact ld_part w 0 _ (y 1) k (j 1) (by omega)

/-- What the reference computes. -/
theorem value (x : (⟨S4096x1024, .bf16⟩ : BufTy).Contents (Elt Ideal)) (w : (⟨S8x1024x512, .bf16⟩ : BufTy).Contents (Elt Ideal)) (p : Fin 4096) (q : Fin 4096) :
    val_main_v4 (F := Ideal) x w (ix2 p q) = ∑ k : Fin 1024, x (ix2 p k) * w (ix3 (part q) k (within q)) := by
  rw [val_main_v4_apply]
  refine Finset.sum_congr rfl fun k _ => ?_
  rw [val_main_v2_apply, val_main_v3_apply, val_main_v1_apply, val_main_v0_apply]
  refine congrArg₂ (· * ·) (congrArg x ?_) (congrArg w ?_) <;>
    exact funext fun a => Fin.ext (by fin_cases a <;> simp [part, within] <;> omega)

variable (m : (ℓ : Loc nD τ sig) → Buf (Elt Ideal) ℓ) (c : Dev nD)

theorem at0 : ∀ t : Fin cfg0.N, win0_0.index t = ![t.val % 8, 0] := (by decide +kernel : ∀ t : Fin grid0.N, _)
theorem at1 : ∀ t : Fin cfg0.N, win0_1.index t = ![t.val / 8, 0, 0] := (by decide +kernel : ∀ t : Fin grid0.N, _)
theorem at2 : ∀ t : Fin cfg0.N, win0_2.index t = ![t.val % 8, t.val / 8] := (by decide +kernel : ∀ t : Fin grid0.N, _)

/-- A part of the weight block, as one of the eight parts. -/
def part8 (t : Fin cfg0.N) (s : Fin 4) : Fin 8 := ⟨t.val / 8 * 4 + s.val, by have := lt_of_lt_of_eq t.isLt N_0; omega⟩

/-- The left block: 512 rows. -/
theorem iblk0 (t : Fin cfg0.N) : iblk m c 0 t = fun j : S512x1024.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: four of the eight parts. -/
theorem iblk1 (t : Fin cfg0.N) : iblk m c 1 t = fun j : S4x1024x512.Idx => m (c.tc.loc main_arg1) (ix3 (part8 t (j 0)) (j 1) (j 2)) := by
  funext j
  refine congrArg (m (c.tc.loc main_arg1)) (?_ : ((win0_1).blk t).view.emb j = ix3 (part8 t (j 0)) (j 1) (j 2))
  blk_ext [at1, part8]

theorem part8_eq (t : Fin cfg0.N) (q : Fin 2048) : part8 t (part4 q) = part (col t q) := Fin.ext (by simp only [part8, part4, part, col]; omega)
theorem within_eq (t : Fin cfg0.N) (q : Fin 2048) : within4 q = within (col t q) := Fin.ext (by simp only [within4, within, col]; omega)

/-- The result array after the kernel has run. -/
theorem final : (dats m 0 c).arrAt 2 cfg0.N = val_main_v4 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (col t (y 1)) := by blk_ext [at2, row, col]
  blk_simp
  rw [after0_2]
  refine Eq.trans ?_ (congrArg _ hy.symm)
  rw [iblk0, iblk1]
  refine (block _ _ y).trans (Eq.trans ?_ (value _ _ _ _).symm)
  refine Finset.sum_congr rfl fun k _ => congrArg₂ (· * ·) rfl ?_
  exact congrArg (m (c.tc.loc main_arg1)) (congrArg₂ (fun s r => (ix3 s k r : S8x1024x512.Idx)) (part8_eq t (y 1)) (within_eq t (y 1)))

/-! The claims. -/

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem preserves : Cert.preserves_Kernel14_Kernel14Ideal := trivial

/-- The kernel's result is the reference's. -/
theorem algebraic : Cert.algebraic_Kernel14Ideal_Reference14Ideal := by
  intro m ρ m' ρ' _ hagree
  refine ⟨_, Cert.Kernel14Ideal.Value.run_blocks m ρ, ?_⟩
  refine (θ_run Cert.Reference14Ideal.defs _ _).mono (fun _ h c => ?_) (Cert.Reference14Ideal.Value.run (F := Ideal) m' ρ')
  obtain ⟨hv, hargs⟩ := h c
  obtain ⟨a0, a1⟩ := hagree c
  refine ⟨hv.trans ?_, hargs⟩
  rw [val_main_v4_eq, a0, a1]
  exact (final m c).symm

end Cert.HgIn
-- ==== Proof.Prod.FfnUp.lean ====
/-
  The feed-forward layer's first product: the layer's input times the first weight.

  The weight comes in eight parts, 704 columns each and already transposed. A grid point computes 512 rows and the columns of four parts, part by
  part; the reference is one product with the whole weight.
-/
module

public import proofs.«01_k».proof.Defs
public import proofs.«01_k».proof.Proof.Gen.Kernel15.Frame
public import proofs.«01_k».proof.Proof.Gen.Kernel15Ideal.Value
public import proofs.«01_k».proof.Proof.Gen.Reference15Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.FfnUp

open Idealize.ShloMosaic Idealize.ShloMosaic.TcCoe Idealize.SL.Sem
open Idealize.ShloMosaic.Pipeline (Dat)
open Cert.Kernel15Ideal Cert.Kernel15Ideal.Gen Cert.Reference15Ideal.Read

/-- The row block and the column half a grid point works on. -/
def row (t : Fin cfg0.N) (p : Fin 512) : Fin 4096 := ⟨t.val % 8 * 512 + p.val, by omega⟩
def col (t : Fin cfg0.N) (q : Fin 2816) : Fin 5632 := ⟨t.val / 8 * 2816 + q.val, by have := lt_of_lt_of_eq t.isLt N_0; omega⟩

/-- The part of the weight that holds column `q` of the product, and the column there. -/
def part (q : Fin 5632) : Fin 8 := ⟨q.val / 704, by omega⟩
def within (q : Fin 5632) : Fin 704 := ⟨q.val % 704, by omega⟩

/-- The part among the four of a grid point's weight block. -/
def part4 (q : Fin 2816) : Fin 4 := ⟨q.val / 704, by omega⟩
def within4 (q : Fin 2816) : Fin 704 := ⟨q.val % 704, by omega⟩

/-! What each of the four products of the body is. -/

theorem pay1 (x : Vec Ideal S512x1024 .bf16) (w : Vec Ideal S1x704x1024 .bf16) (p : Fin 512) (q : Fin 704) :
    k0_pay1 (F := Ideal) x w (ix2 p q) = ∑ k : Fin 1024, x (ix2 p k) * w (ix3 (0 : Fin 1) q k) := by
  unfold k0_pay1; pointwise
theorem pay2 (x : Vec Ideal S512x1024 .bf16) (w : Vec Ideal S1x704x1024 .bf16) (p : Fin 512) (q : Fin 704) :
    k0_pay2 (F := Ideal) x w (ix2 p q) = ∑ k : Fin 1024, x (ix2 p k) * w (ix3 (0 : Fin 1) q k) := by
  unfold k0_pay2; pointwise
theorem pay3 (x : Vec Ideal S512x1024 .bf16) (w : Vec Ideal S1x704x1024 .bf16) (p : Fin 512) (q : Fin 704) :
    k0_pay3 (F := Ideal) x w (ix2 p q) = ∑ k : Fin 1024, x (ix2 p k) * w (ix3 (0 : Fin 1) q k) := by
  unfold k0_pay3; pointwise
theorem pay4 (x : Vec Ideal S512x1024 .bf16) (w : Vec Ideal S1x704x1024 .bf16) (p : Fin 512) (q : Fin 704) :
    k0_pay4 (F := Ideal) x w (ix2 p q) = ∑ k : Fin 1024, x (ix2 p k) * w (ix3 (0 : Fin 1) q k) := by
  unfold k0_pay4; pointwise

/-- One part of the weight block. -/
theorem ld_part (w : Vec Ideal S4x704x1024 .bf16) (o : ℕ) (inb) (y : Fin 2816) (k : Fin 1024) (q : Fin 704) (h : y.val = o * 704 + q.val) :
    View.ld w (Rect.unit (s := S4x704x1024) ![o, 0, 0] S1x704x1024.size inb) (ix3 (0 : Fin 1) q k) = w (ix3 (part4 y) (within4 y) k) := by
  refine View.ld_unit_apply_of w _ _ inb _ _ fun a => ?_
  fin_cases a <;> simp [part4, within4] <;> omega

/-- The block the body stores: every column of it is a product with one column of the weight block. -/
theorem block (x : Vec Ideal S512x1024 .bf16) (w : Vec Ideal S4x704x1024 .bf16) (y : S512x2816.Idx) :
    out0_2 (F := Ideal) x w y = ∑ k : Fin 1024, x (ix2 (y 0) k) * w (ix3 (part4 (y 1)) (within4 (y 1)) k) := by
  have hx (j : S512x704.Idx) (k : Fin 1024) (h : (y 0 : ℕ) = j 0) : View.ld x r0_0 (ix2 (j 0) k) = x (ix2 (y 0) k) :=
    View.ld_unit_apply_of x _ _ _ _ _ fun a => by fin_cases a <;> simp [h]
  canon_tiles j h
  · refine (congrArg _ (eq_ix2 j)).trans ((pay4 _ _ _ _).trans (Finset.sum_congr rfl fun k _ => congrArg₂ (· * ·) (hx j k h0) ?_))
    exact ld_part w 3 _ (y 1) k (j 1) (by omega)
  · refine (congrArg _ (eq_ix2 j)).trans ((pay3 _ _ _ _).trans (Finset.sum_congr rfl fun k _ => congrArg₂ (· * ·) (hx j k h0) ?_))
    exact ld_part w 2 _ (y 1) k (j 1) (by omega)
  · refine (congrArg _ (eq_ix2 j)).trans ((pay2 _ _ _ _).trans (Finset.sum_congr rfl fun k _ => congrArg₂ (· * ·) (hx j k h0) ?_))
    exact ld_part w 1 _ (y 1) k (j 1) (by omega)
  · refine (congrArg _ (eq_ix2 j)).trans ((pay1 _ _ _ _).trans (Finset.sum_congr rfl fun k _ => congrArg₂ (· * ·) (hx j k h0) ?_))
    exact ld_part w 0 _ (y 1) k (j 1) (by omega)

/-- What the reference computes. -/
theorem value (x : (⟨S4096x1024, .bf16⟩ : BufTy).Contents (Elt Ideal)) (w : (⟨S8x704x1024, .bf16⟩ : BufTy).Contents (Elt Ideal)) (p : Fin 4096) (q : Fin 5632) :
    val_main_v5 (F := Ideal) x w (ix2 p q) = ∑ k : Fin 1024, x (ix2 p k) * w (ix3 (part q) (within q) k) := by
  rw [val_main_v5_apply, val_main_v4_apply]
  refine Finset.sum_congr rfl fun k _ => ?_
  rw [val_main_v2_apply, val_main_v3_apply, val_main_v1_apply, val_main_v0_apply]
  refine congrArg₂ (· * ·) (congrArg x ?_) (congrArg w ?_) <;>
    exact funext fun a => Fin.ext (by fin_cases a <;> simp [part, within] <;> omega)

variable (m : (ℓ : Loc nD τ sig) → Buf (Elt Ideal) ℓ) (c : Dev nD)

theorem at0 : ∀ t : Fin cfg0.N, win0_0.index t = ![t.val % 8, 0] := (by decide +kernel : ∀ t : Fin grid0.N, _)
theorem at1 : ∀ t : Fin cfg0.N, win0_1.index t = ![t.val / 8, 0, 0] := (by decide +kernel : ∀ t : Fin grid0.N, _)
theorem at2 : ∀ t : Fin cfg0.N, win0_2.index t = ![t.val % 8, t.val / 8] := (by decide +kernel : ∀ t : Fin grid0.N, _)

/-- A part of the weight block, as one of the eight parts. -/
def part8 (t : Fin cfg0.N) (s : Fin 4) : Fin 8 := ⟨t.val / 8 * 4 + s.val, by have := lt_of_lt_of_eq t.isLt N_0; omega⟩

/-- The left block: 512 rows. -/
theorem iblk0 (t : Fin cfg0.N) : iblk m c 0 t = fun j : S512x1024.Idx => m (c.tc.loc main_arg0) (ix2 (row t (j 0)) (j 1)) := by
  funext j
  refine congrArg (m (c.tc.loc main_arg0)) (?_ : ((win0_0).blk t).view.emb j = ix2 (row t (j 0)) (j 1))
  blk_ext [at0, row]

/-- The right block: four of the eight parts. -/
theorem iblk1 (t : Fin cfg0.N) : iblk m c 1 t = fun j : S4x704x1024.Idx => m (c.tc.loc main_arg1) (ix3 (part8 t (j 0)) (j 1) (j 2)) := by
  funext j
  refine congrArg (m (c.tc.loc main_arg1)) (?_ : ((win0_1).blk t).view.emb j = ix3 (part8 t (j 0)) (j 1) (j 2))
  blk_ext [at1, part8]

theorem part8_eq (t : Fin cfg0.N) (q : Fin 2816) : part8 t (part4 q) = part (col t q) := Fin.ext (by simp only [part8, part4, part, col]; omega)
theorem within_eq (t : Fin cfg0.N) (q : Fin 2816) : within4 q = within (col t q) := Fin.ext (by simp only [within4, within, col]; omega)

/-- The result array after the kernel has run. -/
theorem final : (dats m 0 c).arrAt 2 cfg0.N = val_main_v5 (F := Ideal) (m (c.tc.loc main_arg0)) (m (c.tc.loc main_arg1)) := by
  refine (dats m 0 c).arrAt_eq_of_covers 2 _ (by decide +kernel) fun t hf y => ?_
  have hy : (win0_2.blk t).view.emb y = ix2 (row t (y 0)) (col t (y 1)) := by blk_ext [at2, row, col]
  blk_simp
  rw [after0_2]
  refine Eq.trans ?_ (congrArg _ hy.symm)
  rw [iblk0, iblk1]
  refine (block _ _ y).trans (Eq.trans ?_ (value _ _ _ _).symm)
  refine Finset.sum_congr rfl fun k _ => congrArg₂ (· * ·) rfl ?_
  exact congrArg (m (c.tc.loc main_arg1)) (congrArg₂ (fun s r => (ix3 s r k : S8x704x1024.Idx)) (part8_eq t (y 1)) (within_eq t (y 1)))

/-! The claims. -/

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem preserves : Cert.preserves_Kernel15_Kernel15Ideal := trivial

/-- The kernel's result is the reference's. -/
theorem algebraic : Cert.algebraic_Kernel15Ideal_Reference15Ideal := by
  intro m ρ m' ρ' _ hagree
  refine ⟨_, Cert.Kernel15Ideal.Value.run_blocks m ρ, ?_⟩
  refine (θ_run Cert.Reference15Ideal.defs _ _).mono (fun _ h c => ?_) (Cert.Reference15Ideal.Value.run (F := Ideal) m' ρ')
  obtain ⟨hv, hargs⟩ := h c
  obtain ⟨a0, a1⟩ := hagree c
  refine ⟨hv.trans ?_, hargs⟩
  rw [val_main_v5_eq, a0, a1]
  exact (final m c).symm

end Cert.FfnUp
-- ==== Proof.Opt.Scalar.lean ====
/-
  One step of AdamW for one entry: the two moments and the change of the weight, over the reals with infinities.
-/
module

public import Idealize.ShloMosaic.Lib.Pointwise

@[expose] public section

noncomputable section

namespace Cert.AdamW

open Idealize.ShloMosaic Idealize.ShloMosaic.TcCoe

/-- The new first moment: 0.9 of the old one and 0.1 of the gradient. -/
def first (g m : Ideal .f32) : Ideal .f32 :=
  FloatOps.addf (FloatOps.mulf (FloatOps.ofBits .f32 0x3F666666#32) m) (FloatOps.mulf (FloatOps.ofBits .f32 0x3DCCCCCD#32) g)

/-- The new second moment: 0.999 of the old one and 0.001 of the gradient's square. -/
def second (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The weight's change, from the new moments `m` and `v`. -/
def change (w m v : Ideal .f32) : Ideal .f32 :=
  FloatOps.mulf (FloatOps.ofBits .f32 0xBA83126F#32)
    (FloatOps.addf
      (FloatOps.divf (FloatOps.divf m (FloatOps.ofBits .f32 0x3F26BD02#32))
        (FloatOps.addf (FloatOps.sqrt (FloatOps.divf v (FloatOps.ofBits .f32 0x3C231ACC#32))) (FloatOps.ofBits .f32 0x322BCC77#32)))
      (FloatOps.mulf (FloatOps.ofBits .f32 0x3C23D70A#32) w))

/-- The weight's change, from the gradient and the old moments. -/
def step (g w m v : Ideal .f32) : Ideal .f32 := change w (first g m) (second g v)

end Cert.AdamW

end
-- ==== Proof.Opt.AdamAda.lean ====
/-
  AdamW for the modulation's weight: one kernel over the weight's rows, those of all layers one after another. A grid point
  takes 256 rows.
-/
module

public import proofs.«01_k».proof.Defs
public import proofs.«01_k».proof.Proof.Opt.Scalar
public import proofs.«01_k».proof.Proof.Gen.Kernel16.Frame
public import proofs.«01_k».proof.Proof.Gen.Kernel16Ideal.Value
public import proofs.«01_k».proof.Proof.Gen.Reference16Ideal.Read
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.AdamAda

open Idealize.ShloMosaic Idealize.ShloMosaic.TcCoe Idealize.SL.Sem
open Idealize.ShloMosaic.Pipeline (Dat)
open Cert.Kernel16Ideal Cert.Kernel16Ideal.Gen Cert.Reference16Ideal.Read Cert.AdamW

/-! What the body computes from its blocks: one step at each entry. -/

theorem pay2 (g m : Vec Ideal S256x768 .f32) (y : S256x768.Idx) : k0_pay2 (F := Ideal) g m y = first (g y) (m y) := by
  unfold k0_pay2 k0_pay1 first; pointwise
theorem pay3 (g v : Vec Ideal S256x768 .f32) (y : S256x768.Idx) : k0_pay3 (F := Ideal) g v y = second (g y) (v y) := by
  unfold k0_pay3 k0_pay1 second; pointwise
theorem pay4 (w g m v : Vec Ideal S256x768 .f32) (y : S256x768.Idx) :
    k0_pay4 (F := Ideal) w g m v y = step (g y) (w y) (m y) (v y) := by
  unfold k0_pay4 step change; pointwise [pay2, pay3]

/-! What the reference computes: the same step at each entry. -/

theorem value25 (x0 x2 : (⟨S4x1024x768, .f32⟩ : BufTy).Contents (Elt Ideal)) (y : S4096x768.Idx) :
    val_main_v25 (F := Ideal) x0 x2 y = first (shapeCast S4096x768 x0 shapeCasts_S4x1024x768_S4096x768 y) (shapeCast S4096x768 x2 shapeCasts_S4x1024x768_S4096x768 y) := rfl
theorem value26 (x0 x3 : (⟨S4x1024x768, .f32⟩ : BufTy).Contents (Elt Ideal)) (y : S4096x768.Idx) :
    val_main_v26 (F := Ideal) x0 x3 y = second (shapeCast S4096x768 x0 shapeCasts_S4x1024x768_S4096x768 y) (shapeCast S4096x768 x3 shapeCasts_S4x1024x768_S4096x768 y) := rfl
theorem value24 (x0 x1 x2 x3 : (⟨S4x1024x768, .f32⟩ : BufTy).Contents (Elt Ideal)) (y : S4096x768.Idx) :
    val_main_v24 (F := Ideal) x0 x1 x2 x3 y = step (shapeCast S4096x768 x0 shapeCasts_S4x1024x768_S4096x768 y) (shapeCast S4096x768 x1 shapeCasts_S4x1024x768_S4096x768 y) (shapeCast S4096x768 x2 shapeCasts_S4x1024x768_S4096x768 y) (shapeCast S4096x768 x3 shapeCasts_S4x1024x768_S4096x768 y) := rfl

variable (m : (ℓ : Loc nD τ sig) → Buf (Elt Ideal) ℓ) (c : Dev nD)

/-! The four arrays the kernel reads: the arguments, the layers' rows one after another. -/

theorem V0 : V m c main_v0 = shapeCast S4096x768 (m (c.tc.loc main_arg0)) shapeCasts_S4x1024x768_S4096x768 := by
  unfold_abbrev_sides; after_results; rfl
theorem V1 : V m c main_v1 = shapeCast S4096x768 (m (c.tc.loc main_arg1)) shapeCasts_S4x1024x768_S4096x768 := by
  unfold_abbrev_sides; after_results; rfl
theorem V2 : V m c main_v2 = shapeCast S4096x768 (m (c.tc.loc main_arg2)) shapeCasts_S4x1024x768_S4096x768 := by
  unfold_abbrev_sides; after_results; rfl
theorem V3 : V m c main_v3 = shapeCast S4096x768 (m (c.tc.loc main_arg3)) shapeCasts_S4x1024x768_S4096x768 := by
  unfold_abbrev_sides; after_results; rfl

/-- The row of the arrays that row `p` of a grid point's block is. -/
def row (t : Fin cfg0.N) (p : Fin 256) : Fin 4096 := ⟨t.val * 256 + p.val, by have := lt_of_lt_of_eq t.isLt N_0; omega⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)

/-! The blocks: 256 rows of the gradient, the weight and the moments. -/

theorem iblk0 (t : Fin cfg0.N) : iblk m c 0 t = fun j : S256x768.Idx => (shapeCast S4096x768 (m (c.tc.loc main_arg0)) shapeCasts_S4x1024x768_S4096x768 : Vec Ideal S4096x768 .f32) (ix2 (row t (j 0)) (j 1)) := by
  funext j
  unfold iblk
  refine (congrArg (V m c main_v0) (?_ : ((win0_0).blk t).view.emb j = ix2 (row t (j 0)) (j 1))).trans (congrFun (V0 m c) _)
  blk_ext [at0, row]
theorem iblk1 (t : Fin cfg0.N) : iblk m c 1 t = fun j : S256x768.Idx => (shapeCast S4096x768 (m (c.tc.loc main_arg1)) shapeCasts_S4x1024x768_S4096x768 : Vec Ideal S4096x768 .f32) (ix2 (row t (j 0)) (j 1)) := by
  funext j
  unfold iblk
  refine (congrArg (V m c main_v1) (?_ : ((win0_1).blk t).view.emb j = ix2 (row t (j 0)) (j 1))).trans (congrFun (V1 m c) _)
  blk_ext [at1, row]
theorem iblk2 (t : Fin cfg0.N) : iblk m c 2 t = fun j : S256x768.Idx => (shapeCast S4096x768 (m (c.tc.loc main_arg2)) shapeCasts_S4x1024x768_S4096x768 : Vec Ideal S4096x768 .f32) (ix2 (row t (j 0)) (j 1)) := by
  funext j
  unfold iblk
  refine (congrArg (V m c main_v2) (?_ : ((win0_2).blk t).view.emb j = ix2 (row t (j 0)) (j 1))).trans (congrFun (V2 m c) _)
  blk_ext [at2, row]
theorem iblk3 (t : Fin cfg0.N) : iblk m c 3 t = fun j : S256x768.Idx => (shapeCast S4096x768 (m (c.tc.loc main_arg3)) shapeCasts_S4x1024x768_S4096x768 : Vec Ideal S4096x768 .f32) (ix2 (row t (j 0)) (j 1)) := by
  funext j
  unfold iblk
  refine (congrArg (V m c main_v3) (?_ : ((win0_3).blk t).view.emb j = ix2 (row t (j 0)) (j 1))).trans (congrFun (V3 m c) _)
  blk_ext [at3, row]

/-! The changes and the new moments after the kernel has run. -/

theorem final4 : (dats m 0 c).arrAt 4 cfg0.N = val_main_v24 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  have hy : (win0_4.blk t).view.emb y = ix2 (row t (y 0)) (y 1) := by blk_ext [at4, row]
  blk_simp
  rw [after0_4]
  refine Eq.trans ?_ (congrArg _ hy.symm)
  frame_out
  rw [iblk0, iblk1, iblk2, iblk3]
  exact (pay4 _ _ _ _ y).trans (value24 _ _ _ _ _).symm

theorem final5 : (dats m 0 c).arrAt 5 cfg0.N = val_main_v25 (F := Ideal) (m (c.tc.loc main_arg0)) (m (c.tc.loc main_arg2)) := by
  refine (dats m 0 c).arrAt_eq_of_covers 5 _ (by decide +kernel) fun t hf y => ?_
  have hy : (win0_5.blk t).view.emb y = ix2 (row t (y 0)) (y 1) := by blk_ext [at5, row]
  blk_simp
  rw [after0_5]
  refine Eq.trans ?_ (congrArg _ hy.symm)
  frame_out
  rw [iblk0, iblk2]
  exact (pay2 _ _ y).trans (value25 _ _ _).symm

theorem final6 : (dats m 0 c).arrAt 6 cfg0.N = val_main_v26 (F := Ideal) (m (c.tc.loc main_arg0)) (m (c.tc.loc main_arg3)) := by
  refine (dats m 0 c).arrAt_eq_of_covers 6 _ (by decide +kernel) fun t hf y => ?_
  have hy : (win0_6.blk t).view.emb y = ix2 (row t (y 0)) (y 1) := by blk_ext [at6, row]
  blk_simp
  rw [after0_6]
  refine Eq.trans ?_ (congrArg _ hy.symm)
  frame_out
  rw [iblk0, iblk3]
  exact (pay3 _ _ y).trans (value26 _ _ _).symm

/-! The claims. -/

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

theorem preserves : Cert.preserves_Kernel16_Kernel16Ideal := trivial

/-- The kernel's results are the reference's. -/
theorem algebraic : Cert.algebraic_Kernel16Ideal_Reference16Ideal := by
  intro m ρ m' ρ' _ hagree
  refine ⟨_, _, _, Cert.Kernel16Ideal.Value.run_blocks m ρ, ?_⟩
  refine (θ_run Cert.Reference16Ideal.defs _ _).mono (fun _ h c => ?_) (Cert.Reference16Ideal.Value.run (F := Ideal) m' ρ')
  obtain ⟨h0, h1, h2, hargs⟩ := h c
  obtain ⟨a0, a1, a2, a3⟩ := hagree c
  refine ⟨h0.trans ?_, h1.trans ?_, h2.trans ?_, hargs⟩
  · rw [val_main_v24_eq, a0, a1, a2, a3]; exact (final4 m c).symm
  · rw [val_main_v25_eq, a0, a2]; exact (final5 m c).symm
  · rw [val_main_v26_eq, a0, a3]; exact (final6 m c).symm

end Cert.AdamAda

end
-- ==== Proof.NormLast.Rows.lean ====
/-
  What one block of the first layer's norm's backward computes, row by row: no branch precedes this norm.

  A grid point holds 512 of the 4096 rows. Each array the body computes from its blocks is, at row `p` and column `k`,
  what the reference computes at row `512 t + p` and column `k`: the two programs apply the same operations to the same
  entries, apart from the order of two sums and of two products.
-/
module

public import proofs.«01_k».proof.Proof.Gen.Kernel18Ideal.Skeleton
public import proofs.«01_k».proof.Proof.Gen.Reference18Ideal.Read
public import Idealize.ShloMosaic.Lib.ValueIdx
public import Idealize.ShloMosaic.Lib.Pointwise
public import Idealize.ShloMosaic.Lib.Pipeline.Value

@[expose] public section

noncomputable section

namespace Cert.NormLast

open Idealize.ShloMosaic Idealize.ShloMosaic.TcCoe
open Cert.Kernel18Ideal Cert.Kernel18Ideal.Gen Cert.Reference18Ideal.Read

/-- Row `p` of block `t`, as a row of the whole array. -/
def row (t : Fin 8) (p : Fin 512) : Fin 4096 := ⟨t.val * 512 + p.val, by omega⟩

/-- The block of 512 rows at grid point `t`. -/
def blk {α : Type} (t : Fin 8) (x : S4096x1024.Idx → α) : S512x1024.Idx → α := fun j => x (ix2 (row t (j 0)) (j 1))

variable (t : Fin 8) (x0 : Vec Ideal S4096x1024 .f32) (x1 x2 : Vec Ideal S1x1024 .f32) (x4 : Vec Ideal S4096x1024 .bf16)
  (x5 : Vec Ideal S4096x1024 .f32)

/-- The bits of `+0.0` read as zero. -/
theorem zero_bits : (FloatOps.ofBits .f32 0x00000000#32 : Ideal .f32) = (0 : EReal) := by
  show Ideal.ofBits .f32 0x00000000#32 = 0
  simp

/-! Where the reference's layout operations read. -/

theorem idx2 (r : Fin 4096) (k : Fin 1024) : idx_main_v2 (idx_main_v3 (ix2 r 0)) k = ix2 r k := funext fun a => by fin_cases a <;> rfl
theorem idx12 (r : Fin 4096) (k : Fin 1024) : idx_main_v12 (ix2 r k) = ix2 r 0 := funext fun a => by fin_cases a <;> rfl
theorem idx15 (r : Fin 4096) (k : Fin 1024) : idx_main_v0 (idx_main_v14 (idx_main_v15 (ix2 r k))) = ix2 0 k :=
  funext fun a => Fin.ext (by fin_cases a <;> simp <;> omega)
theorem idx29 (r : Fin 4096) (k : Fin 1024) : idx_main_v29 (ix2 r k) = ix2 0 k := funext fun a => by fin_cases a <;> rfl
theorem idx34 (r : Fin 4096) (k : Fin 1024) : idx_main_v0 (idx_main_v14 (idx_main_v34 (ix2 r k))) = ix2 0 k :=
  funext fun a => Fin.ext (by fin_cases a <;> simp <;> omega)
theorem idx38 (r : Fin 4096) (k : Fin 1024) : idx_main_v38 (idx_main_v39 (ix2 r 0)) k = ix2 r k :=
  funext fun a => Fin.ext (by fin_cases a <;> simp <;> omega)
theorem idx40 (r : Fin 4096) (k : Fin 1024) : idx_main_v40 (ix2 r k) = ix2 r 0 := funext fun a => by fin_cases a <;> rfl
theorem idx46 (r : Fin 4096) (k : Fin 1024) (z : Fin 1) : idx_main_v46 (idx_main_v47 (ix2 r k)) z = ix2 r 0 := funext fun a => by fin_cases a <;> fin_cases z <;> rfl
theorem idx24 (k : Fin 1024) (r : Fin 4096) : idx_main_v24 (idx_main_v25 (ix2 0 k)) r = ix2 r k :=
  funext fun a => Fin.ext (by fin_cases a <;> simp <;> omega)
theorem idx27 (k : Fin 1024) (r : Fin 4096) : idx_main_v27 (idx_main_v28 (ix2 0 k)) r = ix2 r k :=
  funext fun a => Fin.ext (by fin_cases a <;> simp <;> omega)
theorem idx32 (k : Fin 1024) (z : Fin 1) (r : Fin 4096) : idx_main_v32 (idx_main_v33 (idx_main_v36 (idx_main_v52 (ix2 0 k)) z)) r = ix2 r k :=
  funext fun a => Fin.ext (by fin_cases a <;> simp <;> omega)

/-- The mean of a row's squares, plus epsilon. -/
theorem meansq (p : Fin 512) (c : Fin 1) :
    k0_pay8 (F := Ideal) (blk t x0) (ix2 p c) = val_main_v7 (F := Ideal) x0 (ix2 (row t p) 0) := by
  rw [val_main_v7_apply, val_main_v6_apply, val_main_cst_1_apply, val_main_v5_apply, val_main_v4_apply,
    val_main_cst_0_apply, val_main_v3_apply, val_main_v2_apply, val_main_cst_apply, zero_bits]
  unfold k0_pay8
  pointwise
  simp only [idx2, val_main_v1_apply]
  rfl

/-- The reciprocal root of it. -/
theorem rstd (p : Fin 512) (c : Fin 1) :
    k0_pay9 (F := Ideal) (blk t x0) (ix2 p c) = val_main_v8 (F := Ideal) x0 (ix2 (row t p) 0) := by
  rw [val_main_v8_apply, ← meansq t x0 p c]
  rfl

/-- The derivative of the reciprocal root. -/
theorem drstd (p : Fin 512) (c : Fin 1) :
    k0_pay10 (F := Ideal) (blk t x0) (ix2 p c) = val_main_v11 (F := Ideal) x0 (ix2 (row t p) 0) := by
  rw [val_main_v11_apply, val_main_v10_apply, val_main_cst_2_apply, val_main_v9_apply, ← meansq t x0 p c, ← rstd t x0 p c]
  rfl

/-- The normalised entry. -/
theorem normed (p : Fin 512) (k : Fin 1024) :
    k0_pay11 (F := Ideal) (blk t x0) (ix2 p k) = val_main_v13 (F := Ideal) x0 (ix2 (row t p) k) := by
  rw [val_main_v13_apply, val_main_v12_apply, idx12, ← rstd t x0 p 0]
  unfold k0_pay11
  pointwise
  rfl

/-- The gradient that comes in, scaled back by the modulation. -/
theorem scaled (p : Fin 512) (k : Fin 1024) :
    k0_pay15 (F := Ideal) x2 (blk t x4) (ix2 p k) = val_main_v30 (F := Ideal) x2 x4 (ix2 (row t p) k) := by
  rw [val_main_v30_apply, val_main_v23_apply, val_main_v29_apply, val_main_v18_apply, val_main_v17_apply, val_main_cst_3_apply, idx29]
  unfold k0_pay15 k0_pay12
  pointwise
  rfl

/-- The gradient at the normalised entry. -/
theorem weighted (p : Fin 512) (k : Fin 1024) :
    k0_pay17 (F := Ideal) x1 x2 (blk t x4) (ix2 p k) = val_main_v35 (F := Ideal) x1 x2 x4 (ix2 (row t p) k) := by
  rw [val_main_v35_apply, val_main_v34_apply, val_main_v14_apply, val_main_v0_apply, idx34, ← scaled t x2 x4 p k]
  unfold k0_pay17
  pointwise

/-- Its product with the row, summed along the row. -/
theorem rowdot (p : Fin 512) :
    k0_pay18 (F := Ideal) (blk t x0) x1 x2 (blk t x4) (ix1 p) = val_main_v39 (F := Ideal) x0 x1 x2 x4 (ix2 (row t p) 0) := by
  rw [val_main_v39_apply, val_main_v38_apply, val_main_cst_8_apply, zero_bits]
  unfold k0_pay18
  pointwise
  simp only [idx38, val_main_v37_apply, ← weighted t x1 x2 x4]
  rfl

/-- The gradient of the input row. -/
theorem dx (p : Fin 512) (k : Fin 1024) :
    k0_pay1 (F := Ideal) (blk t x0) (k0_pay9 (blk t x0)) (k0_pay10 (blk t x0)) (k0_pay17 x1 x2 (blk t x4))
      (k0_pay18 (blk t x0) x1 x2 (blk t x4)) (blk t x5) (ix2 p k)
      = val_main_v51 (F := Ideal) x0 x1 x2 x4 x5 (ix2 (row t p) k) := by
  rw [val_main_v51_apply, val_main_v50_apply, val_main_v49_apply, val_main_v48_apply, val_main_v47_apply, val_main_v46_apply,
    val_main_cst_10_apply, zero_bits, val_main_v42_apply, val_main_v41_apply, val_main_v40_apply, idx40, ← rstd t x0 p 0,
    ← weighted t x1 x2 x4 p k]
  simp only [idx46, val_main_v45_apply, val_main_v44_apply, val_main_cst_9_apply, val_main_v43_apply, ← drstd t x0 p 0,
    ← rowdot t x0 x1 x2 x4 p]
  unfold k0_pay1
  pointwise
  have hz : ∀ z : Fin 1, k0_pay10 (F := Ideal) (blk t x0) (ix2 p z) = k0_pay10 (F := Ideal) (blk t x0) (ix2 p 0) := fun z => by fin_cases z; rfl
  simp only [hz]
  show _ + x5 (ix2 (row t p) k) = x5 (ix2 (row t p) k) + _ + _ + _
  rw [add_comm, ← add_assoc, ← add_assoc]
  rfl

/-- What the block adds to the gradient of the shift, column by column. -/
theorem dshift (c : Fin 1) (k : Fin 1024) :
    k0_pay13 (F := Ideal) (blk t x4) (ix2 c k) = ∑ p, val_main_v23 (F := Ideal) x4 (ix2 (row t p) k) := by
  unfold k0_pay13 k0_pay12
  simp only [val_main_v23_apply]
  pointwise
  rfl

/-- What the block adds to the gradient of the scale. -/
theorem dscale (c : Fin 1) (k : Fin 1024) :
    k0_pay14 (F := Ideal) (blk t x0) x1 (blk t x4) (ix2 c k) = ∑ p, val_main_v26 (F := Ideal) x0 x1 x4 (ix2 (row t p) k) := by
  simp only [val_main_v26_apply, val_main_v23_apply, val_main_v16_apply, val_main_v15_apply, val_main_v14_apply,
    val_main_v0_apply, idx15, ← normed t x0]
  unfold k0_pay14 k0_pay12
  pointwise
  rfl

/-- What the block adds to the gradient of the norm's weight. -/
theorem dweight (c : Fin 1) (k : Fin 1024) :
    k0_pay16 (F := Ideal) (blk t x0) x2 (blk t x4) (ix2 c k) = ∑ p, val_main_v31 (F := Ideal) x0 x2 x4 (ix2 (row t p) k) := by
  simp only [val_main_v31_apply, ← normed t x0, ← scaled t x2 x4]
  unfold k0_pay16
  pointwise

end Cert.NormLast
-- ==== Proof.NormLast.Arrays.lean ====
/-
  What each array of the first layer's norm's backward holds after the kernel has run, as the reference's array.

  The gradient of the input is written block by block; the three gradients of the row vectors are accumulated in one block, which the first point resets and the last one writes back.
-/
module

public import proofs.«01_k».proof.Proof.NormLast.Rows
public import proofs.«01_k».proof.Proof.Gen.Kernel18Ideal.Value
public import Idealize.ShloMosaic.Lib.Pipeline.ValueKit

@[expose] public section

noncomputable section

namespace Cert.NormLast

open Idealize.ShloMosaic Idealize.ShloMosaic.TcCoe Idealize.SL.Sem
open Idealize.ShloMosaic.Pipeline (Dat)
open Cert.Kernel18Ideal Cert.Kernel18Ideal.Gen Cert.Reference18Ideal.Read

variable (m : (ℓ : Loc nD τ sig) → Buf (Elt Ideal) ℓ) (c : Dev nD)

/-- A grid point, as one of the eight blocks of rows. -/
def pt (t : Fin cfg0.N) : Fin 8 := ⟨t.val, lt_of_lt_of_eq t.isLt N_0⟩

/-! The input blocks: 512 rows of the arrays, and the whole row vectors. -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at4 : ∀ t : Fin cfg0.N, win0_4.index t = ![t.val, 0] := (by decide +kernel : ∀ t : Fin grid0.N, _)
theorem at6 : ∀ t : Fin cfg0.N, win0_6.index t = ![t.val, 0] := (by decide +kernel : ∀ t : Fin grid0.N, _)
theorem at5 : ∀ t : Fin cfg0.N, win0_5.index t = ![t.val, 0] := (by decide +kernel : ∀ t : Fin grid0.N, _)

theorem iblk0 (t : Fin cfg0.N) : iblk m c 0 t = blk (pt t) (m (c.tc.loc main_arg0)) := by
  funext j
  refine congrArg (m (c.tc.loc main_arg0)) (?_ : ((win0_0).blk t).view.emb j = ix2 (row (pt t) (j 0)) (j 1))
  blk_ext [at0, pt, row]

theorem iblk1 (t : Fin cfg0.N) : iblk m c 1 t = m (c.tc.loc main_arg1) := by
  funext j
  refine congrArg (m (c.tc.loc main_arg1)) (?_ : ((win0_1).blk t).view.emb j = j)
  blk_ext [at1]

theorem iblk2 (t : Fin cfg0.N) : iblk m c 2 t = m (c.tc.loc main_arg2) := by
  funext j
  refine congrArg (m (c.tc.loc main_arg2)) (?_ : ((win0_2).blk t).view.emb j = j)
  blk_ext [at2]

theorem iblk4 (t : Fin cfg0.N) : iblk m c 4 t = blk (pt t) (m (c.tc.loc main_arg4)) := by
  funext j
  refine congrArg (m (c.tc.loc main_arg4)) (?_ : ((win0_4).blk t).view.emb j = ix2 (row (pt t) (j 0)) (j 1))
  blk_ext [at4, pt, row]

theorem iblk5 (t : Fin cfg0.N) : iblk m c 5 t = blk (pt t) (m (c.tc.loc main_arg5)) := by
  funext j
  refine congrArg (m (c.tc.loc main_arg5)) (?_ : ((win0_5).blk t).view.emb j = ix2 (row (pt t) (j 0)) (j 1))
  blk_ext [at5, pt, row]

/-- The gradient of the input. -/
theorem final_dx : (dats m 0 c).arrAt 6 cfg0.N = val_main_v51 (F := Ideal)
    (m (c.tc.loc main_arg0)) (m (c.tc.loc main_arg1)) (m (c.tc.loc main_arg2)) (m (c.tc.loc main_arg4)) (m (c.tc.loc main_arg5)) := by
  refine (dats m 0 c).arrAt_eq_of_covers 6 _ (by decide +kernel) fun t hf y => ?_
  have hy : (win0_6.blk t).view.emb y = ix2 (row (pt t) (y 0)) (y 1) := by blk_ext [at6, pt, row]
  blk_simp
  rw [after0_6]
  refine Eq.trans ?_ (congrArg _ hy.symm)
  by_cases h0 : t.val % 8 = 0
  · rw [outsAt0_A m c t h0]
    frame_out
    rw [iblk0, iblk1, iblk2, iblk4, iblk5]
    exact (congrArg _ (eq_ix2 y)).trans (dx (pt t) _ _ _ _ _ (y 0) (y 1))
  · rw [outsAt0_B m c t h0]
    frame_out
    rw [iblk0, iblk1, iblk2, iblk4, iblk5]
    exact (congrArg _ (eq_ix2 y)).trans (dx (pt t) _ _ _ _ _ (y 0) (y 1))

/-- Summing over the eight blocks and the 512 rows of each is summing over the 4096 rows. -/
theorem sum_rows (f : Fin 4096 → EReal) : (∑ t : Fin cfg0.N, ∑ p : Fin 512, f (row (pt t) p)) = ∑ r : Fin 4096, f r :=
  Fin.sum_mul_add_congr fun _ _ _ => rfl

/-- The zero block holds zero. -/
theorem zero5_apply (y : S1x1024.Idx) : k0_pay5 (F := Ideal) y = 0 := zero_bits
theorem zero6_apply (y : S1x1024.Idx) : k0_pay6 (F := Ideal) y = 0 := zero_bits
theorem zero7_apply (y : S1x1024.Idx) : k0_pay7 (F := Ideal) y = 0 := zero_bits

/-- Adding a block's part to what was accumulated. -/
theorem add2_apply (x acc : Vec Ideal S1x1024 .f32) (y : S1x1024.Idx) : k0_pay2 (F := Ideal) x acc y = acc y + x y := by
  unfold k0_pay2; pointwise
theorem add3_apply (x acc : Vec Ideal S1x1024 .f32) (y : S1x1024.Idx) : k0_pay3 (F := Ideal) x acc y = acc y + x y := by
  unfold k0_pay3; pointwise
theorem add4_apply (x acc : Vec Ideal S1x1024 .f32) (y : S1x1024.Idx) : k0_pay4 (F := Ideal) x acc y = acc y + x y := by
  unfold k0_pay4; pointwise

/-- The gradient of the norm's weight: the blocks' parts, summed. -/
theorem final_dgn : (dats m 0 c).arrAt 7 cfg0.N = val_main_v52 (F := Ideal)
    (m (c.tc.loc main_arg0)) (m (c.tc.loc main_arg2)) (m (c.tc.loc main_arg4)) := by
  funext i
  refine ((dats m 0 c).arrAt_emb_eq_after_last 7 t0_7 (by decide +kernel) i).trans ?_
  blk_simp
  rw [after0_7, Pipeline.eq_sum_fin_of_reset_step_apply_last (fun n h => (outsAt0 m c n h).2.1) 8 (fun _ => 0)
    (fun t => k0_pay16 (F := Ideal) (iblk m c 0 t) (iblk m c 2 t) (iblk m c 4 t))
    (fun t h j => by rw [outsAt0_A m c t h]; frame_out; rw [add2_apply, zero5_apply])
    (fun t h j => by rw [outsAt0_B m c t h]; frame_out; rw [add2_apply])
    (le_of_eq N_0) t0_7 rfl i, zero_add]
  obtain ⟨z, k, rfl⟩ : ∃ (z : Fin 1) (k : Fin 1024), i = ix2 z k := ⟨i 0, i 1, eq_ix2 i⟩
  obtain rfl : z = 0 := Subsingleton.elim _ _
  rw [val_main_v52_apply, val_main_v36_apply, val_main_cst_7_apply, zero_bits, zero_add, Fin.sum_univ_one, val_main_v33_apply,
    val_main_v32_apply, val_main_cst_6_apply, zero_bits, zero_add, ← sum_rows]
  simp only [idx32]
  refine Fin.sum_fin_congr fun t => ?_
  rw [iblk0, iblk2, iblk4, dweight (pt t)]

/-- The gradient of the scale: the blocks' parts, summed. -/
theorem final_dsc : (dats m 0 c).arrAt 8 cfg0.N = val_main_v28 (F := Ideal)
    (m (c.tc.loc main_arg0)) (m (c.tc.loc main_arg1)) (m (c.tc.loc main_arg4)) := by
  funext i
  refine ((dats m 0 c).arrAt_emb_eq_after_last 8 t0_7 (by decide +kernel) i).trans ?_
  blk_simp
  rw [after0_8, Pipeline.eq_sum_fin_of_reset_step_apply_last (fun n h => (outsAt0 m c n h).2.2.1) 8 (fun _ => 0)
    (fun t => k0_pay14 (F := Ideal) (iblk m c 0 t) (iblk m c 1 t) (iblk m c 4 t))
    (fun t h j => by rw [outsAt0_A m c t h]; frame_out; rw [add3_apply, zero6_apply])
    (fun t h j => by rw [outsAt0_B m c t h]; frame_out; rw [add3_apply])
    (le_of_eq N_0) t0_7 rfl i, zero_add]
  obtain ⟨z, k, rfl⟩ : ∃ (z : Fin 1) (k : Fin 1024), i = ix2 z k := ⟨i 0, i 1, eq_ix2 i⟩
  obtain rfl : z = 0 := Subsingleton.elim _ _
  rw [val_main_v28_apply, val_main_v27_apply, val_main_cst_5_apply, zero_bits, zero_add, ← sum_rows]
  simp only [idx27]
  refine Fin.sum_fin_congr fun t => ?_
  rw [iblk0, iblk1, iblk4, dscale (pt t)]

/-- The gradient of the shift: the blocks' parts, summed. -/
theorem final_dsh : (dats m 0 c).arrAt 9 cfg0.N = val_main_v25 (F := Ideal)
    (m (c.tc.loc main_arg4)) := by
  funext i
  refine ((dats m 0 c).arrAt_emb_eq_after_last 9 t0_7 (by decide +kernel) i).trans ?_
  blk_simp
  rw [after0_9, Pipeline.eq_sum_fin_of_reset_step_apply_last (fun n h => (outsAt0 m c n h).2.2.2) 8 (fun _ => 0)
    (fun t => k0_pay13 (F := Ideal) (iblk m c 4 t))
    (fun t h j => by rw [outsAt0_A m c t h]; frame_out; rw [add4_apply, zero7_apply])
    (fun t h j => by rw [outsAt0_B m c t h]; frame_out; rw [add4_apply])
    (le_of_eq N_0) t0_7 rfl i, zero_add]
  obtain ⟨z, k, rfl⟩ : ∃ (z : Fin 1) (k : Fin 1024), i = ix2 z k := ⟨i 0, i 1, eq_ix2 i⟩
  obtain rfl : z = 0 := Subsingleton.elim _ _
  rw [val_main_v25_apply, val_main_v24_apply, val_main_cst_4_apply, zero_bits, zero_add, ← sum_rows]
  simp only [idx24]
  refine Fin.sum_fin_congr fun t => ?_
  rw [iblk4, dshift (pt t)]

end Cert.NormLast
-- ==== Proof.NormLast.Claim.lean ====
/-
  The claims about the first layer's norm's backward: its frames, and its equation with the reference.
-/
module

public import proofs.«01_k».proof.Defs
public import proofs.«01_k».proof.Proof.NormLast.Arrays
public import proofs.«01_k».proof.Proof.Gen.Kernel18.Frame
public import proofs.«01_k».proof.Proof.Gen.Reference18Ideal.Run

@[expose] public section

noncomputable section

namespace Cert.NormLast

open Idealize.ShloMosaic Idealize.ShloMosaic.TcCoe Idealize.SL.Sem
open Cert.Reference18Ideal.Read

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem preserves : Cert.preserves_Kernel18_Kernel18Ideal := trivial

/-- All four results of the kernel are the reference's. -/
theorem algebraic : Cert.algebraic_Kernel18Ideal_Reference18Ideal := by
  intro m ρ m' ρ' _ hagree
  refine ⟨_, _, _, _, Cert.Kernel18Ideal.Value.run_blocks m ρ, ?_⟩
  refine (θ_run Cert.Reference18Ideal.defs _ _).mono (fun _ h c => ?_) (Cert.Reference18Ideal.Value.run (F := Ideal) m' ρ')
  obtain ⟨h51, h52, h28, h25, hargs⟩ := h c
  obtain ⟨a0, a1, a2, a3, a4, a5⟩ := hagree c
  refine ⟨h51.trans ?_, h52.trans ?_, h28.trans ?_, h25.trans ?_, hargs⟩
  · rw [val_main_v51_eq, a0, a1, a2, a4, a5]; exact (final_dx m c).symm
  · rw [val_main_v52_eq, a0, a2, a4]; exact (final_dgn m c).symm
  · rw [val_main_v28_eq, a0, a1, a4]; exact (final_dsc m c).symm
  · rw [val_main_v25_eq, a4]; exact (final_dsh m c).symm

end Cert.NormLast
-- ==== Proof.Opt.AdaGrads.lean ====
/-
  The gradients of the modulation's weight and bias, one layer at a grid point: for the weight the product of the
  conditioning's silu, transposed, with the modulation's gradient over the eight examples; for the bias the sum of the
  gradient over the examples.
-/
module

public import proofs.«01_k».proof.Defs
public import proofs.«01_k».proof.Proof.Gen.Kernel19.Frame
public import proofs.«01_k».proof.Proof.Gen.Kernel19Ideal.Value
public import proofs.«01_k».proof.Proof.Gen.Reference19Ideal.Read
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit

@[expose] public section

noncomputable section

namespace Cert.AdaGrads

open Idealize.ShloMosaic Idealize.ShloMosaic.TcCoe Idealize.SL.Sem
open Idealize.ShloMosaic.Pipeline (Dat)
open Cert.Kernel19Ideal Cert.Kernel19Ideal.Gen Cert.Reference19Ideal.Read

/-- What the body computes for the weight: the product over the examples. -/
theorem payW (x : Vec Ideal S8x1024 .f32) (d : Vec Ideal S1x8x768 .f32) (u : Fin 1) (p : Fin 1024) (q : Fin 768) :
    k0_pay2 (F := Ideal) x d (ix3 u p q) = ∑ k : Fin 8, (x (ix2 k p) * Ideal.logistic (x (ix2 k p))) * d (ix3 0 k q) := by
  unfold k0_pay2
  pointwise

/-! Each slice the body loads: one example. -/

theorem slice0 (d : Vec Ideal S8x1x1x6144 .f32) (q : Fin 6144) : View.ld d r0_3 (ix4 0 0 0 q) = d (ix4 0 0 0 q) := by
  refine congrArg d (funext fun a => Fin.ext ?_)
  fin_cases a <;> first | rfl | exact (Nat.zero_add _).trans (Nat.one_mul _)
theorem slice1 (d : Vec Ideal S8x1x1x6144 .f32) (q : Fin 6144) : View.ld d r0_4 (ix4 0 0 0 q) = d (ix4 1 0 0 q) := by
  refine congrArg d (funext fun a => Fin.ext ?_)
  fin_cases a <;> first | rfl | exact (Nat.zero_add _).trans (Nat.one_mul _)
theorem slice2 (d : Vec Ideal S8x1x1x6144 .f32) (q : Fin 6144) : View.ld d r0_5 (ix4 0 0 0 q) = d (ix4 2 0 0 q) := by
  refine congrArg d (funext fun a => Fin.ext ?_)
  fin_cases a <;> first | rfl | exact (Nat.zero_add _).trans (Nat.one_mul _)
theorem slice3 (d : Vec Ideal S8x1x1x6144 .f32) (q : Fin 6144) : View.ld d r0_6 (ix4 0 0 0 q) = d (ix4 3 0 0 q) := by
  refine congrArg d (funext fun a => Fin.ext ?_)
  fin_cases a <;> first | rfl | exact (Nat.zero_add _).trans (Nat.one_mul _)
theorem slice4 (d : Vec Ideal S8x1x1x6144 .f32) (q : Fin 6144) : View.ld d r0_7 (ix4 0 0 0 q) = d (ix4 4 0 0 q) := by
  refine congrArg d (funext fun a => Fin.ext ?_)
  fin_cases a <;> first | rfl | exact (Nat.zero_add _).trans (Nat.one_mul _)
theorem slice5 (d : Vec Ideal S8x1x1x6144 .f32) (q : Fin 6144) : View.ld d r0_8 (ix4 0 0 0 q) = d (ix4 5 0 0 q) := by
  refine congrArg d (funext fun a => Fin.ext ?_)
  fin_cases a <;> first | rfl | exact (Nat.zero_add _).trans (Nat.one_mul _)
theorem slice6 (d : Vec Ideal S8x1x1x6144 .f32) (q : Fin 6144) : View.ld d r0_9 (ix4 0 0 0 q) = d (ix4 6 0 0 q) := by
  refine congrArg d (funext fun a => Fin.ext ?_)
  fin_cases a <;> first | rfl | exact (Nat.zero_add _).trans (Nat.one_mul _)
theorem slice7 (d : Vec Ideal S8x1x1x6144 .f32) (q : Fin 6144) : View.ld d r0_10 (ix4 0 0 0 q) = d (ix4 7 0 0 q) := by
  refine congrArg d (funext fun a => Fin.ext ?_)
  fin_cases a <;> first | rfl | exact (Nat.zero_add _).trans (Nat.one_mul _)

/-- The sum of eight slices, from the left. -/
theorem payB (z0 z1 z2 z3 z4 z5 z6 z7 : Vec Ideal S1x1x1x6144 .f32) (u v : Fin 1) (q : Fin 6144) :
    k0_pay1 (F := Ideal) (k0_pay3 z0 z1 z2 z3 z4) (k0_pay4 z5) z6 z7 (ix3 u v q)
      = z0 (ix4 0 0 0 q) + z1 (ix4 0 0 0 q) + z2 (ix4 0 0 0 q) + z3 (ix4 0 0 0 q) + z4 (ix4 0 0 0 q) + z5 (ix4 0 0 0 q)
        + z6 (ix4 0 0 0 q) + z7 (ix4 0 0 0 q) := by
  unfold k0_pay1 k0_pay3 k0_pay4
  pointwise

/-- What the body computes for the bias: the sum over the examples. -/
theorem sumB (d : Vec Ideal S8x1x1x6144 .f32) (u v : Fin 1) (q : Fin 6144) :
    k0_pay1 (F := Ideal) (k0_pay3 (View.ld d r0_3) (View.ld d r0_4) (View.ld d r0_5) (View.ld d r0_6) (View.ld d r0_7))
      (k0_pay4 (View.ld d r0_8)) (View.ld d r0_9) (View.ld d r0_10) (ix3 u v q) = ∑ k : Fin 8, d (ix4 k 0 0 q) := by
  refine (payB _ _ _ _ _ _ _ _ _ _ _).trans ?_
  rw [Fin.sum_univ_eight, slice0, slice1, slice2, slice3, slice4, slice5, slice6, slice7]

/-- The reference's silu. -/
theorem silu (x : (⟨S8x1024, .f32⟩ : BufTy).Contents (Elt Ideal)) (i : S8x1024.Idx) :
    val_main_v2 (F := Ideal) x i = x i * Ideal.logistic (x i) := by
  show x i * Ideal.div (Ideal.ofBits .f32 0x3F800000#32) (Ideal.ofBits .f32 0x3F800000#32 + Ideal.exp (-(x i))) = _
  rw [Ideal.ofBits_one_f32]
  rfl

/-- What the reference computes for the weight. -/
theorem valueW (x : (⟨S8x1024, .f32⟩ : BufTy).Contents (Elt Ideal)) (d : (⟨S4x8x768, .f32⟩ : BufTy).Contents (Elt Ideal)) (l : Fin 4) (p : Fin 1024) (q : Fin 768) :
    val_main_v15 (F := Ideal) x d (ix3 l p q) = ∑ k : Fin 8, (x (ix2 k p) * Ideal.logistic (x (ix2 k p))) * d (ix3 l k q) := by
  rw [val_main_v15_apply, val_main_v14_apply]
  refine Finset.sum_congr rfl fun k _ => ?_
  rw [val_main_v13_apply, silu]
  have e : ridx_main_v14 (idx_main_v15 (ix3 l p q)) k = ix2 k p := funext fun a => by fin_cases a <;> rfl
  rw [e]
  refine (mul_comm _ _).trans (congrArg₂ (· * ·) rfl (congrArg d ?_))
  exact funext fun a => by fin_cases a <;> rfl

/-- What the reference computes for the bias. -/
theorem valueB (d : (⟨S8x4x1x6144, .f32⟩ : BufTy).Contents (Elt Ideal)) (l : Fin 4) (u : Fin 1) (q : Fin 6144) :
    val_main_v21 (F := Ideal) d (ix3 l u q) = ∑ k : Fin 8, d (ix4 k l 0 q) := by
  have z : ∀ i, (Ideal.ofBits .f32 0x00000000#32 : EReal) + i = i := fun i => by rw [Ideal.ofBits_zero_f32, zero_add]
  rw [val_main_v21_apply, val_main_v20_apply, val_main_cst_4_apply, Fin.sum_univ_one]
  refine (z _).trans ?_
  rw [val_main_v19_apply, val_main_v18_apply, val_main_cst_3_apply]
  refine (z _).trans (Finset.sum_congr rfl fun k _ => ?_)
  rw [val_main_v17_apply, val_main_v16_apply]
  refine congrArg d (funext fun a => Fin.ext ?_)
  have := k.isLt; have := l.isLt; have := q.isLt
  fin_cases a <;> simp [ix3, ix4] <;> omega

variable (m : (ℓ : Loc nD τ sig) → Buf (Elt Ideal) ℓ) (c : Dev nD)

/-- The layer of a grid point. -/
def layer (t : Fin cfg0.N) : Fin 4 := ⟨t.val, by have := lt_of_lt_of_eq t.isLt N_0; omega⟩

theorem at0 : ∀ t : Fin cfg0.N, win0_0.index t = ![0, 0] := (by decide +kernel : ∀ t : Fin grid0.N, _)
theorem at1 : ∀ t : Fin cfg0.N, win0_1.index t = ![t.val, 0, 0] := (by decide +kernel : ∀ t : Fin grid0.N, _)
theorem at2 : ∀ t : Fin cfg0.N, win0_2.index t = ![0, t.val, 0, 0] := (by decide +kernel : ∀ t : Fin grid0.N, _)
theorem at3 : ∀ t : Fin cfg0.N, win0_3.index t = ![t.val, 0, 0] := (by decide +kernel : ∀ t : Fin grid0.N, _)
theorem at4 : ∀ t : Fin cfg0.N, win0_4.index t = ![t.val, 0, 0] := (by decide +kernel : ∀ t : Fin grid0.N, _)

/-- The conditioning's block: the whole array. -/
theorem iblk0 (t : Fin cfg0.N) : iblk m c 0 t = m (c.tc.loc main_arg0) := by
  funext j
  refine congrArg (m (c.tc.loc main_arg0)) (?_ : ((win0_0).blk t).view.emb j = j)
  blk_ext [at0]

/-- The gradient's columns: one layer. -/
theorem iblk1 (t : Fin cfg0.N) : iblk m c 1 t = fun j : S1x8x768.Idx => m (c.tc.loc main_arg1) (ix3 (layer t) (j 1) (j 2)) := by
  funext j
  refine congrArg (m (c.tc.loc main_arg1)) (?_ : ((win0_1).blk t).view.emb j = ix3 (layer t) (j 1) (j 2))
  blk_ext [at1, layer]

/-- The whole gradient: one layer. -/
theorem iblk2 (t : Fin cfg0.N) : iblk m c 2 t = fun j : S8x1x1x6144.Idx => m (c.tc.loc main_arg2) (ix4 (j 0) (layer t) 0 (j 3)) := by
  funext j
  refine congrArg (m (c.tc.loc main_arg2)) (?_ : ((win0_2).blk t).view.emb j = ix4 (j 0) (layer t) 0 (j 3))
  blk_ext [at2, layer]

/-- The weight's gradient after the kernel has run. -/
theorem final3 : (dats m 0 c).arrAt 3 cfg0.N = val_main_v15 (F := Ideal) (m (c.tc.loc main_arg0)) (m (c.tc.loc main_arg1)) := by
  refine (dats m 0 c).arrAt_eq_of_covers 3 _ (by decide +kernel) fun t hf y => ?_
  have hy : (win0_3.blk t).view.emb y = ix3 (layer t) (y 1) (y 2) := by blk_ext [at3, layer]
  blk_simp
  rw [after0_3]
  refine Eq.trans ?_ (congrArg _ hy.symm)
  frame_out
  rw [iblk0, iblk1]
  exact (congrArg _ (eq_ix3 y)).trans ((payW _ _ _ _ _).trans (valueW _ _ _ _ _).symm)

/-- The bias's gradient after the kernel has run. -/
theorem final4 : (dats m 0 c).arrAt 4 cfg0.N = val_main_v21 (F := Ideal) (m (c.tc.loc main_arg2)) := by
  refine (dats m 0 c).arrAt_eq_of_covers 4 _ (by decide +kernel) fun t hf y => ?_
  have hy : (win0_4.blk t).view.emb y = ix3 (layer t) (y 1) (y 2) := by blk_ext [at4, layer]
  blk_simp
  rw [after0_4]
  refine Eq.trans ?_ (congrArg _ hy.symm)
  frame_out
  rw [iblk2]
  exact (congrArg _ (eq_ix3 y)).trans ((sumB _ _ _ _).trans (valueB _ _ _ _).symm)

/-! The claims. -/

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem preserves : Cert.preserves_Kernel19_Kernel19Ideal := trivial

/-- The kernel's results are the reference's. -/
theorem algebraic : Cert.algebraic_Kernel19Ideal_Reference19Ideal := by
  intro m ρ m' ρ' _ hagree
  refine ⟨_, _, Cert.Kernel19Ideal.Value.run_blocks m ρ, ?_⟩
  refine (θ_run Cert.Reference19Ideal.defs _ _).mono (fun _ h c => ?_) (Cert.Reference19Ideal.Value.run (F := Ideal) m' ρ')
  obtain ⟨h0, h1, hargs⟩ := h c
  obtain ⟨a0, a1, a2⟩ := hagree c
  refine ⟨h0.trans ?_, h1.trans ?_, hargs⟩
  · rw [val_main_v15_eq, a0, a1]; exact (final3 m c).symm
  · rw [val_main_v21_eq, a2]; exact (final4 m c).symm

end Cert.AdaGrads

end
-- ==== Proof.Opt.Packing.lean ====
/-
  The eleven small arrays laid out as one: their entries one after another, zeros up to a whole number of rows of 128,
  in rows. An operation on the entries commutes with the layout, as long as it takes zeros to zero.
-/
module

public import proofs.«01_k».proof.Proof.Opt.Scalar
public import proofs.«01_k».proof.Proof.Gen.Kernel17Ideal.Value
public import Idealize.ShloMosaic.Lib.StableHlo.RunRead
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.AdamSmall

open Idealize.ShloMosaic Idealize.ShloMosaic.TcCoe Idealize.SL.Sem
open Cert.Kernel17Ideal Cert.Kernel17Ideal.Gen Cert.AdamW

/-- Eleven flat arrays, one after another. -/
def joined {α : Type} (p0 : S4096.Idx → α) (p1 : S4096.Idx → α) (p2 : S262144.Idx → α) (p3 : S2048.Idx → α) (p4 : S22528.Idx → α) (p5 : S24576.Idx → α) (p6 : S1024.Idx → α) (p7 : S256.Idx → α) (p8 : S256.Idx → α) (p9 : S1024.Idx → α) (p10 : S8448.Idx → α) : S330496.Idx → α :=
  concatenate S330496 0 [⟨S4096, p0⟩, ⟨S4096, p1⟩, ⟨S262144, p2⟩, ⟨S2048, p3⟩, ⟨S22528, p4⟩, ⟨S24576, p5⟩, ⟨S1024, p6⟩, ⟨S256, p7⟩, ⟨S256, p8⟩, ⟨S1024, p9⟩, ⟨S8448, p10⟩]
    concatenates_S4096_S4096_S262144_S2048_S22528_S24576_S1024_S256_S256_S1024_S8448_S330496_d0

/-- A function of the entries commutes with a concatenation's reading, piece by piece. -/
theorem concatenateAt_map {α β : Type} (f : α → β) (t : Shape) (a : Fin t.rank) (j : t.Idx) :
    ∀ (xs : List ((s : Shape) × (s.Idx → α))) (hs : ∀ s ∈ xs.map (·.1), s.FitsOff t a)
      (hs' : ∀ s ∈ (xs.map fun p => (⟨p.1, fun i => f (p.2 i)⟩ : (s : Shape) × (s.Idx → β))).map (·.1), s.FitsOff t a) (c : Nat)
      (hc : c < (axisSizes t a xs).sum)
      (hc' : c < (axisSizes t a (xs.map fun p => (⟨p.1, fun i => f (p.2 i)⟩ : (s : Shape) × (s.Idx → β)))).sum),
      concatenateAt t a j (xs.map fun p => ⟨p.1, fun i => f (p.2 i)⟩) hs' c hc' = f (concatenateAt t a j xs hs c hc)
  | [], _, _, _, hc, _ => absurd hc (Nat.not_lt_zero _)
  | [p], _, _, _, _, _ => rfl
  | p :: q :: xs, hs, hs', c, hc, hc' => by
    show concatenateAt t a j (_ :: _ :: _) hs' c hc' = _
    rw [concatenateAt, concatenateAt]
    split
    · rfl
    · exact concatenateAt_map f t a j (q :: xs) _ _ _ _ _

/-- A function of the entries commutes with the joining. -/
theorem joined_map {α β : Type} (f : α → β) (p0 : S4096.Idx → α) (p1 : S4096.Idx → α) (p2 : S262144.Idx → α) (p3 : S2048.Idx → α) (p4 : S22528.Idx → α) (p5 : S24576.Idx → α) (p6 : S1024.Idx → α) (p7 : S256.Idx → α) (p8 : S256.Idx → α) (p9 : S1024.Idx → α) (p10 : S8448.Idx → α) (i : S330496.Idx) :
    joined (fun j => f (p0 j)) (fun j => f (p1 j)) (fun j => f (p2 j)) (fun j => f (p3 j)) (fun j => f (p4 j)) (fun j => f (p5 j)) (fun j => f (p6 j)) (fun j => f (p7 j)) (fun j => f (p8 j)) (fun j => f (p9 j)) (fun j => f (p10 j)) i = f (joined p0 p1 p2 p3 p4 p5 p6 p7 p8 p9 p10 i) := by
  unfold joined
  have h : Shape.Concatenates (([⟨S4096, p0⟩, ⟨S4096, p1⟩, ⟨S262144, p2⟩, ⟨S2048, p3⟩, ⟨S22528, p4⟩, ⟨S24576, p5⟩, ⟨S1024, p6⟩, ⟨S256, p7⟩, ⟨S256, p8⟩, ⟨S1024, p9⟩, ⟨S8448, p10⟩] : List ((s : Shape) × (s.Idx → α))).map (·.1)) S330496 0 :=
    concatenates_S4096_S4096_S262144_S2048_S22528_S24576_S1024_S256_S256_S1024_S8448_S330496_d0
  refine (concatenate_apply S330496 0 _ _ i).trans (Eq.trans ?_ (congrArg f (concatenate_apply S330496 0 _ h i).symm))
  exact concatenateAt_map f S330496 0 i [⟨S4096, p0⟩, ⟨S4096, p1⟩, ⟨S262144, p2⟩, ⟨S2048, p3⟩, ⟨S22528, p4⟩, ⟨S24576, p5⟩, ⟨S1024, p6⟩, ⟨S256, p7⟩, ⟨S256, p8⟩, ⟨S1024, p9⟩, ⟨S8448, p10⟩] _ _ _ _ _

/-- The eleven arrays, flattened and joined. -/
def packed (a0 : Vec Ideal S2x2048 .f32) (a1 : Vec Ideal S2x2048 .f32) (a2 : Vec Ideal S2x8x128x128 .f32) (a3 : Vec Ideal S2x8x128 .f32) (a4 : Vec Ideal S4x5632 .f32) (a5 : Vec Ideal S4x6144 .f32) (a6 : Vec Ideal S1024 .f32) (a7 : Vec Ideal S2x128 .f32) (a8 : Vec Ideal S2x128 .f32) (a9 : Vec Ideal S4x2x128 .f32) (a10 : Vec Ideal S4x3x704 .f32) : S330496.Idx → Ideal .f32 :=
  joined (shapeCast S4096 a0 shapeCasts_S2x2048_S4096) (shapeCast S4096 a1 shapeCasts_S2x2048_S4096) (shapeCast S262144 a2 shapeCasts_S2x8x128x128_S262144) (shapeCast S2048 a3 shapeCasts_S2x8x128_S2048) (shapeCast S22528 a4 shapeCasts_S4x5632_S22528) (shapeCast S24576 a5 shapeCasts_S4x6144_S24576) (a6) (shapeCast S256 a7 shapeCasts_S2x128_S256) (shapeCast S256 a8 shapeCasts_S2x128_S256) (shapeCast S1024 a9 shapeCasts_S4x2x128_S1024) (shapeCast S8448 a10 shapeCasts_S4x3x704_S8448)

theorem fits : Shape.Concatenates [S330496, S256] S330752 0 := by decide

/-- A flat array with 256 zeros after it, in rows of 128. -/
def rows (x : S330496.Idx → Ideal .f32) : Vec Ideal S2584x128 .f32 :=
  shapeCast S2584x128 (concatenate S330752 0 [⟨S330496, x⟩, ⟨S256, fun _ => (0 : EReal)⟩] fits) shapeCasts_S330752_S2584x128

/-- An entry of the rows: an entry of the array, or zero. -/
theorem rows_apply (x : S330496.Idx → Ideal .f32) (y : S2584x128.Idx) :
    rows x y = if h : (y 0).val * 128 + (y 1).val < 330496 then x (ix1 ⟨(y 0).val * 128 + (y 1).val, h⟩) else (0 : EReal) := by
  unfold rows
  obtain ⟨p, q, rfl⟩ : ∃ (p : Fin 2584) (q : Fin 128), y = ix2 p q := ⟨y 0, y 1, eq_ix2 y⟩
  pointwise

/-- Padding with zeros is putting zeros after. -/
theorem pad_eq (x : S330496.Idx → Ideal .f32) :
    pad S330752 ![0] ![256] ![0] x (sitofp (F := Ideal) .f32 (constantI S_ 32 0#32)) pads_S330496_S330752_02560 h_S_
      = concatenate S330752 0 [⟨S330496, x⟩, ⟨S256, fun _ => (0 : EReal)⟩] fits := by
  funext j
  obtain ⟨q, rfl⟩ : ∃ q : Fin 330752, j = ix1 q := ⟨j 0, eq_ix1 j⟩
  pointwise
  rw [show (FloatOps.sitofp .f32 0#32 : Ideal .f32) = (0 : EReal) by show (((0#32 : BitVec 32).toInt : ℝ) : EReal) = 0; simp]

/-- Zeros stay zeros in a step. -/
theorem first_zero : first (0 : EReal) (0 : EReal) = (0 : EReal) := by
  show (_ * (0 : EReal) + _ * (0 : EReal) : EReal) = 0
  simp
theorem second_zero : second (0 : EReal) (0 : EReal) = (0 : EReal) := by
  show (_ * (0 : EReal) + _ * ((0 : EReal) * 0) : EReal) = 0
  simp
theorem div_zero_left (y : EReal) (h : y ≠ 0) : Ideal.div 0 y = 0 := by
  rw [Ideal.div, if_neg h, zero_mul]
/-- The first moment's correction is not zero. -/
theorem correct_ne : (FloatOps.ofBits .f32 0x3F26BD02#32 : Ideal .f32) ≠ 0 := by
  show (Ideal.ofBits .f32 0x3F26BD02#32 : EReal) ≠ 0
  simp [Ideal.ofBits, Ideal.ieee]
/-- The second moment's correction is not zero. -/
theorem correct2_ne : (FloatOps.ofBits .f32 0x3C231ACC#32 : Ideal .f32) ≠ 0 := by
  show (Ideal.ofBits .f32 0x3C231ACC#32 : EReal) ≠ 0
  simp [Ideal.ofBits, Ideal.ieee]
/-- Neither is the small constant. -/
theorem small_ne : (FloatOps.ofBits .f32 0x322BCC77#32 : Ideal .f32) ≠ 0 := by
  show (Ideal.ofBits .f32 0x322BCC77#32 : EReal) ≠ 0
  simp [Ideal.ofBits, Ideal.ieee]
/-- The divisor of a zero moment is the small constant. -/
theorem root_ne : (FloatOps.addf (FloatOps.sqrt (FloatOps.divf (0 : EReal) (FloatOps.ofBits .f32 0x3C231ACC#32))) (FloatOps.ofBits .f32 0x322BCC77#32) : Ideal .f32) ≠ 0 := by
  have h : (FloatOps.sqrt (FloatOps.divf (0 : EReal) (FloatOps.ofBits .f32 0x3C231ACC#32)) : Ideal .f32) = (0 : EReal) := by
    show Ideal.sqrt (Ideal.div 0 _) = 0
    rw [div_zero_left _ correct2_ne]
    refine (Ideal.sqrt_coe (0 : ℝ)).trans ?_
    rw [if_neg (lt_irrefl _), Real.sqrt_zero, EReal.coe_zero]
  rw [h]
  show (0 + _ : EReal) ≠ 0
  rw [zero_add]
  exact small_ne
theorem step_zero : step (0 : EReal) (0 : EReal) (0 : EReal) (0 : EReal) = (0 : EReal) := by
  unfold step; rw [first_zero, second_zero]
  unfold change
  show (_ * (Ideal.div (Ideal.div (0 : EReal) _) _ + _ * (0 : EReal)) : EReal) = 0
  rw [div_zero_left _ correct_ne, div_zero_left _ root_ne]
  simp

end Cert.AdamSmall

end
-- ==== Proof.Opt.SmallStep.lean ====
/-
  The reference of the small weights' optimiser: each result, laid out in rows, holds one step of AdamW at each entry of the
  laid-out arrays.
-/
module

public import proofs.«01_k».proof.Proof.Opt.Packing
public import proofs.«01_k».proof.Proof.Gen.Reference17Ideal.Read

@[expose] public section

noncomputable section

namespace Cert.AdamSmall

open Idealize.ShloMosaic Idealize.ShloMosaic.TcCoe Idealize.SL.Sem
open Cert.Kernel17Ideal Cert.Kernel17Ideal.Gen Cert.Reference17Ideal.Read Cert.AdamW

/-! The changes. -/

theorem delta_0 (x0 x11 x22 x33 : Vec Ideal S2x2048 .f32) :
    val_main_v264 (F := Ideal) x0 x11 x22 x33 = fun j : S4096.Idx => step (shapeCast S4096 x0 shapeCasts_S2x2048_S4096 j) (shapeCast S4096 x11 shapeCasts_S2x2048_S4096 j) (shapeCast S4096 x22 shapeCasts_S2x2048_S4096 j) (shapeCast S4096 x33 shapeCasts_S2x2048_S4096 j) := by
  funext j; rfl
theorem delta_1 (x1 x12 x23 x34 : Vec Ideal S2x2048 .f32) :
    val_main_v265 (F := Ideal) x1 x12 x23 x34 = fun j : S4096.Idx => step (shapeCast S4096 x1 shapeCasts_S2x2048_S4096 j) (shapeCast S4096 x12 shapeCasts_S2x2048_S4096 j) (shapeCast S4096 x23 shapeCasts_S2x2048_S4096 j) (shapeCast S4096 x34 shapeCasts_S2x2048_S4096 j) := by
  funext j; rfl
theorem delta_2 (x2 x13 x24 x35 : Vec Ideal S2x8x128x128 .f32) :
    val_main_v266 (F := Ideal) x2 x13 x24 x35 = fun j : S262144.Idx => step (shapeCast S262144 x2 shapeCasts_S2x8x128x128_S262144 j) (shapeCast S262144 x13 shapeCasts_S2x8x128x128_S262144 j) (shapeCast S262144 x24 shapeCasts_S2x8x128x128_S262144 j) (shapeCast S262144 x35 shapeCasts_S2x8x128x128_S262144 j) := by
  funext j; rfl
theorem delta_3 (x3 x14 x25 x36 : Vec Ideal S2x8x128 .f32) :
    val_main_v267 (F := Ideal) x3 x14 x25 x36 = fun j : S2048.Idx => step (shapeCast S2048 x3 shapeCasts_S2x8x128_S2048 j) (shapeCast S2048 x14 shapeCasts_S2x8x128_S2048 j) (shapeCast S2048 x25 shapeCasts_S2x8x128_S2048 j) (shapeCast S2048 x36 shapeCasts_S2x8x128_S2048 j) := by
  funext j; rfl
theorem delta_4 (x4 x15 x26 x37 : Vec Ideal S4x5632 .f32) :
    val_main_v268 (F := Ideal) x4 x15 x26 x37 = fun j : S22528.Idx => step (shapeCast S22528 x4 shapeCasts_S4x5632_S22528 j) (shapeCast S22528 x15 shapeCasts_S4x5632_S22528 j) (shapeCast S22528 x26 shapeCasts_S4x5632_S22528 j) (shapeCast S22528 x37 shapeCasts_S4x5632_S22528 j) := by
  funext j; rfl
theorem delta_5 (x5 x16 x27 x38 : Vec Ideal S4x6144 .f32) :
    val_main_v269 (F := Ideal) x5 x16 x27 x38 = fun j : S24576.Idx => step (shapeCast S24576 x5 shapeCasts_S4x6144_S24576 j) (shapeCast S24576 x16 shapeCasts_S4x6144_S24576 j) (shapeCast S24576 x27 shapeCasts_S4x6144_S24576 j) (shapeCast S24576 x38 shapeCasts_S4x6144_S24576 j) := by
  funext j; rfl
theorem delta_6 (x6 x17 x28 x39 : Vec Ideal S1024 .f32) :
    val_main_v167 (F := Ideal) x6 x17 x28 x39 = fun j : S1024.Idx => step (x6 j) (x17 j) (x28 j) (x39 j) := by
  funext j; rfl
theorem delta_7 (x7 x18 x29 x40 : Vec Ideal S2x128 .f32) :
    val_main_v270 (F := Ideal) x7 x18 x29 x40 = fun j : S256.Idx => step (shapeCast S256 x7 shapeCasts_S2x128_S256 j) (shapeCast S256 x18 shapeCasts_S2x128_S256 j) (shapeCast S256 x29 shapeCasts_S2x128_S256 j) (shapeCast S256 x40 shapeCasts_S2x128_S256 j) := by
  funext j; rfl
theorem delta_8 (x8 x19 x30 x41 : Vec Ideal S2x128 .f32) :
    val_main_v271 (F := Ideal) x8 x19 x30 x41 = fun j : S256.Idx => step (shapeCast S256 x8 shapeCasts_S2x128_S256 j) (shapeCast S256 x19 shapeCasts_S2x128_S256 j) (shapeCast S256 x30 shapeCasts_S2x128_S256 j) (shapeCast S256 x41 shapeCasts_S2x128_S256 j) := by
  funext j; rfl
theorem delta_9 (x9 x20 x31 x42 : Vec Ideal S4x2x128 .f32) :
    val_main_v272 (F := Ideal) x9 x20 x31 x42 = fun j : S1024.Idx => step (shapeCast S1024 x9 shapeCasts_S4x2x128_S1024 j) (shapeCast S1024 x20 shapeCasts_S4x2x128_S1024 j) (shapeCast S1024 x31 shapeCasts_S4x2x128_S1024 j) (shapeCast S1024 x42 shapeCasts_S4x2x128_S1024 j) := by
  funext j; rfl
theorem delta_10 (x10 x21 x32 x43 : Vec Ideal S4x3x704 .f32) :
    val_main_v273 (F := Ideal) x10 x21 x32 x43 = fun j : S8448.Idx => step (shapeCast S8448 x10 shapeCasts_S4x3x704_S8448 j) (shapeCast S8448 x21 shapeCasts_S4x3x704_S8448 j) (shapeCast S8448 x32 shapeCasts_S4x3x704_S8448 j) (shapeCast S8448 x43 shapeCasts_S4x3x704_S8448 j) := by
  funext j; rfl

/-- The joined changes, entry by entry. -/
theorem delta_joined (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x11 : Vec Ideal S2x2048 .f32) (x12 : Vec Ideal S2x2048 .f32) (x13 : Vec Ideal S2x8x128x128 .f32) (x14 : Vec Ideal S2x8x128 .f32) (x15 : Vec Ideal S4x5632 .f32) (x16 : Vec Ideal S4x6144 .f32) (x17 : Vec Ideal S1024 .f32) (x18 : Vec Ideal S2x128 .f32) (x19 : Vec Ideal S2x128 .f32) (x20 : Vec Ideal S4x2x128 .f32) (x21 : Vec Ideal S4x3x704 .f32) (x22 : Vec Ideal S2x2048 .f32) (x23 : Vec Ideal S2x2048 .f32) (x24 : Vec Ideal S2x8x128x128 .f32) (x25 : Vec Ideal S2x8x128 .f32) (x26 : Vec Ideal S4x5632 .f32) (x27 : Vec Ideal S4x6144 .f32) (x28 : Vec Ideal S1024 .f32) (x29 : Vec Ideal S2x128 .f32) (x30 : Vec Ideal S2x128 .f32) (x31 : Vec Ideal S4x2x128 .f32) (x32 : Vec Ideal S4x3x704 .f32) (x33 : Vec Ideal S2x2048 .f32) (x34 : Vec Ideal S2x2048 .f32) (x35 : Vec Ideal S2x8x128x128 .f32) (x36 : Vec Ideal S2x8x128 .f32) (x37 : Vec Ideal S4x5632 .f32) (x38 : Vec Ideal S4x6144 .f32) (x39 : Vec Ideal S1024 .f32) (x40 : Vec Ideal S2x128 .f32) (x41 : Vec Ideal S2x128 .f32) (x42 : Vec Ideal S4x2x128 .f32) (x43 : Vec Ideal S4x3x704 .f32) (i : S330496.Idx) :
    val_main_v274 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 i = step ((packed x0 x1 x2 x3 x4 x5 x6 x7 x8 x9 x10) i) ((packed x11 x12 x13 x14 x15 x16 x17 x18 x19 x20 x21) i) ((packed x22 x23 x24 x25 x26 x27 x28 x29 x30 x31 x32) i) ((packed x33 x34 x35 x36 x37 x38 x39 x40 x41 x42 x43) i) := by
  unfold val_main_v274
  rw [delta_0, delta_1, delta_2, delta_3, delta_4, delta_5, delta_6, delta_7, delta_8, delta_9, delta_10]
  have e := joined_map (α := Ideal .f32 × Ideal .f32 × Ideal .f32 × Ideal .f32) (fun q => step (q.1) (q.2.1) (q.2.2.1) (q.2.2.2)) (fun j => ((shapeCast S4096 x0 shapeCasts_S2x2048_S4096 : S4096.Idx → Ideal .f32) j, (shapeCast S4096 x11 shapeCasts_S2x2048_S4096 : S4096.Idx → Ideal .f32) j, (shapeCast S4096 x22 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x12 shapeCasts_S2x2048_S4096 : S4096.Idx → Ideal .f32) j, (shapeCast S4096 x23 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x13 shapeCasts_S2x8x128x128_S262144 : S262144.Idx → Ideal .f32) j, (shapeCast S262144 x24 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x14 shapeCasts_S2x8x128_S2048 : S2048.Idx → Ideal .f32) j, (shapeCast S2048 x25 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x15 shapeCasts_S4x5632_S22528 : S22528.Idx → Ideal .f32) j, (shapeCast S22528 x26 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x16 shapeCasts_S4x6144_S24576 : S24576.Idx → Ideal .f32) j, (shapeCast S24576 x27 shapeCasts_S4x6144_S24576 : S24576.Idx → Ideal .f32) j, (shapeCast S24576 x38 shapeCasts_S4x6144_S24576 : S24576.Idx → Ideal .f32) j)) (fun j => ((x6 : S1024.Idx → Ideal .f32) j, (x17 : S1024.Idx → Ideal .f32) j, (x28 : S1024.Idx → Ideal .f32) j, (x39 : S1024.Idx → Ideal .f32) j)) (fun j => ((shapeCast S256 x7 shapeCasts_S2x128_S256 : S256.Idx → Ideal .f32) j, (shapeCast S256 x18 shapeCasts_S2x128_S256 : S256.Idx → Ideal .f32) j, (shapeCast S256 x29 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x19 shapeCasts_S2x128_S256 : S256.Idx → Ideal .f32) j, (shapeCast S256 x30 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x20 shapeCasts_S4x2x128_S1024 : S1024.Idx → Ideal .f32) j, (shapeCast S1024 x31 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x21 shapeCasts_S4x3x704_S8448 : S8448.Idx → Ideal .f32) j, (shapeCast S8448 x32 shapeCasts_S4x3x704_S8448 : S8448.Idx → Ideal .f32) j, (shapeCast S8448 x43 shapeCasts_S4x3x704_S8448 : S8448.Idx → Ideal .f32) j)) i
  refine Eq.trans ?_ (e.trans ?_)
  · rfl
  · have eg := joined_map (α := Ideal .f32 × Ideal .f32 × Ideal .f32 × Ideal .f32) (fun q => q.1) (fun j => ((shapeCast S4096 x0 shapeCasts_S2x2048_S4096 : S4096.Idx → Ideal .f32) j, (shapeCast S4096 x11 shapeCasts_S2x2048_S4096 : S4096.Idx → Ideal .f32) j, (shapeCast S4096 x22 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x12 shapeCasts_S2x2048_S4096 : S4096.Idx → Ideal .f32) j, (shapeCast S4096 x23 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x13 shapeCasts_S2x8x128x128_S262144 : S262144.Idx → Ideal .f32) j, (shapeCast S262144 x24 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x14 shapeCasts_S2x8x128_S2048 : S2048.Idx → Ideal .f32) j, (shapeCast S2048 x25 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x15 shapeCasts_S4x5632_S22528 : S22528.Idx → Ideal .f32) j, (shapeCast S22528 x26 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x16 shapeCasts_S4x6144_S24576 : S24576.Idx → Ideal .f32) j, (shapeCast S24576 x27 shapeCasts_S4x6144_S24576 : S24576.Idx → Ideal .f32) j, (shapeCast S24576 x38 shapeCasts_S4x6144_S24576 : S24576.Idx → Ideal .f32) j)) (fun j => ((x6 : S1024.Idx → Ideal .f32) j, (x17 : S1024.Idx → Ideal .f32) j, (x28 : S1024.Idx → Ideal .f32) j, (x39 : S1024.Idx → Ideal .f32) j)) (fun j => ((shapeCast S256 x7 shapeCasts_S2x128_S256 : S256.Idx → Ideal .f32) j, (shapeCast S256 x18 shapeCasts_S2x128_S256 : S256.Idx → Ideal .f32) j, (shapeCast S256 x29 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x19 shapeCasts_S2x128_S256 : S256.Idx → Ideal .f32) j, (shapeCast S256 x30 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x20 shapeCasts_S4x2x128_S1024 : S1024.Idx → Ideal .f32) j, (shapeCast S1024 x31 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x21 shapeCasts_S4x3x704_S8448 : S8448.Idx → Ideal .f32) j, (shapeCast S8448 x32 shapeCasts_S4x3x704_S8448 : S8448.Idx → Ideal .f32) j, (shapeCast S8448 x43 shapeCasts_S4x3x704_S8448 : S8448.Idx → Ideal .f32) j)) i
    have ew := joined_map (α := Ideal .f32 × Ideal .f32 × Ideal .f32 × Ideal .f32) (fun q => q.2.1) (fun j => ((shapeCast S4096 x0 shapeCasts_S2x2048_S4096 : S4096.Idx → Ideal .f32) j, (shapeCast S4096 x11 shapeCasts_S2x2048_S4096 : S4096.Idx → Ideal .f32) j, (shapeCast S4096 x22 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x12 shapeCasts_S2x2048_S4096 : S4096.Idx → Ideal .f32) j, (shapeCast S4096 x23 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x13 shapeCasts_S2x8x128x128_S262144 : S262144.Idx → Ideal .f32) j, (shapeCast S262144 x24 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x14 shapeCasts_S2x8x128_S2048 : S2048.Idx → Ideal .f32) j, (shapeCast S2048 x25 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x15 shapeCasts_S4x5632_S22528 : S22528.Idx → Ideal .f32) j, (shapeCast S22528 x26 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x16 shapeCasts_S4x6144_S24576 : S24576.Idx → Ideal .f32) j, (shapeCast S24576 x27 shapeCasts_S4x6144_S24576 : S24576.Idx → Ideal .f32) j, (shapeCast S24576 x38 shapeCasts_S4x6144_S24576 : S24576.Idx → Ideal .f32) j)) (fun j => ((x6 : S1024.Idx → Ideal .f32) j, (x17 : S1024.Idx → Ideal .f32) j, (x28 : S1024.Idx → Ideal .f32) j, (x39 : S1024.Idx → Ideal .f32) j)) (fun j => ((shapeCast S256 x7 shapeCasts_S2x128_S256 : S256.Idx → Ideal .f32) j, (shapeCast S256 x18 shapeCasts_S2x128_S256 : S256.Idx → Ideal .f32) j, (shapeCast S256 x29 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x19 shapeCasts_S2x128_S256 : S256.Idx → Ideal .f32) j, (shapeCast S256 x30 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x20 shapeCasts_S4x2x128_S1024 : S1024.Idx → Ideal .f32) j, (shapeCast S1024 x31 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x21 shapeCasts_S4x3x704_S8448 : S8448.Idx → Ideal .f32) j, (shapeCast S8448 x32 shapeCasts_S4x3x704_S8448 : S8448.Idx → Ideal .f32) j, (shapeCast S8448 x43 shapeCasts_S4x3x704_S8448 : S8448.Idx → Ideal .f32) j)) i
    have em := joined_map (α := Ideal .f32 × Ideal .f32 × Ideal .f32 × Ideal .f32) (fun q => q.2.2.1) (fun j => ((shapeCast S4096 x0 shapeCasts_S2x2048_S4096 : S4096.Idx → Ideal .f32) j, (shapeCast S4096 x11 shapeCasts_S2x2048_S4096 : S4096.Idx → Ideal .f32) j, (shapeCast S4096 x22 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x12 shapeCasts_S2x2048_S4096 : S4096.Idx → Ideal .f32) j, (shapeCast S4096 x23 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x13 shapeCasts_S2x8x128x128_S262144 : S262144.Idx → Ideal .f32) j, (shapeCast S262144 x24 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x14 shapeCasts_S2x8x128_S2048 : S2048.Idx → Ideal .f32) j, (shapeCast S2048 x25 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x15 shapeCasts_S4x5632_S22528 : S22528.Idx → Ideal .f32) j, (shapeCast S22528 x26 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x16 shapeCasts_S4x6144_S24576 : S24576.Idx → Ideal .f32) j, (shapeCast S24576 x27 shapeCasts_S4x6144_S24576 : S24576.Idx → Ideal .f32) j, (shapeCast S24576 x38 shapeCasts_S4x6144_S24576 : S24576.Idx → Ideal .f32) j)) (fun j => ((x6 : S1024.Idx → Ideal .f32) j, (x17 : S1024.Idx → Ideal .f32) j, (x28 : S1024.Idx → Ideal .f32) j, (x39 : S1024.Idx → Ideal .f32) j)) (fun j => ((shapeCast S256 x7 shapeCasts_S2x128_S256 : S256.Idx → Ideal .f32) j, (shapeCast S256 x18 shapeCasts_S2x128_S256 : S256.Idx → Ideal .f32) j, (shapeCast S256 x29 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x19 shapeCasts_S2x128_S256 : S256.Idx → Ideal .f32) j, (shapeCast S256 x30 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x20 shapeCasts_S4x2x128_S1024 : S1024.Idx → Ideal .f32) j, (shapeCast S1024 x31 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x21 shapeCasts_S4x3x704_S8448 : S8448.Idx → Ideal .f32) j, (shapeCast S8448 x32 shapeCasts_S4x3x704_S8448 : S8448.Idx → Ideal .f32) j, (shapeCast S8448 x43 shapeCasts_S4x3x704_S8448 : S8448.Idx → Ideal .f32) j)) i
    have ev := joined_map (α := Ideal .f32 × Ideal .f32 × Ideal .f32 × Ideal .f32) (fun q => q.2.2.2) (fun j => ((shapeCast S4096 x0 shapeCasts_S2x2048_S4096 : S4096.Idx → Ideal .f32) j, (shapeCast S4096 x11 shapeCasts_S2x2048_S4096 : S4096.Idx → Ideal .f32) j, (shapeCast S4096 x22 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x12 shapeCasts_S2x2048_S4096 : S4096.Idx → Ideal .f32) j, (shapeCast S4096 x23 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x13 shapeCasts_S2x8x128x128_S262144 : S262144.Idx → Ideal .f32) j, (shapeCast S262144 x24 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x14 shapeCasts_S2x8x128_S2048 : S2048.Idx → Ideal .f32) j, (shapeCast S2048 x25 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x15 shapeCasts_S4x5632_S22528 : S22528.Idx → Ideal .f32) j, (shapeCast S22528 x26 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x16 shapeCasts_S4x6144_S24576 : S24576.Idx → Ideal .f32) j, (shapeCast S24576 x27 shapeCasts_S4x6144_S24576 : S24576.Idx → Ideal .f32) j, (shapeCast S24576 x38 shapeCasts_S4x6144_S24576 : S24576.Idx → Ideal .f32) j)) (fun j => ((x6 : S1024.Idx → Ideal .f32) j, (x17 : S1024.Idx → Ideal .f32) j, (x28 : S1024.Idx → Ideal .f32) j, (x39 : S1024.Idx → Ideal .f32) j)) (fun j => ((shapeCast S256 x7 shapeCasts_S2x128_S256 : S256.Idx → Ideal .f32) j, (shapeCast S256 x18 shapeCasts_S2x128_S256 : S256.Idx → Ideal .f32) j, (shapeCast S256 x29 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x19 shapeCasts_S2x128_S256 : S256.Idx → Ideal .f32) j, (shapeCast S256 x30 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x20 shapeCasts_S4x2x128_S1024 : S1024.Idx → Ideal .f32) j, (shapeCast S1024 x31 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x21 shapeCasts_S4x3x704_S8448 : S8448.Idx → Ideal .f32) j, (shapeCast S8448 x32 shapeCasts_S4x3x704_S8448 : S8448.Idx → Ideal .f32) j, (shapeCast S8448 x43 shapeCasts_S4x3x704_S8448 : S8448.Idx → Ideal .f32) j)) i
    exact (congr (congr (congr (congr (rfl : step = step) eg.symm) ew.symm) em.symm) ev.symm)

/-- The changes, laid out. -/
theorem delta_rows (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x11 : Vec Ideal S2x2048 .f32) (x12 : Vec Ideal S2x2048 .f32) (x13 : Vec Ideal S2x8x128x128 .f32) (x14 : Vec Ideal S2x8x128 .f32) (x15 : Vec Ideal S4x5632 .f32) (x16 : Vec Ideal S4x6144 .f32) (x17 : Vec Ideal S1024 .f32) (x18 : Vec Ideal S2x128 .f32) (x19 : Vec Ideal S2x128 .f32) (x20 : Vec Ideal S4x2x128 .f32) (x21 : Vec Ideal S4x3x704 .f32) (x22 : Vec Ideal S2x2048 .f32) (x23 : Vec Ideal S2x2048 .f32) (x24 : Vec Ideal S2x8x128x128 .f32) (x25 : Vec Ideal S2x8x128 .f32) (x26 : Vec Ideal S4x5632 .f32) (x27 : Vec Ideal S4x6144 .f32) (x28 : Vec Ideal S1024 .f32) (x29 : Vec Ideal S2x128 .f32) (x30 : Vec Ideal S2x128 .f32) (x31 : Vec Ideal S4x2x128 .f32) (x32 : Vec Ideal S4x3x704 .f32) (x33 : Vec Ideal S2x2048 .f32) (x34 : Vec Ideal S2x2048 .f32) (x35 : Vec Ideal S2x8x128x128 .f32) (x36 : Vec Ideal S2x8x128 .f32) (x37 : Vec Ideal S4x5632 .f32) (x38 : Vec Ideal S4x6144 .f32) (x39 : Vec Ideal S1024 .f32) (x40 : Vec Ideal S2x128 .f32) (x41 : Vec Ideal S2x128 .f32) (x42 : Vec Ideal S4x2x128 .f32) (x43 : Vec Ideal S4x3x704 .f32) :
    val_main_v277 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 = rows (val_main_v274 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) := by
  have hz : (val_main_v275 (F := Ideal)) = fun _ => (0 : EReal) := by
    funext j
    exact Ideal.ofBits_zero_f32
  unfold val_main_v277 val_main_v276
  rw [hz]
  rfl

/-- An entry of the laid-out changes. -/
theorem delta_value (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x11 : Vec Ideal S2x2048 .f32) (x12 : Vec Ideal S2x2048 .f32) (x13 : Vec Ideal S2x8x128x128 .f32) (x14 : Vec Ideal S2x8x128 .f32) (x15 : Vec Ideal S4x5632 .f32) (x16 : Vec Ideal S4x6144 .f32) (x17 : Vec Ideal S1024 .f32) (x18 : Vec Ideal S2x128 .f32) (x19 : Vec Ideal S2x128 .f32) (x20 : Vec Ideal S4x2x128 .f32) (x21 : Vec Ideal S4x3x704 .f32) (x22 : Vec Ideal S2x2048 .f32) (x23 : Vec Ideal S2x2048 .f32) (x24 : Vec Ideal S2x8x128x128 .f32) (x25 : Vec Ideal S2x8x128 .f32) (x26 : Vec Ideal S4x5632 .f32) (x27 : Vec Ideal S4x6144 .f32) (x28 : Vec Ideal S1024 .f32) (x29 : Vec Ideal S2x128 .f32) (x30 : Vec Ideal S2x128 .f32) (x31 : Vec Ideal S4x2x128 .f32) (x32 : Vec Ideal S4x3x704 .f32) (x33 : Vec Ideal S2x2048 .f32) (x34 : Vec Ideal S2x2048 .f32) (x35 : Vec Ideal S2x8x128x128 .f32) (x36 : Vec Ideal S2x8x128 .f32) (x37 : Vec Ideal S4x5632 .f32) (x38 : Vec Ideal S4x6144 .f32) (x39 : Vec Ideal S1024 .f32) (x40 : Vec Ideal S2x128 .f32) (x41 : Vec Ideal S2x128 .f32) (x42 : Vec Ideal S4x2x128 .f32) (x43 : Vec Ideal S4x3x704 .f32) (y : S2584x128.Idx) :
    val_main_v277 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 y = step (rows (packed x0 x1 x2 x3 x4 x5 x6 x7 x8 x9 x10) y) (rows (packed x11 x12 x13 x14 x15 x16 x17 x18 x19 x20 x21) y) (rows (packed x22 x23 x24 x25 x26 x27 x28 x29 x30 x31 x32) y) (rows (packed x33 x34 x35 x36 x37 x38 x39 x40 x41 x42 x43) y) := by
  rw [delta_rows]
  simp only [rows_apply]
  by_cases h : (y 0).val * 128 + (y 1).val < 330496
  · simp only [dif_pos h]
    exact delta_joined _ _ _ _ _ _ _ _ _ _ _ _ _ _ _ _ _ _ _ _ _ _ _ _ _ _ _ _ _ _ _ _ _ _ _ _ _ _ _ _ _ _ _ _ _
  · simp only [dif_neg h]
    exact step_zero.symm

/-! The new first moments. -/

theorem first_0 (x0 x22 : Vec Ideal S2x2048 .f32) :
    val_main_v278 (F := Ideal) x0 x22 = fun j : S4096.Idx => first (shapeCast S4096 x0 shapeCasts_S2x2048_S4096 j) (shapeCast S4096 x22 shapeCasts_S2x2048_S4096 j) := by
  funext j; rfl
theorem first_1 (x1 x23 : Vec Ideal S2x2048 .f32) :
    val_main_v279 (F := Ideal) x1 x23 = fun j : S4096.Idx => first (shapeCast S4096 x1 shapeCasts_S2x2048_S4096 j) (shapeCast S4096 x23 shapeCasts_S2x2048_S4096 j) := by
  funext j; rfl
theorem first_2 (x2 x24 : Vec Ideal S2x8x128x128 .f32) :
    val_main_v280 (F := Ideal) x2 x24 = fun j : S262144.Idx => first (shapeCast S262144 x2 shapeCasts_S2x8x128x128_S262144 j) (shapeCast S262144 x24 shapeCasts_S2x8x128x128_S262144 j) := by
  funext j; rfl
theorem first_3 (x3 x25 : Vec Ideal S2x8x128 .f32) :
    val_main_v281 (F := Ideal) x3 x25 = fun j : S2048.Idx => first (shapeCast S2048 x3 shapeCasts_S2x8x128_S2048 j) (shapeCast S2048 x25 shapeCasts_S2x8x128_S2048 j) := by
  funext j; rfl
theorem first_4 (x4 x26 : Vec Ideal S4x5632 .f32) :
    val_main_v282 (F := Ideal) x4 x26 = fun j : S22528.Idx => first (shapeCast S22528 x4 shapeCasts_S4x5632_S22528 j) (shapeCast S22528 x26 shapeCasts_S4x5632_S22528 j) := by
  funext j; rfl
theorem first_5 (x5 x27 : Vec Ideal S4x6144 .f32) :
    val_main_v283 (F := Ideal) x5 x27 = fun j : S24576.Idx => first (shapeCast S24576 x5 shapeCasts_S4x6144_S24576 j) (shapeCast S24576 x27 shapeCasts_S4x6144_S24576 j) := by
  funext j; rfl
theorem first_6 (x6 x28 : Vec Ideal S1024 .f32) :
    val_main_v148 (F := Ideal) x6 x28 = fun j : S1024.Idx => first (x6 j) (x28 j) := by
  funext j; rfl
theorem first_7 (x7 x29 : Vec Ideal S2x128 .f32) :
    val_main_v284 (F := Ideal) x7 x29 = fun j : S256.Idx => first (shapeCast S256 x7 shapeCasts_S2x128_S256 j) (shapeCast S256 x29 shapeCasts_S2x128_S256 j) := by
  funext j; rfl
theorem first_8 (x8 x30 : Vec Ideal S2x128 .f32) :
    val_main_v285 (F := Ideal) x8 x30 = fun j : S256.Idx => first (shapeCast S256 x8 shapeCasts_S2x128_S256 j) (shapeCast S256 x30 shapeCasts_S2x128_S256 j) := by
  funext j; rfl
theorem first_9 (x9 x31 : Vec Ideal S4x2x128 .f32) :
    val_main_v286 (F := Ideal) x9 x31 = fun j : S1024.Idx => first (shapeCast S1024 x9 shapeCasts_S4x2x128_S1024 j) (shapeCast S1024 x31 shapeCasts_S4x2x128_S1024 j) := by
  funext j; rfl
theorem first_10 (x10 x32 : Vec Ideal S4x3x704 .f32) :
    val_main_v287 (F := Ideal) x10 x32 = fun j : S8448.Idx => first (shapeCast S8448 x10 shapeCasts_S4x3x704_S8448 j) (shapeCast S8448 x32 shapeCasts_S4x3x704_S8448 j) := by
  funext j; rfl

/-- The joined new first moments, entry by entry. -/
theorem first_joined (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x22 : Vec Ideal S2x2048 .f32) (x23 : Vec Ideal S2x2048 .f32) (x24 : Vec Ideal S2x8x128x128 .f32) (x25 : Vec Ideal S2x8x128 .f32) (x26 : Vec Ideal S4x5632 .f32) (x27 : Vec Ideal S4x6144 .f32) (x28 : Vec Ideal S1024 .f32) (x29 : Vec Ideal S2x128 .f32) (x30 : Vec Ideal S2x128 .f32) (x31 : Vec Ideal S4x2x128 .f32) (x32 : Vec Ideal S4x3x704 .f32) (i : S330496.Idx) :
    val_main_v288 (F := Ideal) x0 x1 x2 x3 x4 x5 x6 x7 x8 x9 x10 x22 x23 x24 x25 x26 x27 x28 x29 x30 x31 x32 i = first ((packed x0 x1 x2 x3 x4 x5 x6 x7 x8 x9 x10) i) ((packed x22 x23 x24 x25 x26 x27 x28 x29 x30 x31 x32) i) := by
  unfold val_main_v288
  rw [first_0, first_1, first_2, first_3, first_4, first_5, first_6, first_7, first_8, first_9, first_10]
  have e := joined_map (α := Ideal .f32 × Ideal .f32) (fun q => first (q.1) (q.2)) (fun j => ((shapeCast S4096 x0 shapeCasts_S2x2048_S4096 : S4096.Idx → Ideal .f32) j, (shapeCast S4096 x22 shapeCasts_S2x2048_S4096 : S4096.Idx → Ideal .f32) j)) (fun j => ((shapeCast S4096 x1 shapeCasts_S2x2048_S4096 : S4096.Idx → Ideal .f32) j, (shapeCast S4096 x23 shapeCasts_S2x2048_S4096 : S4096.Idx → Ideal .f32) j)) (fun j => ((shapeCast S262144 x2 shapeCasts_S2x8x128x128_S262144 : S262144.Idx → Ideal .f32) j, (shapeCast S262144 x24 shapeCasts_S2x8x128x128_S262144 : S262144.Idx → Ideal .f32) j)) (fun j => ((shapeCast S2048 x3 shapeCasts_S2x8x128_S2048 : S2048.Idx → Ideal .f32) j, (shapeCast S2048 x25 shapeCasts_S2x8x128_S2048 : S2048.Idx → Ideal .f32) j)) (fun j => ((shapeCast S22528 x4 shapeCasts_S4x5632_S22528 : S22528.Idx → Ideal .f32) j, (shapeCast S22528 x26 shapeCasts_S4x5632_S22528 : S22528.Idx → Ideal .f32) j)) (fun j => ((shapeCast S24576 x5 shapeCasts_S4x6144_S24576 : S24576.Idx → Ideal .f32) j, (shapeCast S24576 x27 shapeCasts_S4x6144_S24576 : S24576.Idx → Ideal .f32) j)) (fun j => ((x6 : S1024.Idx → Ideal .f32) j, (x28 : S1024.Idx → Ideal .f32) j)) (fun j => ((shapeCast S256 x7 shapeCasts_S2x128_S256 : S256.Idx → Ideal .f32) j, (shapeCast S256 x29 shapeCasts_S2x128_S256 : S256.Idx → Ideal .f32) j)) (fun j => ((shapeCast S256 x8 shapeCasts_S2x128_S256 : S256.Idx → Ideal .f32) j, (shapeCast S256 x30 shapeCasts_S2x128_S256 : S256.Idx → Ideal .f32) j)) (fun j => ((shapeCast S1024 x9 shapeCasts_S4x2x128_S1024 : S1024.Idx → Ideal .f32) j, (shapeCast S1024 x31 shapeCasts_S4x2x128_S1024 : S1024.Idx → Ideal .f32) j)) (fun j => ((shapeCast S8448 x10 shapeCasts_S4x3x704_S8448 : S8448.Idx → Ideal .f32) j, (shapeCast S8448 x32 shapeCasts_S4x3x704_S8448 : S8448.Idx → Ideal .f32) j)) i
  refine Eq.trans ?_ (e.trans ?_)
  · rfl
  · have eg := joined_map (α := Ideal .f32 × Ideal .f32) (fun q => q.1) (fun j => ((shapeCast S4096 x0 shapeCasts_S2x2048_S4096 : S4096.Idx → Ideal .f32) j, (shapeCast S4096 x22 shapeCasts_S2x2048_S4096 : S4096.Idx → Ideal .f32) j)) (fun j => ((shapeCast S4096 x1 shapeCasts_S2x2048_S4096 : S4096.Idx → Ideal .f32) j, (shapeCast S4096 x23 shapeCasts_S2x2048_S4096 : S4096.Idx → Ideal .f32) j)) (fun j => ((shapeCast S262144 x2 shapeCasts_S2x8x128x128_S262144 : S262144.Idx → Ideal .f32) j, (shapeCast S262144 x24 shapeCasts_S2x8x128x128_S262144 : S262144.Idx → Ideal .f32) j)) (fun j => ((shapeCast S2048 x3 shapeCasts_S2x8x128_S2048 : S2048.Idx → Ideal .f32) j, (shapeCast S2048 x25 shapeCasts_S2x8x128_S2048 : S2048.Idx → Ideal .f32) j)) (fun j => ((shapeCast S22528 x4 shapeCasts_S4x5632_S22528 : S22528.Idx → Ideal .f32) j, (shapeCast S22528 x26 shapeCasts_S4x5632_S22528 : S22528.Idx → Ideal .f32) j)) (fun j => ((shapeCast S24576 x5 shapeCasts_S4x6144_S24576 : S24576.Idx → Ideal .f32) j, (shapeCast S24576 x27 shapeCasts_S4x6144_S24576 : S24576.Idx → Ideal .f32) j)) (fun j => ((x6 : S1024.Idx → Ideal .f32) j, (x28 : S1024.Idx → Ideal .f32) j)) (fun j => ((shapeCast S256 x7 shapeCasts_S2x128_S256 : S256.Idx → Ideal .f32) j, (shapeCast S256 x29 shapeCasts_S2x128_S256 : S256.Idx → Ideal .f32) j)) (fun j => ((shapeCast S256 x8 shapeCasts_S2x128_S256 : S256.Idx → Ideal .f32) j, (shapeCast S256 x30 shapeCasts_S2x128_S256 : S256.Idx → Ideal .f32) j)) (fun j => ((shapeCast S1024 x9 shapeCasts_S4x2x128_S1024 : S1024.Idx → Ideal .f32) j, (shapeCast S1024 x31 shapeCasts_S4x2x128_S1024 : S1024.Idx → Ideal .f32) j)) (fun j => ((shapeCast S8448 x10 shapeCasts_S4x3x704_S8448 : S8448.Idx → Ideal .f32) j, (shapeCast S8448 x32 shapeCasts_S4x3x704_S8448 : S8448.Idx → Ideal .f32) j)) i
    have em := joined_map (α := Ideal .f32 × Ideal .f32) (fun q => q.2) (fun j => ((shapeCast S4096 x0 shapeCasts_S2x2048_S4096 : S4096.Idx → Ideal .f32) j, (shapeCast S4096 x22 shapeCasts_S2x2048_S4096 : S4096.Idx → Ideal .f32) j)) (fun j => ((shapeCast S4096 x1 shapeCasts_S2x2048_S4096 : S4096.Idx → Ideal .f32) j, (shapeCast S4096 x23 shapeCasts_S2x2048_S4096 : S4096.Idx → Ideal .f32) j)) (fun j => ((shapeCast S262144 x2 shapeCasts_S2x8x128x128_S262144 : S262144.Idx → Ideal .f32) j, (shapeCast S262144 x24 shapeCasts_S2x8x128x128_S262144 : S262144.Idx → Ideal .f32) j)) (fun j => ((shapeCast S2048 x3 shapeCasts_S2x8x128_S2048 : S2048.Idx → Ideal .f32) j, (shapeCast S2048 x25 shapeCasts_S2x8x128_S2048 : S2048.Idx → Ideal .f32) j)) (fun j => ((shapeCast S22528 x4 shapeCasts_S4x5632_S22528 : S22528.Idx → Ideal .f32) j, (shapeCast S22528 x26 shapeCasts_S4x5632_S22528 : S22528.Idx → Ideal .f32) j)) (fun j => ((shapeCast S24576 x5 shapeCasts_S4x6144_S24576 : S24576.Idx → Ideal .f32) j, (shapeCast S24576 x27 shapeCasts_S4x6144_S24576 : S24576.Idx → Ideal .f32) j)) (fun j => ((x6 : S1024.Idx → Ideal .f32) j, (x28 : S1024.Idx → Ideal .f32) j)) (fun j => ((shapeCast S256 x7 shapeCasts_S2x128_S256 : S256.Idx → Ideal .f32) j, (shapeCast S256 x29 shapeCasts_S2x128_S256 : S256.Idx → Ideal .f32) j)) (fun j => ((shapeCast S256 x8 shapeCasts_S2x128_S256 : S256.Idx → Ideal .f32) j, (shapeCast S256 x30 shapeCasts_S2x128_S256 : S256.Idx → Ideal .f32) j)) (fun j => ((shapeCast S1024 x9 shapeCasts_S4x2x128_S1024 : S1024.Idx → Ideal .f32) j, (shapeCast S1024 x31 shapeCasts_S4x2x128_S1024 : S1024.Idx → Ideal .f32) j)) (fun j => ((shapeCast S8448 x10 shapeCasts_S4x3x704_S8448 : S8448.Idx → Ideal .f32) j, (shapeCast S8448 x32 shapeCasts_S4x3x704_S8448 : S8448.Idx → Ideal .f32) j)) i
    exact (congr (congr (rfl : first = first) eg.symm) em.symm)

/-- The new first moments, laid out. -/
theorem first_rows (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x22 : Vec Ideal S2x2048 .f32) (x23 : Vec Ideal S2x2048 .f32) (x24 : Vec Ideal S2x8x128x128 .f32) (x25 : Vec Ideal S2x8x128 .f32) (x26 : Vec Ideal S4x5632 .f32) (x27 : Vec Ideal S4x6144 .f32) (x28 : Vec Ideal S1024 .f32) (x29 : Vec Ideal S2x128 .f32) (x30 : Vec Ideal S2x128 .f32) (x31 : Vec Ideal S4x2x128 .f32) (x32 : Vec Ideal S4x3x704 .f32) :
    val_main_v291 (F := Ideal) x0 x1 x2 x3 x4 x5 x6 x7 x8 x9 x10 x22 x23 x24 x25 x26 x27 x28 x29 x30 x31 x32 = rows (val_main_v288 (F := Ideal) x0 x1 x2 x3 x4 x5 x6 x7 x8 x9 x10 x22 x23 x24 x25 x26 x27 x28 x29 x30 x31 x32) := by
  have hz : (val_main_v289 (F := Ideal)) = fun _ => (0 : EReal) := by
    funext j
    exact Ideal.ofBits_zero_f32
  unfold val_main_v291 val_main_v290
  rw [hz]
  rfl

/-- An entry of the laid-out new first moments. -/
theorem first_value (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x22 : Vec Ideal S2x2048 .f32) (x23 : Vec Ideal S2x2048 .f32) (x24 : Vec Ideal S2x8x128x128 .f32) (x25 : Vec Ideal S2x8x128 .f32) (x26 : Vec Ideal S4x5632 .f32) (x27 : Vec Ideal S4x6144 .f32) (x28 : Vec Ideal S1024 .f32) (x29 : Vec Ideal S2x128 .f32) (x30 : Vec Ideal S2x128 .f32) (x31 : Vec Ideal S4x2x128 .f32) (x32 : Vec Ideal S4x3x704 .f32) (y : S2584x128.Idx) :
    val_main_v291 (F := Ideal) x0 x1 x2 x3 x4 x5 x6 x7 x8 x9 x10 x22 x23 x24 x25 x26 x27 x28 x29 x30 x31 x32 y = first (rows (packed x0 x1 x2 x3 x4 x5 x6 x7 x8 x9 x10) y) (rows (packed x22 x23 x24 x25 x26 x27 x28 x29 x30 x31 x32) y) := by
  rw [first_rows]
  simp only [rows_apply]
  by_cases h : (y 0).val * 128 + (y 1).val < 330496
  · simp only [dif_pos h]
    exact first_joined _ _ _ _ _ _ _ _ _ _ _ _ _ _ _ _ _ _ _ _ _ _ _
  · simp only [dif_neg h]
    exact first_zero.symm

/-! The new second moments. -/

theorem second_0 (x0 x33 : Vec Ideal S2x2048 .f32) :
    val_main_v292 (F := Ideal) x0 x33 = fun j : S4096.Idx => second (shapeCast S4096 x0 shapeCasts_S2x2048_S4096 j) (shapeCast S4096 x33 shapeCasts_S2x2048_S4096 j) := by
  funext j; rfl
theorem second_1 (x1 x34 : Vec Ideal S2x2048 .f32) :
    val_main_v293 (F := Ideal) x1 x34 = fun j : S4096.Idx => second (shapeCast S4096 x1 shapeCasts_S2x2048_S4096 j) (shapeCast S4096 x34 shapeCasts_S2x2048_S4096 j) := by
  funext j; rfl
theorem second_2 (x2 x35 : Vec Ideal S2x8x128x128 .f32) :
    val_main_v294 (F := Ideal) x2 x35 = fun j : S262144.Idx => second (shapeCast S262144 x2 shapeCasts_S2x8x128x128_S262144 j) (shapeCast S262144 x35 shapeCasts_S2x8x128x128_S262144 j) := by
  funext j; rfl
theorem second_3 (x3 x36 : Vec Ideal S2x8x128 .f32) :
    val_main_v295 (F := Ideal) x3 x36 = fun j : S2048.Idx => second (shapeCast S2048 x3 shapeCasts_S2x8x128_S2048 j) (shapeCast S2048 x36 shapeCasts_S2x8x128_S2048 j) := by
  funext j; rfl
theorem second_4 (x4 x37 : Vec Ideal S4x5632 .f32) :
    val_main_v296 (F := Ideal) x4 x37 = fun j : S22528.Idx => second (shapeCast S22528 x4 shapeCasts_S4x5632_S22528 j) (shapeCast S22528 x37 shapeCasts_S4x5632_S22528 j) := by
  funext j; rfl
theorem second_5 (x5 x38 : Vec Ideal S4x6144 .f32) :
    val_main_v297 (F := Ideal) x5 x38 = fun j : S24576.Idx => second (shapeCast S24576 x5 shapeCasts_S4x6144_S24576 j) (shapeCast S24576 x38 shapeCasts_S4x6144_S24576 j) := by
  funext j; rfl
theorem second_6 (x6 x39 : Vec Ideal S1024 .f32) :
    val_main_v154 (F := Ideal) x6 x39 = fun j : S1024.Idx => second (x6 j) (x39 j) := by
  funext j; rfl
theorem second_7 (x7 x40 : Vec Ideal S2x128 .f32) :
    val_main_v298 (F := Ideal) x7 x40 = fun j : S256.Idx => second (shapeCast S256 x7 shapeCasts_S2x128_S256 j) (shapeCast S256 x40 shapeCasts_S2x128_S256 j) := by
  funext j; rfl
theorem second_8 (x8 x41 : Vec Ideal S2x128 .f32) :
    val_main_v299 (F := Ideal) x8 x41 = fun j : S256.Idx => second (shapeCast S256 x8 shapeCasts_S2x128_S256 j) (shapeCast S256 x41 shapeCasts_S2x128_S256 j) := by
  funext j; rfl
theorem second_9 (x9 x42 : Vec Ideal S4x2x128 .f32) :
    val_main_v300 (F := Ideal) x9 x42 = fun j : S1024.Idx => second (shapeCast S1024 x9 shapeCasts_S4x2x128_S1024 j) (shapeCast S1024 x42 shapeCasts_S4x2x128_S1024 j) := by
  funext j; rfl
theorem second_10 (x10 x43 : Vec Ideal S4x3x704 .f32) :
    val_main_v301 (F := Ideal) x10 x43 = fun j : S8448.Idx => second (shapeCast S8448 x10 shapeCasts_S4x3x704_S8448 j) (shapeCast S8448 x43 shapeCasts_S4x3x704_S8448 j) := by
  funext j; rfl

/-- The joined new second moments, entry by entry. -/
theorem second_joined (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x33 : Vec Ideal S2x2048 .f32) (x34 : Vec Ideal S2x2048 .f32) (x35 : Vec Ideal S2x8x128x128 .f32) (x36 : Vec Ideal S2x8x128 .f32) (x37 : Vec Ideal S4x5632 .f32) (x38 : Vec Ideal S4x6144 .f32) (x39 : Vec Ideal S1024 .f32) (x40 : Vec Ideal S2x128 .f32) (x41 : Vec Ideal S2x128 .f32) (x42 : Vec Ideal S4x2x128 .f32) (x43 : Vec Ideal S4x3x704 .f32) (i : S330496.Idx) :
    val_main_v302 (F := Ideal) x0 x1 x2 x3 x4 x5 x6 x7 x8 x9 x10 x33 x34 x35 x36 x37 x38 x39 x40 x41 x42 x43 i = second ((packed x0 x1 x2 x3 x4 x5 x6 x7 x8 x9 x10) i) ((packed x33 x34 x35 x36 x37 x38 x39 x40 x41 x42 x43) i) := by
  unfold val_main_v302
  rw [second_0, second_1, second_2, second_3, second_4, second_5, second_6, second_7, second_8, second_9, second_10]
  have e := joined_map (α := Ideal .f32 × Ideal .f32) (fun q => second (q.1) (q.2)) (fun j => ((shapeCast S4096 x0 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x38 shapeCasts_S4x6144_S24576 : S24576.Idx → Ideal .f32) j)) (fun j => ((x6 : S1024.Idx → Ideal .f32) j, (x39 : S1024.Idx → Ideal .f32) j)) (fun j => ((shapeCast S256 x7 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x43 shapeCasts_S4x3x704_S8448 : S8448.Idx → Ideal .f32) j)) i
  refine Eq.trans ?_ (e.trans ?_)
  · rfl
  · have eg := joined_map (α := Ideal .f32 × Ideal .f32) (fun q => q.1) (fun j => ((shapeCast S4096 x0 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x38 shapeCasts_S4x6144_S24576 : S24576.Idx → Ideal .f32) j)) (fun j => ((x6 : S1024.Idx → Ideal .f32) j, (x39 : S1024.Idx → Ideal .f32) j)) (fun j => ((shapeCast S256 x7 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x43 shapeCasts_S4x3x704_S8448 : S8448.Idx → Ideal .f32) j)) i
    have ev := joined_map (α := Ideal .f32 × Ideal .f32) (fun q => q.2) (fun j => ((shapeCast S4096 x0 shapeCasts_S2x2048_S4096 : S4096.Idx → Ideal .f32) j, (shapeCast S4096 x33 shapeCasts_S2x2048_S4096 : S4096.Idx → Ideal .f32) j)) (fun j => ((shapeCast S4096 x1 shapeCasts_S2x2048_S4096 : S4096.Idx → Ideal .f32) j, (shapeCast S4096 x34 shapeCasts_S2x2048_S4096 : S4096.Idx → Ideal .f32) j)) (fun j => ((shapeCast S262144 x2 shapeCasts_S2x8x128x128_S262144 : S262144.Idx → Ideal .f32) j, (shapeCast S262144 x35 shapeCasts_S2x8x128x128_S262144 : S262144.Idx → Ideal .f32) j)) (fun j => ((shapeCast S2048 x3 shapeCasts_S2x8x128_S2048 : S2048.Idx → Ideal .f32) j, (shapeCast S2048 x36 shapeCasts_S2x8x128_S2048 : S2048.Idx → Ideal .f32) j)) (fun j => ((shapeCast S22528 x4 shapeCasts_S4x5632_S22528 : S22528.Idx → Ideal .f32) j, (shapeCast S22528 x37 shapeCasts_S4x5632_S22528 : S22528.Idx → Ideal .f32) j)) (fun j => ((shapeCast S24576 x5 shapeCasts_S4x6144_S24576 : S24576.Idx → Ideal .f32) j, (shapeCast S24576 x38 shapeCasts_S4x6144_S24576 : S24576.Idx → Ideal .f32) j)) (fun j => ((x6 : S1024.Idx → Ideal .f32) j, (x39 : S1024.Idx → Ideal .f32) j)) (fun j => ((shapeCast S256 x7 shapeCasts_S2x128_S256 : S256.Idx → Ideal .f32) j, (shapeCast S256 x40 shapeCasts_S2x128_S256 : S256.Idx → Ideal .f32) j)) (fun j => ((shapeCast S256 x8 shapeCasts_S2x128_S256 : S256.Idx → Ideal .f32) j, (shapeCast S256 x41 shapeCasts_S2x128_S256 : S256.Idx → Ideal .f32) j)) (fun j => ((shapeCast S1024 x9 shapeCasts_S4x2x128_S1024 : S1024.Idx → Ideal .f32) j, (shapeCast S1024 x42 shapeCasts_S4x2x128_S1024 : S1024.Idx → Ideal .f32) j)) (fun j => ((shapeCast S8448 x10 shapeCasts_S4x3x704_S8448 : S8448.Idx → Ideal .f32) j, (shapeCast S8448 x43 shapeCasts_S4x3x704_S8448 : S8448.Idx → Ideal .f32) j)) i
    exact (congr (congr (rfl : second = second) eg.symm) ev.symm)

/-- The new second moments, laid out. -/
theorem second_rows (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x33 : Vec Ideal S2x2048 .f32) (x34 : Vec Ideal S2x2048 .f32) (x35 : Vec Ideal S2x8x128x128 .f32) (x36 : Vec Ideal S2x8x128 .f32) (x37 : Vec Ideal S4x5632 .f32) (x38 : Vec Ideal S4x6144 .f32) (x39 : Vec Ideal S1024 .f32) (x40 : Vec Ideal S2x128 .f32) (x41 : Vec Ideal S2x128 .f32) (x42 : Vec Ideal S4x2x128 .f32) (x43 : Vec Ideal S4x3x704 .f32) :
    val_main_v305 (F := Ideal) x0 x1 x2 x3 x4 x5 x6 x7 x8 x9 x10 x33 x34 x35 x36 x37 x38 x39 x40 x41 x42 x43 = rows (val_main_v302 (F := Ideal) x0 x1 x2 x3 x4 x5 x6 x7 x8 x9 x10 x33 x34 x35 x36 x37 x38 x39 x40 x41 x42 x43) := by
  have hz : (val_main_v303 (F := Ideal)) = fun _ => (0 : EReal) := by
    funext j
    exact Ideal.ofBits_zero_f32
  unfold val_main_v305 val_main_v304
  rw [hz]
  rfl

/-- An entry of the laid-out new second moments. -/
theorem second_value (x0 : Vec Ideal S2x2048 .f32) (x1 : Vec Ideal S2x2048 .f32) (x2 : Vec Ideal S2x8x128x128 .f32) (x3 : Vec Ideal S2x8x128 .f32) (x4 : Vec Ideal S4x5632 .f32) (x5 : Vec Ideal S4x6144 .f32) (x6 : Vec Ideal S1024 .f32) (x7 : Vec Ideal S2x128 .f32) (x8 : Vec Ideal S2x128 .f32) (x9 : Vec Ideal S4x2x128 .f32) (x10 : Vec Ideal S4x3x704 .f32) (x33 : Vec Ideal S2x2048 .f32) (x34 : Vec Ideal S2x2048 .f32) (x35 : Vec Ideal S2x8x128x128 .f32) (x36 : Vec Ideal S2x8x128 .f32) (x37 : Vec Ideal S4x5632 .f32) (x38 : Vec Ideal S4x6144 .f32) (x39 : Vec Ideal S1024 .f32) (x40 : Vec Ideal S2x128 .f32) (x41 : Vec Ideal S2x128 .f32) (x42 : Vec Ideal S4x2x128 .f32) (x43 : Vec Ideal S4x3x704 .f32) (y : S2584x128.Idx) :
    val_main_v305 (F := Ideal) x0 x1 x2 x3 x4 x5 x6 x7 x8 x9 x10 x33 x34 x35 x36 x37 x38 x39 x40 x41 x42 x43 y = second (rows (packed x0 x1 x2 x3 x4 x5 x6 x7 x8 x9 x10) y) (rows (packed x33 x34 x35 x36 x37 x38 x39 x40 x41 x42 x43) y) := by
  rw [second_rows]
  simp only [rows_apply]
  by_cases h : (y 0).val * 128 + (y 1).val < 330496
  · simp only [dif_pos h]
    exact second_joined _ _ _ _ _ _ _ _ _ _ _ _ _ _ _ _ _ _ _ _ _ _ _
  · simp only [dif_neg h]
    exact second_zero.symm

end Cert.AdamSmall

end
-- ==== Proof.Opt.Operands.lean ====
/-
  The four arrays the small weights' optimiser kernel reads, from the program's arguments.
-/
module

public import proofs.«01_k».proof.Proof.Opt.Packing
public import Idealize.ShloMosaic.Lib.StableHlo.RunRead

@[expose] public section

noncomputable section

namespace Cert.AdamSmall

open Idealize.ShloMosaic Idealize.ShloMosaic.TcCoe Idealize.SL.Sem
open Cert.Kernel17Ideal Cert.Kernel17Ideal.Gen

variable (m : (ℓ : Loc nD τ sig) → Buf (Elt Ideal) ℓ) (c : Dev nD)

theorem op0_0 : (StableHlo.upto [hostOps0, hostOps0_1, hostOps0_2, hostOps0_3, hostOps0_4, hostOps0_5, hostOps0_6, hostOps0_7, hostOps0_8].flatten (fun b => m (c, b)) 10 (Proc.tc.devRef main_v0) : S4096.Idx → Ideal .f32) = shapeCast S4096 (m (c.tc.loc main_arg0)) shapeCasts_S2x2048_S4096 := by
  after_reads_simp
  try rfl

theorem op0_1 : (StableHlo.upto [hostOps0, hostOps0_1, hostOps0_2, hostOps0_3, hostOps0_4, hostOps0_5, hostOps0_6, hostOps0_7, hostOps0_8].flatten (fun b => m (c, b)) 10 (Proc.tc.devRef main_v1) : S4096.Idx → Ideal .f32) = shapeCast S4096 (m (c.tc.loc main_arg1)) shapeCasts_S2x2048_S4096 := by
  after_reads_simp
  try rfl

theorem op0_2 : (StableHlo.upto [hostOps0, hostOps0_1, hostOps0_2, hostOps0_3, hostOps0_4, hostOps0_5, hostOps0_6, hostOps0_7, hostOps0_8].flatten (fun b => m (c, b)) 10 (Proc.tc.devRef main_v2) : S262144.Idx → Ideal .f32) = shapeCast S262144 (m (c.tc.loc main_arg2)) shapeCasts_S2x8x128x128_S262144 := by
  after_reads_simp
  try rfl

theorem op0_3 : (StableHlo.upto [hostOps0, hostOps0_1, hostOps0_2, hostOps0_3, hostOps0_4, hostOps0_5, hostOps0_6, hostOps0_7, hostOps0_8].flatten (fun b => m (c, b)) 10 (Proc.tc.devRef main_v3) : S2048.Idx → Ideal .f32) = shapeCast S2048 (m (c.tc.loc main_arg3)) shapeCasts_S2x8x128_S2048 := by
  after_reads_simp
  try rfl

theorem op0_4 : (StableHlo.upto [hostOps0, hostOps0_1, hostOps0_2, hostOps0_3, hostOps0_4, hostOps0_5, hostOps0_6, hostOps0_7, hostOps0_8].flatten (fun b => m (c, b)) 10 (Proc.tc.devRef main_v4) : S22528.Idx → Ideal .f32) = shapeCast S22528 (m (c.tc.loc main_arg4)) shapeCasts_S4x5632_S22528 := by
  after_reads_simp
  try rfl

theorem op0_5 : (StableHlo.upto [hostOps0, hostOps0_1, hostOps0_2, hostOps0_3, hostOps0_4, hostOps0_5, hostOps0_6, hostOps0_7, hostOps0_8].flatten (fun b => m (c, b)) 10 (Proc.tc.devRef main_v5) : S24576.Idx → Ideal .f32) = shapeCast S24576 (m (c.tc.loc main_arg5)) shapeCasts_S4x6144_S24576 := by
  after_reads_simp
  try rfl

theorem op0_6 : (StableHlo.upto [hostOps0, hostOps0_1, hostOps0_2, hostOps0_3, hostOps0_4, hostOps0_5, hostOps0_6, hostOps0_7, hostOps0_8].flatten (fun b => m (c, b)) 10 (Proc.tc.devRef main_arg6) : S1024.Idx → Ideal .f32) = m (c.tc.loc main_arg6) := by
  after_reads_simp
  try rfl

theorem op0_7 : (StableHlo.upto [hostOps0, hostOps0_1, hostOps0_2, hostOps0_3, hostOps0_4, hostOps0_5, hostOps0_6, hostOps0_7, hostOps0_8].flatten (fun b => m (c, b)) 10 (Proc.tc.devRef main_v6) : S256.Idx → Ideal .f32) = shapeCast S256 (m (c.tc.loc main_arg7)) shapeCasts_S2x128_S256 := by
  after_reads_simp
  try rfl

theorem op0_8 : (StableHlo.upto [hostOps0, hostOps0_1, hostOps0_2, hostOps0_3, hostOps0_4, hostOps0_5, hostOps0_6, hostOps0_7, hostOps0_8].flatten (fun b => m (c, b)) 10 (Proc.tc.devRef main_v7) : S256.Idx → Ideal .f32) = shapeCast S256 (m (c.tc.loc main_arg8)) shapeCasts_S2x128_S256 := by
  after_reads_simp
  try rfl

theorem op0_9 : (StableHlo.upto [hostOps0, hostOps0_1, hostOps0_2, hostOps0_3, hostOps0_4, hostOps0_5, hostOps0_6, hostOps0_7, hostOps0_8].flatten (fun b => m (c, b)) 10 (Proc.tc.devRef main_v8) : S1024.Idx → Ideal .f32) = shapeCast S1024 (m (c.tc.loc main_arg9)) shapeCasts_S4x2x128_S1024 := by
  after_reads_simp
  try rfl

theorem op0_10 : (StableHlo.upto [hostOps0, hostOps0_1, hostOps0_2, hostOps0_3, hostOps0_4, hostOps0_5, hostOps0_6, hostOps0_7, hostOps0_8].flatten (fun b => m (c, b)) 10 (Proc.tc.devRef main_v9) : S8448.Idx → Ideal .f32) = shapeCast S8448 (m (c.tc.loc main_arg10)) shapeCasts_S4x3x704_S8448 := by
  after_reads_simp
  try rfl

theorem V0 : V m c main_v12 = rows (packed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))) := by
  after_reads_simp
  dsimp only [Matrix.cons_val_zero, Matrix.cons_val_one, Matrix.cons_val, Matrix.head_cons, Matrix.tail_cons]
  show shapeCast S2584x128 (pad S330752 ![0] ![256] ![0] (joined (StableHlo.upto [hostOps0, hostOps0_1, hostOps0_2, hostOps0_3, hostOps0_4, hostOps0_5, hostOps0_6, hostOps0_7, hostOps0_8].flatten (fun b => m (c, b)) 10 (Proc.tc.devRef main_v0)) (StableHlo.upto [hostOps0, hostOps0_1, hostOps0_2, hostOps0_3, hostOps0_4, hostOps0_5, hostOps0_6, hostOps0_7, hostOps0_8].flatten (fun b => m (c, b)) 10 (Proc.tc.devRef main_v1)) (StableHlo.upto [hostOps0, hostOps0_1, hostOps0_2, hostOps0_3, hostOps0_4, hostOps0_5, hostOps0_6, hostOps0_7, hostOps0_8].flatten (fun b => m (c, b)) 10 (Proc.tc.devRef main_v2)) (StableHlo.upto [hostOps0, hostOps0_1, hostOps0_2, hostOps0_3, hostOps0_4, hostOps0_5, hostOps0_6, hostOps0_7, hostOps0_8].flatten (fun b => m (c, b)) 10 (Proc.tc.devRef main_v3)) (StableHlo.upto [hostOps0, hostOps0_1, hostOps0_2, hostOps0_3, hostOps0_4, hostOps0_5, hostOps0_6, hostOps0_7, hostOps0_8].flatten (fun b => m (c, b)) 10 (Proc.tc.devRef main_v4)) (StableHlo.upto [hostOps0, hostOps0_1, hostOps0_2, hostOps0_3, hostOps0_4, hostOps0_5, hostOps0_6, hostOps0_7, hostOps0_8].flatten (fun b => m (c, b)) 10 (Proc.tc.devRef main_v5)) (StableHlo.upto [hostOps0, hostOps0_1, hostOps0_2, hostOps0_3, hostOps0_4, hostOps0_5, hostOps0_6, hostOps0_7, hostOps0_8].flatten (fun b => m (c, b)) 10 (Proc.tc.devRef main_arg6)) (StableHlo.upto [hostOps0, hostOps0_1, hostOps0_2, hostOps0_3, hostOps0_4, hostOps0_5, hostOps0_6, hostOps0_7, hostOps0_8].flatten (fun b => m (c, b)) 10 (Proc.tc.devRef main_v6)) (StableHlo.upto [hostOps0, hostOps0_1, hostOps0_2, hostOps0_3, hostOps0_4, hostOps0_5, hostOps0_6, hostOps0_7, hostOps0_8].flatten (fun b => m (c, b)) 10 (Proc.tc.devRef main_v7)) (StableHlo.upto [hostOps0, hostOps0_1, hostOps0_2, hostOps0_3, hostOps0_4, hostOps0_5, hostOps0_6, hostOps0_7, hostOps0_8].flatten (fun b => m (c, b)) 10 (Proc.tc.devRef main_v8)) (StableHlo.upto [hostOps0, hostOps0_1, hostOps0_2, hostOps0_3, hostOps0_4, hostOps0_5, hostOps0_6, hostOps0_7, hostOps0_8].flatten (fun b => m (c, b)) 10 (Proc.tc.devRef main_v9))) (sitofp (F := Ideal) .f32 (constantI S_ 32 0#32)) pads_S330496_S330752_02560 h_S_) shapeCasts_S330752_S2584x128 = _
  rw [pad_eq, op0_0, op0_1, op0_2, op0_3, op0_4, op0_5, op0_6, op0_7, op0_8, op0_9, op0_10]
  rfl

theorem op1_0 : (StableHlo.upto [hostOps0, hostOps0_1, hostOps0_2, hostOps0_3, hostOps0_4, hostOps0_5, hostOps0_6, hostOps0_7, hostOps0_8].flatten (fun b => m (c, b)) 25 (Proc.tc.devRef main_v13) : S4096.Idx → Ideal .f32) = shapeCast S4096 (m (c.tc.loc main_arg11)) shapeCasts_S2x2048_S4096 := by
  after_reads_simp
  try rfl

theorem op1_1 : (StableHlo.upto [hostOps0, hostOps0_1, hostOps0_2, hostOps0_3, hostOps0_4, hostOps0_5, hostOps0_6, hostOps0_7, hostOps0_8].flatten (fun b => m (c, b)) 25 (Proc.tc.devRef main_v14) : S4096.Idx → Ideal .f32) = shapeCast S4096 (m (c.tc.loc main_arg12)) shapeCasts_S2x2048_S4096 := by
  after_reads_simp
  try rfl

theorem op1_2 : (StableHlo.upto [hostOps0, hostOps0_1, hostOps0_2, hostOps0_3, hostOps0_4, hostOps0_5, hostOps0_6, hostOps0_7, hostOps0_8].flatten (fun b => m (c, b)) 25 (Proc.tc.devRef main_v15) : S262144.Idx → Ideal .f32) = shapeCast S262144 (m (c.tc.loc main_arg13)) shapeCasts_S2x8x128x128_S262144 := by
  after_reads_simp
  try rfl

theorem op1_3 : (StableHlo.upto [hostOps0, hostOps0_1, hostOps0_2, hostOps0_3, hostOps0_4, hostOps0_5, hostOps0_6, hostOps0_7, hostOps0_8].flatten (fun b => m (c, b)) 25 (Proc.tc.devRef main_v16) : S2048.Idx → Ideal .f32) = shapeCast S2048 (m (c.tc.loc main_arg14)) shapeCasts_S2x8x128_S2048 := by
  after_reads_simp
  try rfl

theorem op1_4 : (StableHlo.upto [hostOps0, hostOps0_1, hostOps0_2, hostOps0_3, hostOps0_4, hostOps0_5, hostOps0_6, hostOps0_7, hostOps0_8].flatten (fun b => m (c, b)) 25 (Proc.tc.devRef main_v17) : S22528.Idx → Ideal .f32) = shapeCast S22528 (m (c.tc.loc main_arg15)) shapeCasts_S4x5632_S22528 := by
  after_reads_simp
  try rfl

theorem op1_5 : (StableHlo.upto [hostOps0, hostOps0_1, hostOps0_2, hostOps0_3, hostOps0_4, hostOps0_5, hostOps0_6, hostOps0_7, hostOps0_8].flatten (fun b => m (c, b)) 25 (Proc.tc.devRef main_v18) : S24576.Idx → Ideal .f32) = shapeCast S24576 (m (c.tc.loc main_arg16)) shapeCasts_S4x6144_S24576 := by
  after_reads_simp
  try rfl

theorem op1_6 : (StableHlo.upto [hostOps0, hostOps0_1, hostOps0_2, hostOps0_3, hostOps0_4, hostOps0_5, hostOps0_6, hostOps0_7, hostOps0_8].flatten (fun b => m (c, b)) 25 (Proc.tc.devRef main_arg17) : S1024.Idx → Ideal .f32) = m (c.tc.loc main_arg17) := by
  after_reads_simp
  try rfl

theorem op1_7 : (StableHlo.upto [hostOps0, hostOps0_1, hostOps0_2, hostOps0_3, hostOps0_4, hostOps0_5, hostOps0_6, hostOps0_7, hostOps0_8].flatten (fun b => m (c, b)) 25 (Proc.tc.devRef main_v19) : S256.Idx → Ideal .f32) = shapeCast S256 (m (c.tc.loc main_arg18)) shapeCasts_S2x128_S256 := by
  after_reads_simp
  try rfl

theorem op1_8 : (StableHlo.upto [hostOps0, hostOps0_1, hostOps0_2, hostOps0_3, hostOps0_4, hostOps0_5, hostOps0_6, hostOps0_7, hostOps0_8].flatten (fun b => m (c, b)) 25 (Proc.tc.devRef main_v20) : S256.Idx → Ideal .f32) = shapeCast S256 (m (c.tc.loc main_arg19)) shapeCasts_S2x128_S256 := by
  after_reads_simp
  try rfl

theorem op1_9 : (StableHlo.upto [hostOps0, hostOps0_1, hostOps0_2, hostOps0_3, hostOps0_4, hostOps0_5, hostOps0_6, hostOps0_7, hostOps0_8].flatten (fun b => m (c, b)) 25 (Proc.tc.devRef main_v21) : S1024.Idx → Ideal .f32) = shapeCast S1024 (m (c.tc.loc main_arg20)) shapeCasts_S4x2x128_S1024 := by
  after_reads_simp
  try rfl

theorem op1_10 : (StableHlo.upto [hostOps0, hostOps0_1, hostOps0_2, hostOps0_3, hostOps0_4, hostOps0_5, hostOps0_6, hostOps0_7, hostOps0_8].flatten (fun b => m (c, b)) 25 (Proc.tc.devRef main_v22) : S8448.Idx → Ideal .f32) = shapeCast S8448 (m (c.tc.loc main_arg21)) shapeCasts_S4x3x704_S8448 := by
  after_reads_simp
  try rfl

theorem V1 : V m c main_v25 = rows (packed (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21))) := by
  after_reads_simp
  dsimp only [Matrix.cons_val_zero, Matrix.cons_val_one, Matrix.cons_val, Matrix.head_cons, Matrix.tail_cons]
  show shapeCast S2584x128 (pad S330752 ![0] ![256] ![0] (joined (StableHlo.upto [hostOps0, hostOps0_1, hostOps0_2, hostOps0_3, hostOps0_4, hostOps0_5, hostOps0_6, hostOps0_7, hostOps0_8].flatten (fun b => m (c, b)) 25 (Proc.tc.devRef main_v13)) (StableHlo.upto [hostOps0, hostOps0_1, hostOps0_2, hostOps0_3, hostOps0_4, hostOps0_5, hostOps0_6, hostOps0_7, hostOps0_8].flatten (fun b => m (c, b)) 25 (Proc.tc.devRef main_v14)) (StableHlo.upto [hostOps0, hostOps0_1, hostOps0_2, hostOps0_3, hostOps0_4, hostOps0_5, hostOps0_6, hostOps0_7, hostOps0_8].flatten (fun b => m (c, b)) 25 (Proc.tc.devRef main_v15)) (StableHlo.upto [hostOps0, hostOps0_1, hostOps0_2, hostOps0_3, hostOps0_4, hostOps0_5, hostOps0_6, hostOps0_7, hostOps0_8].flatten (fun b => m (c, b)) 25 (Proc.tc.devRef main_v16)) (StableHlo.upto [hostOps0, hostOps0_1, hostOps0_2, hostOps0_3, hostOps0_4, hostOps0_5, hostOps0_6, hostOps0_7, hostOps0_8].flatten (fun b => m (c, b)) 25 (Proc.tc.devRef main_v17)) (StableHlo.upto [hostOps0, hostOps0_1, hostOps0_2, hostOps0_3, hostOps0_4, hostOps0_5, hostOps0_6, hostOps0_7, hostOps0_8].flatten (fun b => m (c, b)) 25 (Proc.tc.devRef main_v18)) (StableHlo.upto [hostOps0, hostOps0_1, hostOps0_2, hostOps0_3, hostOps0_4, hostOps0_5, hostOps0_6, hostOps0_7, hostOps0_8].flatten (fun b => m (c, b)) 25 (Proc.tc.devRef main_arg17)) (StableHlo.upto [hostOps0, hostOps0_1, hostOps0_2, hostOps0_3, hostOps0_4, hostOps0_5, hostOps0_6, hostOps0_7, hostOps0_8].flatten (fun b => m (c, b)) 25 (Proc.tc.devRef main_v19)) (StableHlo.upto [hostOps0, hostOps0_1, hostOps0_2, hostOps0_3, hostOps0_4, hostOps0_5, hostOps0_6, hostOps0_7, hostOps0_8].flatten (fun b => m (c, b)) 25 (Proc.tc.devRef main_v20)) (StableHlo.upto [hostOps0, hostOps0_1, hostOps0_2, hostOps0_3, hostOps0_4, hostOps0_5, hostOps0_6, hostOps0_7, hostOps0_8].flatten (fun b => m (c, b)) 25 (Proc.tc.devRef main_v21)) (StableHlo.upto [hostOps0, hostOps0_1, hostOps0_2, hostOps0_3, hostOps0_4, hostOps0_5, hostOps0_6, hostOps0_7, hostOps0_8].flatten (fun b => m (c, b)) 25 (Proc.tc.devRef main_v22))) (sitofp (F := Ideal) .f32 (constantI S_ 32 0#32)) pads_S330496_S330752_02560 h_S_) shapeCasts_S330752_S2584x128 = _
  rw [pad_eq, op1_0, op1_1, op1_2, op1_3, op1_4, op1_5, op1_6, op1_7, op1_8, op1_9, op1_10]
  rfl

theorem op2_0 : (StableHlo.upto [hostOps0, hostOps0_1, hostOps0_2, hostOps0_3, hostOps0_4, hostOps0_5, hostOps0_6, hostOps0_7, hostOps0_8].flatten (fun b => m (c, b)) 40 (Proc.tc.devRef main_v26) : S4096.Idx → Ideal .f32) = shapeCast S4096 (m (c.tc.loc main_arg22)) shapeCasts_S2x2048_S4096 := by
  after_reads_simp
  try rfl

theorem op2_1 : (StableHlo.upto [hostOps0, hostOps0_1, hostOps0_2, hostOps0_3, hostOps0_4, hostOps0_5, hostOps0_6, hostOps0_7, hostOps0_8].flatten (fun b => m (c, b)) 40 (Proc.tc.devRef main_v27) : S4096.Idx → Ideal .f32) = shapeCast S4096 (m (c.tc.loc main_arg23)) shapeCasts_S2x2048_S4096 := by
  after_reads_simp
  try rfl

theorem op2_2 : (StableHlo.upto [hostOps0, hostOps0_1, hostOps0_2, hostOps0_3, hostOps0_4, hostOps0_5, hostOps0_6, hostOps0_7, hostOps0_8].flatten (fun b => m (c, b)) 40 (Proc.tc.devRef main_v28) : S262144.Idx → Ideal .f32) = shapeCast S262144 (m (c.tc.loc main_arg24)) shapeCasts_S2x8x128x128_S262144 := by
  after_reads_simp
  try rfl

theorem op2_3 : (StableHlo.upto [hostOps0, hostOps0_1, hostOps0_2, hostOps0_3, hostOps0_4, hostOps0_5, hostOps0_6, hostOps0_7, hostOps0_8].flatten (fun b => m (c, b)) 40 (Proc.tc.devRef main_v29) : S2048.Idx → Ideal .f32) = shapeCast S2048 (m (c.tc.loc main_arg25)) shapeCasts_S2x8x128_S2048 := by
  after_reads_simp
  try rfl

theorem op2_4 : (StableHlo.upto [hostOps0, hostOps0_1, hostOps0_2, hostOps0_3, hostOps0_4, hostOps0_5, hostOps0_6, hostOps0_7, hostOps0_8].flatten (fun b => m (c, b)) 40 (Proc.tc.devRef main_v30) : S22528.Idx → Ideal .f32) = shapeCast S22528 (m (c.tc.loc main_arg26)) shapeCasts_S4x5632_S22528 := by
  after_reads_simp
  try rfl

theorem op2_5 : (StableHlo.upto [hostOps0, hostOps0_1, hostOps0_2, hostOps0_3, hostOps0_4, hostOps0_5, hostOps0_6, hostOps0_7, hostOps0_8].flatten (fun b => m (c, b)) 40 (Proc.tc.devRef main_v31) : S24576.Idx → Ideal .f32) = shapeCast S24576 (m (c.tc.loc main_arg27)) shapeCasts_S4x6144_S24576 := by
  after_reads_simp
  try rfl

theorem op2_6 : (StableHlo.upto [hostOps0, hostOps0_1, hostOps0_2, hostOps0_3, hostOps0_4, hostOps0_5, hostOps0_6, hostOps0_7, hostOps0_8].flatten (fun b => m (c, b)) 40 (Proc.tc.devRef main_arg28) : S1024.Idx → Ideal .f32) = m (c.tc.loc main_arg28) := by
  after_reads_simp
  try rfl

theorem op2_7 : (StableHlo.upto [hostOps0, hostOps0_1, hostOps0_2, hostOps0_3, hostOps0_4, hostOps0_5, hostOps0_6, hostOps0_7, hostOps0_8].flatten (fun b => m (c, b)) 40 (Proc.tc.devRef main_v32) : S256.Idx → Ideal .f32) = shapeCast S256 (m (c.tc.loc main_arg29)) shapeCasts_S2x128_S256 := by
  after_reads_simp
  try rfl

theorem op2_8 : (StableHlo.upto [hostOps0, hostOps0_1, hostOps0_2, hostOps0_3, hostOps0_4, hostOps0_5, hostOps0_6, hostOps0_7, hostOps0_8].flatten (fun b => m (c, b)) 40 (Proc.tc.devRef main_v33) : S256.Idx → Ideal .f32) = shapeCast S256 (m (c.tc.loc main_arg30)) shapeCasts_S2x128_S256 := by
  after_reads_simp
  try rfl

theorem op2_9 : (StableHlo.upto [hostOps0, hostOps0_1, hostOps0_2, hostOps0_3, hostOps0_4, hostOps0_5, hostOps0_6, hostOps0_7, hostOps0_8].flatten (fun b => m (c, b)) 40 (Proc.tc.devRef main_v34) : S1024.Idx → Ideal .f32) = shapeCast S1024 (m (c.tc.loc main_arg31)) shapeCasts_S4x2x128_S1024 := by
  after_reads_simp
  try rfl

theorem op2_10 : (StableHlo.upto [hostOps0, hostOps0_1, hostOps0_2, hostOps0_3, hostOps0_4, hostOps0_5, hostOps0_6, hostOps0_7, hostOps0_8].flatten (fun b => m (c, b)) 40 (Proc.tc.devRef main_v35) : S8448.Idx → Ideal .f32) = shapeCast S8448 (m (c.tc.loc main_arg32)) shapeCasts_S4x3x704_S8448 := by
  after_reads_simp
  try rfl

theorem V2 : V m c main_v38 = rows (packed (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32))) := by
  after_reads_simp
  dsimp only [Matrix.cons_val_zero, Matrix.cons_val_one, Matrix.cons_val, Matrix.head_cons, Matrix.tail_cons]
  show shapeCast S2584x128 (pad S330752 ![0] ![256] ![0] (joined (StableHlo.upto [hostOps0, hostOps0_1, hostOps0_2, hostOps0_3, hostOps0_4, hostOps0_5, hostOps0_6, hostOps0_7, hostOps0_8].flatten (fun b => m (c, b)) 40 (Proc.tc.devRef main_v26)) (StableHlo.upto [hostOps0, hostOps0_1, hostOps0_2, hostOps0_3, hostOps0_4, hostOps0_5, hostOps0_6, hostOps0_7, hostOps0_8].flatten (fun b => m (c, b)) 40 (Proc.tc.devRef main_v27)) (StableHlo.upto [hostOps0, hostOps0_1, hostOps0_2, hostOps0_3, hostOps0_4, hostOps0_5, hostOps0_6, hostOps0_7, hostOps0_8].flatten (fun b => m (c, b)) 40 (Proc.tc.devRef main_v28)) (StableHlo.upto [hostOps0, hostOps0_1, hostOps0_2, hostOps0_3, hostOps0_4, hostOps0_5, hostOps0_6, hostOps0_7, hostOps0_8].flatten (fun b => m (c, b)) 40 (Proc.tc.devRef main_v29)) (StableHlo.upto [hostOps0, hostOps0_1, hostOps0_2, hostOps0_3, hostOps0_4, hostOps0_5, hostOps0_6, hostOps0_7, hostOps0_8].flatten (fun b => m (c, b)) 40 (Proc.tc.devRef main_v30)) (StableHlo.upto [hostOps0, hostOps0_1, hostOps0_2, hostOps0_3, hostOps0_4, hostOps0_5, hostOps0_6, hostOps0_7, hostOps0_8].flatten (fun b => m (c, b)) 40 (Proc.tc.devRef main_v31)) (StableHlo.upto [hostOps0, hostOps0_1, hostOps0_2, hostOps0_3, hostOps0_4, hostOps0_5, hostOps0_6, hostOps0_7, hostOps0_8].flatten (fun b => m (c, b)) 40 (Proc.tc.devRef main_arg28)) (StableHlo.upto [hostOps0, hostOps0_1, hostOps0_2, hostOps0_3, hostOps0_4, hostOps0_5, hostOps0_6, hostOps0_7, hostOps0_8].flatten (fun b => m (c, b)) 40 (Proc.tc.devRef main_v32)) (StableHlo.upto [hostOps0, hostOps0_1, hostOps0_2, hostOps0_3, hostOps0_4, hostOps0_5, hostOps0_6, hostOps0_7, hostOps0_8].flatten (fun b => m (c, b)) 40 (Proc.tc.devRef main_v33)) (StableHlo.upto [hostOps0, hostOps0_1, hostOps0_2, hostOps0_3, hostOps0_4, hostOps0_5, hostOps0_6, hostOps0_7, hostOps0_8].flatten (fun b => m (c, b)) 40 (Proc.tc.devRef main_v34)) (StableHlo.upto [hostOps0, hostOps0_1, hostOps0_2, hostOps0_3, hostOps0_4, hostOps0_5, hostOps0_6, hostOps0_7, hostOps0_8].flatten (fun b => m (c, b)) 40 (Proc.tc.devRef main_v35))) (sitofp (F := Ideal) .f32 (constantI S_ 32 0#32)) pads_S330496_S330752_02560 h_S_) shapeCasts_S330752_S2584x128 = _
  rw [pad_eq, op2_0, op2_1, op2_2, op2_3, op2_4, op2_5, op2_6, op2_7, op2_8, op2_9, op2_10]
  rfl

theorem op3_0 : (StableHlo.upto [hostOps0, hostOps0_1, hostOps0_2, hostOps0_3, hostOps0_4, hostOps0_5, hostOps0_6, hostOps0_7, hostOps0_8].flatten (fun b => m (c, b)) 55 (Proc.tc.devRef main_v39) : S4096.Idx → Ideal .f32) = shapeCast S4096 (m (c.tc.loc main_arg33)) shapeCasts_S2x2048_S4096 := by
  after_reads_simp
  try rfl

theorem op3_1 : (StableHlo.upto [hostOps0, hostOps0_1, hostOps0_2, hostOps0_3, hostOps0_4, hostOps0_5, hostOps0_6, hostOps0_7, hostOps0_8].flatten (fun b => m (c, b)) 55 (Proc.tc.devRef main_v40) : S4096.Idx → Ideal .f32) = shapeCast S4096 (m (c.tc.loc main_arg34)) shapeCasts_S2x2048_S4096 := by
  after_reads_simp
  try rfl

theorem op3_2 : (StableHlo.upto [hostOps0, hostOps0_1, hostOps0_2, hostOps0_3, hostOps0_4, hostOps0_5, hostOps0_6, hostOps0_7, hostOps0_8].flatten (fun b => m (c, b)) 55 (Proc.tc.devRef main_v41) : S262144.Idx → Ideal .f32) = shapeCast S262144 (m (c.tc.loc main_arg35)) shapeCasts_S2x8x128x128_S262144 := by
  after_reads_simp
  try rfl

theorem op3_3 : (StableHlo.upto [hostOps0, hostOps0_1, hostOps0_2, hostOps0_3, hostOps0_4, hostOps0_5, hostOps0_6, hostOps0_7, hostOps0_8].flatten (fun b => m (c, b)) 55 (Proc.tc.devRef main_v42) : S2048.Idx → Ideal .f32) = shapeCast S2048 (m (c.tc.loc main_arg36)) shapeCasts_S2x8x128_S2048 := by
  after_reads_simp
  try rfl

theorem op3_4 : (StableHlo.upto [hostOps0, hostOps0_1, hostOps0_2, hostOps0_3, hostOps0_4, hostOps0_5, hostOps0_6, hostOps0_7, hostOps0_8].flatten (fun b => m (c, b)) 55 (Proc.tc.devRef main_v43) : S22528.Idx → Ideal .f32) = shapeCast S22528 (m (c.tc.loc main_arg37)) shapeCasts_S4x5632_S22528 := by
  after_reads_simp
  try rfl

theorem op3_5 : (StableHlo.upto [hostOps0, hostOps0_1, hostOps0_2, hostOps0_3, hostOps0_4, hostOps0_5, hostOps0_6, hostOps0_7, hostOps0_8].flatten (fun b => m (c, b)) 55 (Proc.tc.devRef main_v44) : S24576.Idx → Ideal .f32) = shapeCast S24576 (m (c.tc.loc main_arg38)) shapeCasts_S4x6144_S24576 := by
  after_reads_simp
  try rfl

theorem op3_6 : (StableHlo.upto [hostOps0, hostOps0_1, hostOps0_2, hostOps0_3, hostOps0_4, hostOps0_5, hostOps0_6, hostOps0_7, hostOps0_8].flatten (fun b => m (c, b)) 55 (Proc.tc.devRef main_arg39) : S1024.Idx → Ideal .f32) = m (c.tc.loc main_arg39) := by
  after_reads_simp
  try rfl

theorem op3_7 : (StableHlo.upto [hostOps0, hostOps0_1, hostOps0_2, hostOps0_3, hostOps0_4, hostOps0_5, hostOps0_6, hostOps0_7, hostOps0_8].flatten (fun b => m (c, b)) 55 (Proc.tc.devRef main_v45) : S256.Idx → Ideal .f32) = shapeCast S256 (m (c.tc.loc main_arg40)) shapeCasts_S2x128_S256 := by
  after_reads_simp
  try rfl

theorem op3_8 : (StableHlo.upto [hostOps0, hostOps0_1, hostOps0_2, hostOps0_3, hostOps0_4, hostOps0_5, hostOps0_6, hostOps0_7, hostOps0_8].flatten (fun b => m (c, b)) 55 (Proc.tc.devRef main_v46) : S256.Idx → Ideal .f32) = shapeCast S256 (m (c.tc.loc main_arg41)) shapeCasts_S2x128_S256 := by
  after_reads_simp
  try rfl

theorem op3_9 : (StableHlo.upto [hostOps0, hostOps0_1, hostOps0_2, hostOps0_3, hostOps0_4, hostOps0_5, hostOps0_6, hostOps0_7, hostOps0_8].flatten (fun b => m (c, b)) 55 (Proc.tc.devRef main_v47) : S1024.Idx → Ideal .f32) = shapeCast S1024 (m (c.tc.loc main_arg42)) shapeCasts_S4x2x128_S1024 := by
  after_reads_simp
  try rfl

theorem op3_10 : (StableHlo.upto [hostOps0, hostOps0_1, hostOps0_2, hostOps0_3, hostOps0_4, hostOps0_5, hostOps0_6, hostOps0_7, hostOps0_8].flatten (fun b => m (c, b)) 55 (Proc.tc.devRef main_v48) : S8448.Idx → Ideal .f32) = shapeCast S8448 (m (c.tc.loc main_arg43)) shapeCasts_S4x3x704_S8448 := by
  after_reads_simp
  try rfl

theorem V3 : V m c main_v51 = rows (packed (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43))) := by
  after_reads_simp
  dsimp only [Matrix.cons_val_zero, Matrix.cons_val_one, Matrix.cons_val, Matrix.head_cons, Matrix.tail_cons]
  show shapeCast S2584x128 (pad S330752 ![0] ![256] ![0] (joined (StableHlo.upto [hostOps0, hostOps0_1, hostOps0_2, hostOps0_3, hostOps0_4, hostOps0_5, hostOps0_6, hostOps0_7, hostOps0_8].flatten (fun b => m (c, b)) 55 (Proc.tc.devRef main_v39)) (StableHlo.upto [hostOps0, hostOps0_1, hostOps0_2, hostOps0_3, hostOps0_4, hostOps0_5, hostOps0_6, hostOps0_7, hostOps0_8].flatten (fun b => m (c, b)) 55 (Proc.tc.devRef main_v40)) (StableHlo.upto [hostOps0, hostOps0_1, hostOps0_2, hostOps0_3, hostOps0_4, hostOps0_5, hostOps0_6, hostOps0_7, hostOps0_8].flatten (fun b => m (c, b)) 55 (Proc.tc.devRef main_v41)) (StableHlo.upto [hostOps0, hostOps0_1, hostOps0_2, hostOps0_3, hostOps0_4, hostOps0_5, hostOps0_6, hostOps0_7, hostOps0_8].flatten (fun b => m (c, b)) 55 (Proc.tc.devRef main_v42)) (StableHlo.upto [hostOps0, hostOps0_1, hostOps0_2, hostOps0_3, hostOps0_4, hostOps0_5, hostOps0_6, hostOps0_7, hostOps0_8].flatten (fun b => m (c, b)) 55 (Proc.tc.devRef main_v43)) (StableHlo.upto [hostOps0, hostOps0_1, hostOps0_2, hostOps0_3, hostOps0_4, hostOps0_5, hostOps0_6, hostOps0_7, hostOps0_8].flatten (fun b => m (c, b)) 55 (Proc.tc.devRef main_v44)) (StableHlo.upto [hostOps0, hostOps0_1, hostOps0_2, hostOps0_3, hostOps0_4, hostOps0_5, hostOps0_6, hostOps0_7, hostOps0_8].flatten (fun b => m (c, b)) 55 (Proc.tc.devRef main_arg39)) (StableHlo.upto [hostOps0, hostOps0_1, hostOps0_2, hostOps0_3, hostOps0_4, hostOps0_5, hostOps0_6, hostOps0_7, hostOps0_8].flatten (fun b => m (c, b)) 55 (Proc.tc.devRef main_v45)) (StableHlo.upto [hostOps0, hostOps0_1, hostOps0_2, hostOps0_3, hostOps0_4, hostOps0_5, hostOps0_6, hostOps0_7, hostOps0_8].flatten (fun b => m (c, b)) 55 (Proc.tc.devRef main_v46)) (StableHlo.upto [hostOps0, hostOps0_1, hostOps0_2, hostOps0_3, hostOps0_4, hostOps0_5, hostOps0_6, hostOps0_7, hostOps0_8].flatten (fun b => m (c, b)) 55 (Proc.tc.devRef main_v47)) (StableHlo.upto [hostOps0, hostOps0_1, hostOps0_2, hostOps0_3, hostOps0_4, hostOps0_5, hostOps0_6, hostOps0_7, hostOps0_8].flatten (fun b => m (c, b)) 55 (Proc.tc.devRef main_v48))) (sitofp (F := Ideal) .f32 (constantI S_ 32 0#32)) pads_S330496_S330752_02560 h_S_) shapeCasts_S330752_S2584x128 = _
  rw [pad_eq, op3_0, op3_1, op3_2, op3_3, op3_4, op3_5, op3_6, op3_7, op3_8, op3_9, op3_10]
  rfl

end Cert.AdamSmall

end
-- ==== Proof.Opt.AdamSmall.lean ====
/-
  AdamW for the eleven small weights: one kernel over all of them, laid out in rows of 128. A grid point takes 152 rows.
-/
module

public import proofs.«01_k».proof.Defs
public import proofs.«01_k».proof.Proof.Opt.SmallStep
public import proofs.«01_k».proof.Proof.Opt.Operands
public import proofs.«01_k».proof.Proof.Gen.Kernel17.Frame
public import Idealize.ShloMosaic.Lib.ValueIdx
public import Idealize.ShloMosaic.Lib.Pointwise
public import Idealize.ShloMosaic.Lib.Pipeline.Value
public import Idealize.ShloMosaic.Lib.Pipeline.ValueKit

@[expose] public section

noncomputable section

namespace Cert.AdamSmall

open Idealize.ShloMosaic Idealize.ShloMosaic.TcCoe Idealize.SL.Sem
open Idealize.ShloMosaic.Pipeline (Dat)
open Cert.Kernel17Ideal Cert.Kernel17Ideal.Gen Cert.Reference17Ideal.Read Cert.AdamW

/-! What the body computes from its blocks: one step at each entry. -/

theorem pay2 (g m : Vec Ideal S152x128 .f32) (y : S152x128.Idx) : k0_pay2 (F := Ideal) g m y = first (g y) (m y) := by
  unfold k0_pay2 k0_pay1 first; pointwise
theorem pay3 (g v : Vec Ideal S152x128 .f32) (y : S152x128.Idx) : k0_pay3 (F := Ideal) g v y = second (g y) (v y) := by
  unfold k0_pay3 k0_pay1 second; pointwise
theorem pay4 (w g m v : Vec Ideal S152x128 .f32) (y : S152x128.Idx) :
    k0_pay4 (F := Ideal) w g m v y = step (g y) (w y) (m y) (v y) := by
  unfold k0_pay4 step change; pointwise [pay2, pay3]

variable (m : (ℓ : Loc nD τ sig) → Buf (Elt Ideal) ℓ) (c : Dev nD)

/-- The row of the arrays that row `p` of a grid point's block is. -/
def row (t : Fin cfg0.N) (p : Fin 152) : Fin 2584 := ⟨t.val * 152 + p.val, by have := lt_of_lt_of_eq t.isLt N_0; omega⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)

/-! The blocks: 152 rows of the laid-out gradients, weights and moments. -/

theorem iblk0 (gs : Vec Ideal S2584x128 .f32) (h : V m c main_v12 = gs) (t : Fin cfg0.N) :
    iblk m c 0 t = fun j : S152x128.Idx => gs (ix2 (row t (j 0)) (j 1)) := by
  funext j
  unfold iblk
  refine (congrArg (V m c main_v12) (?_ : ((win0_0).blk t).view.emb j = ix2 (row t (j 0)) (j 1))).trans (congrFun h _)
  blk_ext [at0, row]
theorem iblk1 (ws : Vec Ideal S2584x128 .f32) (h : V m c main_v25 = ws) (t : Fin cfg0.N) :
    iblk m c 1 t = fun j : S152x128.Idx => ws (ix2 (row t (j 0)) (j 1)) := by
  funext j
  unfold iblk
  refine (congrArg (V m c main_v25) (?_ : ((win0_1).blk t).view.emb j = ix2 (row t (j 0)) (j 1))).trans (congrFun h _)
  blk_ext [at1, row]
theorem iblk2 (ms : Vec Ideal S2584x128 .f32) (h : V m c main_v38 = ms) (t : Fin cfg0.N) :
    iblk m c 2 t = fun j : S152x128.Idx => ms (ix2 (row t (j 0)) (j 1)) := by
  funext j
  unfold iblk
  refine (congrArg (V m c main_v38) (?_ : ((win0_2).blk t).view.emb j = ix2 (row t (j 0)) (j 1))).trans (congrFun h _)
  blk_ext [at2, row]
theorem iblk3 (vs : Vec Ideal S2584x128 .f32) (h : V m c main_v51 = vs) (t : Fin cfg0.N) :
    iblk m c 3 t = fun j : S152x128.Idx => vs (ix2 (row t (j 0)) (j 1)) := by
  funext j
  unfold iblk
  refine (congrArg (V m c main_v51) (?_ : ((win0_3).blk t).view.emb j = ix2 (row t (j 0)) (j 1))).trans (congrFun h _)
  blk_ext [at3, row]

/-- The changes after the kernel has run, from the laid-out arrays. -/
theorem array4 (gs ws ms vs : Vec Ideal S2584x128 .f32) (hg : V m c main_v12 = gs) (hw : V m c main_v25 = ws) (hm : V m c main_v38 = ms) (hv : V m c main_v51 = vs) :
    (dats m 0 c).arrAt 4 cfg0.N = fun y : S2584x128.Idx => step (gs y) (ws y) (ms y) (vs y) := by
  refine (dats m 0 c).arrAt_eq_of_covers 4 _ (by decide +kernel) fun t hf y => ?_
  have hy : (win0_4.blk t).view.emb y = ix2 (row t (y 0)) (y 1) := by blk_ext [at4, row]
  blk_simp
  rw [after0_4]
  refine Eq.trans ?_ (congrArg (fun z : S2584x128.Idx => step (gs z) (ws z) (ms z) (vs z)) hy.symm)
  frame_out
  rw [iblk0 m c _ hg, iblk1 m c _ hw, iblk2 m c _ hm, iblk3 m c _ hv]
  exact pay4 _ _ _ _ y

/-- The new first moments after the kernel has run, from the laid-out arrays. -/
theorem array5 (gs ms : Vec Ideal S2584x128 .f32) (hg : V m c main_v12 = gs) (hm : V m c main_v38 = ms) :
    (dats m 0 c).arrAt 5 cfg0.N = fun y : S2584x128.Idx => first (gs y) (ms y) := by
  refine (dats m 0 c).arrAt_eq_of_covers 5 _ (by decide +kernel) fun t hf y => ?_
  have hy : (win0_5.blk t).view.emb y = ix2 (row t (y 0)) (y 1) := by blk_ext [at5, row]
  blk_simp
  rw [after0_5]
  refine Eq.trans ?_ (congrArg (fun z : S2584x128.Idx => first (gs z) (ms z)) hy.symm)
  frame_out
  rw [iblk0 m c _ hg, iblk2 m c _ hm]
  exact pay2 _ _ y

/-- The new second moments after the kernel has run, from the laid-out arrays. -/
theorem array6 (gs vs : Vec Ideal S2584x128 .f32) (hg : V m c main_v12 = gs) (hv : V m c main_v51 = vs) :
    (dats m 0 c).arrAt 6 cfg0.N = fun y : S2584x128.Idx => second (gs y) (vs y) := by
  refine (dats m 0 c).arrAt_eq_of_covers 6 _ (by decide +kernel) fun t hf y => ?_
  have hy : (win0_6.blk t).view.emb y = ix2 (row t (y 0)) (y 1) := by blk_ext [at6, row]
  blk_simp
  rw [after0_6]
  refine Eq.trans ?_ (congrArg (fun z : S2584x128.Idx => second (gs z) (vs z)) hy.symm)
  frame_out
  rw [iblk0 m c _ hg, iblk3 m c _ hv]
  exact pay3 _ _ y

/-! The reference's results from its launched contents, and the layout of equal arrays. -/

theorem reads_delta (W : Valuation Cert.Reference17Ideal.τ Cert.Reference17Ideal.sig (Elt Ideal)) :
    val_main_v277 (F := Ideal) (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10)) (W (Proc.devRef .tc Cert.Reference17Ideal.main_arg11)) (W (Proc.devRef .tc Cert.Reference17Ideal.main_arg12)) (W (Proc.devRef .tc Cert.Reference17Ideal.main_arg13)) (W (Proc.devRef .tc Cert.Reference17Ideal.main_arg14)) (W (Proc.devRef .tc Cert.Reference17Ideal.main_arg15)) (W (Proc.devRef .tc Cert.Reference17Ideal.main_arg16)) (W (Proc.devRef .tc Cert.Reference17Ideal.main_arg17)) (W (Proc.devRef .tc Cert.Reference17Ideal.main_arg18)) (W (Proc.devRef .tc Cert.Reference17Ideal.main_arg19)) (W (Proc.devRef .tc Cert.Reference17Ideal.main_arg20)) (W (Proc.devRef .tc Cert.Reference17Ideal.main_arg21)) (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32)) (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))
      = fun y : S2584x128.Idx => step (rows (packed (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10))) y) (rows (packed (W (Proc.devRef .tc Cert.Reference17Ideal.main_arg11)) (W (Proc.devRef .tc Cert.Reference17Ideal.main_arg12)) (W (Proc.devRef .tc Cert.Reference17Ideal.main_arg13)) (W (Proc.devRef .tc Cert.Reference17Ideal.main_arg14)) (W (Proc.devRef .tc Cert.Reference17Ideal.main_arg15)) (W (Proc.devRef .tc Cert.Reference17Ideal.main_arg16)) (W (Proc.devRef .tc Cert.Reference17Ideal.main_arg17)) (W (Proc.devRef .tc Cert.Reference17Ideal.main_arg18)) (W (Proc.devRef .tc Cert.Reference17Ideal.main_arg19)) (W (Proc.devRef .tc Cert.Reference17Ideal.main_arg20)) (W (Proc.devRef .tc Cert.Reference17Ideal.main_arg21))) y) (rows (packed (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32))) y) (rows (packed (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))) y) :=
  funext fun y => delta_value _ _ _ _ _ _ _ _ _ _ _ _ _ _ _ _ _ _ _ _ _ _ _ _ _ _ _ _ _ _ _ _ _ _ _ _ _ _ _ _ _ _ _ _ y
theorem reads_first (W : Valuation Cert.Reference17Ideal.τ Cert.Reference17Ideal.sig (Elt Ideal)) :
    val_main_v291 (F := Ideal) (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10)) (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32))
      = fun y : S2584x128.Idx => first (rows (packed (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10))) y) (rows (packed (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32))) y) :=
  funext fun y => first_value _ _ _ _ _ _ _ _ _ _ _ _ _ _ _ _ _ _ _ _ _ _ y
theorem reads_second (W : Valuation Cert.Reference17Ideal.τ Cert.Reference17Ideal.sig (Elt Ideal)) :
    val_main_v305 (F := Ideal) (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10)) (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))
      = fun y : S2584x128.Idx => second (rows (packed (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10))) y) (rows (packed (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))) y) :=
  funext fun y => second_value _ _ _ _ _ _ _ _ _ _ _ _ _ _ _ _ _ _ _ _ _ _ y
theorem packed_congr (a0 : Vec Ideal S2x2048 .f32) (a1 : Vec Ideal S2x2048 .f32) (a2 : Vec Ideal S2x8x128x128 .f32) (a3 : Vec Ideal S2x8x128 .f32) (a4 : Vec Ideal S4x5632 .f32) (a5 : Vec Ideal S4x6144 .f32) (a6 : Vec Ideal S1024 .f32) (a7 : Vec Ideal S2x128 .f32) (a8 : Vec Ideal S2x128 .f32) (a9 : Vec Ideal S4x2x128 .f32) (a10 : Vec Ideal S4x3x704 .f32) (b0 : Vec Ideal S2x2048 .f32) (b1 : Vec Ideal S2x2048 .f32) (b2 : Vec Ideal S2x8x128x128 .f32) (b3 : Vec Ideal S2x8x128 .f32) (b4 : Vec Ideal S4x5632 .f32) (b5 : Vec Ideal S4x6144 .f32) (b6 : Vec Ideal S1024 .f32) (b7 : Vec Ideal S2x128 .f32) (b8 : Vec Ideal S2x128 .f32) (b9 : Vec Ideal S4x2x128 .f32) (b10 : Vec Ideal S4x3x704 .f32) (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    packed a0 a1 a2 a3 a4 a5 a6 a7 a8 a9 a10 = packed b0 b1 b2 b3 b4 b5 b6 b7 b8 b9 b10 := by
  subst h0 h1 h2 h3 h4 h5 h6 h7 h8 h9 h10
  rfl

/-- The reference's changes are the kernel's, where the laid-out arguments agree. -/
theorem tie_delta (W : Valuation Cert.Reference17Ideal.τ Cert.Reference17Ideal.sig (Elt Ideal))
    (eg : (packed (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10))) = (packed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))))
    (ew : (packed (W (Proc.devRef .tc Cert.Reference17Ideal.main_arg11)) (W (Proc.devRef .tc Cert.Reference17Ideal.main_arg12)) (W (Proc.devRef .tc Cert.Reference17Ideal.main_arg13)) (W (Proc.devRef .tc Cert.Reference17Ideal.main_arg14)) (W (Proc.devRef .tc Cert.Reference17Ideal.main_arg15)) (W (Proc.devRef .tc Cert.Reference17Ideal.main_arg16)) (W (Proc.devRef .tc Cert.Reference17Ideal.main_arg17)) (W (Proc.devRef .tc Cert.Reference17Ideal.main_arg18)) (W (Proc.devRef .tc Cert.Reference17Ideal.main_arg19)) (W (Proc.devRef .tc Cert.Reference17Ideal.main_arg20)) (W (Proc.devRef .tc Cert.Reference17Ideal.main_arg21))) = (packed (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21))))
    (em : (packed (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32))) = (packed (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32))))
    (ev : (packed (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))) = (packed (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43))))
    : val_main_v277 (F := Ideal) (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10)) (W (Proc.devRef .tc Cert.Reference17Ideal.main_arg11)) (W (Proc.devRef .tc Cert.Reference17Ideal.main_arg12)) (W (Proc.devRef .tc Cert.Reference17Ideal.main_arg13)) (W (Proc.devRef .tc Cert.Reference17Ideal.main_arg14)) (W (Proc.devRef .tc Cert.Reference17Ideal.main_arg15)) (W (Proc.devRef .tc Cert.Reference17Ideal.main_arg16)) (W (Proc.devRef .tc Cert.Reference17Ideal.main_arg17)) (W (Proc.devRef .tc Cert.Reference17Ideal.main_arg18)) (W (Proc.devRef .tc Cert.Reference17Ideal.main_arg19)) (W (Proc.devRef .tc Cert.Reference17Ideal.main_arg20)) (W (Proc.devRef .tc Cert.Reference17Ideal.main_arg21)) (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32)) (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))
      = (dats m 0 c).arrAt 4 cfg0.N := by
  rw [reads_delta, eg, ew, em, ev]
  exact (array4 m c _ _ _ _ (V0 m c) (V1 m c) (V2 m c) (V3 m c)).symm

/-- The reference's new first moments are the kernel's, where the laid-out arguments agree. -/
theorem tie_first (W : Valuation Cert.Reference17Ideal.τ Cert.Reference17Ideal.sig (Elt Ideal))
    (eg : (packed (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10))) = (packed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))))
    (em : (packed (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32))) = (packed (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32))))
    : val_main_v291 (F := Ideal) (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10)) (W (Proc.devRef .tc Cert.Reference17Ideal.main_arg22)) (W (Proc.devRef .tc Cert.Reference17Ideal.main_arg23)) (W (Proc.devRef .tc Cert.Reference17Ideal.main_arg24)) (W (Proc.devRef .tc Cert.Reference17Ideal.main_arg25)) (W (Proc.devRef .tc Cert.Reference17Ideal.main_arg26)) (W (Proc.devRef .tc Cert.Reference17Ideal.main_arg27)) (W (Proc.devRef .tc Cert.Reference17Ideal.main_arg28)) (W (Proc.devRef .tc Cert.Reference17Ideal.main_arg29)) (W (Proc.devRef .tc Cert.Reference17Ideal.main_arg30)) (W (Proc.devRef .tc Cert.Reference17Ideal.main_arg31)) (W (Proc.devRef .tc Cert.Reference17Ideal.main_arg32))
      = (dats m 0 c).arrAt 5 cfg0.N := by
  rw [reads_first, eg, em]
  exact (array5 m c _ _ (V0 m c) (V2 m c)).symm

/-- The reference's new second moments are the kernel's, where the laid-out arguments agree. -/
theorem tie_second (W : Valuation Cert.Reference17Ideal.τ Cert.Reference17Ideal.sig (Elt Ideal))
    (eg : (packed (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10))) = (packed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))))
    (ev : (packed (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))) = (packed (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43))))
    : val_main_v305 (F := Ideal) (W (Proc.devRef .tc Cert.Reference17Ideal.main_arg0)) (W (Proc.devRef .tc Cert.Reference17Ideal.main_arg1)) (W (Proc.devRef .tc Cert.Reference17Ideal.main_arg2)) (W (Proc.devRef .tc Cert.Reference17Ideal.main_arg3)) (W (Proc.devRef .tc Cert.Reference17Ideal.main_arg4)) (W (Proc.devRef .tc Cert.Reference17Ideal.main_arg5)) (W (Proc.devRef .tc Cert.Reference17Ideal.main_arg6)) (W (Proc.devRef .tc Cert.Reference17Ideal.main_arg7)) (W (Proc.devRef .tc Cert.Reference17Ideal.main_arg8)) (W (Proc.devRef .tc Cert.Reference17Ideal.main_arg9)) (W (Proc.devRef .tc Cert.Reference17Ideal.main_arg10)) (W (Proc.devRef .tc Cert.Reference17Ideal.main_arg33)) (W (Proc.devRef .tc Cert.Reference17Ideal.main_arg34)) (W (Proc.devRef .tc Cert.Reference17Ideal.main_arg35)) (W (Proc.devRef .tc Cert.Reference17Ideal.main_arg36)) (W (Proc.devRef .tc Cert.Reference17Ideal.main_arg37)) (W (Proc.devRef .tc Cert.Reference17Ideal.main_arg38)) (W (Proc.devRef .tc Cert.Reference17Ideal.main_arg39)) (W (Proc.devRef .tc Cert.Reference17Ideal.main_arg40)) (W (Proc.devRef .tc Cert.Reference17Ideal.main_arg41)) (W (Proc.devRef .tc Cert.Reference17Ideal.main_arg42)) (W (Proc.devRef .tc Cert.Reference17Ideal.main_arg43))
      = (dats m 0 c).arrAt 6 cfg0.N := by
  rw [reads_second, eg, ev]
  exact (array6 m c _ _ (V0 m c) (V3 m c)).symm

/-! The claims. -/

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem preserves : Cert.preserves_Kernel17_Kernel17Ideal := trivial

/-- The kernel's results are the reference's. -/
theorem algebraic : Cert.algebraic_Kernel17Ideal_Reference17Ideal := by
  intro m ρ m' ρ' _ hagree
  refine ⟨_, _, _, Cert.Kernel17Ideal.Value.run_blocks m ρ, ?_⟩
  refine (θ_run Cert.Reference17Ideal.defs _ _).mono (fun _ h c => ?_) (Cert.Reference17Ideal.Value.run (F := Ideal) m' ρ')
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := hagree c
  have eg : (packed (StableHlo.launchContents m' c (Proc.devRef .tc Cert.Reference17Ideal.main_arg0)) (StableHlo.launchContents m' c (Proc.devRef .tc Cert.Reference17Ideal.main_arg1)) (StableHlo.launchContents m' c (Proc.devRef .tc Cert.Reference17Ideal.main_arg2)) (StableHlo.launchContents m' c (Proc.devRef .tc Cert.Reference17Ideal.main_arg3)) (StableHlo.launchContents m' c (Proc.devRef .tc Cert.Reference17Ideal.main_arg4)) (StableHlo.launchContents m' c (Proc.devRef .tc Cert.Reference17Ideal.main_arg5)) (StableHlo.launchContents m' c (Proc.devRef .tc Cert.Reference17Ideal.main_arg6)) (StableHlo.launchContents m' c (Proc.devRef .tc Cert.Reference17Ideal.main_arg7)) (StableHlo.launchContents m' c (Proc.devRef .tc Cert.Reference17Ideal.main_arg8)) (StableHlo.launchContents m' c (Proc.devRef .tc Cert.Reference17Ideal.main_arg9)) (StableHlo.launchContents m' c (Proc.devRef .tc Cert.Reference17Ideal.main_arg10))) = (packed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))) :=
    packed_congr _ _ _ _ _ _ _ _ _ _ _ _ _ _ _ _ _ _ _ _ _ _ a0 a1 a2 a3 a4 a5 a6 a7 a8 a9 a10
  have ew : (packed (StableHlo.launchContents m' c (Proc.devRef .tc Cert.Reference17Ideal.main_arg11)) (StableHlo.launchContents m' c (Proc.devRef .tc Cert.Reference17Ideal.main_arg12)) (StableHlo.launchContents m' c (Proc.devRef .tc Cert.Reference17Ideal.main_arg13)) (StableHlo.launchContents m' c (Proc.devRef .tc Cert.Reference17Ideal.main_arg14)) (StableHlo.launchContents m' c (Proc.devRef .tc Cert.Reference17Ideal.main_arg15)) (StableHlo.launchContents m' c (Proc.devRef .tc Cert.Reference17Ideal.main_arg16)) (StableHlo.launchContents m' c (Proc.devRef .tc Cert.Reference17Ideal.main_arg17)) (StableHlo.launchContents m' c (Proc.devRef .tc Cert.Reference17Ideal.main_arg18)) (StableHlo.launchContents m' c (Proc.devRef .tc Cert.Reference17Ideal.main_arg19)) (StableHlo.launchContents m' c (Proc.devRef .tc Cert.Reference17Ideal.main_arg20)) (StableHlo.launchContents m' c (Proc.devRef .tc Cert.Reference17Ideal.main_arg21))) = (packed (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21))) :=
    packed_congr _ _ _ _ _ _ _ _ _ _ _ _ _ _ _ _ _ _ _ _ _ _ a11 a12 a13 a14 a15 a16 a17 a18 a19 a20 a21
  have em : (packed (StableHlo.launchContents m' c (Proc.devRef .tc Cert.Reference17Ideal.main_arg22)) (StableHlo.launchContents m' c (Proc.devRef .tc Cert.Reference17Ideal.main_arg23)) (StableHlo.launchContents m' c (Proc.devRef .tc Cert.Reference17Ideal.main_arg24)) (StableHlo.launchContents m' c (Proc.devRef .tc Cert.Reference17Ideal.main_arg25)) (StableHlo.launchContents m' c (Proc.devRef .tc Cert.Reference17Ideal.main_arg26)) (StableHlo.launchContents m' c (Proc.devRef .tc Cert.Reference17Ideal.main_arg27)) (StableHlo.launchContents m' c (Proc.devRef .tc Cert.Reference17Ideal.main_arg28)) (StableHlo.launchContents m' c (Proc.devRef .tc Cert.Reference17Ideal.main_arg29)) (StableHlo.launchContents m' c (Proc.devRef .tc Cert.Reference17Ideal.main_arg30)) (StableHlo.launchContents m' c (Proc.devRef .tc Cert.Reference17Ideal.main_arg31)) (StableHlo.launchContents m' c (Proc.devRef .tc Cert.Reference17Ideal.main_arg32))) = (packed (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32))) :=
    packed_congr _ _ _ _ _ _ _ _ _ _ _ _ _ _ _ _ _ _ _ _ _ _ a22 a23 a24 a25 a26 a27 a28 a29 a30 a31 a32
  have ev : (packed (StableHlo.launchContents m' c (Proc.devRef .tc Cert.Reference17Ideal.main_arg33)) (StableHlo.launchContents m' c (Proc.devRef .tc Cert.Reference17Ideal.main_arg34)) (StableHlo.launchContents m' c (Proc.devRef .tc Cert.Reference17Ideal.main_arg35)) (StableHlo.launchContents m' c (Proc.devRef .tc Cert.Reference17Ideal.main_arg36)) (StableHlo.launchContents m' c (Proc.devRef .tc Cert.Reference17Ideal.main_arg37)) (StableHlo.launchContents m' c (Proc.devRef .tc Cert.Reference17Ideal.main_arg38)) (StableHlo.launchContents m' c (Proc.devRef .tc Cert.Reference17Ideal.main_arg39)) (StableHlo.launchContents m' c (Proc.devRef .tc Cert.Reference17Ideal.main_arg40)) (StableHlo.launchContents m' c (Proc.devRef .tc Cert.Reference17Ideal.main_arg41)) (StableHlo.launchContents m' c (Proc.devRef .tc Cert.Reference17Ideal.main_arg42)) (StableHlo.launchContents m' c (Proc.devRef .tc Cert.Reference17Ideal.main_arg43))) = (packed (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43))) :=
    packed_congr _ _ _ _ _ _ _ _ _ _ _ _ _ _ _ _ _ _ _ _ _ _ a33 a34 a35 a36 a37 a38 a39 a40 a41 a42 a43
  clear hagree a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43
  refine ⟨(h c).1.trans ?_, (h c).2.1.trans ?_, (h c).2.2.1.trans ?_, (h c).2.2.2⟩
  · exact (val_main_v277_eq _).trans (tie_delta m c _ eg ew em ev)
  · exact (val_main_v291_eq _).trans (tie_first m c _ eg em)
  · exact (val_main_v305_eq _).trans (tie_second m c _ eg ev)

end Cert.AdamSmall

end
-- ==== Proof.Opt.BigA0.lean ====
/-
  The AdamW step of the first of the 2 layers of a device's rows of w_out of the gated mixer. The gradient is the sum, in the format
  of the moments, of what eight devices sent; from it come the change of the weight and the two new moments. The kernel writes
  only its layer of the four results, so the claim is about the indices of that layer.
-/
module

public import proofs.«01_k».proof.Defs
public import proofs.«01_k».proof.Proof.Opt.Scalar
public import proofs.«01_k».proof.Proof.Gen.Kernel20.Frame
public import proofs.«01_k».proof.Proof.Gen.Kernel20Ideal.Value
public import proofs.«01_k».proof.Proof.Gen.Reference20Ideal.Read
public import proofs.«01_k».proof.Proof.Gen.On_first_layer_Kernel20Ideal
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigA0

open Idealize.ShloMosaic Idealize.ShloMosaic.TcCoe Idealize.SL.Sem
open Idealize.ShloMosaic.Pipeline (Dat)
open Cert.Kernel20Ideal Cert.Kernel20Ideal.Gen Cert.Reference20Ideal.Read Cert.AdamW

/-! Each slice the body loads: what one device sent. -/

abbrev r0_0 : Rect S8x256x1024 := Rect.unit (s := S8x256x1024) ![0, 0, 0] S1x256x1024.size (by decide)
theorem slice0 (d : Vec Ideal S8x256x1024 .bf16) (p : Fin 256) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x256x1024 := Rect.unit (s := S8x256x1024) ![1, 0, 0] S1x256x1024.size (by decide)
theorem slice1 (d : Vec Ideal S8x256x1024 .bf16) (p : Fin 256) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x256x1024 := Rect.unit (s := S8x256x1024) ![2, 0, 0] S1x256x1024.size (by decide)
theorem slice2 (d : Vec Ideal S8x256x1024 .bf16) (p : Fin 256) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x256x1024 := Rect.unit (s := S8x256x1024) ![3, 0, 0] S1x256x1024.size (by decide)
theorem slice3 (d : Vec Ideal S8x256x1024 .bf16) (p : Fin 256) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x256x1024 := Rect.unit (s := S8x256x1024) ![4, 0, 0] S1x256x1024.size (by decide)
theorem slice4 (d : Vec Ideal S8x256x1024 .bf16) (p : Fin 256) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x256x1024 := Rect.unit (s := S8x256x1024) ![5, 0, 0] S1x256x1024.size (by decide)
theorem slice5 (d : Vec Ideal S8x256x1024 .bf16) (p : Fin 256) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x256x1024 := Rect.unit (s := S8x256x1024) ![6, 0, 0] S1x256x1024.size (by decide)
theorem slice6 (d : Vec Ideal S8x256x1024 .bf16) (p : Fin 256) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x256x1024 := Rect.unit (s := S8x256x1024) ![7, 0, 0] S1x256x1024.size (by decide)
theorem slice7 (d : Vec Ideal S8x256x1024 .bf16) (p : Fin 256) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x256x1024 .bf16) (p : Fin 256) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x256x1024 .bf16) : FVec Ideal S256x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x256x1024 .bf16) (p : Fin 256) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S256x1024 .f32) (u : Fin 1) (p : Fin 256) (q : Fin 1024) : k0_pay4 (F := Ideal) g (ix3 u p q) = g (ix2 p q) := by
  unfold k0_pay4; pointwise
theorem pay5 (g : FVec Ideal S256x1024 .f32) (m : Vec Ideal S1x256x1024 .f32) (p : Fin 256) (q : Fin 1024) :
    k0_pay5 (F := Ideal) g m (ix2 p q) = first (g (ix2 p q)) (m (ix3 0 p q)) := by
  unfold k0_pay5 first; pointwise
theorem pay6 (g : FVec Ideal S256x1024 .f32) (v : Vec Ideal S1x256x1024 .f32) (p : Fin 256) (q : Fin 1024) :
    k0_pay6 (F := Ideal) g v (ix2 p q) = second (g (ix2 p q)) (v (ix3 0 p q)) := by
  unfold k0_pay6 second; pointwise
theorem pay1 (g : FVec Ideal S256x1024 .f32) (m : Vec Ideal S1x256x1024 .f32) (u : Fin 1) (p : Fin 256) (q : Fin 1024) :
    k0_pay1 (F := Ideal) (k0_pay5 g m) (ix3 u p q) = first (g (ix2 p q)) (m (ix3 0 p q)) := by
  unfold k0_pay1; pointwise [pay5]
theorem pay2 (g : FVec Ideal S256x1024 .f32) (v : Vec Ideal S1x256x1024 .f32) (u : Fin 1) (p : Fin 256) (q : Fin 1024) :
    k0_pay2 (F := Ideal) (k0_pay6 g v) (ix3 u p q) = second (g (ix2 p q)) (v (ix3 0 p q)) := by
  unfold k0_pay2; pointwise [pay6]
theorem pay7 (g : FVec Ideal S256x1024 .f32) (w m v : Vec Ideal S1x256x1024 .f32) (u : Fin 1) (p : Fin 256) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S2x256x1024.Idx) : val_main_v5 (F := Ideal) i = if (i 0).val = 0 then 1#1 else 0#1 := by
  have h : (i 0).val < 2 := (i 0).isLt
  rw [val_main_v5_apply, val_main_v3_apply, val_main_v4_apply, val_main_c_apply]
  generalize (i 0).val = n at h ⊢
  interval_cases n <;> rfl

theorem summed (x0 : (⟨S8x256x1024, .bf16⟩ : BufTy).Contents (Elt Ideal)) (l : Fin 2) (p : Fin 256) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x256x1024, .bf16⟩ : BufTy).Contents (Elt Ideal)) (x2 : (⟨S2x256x1024, .f32⟩ : BufTy).Contents (Elt Ideal)) (i : S2x256x1024.Idx) :
    val_main_v10 (F := Ideal) x0 x2 i = first (val_main_v2 (F := Ideal) x0 i) (x2 i) := rfl
theorem value16 (x0 : (⟨S8x256x1024, .bf16⟩ : BufTy).Contents (Elt Ideal)) (x3 : (⟨S2x256x1024, .f32⟩ : BufTy).Contents (Elt Ideal)) (i : S2x256x1024.Idx) :
    val_main_v16 (F := Ideal) x0 x3 i = second (val_main_v2 (F := Ideal) x0 i) (x3 i) := rfl
theorem value29 (x0 : (⟨S8x256x1024, .bf16⟩ : BufTy).Contents (Elt Ideal)) (x1 x2 x3 : (⟨S2x256x1024, .f32⟩ : BufTy).Contents (Elt Ideal)) (i : S2x256x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x256x1024, .bf16⟩ : BufTy).Contents (Elt Ideal)) (y : S1x256x1024.Idx) :
    k0_pay4 (F := Ideal) (grad x0) y = val_main_v2 (F := Ideal) x0 (ix3 0 (y 1) (y 2)) :=
  (congrArg (k0_pay4 (F := Ideal) (grad x0)) (eq_ix3 y)).trans ((pay4 _ _ _ _).trans ((grad_apply x0 (y 1) (y 2)).trans (summed x0 0 (y 1) (y 2)).symm))
theorem point5 (x0 : (⟨S8x256x1024, .bf16⟩ : BufTy).Contents (Elt Ideal)) (x1 x2 x3 : (⟨S2x256x1024, .f32⟩ : BufTy).Contents (Elt Ideal)) (y : S1x256x1024.Idx) :
    k0_pay7 (F := Ideal) (grad x0) (fun j : S1x256x1024.Idx => x1 (ix3 0 (j 1) (j 2))) (fun j : S1x256x1024.Idx => x2 (ix3 0 (j 1) (j 2))) (fun j : S1x256x1024.Idx => x3 (ix3 0 (j 1) (j 2))) y = val_main_v29 (F := Ideal) x0 x1 x2 x3 (ix3 0 (y 1) (y 2)) :=
  (congrArg (k0_pay7 (F := Ideal) (grad x0) (fun j : S1x256x1024.Idx => x1 (ix3 0 (j 1) (j 2))) (fun j : S1x256x1024.Idx => x2 (ix3 0 (j 1) (j 2))) (fun j : S1x256x1024.Idx => x3 (ix3 0 (j 1) (j 2)))) (eq_ix3 y)).trans ((pay7 _ _ _ _ _ _ _).trans
    ((congrArg (fun g => step g (x1 (ix3 0 (y 1) (y 2))) (x2 (ix3 0 (y 1) (y 2))) (x3 (ix3 0 (y 1) (y 2)))) ((grad_apply x0 (y 1) (y 2)).trans (summed x0 0 (y 1) (y 2)).symm)).trans (value29 _ _ _ _ _).symm))
theorem point6 (x0 : (⟨S8x256x1024, .bf16⟩ : BufTy).Contents (Elt Ideal)) (x2 : (⟨S2x256x1024, .f32⟩ : BufTy).Contents (Elt Ideal)) (y : S1x256x1024.Idx) :
    k0_pay1 (F := Ideal) (k0_pay5 (grad x0) (fun j : S1x256x1024.Idx => x2 (ix3 0 (j 1) (j 2)))) y = val_main_v10 (F := Ideal) x0 x2 (ix3 0 (y 1) (y 2)) :=
  (congrArg (k0_pay1 (F := Ideal) (k0_pay5 (grad x0) (fun j : S1x256x1024.Idx => x2 (ix3 0 (j 1) (j 2))))) (eq_ix3 y)).trans ((pay1 _ _ _ _ _).trans
    ((congrArg (fun g => first g (x2 (ix3 0 (y 1) (y 2)))) ((grad_apply x0 (y 1) (y 2)).trans (summed x0 0 (y 1) (y 2)).symm)).trans (value10 _ _ _).symm))
theorem point7 (x0 : (⟨S8x256x1024, .bf16⟩ : BufTy).Contents (Elt Ideal)) (x3 : (⟨S2x256x1024, .f32⟩ : BufTy).Contents (Elt Ideal)) (y : S1x256x1024.Idx) :
    k0_pay2 (F := Ideal) (k0_pay6 (grad x0) (fun j : S1x256x1024.Idx => x3 (ix3 0 (j 1) (j 2)))) y = val_main_v16 (F := Ideal) x0 x3 (ix3 0 (y 1) (y 2)) :=
  (congrArg (k0_pay2 (F := Ideal) (k0_pay6 (grad x0) (fun j : S1x256x1024.Idx => x3 (ix3 0 (j 1) (j 2))))) (eq_ix3 y)).trans ((pay2 _ _ _ _ _).trans
    ((congrArg (fun g => second g (x3 (ix3 0 (y 1) (y 2)))) ((grad_apply x0 (y 1) (y 2)).trans (summed x0 0 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x256x1024.Idx => m (c.tc.loc main_arg1) (ix3 0 (j 1) (j 2)) := by
  funext j
  refine congrArg (m (c.tc.loc main_arg1)) (?_ : ((win0_1).blk t).view.emb j = ix3 0 (j 1) (j 2))
  blk_ext [at1]
theorem iblk2 (t : Fin cfg0.N) : iblk m c 2 t = fun j : S1x256x1024.Idx => m (c.tc.loc main_arg2) (ix3 0 (j 1) (j 2)) := by
  funext j
  refine congrArg (m (c.tc.loc main_arg2)) (?_ : ((win0_2).blk t).view.emb j = ix3 0 (j 1) (j 2))
  blk_ext [at2]
theorem iblk3 (t : Fin cfg0.N) : iblk m c 3 t = fun j : S1x256x1024.Idx => m (c.tc.loc main_arg3) (ix3 0 (j 1) (j 2)) := by
  funext j
  refine congrArg (m (c.tc.loc main_arg3)) (?_ : ((win0_3).blk t).view.emb j = ix3 0 (j 1) (j 2))
  blk_ext [at3]

/-! The results after the kernel has run, in its layer: the new values. -/

theorem final4 (i : S2x256x1024.Idx) (h : (i 0).val = 0) : (dats m 0 c).arrAt 4 cfg0.N i = val_main_v31 (F := Ideal) (m (c.tc.loc main_arg0)) i := by
  refine ((dats m 0 c).arrAt_apply_of_coversWhere 4 (val_main_v2 (F := Ideal) (m (c.tc.loc main_arg0))) (fun β => β (0 : Fin _) = 0) (by decide +kernel)
    (P := fun i => (i 0 : ℕ) = 0) (fun t hf y => ?_) (fun j => ?_) i).trans ?_
  · have hy : (win0_4.blk t).view.emb y = ix3 0 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · rw [val_main_v31_apply, here, if_pos h, if_pos h]
    rfl

theorem final5 (i : S2x256x1024.Idx) (h : (i 0).val = 0) : (dats m 0 c).arrAt 5 cfg0.N i = val_main_v32 (F := Ideal) (m (c.tc.loc main_arg0)) (m (c.tc.loc main_arg1)) (m (c.tc.loc main_arg2)) (m (c.tc.loc main_arg3)) i := by
  refine ((dats m 0 c).arrAt_apply_of_coversWhere 5 (val_main_v29 (F := Ideal) (m (c.tc.loc main_arg0)) (m (c.tc.loc main_arg1)) (m (c.tc.loc main_arg2)) (m (c.tc.loc main_arg3))) (fun β => β (0 : Fin _) = 0) (by decide +kernel)
    (P := fun i => (i 0 : ℕ) = 0) (fun t hf y => ?_) (fun j => ?_) i).trans ?_
  · have hy : (win0_5.blk t).view.emb y = ix3 0 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · rw [val_main_v32_apply, here, if_pos h, if_pos h]
    rfl

theorem final6 (i : S2x256x1024.Idx) (h : (i 0).val = 0) : (dats m 0 c).arrAt 6 cfg0.N i = val_main_v33 (F := Ideal) (m (c.tc.loc main_arg0)) (m (c.tc.loc main_arg2)) i := by
  refine ((dats m 0 c).arrAt_apply_of_coversWhere 6 (val_main_v10 (F := Ideal) (m (c.tc.loc main_arg0)) (m (c.tc.loc main_arg2))) (fun β => β (0 : Fin _) = 0) (by decide +kernel)
    (P := fun i => (i 0 : ℕ) = 0) (fun t hf y => ?_) (fun j => ?_) i).trans ?_
  · have hy : (win0_6.blk t).view.emb y = ix3 0 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · rw [val_main_v33_apply, here, if_pos h, if_pos h]
    rfl

theorem final7 (i : S2x256x1024.Idx) (h : (i 0).val = 0) : (dats m 0 c).arrAt 7 cfg0.N i = val_main_v34 (F := Ideal) (m (c.tc.loc main_arg0)) (m (c.tc.loc main_arg3)) i := by
  refine ((dats m 0 c).arrAt_apply_of_coversWhere 7 (val_main_v16 (F := Ideal) (m (c.tc.loc main_arg0)) (m (c.tc.loc main_arg3))) (fun β => β (0 : Fin _) = 0) (by decide +kernel)
    (P := fun i => (i 0 : ℕ) = 0) (fun t hf y => ?_) (fun j => ?_) i).trans ?_
  · have hy : (win0_7.blk t).view.emb y = ix3 0 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · rw [val_main_v34_apply, here, if_pos h, if_pos h]
    rfl

/-- Where the claim speaks: the indices of the first layer. -/
theorem first_layer (i : S2x256x1024.Idx) (hv : val_main_v5 (F := Ideal) i = 1#1) : (i 0).val = 0 := by
  rw [here] at hv
  by_contra hn
  rw [if_neg hn] at hv
  exact absurd hv (by decide)

/-! The claims. -/

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem preserves : Cert.preserves_Kernel20_Kernel20Ideal := trivial

/-- In the first layer the kernel and the reference have the same results. -/
theorem algebraic : Cert.algebraic_Kernel20Ideal_Reference20Ideal_on_first_layer_Kernel20Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N,
    (θ_run Cert.Kernel20Ideal.defs _ _).mono (fun _ h c => ?_) (Cert.Kernel20Ideal.Value.run_blocks m ρ), ?_⟩
  · obtain ⟨h0, h1, h2, h3, hargs⟩ := h c
    exact ⟨fun i _ => congrFun h0 i, fun i _ => congrFun h1 i, fun i _ => congrFun h2 i, fun i _ => congrFun h3 i, hargs⟩
  refine (θ_run Cert.Reference20Ideal.defs _ _).mono (fun _ h c => ?_) (Cert.Reference20Ideal.Value.run (F := Ideal) m' ρ')
  obtain ⟨h0, h1, h2, h3, hargs⟩ := h c
  obtain ⟨a0, a1, a2, a3⟩ := hagree c
  refine ⟨fun i hi => (congrFun h0 i).trans ?_, fun i hi => (congrFun h1 i).trans ?_, fun i hi => (congrFun h2 i).trans ?_, fun i hi => (congrFun h3 i).trans ?_, hargs⟩
  · rw [val_main_v31_eq, a0]; exact (final4 m c i (first_layer i hi)).symm
  · rw [val_main_v32_eq, a0, a1, a2, a3]; exact (final5 m c i (first_layer i hi)).symm
  · rw [val_main_v33_eq, a0, a2]; exact (final6 m c i (first_layer i hi)).symm
  · rw [val_main_v34_eq, a0, a3]; exact (final7 m c i (first_layer i hi)).symm

end Cert.BigA0

end
-- ==== Proof.Opt.BigA1.lean ====
/-
  The AdamW step of the second of the 2 layers of a device's rows of w_out of the gated mixer. The gradient is the sum, in the format
  of the moments, of what eight devices sent; from it come the change of the weight and the two new moments. The kernel writes
  its layer into the results of the step before and keeps the rest of them, as the reference's choice by layer does.
-/
module

public import proofs.«01_k».proof.Defs
public import proofs.«01_k».proof.Proof.Opt.Scalar
public import proofs.«01_k».proof.Proof.Gen.Kernel21.Frame
public import proofs.«01_k».proof.Proof.Gen.Kernel21Ideal.Value
public import proofs.«01_k».proof.Proof.Gen.Reference21Ideal.Read
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigA1

open Idealize.ShloMosaic Idealize.ShloMosaic.TcCoe Idealize.SL.Sem
open Idealize.ShloMosaic.Pipeline (Dat)
open Cert.Kernel21Ideal Cert.Kernel21Ideal.Gen Cert.Reference21Ideal.Read Cert.AdamW

/-! Each slice the body loads: what one device sent. -/

abbrev r0_0 : Rect S8x256x1024 := Rect.unit (s := S8x256x1024) ![0, 0, 0] S1x256x1024.size (by decide)
theorem slice0 (d : Vec Ideal S8x256x1024 .bf16) (p : Fin 256) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x256x1024 := Rect.unit (s := S8x256x1024) ![1, 0, 0] S1x256x1024.size (by decide)
theorem slice1 (d : Vec Ideal S8x256x1024 .bf16) (p : Fin 256) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x256x1024 := Rect.unit (s := S8x256x1024) ![2, 0, 0] S1x256x1024.size (by decide)
theorem slice2 (d : Vec Ideal S8x256x1024 .bf16) (p : Fin 256) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x256x1024 := Rect.unit (s := S8x256x1024) ![3, 0, 0] S1x256x1024.size (by decide)
theorem slice3 (d : Vec Ideal S8x256x1024 .bf16) (p : Fin 256) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x256x1024 := Rect.unit (s := S8x256x1024) ![4, 0, 0] S1x256x1024.size (by decide)
theorem slice4 (d : Vec Ideal S8x256x1024 .bf16) (p : Fin 256) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x256x1024 := Rect.unit (s := S8x256x1024) ![5, 0, 0] S1x256x1024.size (by decide)
theorem slice5 (d : Vec Ideal S8x256x1024 .bf16) (p : Fin 256) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x256x1024 := Rect.unit (s := S8x256x1024) ![6, 0, 0] S1x256x1024.size (by decide)
theorem slice6 (d : Vec Ideal S8x256x1024 .bf16) (p : Fin 256) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x256x1024 := Rect.unit (s := S8x256x1024) ![7, 0, 0] S1x256x1024.size (by decide)
theorem slice7 (d : Vec Ideal S8x256x1024 .bf16) (p : Fin 256) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x256x1024 .bf16) (p : Fin 256) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x256x1024 .bf16) : FVec Ideal S256x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x256x1024 .bf16) (p : Fin 256) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S256x1024 .f32) (u : Fin 1) (p : Fin 256) (q : Fin 1024) : k0_pay4 (F := Ideal) g (ix3 u p q) = g (ix2 p q) := by
  unfold k0_pay4; pointwise
theorem pay5 (g : FVec Ideal S256x1024 .f32) (m : Vec Ideal S1x256x1024 .f32) (p : Fin 256) (q : Fin 1024) :
    k0_pay5 (F := Ideal) g m (ix2 p q) = first (g (ix2 p q)) (m (ix3 0 p q)) := by
  unfold k0_pay5 first; pointwise
theorem pay6 (g : FVec Ideal S256x1024 .f32) (v : Vec Ideal S1x256x1024 .f32) (p : Fin 256) (q : Fin 1024) :
    k0_pay6 (F := Ideal) g v (ix2 p q) = second (g (ix2 p q)) (v (ix3 0 p q)) := by
  unfold k0_pay6 second; pointwise
theorem pay1 (g : FVec Ideal S256x1024 .f32) (m : Vec Ideal S1x256x1024 .f32) (u : Fin 1) (p : Fin 256) (q : Fin 1024) :
    k0_pay1 (F := Ideal) (k0_pay5 g m) (ix3 u p q) = first (g (ix2 p q)) (m (ix3 0 p q)) := by
  unfold k0_pay1; pointwise [pay5]
theorem pay2 (g : FVec Ideal S256x1024 .f32) (v : Vec Ideal S1x256x1024 .f32) (u : Fin 1) (p : Fin 256) (q : Fin 1024) :
    k0_pay2 (F := Ideal) (k0_pay6 g v) (ix3 u p q) = second (g (ix2 p q)) (v (ix3 0 p q)) := by
  unfold k0_pay2; pointwise [pay6]
theorem pay7 (g : FVec Ideal S256x1024 .f32) (w m v : Vec Ideal S1x256x1024 .f32) (u : Fin 1) (p : Fin 256) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S2x256x1024.Idx) : val_main_v5 (F := Ideal) i = if (i 0).val = 1 then 1#1 else 0#1 := by
  have h : (i 0).val < 2 := (i 0).isLt
  rw [val_main_v5_apply, val_main_v3_apply, val_main_v4_apply, val_main_c_apply]
  generalize (i 0).val = n at h ⊢
  interval_cases n <;> rfl

theorem summed (x0 : (⟨S8x256x1024, .bf16⟩ : BufTy).Contents (Elt Ideal)) (l : Fin 2) (p : Fin 256) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x256x1024, .bf16⟩ : BufTy).Contents (Elt Ideal)) (x2 : (⟨S2x256x1024, .f32⟩ : BufTy).Contents (Elt Ideal)) (i : S2x256x1024.Idx) :
    val_main_v10 (F := Ideal) x0 x2 i = first (val_main_v2 (F := Ideal) x0 i) (x2 i) := rfl
theorem value16 (x0 : (⟨S8x256x1024, .bf16⟩ : BufTy).Contents (Elt Ideal)) (x3 : (⟨S2x256x1024, .f32⟩ : BufTy).Contents (Elt Ideal)) (i : S2x256x1024.Idx) :
    val_main_v16 (F := Ideal) x0 x3 i = second (val_main_v2 (F := Ideal) x0 i) (x3 i) := rfl
theorem value29 (x0 : (⟨S8x256x1024, .bf16⟩ : BufTy).Contents (Elt Ideal)) (x1 x2 x3 : (⟨S2x256x1024, .f32⟩ : BufTy).Contents (Elt Ideal)) (i : S2x256x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x256x1024, .bf16⟩ : BufTy).Contents (Elt Ideal)) (y : S1x256x1024.Idx) :
    k0_pay4 (F := Ideal) (grad x0) y = val_main_v2 (F := Ideal) x0 (ix3 1 (y 1) (y 2)) :=
  (congrArg (k0_pay4 (F := Ideal) (grad x0)) (eq_ix3 y)).trans ((pay4 _ _ _ _).trans ((grad_apply x0 (y 1) (y 2)).trans (summed x0 1 (y 1) (y 2)).symm))
theorem point5 (x0 : (⟨S8x256x1024, .bf16⟩ : BufTy).Contents (Elt Ideal)) (x1 x2 x3 : (⟨S2x256x1024, .f32⟩ : BufTy).Contents (Elt Ideal)) (y : S1x256x1024.Idx) :
    k0_pay7 (F := Ideal) (grad x0) (fun j : S1x256x1024.Idx => x1 (ix3 1 (j 1) (j 2))) (fun j : S1x256x1024.Idx => x2 (ix3 1 (j 1) (j 2))) (fun j : S1x256x1024.Idx => x3 (ix3 1 (j 1) (j 2))) y = val_main_v29 (F := Ideal) x0 x1 x2 x3 (ix3 1 (y 1) (y 2)) :=
  (congrArg (k0_pay7 (F := Ideal) (grad x0) (fun j : S1x256x1024.Idx => x1 (ix3 1 (j 1) (j 2))) (fun j : S1x256x1024.Idx => x2 (ix3 1 (j 1) (j 2))) (fun j : S1x256x1024.Idx => x3 (ix3 1 (j 1) (j 2)))) (eq_ix3 y)).trans ((pay7 _ _ _ _ _ _ _).trans
    ((congrArg (fun g => step g (x1 (ix3 1 (y 1) (y 2))) (x2 (ix3 1 (y 1) (y 2))) (x3 (ix3 1 (y 1) (y 2)))) ((grad_apply x0 (y 1) (y 2)).trans (summed x0 1 (y 1) (y 2)).symm)).trans (value29 _ _ _ _ _).symm))
theorem point6 (x0 : (⟨S8x256x1024, .bf16⟩ : BufTy).Contents (Elt Ideal)) (x2 : (⟨S2x256x1024, .f32⟩ : BufTy).Contents (Elt Ideal)) (y : S1x256x1024.Idx) :
    k0_pay1 (F := Ideal) (k0_pay5 (grad x0) (fun j : S1x256x1024.Idx => x2 (ix3 1 (j 1) (j 2)))) y = val_main_v10 (F := Ideal) x0 x2 (ix3 1 (y 1) (y 2)) :=
  (congrArg (k0_pay1 (F := Ideal) (k0_pay5 (grad x0) (fun j : S1x256x1024.Idx => x2 (ix3 1 (j 1) (j 2))))) (eq_ix3 y)).trans ((pay1 _ _ _ _ _).trans
    ((congrArg (fun g => first g (x2 (ix3 1 (y 1) (y 2)))) ((grad_apply x0 (y 1) (y 2)).trans (summed x0 1 (y 1) (y 2)).symm)).trans (value10 _ _ _).symm))
theorem point7 (x0 : (⟨S8x256x1024, .bf16⟩ : BufTy).Contents (Elt Ideal)) (x3 : (⟨S2x256x1024, .f32⟩ : BufTy).Contents (Elt Ideal)) (y : S1x256x1024.Idx) :
    k0_pay2 (F := Ideal) (k0_pay6 (grad x0) (fun j : S1x256x1024.Idx => x3 (ix3 1 (j 1) (j 2)))) y = val_main_v16 (F := Ideal) x0 x3 (ix3 1 (y 1) (y 2)) :=
  (congrArg (k0_pay2 (F := Ideal) (k0_pay6 (grad x0) (fun j : S1x256x1024.Idx => x3 (ix3 1 (j 1) (j 2))))) (eq_ix3 y)).trans ((pay2 _ _ _ _ _).trans
    ((congrArg (fun g => second g (x3 (ix3 1 (y 1) (y 2)))) ((grad_apply x0 (y 1) (y 2)).trans (summed x0 1 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![1, 0, 0] := (by decide +kernel : ∀ t : Fin grid0.N, _)
theorem at2 : ∀ t : Fin cfg0.N, win0_2.index t = ![1, 0, 0] := (by decide +kernel : ∀ t : Fin grid0.N, _)
theorem at3 : ∀ t : Fin cfg0.N, win0_3.index t = ![1, 0, 0] := (by decide +kernel : ∀ t : Fin grid0.N, _)
theorem at4 : ∀ t : Fin cfg0.N, win0_4.index t = ![1, 0, 0] := (by decide +kernel : ∀ t : Fin grid0.N, _)
theorem at5 : ∀ t : Fin cfg0.N, win0_5.index t = ![1, 0, 0] := (by decide +kernel : ∀ t : Fin grid0.N, _)
theorem at6 : ∀ t : Fin cfg0.N, win0_6.index t = ![1, 0, 0] := (by decide +kernel : ∀ t : Fin grid0.N, _)
theorem at7 : ∀ t : Fin cfg0.N, win0_7.index t = ![1, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x256x1024.Idx => m (c.tc.loc main_arg1) (ix3 1 (j 1) (j 2)) := by
  funext j
  refine congrArg (m (c.tc.loc main_arg1)) (?_ : ((win0_1).blk t).view.emb j = ix3 1 (j 1) (j 2))
  blk_ext [at1]
theorem iblk2 (t : Fin cfg0.N) : iblk m c 2 t = fun j : S1x256x1024.Idx => m (c.tc.loc main_arg2) (ix3 1 (j 1) (j 2)) := by
  funext j
  refine congrArg (m (c.tc.loc main_arg2)) (?_ : ((win0_2).blk t).view.emb j = ix3 1 (j 1) (j 2))
  blk_ext [at2]
theorem iblk3 (t : Fin cfg0.N) : iblk m c 3 t = fun j : S1x256x1024.Idx => m (c.tc.loc main_arg3) (ix3 1 (j 1) (j 2)) := by
  funext j
  refine congrArg (m (c.tc.loc main_arg3)) (?_ : ((win0_3).blk t).view.emb j = ix3 1 (j 1) (j 2))
  blk_ext [at3]

/-! The arrays that the kernel writes over: its results after the layers before this one. -/

theorem V4 : V m c main_v0_0 = m (c.tc.loc main_arg4) := by
  unfold_abbrev_sides; after_results; rfl
theorem V5 : V m c main_v0_1 = m (c.tc.loc main_arg5) := by
  unfold_abbrev_sides; after_results; rfl
theorem V6 : V m c main_v0_2 = m (c.tc.loc main_arg6) := by
  unfold_abbrev_sides; after_results; rfl
theorem V7 : V m c main_v0_3 = m (c.tc.loc main_arg7) := by
  unfold_abbrev_sides; after_results; rfl

/-! The results after the kernel has run: in its layer the new values, elsewhere what was there before. -/

theorem final4 : (dats m 0 c).arrAt 4 cfg0.N = val_main_v30 (F := Ideal) (m (c.tc.loc main_arg0)) (m (c.tc.loc main_arg4)) := by
  refine ((dats m 0 c).arrAt_eq_of_coversWhere 4 (val_main_v2 (F := Ideal) (m (c.tc.loc main_arg0))) (fun β => β (0 : Fin _) = 1) (by decide +kernel)
    (P := fun i => (i 0 : ℕ) = 1) (fun t hf y => ?_) (fun j => ?_)).trans ?_
  · have hy : (win0_4.blk t).view.emb y = ix3 1 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · funext i
    rw [val_main_v30_apply, here]
    split_ifs with h
    · rfl
    · exact congrFun ((A_eq m c 4).trans (V4 m c)) i

theorem final5 : (dats m 0 c).arrAt 5 cfg0.N = val_main_v31 (F := Ideal) (m (c.tc.loc main_arg0)) (m (c.tc.loc main_arg1)) (m (c.tc.loc main_arg2)) (m (c.tc.loc main_arg3)) (m (c.tc.loc main_arg5)) := by
  refine ((dats m 0 c).arrAt_eq_of_coversWhere 5 (val_main_v29 (F := Ideal) (m (c.tc.loc main_arg0)) (m (c.tc.loc main_arg1)) (m (c.tc.loc main_arg2)) (m (c.tc.loc main_arg3))) (fun β => β (0 : Fin _) = 1) (by decide +kernel)
    (P := fun i => (i 0 : ℕ) = 1) (fun t hf y => ?_) (fun j => ?_)).trans ?_
  · have hy : (win0_5.blk t).view.emb y = ix3 1 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · funext i
    rw [val_main_v31_apply, here]
    split_ifs with h
    · rfl
    · exact congrFun ((A_eq m c 5).trans (V5 m c)) i

theorem final6 : (dats m 0 c).arrAt 6 cfg0.N = val_main_v32 (F := Ideal) (m (c.tc.loc main_arg0)) (m (c.tc.loc main_arg2)) (m (c.tc.loc main_arg6)) := by
  refine ((dats m 0 c).arrAt_eq_of_coversWhere 6 (val_main_v10 (F := Ideal) (m (c.tc.loc main_arg0)) (m (c.tc.loc main_arg2))) (fun β => β (0 : Fin _) = 1) (by decide +kernel)
    (P := fun i => (i 0 : ℕ) = 1) (fun t hf y => ?_) (fun j => ?_)).trans ?_
  · have hy : (win0_6.blk t).view.emb y = ix3 1 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · funext i
    rw [val_main_v32_apply, here]
    split_ifs with h
    · rfl
    · exact congrFun ((A_eq m c 6).trans (V6 m c)) i

theorem final7 : (dats m 0 c).arrAt 7 cfg0.N = val_main_v33 (F := Ideal) (m (c.tc.loc main_arg0)) (m (c.tc.loc main_arg3)) (m (c.tc.loc main_arg7)) := by
  refine ((dats m 0 c).arrAt_eq_of_coversWhere 7 (val_main_v16 (F := Ideal) (m (c.tc.loc main_arg0)) (m (c.tc.loc main_arg3))) (fun β => β (0 : Fin _) = 1) (by decide +kernel)
    (P := fun i => (i 0 : ℕ) = 1) (fun t hf y => ?_) (fun j => ?_)).trans ?_
  · have hy : (win0_7.blk t).view.emb y = ix3 1 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · funext i
    rw [val_main_v33_apply, here]
    split_ifs with h
    · rfl
    · exact congrFun ((A_eq m c 7).trans (V7 m c)) i

/-! The claims. -/

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem preserves : Cert.preserves_Kernel21_Kernel21Ideal := trivial

/-- The kernel and the reference have the same results. -/
theorem algebraic : Cert.algebraic_Kernel21Ideal_Reference21Ideal := by
  intro m ρ m' ρ' _ hagree
  refine ⟨_, _, _, _, Cert.Kernel21Ideal.Value.run_blocks m ρ, ?_⟩
  refine (θ_run Cert.Reference21Ideal.defs _ _).mono (fun _ h c => ?_) (Cert.Reference21Ideal.Value.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [val_main_v30_eq, a0, a4]; exact (final4 m c).symm
  · rw [val_main_v31_eq, a0, a1, a2, a3, a5]; exact (final5 m c).symm
  · rw [val_main_v32_eq, a0, a2, a6]; exact (final6 m c).symm
  · rw [val_main_v33_eq, a0, a3, a7]; exact (final7 m c).symm

end Cert.BigA1

end
-- ==== Proof.Opt.BigB0.lean ====
/-
  The AdamW step of the first of the 2 layers of a device's rows of w_out of the recurrent mixer. The gradient is the sum, in the format
  of the moments, of what eight devices sent; from it come the change of the weight and the two new moments. The kernel writes
  only its layer of the four results, so the claim is about the indices of that layer.
-/
module

public import proofs.«01_k».proof.Defs
public import proofs.«01_k».proof.Proof.Opt.Scalar
public import proofs.«01_k».proof.Proof.Gen.Kernel22.Frame
public import proofs.«01_k».proof.Proof.Gen.Kernel22Ideal.Value
public import proofs.«01_k».proof.Proof.Gen.Reference22Ideal.Read
public import proofs.«01_k».proof.Proof.Gen.On_first_layer_Kernel22Ideal
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigB0

open Idealize.ShloMosaic Idealize.ShloMosaic.TcCoe Idealize.SL.Sem
open Idealize.ShloMosaic.Pipeline (Dat)
open Cert.Kernel22Ideal Cert.Kernel22Ideal.Gen Cert.Reference22Ideal.Read Cert.AdamW

/-! Each slice the body loads: what one device sent. -/

abbrev r0_0 : Rect S8x128x1024 := Rect.unit (s := S8x128x1024) ![0, 0, 0] S1x128x1024.size (by decide)
theorem slice0 (d : Vec Ideal S8x128x1024 .bf16) (p : Fin 128) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x128x1024 := Rect.unit (s := S8x128x1024) ![1, 0, 0] S1x128x1024.size (by decide)
theorem slice1 (d : Vec Ideal S8x128x1024 .bf16) (p : Fin 128) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x128x1024 := Rect.unit (s := S8x128x1024) ![2, 0, 0] S1x128x1024.size (by decide)
theorem slice2 (d : Vec Ideal S8x128x1024 .bf16) (p : Fin 128) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x128x1024 := Rect.unit (s := S8x128x1024) ![3, 0, 0] S1x128x1024.size (by decide)
theorem slice3 (d : Vec Ideal S8x128x1024 .bf16) (p : Fin 128) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x128x1024 := Rect.unit (s := S8x128x1024) ![4, 0, 0] S1x128x1024.size (by decide)
theorem slice4 (d : Vec Ideal S8x128x1024 .bf16) (p : Fin 128) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x128x1024 := Rect.unit (s := S8x128x1024) ![5, 0, 0] S1x128x1024.size (by decide)
theorem slice5 (d : Vec Ideal S8x128x1024 .bf16) (p : Fin 128) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x128x1024 := Rect.unit (s := S8x128x1024) ![6, 0, 0] S1x128x1024.size (by decide)
theorem slice6 (d : Vec Ideal S8x128x1024 .bf16) (p : Fin 128) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x128x1024 := Rect.unit (s := S8x128x1024) ![7, 0, 0] S1x128x1024.size (by decide)
theorem slice7 (d : Vec Ideal S8x128x1024 .bf16) (p : Fin 128) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x128x1024 .bf16) (p : Fin 128) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x128x1024 .bf16) : FVec Ideal S128x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x128x1024 .bf16) (p : Fin 128) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S128x1024 .f32) (u : Fin 1) (p : Fin 128) (q : Fin 1024) : k0_pay4 (F := Ideal) g (ix3 u p q) = g (ix2 p q) := by
  unfold k0_pay4; pointwise
theorem pay5 (g : FVec Ideal S128x1024 .f32) (m : Vec Ideal S1x128x1024 .f32) (p : Fin 128) (q : Fin 1024) :
    k0_pay5 (F := Ideal) g m (ix2 p q) = first (g (ix2 p q)) (m (ix3 0 p q)) := by
  unfold k0_pay5 first; pointwise
theorem pay6 (g : FVec Ideal S128x1024 .f32) (v : Vec Ideal S1x128x1024 .f32) (p : Fin 128) (q : Fin 1024) :
    k0_pay6 (F := Ideal) g v (ix2 p q) = second (g (ix2 p q)) (v (ix3 0 p q)) := by
  unfold k0_pay6 second; pointwise
theorem pay1 (g : FVec Ideal S128x1024 .f32) (m : Vec Ideal S1x128x1024 .f32) (u : Fin 1) (p : Fin 128) (q : Fin 1024) :
    k0_pay1 (F := Ideal) (k0_pay5 g m) (ix3 u p q) = first (g (ix2 p q)) (m (ix3 0 p q)) := by
  unfold k0_pay1; pointwise [pay5]
theorem pay2 (g : FVec Ideal S128x1024 .f32) (v : Vec Ideal S1x128x1024 .f32) (u : Fin 1) (p : Fin 128) (q : Fin 1024) :
    k0_pay2 (F := Ideal) (k0_pay6 g v) (ix3 u p q) = second (g (ix2 p q)) (v (ix3 0 p q)) := by
  unfold k0_pay2; pointwise [pay6]
theorem pay7 (g : FVec Ideal S128x1024 .f32) (w m v : Vec Ideal S1x128x1024 .f32) (u : Fin 1) (p : Fin 128) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S2x128x1024.Idx) : val_main_v5 (F := Ideal) i = if (i 0).val = 0 then 1#1 else 0#1 := by
  have h : (i 0).val < 2 := (i 0).isLt
  rw [val_main_v5_apply, val_main_v3_apply, val_main_v4_apply, val_main_c_apply]
  generalize (i 0).val = n at h ⊢
  interval_cases n <;> rfl

theorem summed (x0 : (⟨S8x128x1024, .bf16⟩ : BufTy).Contents (Elt Ideal)) (l : Fin 2) (p : Fin 128) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x128x1024, .bf16⟩ : BufTy).Contents (Elt Ideal)) (x2 : (⟨S2x128x1024, .f32⟩ : BufTy).Contents (Elt Ideal)) (i : S2x128x1024.Idx) :
    val_main_v10 (F := Ideal) x0 x2 i = first (val_main_v2 (F := Ideal) x0 i) (x2 i) := rfl
theorem value16 (x0 : (⟨S8x128x1024, .bf16⟩ : BufTy).Contents (Elt Ideal)) (x3 : (⟨S2x128x1024, .f32⟩ : BufTy).Contents (Elt Ideal)) (i : S2x128x1024.Idx) :
    val_main_v16 (F := Ideal) x0 x3 i = second (val_main_v2 (F := Ideal) x0 i) (x3 i) := rfl
theorem value29 (x0 : (⟨S8x128x1024, .bf16⟩ : BufTy).Contents (Elt Ideal)) (x1 x2 x3 : (⟨S2x128x1024, .f32⟩ : BufTy).Contents (Elt Ideal)) (i : S2x128x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x128x1024, .bf16⟩ : BufTy).Contents (Elt Ideal)) (y : S1x128x1024.Idx) :
    k0_pay4 (F := Ideal) (grad x0) y = val_main_v2 (F := Ideal) x0 (ix3 0 (y 1) (y 2)) :=
  (congrArg (k0_pay4 (F := Ideal) (grad x0)) (eq_ix3 y)).trans ((pay4 _ _ _ _).trans ((grad_apply x0 (y 1) (y 2)).trans (summed x0 0 (y 1) (y 2)).symm))
theorem point5 (x0 : (⟨S8x128x1024, .bf16⟩ : BufTy).Contents (Elt Ideal)) (x1 x2 x3 : (⟨S2x128x1024, .f32⟩ : BufTy).Contents (Elt Ideal)) (y : S1x128x1024.Idx) :
    k0_pay7 (F := Ideal) (grad x0) (fun j : S1x128x1024.Idx => x1 (ix3 0 (j 1) (j 2))) (fun j : S1x128x1024.Idx => x2 (ix3 0 (j 1) (j 2))) (fun j : S1x128x1024.Idx => x3 (ix3 0 (j 1) (j 2))) y = val_main_v29 (F := Ideal) x0 x1 x2 x3 (ix3 0 (y 1) (y 2)) :=
  (congrArg (k0_pay7 (F := Ideal) (grad x0) (fun j : S1x128x1024.Idx => x1 (ix3 0 (j 1) (j 2))) (fun j : S1x128x1024.Idx => x2 (ix3 0 (j 1) (j 2))) (fun j : S1x128x1024.Idx => x3 (ix3 0 (j 1) (j 2)))) (eq_ix3 y)).trans ((pay7 _ _ _ _ _ _ _).trans
    ((congrArg (fun g => step g (x1 (ix3 0 (y 1) (y 2))) (x2 (ix3 0 (y 1) (y 2))) (x3 (ix3 0 (y 1) (y 2)))) ((grad_apply x0 (y 1) (y 2)).trans (summed x0 0 (y 1) (y 2)).symm)).trans (value29 _ _ _ _ _).symm))
theorem point6 (x0 : (⟨S8x128x1024, .bf16⟩ : BufTy).Contents (Elt Ideal)) (x2 : (⟨S2x128x1024, .f32⟩ : BufTy).Contents (Elt Ideal)) (y : S1x128x1024.Idx) :
    k0_pay1 (F := Ideal) (k0_pay5 (grad x0) (fun j : S1x128x1024.Idx => x2 (ix3 0 (j 1) (j 2)))) y = val_main_v10 (F := Ideal) x0 x2 (ix3 0 (y 1) (y 2)) :=
  (congrArg (k0_pay1 (F := Ideal) (k0_pay5 (grad x0) (fun j : S1x128x1024.Idx => x2 (ix3 0 (j 1) (j 2))))) (eq_ix3 y)).trans ((pay1 _ _ _ _ _).trans
    ((congrArg (fun g => first g (x2 (ix3 0 (y 1) (y 2)))) ((grad_apply x0 (y 1) (y 2)).trans (summed x0 0 (y 1) (y 2)).symm)).trans (value10 _ _ _).symm))
theorem point7 (x0 : (⟨S8x128x1024, .bf16⟩ : BufTy).Contents (Elt Ideal)) (x3 : (⟨S2x128x1024, .f32⟩ : BufTy).Contents (Elt Ideal)) (y : S1x128x1024.Idx) :
    k0_pay2 (F := Ideal) (k0_pay6 (grad x0) (fun j : S1x128x1024.Idx => x3 (ix3 0 (j 1) (j 2)))) y = val_main_v16 (F := Ideal) x0 x3 (ix3 0 (y 1) (y 2)) :=
  (congrArg (k0_pay2 (F := Ideal) (k0_pay6 (grad x0) (fun j : S1x128x1024.Idx => x3 (ix3 0 (j 1) (j 2))))) (eq_ix3 y)).trans ((pay2 _ _ _ _ _).trans
    ((congrArg (fun g => second g (x3 (ix3 0 (y 1) (y 2)))) ((grad_apply x0 (y 1) (y 2)).trans (summed x0 0 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x128x1024.Idx => m (c.tc.loc main_arg1) (ix3 0 (j 1) (j 2)) := by
  funext j
  refine congrArg (m (c.tc.loc main_arg1)) (?_ : ((win0_1).blk t).view.emb j = ix3 0 (j 1) (j 2))
  blk_ext [at1]
theorem iblk2 (t : Fin cfg0.N) : iblk m c 2 t = fun j : S1x128x1024.Idx => m (c.tc.loc main_arg2) (ix3 0 (j 1) (j 2)) := by
  funext j
  refine congrArg (m (c.tc.loc main_arg2)) (?_ : ((win0_2).blk t).view.emb j = ix3 0 (j 1) (j 2))
  blk_ext [at2]
theorem iblk3 (t : Fin cfg0.N) : iblk m c 3 t = fun j : S1x128x1024.Idx => m (c.tc.loc main_arg3) (ix3 0 (j 1) (j 2)) := by
  funext j
  refine congrArg (m (c.tc.loc main_arg3)) (?_ : ((win0_3).blk t).view.emb j = ix3 0 (j 1) (j 2))
  blk_ext [at3]

/-! The results after the kernel has run, in its layer: the new values. -/

theorem final4 (i : S2x128x1024.Idx) (h : (i 0).val = 0) : (dats m 0 c).arrAt 4 cfg0.N i = val_main_v31 (F := Ideal) (m (c.tc.loc main_arg0)) i := by
  refine ((dats m 0 c).arrAt_apply_of_coversWhere 4 (val_main_v2 (F := Ideal) (m (c.tc.loc main_arg0))) (fun β => β (0 : Fin _) = 0) (by decide +kernel)
    (P := fun i => (i 0 : ℕ) = 0) (fun t hf y => ?_) (fun j => ?_) i).trans ?_
  · have hy : (win0_4.blk t).view.emb y = ix3 0 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · rw [val_main_v31_apply, here, if_pos h, if_pos h]
    rfl

theorem final5 (i : S2x128x1024.Idx) (h : (i 0).val = 0) : (dats m 0 c).arrAt 5 cfg0.N i = val_main_v32 (F := Ideal) (m (c.tc.loc main_arg0)) (m (c.tc.loc main_arg1)) (m (c.tc.loc main_arg2)) (m (c.tc.loc main_arg3)) i := by
  refine ((dats m 0 c).arrAt_apply_of_coversWhere 5 (val_main_v29 (F := Ideal) (m (c.tc.loc main_arg0)) (m (c.tc.loc main_arg1)) (m (c.tc.loc main_arg2)) (m (c.tc.loc main_arg3))) (fun β => β (0 : Fin _) = 0) (by decide +kernel)
    (P := fun i => (i 0 : ℕ) = 0) (fun t hf y => ?_) (fun j => ?_) i).trans ?_
  · have hy : (win0_5.blk t).view.emb y = ix3 0 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · rw [val_main_v32_apply, here, if_pos h, if_pos h]
    rfl

theorem final6 (i : S2x128x1024.Idx) (h : (i 0).val = 0) : (dats m 0 c).arrAt 6 cfg0.N i = val_main_v33 (F := Ideal) (m (c.tc.loc main_arg0)) (m (c.tc.loc main_arg2)) i := by
  refine ((dats m 0 c).arrAt_apply_of_coversWhere 6 (val_main_v10 (F := Ideal) (m (c.tc.loc main_arg0)) (m (c.tc.loc main_arg2))) (fun β => β (0 : Fin _) = 0) (by decide +kernel)
    (P := fun i => (i 0 : ℕ) = 0) (fun t hf y => ?_) (fun j => ?_) i).trans ?_
  · have hy : (win0_6.blk t).view.emb y = ix3 0 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · rw [val_main_v33_apply, here, if_pos h, if_pos h]
    rfl

theorem final7 (i : S2x128x1024.Idx) (h : (i 0).val = 0) : (dats m 0 c).arrAt 7 cfg0.N i = val_main_v34 (F := Ideal) (m (c.tc.loc main_arg0)) (m (c.tc.loc main_arg3)) i := by
  refine ((dats m 0 c).arrAt_apply_of_coversWhere 7 (val_main_v16 (F := Ideal) (m (c.tc.loc main_arg0)) (m (c.tc.loc main_arg3))) (fun β => β (0 : Fin _) = 0) (by decide +kernel)
    (P := fun i => (i 0 : ℕ) = 0) (fun t hf y => ?_) (fun j => ?_) i).trans ?_
  · have hy : (win0_7.blk t).view.emb y = ix3 0 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · rw [val_main_v34_apply, here, if_pos h, if_pos h]
    rfl

/-- Where the claim speaks: the indices of the first layer. -/
theorem first_layer (i : S2x128x1024.Idx) (hv : val_main_v5 (F := Ideal) i = 1#1) : (i 0).val = 0 := by
  rw [here] at hv
  by_contra hn
  rw [if_neg hn] at hv
  exact absurd hv (by decide)

/-! The claims. -/

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem preserves : Cert.preserves_Kernel22_Kernel22Ideal := trivial

/-- In the first layer the kernel and the reference have the same results. -/
theorem algebraic : Cert.algebraic_Kernel22Ideal_Reference22Ideal_on_first_layer_Kernel22Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N,
    (θ_run Cert.Kernel22Ideal.defs _ _).mono (fun _ h c => ?_) (Cert.Kernel22Ideal.Value.run_blocks m ρ), ?_⟩
  · obtain ⟨h0, h1, h2, h3, hargs⟩ := h c
    exact ⟨fun i _ => congrFun h0 i, fun i _ => congrFun h1 i, fun i _ => congrFun h2 i, fun i _ => congrFun h3 i, hargs⟩
  refine (θ_run Cert.Reference22Ideal.defs _ _).mono (fun _ h c => ?_) (Cert.Reference22Ideal.Value.run (F := Ideal) m' ρ')
  obtain ⟨h0, h1, h2, h3, hargs⟩ := h c
  obtain ⟨a0, a1, a2, a3⟩ := hagree c
  refine ⟨fun i hi => (congrFun h0 i).trans ?_, fun i hi => (congrFun h1 i).trans ?_, fun i hi => (congrFun h2 i).trans ?_, fun i hi => (congrFun h3 i).trans ?_, hargs⟩
  · rw [val_main_v31_eq, a0]; exact (final4 m c i (first_layer i hi)).symm
  · rw [val_main_v32_eq, a0, a1, a2, a3]; exact (final5 m c i (first_layer i hi)).symm
  · rw [val_main_v33_eq, a0, a2]; exact (final6 m c i (first_layer i hi)).symm
  · rw [val_main_v34_eq, a0, a3]; exact (final7 m c i (first_layer i hi)).symm

end Cert.BigB0

end
-- ==== Proof.Opt.BigB1.lean ====
/-
  The AdamW step of the second of the 2 layers of a device's rows of w_out of the recurrent mixer. The gradient is the sum, in the format
  of the moments, of what eight devices sent; from it come the change of the weight and the two new moments. The kernel writes
  its layer into the results of the step before and keeps the rest of them, as the reference's choice by layer does.
-/
module

public import proofs.«01_k».proof.Defs
public import proofs.«01_k».proof.Proof.Opt.Scalar
public import proofs.«01_k».proof.Proof.Gen.Kernel23.Frame
public import proofs.«01_k».proof.Proof.Gen.Kernel23Ideal.Value
public import proofs.«01_k».proof.Proof.Gen.Reference23Ideal.Read
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigB1

open Idealize.ShloMosaic Idealize.ShloMosaic.TcCoe Idealize.SL.Sem
open Idealize.ShloMosaic.Pipeline (Dat)
open Cert.Kernel23Ideal Cert.Kernel23Ideal.Gen Cert.Reference23Ideal.Read Cert.AdamW

/-! Each slice the body loads: what one device sent. -/

abbrev r0_0 : Rect S8x128x1024 := Rect.unit (s := S8x128x1024) ![0, 0, 0] S1x128x1024.size (by decide)
theorem slice0 (d : Vec Ideal S8x128x1024 .bf16) (p : Fin 128) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x128x1024 := Rect.unit (s := S8x128x1024) ![1, 0, 0] S1x128x1024.size (by decide)
theorem slice1 (d : Vec Ideal S8x128x1024 .bf16) (p : Fin 128) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x128x1024 := Rect.unit (s := S8x128x1024) ![2, 0, 0] S1x128x1024.size (by decide)
theorem slice2 (d : Vec Ideal S8x128x1024 .bf16) (p : Fin 128) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x128x1024 := Rect.unit (s := S8x128x1024) ![3, 0, 0] S1x128x1024.size (by decide)
theorem slice3 (d : Vec Ideal S8x128x1024 .bf16) (p : Fin 128) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x128x1024 := Rect.unit (s := S8x128x1024) ![4, 0, 0] S1x128x1024.size (by decide)
theorem slice4 (d : Vec Ideal S8x128x1024 .bf16) (p : Fin 128) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x128x1024 := Rect.unit (s := S8x128x1024) ![5, 0, 0] S1x128x1024.size (by decide)
theorem slice5 (d : Vec Ideal S8x128x1024 .bf16) (p : Fin 128) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x128x1024 := Rect.unit (s := S8x128x1024) ![6, 0, 0] S1x128x1024.size (by decide)
theorem slice6 (d : Vec Ideal S8x128x1024 .bf16) (p : Fin 128) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x128x1024 := Rect.unit (s := S8x128x1024) ![7, 0, 0] S1x128x1024.size (by decide)
theorem slice7 (d : Vec Ideal S8x128x1024 .bf16) (p : Fin 128) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x128x1024 .bf16) (p : Fin 128) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x128x1024 .bf16) : FVec Ideal S128x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x128x1024 .bf16) (p : Fin 128) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S128x1024 .f32) (u : Fin 1) (p : Fin 128) (q : Fin 1024) : k0_pay4 (F := Ideal) g (ix3 u p q) = g (ix2 p q) := by
  unfold k0_pay4; pointwise
theorem pay5 (g : FVec Ideal S128x1024 .f32) (m : Vec Ideal S1x128x1024 .f32) (p : Fin 128) (q : Fin 1024) :
    k0_pay5 (F := Ideal) g m (ix2 p q) = first (g (ix2 p q)) (m (ix3 0 p q)) := by
  unfold k0_pay5 first; pointwise
theorem pay6 (g : FVec Ideal S128x1024 .f32) (v : Vec Ideal S1x128x1024 .f32) (p : Fin 128) (q : Fin 1024) :
    k0_pay6 (F := Ideal) g v (ix2 p q) = second (g (ix2 p q)) (v (ix3 0 p q)) := by
  unfold k0_pay6 second; pointwise
theorem pay1 (g : FVec Ideal S128x1024 .f32) (m : Vec Ideal S1x128x1024 .f32) (u : Fin 1) (p : Fin 128) (q : Fin 1024) :
    k0_pay1 (F := Ideal) (k0_pay5 g m) (ix3 u p q) = first (g (ix2 p q)) (m (ix3 0 p q)) := by
  unfold k0_pay1; pointwise [pay5]
theorem pay2 (g : FVec Ideal S128x1024 .f32) (v : Vec Ideal S1x128x1024 .f32) (u : Fin 1) (p : Fin 128) (q : Fin 1024) :
    k0_pay2 (F := Ideal) (k0_pay6 g v) (ix3 u p q) = second (g (ix2 p q)) (v (ix3 0 p q)) := by
  unfold k0_pay2; pointwise [pay6]
theorem pay7 (g : FVec Ideal S128x1024 .f32) (w m v : Vec Ideal S1x128x1024 .f32) (u : Fin 1) (p : Fin 128) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S2x128x1024.Idx) : val_main_v5 (F := Ideal) i = if (i 0).val = 1 then 1#1 else 0#1 := by
  have h : (i 0).val < 2 := (i 0).isLt
  rw [val_main_v5_apply, val_main_v3_apply, val_main_v4_apply, val_main_c_apply]
  generalize (i 0).val = n at h ⊢
  interval_cases n <;> rfl

theorem summed (x0 : (⟨S8x128x1024, .bf16⟩ : BufTy).Contents (Elt Ideal)) (l : Fin 2) (p : Fin 128) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x128x1024, .bf16⟩ : BufTy).Contents (Elt Ideal)) (x2 : (⟨S2x128x1024, .f32⟩ : BufTy).Contents (Elt Ideal)) (i : S2x128x1024.Idx) :
    val_main_v10 (F := Ideal) x0 x2 i = first (val_main_v2 (F := Ideal) x0 i) (x2 i) := rfl
theorem value16 (x0 : (⟨S8x128x1024, .bf16⟩ : BufTy).Contents (Elt Ideal)) (x3 : (⟨S2x128x1024, .f32⟩ : BufTy).Contents (Elt Ideal)) (i : S2x128x1024.Idx) :
    val_main_v16 (F := Ideal) x0 x3 i = second (val_main_v2 (F := Ideal) x0 i) (x3 i) := rfl
theorem value29 (x0 : (⟨S8x128x1024, .bf16⟩ : BufTy).Contents (Elt Ideal)) (x1 x2 x3 : (⟨S2x128x1024, .f32⟩ : BufTy).Contents (Elt Ideal)) (i : S2x128x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x128x1024, .bf16⟩ : BufTy).Contents (Elt Ideal)) (y : S1x128x1024.Idx) :
    k0_pay4 (F := Ideal) (grad x0) y = val_main_v2 (F := Ideal) x0 (ix3 1 (y 1) (y 2)) :=
  (congrArg (k0_pay4 (F := Ideal) (grad x0)) (eq_ix3 y)).trans ((pay4 _ _ _ _).trans ((grad_apply x0 (y 1) (y 2)).trans (summed x0 1 (y 1) (y 2)).symm))
theorem point5 (x0 : (⟨S8x128x1024, .bf16⟩ : BufTy).Contents (Elt Ideal)) (x1 x2 x3 : (⟨S2x128x1024, .f32⟩ : BufTy).Contents (Elt Ideal)) (y : S1x128x1024.Idx) :
    k0_pay7 (F := Ideal) (grad x0) (fun j : S1x128x1024.Idx => x1 (ix3 1 (j 1) (j 2))) (fun j : S1x128x1024.Idx => x2 (ix3 1 (j 1) (j 2))) (fun j : S1x128x1024.Idx => x3 (ix3 1 (j 1) (j 2))) y = val_main_v29 (F := Ideal) x0 x1 x2 x3 (ix3 1 (y 1) (y 2)) :=
  (congrArg (k0_pay7 (F := Ideal) (grad x0) (fun j : S1x128x1024.Idx => x1 (ix3 1 (j 1) (j 2))) (fun j : S1x128x1024.Idx => x2 (ix3 1 (j 1) (j 2))) (fun j : S1x128x1024.Idx => x3 (ix3 1 (j 1) (j 2)))) (eq_ix3 y)).trans ((pay7 _ _ _ _ _ _ _).trans
    ((congrArg (fun g => step g (x1 (ix3 1 (y 1) (y 2))) (x2 (ix3 1 (y 1) (y 2))) (x3 (ix3 1 (y 1) (y 2)))) ((grad_apply x0 (y 1) (y 2)).trans (summed x0 1 (y 1) (y 2)).symm)).trans (value29 _ _ _ _ _).symm))
theorem point6 (x0 : (⟨S8x128x1024, .bf16⟩ : BufTy).Contents (Elt Ideal)) (x2 : (⟨S2x128x1024, .f32⟩ : BufTy).Contents (Elt Ideal)) (y : S1x128x1024.Idx) :
    k0_pay1 (F := Ideal) (k0_pay5 (grad x0) (fun j : S1x128x1024.Idx => x2 (ix3 1 (j 1) (j 2)))) y = val_main_v10 (F := Ideal) x0 x2 (ix3 1 (y 1) (y 2)) :=
  (congrArg (k0_pay1 (F := Ideal) (k0_pay5 (grad x0) (fun j : S1x128x1024.Idx => x2 (ix3 1 (j 1) (j 2))))) (eq_ix3 y)).trans ((pay1 _ _ _ _ _).trans
    ((congrArg (fun g => first g (x2 (ix3 1 (y 1) (y 2)))) ((grad_apply x0 (y 1) (y 2)).trans (summed x0 1 (y 1) (y 2)).symm)).trans (value10 _ _ _).symm))
theorem point7 (x0 : (⟨S8x128x1024, .bf16⟩ : BufTy).Contents (Elt Ideal)) (x3 : (⟨S2x128x1024, .f32⟩ : BufTy).Contents (Elt Ideal)) (y : S1x128x1024.Idx) :
    k0_pay2 (F := Ideal) (k0_pay6 (grad x0) (fun j : S1x128x1024.Idx => x3 (ix3 1 (j 1) (j 2)))) y = val_main_v16 (F := Ideal) x0 x3 (ix3 1 (y 1) (y 2)) :=
  (congrArg (k0_pay2 (F := Ideal) (k0_pay6 (grad x0) (fun j : S1x128x1024.Idx => x3 (ix3 1 (j 1) (j 2))))) (eq_ix3 y)).trans ((pay2 _ _ _ _ _).trans
    ((congrArg (fun g => second g (x3 (ix3 1 (y 1) (y 2)))) ((grad_apply x0 (y 1) (y 2)).trans (summed x0 1 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![1, 0, 0] := (by decide +kernel : ∀ t : Fin grid0.N, _)
theorem at2 : ∀ t : Fin cfg0.N, win0_2.index t = ![1, 0, 0] := (by decide +kernel : ∀ t : Fin grid0.N, _)
theorem at3 : ∀ t : Fin cfg0.N, win0_3.index t = ![1, 0, 0] := (by decide +kernel : ∀ t : Fin grid0.N, _)
theorem at4 : ∀ t : Fin cfg0.N, win0_4.index t = ![1, 0, 0] := (by decide +kernel : ∀ t : Fin grid0.N, _)
theorem at5 : ∀ t : Fin cfg0.N, win0_5.index t = ![1, 0, 0] := (by decide +kernel : ∀ t : Fin grid0.N, _)
theorem at6 : ∀ t : Fin cfg0.N, win0_6.index t = ![1, 0, 0] := (by decide +kernel : ∀ t : Fin grid0.N, _)
theorem at7 : ∀ t : Fin cfg0.N, win0_7.index t = ![1, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x128x1024.Idx => m (c.tc.loc main_arg1) (ix3 1 (j 1) (j 2)) := by
  funext j
  refine congrArg (m (c.tc.loc main_arg1)) (?_ : ((win0_1).blk t).view.emb j = ix3 1 (j 1) (j 2))
  blk_ext [at1]
theorem iblk2 (t : Fin cfg0.N) : iblk m c 2 t = fun j : S1x128x1024.Idx => m (c.tc.loc main_arg2) (ix3 1 (j 1) (j 2)) := by
  funext j
  refine congrArg (m (c.tc.loc main_arg2)) (?_ : ((win0_2).blk t).view.emb j = ix3 1 (j 1) (j 2))
  blk_ext [at2]
theorem iblk3 (t : Fin cfg0.N) : iblk m c 3 t = fun j : S1x128x1024.Idx => m (c.tc.loc main_arg3) (ix3 1 (j 1) (j 2)) := by
  funext j
  refine congrArg (m (c.tc.loc main_arg3)) (?_ : ((win0_3).blk t).view.emb j = ix3 1 (j 1) (j 2))
  blk_ext [at3]

/-! The arrays that the kernel writes over: its results after the layers before this one. -/

theorem V4 : V m c main_v0_0 = m (c.tc.loc main_arg4) := by
  unfold_abbrev_sides; after_results; rfl
theorem V5 : V m c main_v0_1 = m (c.tc.loc main_arg5) := by
  unfold_abbrev_sides; after_results; rfl
theorem V6 : V m c main_v0_2 = m (c.tc.loc main_arg6) := by
  unfold_abbrev_sides; after_results; rfl
theorem V7 : V m c main_v0_3 = m (c.tc.loc main_arg7) := by
  unfold_abbrev_sides; after_results; rfl

/-! The results after the kernel has run: in its layer the new values, elsewhere what was there before. -/

theorem final4 : (dats m 0 c).arrAt 4 cfg0.N = val_main_v30 (F := Ideal) (m (c.tc.loc main_arg0)) (m (c.tc.loc main_arg4)) := by
  refine ((dats m 0 c).arrAt_eq_of_coversWhere 4 (val_main_v2 (F := Ideal) (m (c.tc.loc main_arg0))) (fun β => β (0 : Fin _) = 1) (by decide +kernel)
    (P := fun i => (i 0 : ℕ) = 1) (fun t hf y => ?_) (fun j => ?_)).trans ?_
  · have hy : (win0_4.blk t).view.emb y = ix3 1 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · funext i
    rw [val_main_v30_apply, here]
    split_ifs with h
    · rfl
    · exact congrFun ((A_eq m c 4).trans (V4 m c)) i

theorem final5 : (dats m 0 c).arrAt 5 cfg0.N = val_main_v31 (F := Ideal) (m (c.tc.loc main_arg0)) (m (c.tc.loc main_arg1)) (m (c.tc.loc main_arg2)) (m (c.tc.loc main_arg3)) (m (c.tc.loc main_arg5)) := by
  refine ((dats m 0 c).arrAt_eq_of_coversWhere 5 (val_main_v29 (F := Ideal) (m (c.tc.loc main_arg0)) (m (c.tc.loc main_arg1)) (m (c.tc.loc main_arg2)) (m (c.tc.loc main_arg3))) (fun β => β (0 : Fin _) = 1) (by decide +kernel)
    (P := fun i => (i 0 : ℕ) = 1) (fun t hf y => ?_) (fun j => ?_)).trans ?_
  · have hy : (win0_5.blk t).view.emb y = ix3 1 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · funext i
    rw [val_main_v31_apply, here]
    split_ifs with h
    · rfl
    · exact congrFun ((A_eq m c 5).trans (V5 m c)) i

theorem final6 : (dats m 0 c).arrAt 6 cfg0.N = val_main_v32 (F := Ideal) (m (c.tc.loc main_arg0)) (m (c.tc.loc main_arg2)) (m (c.tc.loc main_arg6)) := by
  refine ((dats m 0 c).arrAt_eq_of_coversWhere 6 (val_main_v10 (F := Ideal) (m (c.tc.loc main_arg0)) (m (c.tc.loc main_arg2))) (fun β => β (0 : Fin _) = 1) (by decide +kernel)
    (P := fun i => (i 0 : ℕ) = 1) (fun t hf y => ?_) (fun j => ?_)).trans ?_
  · have hy : (win0_6.blk t).view.emb y = ix3 1 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · funext i
    rw [val_main_v32_apply, here]
    split_ifs with h
    · rfl
    · exact congrFun ((A_eq m c 6).trans (V6 m c)) i

theorem final7 : (dats m 0 c).arrAt 7 cfg0.N = val_main_v33 (F := Ideal) (m (c.tc.loc main_arg0)) (m (c.tc.loc main_arg3)) (m (c.tc.loc main_arg7)) := by
  refine ((dats m 0 c).arrAt_eq_of_coversWhere 7 (val_main_v16 (F := Ideal) (m (c.tc.loc main_arg0)) (m (c.tc.loc main_arg3))) (fun β => β (0 : Fin _) = 1) (by decide +kernel)
    (P := fun i => (i 0 : ℕ) = 1) (fun t hf y => ?_) (fun j => ?_)).trans ?_
  · have hy : (win0_7.blk t).view.emb y = ix3 1 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · funext i
    rw [val_main_v33_apply, here]
    split_ifs with h
    · rfl
    · exact congrFun ((A_eq m c 7).trans (V7 m c)) i

/-! The claims. -/

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem preserves : Cert.preserves_Kernel23_Kernel23Ideal := trivial

/-- The kernel and the reference have the same results. -/
theorem algebraic : Cert.algebraic_Kernel23Ideal_Reference23Ideal := by
  intro m ρ m' ρ' _ hagree
  refine ⟨_, _, _, _, Cert.Kernel23Ideal.Value.run_blocks m ρ, ?_⟩
  refine (θ_run Cert.Reference23Ideal.defs _ _).mono (fun _ h c => ?_) (Cert.Reference23Ideal.Value.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [val_main_v30_eq, a0, a4]; exact (final4 m c).symm
  · rw [val_main_v31_eq, a0, a1, a2, a3, a5]; exact (final5 m c).symm
  · rw [val_main_v32_eq, a0, a2, a6]; exact (final6 m c).symm
  · rw [val_main_v33_eq, a0, a3, a7]; exact (final7 m c).symm

end Cert.BigB1

end
-- ==== Proof.Opt.BigC0.lean ====
/-
  The AdamW step of the first of the 4 layers of a device's rows of w_down of the MLP. The gradient is the sum, in the format
  of the moments, of what eight devices sent; from it come the change of the weight and the two new moments. The kernel writes
  only its layer of the four results, so the claim is about the indices of that layer.
-/
module

public import proofs.«01_k».proof.Defs
public import proofs.«01_k».proof.Proof.Opt.Scalar
public import proofs.«01_k».proof.Proof.Gen.Kernel24.Frame
public import proofs.«01_k».proof.Proof.Gen.Kernel24Ideal.Value
public import proofs.«01_k».proof.Proof.Gen.Reference24Ideal.Read
public import proofs.«01_k».proof.Proof.Gen.On_first_layer_Kernel24Ideal
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigC0

open Idealize.ShloMosaic Idealize.ShloMosaic.TcCoe Idealize.SL.Sem
open Idealize.ShloMosaic.Pipeline (Dat)
open Cert.Kernel24Ideal Cert.Kernel24Ideal.Gen Cert.Reference24Ideal.Read Cert.AdamW

/-! Each slice the body loads: what one device sent. -/

abbrev r0_0 : Rect S8x352x1024 := Rect.unit (s := S8x352x1024) ![0, 0, 0] S1x352x1024.size (by decide)
theorem slice0 (d : Vec Ideal S8x352x1024 .bf16) (p : Fin 352) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x352x1024 := Rect.unit (s := S8x352x1024) ![1, 0, 0] S1x352x1024.size (by decide)
theorem slice1 (d : Vec Ideal S8x352x1024 .bf16) (p : Fin 352) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x352x1024 := Rect.unit (s := S8x352x1024) ![2, 0, 0] S1x352x1024.size (by decide)
theorem slice2 (d : Vec Ideal S8x352x1024 .bf16) (p : Fin 352) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x352x1024 := Rect.unit (s := S8x352x1024) ![3, 0, 0] S1x352x1024.size (by decide)
theorem slice3 (d : Vec Ideal S8x352x1024 .bf16) (p : Fin 352) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x352x1024 := Rect.unit (s := S8x352x1024) ![4, 0, 0] S1x352x1024.size (by decide)
theorem slice4 (d : Vec Ideal S8x352x1024 .bf16) (p : Fin 352) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x352x1024 := Rect.unit (s := S8x352x1024) ![5, 0, 0] S1x352x1024.size (by decide)
theorem slice5 (d : Vec Ideal S8x352x1024 .bf16) (p : Fin 352) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x352x1024 := Rect.unit (s := S8x352x1024) ![6, 0, 0] S1x352x1024.size (by decide)
theorem slice6 (d : Vec Ideal S8x352x1024 .bf16) (p : Fin 352) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x352x1024 := Rect.unit (s := S8x352x1024) ![7, 0, 0] S1x352x1024.size (by decide)
theorem slice7 (d : Vec Ideal S8x352x1024 .bf16) (p : Fin 352) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x352x1024 .bf16) (p : Fin 352) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x352x1024 .bf16) : FVec Ideal S352x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x352x1024 .bf16) (p : Fin 352) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S352x1024 .f32) (u : Fin 1) (p : Fin 352) (q : Fin 1024) : k0_pay4 (F := Ideal) g (ix3 u p q) = g (ix2 p q) := by
  unfold k0_pay4; pointwise
theorem pay5 (g : FVec Ideal S352x1024 .f32) (m : Vec Ideal S1x352x1024 .f32) (p : Fin 352) (q : Fin 1024) :
    k0_pay5 (F := Ideal) g m (ix2 p q) = first (g (ix2 p q)) (m (ix3 0 p q)) := by
  unfold k0_pay5 first; pointwise
theorem pay6 (g : FVec Ideal S352x1024 .f32) (v : Vec Ideal S1x352x1024 .f32) (p : Fin 352) (q : Fin 1024) :
    k0_pay6 (F := Ideal) g v (ix2 p q) = second (g (ix2 p q)) (v (ix3 0 p q)) := by
  unfold k0_pay6 second; pointwise
theorem pay1 (g : FVec Ideal S352x1024 .f32) (m : Vec Ideal S1x352x1024 .f32) (u : Fin 1) (p : Fin 352) (q : Fin 1024) :
    k0_pay1 (F := Ideal) (k0_pay5 g m) (ix3 u p q) = first (g (ix2 p q)) (m (ix3 0 p q)) := by
  unfold k0_pay1; pointwise [pay5]
theorem pay2 (g : FVec Ideal S352x1024 .f32) (v : Vec Ideal S1x352x1024 .f32) (u : Fin 1) (p : Fin 352) (q : Fin 1024) :
    k0_pay2 (F := Ideal) (k0_pay6 g v) (ix3 u p q) = second (g (ix2 p q)) (v (ix3 0 p q)) := by
  unfold k0_pay2; pointwise [pay6]
theorem pay7 (g : FVec Ideal S352x1024 .f32) (w m v : Vec Ideal S1x352x1024 .f32) (u : Fin 1) (p : Fin 352) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S4x352x1024.Idx) : val_main_v5 (F := Ideal) i = if (i 0).val = 0 then 1#1 else 0#1 := by
  have h : (i 0).val < 4 := (i 0).isLt
  rw [val_main_v5_apply, val_main_v3_apply, val_main_v4_apply, val_main_c_apply]
  generalize (i 0).val = n at h ⊢
  interval_cases n <;> rfl

theorem summed (x0 : (⟨S8x352x1024, .bf16⟩ : BufTy).Contents (Elt Ideal)) (l : Fin 4) (p : Fin 352) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x352x1024, .bf16⟩ : BufTy).Contents (Elt Ideal)) (x2 : (⟨S4x352x1024, .f32⟩ : BufTy).Contents (Elt Ideal)) (i : S4x352x1024.Idx) :
    val_main_v10 (F := Ideal) x0 x2 i = first (val_main_v2 (F := Ideal) x0 i) (x2 i) := rfl
theorem value16 (x0 : (⟨S8x352x1024, .bf16⟩ : BufTy).Contents (Elt Ideal)) (x3 : (⟨S4x352x1024, .f32⟩ : BufTy).Contents (Elt Ideal)) (i : S4x352x1024.Idx) :
    val_main_v16 (F := Ideal) x0 x3 i = second (val_main_v2 (F := Ideal) x0 i) (x3 i) := rfl
theorem value29 (x0 : (⟨S8x352x1024, .bf16⟩ : BufTy).Contents (Elt Ideal)) (x1 x2 x3 : (⟨S4x352x1024, .f32⟩ : BufTy).Contents (Elt Ideal)) (i : S4x352x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x352x1024, .bf16⟩ : BufTy).Contents (Elt Ideal)) (y : S1x352x1024.Idx) :
    k0_pay4 (F := Ideal) (grad x0) y = val_main_v2 (F := Ideal) x0 (ix3 0 (y 1) (y 2)) :=
  (congrArg (k0_pay4 (F := Ideal) (grad x0)) (eq_ix3 y)).trans ((pay4 _ _ _ _).trans ((grad_apply x0 (y 1) (y 2)).trans (summed x0 0 (y 1) (y 2)).symm))
theorem point5 (x0 : (⟨S8x352x1024, .bf16⟩ : BufTy).Contents (Elt Ideal)) (x1 x2 x3 : (⟨S4x352x1024, .f32⟩ : BufTy).Contents (Elt Ideal)) (y : S1x352x1024.Idx) :
    k0_pay7 (F := Ideal) (grad x0) (fun j : S1x352x1024.Idx => x1 (ix3 0 (j 1) (j 2))) (fun j : S1x352x1024.Idx => x2 (ix3 0 (j 1) (j 2))) (fun j : S1x352x1024.Idx => x3 (ix3 0 (j 1) (j 2))) y = val_main_v29 (F := Ideal) x0 x1 x2 x3 (ix3 0 (y 1) (y 2)) :=
  (congrArg (k0_pay7 (F := Ideal) (grad x0) (fun j : S1x352x1024.Idx => x1 (ix3 0 (j 1) (j 2))) (fun j : S1x352x1024.Idx => x2 (ix3 0 (j 1) (j 2))) (fun j : S1x352x1024.Idx => x3 (ix3 0 (j 1) (j 2)))) (eq_ix3 y)).trans ((pay7 _ _ _ _ _ _ _).trans
    ((congrArg (fun g => step g (x1 (ix3 0 (y 1) (y 2))) (x2 (ix3 0 (y 1) (y 2))) (x3 (ix3 0 (y 1) (y 2)))) ((grad_apply x0 (y 1) (y 2)).trans (summed x0 0 (y 1) (y 2)).symm)).trans (value29 _ _ _ _ _).symm))
theorem point6 (x0 : (⟨S8x352x1024, .bf16⟩ : BufTy).Contents (Elt Ideal)) (x2 : (⟨S4x352x1024, .f32⟩ : BufTy).Contents (Elt Ideal)) (y : S1x352x1024.Idx) :
    k0_pay1 (F := Ideal) (k0_pay5 (grad x0) (fun j : S1x352x1024.Idx => x2 (ix3 0 (j 1) (j 2)))) y = val_main_v10 (F := Ideal) x0 x2 (ix3 0 (y 1) (y 2)) :=
  (congrArg (k0_pay1 (F := Ideal) (k0_pay5 (grad x0) (fun j : S1x352x1024.Idx => x2 (ix3 0 (j 1) (j 2))))) (eq_ix3 y)).trans ((pay1 _ _ _ _ _).trans
    ((congrArg (fun g => first g (x2 (ix3 0 (y 1) (y 2)))) ((grad_apply x0 (y 1) (y 2)).trans (summed x0 0 (y 1) (y 2)).symm)).trans (value10 _ _ _).symm))
theorem point7 (x0 : (⟨S8x352x1024, .bf16⟩ : BufTy).Contents (Elt Ideal)) (x3 : (⟨S4x352x1024, .f32⟩ : BufTy).Contents (Elt Ideal)) (y : S1x352x1024.Idx) :
    k0_pay2 (F := Ideal) (k0_pay6 (grad x0) (fun j : S1x352x1024.Idx => x3 (ix3 0 (j 1) (j 2)))) y = val_main_v16 (F := Ideal) x0 x3 (ix3 0 (y 1) (y 2)) :=
  (congrArg (k0_pay2 (F := Ideal) (k0_pay6 (grad x0) (fun j : S1x352x1024.Idx => x3 (ix3 0 (j 1) (j 2))))) (eq_ix3 y)).trans ((pay2 _ _ _ _ _).trans
    ((congrArg (fun g => second g (x3 (ix3 0 (y 1) (y 2)))) ((grad_apply x0 (y 1) (y 2)).trans (summed x0 0 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x352x1024.Idx => m (c.tc.loc main_arg1) (ix3 0 (j 1) (j 2)) := by
  funext j
  refine congrArg (m (c.tc.loc main_arg1)) (?_ : ((win0_1).blk t).view.emb j = ix3 0 (j 1) (j 2))
  blk_ext [at1]
theorem iblk2 (t : Fin cfg0.N) : iblk m c 2 t = fun j : S1x352x1024.Idx => m (c.tc.loc main_arg2) (ix3 0 (j 1) (j 2)) := by
  funext j
  refine congrArg (m (c.tc.loc main_arg2)) (?_ : ((win0_2).blk t).view.emb j = ix3 0 (j 1) (j 2))
  blk_ext [at2]
theorem iblk3 (t : Fin cfg0.N) : iblk m c 3 t = fun j : S1x352x1024.Idx => m (c.tc.loc main_arg3) (ix3 0 (j 1) (j 2)) := by
  funext j
  refine congrArg (m (c.tc.loc main_arg3)) (?_ : ((win0_3).blk t).view.emb j = ix3 0 (j 1) (j 2))
  blk_ext [at3]

/-! The results after the kernel has run, in its layer: the new values. -/

theorem final4 (i : S4x352x1024.Idx) (h : (i 0).val = 0) : (dats m 0 c).arrAt 4 cfg0.N i = val_main_v31 (F := Ideal) (m (c.tc.loc main_arg0)) i := by
  refine ((dats m 0 c).arrAt_apply_of_coversWhere 4 (val_main_v2 (F := Ideal) (m (c.tc.loc main_arg0))) (fun β => β (0 : Fin _) = 0) (by decide +kernel)
    (P := fun i => (i 0 : ℕ) = 0) (fun t hf y => ?_) (fun j => ?_) i).trans ?_
  · have hy : (win0_4.blk t).view.emb y = ix3 0 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · rw [val_main_v31_apply, here, if_pos h, if_pos h]
    rfl

theorem final5 (i : S4x352x1024.Idx) (h : (i 0).val = 0) : (dats m 0 c).arrAt 5 cfg0.N i = val_main_v32 (F := Ideal) (m (c.tc.loc main_arg0)) (m (c.tc.loc main_arg1)) (m (c.tc.loc main_arg2)) (m (c.tc.loc main_arg3)) i := by
  refine ((dats m 0 c).arrAt_apply_of_coversWhere 5 (val_main_v29 (F := Ideal) (m (c.tc.loc main_arg0)) (m (c.tc.loc main_arg1)) (m (c.tc.loc main_arg2)) (m (c.tc.loc main_arg3))) (fun β => β (0 : Fin _) = 0) (by decide +kernel)
    (P := fun i => (i 0 : ℕ) = 0) (fun t hf y => ?_) (fun j => ?_) i).trans ?_
  · have hy : (win0_5.blk t).view.emb y = ix3 0 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · rw [val_main_v32_apply, here, if_pos h, if_pos h]
    rfl

theorem final6 (i : S4x352x1024.Idx) (h : (i 0).val = 0) : (dats m 0 c).arrAt 6 cfg0.N i = val_main_v33 (F := Ideal) (m (c.tc.loc main_arg0)) (m (c.tc.loc main_arg2)) i := by
  refine ((dats m 0 c).arrAt_apply_of_coversWhere 6 (val_main_v10 (F := Ideal) (m (c.tc.loc main_arg0)) (m (c.tc.loc main_arg2))) (fun β => β (0 : Fin _) = 0) (by decide +kernel)
    (P := fun i => (i 0 : ℕ) = 0) (fun t hf y => ?_) (fun j => ?_) i).trans ?_
  · have hy : (win0_6.blk t).view.emb y = ix3 0 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · rw [val_main_v33_apply, here, if_pos h, if_pos h]
    rfl

theorem final7 (i : S4x352x1024.Idx) (h : (i 0).val = 0) : (dats m 0 c).arrAt 7 cfg0.N i = val_main_v34 (F := Ideal) (m (c.tc.loc main_arg0)) (m (c.tc.loc main_arg3)) i := by
  refine ((dats m 0 c).arrAt_apply_of_coversWhere 7 (val_main_v16 (F := Ideal) (m (c.tc.loc main_arg0)) (m (c.tc.loc main_arg3))) (fun β => β (0 : Fin _) = 0) (by decide +kernel)
    (P := fun i => (i 0 : ℕ) = 0) (fun t hf y => ?_) (fun j => ?_) i).trans ?_
  · have hy : (win0_7.blk t).view.emb y = ix3 0 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · rw [val_main_v34_apply, here, if_pos h, if_pos h]
    rfl

/-- Where the claim speaks: the indices of the first layer. -/
theorem first_layer (i : S4x352x1024.Idx) (hv : val_main_v5 (F := Ideal) i = 1#1) : (i 0).val = 0 := by
  rw [here] at hv
  by_contra hn
  rw [if_neg hn] at hv
  exact absurd hv (by decide)

/-! The claims. -/

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem preserves : Cert.preserves_Kernel24_Kernel24Ideal := trivial

/-- In the first layer the kernel and the reference have the same results. -/
theorem algebraic : Cert.algebraic_Kernel24Ideal_Reference24Ideal_on_first_layer_Kernel24Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N,
    (θ_run Cert.Kernel24Ideal.defs _ _).mono (fun _ h c => ?_) (Cert.Kernel24Ideal.Value.run_blocks m ρ), ?_⟩
  · obtain ⟨h0, h1, h2, h3, hargs⟩ := h c
    exact ⟨fun i _ => congrFun h0 i, fun i _ => congrFun h1 i, fun i _ => congrFun h2 i, fun i _ => congrFun h3 i, hargs⟩
  refine (θ_run Cert.Reference24Ideal.defs _ _).mono (fun _ h c => ?_) (Cert.Reference24Ideal.Value.run (F := Ideal) m' ρ')
  obtain ⟨h0, h1, h2, h3, hargs⟩ := h c
  obtain ⟨a0, a1, a2, a3⟩ := hagree c
  refine ⟨fun i hi => (congrFun h0 i).trans ?_, fun i hi => (congrFun h1 i).trans ?_, fun i hi => (congrFun h2 i).trans ?_, fun i hi => (congrFun h3 i).trans ?_, hargs⟩
  · rw [val_main_v31_eq, a0]; exact (final4 m c i (first_layer i hi)).symm
  · rw [val_main_v32_eq, a0, a1, a2, a3]; exact (final5 m c i (first_layer i hi)).symm
  · rw [val_main_v33_eq, a0, a2]; exact (final6 m c i (first_layer i hi)).symm
  · rw [val_main_v34_eq, a0, a3]; exact (final7 m c i (first_layer i hi)).symm

end Cert.BigC0

end
-- ==== Proof.Opt.BigC1.lean ====
/-
  The AdamW step of the second of the 4 layers of a device's rows of w_down of the MLP. The gradient is the sum, in the format
  of the moments, of what eight devices sent; from it come the change of the weight and the two new moments. The kernel writes
  its layer into the results of the step before and keeps the rest of them, as the reference's choice by layer does.
-/
module

public import proofs.«01_k».proof.Defs
public import proofs.«01_k».proof.Proof.Opt.Scalar
public import proofs.«01_k».proof.Proof.Gen.Kernel25.Frame
public import proofs.«01_k».proof.Proof.Gen.Kernel25Ideal.Value
public import proofs.«01_k».proof.Proof.Gen.Reference25Ideal.Read
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigC1

open Idealize.ShloMosaic Idealize.ShloMosaic.TcCoe Idealize.SL.Sem
open Idealize.ShloMosaic.Pipeline (Dat)
open Cert.Kernel25Ideal Cert.Kernel25Ideal.Gen Cert.Reference25Ideal.Read Cert.AdamW

/-! Each slice the body loads: what one device sent. -/

abbrev r0_0 : Rect S8x352x1024 := Rect.unit (s := S8x352x1024) ![0, 0, 0] S1x352x1024.size (by decide)
theorem slice0 (d : Vec Ideal S8x352x1024 .bf16) (p : Fin 352) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x352x1024 := Rect.unit (s := S8x352x1024) ![1, 0, 0] S1x352x1024.size (by decide)
theorem slice1 (d : Vec Ideal S8x352x1024 .bf16) (p : Fin 352) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x352x1024 := Rect.unit (s := S8x352x1024) ![2, 0, 0] S1x352x1024.size (by decide)
theorem slice2 (d : Vec Ideal S8x352x1024 .bf16) (p : Fin 352) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x352x1024 := Rect.unit (s := S8x352x1024) ![3, 0, 0] S1x352x1024.size (by decide)
theorem slice3 (d : Vec Ideal S8x352x1024 .bf16) (p : Fin 352) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x352x1024 := Rect.unit (s := S8x352x1024) ![4, 0, 0] S1x352x1024.size (by decide)
theorem slice4 (d : Vec Ideal S8x352x1024 .bf16) (p : Fin 352) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x352x1024 := Rect.unit (s := S8x352x1024) ![5, 0, 0] S1x352x1024.size (by decide)
theorem slice5 (d : Vec Ideal S8x352x1024 .bf16) (p : Fin 352) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x352x1024 := Rect.unit (s := S8x352x1024) ![6, 0, 0] S1x352x1024.size (by decide)
theorem slice6 (d : Vec Ideal S8x352x1024 .bf16) (p : Fin 352) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x352x1024 := Rect.unit (s := S8x352x1024) ![7, 0, 0] S1x352x1024.size (by decide)
theorem slice7 (d : Vec Ideal S8x352x1024 .bf16) (p : Fin 352) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x352x1024 .bf16) (p : Fin 352) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x352x1024 .bf16) : FVec Ideal S352x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x352x1024 .bf16) (p : Fin 352) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S352x1024 .f32) (u : Fin 1) (p : Fin 352) (q : Fin 1024) : k0_pay4 (F := Ideal) g (ix3 u p q) = g (ix2 p q) := by
  unfold k0_pay4; pointwise
theorem pay5 (g : FVec Ideal S352x1024 .f32) (m : Vec Ideal S1x352x1024 .f32) (p : Fin 352) (q : Fin 1024) :
    k0_pay5 (F := Ideal) g m (ix2 p q) = first (g (ix2 p q)) (m (ix3 0 p q)) := by
  unfold k0_pay5 first; pointwise
theorem pay6 (g : FVec Ideal S352x1024 .f32) (v : Vec Ideal S1x352x1024 .f32) (p : Fin 352) (q : Fin 1024) :
    k0_pay6 (F := Ideal) g v (ix2 p q) = second (g (ix2 p q)) (v (ix3 0 p q)) := by
  unfold k0_pay6 second; pointwise
theorem pay1 (g : FVec Ideal S352x1024 .f32) (m : Vec Ideal S1x352x1024 .f32) (u : Fin 1) (p : Fin 352) (q : Fin 1024) :
    k0_pay1 (F := Ideal) (k0_pay5 g m) (ix3 u p q) = first (g (ix2 p q)) (m (ix3 0 p q)) := by
  unfold k0_pay1; pointwise [pay5]
theorem pay2 (g : FVec Ideal S352x1024 .f32) (v : Vec Ideal S1x352x1024 .f32) (u : Fin 1) (p : Fin 352) (q : Fin 1024) :
    k0_pay2 (F := Ideal) (k0_pay6 g v) (ix3 u p q) = second (g (ix2 p q)) (v (ix3 0 p q)) := by
  unfold k0_pay2; pointwise [pay6]
theorem pay7 (g : FVec Ideal S352x1024 .f32) (w m v : Vec Ideal S1x352x1024 .f32) (u : Fin 1) (p : Fin 352) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S4x352x1024.Idx) : val_main_v5 (F := Ideal) i = if (i 0).val = 1 then 1#1 else 0#1 := by
  have h : (i 0).val < 4 := (i 0).isLt
  rw [val_main_v5_apply, val_main_v3_apply, val_main_v4_apply, val_main_c_apply]
  generalize (i 0).val = n at h ⊢
  interval_cases n <;> rfl

theorem summed (x0 : (⟨S8x352x1024, .bf16⟩ : BufTy).Contents (Elt Ideal)) (l : Fin 4) (p : Fin 352) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x352x1024, .bf16⟩ : BufTy).Contents (Elt Ideal)) (x2 : (⟨S4x352x1024, .f32⟩ : BufTy).Contents (Elt Ideal)) (i : S4x352x1024.Idx) :
    val_main_v10 (F := Ideal) x0 x2 i = first (val_main_v2 (F := Ideal) x0 i) (x2 i) := rfl
theorem value16 (x0 : (⟨S8x352x1024, .bf16⟩ : BufTy).Contents (Elt Ideal)) (x3 : (⟨S4x352x1024, .f32⟩ : BufTy).Contents (Elt Ideal)) (i : S4x352x1024.Idx) :
    val_main_v16 (F := Ideal) x0 x3 i = second (val_main_v2 (F := Ideal) x0 i) (x3 i) := rfl
theorem value29 (x0 : (⟨S8x352x1024, .bf16⟩ : BufTy).Contents (Elt Ideal)) (x1 x2 x3 : (⟨S4x352x1024, .f32⟩ : BufTy).Contents (Elt Ideal)) (i : S4x352x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x352x1024, .bf16⟩ : BufTy).Contents (Elt Ideal)) (y : S1x352x1024.Idx) :
    k0_pay4 (F := Ideal) (grad x0) y = val_main_v2 (F := Ideal) x0 (ix3 1 (y 1) (y 2)) :=
  (congrArg (k0_pay4 (F := Ideal) (grad x0)) (eq_ix3 y)).trans ((pay4 _ _ _ _).trans ((grad_apply x0 (y 1) (y 2)).trans (summed x0 1 (y 1) (y 2)).symm))
theorem point5 (x0 : (⟨S8x352x1024, .bf16⟩ : BufTy).Contents (Elt Ideal)) (x1 x2 x3 : (⟨S4x352x1024, .f32⟩ : BufTy).Contents (Elt Ideal)) (y : S1x352x1024.Idx) :
    k0_pay7 (F := Ideal) (grad x0) (fun j : S1x352x1024.Idx => x1 (ix3 1 (j 1) (j 2))) (fun j : S1x352x1024.Idx => x2 (ix3 1 (j 1) (j 2))) (fun j : S1x352x1024.Idx => x3 (ix3 1 (j 1) (j 2))) y = val_main_v29 (F := Ideal) x0 x1 x2 x3 (ix3 1 (y 1) (y 2)) :=
  (congrArg (k0_pay7 (F := Ideal) (grad x0) (fun j : S1x352x1024.Idx => x1 (ix3 1 (j 1) (j 2))) (fun j : S1x352x1024.Idx => x2 (ix3 1 (j 1) (j 2))) (fun j : S1x352x1024.Idx => x3 (ix3 1 (j 1) (j 2)))) (eq_ix3 y)).trans ((pay7 _ _ _ _ _ _ _).trans
    ((congrArg (fun g => step g (x1 (ix3 1 (y 1) (y 2))) (x2 (ix3 1 (y 1) (y 2))) (x3 (ix3 1 (y 1) (y 2)))) ((grad_apply x0 (y 1) (y 2)).trans (summed x0 1 (y 1) (y 2)).symm)).trans (value29 _ _ _ _ _).symm))
theorem point6 (x0 : (⟨S8x352x1024, .bf16⟩ : BufTy).Contents (Elt Ideal)) (x2 : (⟨S4x352x1024, .f32⟩ : BufTy).Contents (Elt Ideal)) (y : S1x352x1024.Idx) :
    k0_pay1 (F := Ideal) (k0_pay5 (grad x0) (fun j : S1x352x1024.Idx => x2 (ix3 1 (j 1) (j 2)))) y = val_main_v10 (F := Ideal) x0 x2 (ix3 1 (y 1) (y 2)) :=
  (congrArg (k0_pay1 (F := Ideal) (k0_pay5 (grad x0) (fun j : S1x352x1024.Idx => x2 (ix3 1 (j 1) (j 2))))) (eq_ix3 y)).trans ((pay1 _ _ _ _ _).trans
    ((congrArg (fun g => first g (x2 (ix3 1 (y 1) (y 2)))) ((grad_apply x0 (y 1) (y 2)).trans (summed x0 1 (y 1) (y 2)).symm)).trans (value10 _ _ _).symm))
theorem point7 (x0 : (⟨S8x352x1024, .bf16⟩ : BufTy).Contents (Elt Ideal)) (x3 : (⟨S4x352x1024, .f32⟩ : BufTy).Contents (Elt Ideal)) (y : S1x352x1024.Idx) :
    k0_pay2 (F := Ideal) (k0_pay6 (grad x0) (fun j : S1x352x1024.Idx => x3 (ix3 1 (j 1) (j 2)))) y = val_main_v16 (F := Ideal) x0 x3 (ix3 1 (y 1) (y 2)) :=
  (congrArg (k0_pay2 (F := Ideal) (k0_pay6 (grad x0) (fun j : S1x352x1024.Idx => x3 (ix3 1 (j 1) (j 2))))) (eq_ix3 y)).trans ((pay2 _ _ _ _ _).trans
    ((congrArg (fun g => second g (x3 (ix3 1 (y 1) (y 2)))) ((grad_apply x0 (y 1) (y 2)).trans (summed x0 1 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![1, 0, 0] := (by decide +kernel : ∀ t : Fin grid0.N, _)
theorem at2 : ∀ t : Fin cfg0.N, win0_2.index t = ![1, 0, 0] := (by decide +kernel : ∀ t : Fin grid0.N, _)
theorem at3 : ∀ t : Fin cfg0.N, win0_3.index t = ![1, 0, 0] := (by decide +kernel : ∀ t : Fin grid0.N, _)
theorem at4 : ∀ t : Fin cfg0.N, win0_4.index t = ![1, 0, 0] := (by decide +kernel : ∀ t : Fin grid0.N, _)
theorem at5 : ∀ t : Fin cfg0.N, win0_5.index t = ![1, 0, 0] := (by decide +kernel : ∀ t : Fin grid0.N, _)
theorem at6 : ∀ t : Fin cfg0.N, win0_6.index t = ![1, 0, 0] := (by decide +kernel : ∀ t : Fin grid0.N, _)
theorem at7 : ∀ t : Fin cfg0.N, win0_7.index t = ![1, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x352x1024.Idx => m (c.tc.loc main_arg1) (ix3 1 (j 1) (j 2)) := by
  funext j
  refine congrArg (m (c.tc.loc main_arg1)) (?_ : ((win0_1).blk t).view.emb j = ix3 1 (j 1) (j 2))
  blk_ext [at1]
theorem iblk2 (t : Fin cfg0.N) : iblk m c 2 t = fun j : S1x352x1024.Idx => m (c.tc.loc main_arg2) (ix3 1 (j 1) (j 2)) := by
  funext j
  refine congrArg (m (c.tc.loc main_arg2)) (?_ : ((win0_2).blk t).view.emb j = ix3 1 (j 1) (j 2))
  blk_ext [at2]
theorem iblk3 (t : Fin cfg0.N) : iblk m c 3 t = fun j : S1x352x1024.Idx => m (c.tc.loc main_arg3) (ix3 1 (j 1) (j 2)) := by
  funext j
  refine congrArg (m (c.tc.loc main_arg3)) (?_ : ((win0_3).blk t).view.emb j = ix3 1 (j 1) (j 2))
  blk_ext [at3]

/-! The arrays that the kernel writes over: its results after the layers before this one. -/

theorem V4 : V m c main_v0_0 = m (c.tc.loc main_arg4) := by
  unfold_abbrev_sides; after_results; rfl
theorem V5 : V m c main_v0_1 = m (c.tc.loc main_arg5) := by
  unfold_abbrev_sides; after_results; rfl
theorem V6 : V m c main_v0_2 = m (c.tc.loc main_arg6) := by
  unfold_abbrev_sides; after_results; rfl
theorem V7 : V m c main_v0_3 = m (c.tc.loc main_arg7) := by
  unfold_abbrev_sides; after_results; rfl

/-! The results after the kernel has run: in its layer the new values, elsewhere what was there before. -/

theorem final4 : (dats m 0 c).arrAt 4 cfg0.N = val_main_v30 (F := Ideal) (m (c.tc.loc main_arg0)) (m (c.tc.loc main_arg4)) := by
  refine ((dats m 0 c).arrAt_eq_of_coversWhere 4 (val_main_v2 (F := Ideal) (m (c.tc.loc main_arg0))) (fun β => β (0 : Fin _) = 1) (by decide +kernel)
    (P := fun i => (i 0 : ℕ) = 1) (fun t hf y => ?_) (fun j => ?_)).trans ?_
  · have hy : (win0_4.blk t).view.emb y = ix3 1 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · funext i
    rw [val_main_v30_apply, here]
    split_ifs with h
    · rfl
    · exact congrFun ((A_eq m c 4).trans (V4 m c)) i

theorem final5 : (dats m 0 c).arrAt 5 cfg0.N = val_main_v31 (F := Ideal) (m (c.tc.loc main_arg0)) (m (c.tc.loc main_arg1)) (m (c.tc.loc main_arg2)) (m (c.tc.loc main_arg3)) (m (c.tc.loc main_arg5)) := by
  refine ((dats m 0 c).arrAt_eq_of_coversWhere 5 (val_main_v29 (F := Ideal) (m (c.tc.loc main_arg0)) (m (c.tc.loc main_arg1)) (m (c.tc.loc main_arg2)) (m (c.tc.loc main_arg3))) (fun β => β (0 : Fin _) = 1) (by decide +kernel)
    (P := fun i => (i 0 : ℕ) = 1) (fun t hf y => ?_) (fun j => ?_)).trans ?_
  · have hy : (win0_5.blk t).view.emb y = ix3 1 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · funext i
    rw [val_main_v31_apply, here]
    split_ifs with h
    · rfl
    · exact congrFun ((A_eq m c 5).trans (V5 m c)) i

theorem final6 : (dats m 0 c).arrAt 6 cfg0.N = val_main_v32 (F := Ideal) (m (c.tc.loc main_arg0)) (m (c.tc.loc main_arg2)) (m (c.tc.loc main_arg6)) := by
  refine ((dats m 0 c).arrAt_eq_of_coversWhere 6 (val_main_v10 (F := Ideal) (m (c.tc.loc main_arg0)) (m (c.tc.loc main_arg2))) (fun β => β (0 : Fin _) = 1) (by decide +kernel)
    (P := fun i => (i 0 : ℕ) = 1) (fun t hf y => ?_) (fun j => ?_)).trans ?_
  · have hy : (win0_6.blk t).view.emb y = ix3 1 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · funext i
    rw [val_main_v32_apply, here]
    split_ifs with h
    · rfl
    · exact congrFun ((A_eq m c 6).trans (V6 m c)) i

theorem final7 : (dats m 0 c).arrAt 7 cfg0.N = val_main_v33 (F := Ideal) (m (c.tc.loc main_arg0)) (m (c.tc.loc main_arg3)) (m (c.tc.loc main_arg7)) := by
  refine ((dats m 0 c).arrAt_eq_of_coversWhere 7 (val_main_v16 (F := Ideal) (m (c.tc.loc main_arg0)) (m (c.tc.loc main_arg3))) (fun β => β (0 : Fin _) = 1) (by decide +kernel)
    (P := fun i => (i 0 : ℕ) = 1) (fun t hf y => ?_) (fun j => ?_)).trans ?_
  · have hy : (win0_7.blk t).view.emb y = ix3 1 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · funext i
    rw [val_main_v33_apply, here]
    split_ifs with h
    · rfl
    · exact congrFun ((A_eq m c 7).trans (V7 m c)) i

/-! The claims. -/

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem preserves : Cert.preserves_Kernel25_Kernel25Ideal := trivial

/-- The kernel and the reference have the same results. -/
theorem algebraic : Cert.algebraic_Kernel25Ideal_Reference25Ideal := by
  intro m ρ m' ρ' _ hagree
  refine ⟨_, _, _, _, Cert.Kernel25Ideal.Value.run_blocks m ρ, ?_⟩
  refine (θ_run Cert.Reference25Ideal.defs _ _).mono (fun _ h c => ?_) (Cert.Reference25Ideal.Value.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [val_main_v30_eq, a0, a4]; exact (final4 m c).symm
  · rw [val_main_v31_eq, a0, a1, a2, a3, a5]; exact (final5 m c).symm
  · rw [val_main_v32_eq, a0, a2, a6]; exact (final6 m c).symm
  · rw [val_main_v33_eq, a0, a3, a7]; exact (final7 m c).symm

end Cert.BigC1

end
-- ==== Proof.Opt.BigC2.lean ====
/-
  The AdamW step of the third of the 4 layers of a device's rows of w_down of the MLP. The gradient is the sum, in the format
  of the moments, of what eight devices sent; from it come the change of the weight and the two new moments. The kernel writes
  its layer into the results of the step before and keeps the rest of them, as the reference's choice by layer does.
-/
module

public import proofs.«01_k».proof.Defs
public import proofs.«01_k».proof.Proof.Opt.Scalar
public import proofs.«01_k».proof.Proof.Gen.Kernel26.Frame
public import proofs.«01_k».proof.Proof.Gen.Kernel26Ideal.Value
public import proofs.«01_k».proof.Proof.Gen.Reference26Ideal.Read
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigC2

open Idealize.ShloMosaic Idealize.ShloMosaic.TcCoe Idealize.SL.Sem
open Idealize.ShloMosaic.Pipeline (Dat)
open Cert.Kernel26Ideal Cert.Kernel26Ideal.Gen Cert.Reference26Ideal.Read Cert.AdamW

/-! Each slice the body loads: what one device sent. -/

abbrev r0_0 : Rect S8x352x1024 := Rect.unit (s := S8x352x1024) ![0, 0, 0] S1x352x1024.size (by decide)
theorem slice0 (d : Vec Ideal S8x352x1024 .bf16) (p : Fin 352) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x352x1024 := Rect.unit (s := S8x352x1024) ![1, 0, 0] S1x352x1024.size (by decide)
theorem slice1 (d : Vec Ideal S8x352x1024 .bf16) (p : Fin 352) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x352x1024 := Rect.unit (s := S8x352x1024) ![2, 0, 0] S1x352x1024.size (by decide)
theorem slice2 (d : Vec Ideal S8x352x1024 .bf16) (p : Fin 352) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x352x1024 := Rect.unit (s := S8x352x1024) ![3, 0, 0] S1x352x1024.size (by decide)
theorem slice3 (d : Vec Ideal S8x352x1024 .bf16) (p : Fin 352) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x352x1024 := Rect.unit (s := S8x352x1024) ![4, 0, 0] S1x352x1024.size (by decide)
theorem slice4 (d : Vec Ideal S8x352x1024 .bf16) (p : Fin 352) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x352x1024 := Rect.unit (s := S8x352x1024) ![5, 0, 0] S1x352x1024.size (by decide)
theorem slice5 (d : Vec Ideal S8x352x1024 .bf16) (p : Fin 352) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x352x1024 := Rect.unit (s := S8x352x1024) ![6, 0, 0] S1x352x1024.size (by decide)
theorem slice6 (d : Vec Ideal S8x352x1024 .bf16) (p : Fin 352) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x352x1024 := Rect.unit (s := S8x352x1024) ![7, 0, 0] S1x352x1024.size (by decide)
theorem slice7 (d : Vec Ideal S8x352x1024 .bf16) (p : Fin 352) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x352x1024 .bf16) (p : Fin 352) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x352x1024 .bf16) : FVec Ideal S352x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x352x1024 .bf16) (p : Fin 352) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S352x1024 .f32) (u : Fin 1) (p : Fin 352) (q : Fin 1024) : k0_pay4 (F := Ideal) g (ix3 u p q) = g (ix2 p q) := by
  unfold k0_pay4; pointwise
theorem pay5 (g : FVec Ideal S352x1024 .f32) (m : Vec Ideal S1x352x1024 .f32) (p : Fin 352) (q : Fin 1024) :
    k0_pay5 (F := Ideal) g m (ix2 p q) = first (g (ix2 p q)) (m (ix3 0 p q)) := by
  unfold k0_pay5 first; pointwise
theorem pay6 (g : FVec Ideal S352x1024 .f32) (v : Vec Ideal S1x352x1024 .f32) (p : Fin 352) (q : Fin 1024) :
    k0_pay6 (F := Ideal) g v (ix2 p q) = second (g (ix2 p q)) (v (ix3 0 p q)) := by
  unfold k0_pay6 second; pointwise
theorem pay1 (g : FVec Ideal S352x1024 .f32) (m : Vec Ideal S1x352x1024 .f32) (u : Fin 1) (p : Fin 352) (q : Fin 1024) :
    k0_pay1 (F := Ideal) (k0_pay5 g m) (ix3 u p q) = first (g (ix2 p q)) (m (ix3 0 p q)) := by
  unfold k0_pay1; pointwise [pay5]
theorem pay2 (g : FVec Ideal S352x1024 .f32) (v : Vec Ideal S1x352x1024 .f32) (u : Fin 1) (p : Fin 352) (q : Fin 1024) :
    k0_pay2 (F := Ideal) (k0_pay6 g v) (ix3 u p q) = second (g (ix2 p q)) (v (ix3 0 p q)) := by
  unfold k0_pay2; pointwise [pay6]
theorem pay7 (g : FVec Ideal S352x1024 .f32) (w m v : Vec Ideal S1x352x1024 .f32) (u : Fin 1) (p : Fin 352) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S4x352x1024.Idx) : val_main_v5 (F := Ideal) i = if (i 0).val = 2 then 1#1 else 0#1 := by
  have h : (i 0).val < 4 := (i 0).isLt
  rw [val_main_v5_apply, val_main_v3_apply, val_main_v4_apply, val_main_c_apply]
  generalize (i 0).val = n at h ⊢
  interval_cases n <;> rfl

theorem summed (x0 : (⟨S8x352x1024, .bf16⟩ : BufTy).Contents (Elt Ideal)) (l : Fin 4) (p : Fin 352) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x352x1024, .bf16⟩ : BufTy).Contents (Elt Ideal)) (x2 : (⟨S4x352x1024, .f32⟩ : BufTy).Contents (Elt Ideal)) (i : S4x352x1024.Idx) :
    val_main_v10 (F := Ideal) x0 x2 i = first (val_main_v2 (F := Ideal) x0 i) (x2 i) := rfl
theorem value16 (x0 : (⟨S8x352x1024, .bf16⟩ : BufTy).Contents (Elt Ideal)) (x3 : (⟨S4x352x1024, .f32⟩ : BufTy).Contents (Elt Ideal)) (i : S4x352x1024.Idx) :
    val_main_v16 (F := Ideal) x0 x3 i = second (val_main_v2 (F := Ideal) x0 i) (x3 i) := rfl
theorem value29 (x0 : (⟨S8x352x1024, .bf16⟩ : BufTy).Contents (Elt Ideal)) (x1 x2 x3 : (⟨S4x352x1024, .f32⟩ : BufTy).Contents (Elt Ideal)) (i : S4x352x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x352x1024, .bf16⟩ : BufTy).Contents (Elt Ideal)) (y : S1x352x1024.Idx) :
    k0_pay4 (F := Ideal) (grad x0) y = val_main_v2 (F := Ideal) x0 (ix3 2 (y 1) (y 2)) :=
  (congrArg (k0_pay4 (F := Ideal) (grad x0)) (eq_ix3 y)).trans ((pay4 _ _ _ _).trans ((grad_apply x0 (y 1) (y 2)).trans (summed x0 2 (y 1) (y 2)).symm))
theorem point5 (x0 : (⟨S8x352x1024, .bf16⟩ : BufTy).Contents (Elt Ideal)) (x1 x2 x3 : (⟨S4x352x1024, .f32⟩ : BufTy).Contents (Elt Ideal)) (y : S1x352x1024.Idx) :
    k0_pay7 (F := Ideal) (grad x0) (fun j : S1x352x1024.Idx => x1 (ix3 2 (j 1) (j 2))) (fun j : S1x352x1024.Idx => x2 (ix3 2 (j 1) (j 2))) (fun j : S1x352x1024.Idx => x3 (ix3 2 (j 1) (j 2))) y = val_main_v29 (F := Ideal) x0 x1 x2 x3 (ix3 2 (y 1) (y 2)) :=
  (congrArg (k0_pay7 (F := Ideal) (grad x0) (fun j : S1x352x1024.Idx => x1 (ix3 2 (j 1) (j 2))) (fun j : S1x352x1024.Idx => x2 (ix3 2 (j 1) (j 2))) (fun j : S1x352x1024.Idx => x3 (ix3 2 (j 1) (j 2)))) (eq_ix3 y)).trans ((pay7 _ _ _ _ _ _ _).trans
    ((congrArg (fun g => step g (x1 (ix3 2 (y 1) (y 2))) (x2 (ix3 2 (y 1) (y 2))) (x3 (ix3 2 (y 1) (y 2)))) ((grad_apply x0 (y 1) (y 2)).trans (summed x0 2 (y 1) (y 2)).symm)).trans (value29 _ _ _ _ _).symm))
theorem point6 (x0 : (⟨S8x352x1024, .bf16⟩ : BufTy).Contents (Elt Ideal)) (x2 : (⟨S4x352x1024, .f32⟩ : BufTy).Contents (Elt Ideal)) (y : S1x352x1024.Idx) :
    k0_pay1 (F := Ideal) (k0_pay5 (grad x0) (fun j : S1x352x1024.Idx => x2 (ix3 2 (j 1) (j 2)))) y = val_main_v10 (F := Ideal) x0 x2 (ix3 2 (y 1) (y 2)) :=
  (congrArg (k0_pay1 (F := Ideal) (k0_pay5 (grad x0) (fun j : S1x352x1024.Idx => x2 (ix3 2 (j 1) (j 2))))) (eq_ix3 y)).trans ((pay1 _ _ _ _ _).trans
    ((congrArg (fun g => first g (x2 (ix3 2 (y 1) (y 2)))) ((grad_apply x0 (y 1) (y 2)).trans (summed x0 2 (y 1) (y 2)).symm)).trans (value10 _ _ _).symm))
theorem point7 (x0 : (⟨S8x352x1024, .bf16⟩ : BufTy).Contents (Elt Ideal)) (x3 : (⟨S4x352x1024, .f32⟩ : BufTy).Contents (Elt Ideal)) (y : S1x352x1024.Idx) :
    k0_pay2 (F := Ideal) (k0_pay6 (grad x0) (fun j : S1x352x1024.Idx => x3 (ix3 2 (j 1) (j 2)))) y = val_main_v16 (F := Ideal) x0 x3 (ix3 2 (y 1) (y 2)) :=
  (congrArg (k0_pay2 (F := Ideal) (k0_pay6 (grad x0) (fun j : S1x352x1024.Idx => x3 (ix3 2 (j 1) (j 2))))) (eq_ix3 y)).trans ((pay2 _ _ _ _ _).trans
    ((congrArg (fun g => second g (x3 (ix3 2 (y 1) (y 2)))) ((grad_apply x0 (y 1) (y 2)).trans (summed x0 2 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![2, 0, 0] := (by decide +kernel : ∀ t : Fin grid0.N, _)
theorem at2 : ∀ t : Fin cfg0.N, win0_2.index t = ![2, 0, 0] := (by decide +kernel : ∀ t : Fin grid0.N, _)
theorem at3 : ∀ t : Fin cfg0.N, win0_3.index t = ![2, 0, 0] := (by decide +kernel : ∀ t : Fin grid0.N, _)
theorem at4 : ∀ t : Fin cfg0.N, win0_4.index t = ![2, 0, 0] := (by decide +kernel : ∀ t : Fin grid0.N, _)
theorem at5 : ∀ t : Fin cfg0.N, win0_5.index t = ![2, 0, 0] := (by decide +kernel : ∀ t : Fin grid0.N, _)
theorem at6 : ∀ t : Fin cfg0.N, win0_6.index t = ![2, 0, 0] := (by decide +kernel : ∀ t : Fin grid0.N, _)
theorem at7 : ∀ t : Fin cfg0.N, win0_7.index t = ![2, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x352x1024.Idx => m (c.tc.loc main_arg1) (ix3 2 (j 1) (j 2)) := by
  funext j
  refine congrArg (m (c.tc.loc main_arg1)) (?_ : ((win0_1).blk t).view.emb j = ix3 2 (j 1) (j 2))
  blk_ext [at1]
theorem iblk2 (t : Fin cfg0.N) : iblk m c 2 t = fun j : S1x352x1024.Idx => m (c.tc.loc main_arg2) (ix3 2 (j 1) (j 2)) := by
  funext j
  refine congrArg (m (c.tc.loc main_arg2)) (?_ : ((win0_2).blk t).view.emb j = ix3 2 (j 1) (j 2))
  blk_ext [at2]
theorem iblk3 (t : Fin cfg0.N) : iblk m c 3 t = fun j : S1x352x1024.Idx => m (c.tc.loc main_arg3) (ix3 2 (j 1) (j 2)) := by
  funext j
  refine congrArg (m (c.tc.loc main_arg3)) (?_ : ((win0_3).blk t).view.emb j = ix3 2 (j 1) (j 2))
  blk_ext [at3]

/-! The arrays that the kernel writes over: its results after the layers before this one. -/

theorem V4 : V m c main_v0_0 = m (c.tc.loc main_arg4) := by
  unfold_abbrev_sides; after_results; rfl
theorem V5 : V m c main_v0_1 = m (c.tc.loc main_arg5) := by
  unfold_abbrev_sides; after_results; rfl
theorem V6 : V m c main_v0_2 = m (c.tc.loc main_arg6) := by
  unfold_abbrev_sides; after_results; rfl
theorem V7 : V m c main_v0_3 = m (c.tc.loc main_arg7) := by
  unfold_abbrev_sides; after_results; rfl

/-! The results after the kernel has run: in its layer the new values, elsewhere what was there before. -/

theorem final4 : (dats m 0 c).arrAt 4 cfg0.N = val_main_v30 (F := Ideal) (m (c.tc.loc main_arg0)) (m (c.tc.loc main_arg4)) := by
  refine ((dats m 0 c).arrAt_eq_of_coversWhere 4 (val_main_v2 (F := Ideal) (m (c.tc.loc main_arg0))) (fun β => β (0 : Fin _) = 2) (by decide +kernel)
    (P := fun i => (i 0 : ℕ) = 2) (fun t hf y => ?_) (fun j => ?_)).trans ?_
  · have hy : (win0_4.blk t).view.emb y = ix3 2 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · funext i
    rw [val_main_v30_apply, here]
    split_ifs with h
    · rfl
    · exact congrFun ((A_eq m c 4).trans (V4 m c)) i

theorem final5 : (dats m 0 c).arrAt 5 cfg0.N = val_main_v31 (F := Ideal) (m (c.tc.loc main_arg0)) (m (c.tc.loc main_arg1)) (m (c.tc.loc main_arg2)) (m (c.tc.loc main_arg3)) (m (c.tc.loc main_arg5)) := by
  refine ((dats m 0 c).arrAt_eq_of_coversWhere 5 (val_main_v29 (F := Ideal) (m (c.tc.loc main_arg0)) (m (c.tc.loc main_arg1)) (m (c.tc.loc main_arg2)) (m (c.tc.loc main_arg3))) (fun β => β (0 : Fin _) = 2) (by decide +kernel)
    (P := fun i => (i 0 : ℕ) = 2) (fun t hf y => ?_) (fun j => ?_)).trans ?_
  · have hy : (win0_5.blk t).view.emb y = ix3 2 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · funext i
    rw [val_main_v31_apply, here]
    split_ifs with h
    · rfl
    · exact congrFun ((A_eq m c 5).trans (V5 m c)) i

theorem final6 : (dats m 0 c).arrAt 6 cfg0.N = val_main_v32 (F := Ideal) (m (c.tc.loc main_arg0)) (m (c.tc.loc main_arg2)) (m (c.tc.loc main_arg6)) := by
  refine ((dats m 0 c).arrAt_eq_of_coversWhere 6 (val_main_v10 (F := Ideal) (m (c.tc.loc main_arg0)) (m (c.tc.loc main_arg2))) (fun β => β (0 : Fin _) = 2) (by decide +kernel)
    (P := fun i => (i 0 : ℕ) = 2) (fun t hf y => ?_) (fun j => ?_)).trans ?_
  · have hy : (win0_6.blk t).view.emb y = ix3 2 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · funext i
    rw [val_main_v32_apply, here]
    split_ifs with h
    · rfl
    · exact congrFun ((A_eq m c 6).trans (V6 m c)) i

theorem final7 : (dats m 0 c).arrAt 7 cfg0.N = val_main_v33 (F := Ideal) (m (c.tc.loc main_arg0)) (m (c.tc.loc main_arg3)) (m (c.tc.loc main_arg7)) := by
  refine ((dats m 0 c).arrAt_eq_of_coversWhere 7 (val_main_v16 (F := Ideal) (m (c.tc.loc main_arg0)) (m (c.tc.loc main_arg3))) (fun β => β (0 : Fin _) = 2) (by decide +kernel)
    (P := fun i => (i 0 : ℕ) = 2) (fun t hf y => ?_) (fun j => ?_)).trans ?_
  · have hy : (win0_7.blk t).view.emb y = ix3 2 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · funext i
    rw [val_main_v33_apply, here]
    split_ifs with h
    · rfl
    · exact congrFun ((A_eq m c 7).trans (V7 m c)) i

/-! The claims. -/

theorem frame_kernel : Cert.quiescent_Kernel26 := fun m ρ _ => Cert.Kernel26.Gen.frame m ρ

theorem frame_ideal : Cert.quiescent_Kernel26Ideal := fun m ρ _ => Cert.Kernel26Ideal.Gen.frame m ρ

theorem frame_reference : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem preserves : Cert.preserves_Kernel26_Kernel26Ideal := trivial

/-- The kernel and the reference have the same results. -/
theorem algebraic : Cert.algebraic_Kernel26Ideal_Reference26Ideal := by
  intro m ρ m' ρ' _ hagree
  refine ⟨_, _, _, _, Cert.Kernel26Ideal.Value.run_blocks m ρ, ?_⟩
  refine (θ_run Cert.Reference26Ideal.defs _ _).mono (fun _ h c => ?_) (Cert.Reference26Ideal.Value.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [val_main_v30_eq, a0, a4]; exact (final4 m c).symm
  · rw [val_main_v31_eq, a0, a1, a2, a3, a5]; exact (final5 m c).symm
  · rw [val_main_v32_eq, a0, a2, a6]; exact (final6 m c).symm
  · rw [val_main_v33_eq, a0, a3, a7]; exact (final7 m c).symm

end Cert.BigC2

end
-- ==== Proof.Opt.BigC3.lean ====
/-
  The AdamW step of the fourth of the 4 layers of a device's rows of w_down of the MLP. The gradient is the sum, in the format
  of the moments, of what eight devices sent; from it come the change of the weight and the two new moments. The kernel writes
  its layer into the results of the step before and keeps the rest of them, as the reference's choice by layer does.
-/
module

public import proofs.«01_k».proof.Defs
public import proofs.«01_k».proof.Proof.Opt.Scalar
public import proofs.«01_k».proof.Proof.Gen.Kernel27.Frame
public import proofs.«01_k».proof.Proof.Gen.Kernel27Ideal.Value
public import proofs.«01_k».proof.Proof.Gen.Reference27Ideal.Read
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigC3

open Idealize.ShloMosaic Idealize.ShloMosaic.TcCoe Idealize.SL.Sem
open Idealize.ShloMosaic.Pipeline (Dat)
open Cert.Kernel27Ideal Cert.Kernel27Ideal.Gen Cert.Reference27Ideal.Read Cert.AdamW

/-! Each slice the body loads: what one device sent. -/

abbrev r0_0 : Rect S8x352x1024 := Rect.unit (s := S8x352x1024) ![0, 0, 0] S1x352x1024.size (by decide)
theorem slice0 (d : Vec Ideal S8x352x1024 .bf16) (p : Fin 352) (q : Fin 1024) : View.ld d r0_0 (ix3 0 p q) = d (ix3 0 p q) := by
  refine congrArg d (funext fun a => Fin.ext ?_)
  fin_cases a <;> first | rfl | exact (Nat.zero_add _).trans (Nat.one_mul _)
abbrev r0_1 : Rect S8x352x1024 := Rect.unit (s := S8x352x1024) ![1, 0, 0] S1x352x1024.size (by decide)
theorem slice1 (d : Vec Ideal S8x352x1024 .bf16) (p : Fin 352) (q : Fin 1024) : View.ld d r0_1 (ix3 0 p q) = d (ix3 1 p q) := by
  refine congrArg d (funext fun a => Fin.ext ?_)
  fin_cases a <;> first | rfl | exact (Nat.zero_add _).trans (Nat.one_mul _)
abbrev r0_2 : Rect S8x352x1024 := Rect.unit (s := S8x352x1024) ![2, 0, 0] S1x352x1024.size (by decide)
theorem slice2 (d : Vec Ideal S8x352x1024 .bf16) (p : Fin 352) (q : Fin 1024) : View.ld d r0_2 (ix3 0 p q) = d (ix3 2 p q) := by
  refine congrArg d (funext fun a => Fin.ext ?_)
  fin_cases a <;> first | rfl | exact (Nat.zero_add _).trans (Nat.one_mul _)
abbrev r0_3 : Rect S8x352x1024 := Rect.unit (s := S8x352x1024) ![3, 0, 0] S1x352x1024.size (by decide)
theorem slice3 (d : Vec Ideal S8x352x1024 .bf16) (p : Fin 352) (q : Fin 1024) : View.ld d r0_3 (ix3 0 p q) = d (ix3 3 p q) := by
  refine congrArg d (funext fun a => Fin.ext ?_)
  fin_cases a <;> first | rfl | exact (Nat.zero_add _).trans (Nat.one_mul _)
abbrev r0_4 : Rect S8x352x1024 := Rect.unit (s := S8x352x1024) ![4, 0, 0] S1x352x1024.size (by decide)
theorem slice4 (d : Vec Ideal S8x352x1024 .bf16) (p : Fin 352) (q : Fin 1024) : View.ld d r0_4 (ix3 0 p q) = d (ix3 4 p q) := by
  refine congrArg d (funext fun a => Fin.ext ?_)
  fin_cases a <;> first | rfl | exact (Nat.zero_add _).trans (Nat.one_mul _)
abbrev r0_5 : Rect S8x352x1024 := Rect.unit (s := S8x352x1024) ![5, 0, 0] S1x352x1024.size (by decide)
theorem slice5 (d : Vec Ideal S8x352x1024 .bf16) (p : Fin 352) (q : Fin 1024) : View.ld d r0_5 (ix3 0 p q) = d (ix3 5 p q) := by
  refine congrArg d (funext fun a => Fin.ext ?_)
  fin_cases a <;> first | rfl | exact (Nat.zero_add _).trans (Nat.one_mul _)
abbrev r0_6 : Rect S8x352x1024 := Rect.unit (s := S8x352x1024) ![6, 0, 0] S1x352x1024.size (by decide)
theorem slice6 (d : Vec Ideal S8x352x1024 .bf16) (p : Fin 352) (q : Fin 1024) : View.ld d r0_6 (ix3 0 p q) = d (ix3 6 p q) := by
  refine congrArg d (funext fun a => Fin.ext ?_)
  fin_cases a <;> first | rfl | exact (Nat.zero_add _).trans (Nat.one_mul _)
abbrev r0_7 : Rect S8x352x1024 := Rect.unit (s := S8x352x1024) ![7, 0, 0] S1x352x1024.size (by decide)
theorem slice7 (d : Vec Ideal S8x352x1024 .bf16) (p : Fin 352) (q : Fin 1024) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay3 (z0 z1 z2 z3 z4 z5 z6 z7 : Vec Ideal S1x352x1024 .bf16) (p : Fin 352) (q : Fin 1024) :
    k0_pay3 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay3
  pointwise

/-- The gradient that the body computes: the sum of what the eight devices sent. -/
def grad (x : Vec Ideal S8x352x1024 .bf16) : FVec Ideal S352x1024 .f32 :=
  k0_pay3 (F := Ideal) (View.ld x r0_0) (View.ld x r0_1) (View.ld x r0_2) (View.ld x r0_3) (View.ld x r0_4) (View.ld x r0_5) (View.ld x r0_6) (View.ld x r0_7)

theorem grad_apply (x : Vec Ideal S8x352x1024 .bf16) (p : Fin 352) (q : Fin 1024) : grad x (ix2 p q) = (∑ k : Fin 8, x (ix3 k p q) : EReal) := by
  unfold grad
  refine (pay3 _ _ _ _ _ _ _ _ _ _).trans ?_
  rw [Fin.sum_univ_eight, slice0, slice1, slice2, slice3, slice4, slice5, slice6, slice7]

/-! What the body computes from the gradient and its blocks: one step at each entry. -/

theorem pay4 (g : FVec Ideal S352x1024 .f32) (u : Fin 1) (p : Fin 352) (q : Fin 1024) : k0_pay4 (F := Ideal) g (ix3 u p q) = g (ix2 p q) := by
  unfold k0_pay4; pointwise
theorem pay5 (g : FVec Ideal S352x1024 .f32) (m : Vec Ideal S1x352x1024 .f32) (p : Fin 352) (q : Fin 1024) :
    k0_pay5 (F := Ideal) g m (ix2 p q) = first (g (ix2 p q)) (m (ix3 0 p q)) := by
  unfold k0_pay5 first; pointwise
theorem pay6 (g : FVec Ideal S352x1024 .f32) (v : Vec Ideal S1x352x1024 .f32) (p : Fin 352) (q : Fin 1024) :
    k0_pay6 (F := Ideal) g v (ix2 p q) = second (g (ix2 p q)) (v (ix3 0 p q)) := by
  unfold k0_pay6 second; pointwise
theorem pay1 (g : FVec Ideal S352x1024 .f32) (m : Vec Ideal S1x352x1024 .f32) (u : Fin 1) (p : Fin 352) (q : Fin 1024) :
    k0_pay1 (F := Ideal) (k0_pay5 g m) (ix3 u p q) = first (g (ix2 p q)) (m (ix3 0 p q)) := by
  unfold k0_pay1; pointwise [pay5]
theorem pay2 (g : FVec Ideal S352x1024 .f32) (v : Vec Ideal S1x352x1024 .f32) (u : Fin 1) (p : Fin 352) (q : Fin 1024) :
    k0_pay2 (F := Ideal) (k0_pay6 g v) (ix3 u p q) = second (g (ix2 p q)) (v (ix3 0 p q)) := by
  unfold k0_pay2; pointwise [pay6]
theorem pay7 (g : FVec Ideal S352x1024 .f32) (w m v : Vec Ideal S1x352x1024 .f32) (u : Fin 1) (p : Fin 352) (q : Fin 1024) :
    k0_pay7 (F := Ideal) g w m v (ix3 u p q) = step (g (ix2 p q)) (w (ix3 0 p q)) (m (ix3 0 p q)) (v (ix3 0 p q)) := by
  unfold k0_pay7 step change; pointwise [pay5, pay6]

/-! What the reference computes: in its layer the same step at each entry. -/

theorem here (i : S4x352x1024.Idx) : val_main_v5 (F := Ideal) i = if (i 0).val = 3 then 1#1 else 0#1 := by
  have h : (i 0).val < 4 := (i 0).isLt
  rw [val_main_v5_apply, val_main_v3_apply, val_main_v4_apply, val_main_c_apply]
  generalize (i 0).val = n at h ⊢
  interval_cases n <;> rfl

theorem summed (x0 : (⟨S8x352x1024, .bf16⟩ : BufTy).Contents (Elt Ideal)) (l : Fin 4) (p : Fin 352) (q : Fin 1024) :
    val_main_v2 (F := Ideal) x0 (ix3 l p q) = (∑ k : Fin 8, x0 (ix3 k p q) : EReal) := by
  rw [val_main_v2_apply, val_main_v1_apply]
  refine ((congrArg₂ (· + ·) Ideal.ofBits_zero_f32 (Finset.sum_congr rfl fun k _ => ?_)).trans (zero_add _))
  exact congrArg x0 (funext fun a => by fin_cases a <;> rfl)

theorem value10 (x0 : (⟨S8x352x1024, .bf16⟩ : BufTy).Contents (Elt Ideal)) (x2 : (⟨S4x352x1024, .f32⟩ : BufTy).Contents (Elt Ideal)) (i : S4x352x1024.Idx) :
    val_main_v10 (F := Ideal) x0 x2 i = first (val_main_v2 (F := Ideal) x0 i) (x2 i) := rfl
theorem value16 (x0 : (⟨S8x352x1024, .bf16⟩ : BufTy).Contents (Elt Ideal)) (x3 : (⟨S4x352x1024, .f32⟩ : BufTy).Contents (Elt Ideal)) (i : S4x352x1024.Idx) :
    val_main_v16 (F := Ideal) x0 x3 i = second (val_main_v2 (F := Ideal) x0 i) (x3 i) := rfl
theorem value29 (x0 : (⟨S8x352x1024, .bf16⟩ : BufTy).Contents (Elt Ideal)) (x1 x2 x3 : (⟨S4x352x1024, .f32⟩ : BufTy).Contents (Elt Ideal)) (i : S4x352x1024.Idx) :
    val_main_v29 (F := Ideal) x0 x1 x2 x3 i = step (val_main_v2 (F := Ideal) x0 i) (x1 i) (x2 i) (x3 i) := rfl

/-! At each entry of its blocks the body computes what the reference computes in the layer. -/

theorem point4 (x0 : (⟨S8x352x1024, .bf16⟩ : BufTy).Contents (Elt Ideal)) (y : S1x352x1024.Idx) :
    k0_pay4 (F := Ideal) (grad x0) y = val_main_v2 (F := Ideal) x0 (ix3 3 (y 1) (y 2)) :=
  (congrArg (k0_pay4 (F := Ideal) (grad x0)) (eq_ix3 y)).trans ((pay4 _ _ _ _).trans ((grad_apply x0 (y 1) (y 2)).trans (summed x0 3 (y 1) (y 2)).symm))
theorem point5 (x0 : (⟨S8x352x1024, .bf16⟩ : BufTy).Contents (Elt Ideal)) (x1 x2 x3 : (⟨S4x352x1024, .f32⟩ : BufTy).Contents (Elt Ideal)) (y : S1x352x1024.Idx) :
    k0_pay7 (F := Ideal) (grad x0) (fun j : S1x352x1024.Idx => x1 (ix3 3 (j 1) (j 2))) (fun j : S1x352x1024.Idx => x2 (ix3 3 (j 1) (j 2))) (fun j : S1x352x1024.Idx => x3 (ix3 3 (j 1) (j 2))) y = val_main_v29 (F := Ideal) x0 x1 x2 x3 (ix3 3 (y 1) (y 2)) :=
  (congrArg (k0_pay7 (F := Ideal) (grad x0) (fun j : S1x352x1024.Idx => x1 (ix3 3 (j 1) (j 2))) (fun j : S1x352x1024.Idx => x2 (ix3 3 (j 1) (j 2))) (fun j : S1x352x1024.Idx => x3 (ix3 3 (j 1) (j 2)))) (eq_ix3 y)).trans ((pay7 _ _ _ _ _ _ _).trans
    ((congrArg (fun g => step g (x1 (ix3 3 (y 1) (y 2))) (x2 (ix3 3 (y 1) (y 2))) (x3 (ix3 3 (y 1) (y 2)))) ((grad_apply x0 (y 1) (y 2)).trans (summed x0 3 (y 1) (y 2)).symm)).trans (value29 _ _ _ _ _).symm))
theorem point6 (x0 : (⟨S8x352x1024, .bf16⟩ : BufTy).Contents (Elt Ideal)) (x2 : (⟨S4x352x1024, .f32⟩ : BufTy).Contents (Elt Ideal)) (y : S1x352x1024.Idx) :
    k0_pay1 (F := Ideal) (k0_pay5 (grad x0) (fun j : S1x352x1024.Idx => x2 (ix3 3 (j 1) (j 2)))) y = val_main_v10 (F := Ideal) x0 x2 (ix3 3 (y 1) (y 2)) :=
  (congrArg (k0_pay1 (F := Ideal) (k0_pay5 (grad x0) (fun j : S1x352x1024.Idx => x2 (ix3 3 (j 1) (j 2))))) (eq_ix3 y)).trans ((pay1 _ _ _ _ _).trans
    ((congrArg (fun g => first g (x2 (ix3 3 (y 1) (y 2)))) ((grad_apply x0 (y 1) (y 2)).trans (summed x0 3 (y 1) (y 2)).symm)).trans (value10 _ _ _).symm))
theorem point7 (x0 : (⟨S8x352x1024, .bf16⟩ : BufTy).Contents (Elt Ideal)) (x3 : (⟨S4x352x1024, .f32⟩ : BufTy).Contents (Elt Ideal)) (y : S1x352x1024.Idx) :
    k0_pay2 (F := Ideal) (k0_pay6 (grad x0) (fun j : S1x352x1024.Idx => x3 (ix3 3 (j 1) (j 2)))) y = val_main_v16 (F := Ideal) x0 x3 (ix3 3 (y 1) (y 2)) :=
  (congrArg (k0_pay2 (F := Ideal) (k0_pay6 (grad x0) (fun j : S1x352x1024.Idx => x3 (ix3 3 (j 1) (j 2))))) (eq_ix3 y)).trans ((pay2 _ _ _ _ _).trans
    ((congrArg (fun g => second g (x3 (ix3 3 (y 1) (y 2)))) ((grad_apply x0 (y 1) (y 2)).trans (summed x0 3 (y 1) (y 2)).symm)).trans (value16 _ _ _).symm))
variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![3, 0, 0] := (by decide +kernel : ∀ t : Fin grid0.N, _)
theorem at2 : ∀ t : Fin cfg0.N, win0_2.index t = ![3, 0, 0] := (by decide +kernel : ∀ t : Fin grid0.N, _)
theorem at3 : ∀ t : Fin cfg0.N, win0_3.index t = ![3, 0, 0] := (by decide +kernel : ∀ t : Fin grid0.N, _)
theorem at4 : ∀ t : Fin cfg0.N, win0_4.index t = ![3, 0, 0] := (by decide +kernel : ∀ t : Fin grid0.N, _)
theorem at5 : ∀ t : Fin cfg0.N, win0_5.index t = ![3, 0, 0] := (by decide +kernel : ∀ t : Fin grid0.N, _)
theorem at6 : ∀ t : Fin cfg0.N, win0_6.index t = ![3, 0, 0] := (by decide +kernel : ∀ t : Fin grid0.N, _)
theorem at7 : ∀ t : Fin cfg0.N, win0_7.index t = ![3, 0, 0] := (by decide +kernel : ∀ t : Fin grid0.N, _)

/-! The blocks: the whole of what was sent, and one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = fun j : S1x352x1024.Idx => m (c.tc.loc main_arg1) (ix3 3 (j 1) (j 2)) := by
  funext j
  refine congrArg (m (c.tc.loc main_arg1)) (?_ : ((win0_1).blk t).view.emb j = ix3 3 (j 1) (j 2))
  blk_ext [at1]
theorem iblk2 (t : Fin cfg0.N) : iblk m c 2 t = fun j : S1x352x1024.Idx => m (c.tc.loc main_arg2) (ix3 3 (j 1) (j 2)) := by
  funext j
  refine congrArg (m (c.tc.loc main_arg2)) (?_ : ((win0_2).blk t).view.emb j = ix3 3 (j 1) (j 2))
  blk_ext [at2]
theorem iblk3 (t : Fin cfg0.N) : iblk m c 3 t = fun j : S1x352x1024.Idx => m (c.tc.loc main_arg3) (ix3 3 (j 1) (j 2)) := by
  funext j
  refine congrArg (m (c.tc.loc main_arg3)) (?_ : ((win0_3).blk t).view.emb j = ix3 3 (j 1) (j 2))
  blk_ext [at3]

/-! The arrays that the kernel writes over: its results after the layers before this one. -/

theorem V4 : V m c main_v0_0 = m (c.tc.loc main_arg4) := by
  unfold_abbrev_sides; after_results; rfl
theorem V5 : V m c main_v0_1 = m (c.tc.loc main_arg5) := by
  unfold_abbrev_sides; after_results; rfl
theorem V6 : V m c main_v0_2 = m (c.tc.loc main_arg6) := by
  unfold_abbrev_sides; after_results; rfl
theorem V7 : V m c main_v0_3 = m (c.tc.loc main_arg7) := by
  unfold_abbrev_sides; after_results; rfl

/-! The results after the kernel has run: in its layer the new values, elsewhere what was there before. -/

theorem final4 : (dats m 0 c).arrAt 4 cfg0.N = val_main_v30 (F := Ideal) (m (c.tc.loc main_arg0)) (m (c.tc.loc main_arg4)) := by
  refine ((dats m 0 c).arrAt_eq_of_coversWhere 4 (val_main_v2 (F := Ideal) (m (c.tc.loc main_arg0))) (fun β => β (0 : Fin _) = 3) (by decide +kernel)
    (P := fun i => (i 0 : ℕ) = 3) (fun t hf y => ?_) (fun j => ?_)).trans ?_
  · have hy : (win0_4.blk t).view.emb y = ix3 3 (y 1) (y 2) := by blk_ext [at4]
    blk_simp
    rw [after0_4]
    refine Eq.trans ?_ (congrArg _ hy.symm)
    unfold outsAt0
    frame_out
    rw [iblk0]
    exact point4 _ y
  · blk_simp [Pipeline.Window.cell_apply]
    omega
  · funext i
    rw [val_main_v30_apply, here]
    split_ifs with h
    · rfl
    · exact congrFun ((A_eq m c 4).trans (V4 m c)) i

theorem final5 : (dats m 0 c).arrAt 5 cfg0.N = val_main_v31 (F := Ideal) (m (c.tc.loc main_arg0)) (m (c.tc.loc main_arg1)) (m (c.tc.loc main_arg2)) (m (c.tc.loc main_arg3)) (m (c.tc.loc main_arg5)) := by
  refine ((dats m 0 c).arrAt_eq_of_coversWhere 5 (val_main_v29 (F := Ideal) (m (c.tc.loc main_arg0)) (m (c.tc.loc main_arg1)) (m (c.tc.loc main_arg2)) (m (c.tc.loc main_arg3))) (fun β => β (0 : Fin _) = 3) (by decide +kernel)
    (P := fun i => (i 0 : ℕ) = 3) (fun t hf y => ?_) (fun j => ?_)).trans ?_
  · have hy : (win0_5.blk t).view.emb y = ix3 3 (y 1) (y 2) := by blk_ext [at5]
    blk_simp
    rw [after0_5]
    refine Eq.trans ?_ (congrArg _ hy.symm)
    unfold outsAt0
    frame_out
    rw [iblk0, iblk1, iblk2, iblk3]
    exact point5 _ _ _ _ y
  · blk_simp [Pipeline.Window.cell_apply]
    omega
  · funext i
    rw [val_main_v31_apply, here]
    split_ifs with h
    · rfl
    · exact congrFun ((A_eq m c 5).trans (V5 m c)) i

theorem final6 : (dats m 0 c).arrAt 6 cfg0.N = val_main_v32 (F := Ideal) (m (c.tc.loc main_arg0)) (m (c.tc.loc main_arg2)) (m (c.tc.loc main_arg6)) := by
  refine ((dats m 0 c).arrAt_eq_of_coversWhere 6 (val_main_v10 (F := Ideal) (m (c.tc.loc main_arg0)) (m (c.tc.loc main_arg2))) (fun β => β (0 : Fin _) = 3) (by decide +kernel)
    (P := fun i => (i 0 : ℕ) = 3) (fun t hf y => ?_) (fun j => ?_)).trans ?_
  · have hy : (win0_6.blk t).view.emb y = ix3 3 (y 1) (y 2) := by blk_ext [at6]
    blk_simp
    rw [after0_6]
    refine Eq.trans ?_ (congrArg _ hy.symm)
    unfold outsAt0
    frame_out
    rw [iblk0, iblk2]
    exact point6 _ _ y
  · blk_simp [Pipeline.Window.cell_apply]
    omega
  · funext i
    rw [val_main_v32_apply, here]
    split_ifs with h
    · rfl
    · exact congrFun ((A_eq m c 6).trans (V6 m c)) i

theorem final7 : (dats m 0 c).arrAt 7 cfg0.N = val_main_v33 (F := Ideal) (m (c.tc.loc main_arg0)) (m (c.tc.loc main_arg3)) (m (c.tc.loc main_arg7)) := by
  refine ((dats m 0 c).arrAt_eq_of_coversWhere 7 (val_main_v16 (F := Ideal) (m (c.tc.loc main_arg0)) (m (c.tc.loc main_arg3))) (fun β => β (0 : Fin _) = 3) (by decide +kernel)
    (P := fun i => (i 0 : ℕ) = 3) (fun t hf y => ?_) (fun j => ?_)).trans ?_
  · have hy : (win0_7.blk t).view.emb y = ix3 3 (y 1) (y 2) := by blk_ext [at7]
    blk_simp
    rw [after0_7]
    refine Eq.trans ?_ (congrArg _ hy.symm)
    unfold outsAt0
    frame_out
    rw [iblk0, iblk3]
    exact point7 _ _ y
  · blk_simp [Pipeline.Window.cell_apply]
    omega
  · funext i
    rw [val_main_v33_apply, here]
    split_ifs with h
    · rfl
    · exact congrFun ((A_eq m c 7).trans (V7 m c)) i

/-! The claims. -/

theorem frame_kernel : Cert.quiescent_Kernel27 := fun m ρ _ => Cert.Kernel27.Gen.frame m ρ

theorem frame_ideal : Cert.quiescent_Kernel27Ideal := fun m ρ _ => Cert.Kernel27Ideal.Gen.frame m ρ

theorem frame_reference : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem preserves : Cert.preserves_Kernel27_Kernel27Ideal := trivial

/-- The kernel and the reference have the same results. -/
theorem algebraic : Cert.algebraic_Kernel27Ideal_Reference27Ideal := by
  intro m ρ m' ρ' _ hagree
  refine ⟨_, _, _, _, Cert.Kernel27Ideal.Value.run_blocks m ρ, ?_⟩
  refine (θ_run Cert.Reference27Ideal.defs _ _).mono (fun _ h c => ?_) (Cert.Reference27Ideal.Value.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [val_main_v30_eq, a0, a4]; exact (final4 m c).symm
  · rw [val_main_v31_eq, a0, a1, a2, a3, a5]; exact (final5 m c).symm
  · rw [val_main_v32_eq, a0, a2, a6]; exact (final6 m c).symm
  · rw [val_main_v33_eq, a0, a3, a7]; exact (final7 m c).symm

end Cert.BigC3

end
-- ==== Proof.Opt.BigD0.lean ====
/-
  The AdamW step of the first of the 2 layers of a device's columns of w_in of either mixer. The gradient comes in two
  halves of the rows, one for each grid point; each is the sum, in the format of the moments, of what eight devices
  sent; from it come the change of the weight and the two new moments. The kernel writes only its layer of the four
  results, so the claim is about the indices of that layer.
-/
module

public import proofs.«01_k».proof.Defs
public import proofs.«01_k».proof.Proof.Opt.Scalar
public import proofs.«01_k».proof.Proof.Gen.Kernel28.Frame
public import proofs.«01_k».proof.Proof.Gen.Kernel28Ideal.Value
public import proofs.«01_k».proof.Proof.Gen.Reference28Ideal.Read
public import proofs.«01_k».proof.Proof.Gen.On_first_layer_halves
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigD0

open Idealize.ShloMosaic Idealize.ShloMosaic.TcCoe Idealize.SL.Sem
open Idealize.ShloMosaic.Pipeline (Dat)
open Cert.Kernel28Ideal Cert.Kernel28Ideal.Gen Cert.Reference28Ideal.Read Cert.AdamW

/-! Each slice the body loads: what one device sent. -/

abbrev r0_0 : Rect S8x512x512 := Rect.unit (s := S8x512x512) ![0, 0, 0] S1x512x512.size (by decide)
theorem slice0 (d : Vec Ideal S8x512x512 .bf16) (p : Fin 512) (q : Fin 512) : View.ld d r0_0 (ix3 0 p q) = d (ix3 0 p q) := by
  refine congrArg d (funext fun a => Fin.ext ?_)
  fin_cases a <;> first | rfl | exact (Nat.zero_add _).trans (Nat.one_mul _)
abbrev r0_1 : Rect S8x512x512 := Rect.unit (s := S8x512x512) ![1, 0, 0] S1x512x512.size (by decide)
theorem slice1 (d : Vec Ideal S8x512x512 .bf16) (p : Fin 512) (q : Fin 512) : View.ld d r0_1 (ix3 0 p q) = d (ix3 1 p q) := by
  refine congrArg d (funext fun a => Fin.ext ?_)
  fin_cases a <;> first | rfl | exact (Nat.zero_add _).trans (Nat.one_mul _)
abbrev r0_2 : Rect S8x512x512 := Rect.unit (s := S8x512x512) ![2, 0, 0] S1x512x512.size (by decide)
theorem slice2 (d : Vec Ideal S8x512x512 .bf16) (p : Fin 512) (q : Fin 512) : View.ld d r0_2 (ix3 0 p q) = d (ix3 2 p q) := by
  refine congrArg d (funext fun a => Fin.ext ?_)
  fin_cases a <;> first | rfl | exact (Nat.zero_add _).trans (Nat.one_mul _)
abbrev r0_3 : Rect S8x512x512 := Rect.unit (s := S8x512x512) ![3, 0, 0] S1x512x512.size (by decide)
theorem slice3 (d : Vec Ideal S8x512x512 .bf16) (p : Fin 512) (q : Fin 512) : View.ld d r0_3 (ix3 0 p q) = d (ix3 3 p q) := by
  refine congrArg d (funext fun a => Fin.ext ?_)
  fin_cases a <;> first | rfl | exact (Nat.zero_add _).trans (Nat.one_mul _)
abbrev r0_4 : Rect S8x512x512 := Rect.unit (s := S8x512x512) ![4, 0, 0] S1x512x512.size (by decide)
theorem slice4 (d : Vec Ideal S8x512x512 .bf16) (p : Fin 512) (q : Fin 512) : View.ld d r0_4 (ix3 0 p q) = d (ix3 4 p q) := by
  refine congrArg d (funext fun a => Fin.ext ?_)
  fin_cases a <;> first | rfl | exact (Nat.zero_add _).trans (Nat.one_mul _)
abbrev r0_5 : Rect S8x512x512 := Rect.unit (s := S8x512x512) ![5, 0, 0] S1x512x512.size (by decide)
theorem slice5 (d : Vec Ideal S8x512x512 .bf16) (p : Fin 512) (q : Fin 512) : View.ld d r0_5 (ix3 0 p q) = d (ix3 5 p q) := by
  refine congrArg d (funext fun a => Fin.ext ?_)
  fin_cases a <;> first | rfl | exact (Nat.zero_add _).trans (Nat.one_mul _)
abbrev r0_6 : Rect S8x512x512 := Rect.unit (s := S8x512x512) ![6, 0, 0] S1x512x512.size (by decide)
theorem slice6 (d : Vec Ideal S8x512x512 .bf16) (p : Fin 512) (q : Fin 512) : View.ld d r0_6 (ix3 0 p q) = d (ix3 6 p q) := by
  refine congrArg d (funext fun a => Fin.ext ?_)
  fin_cases a <;> first | rfl | exact (Nat.zero_add _).trans (Nat.one_mul _)
abbrev r0_7 : Rect S8x512x512 := Rect.unit (s := S8x512x512) ![7, 0, 0] S1x512x512.size (by decide)
theorem slice7 (d : Vec Ideal S8x512x512 .bf16) (p : Fin 512) (q : Fin 512) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay5 (z0 z1 z2 z3 z4 z5 z6 z7 : Vec Ideal S1x512x512 .bf16) (p q : Fin 512) :
    k0_pay5 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay5
  pointwise

/-- The gradient of half of the rows that the body computes: the sum of what the eight devices sent. -/
def grad (x : Vec Ideal S8x512x512 .bf16) : FVec Ideal S512x512 .f32 :=
  k0_pay5 (F := Ideal) (View.ld x r0_0) (View.ld x r0_1) (View.ld x r0_2) (View.ld x r0_3) (View.ld x r0_4) (View.ld x r0_5) (View.ld x r0_6) (View.ld x r0_7)

theorem grad_apply (x : Vec Ideal S8x512x512 .bf16) (p q : Fin 512) : grad x (ix2 p q) = (∑ k : Fin 8, x (ix3 k p q) : EReal) := by
  unfold grad
  refine (pay5 _ _ _ _ _ _ _ _ _ _).trans ?_
  rw [Fin.sum_univ_eight, slice0, slice1, slice2, slice3, slice4, slice5, slice6, slice7]

/-! What the body computes from the gradient and its blocks: one step at each entry. The body of the lower half is
   that of the upper half once more. -/

theorem pay6 (g : FVec Ideal S512x512 .f32) (u : Fin 1) (p q : Fin 512) : k0_pay6 (F := Ideal) g (ix3 u p q) = g (ix2 p q) := by
  unfold k0_pay6; pointwise
theorem pay7 (g : FVec Ideal S512x512 .f32) (m : Vec Ideal S1x512x512 .f32) (p q : Fin 512) : k0_pay7 (F := Ideal) g m (ix2 p q) = first (g (ix2 p q)) (m (ix3 0 p q)) := by
  unfold k0_pay7 first; pointwise
theorem pay8 (g : FVec Ideal S512x512 .f32) (v : Vec Ideal S1x512x512 .f32) (p q : Fin 512) : k0_pay8 (F := Ideal) g v (ix2 p q) = second (g (ix2 p q)) (v (ix3 0 p q)) := by
  unfold k0_pay8 second; pointwise
theorem pay1 (g : FVec Ideal S512x512 .f32) (m : Vec Ideal S1x512x512 .f32) (u : Fin 1) (p q : Fin 512) :
    k0_pay1 (F := Ideal) (k0_pay7 g m) (ix3 u p q) = first (g (ix2 p q)) (m (ix3 0 p q)) := by
  unfold k0_pay1; pointwise [pay7]
theorem pay2 (g : FVec Ideal S512x512 .f32) (v : Vec Ideal S1x512x512 .f32) (u : Fin 1) (p q : Fin 512) :
    k0_pay2 (F := Ideal) (k0_pay8 g v) (ix3 u p q) = second (g (ix2 p q)) (v (ix3 0 p q)) := by
  unfold k0_pay2; pointwise [pay8]
theorem pay9 (g : FVec Ideal S512x512 .f32) (w m v : Vec Ideal S1x512x512 .f32) (u : Fin 1) (p q : Fin 512) :
    k0_pay9 (F := Ideal) g w m v (ix3 u p q) = step (g (ix2 p q)) (w (ix3 0 p q)) (m (ix3 0 p q)) (v (ix3 0 p q)) := by
  unfold k0_pay9 step change; pointwise [pay7, pay8]

theorem lower10 : @k0_pay10 Ideal _ = @k0_pay5 Ideal _ := rfl
theorem lower11 : @k0_pay11 Ideal = @k0_pay6 Ideal := rfl
theorem lower12 : @k0_pay12 Ideal _ = @k0_pay7 Ideal _ := rfl
theorem lower13 : @k0_pay13 Ideal _ = @k0_pay8 Ideal _ := rfl
theorem lower14 : @k0_pay14 Ideal _ = @k0_pay9 Ideal _ := rfl
theorem lower3 : @k0_pay3 Ideal = @k0_pay1 Ideal := rfl
theorem lower4 : @k0_pay4 Ideal = @k0_pay2 Ideal := rfl

theorem upper5 (x : Vec Ideal S8x512x512 .bf16) (y : S1x512x512.Idx) :
    k0_pay6 (F := Ideal) (k0_pay5 (F := Ideal) (View.ld x r0_0) (View.ld x r0_1) (View.ld x r0_2) (View.ld x r0_3) (View.ld x r0_4) (View.ld x r0_5) (View.ld x r0_6) (View.ld x r0_7)) y
      = k0_pay6 (F := Ideal) (grad x) y := by
  unfold grad; rfl
theorem low5 (x : Vec Ideal S8x512x512 .bf16) (y : S1x512x512.Idx) :
    k0_pay11 (F := Ideal) (k0_pay10 (F := Ideal) (View.ld x r0_0) (View.ld x r0_1) (View.ld x r0_2) (View.ld x r0_3) (View.ld x r0_4) (View.ld x r0_5) (View.ld x r0_6) (View.ld x r0_7)) y
      = k0_pay6 (F := Ideal) (grad x) y := by
  unfold grad; rw [lower11, lower10]
theorem upper6 (x : Vec Ideal S8x512x512 .bf16) (w m v : Vec Ideal S1x512x512 .f32) (y : S1x512x512.Idx) :
    k0_pay9 (F := Ideal) (k0_pay5 (F := Ideal) (View.ld x r0_0) (View.ld x r0_1) (View.ld x r0_2) (View.ld x r0_3) (View.ld x r0_4) (View.ld x r0_5) (View.ld x r0_6) (View.ld x r0_7)) w m v y
      = k0_pay9 (F := Ideal) (grad x) w m v y := by
  unfold grad; rfl
theorem low6 (x : Vec Ideal S8x512x512 .bf16) (w m v : Vec Ideal S1x512x512 .f32) (y : S1x512x512.Idx) :
    k0_pay14 (F := Ideal) (k0_pay10 (F := Ideal) (View.ld x r0_0) (View.ld x r0_1) (View.ld x r0_2) (View.ld x r0_3) (View.ld x r0_4) (View.ld x r0_5) (View.ld x r0_6) (View.ld x r0_7)) w m v y
      = k0_pay9 (F := Ideal) (grad x) w m v y := by
  unfold grad; rw [lower14, lower10]
theorem upper7 (x : Vec Ideal S8x512x512 .bf16) (m : Vec Ideal S1x512x512 .f32) (y : S1x512x512.Idx) :
    k0_pay1 (k0_pay7 (k0_pay5 (F := Ideal) (View.ld x r0_0) (View.ld x r0_1) (View.ld x r0_2) (View.ld x r0_3) (View.ld x r0_4) (View.ld x r0_5) (View.ld x r0_6) (View.ld x r0_7)) m) y
      = k0_pay1 (k0_pay7 (grad x) m) y := by
  unfold grad; rfl
theorem low7 (x : Vec Ideal S8x512x512 .bf16) (m : Vec Ideal S1x512x512 .f32) (y : S1x512x512.Idx) :
    k0_pay3 (k0_pay12 (k0_pay10 (F := Ideal) (View.ld x r0_0) (View.ld x r0_1) (View.ld x r0_2) (View.ld x r0_3) (View.ld x r0_4) (View.ld x r0_5) (View.ld x r0_6) (View.ld x r0_7)) m) y
      = k0_pay1 (k0_pay7 (grad x) m) y := by
  unfold grad; rw [lower3, lower12, lower10]
theorem upper8 (x : Vec Ideal S8x512x512 .bf16) (v : Vec Ideal S1x512x512 .f32) (y : S1x512x512.Idx) :
    k0_pay2 (k0_pay8 (k0_pay5 (F := Ideal) (View.ld x r0_0) (View.ld x r0_1) (View.ld x r0_2) (View.ld x r0_3) (View.ld x r0_4) (View.ld x r0_5) (View.ld x r0_6) (View.ld x r0_7)) v) y
      = k0_pay2 (k0_pay8 (grad x) v) y := by
  unfold grad; rfl
theorem low8 (x : Vec Ideal S8x512x512 .bf16) (v : Vec Ideal S1x512x512 .f32) (y : S1x512x512.Idx) :
    k0_pay4 (k0_pay13 (k0_pay10 (F := Ideal) (View.ld x r0_0) (View.ld x r0_1) (View.ld x r0_2) (View.ld x r0_3) (View.ld x r0_4) (View.ld x r0_5) (View.ld x r0_6) (View.ld x r0_7)) v) y
      = k0_pay2 (k0_pay8 (grad x) v) y := by
  unfold grad; rw [lower4, lower13, lower10]

/-! What the reference computes: in its layer the same step at each entry. -/

theorem here (i : S2x1024x512.Idx) : val_main_v6 (F := Ideal) i = if (i 0).val = 0 then 1#1 else 0#1 := by
  have h : (i 0).val < 2 := (i 0).isLt
  rw [val_main_v6_apply, val_main_v4_apply, val_main_v5_apply, val_main_c_apply]
  generalize (i 0).val = n at h ⊢
  interval_cases n <;> rfl

/-- A row of the half that grid point `t` computes. -/
def row (t : Fin cfg0.N) (p : Fin 512) : Fin 1024 := ⟨t.val * 512 + p.val, by
  have h : t.val < 2 := lt_of_lt_of_eq t.isLt N_0
  omega⟩

/-- What is sent of the half that grid point `t` computes. -/
def sent (t : Fin cfg0.N) (x0 x1 : Vec Ideal S8x512x512 .bf16) : Vec Ideal S8x512x512 .bf16 := if t.val = 0 then x0 else x1

theorem halves (t : Fin cfg0.N) (x0 x1 : (⟨S8x512x512, .bf16⟩ : BufTy).Contents (Elt Ideal)) (k : Fin 8) (p q : Fin 512) :
    val_main_v0 (F := Ideal) x0 x1 (ix3 k (row t p) q) = sent t x0 x1 (ix3 k p q) := by
  unfold val_main_v0 sent
  have h : t.val < 2 := lt_of_lt_of_eq t.isLt N_0
  split_ifs with h0
  · refine concatenate_pair_apply_left (1 : Fin 3) x0 x1 _ (ix3 k (row t p) q) rfl (ix3 k p q) fun b => ?_
    fin_cases b
    · rfl
    · show p.val = t.val * 512 + p.val; omega
    · rfl
  · refine concatenate_pair_apply_right (1 : Fin 3) x0 x1 _ (ix3 k (row t p) q) rfl rfl (ix3 k p q) (fun b hb => ?_) ?_
    · fin_cases b
      · rfl
      · exact absurd rfl hb
      · rfl
    · show p.val + 512 = t.val * 512 + p.val; omega

theorem summed (t : Fin cfg0.N) (x0 x1 : (⟨S8x512x512, .bf16⟩ : BufTy).Contents (Elt Ideal)) (l : Fin 2) (p q : Fin 512) :
    val_main_v3 (F := Ideal) x0 x1 (ix3 l (row t p) q) = (∑ k : Fin 8, sent t x0 x1 (ix3 k p q) : EReal) := by
  rw [val_main_v3_apply, val_main_v2_apply]
  refine ((congrArg₂ (· + ·) Ideal.ofBits_zero_f32 (Finset.sum_congr rfl fun k _ => ?_)).trans (zero_add _))
  refine Eq.trans ?_ (halves t x0 x1 k p q)
  exact congrArg (val_main_v0 (F := Ideal) x0 x1) (funext fun a => by fin_cases a <;> rfl)

theorem value11 (x0 x1 : (⟨S8x512x512, .bf16⟩ : BufTy).Contents (Elt Ideal)) (x3 : (⟨S2x1024x512, .f32⟩ : BufTy).Contents (Elt Ideal)) (i : S2x1024x512.Idx) :
    val_main_v11 (F := Ideal) x0 x1 x3 i = first (val_main_v3 (F := Ideal) x0 x1 i) (x3 i) := rfl
theorem value17 (x0 x1 : (⟨S8x512x512, .bf16⟩ : BufTy).Contents (Elt Ideal)) (x4 : (⟨S2x1024x512, .f32⟩ : BufTy).Contents (Elt Ideal)) (i : S2x1024x512.Idx) :
    val_main_v17 (F := Ideal) x0 x1 x4 i = second (val_main_v3 (F := Ideal) x0 x1 i) (x4 i) := rfl
theorem value30 (x0 x1 : (⟨S8x512x512, .bf16⟩ : BufTy).Contents (Elt Ideal)) (x2 x3 x4 : (⟨S2x1024x512, .f32⟩ : BufTy).Contents (Elt Ideal)) (i : S2x1024x512.Idx) :
    val_main_v30 (F := Ideal) x0 x1 x2 x3 x4 i = step (val_main_v3 (F := Ideal) x0 x1 i) (x2 i) (x3 i) (x4 i) := rfl

/-! At each entry of its blocks the body computes what the reference computes in the layer. -/

theorem point5 (t : Fin cfg0.N) (x0 x1 : (⟨S8x512x512, .bf16⟩ : BufTy).Contents (Elt Ideal)) (y : S1x512x512.Idx) :
    k0_pay6 (F := Ideal) (grad (sent t x0 x1)) y = val_main_v3 (F := Ideal) x0 x1 (ix3 0 (row t (y 1)) (y 2)) :=
  (congrArg (k0_pay6 (F := Ideal) (grad (sent t x0 x1))) (eq_ix3 y)).trans ((pay6 _ _ _ _).trans ((grad_apply (sent t x0 x1) (y 1) (y 2)).trans (summed t x0 x1 0 (y 1) (y 2)).symm))
theorem point6 (t : Fin cfg0.N) (x0 x1 : (⟨S8x512x512, .bf16⟩ : BufTy).Contents (Elt Ideal)) (x2 x3 x4 : (⟨S2x1024x512, .f32⟩ : BufTy).Contents (Elt Ideal)) (y : S1x512x512.Idx) :
    k0_pay9 (F := Ideal) (grad (sent t x0 x1)) (fun j : S1x512x512.Idx => x2 (ix3 0 (row t (j 1)) (j 2))) (fun j : S1x512x512.Idx => x3 (ix3 0 (row t (j 1)) (j 2))) (fun j : S1x512x512.Idx => x4 (ix3 0 (row t (j 1)) (j 2))) y
      = val_main_v30 (F := Ideal) x0 x1 x2 x3 x4 (ix3 0 (row t (y 1)) (y 2)) :=
  (congrArg (k0_pay9 (F := Ideal) (grad (sent t x0 x1)) (fun j : S1x512x512.Idx => x2 (ix3 0 (row t (j 1)) (j 2))) (fun j : S1x512x512.Idx => x3 (ix3 0 (row t (j 1)) (j 2))) (fun j : S1x512x512.Idx => x4 (ix3 0 (row t (j 1)) (j 2)))) (eq_ix3 y)).trans ((pay9 _ _ _ _ _ _ _).trans
    ((congrArg (fun g => step g (x2 (ix3 0 (row t (y 1)) (y 2))) (x3 (ix3 0 (row t (y 1)) (y 2))) (x4 (ix3 0 (row t (y 1)) (y 2)))) ((grad_apply (sent t x0 x1) (y 1) (y 2)).trans (summed t x0 x1 0 (y 1) (y 2)).symm)).trans (value30 _ _ _ _ _ _).symm))
theorem point7 (t : Fin cfg0.N) (x0 x1 : (⟨S8x512x512, .bf16⟩ : BufTy).Contents (Elt Ideal)) (x3 : (⟨S2x1024x512, .f32⟩ : BufTy).Contents (Elt Ideal)) (y : S1x512x512.Idx) :
    k0_pay1 (F := Ideal) (k0_pay7 (grad (sent t x0 x1)) (fun j : S1x512x512.Idx => x3 (ix3 0 (row t (j 1)) (j 2)))) y = val_main_v11 (F := Ideal) x0 x1 x3 (ix3 0 (row t (y 1)) (y 2)) :=
  (congrArg (k0_pay1 (F := Ideal) (k0_pay7 (grad (sent t x0 x1)) (fun j : S1x512x512.Idx => x3 (ix3 0 (row t (j 1)) (j 2))))) (eq_ix3 y)).trans ((pay1 _ _ _ _ _).trans
    ((congrArg (fun g => first g (x3 (ix3 0 (row t (y 1)) (y 2)))) ((grad_apply (sent t x0 x1) (y 1) (y 2)).trans (summed t x0 x1 0 (y 1) (y 2)).symm)).trans (value11 _ _ _ _).symm))
theorem point8 (t : Fin cfg0.N) (x0 x1 : (⟨S8x512x512, .bf16⟩ : BufTy).Contents (Elt Ideal)) (x4 : (⟨S2x1024x512, .f32⟩ : BufTy).Contents (Elt Ideal)) (y : S1x512x512.Idx) :
    k0_pay2 (F := Ideal) (k0_pay8 (grad (sent t x0 x1)) (fun j : S1x512x512.Idx => x4 (ix3 0 (row t (j 1)) (j 2)))) y = val_main_v17 (F := Ideal) x0 x1 x4 (ix3 0 (row t (y 1)) (y 2)) :=
  (congrArg (k0_pay2 (F := Ideal) (k0_pay8 (grad (sent t x0 x1)) (fun j : S1x512x512.Idx => x4 (ix3 0 (row t (j 1)) (j 2))))) (eq_ix3 y)).trans ((pay2 _ _ _ _ _).trans
    ((congrArg (fun g => second g (x4 (ix3 0 (row t (y 1)) (y 2)))) ((grad_apply (sent t x0 x1) (y 1) (y 2)).trans (summed t x0 x1 0 (y 1) (y 2)).symm)).trans (value17 _ _ _ _).symm))

variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, t.val, 0] := (by decide +kernel : ∀ t : Fin grid0.N, _)
theorem at3 : ∀ t : Fin cfg0.N, win0_3.index t = ![0, t.val, 0] := (by decide +kernel : ∀ t : Fin grid0.N, _)
theorem at4 : ∀ t : Fin cfg0.N, win0_4.index t = ![0, t.val, 0] := (by decide +kernel : ∀ t : Fin grid0.N, _)
theorem at5 : ∀ t : Fin cfg0.N, win0_5.index t = ![0, t.val, 0] := (by decide +kernel : ∀ t : Fin grid0.N, _)
theorem at6 : ∀ t : Fin cfg0.N, win0_6.index t = ![0, t.val, 0] := (by decide +kernel : ∀ t : Fin grid0.N, _)
theorem at7 : ∀ t : Fin cfg0.N, win0_7.index t = ![0, t.val, 0] := (by decide +kernel : ∀ t : Fin grid0.N, _)
theorem at8 : ∀ t : Fin cfg0.N, win0_8.index t = ![0, t.val, 0] := (by decide +kernel : ∀ t : Fin grid0.N, _)

/-! The blocks: the whole of what was sent, and half of the rows of one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = m (c.tc.loc main_arg1) := by
  funext j
  refine congrArg (m (c.tc.loc main_arg1)) (?_ : ((win0_1).blk t).view.emb j = j)
  blk_ext [at1]
theorem iblk2 (t : Fin cfg0.N) : iblk m c 2 t = fun j : S1x512x512.Idx => m (c.tc.loc main_arg2) (ix3 0 (row t (j 1)) (j 2)) := by
  funext j
  refine congrArg (m (c.tc.loc main_arg2)) (?_ : ((win0_2).blk t).view.emb j = ix3 0 (row t (j 1)) (j 2))
  blk_ext [at2, row]
theorem iblk3 (t : Fin cfg0.N) : iblk m c 3 t = fun j : S1x512x512.Idx => m (c.tc.loc main_arg3) (ix3 0 (row t (j 1)) (j 2)) := by
  funext j
  refine congrArg (m (c.tc.loc main_arg3)) (?_ : ((win0_3).blk t).view.emb j = ix3 0 (row t (j 1)) (j 2))
  blk_ext [at3, row]
theorem iblk4 (t : Fin cfg0.N) : iblk m c 4 t = fun j : S1x512x512.Idx => m (c.tc.loc main_arg4) (ix3 0 (row t (j 1)) (j 2)) := by
  funext j
  refine congrArg (m (c.tc.loc main_arg4)) (?_ : ((win0_4).blk t).view.emb j = ix3 0 (row t (j 1)) (j 2))
  blk_ext [at4, row]

/-! The results after the kernel has run, in its layer: the new values. -/

theorem final5 (i : S2x1024x512.Idx) (h : (i 0).val = 0) : (dats m 0 c).arrAt 5 cfg0.N i = val_main_v32 (F := Ideal) (m (c.tc.loc main_arg0)) (m (c.tc.loc main_arg1)) i := by
  refine ((dats m 0 c).arrAt_apply_of_coversWhere 5 (val_main_v3 (F := Ideal) (m (c.tc.loc main_arg0)) (m (c.tc.loc main_arg1))) (fun β => β (0 : Fin _) = 0) (by decide +kernel)
    (P := fun i => (i 0 : ℕ) = 0) (fun t hf y => ?_) (fun j => ?_) i).trans ?_
  · have hy : (win0_5.blk t).view.emb y = ix3 0 (row t (y 1)) (y 2) := by blk_ext [at5, row]
    blk_simp
    rw [after0_5]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0]
      have hs : sent t (m (c.tc.loc main_arg0)) (m (c.tc.loc main_arg1)) = m (c.tc.loc main_arg0) := if_pos h0
      refine Eq.trans ?_ (point5 t (m (c.tc.loc main_arg0)) (m (c.tc.loc main_arg1)) y)
      rw [hs]
      exact upper5 (m (c.tc.loc main_arg0))  y
    · rw [outsAt0_B m c t (by omega) (by omega)]
      frame_out
      rw [iblk1]
      have hs : sent t (m (c.tc.loc main_arg0)) (m (c.tc.loc main_arg1)) = m (c.tc.loc main_arg1) := if_neg (by omega)
      refine Eq.trans ?_ (point5 t (m (c.tc.loc main_arg0)) (m (c.tc.loc main_arg1)) y)
      rw [hs]
      exact low5 (m (c.tc.loc main_arg1))  y
  · blk_simp [Pipeline.Window.cell_apply]
    omega
  · rw [val_main_v32_apply, here, if_pos h, if_pos h]
    rfl

theorem final6 (i : S2x1024x512.Idx) (h : (i 0).val = 0) : (dats m 0 c).arrAt 6 cfg0.N i = val_main_v33 (F := Ideal) (m (c.tc.loc main_arg0)) (m (c.tc.loc main_arg1)) (m (c.tc.loc main_arg2)) (m (c.tc.loc main_arg3)) (m (c.tc.loc main_arg4)) i := by
  refine ((dats m 0 c).arrAt_apply_of_coversWhere 6 (val_main_v30 (F := Ideal) (m (c.tc.loc main_arg0)) (m (c.tc.loc main_arg1)) (m (c.tc.loc main_arg2)) (m (c.tc.loc main_arg3)) (m (c.tc.loc main_arg4))) (fun β => β (0 : Fin _) = 0) (by decide +kernel)
    (P := fun i => (i 0 : ℕ) = 0) (fun t hf y => ?_) (fun j => ?_) i).trans ?_
  · have hy : (win0_6.blk t).view.emb y = ix3 0 (row t (y 1)) (y 2) := by blk_ext [at6, row]
    blk_simp
    rw [after0_6]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0, iblk2, iblk3, iblk4]
      have hs : sent t (m (c.tc.loc main_arg0)) (m (c.tc.loc main_arg1)) = m (c.tc.loc main_arg0) := if_pos h0
      refine Eq.trans ?_ (point6 t (m (c.tc.loc main_arg0)) (m (c.tc.loc main_arg1)) (m (c.tc.loc main_arg2)) (m (c.tc.loc main_arg3)) (m (c.tc.loc main_arg4)) y)
      rw [hs]
      exact upper6 (m (c.tc.loc main_arg0)) _ _ _ y
    · rw [outsAt0_B m c t (by omega) (by omega)]
      frame_out
      rw [iblk1, iblk2, iblk3, iblk4]
      have hs : sent t (m (c.tc.loc main_arg0)) (m (c.tc.loc main_arg1)) = m (c.tc.loc main_arg1) := if_neg (by omega)
      refine Eq.trans ?_ (point6 t (m (c.tc.loc main_arg0)) (m (c.tc.loc main_arg1)) (m (c.tc.loc main_arg2)) (m (c.tc.loc main_arg3)) (m (c.tc.loc main_arg4)) y)
      rw [hs]
      exact low6 (m (c.tc.loc main_arg1)) _ _ _ y
  · blk_simp [Pipeline.Window.cell_apply]
    omega
  · rw [val_main_v33_apply, here, if_pos h, if_pos h]
    rfl

theorem final7 (i : S2x1024x512.Idx) (h : (i 0).val = 0) : (dats m 0 c).arrAt 7 cfg0.N i = val_main_v34 (F := Ideal) (m (c.tc.loc main_arg0)) (m (c.tc.loc main_arg1)) (m (c.tc.loc main_arg3)) i := by
  refine ((dats m 0 c).arrAt_apply_of_coversWhere 7 (val_main_v11 (F := Ideal) (m (c.tc.loc main_arg0)) (m (c.tc.loc main_arg1)) (m (c.tc.loc main_arg3))) (fun β => β (0 : Fin _) = 0) (by decide +kernel)
    (P := fun i => (i 0 : ℕ) = 0) (fun t hf y => ?_) (fun j => ?_) i).trans ?_
  · have hy : (win0_7.blk t).view.emb y = ix3 0 (row t (y 1)) (y 2) := by blk_ext [at7, row]
    blk_simp
    rw [after0_7]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0, iblk3]
      have hs : sent t (m (c.tc.loc main_arg0)) (m (c.tc.loc main_arg1)) = m (c.tc.loc main_arg0) := if_pos h0
      refine Eq.trans ?_ (point7 t (m (c.tc.loc main_arg0)) (m (c.tc.loc main_arg1)) (m (c.tc.loc main_arg3)) y)
      rw [hs]
      exact upper7 (m (c.tc.loc main_arg0)) _ y
    · rw [outsAt0_B m c t (by omega) (by omega)]
      frame_out
      rw [iblk1, iblk3]
      have hs : sent t (m (c.tc.loc main_arg0)) (m (c.tc.loc main_arg1)) = m (c.tc.loc main_arg1) := if_neg (by omega)
      refine Eq.trans ?_ (point7 t (m (c.tc.loc main_arg0)) (m (c.tc.loc main_arg1)) (m (c.tc.loc main_arg3)) y)
      rw [hs]
      exact low7 (m (c.tc.loc main_arg1)) _ y
  · blk_simp [Pipeline.Window.cell_apply]
    omega
  · rw [val_main_v34_apply, here, if_pos h, if_pos h]
    rfl

theorem final8 (i : S2x1024x512.Idx) (h : (i 0).val = 0) : (dats m 0 c).arrAt 8 cfg0.N i = val_main_v35 (F := Ideal) (m (c.tc.loc main_arg0)) (m (c.tc.loc main_arg1)) (m (c.tc.loc main_arg4)) i := by
  refine ((dats m 0 c).arrAt_apply_of_coversWhere 8 (val_main_v17 (F := Ideal) (m (c.tc.loc main_arg0)) (m (c.tc.loc main_arg1)) (m (c.tc.loc main_arg4))) (fun β => β (0 : Fin _) = 0) (by decide +kernel)
    (P := fun i => (i 0 : ℕ) = 0) (fun t hf y => ?_) (fun j => ?_) i).trans ?_
  · have hy : (win0_8.blk t).view.emb y = ix3 0 (row t (y 1)) (y 2) := by blk_ext [at8, row]
    blk_simp
    rw [after0_8]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0, iblk4]
      have hs : sent t (m (c.tc.loc main_arg0)) (m (c.tc.loc main_arg1)) = m (c.tc.loc main_arg0) := if_pos h0
      refine Eq.trans ?_ (point8 t (m (c.tc.loc main_arg0)) (m (c.tc.loc main_arg1)) (m (c.tc.loc main_arg4)) y)
      rw [hs]
      exact upper8 (m (c.tc.loc main_arg0)) _ y
    · rw [outsAt0_B m c t (by omega) (by omega)]
      frame_out
      rw [iblk1, iblk4]
      have hs : sent t (m (c.tc.loc main_arg0)) (m (c.tc.loc main_arg1)) = m (c.tc.loc main_arg1) := if_neg (by omega)
      refine Eq.trans ?_ (point8 t (m (c.tc.loc main_arg0)) (m (c.tc.loc main_arg1)) (m (c.tc.loc main_arg4)) y)
      rw [hs]
      exact low8 (m (c.tc.loc main_arg1)) _ y
  · blk_simp [Pipeline.Window.cell_apply]
    omega
  · rw [val_main_v35_apply, here, if_pos h, if_pos h]
    rfl

/-- Where the claim speaks: the indices of the first layer. -/
theorem first_layer (i : S2x1024x512.Idx) (hv : val_main_v6 (F := Ideal) i = 1#1) : (i 0).val = 0 := by
  rw [here] at hv
  by_contra hn
  rw [if_neg hn] at hv
  exact absurd hv (by decide)

/-! The claims. -/

theorem frame_kernel : Cert.quiescent_Kernel28 := fun m ρ _ => Cert.Kernel28.Gen.frame m ρ

theorem frame_ideal : Cert.quiescent_Kernel28Ideal := fun m ρ _ => Cert.Kernel28Ideal.Gen.frame m ρ

theorem frame_reference : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

theorem preserves : Cert.preserves_Kernel28_Kernel28Ideal := trivial

/-- In the first layer the kernel and the reference have the same results. -/
theorem algebraic : Cert.algebraic_Kernel28Ideal_Reference28Ideal_on_first_layer_halves := by
  intro m ρ m' ρ' _ hagree
  refine ⟨fun c => (dats m 0 c).arrAt 5 cfg0.N, fun c => (dats m 0 c).arrAt 6 cfg0.N, fun c => (dats m 0 c).arrAt 7 cfg0.N, fun c => (dats m 0 c).arrAt 8 cfg0.N,
    (θ_run Cert.Kernel28Ideal.defs _ _).mono (fun _ h c => ?_) (Cert.Kernel28Ideal.Value.run_blocks m ρ), ?_⟩
  · obtain ⟨h0, h1, h2, h3, hargs⟩ := h c
    exact ⟨fun i _ => congrFun h0 i, fun i _ => congrFun h1 i, fun i _ => congrFun h2 i, fun i _ => congrFun h3 i, hargs⟩
  refine (θ_run Cert.Reference28Ideal.defs _ _).mono (fun _ h c => ?_) (Cert.Reference28Ideal.Value.run (F := Ideal) m' ρ')
  obtain ⟨h0, h1, h2, h3, hargs⟩ := h c
  obtain ⟨a0, a1, a2, a3, a4⟩ := hagree c
  refine ⟨fun i hi => (congrFun h0 i).trans ?_, fun i hi => (congrFun h1 i).trans ?_, fun i hi => (congrFun h2 i).trans ?_, fun i hi => (congrFun h3 i).trans ?_, hargs⟩
  · rw [val_main_v32_eq, a0, a1]; exact (final5 m c i (first_layer i hi)).symm
  · rw [val_main_v33_eq, a0, a1, a2, a3, a4]; exact (final6 m c i (first_layer i hi)).symm
  · rw [val_main_v34_eq, a0, a1, a3]; exact (final7 m c i (first_layer i hi)).symm
  · rw [val_main_v35_eq, a0, a1, a4]; exact (final8 m c i (first_layer i hi)).symm

end Cert.BigD0

end
-- ==== Proof.Opt.BigD1.lean ====
/-
  The AdamW step of the second of the 2 layers of a device's columns of w_in of either mixer. The gradient comes in two
  halves of the rows, one for each grid point; each is the sum, in the format of the moments, of what eight devices
  sent; from it come the change of the weight and the two new moments. The kernel writes its layer into the
  results of the step before and keeps the rest of them, as the reference's choice by layer does.
-/
module

public import proofs.«01_k».proof.Defs
public import proofs.«01_k».proof.Proof.Opt.Scalar
public import proofs.«01_k».proof.Proof.Gen.Kernel29.Frame
public import proofs.«01_k».proof.Proof.Gen.Kernel29Ideal.Value
public import proofs.«01_k».proof.Proof.Gen.Reference29Ideal.Read
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ValueKit.Partial

@[expose] public section

noncomputable section

namespace Cert.BigD1

open Idealize.ShloMosaic Idealize.ShloMosaic.TcCoe Idealize.SL.Sem
open Idealize.ShloMosaic.Pipeline (Dat)
open Cert.Kernel29Ideal Cert.Kernel29Ideal.Gen Cert.Reference29Ideal.Read Cert.AdamW

/-! Each slice the body loads: what one device sent. -/

abbrev r0_0 : Rect S8x512x512 := Rect.unit (s := S8x512x512) ![0, 0, 0] S1x512x512.size (by decide)
theorem slice0 (d : Vec Ideal S8x512x512 .bf16) (p : Fin 512) (q : Fin 512) : View.ld d r0_0 (ix3 0 p q) = d (ix3 0 p q) := by
  refine congrArg d (funext fun a => Fin.ext ?_)
  fin_cases a <;> first | rfl | exact (Nat.zero_add _).trans (Nat.one_mul _)
abbrev r0_1 : Rect S8x512x512 := Rect.unit (s := S8x512x512) ![1, 0, 0] S1x512x512.size (by decide)
theorem slice1 (d : Vec Ideal S8x512x512 .bf16) (p : Fin 512) (q : Fin 512) : View.ld d r0_1 (ix3 0 p q) = d (ix3 1 p q) := by
  refine congrArg d (funext fun a => Fin.ext ?_)
  fin_cases a <;> first | rfl | exact (Nat.zero_add _).trans (Nat.one_mul _)
abbrev r0_2 : Rect S8x512x512 := Rect.unit (s := S8x512x512) ![2, 0, 0] S1x512x512.size (by decide)
theorem slice2 (d : Vec Ideal S8x512x512 .bf16) (p : Fin 512) (q : Fin 512) : View.ld d r0_2 (ix3 0 p q) = d (ix3 2 p q) := by
  refine congrArg d (funext fun a => Fin.ext ?_)
  fin_cases a <;> first | rfl | exact (Nat.zero_add _).trans (Nat.one_mul _)
abbrev r0_3 : Rect S8x512x512 := Rect.unit (s := S8x512x512) ![3, 0, 0] S1x512x512.size (by decide)
theorem slice3 (d : Vec Ideal S8x512x512 .bf16) (p : Fin 512) (q : Fin 512) : View.ld d r0_3 (ix3 0 p q) = d (ix3 3 p q) := by
  refine congrArg d (funext fun a => Fin.ext ?_)
  fin_cases a <;> first | rfl | exact (Nat.zero_add _).trans (Nat.one_mul _)
abbrev r0_4 : Rect S8x512x512 := Rect.unit (s := S8x512x512) ![4, 0, 0] S1x512x512.size (by decide)
theorem slice4 (d : Vec Ideal S8x512x512 .bf16) (p : Fin 512) (q : Fin 512) : View.ld d r0_4 (ix3 0 p q) = d (ix3 4 p q) := by
  refine congrArg d (funext fun a => Fin.ext ?_)
  fin_cases a <;> first | rfl | exact (Nat.zero_add _).trans (Nat.one_mul _)
abbrev r0_5 : Rect S8x512x512 := Rect.unit (s := S8x512x512) ![5, 0, 0] S1x512x512.size (by decide)
theorem slice5 (d : Vec Ideal S8x512x512 .bf16) (p : Fin 512) (q : Fin 512) : View.ld d r0_5 (ix3 0 p q) = d (ix3 5 p q) := by
  refine congrArg d (funext fun a => Fin.ext ?_)
  fin_cases a <;> first | rfl | exact (Nat.zero_add _).trans (Nat.one_mul _)
abbrev r0_6 : Rect S8x512x512 := Rect.unit (s := S8x512x512) ![6, 0, 0] S1x512x512.size (by decide)
theorem slice6 (d : Vec Ideal S8x512x512 .bf16) (p : Fin 512) (q : Fin 512) : View.ld d r0_6 (ix3 0 p q) = d (ix3 6 p q) := by
  refine congrArg d (funext fun a => Fin.ext ?_)
  fin_cases a <;> first | rfl | exact (Nat.zero_add _).trans (Nat.one_mul _)
abbrev r0_7 : Rect S8x512x512 := Rect.unit (s := S8x512x512) ![7, 0, 0] S1x512x512.size (by decide)
theorem slice7 (d : Vec Ideal S8x512x512 .bf16) (p : Fin 512) (q : Fin 512) : View.ld d r0_7 (ix3 0 p q) = d (ix3 7 p q) := by
  refine congrArg d (funext fun a => Fin.ext ?_)
  fin_cases a <;> first | rfl | exact (Nat.zero_add _).trans (Nat.one_mul _)

/-- The sum of eight slices, from the left. -/
theorem pay5 (z0 z1 z2 z3 z4 z5 z6 z7 : Vec Ideal S1x512x512 .bf16) (p q : Fin 512) :
    k0_pay5 (F := Ideal) z0 z1 z2 z3 z4 z5 z6 z7 (ix2 p q)
      = z0 (ix3 0 p q) + z1 (ix3 0 p q) + z2 (ix3 0 p q) + z3 (ix3 0 p q) + z4 (ix3 0 p q) + z5 (ix3 0 p q)
        + z6 (ix3 0 p q) + z7 (ix3 0 p q) := by
  unfold k0_pay5
  pointwise

/-- The gradient of half of the rows that the body computes: the sum of what the eight devices sent. -/
def grad (x : Vec Ideal S8x512x512 .bf16) : FVec Ideal S512x512 .f32 :=
  k0_pay5 (F := Ideal) (View.ld x r0_0) (View.ld x r0_1) (View.ld x r0_2) (View.ld x r0_3) (View.ld x r0_4) (View.ld x r0_5) (View.ld x r0_6) (View.ld x r0_7)

theorem grad_apply (x : Vec Ideal S8x512x512 .bf16) (p q : Fin 512) : grad x (ix2 p q) = (∑ k : Fin 8, x (ix3 k p q) : EReal) := by
  unfold grad
  refine (pay5 _ _ _ _ _ _ _ _ _ _).trans ?_
  rw [Fin.sum_univ_eight, slice0, slice1, slice2, slice3, slice4, slice5, slice6, slice7]

/-! What the body computes from the gradient and its blocks: one step at each entry. The body of the lower half is
   that of the upper half once more. -/

theorem pay6 (g : FVec Ideal S512x512 .f32) (u : Fin 1) (p q : Fin 512) : k0_pay6 (F := Ideal) g (ix3 u p q) = g (ix2 p q) := by
  unfold k0_pay6; pointwise
theorem pay7 (g : FVec Ideal S512x512 .f32) (m : Vec Ideal S1x512x512 .f32) (p q : Fin 512) : k0_pay7 (F := Ideal) g m (ix2 p q) = first (g (ix2 p q)) (m (ix3 0 p q)) := by
  unfold k0_pay7 first; pointwise
theorem pay8 (g : FVec Ideal S512x512 .f32) (v : Vec Ideal S1x512x512 .f32) (p q : Fin 512) : k0_pay8 (F := Ideal) g v (ix2 p q) = second (g (ix2 p q)) (v (ix3 0 p q)) := by
  unfold k0_pay8 second; pointwise
theorem pay1 (g : FVec Ideal S512x512 .f32) (m : Vec Ideal S1x512x512 .f32) (u : Fin 1) (p q : Fin 512) :
    k0_pay1 (F := Ideal) (k0_pay7 g m) (ix3 u p q) = first (g (ix2 p q)) (m (ix3 0 p q)) := by
  unfold k0_pay1; pointwise [pay7]
theorem pay2 (g : FVec Ideal S512x512 .f32) (v : Vec Ideal S1x512x512 .f32) (u : Fin 1) (p q : Fin 512) :
    k0_pay2 (F := Ideal) (k0_pay8 g v) (ix3 u p q) = second (g (ix2 p q)) (v (ix3 0 p q)) := by
  unfold k0_pay2; pointwise [pay8]
theorem pay9 (g : FVec Ideal S512x512 .f32) (w m v : Vec Ideal S1x512x512 .f32) (u : Fin 1) (p q : Fin 512) :
    k0_pay9 (F := Ideal) g w m v (ix3 u p q) = step (g (ix2 p q)) (w (ix3 0 p q)) (m (ix3 0 p q)) (v (ix3 0 p q)) := by
  unfold k0_pay9 step change; pointwise [pay7, pay8]

theorem lower10 : @k0_pay10 Ideal _ = @k0_pay5 Ideal _ := rfl
theorem lower11 : @k0_pay11 Ideal = @k0_pay6 Ideal := rfl
theorem lower12 : @k0_pay12 Ideal _ = @k0_pay7 Ideal _ := rfl
theorem lower13 : @k0_pay13 Ideal _ = @k0_pay8 Ideal _ := rfl
theorem lower14 : @k0_pay14 Ideal _ = @k0_pay9 Ideal _ := rfl
theorem lower3 : @k0_pay3 Ideal = @k0_pay1 Ideal := rfl
theorem lower4 : @k0_pay4 Ideal = @k0_pay2 Ideal := rfl

theorem upper5 (x : Vec Ideal S8x512x512 .bf16) (y : S1x512x512.Idx) :
    k0_pay6 (F := Ideal) (k0_pay5 (F := Ideal) (View.ld x r0_0) (View.ld x r0_1) (View.ld x r0_2) (View.ld x r0_3) (View.ld x r0_4) (View.ld x r0_5) (View.ld x r0_6) (View.ld x r0_7)) y
      = k0_pay6 (F := Ideal) (grad x) y := by
  unfold grad; rfl
theorem low5 (x : Vec Ideal S8x512x512 .bf16) (y : S1x512x512.Idx) :
    k0_pay11 (F := Ideal) (k0_pay10 (F := Ideal) (View.ld x r0_0) (View.ld x r0_1) (View.ld x r0_2) (View.ld x r0_3) (View.ld x r0_4) (View.ld x r0_5) (View.ld x r0_6) (View.ld x r0_7)) y
      = k0_pay6 (F := Ideal) (grad x) y := by
  unfold grad; rw [lower11, lower10]
theorem upper6 (x : Vec Ideal S8x512x512 .bf16) (w m v : Vec Ideal S1x512x512 .f32) (y : S1x512x512.Idx) :
    k0_pay9 (F := Ideal) (k0_pay5 (F := Ideal) (View.ld x r0_0) (View.ld x r0_1) (View.ld x r0_2) (View.ld x r0_3) (View.ld x r0_4) (View.ld x r0_5) (View.ld x r0_6) (View.ld x r0_7)) w m v y
      = k0_pay9 (F := Ideal) (grad x) w m v y := by
  unfold grad; rfl
theorem low6 (x : Vec Ideal S8x512x512 .bf16) (w m v : Vec Ideal S1x512x512 .f32) (y : S1x512x512.Idx) :
    k0_pay14 (F := Ideal) (k0_pay10 (F := Ideal) (View.ld x r0_0) (View.ld x r0_1) (View.ld x r0_2) (View.ld x r0_3) (View.ld x r0_4) (View.ld x r0_5) (View.ld x r0_6) (View.ld x r0_7)) w m v y
      = k0_pay9 (F := Ideal) (grad x) w m v y := by
  unfold grad; rw [lower14, lower10]
theorem upper7 (x : Vec Ideal S8x512x512 .bf16) (m : Vec Ideal S1x512x512 .f32) (y : S1x512x512.Idx) :
    k0_pay1 (k0_pay7 (k0_pay5 (F := Ideal) (View.ld x r0_0) (View.ld x r0_1) (View.ld x r0_2) (View.ld x r0_3) (View.ld x r0_4) (View.ld x r0_5) (View.ld x r0_6) (View.ld x r0_7)) m) y
      = k0_pay1 (k0_pay7 (grad x) m) y := by
  unfold grad; rfl
theorem low7 (x : Vec Ideal S8x512x512 .bf16) (m : Vec Ideal S1x512x512 .f32) (y : S1x512x512.Idx) :
    k0_pay3 (k0_pay12 (k0_pay10 (F := Ideal) (View.ld x r0_0) (View.ld x r0_1) (View.ld x r0_2) (View.ld x r0_3) (View.ld x r0_4) (View.ld x r0_5) (View.ld x r0_6) (View.ld x r0_7)) m) y
      = k0_pay1 (k0_pay7 (grad x) m) y := by
  unfold grad; rw [lower3, lower12, lower10]
theorem upper8 (x : Vec Ideal S8x512x512 .bf16) (v : Vec Ideal S1x512x512 .f32) (y : S1x512x512.Idx) :
    k0_pay2 (k0_pay8 (k0_pay5 (F := Ideal) (View.ld x r0_0) (View.ld x r0_1) (View.ld x r0_2) (View.ld x r0_3) (View.ld x r0_4) (View.ld x r0_5) (View.ld x r0_6) (View.ld x r0_7)) v) y
      = k0_pay2 (k0_pay8 (grad x) v) y := by
  unfold grad; rfl
theorem low8 (x : Vec Ideal S8x512x512 .bf16) (v : Vec Ideal S1x512x512 .f32) (y : S1x512x512.Idx) :
    k0_pay4 (k0_pay13 (k0_pay10 (F := Ideal) (View.ld x r0_0) (View.ld x r0_1) (View.ld x r0_2) (View.ld x r0_3) (View.ld x r0_4) (View.ld x r0_5) (View.ld x r0_6) (View.ld x r0_7)) v) y
      = k0_pay2 (k0_pay8 (grad x) v) y := by
  unfold grad; rw [lower4, lower13, lower10]

/-! What the reference computes: in its layer the same step at each entry. -/

theorem here (i : S2x1024x512.Idx) : val_main_v6 (F := Ideal) i = if (i 0).val = 1 then 1#1 else 0#1 := by
  have h : (i 0).val < 2 := (i 0).isLt
  rw [val_main_v6_apply, val_main_v4_apply, val_main_v5_apply, val_main_c_apply]
  generalize (i 0).val = n at h ⊢
  interval_cases n <;> rfl

/-- A row of the half that grid point `t` computes. -/
def row (t : Fin cfg0.N) (p : Fin 512) : Fin 1024 := ⟨t.val * 512 + p.val, by
  have h : t.val < 2 := lt_of_lt_of_eq t.isLt N_0
  omega⟩

/-- What is sent of the half that grid point `t` computes. -/
def sent (t : Fin cfg0.N) (x0 x1 : Vec Ideal S8x512x512 .bf16) : Vec Ideal S8x512x512 .bf16 := if t.val = 0 then x0 else x1

theorem halves (t : Fin cfg0.N) (x0 x1 : (⟨S8x512x512, .bf16⟩ : BufTy).Contents (Elt Ideal)) (k : Fin 8) (p q : Fin 512) :
    val_main_v0 (F := Ideal) x0 x1 (ix3 k (row t p) q) = sent t x0 x1 (ix3 k p q) := by
  unfold val_main_v0 sent
  have h : t.val < 2 := lt_of_lt_of_eq t.isLt N_0
  split_ifs with h0
  · refine concatenate_pair_apply_left (1 : Fin 3) x0 x1 _ (ix3 k (row t p) q) rfl (ix3 k p q) fun b => ?_
    fin_cases b
    · rfl
    · show p.val = t.val * 512 + p.val; omega
    · rfl
  · refine concatenate_pair_apply_right (1 : Fin 3) x0 x1 _ (ix3 k (row t p) q) rfl rfl (ix3 k p q) (fun b hb => ?_) ?_
    · fin_cases b
      · rfl
      · exact absurd rfl hb
      · rfl
    · show p.val + 512 = t.val * 512 + p.val; omega

theorem summed (t : Fin cfg0.N) (x0 x1 : (⟨S8x512x512, .bf16⟩ : BufTy).Contents (Elt Ideal)) (l : Fin 2) (p q : Fin 512) :
    val_main_v3 (F := Ideal) x0 x1 (ix3 l (row t p) q) = (∑ k : Fin 8, sent t x0 x1 (ix3 k p q) : EReal) := by
  rw [val_main_v3_apply, val_main_v2_apply]
  refine ((congrArg₂ (· + ·) Ideal.ofBits_zero_f32 (Finset.sum_congr rfl fun k _ => ?_)).trans (zero_add _))
  refine Eq.trans ?_ (halves t x0 x1 k p q)
  exact congrArg (val_main_v0 (F := Ideal) x0 x1) (funext fun a => by fin_cases a <;> rfl)

theorem value11 (x0 x1 : (⟨S8x512x512, .bf16⟩ : BufTy).Contents (Elt Ideal)) (x3 : (⟨S2x1024x512, .f32⟩ : BufTy).Contents (Elt Ideal)) (i : S2x1024x512.Idx) :
    val_main_v11 (F := Ideal) x0 x1 x3 i = first (val_main_v3 (F := Ideal) x0 x1 i) (x3 i) := rfl
theorem value17 (x0 x1 : (⟨S8x512x512, .bf16⟩ : BufTy).Contents (Elt Ideal)) (x4 : (⟨S2x1024x512, .f32⟩ : BufTy).Contents (Elt Ideal)) (i : S2x1024x512.Idx) :
    val_main_v17 (F := Ideal) x0 x1 x4 i = second (val_main_v3 (F := Ideal) x0 x1 i) (x4 i) := rfl
theorem value30 (x0 x1 : (⟨S8x512x512, .bf16⟩ : BufTy).Contents (Elt Ideal)) (x2 x3 x4 : (⟨S2x1024x512, .f32⟩ : BufTy).Contents (Elt Ideal)) (i : S2x1024x512.Idx) :
    val_main_v30 (F := Ideal) x0 x1 x2 x3 x4 i = step (val_main_v3 (F := Ideal) x0 x1 i) (x2 i) (x3 i) (x4 i) := rfl

/-! At each entry of its blocks the body computes what the reference computes in the layer. -/

theorem point5 (t : Fin cfg0.N) (x0 x1 : (⟨S8x512x512, .bf16⟩ : BufTy).Contents (Elt Ideal)) (y : S1x512x512.Idx) :
    k0_pay6 (F := Ideal) (grad (sent t x0 x1)) y = val_main_v3 (F := Ideal) x0 x1 (ix3 1 (row t (y 1)) (y 2)) :=
  (congrArg (k0_pay6 (F := Ideal) (grad (sent t x0 x1))) (eq_ix3 y)).trans ((pay6 _ _ _ _).trans ((grad_apply (sent t x0 x1) (y 1) (y 2)).trans (summed t x0 x1 1 (y 1) (y 2)).symm))
theorem point6 (t : Fin cfg0.N) (x0 x1 : (⟨S8x512x512, .bf16⟩ : BufTy).Contents (Elt Ideal)) (x2 x3 x4 : (⟨S2x1024x512, .f32⟩ : BufTy).Contents (Elt Ideal)) (y : S1x512x512.Idx) :
    k0_pay9 (F := Ideal) (grad (sent t x0 x1)) (fun j : S1x512x512.Idx => x2 (ix3 1 (row t (j 1)) (j 2))) (fun j : S1x512x512.Idx => x3 (ix3 1 (row t (j 1)) (j 2))) (fun j : S1x512x512.Idx => x4 (ix3 1 (row t (j 1)) (j 2))) y
      = val_main_v30 (F := Ideal) x0 x1 x2 x3 x4 (ix3 1 (row t (y 1)) (y 2)) :=
  (congrArg (k0_pay9 (F := Ideal) (grad (sent t x0 x1)) (fun j : S1x512x512.Idx => x2 (ix3 1 (row t (j 1)) (j 2))) (fun j : S1x512x512.Idx => x3 (ix3 1 (row t (j 1)) (j 2))) (fun j : S1x512x512.Idx => x4 (ix3 1 (row t (j 1)) (j 2)))) (eq_ix3 y)).trans ((pay9 _ _ _ _ _ _ _).trans
    ((congrArg (fun g => step g (x2 (ix3 1 (row t (y 1)) (y 2))) (x3 (ix3 1 (row t (y 1)) (y 2))) (x4 (ix3 1 (row t (y 1)) (y 2)))) ((grad_apply (sent t x0 x1) (y 1) (y 2)).trans (summed t x0 x1 1 (y 1) (y 2)).symm)).trans (value30 _ _ _ _ _ _).symm))
theorem point7 (t : Fin cfg0.N) (x0 x1 : (⟨S8x512x512, .bf16⟩ : BufTy).Contents (Elt Ideal)) (x3 : (⟨S2x1024x512, .f32⟩ : BufTy).Contents (Elt Ideal)) (y : S1x512x512.Idx) :
    k0_pay1 (F := Ideal) (k0_pay7 (grad (sent t x0 x1)) (fun j : S1x512x512.Idx => x3 (ix3 1 (row t (j 1)) (j 2)))) y = val_main_v11 (F := Ideal) x0 x1 x3 (ix3 1 (row t (y 1)) (y 2)) :=
  (congrArg (k0_pay1 (F := Ideal) (k0_pay7 (grad (sent t x0 x1)) (fun j : S1x512x512.Idx => x3 (ix3 1 (row t (j 1)) (j 2))))) (eq_ix3 y)).trans ((pay1 _ _ _ _ _).trans
    ((congrArg (fun g => first g (x3 (ix3 1 (row t (y 1)) (y 2)))) ((grad_apply (sent t x0 x1) (y 1) (y 2)).trans (summed t x0 x1 1 (y 1) (y 2)).symm)).trans (value11 _ _ _ _).symm))
theorem point8 (t : Fin cfg0.N) (x0 x1 : (⟨S8x512x512, .bf16⟩ : BufTy).Contents (Elt Ideal)) (x4 : (⟨S2x1024x512, .f32⟩ : BufTy).Contents (Elt Ideal)) (y : S1x512x512.Idx) :
    k0_pay2 (F := Ideal) (k0_pay8 (grad (sent t x0 x1)) (fun j : S1x512x512.Idx => x4 (ix3 1 (row t (j 1)) (j 2)))) y = val_main_v17 (F := Ideal) x0 x1 x4 (ix3 1 (row t (y 1)) (y 2)) :=
  (congrArg (k0_pay2 (F := Ideal) (k0_pay8 (grad (sent t x0 x1)) (fun j : S1x512x512.Idx => x4 (ix3 1 (row t (j 1)) (j 2))))) (eq_ix3 y)).trans ((pay2 _ _ _ _ _).trans
    ((congrArg (fun g => second g (x4 (ix3 1 (row t (y 1)) (y 2)))) ((grad_apply (sent t x0 x1) (y 1) (y 2)).trans (summed t x0 x1 1 (y 1) (y 2)).symm)).trans (value17 _ _ _ _).symm))

variable (m : (ℓ : Loc nD τ sig) → Buf (Elt Ideal) ℓ) (c : Dev nD)

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![1, t.val, 0] := (by decide +kernel : ∀ t : Fin grid0.N, _)
theorem at3 : ∀ t : Fin cfg0.N, win0_3.index t = ![1, t.val, 0] := (by decide +kernel : ∀ t : Fin grid0.N, _)
theorem at4 : ∀ t : Fin cfg0.N, win0_4.index t = ![1, t.val, 0] := (by decide +kernel : ∀ t : Fin grid0.N, _)
theorem at5 : ∀ t : Fin cfg0.N, win0_5.index t = ![1, t.val, 0] := (by decide +kernel : ∀ t : Fin grid0.N, _)
theorem at6 : ∀ t : Fin cfg0.N, win0_6.index t = ![1, t.val, 0] := (by decide +kernel : ∀ t : Fin grid0.N, _)
theorem at7 : ∀ t : Fin cfg0.N, win0_7.index t = ![1, t.val, 0] := (by decide +kernel : ∀ t : Fin grid0.N, _)
theorem at8 : ∀ t : Fin cfg0.N, win0_8.index t = ![1, t.val, 0] := (by decide +kernel : ∀ t : Fin grid0.N, _)

/-! The blocks: the whole of what was sent, and half of the rows of one layer of the weight and of the moments. -/

theorem iblk0 (t : Fin cfg0.N) : iblk m c 0 t = m (c.tc.loc main_arg0) := by
  funext j
  refine congrArg (m (c.tc.loc main_arg0)) (?_ : ((win0_0).blk t).view.emb j = j)
  blk_ext [at0]
theorem iblk1 (t : Fin cfg0.N) : iblk m c 1 t = m (c.tc.loc main_arg1) := by
  funext j
  refine congrArg (m (c.tc.loc main_arg1)) (?_ : ((win0_1).blk t).view.emb j = j)
  blk_ext [at1]
theorem iblk2 (t : Fin cfg0.N) : iblk m c 2 t = fun j : S1x512x512.Idx => m (c.tc.loc main_arg2) (ix3 1 (row t (j 1)) (j 2)) := by
  funext j
  refine congrArg (m (c.tc.loc main_arg2)) (?_ : ((win0_2).blk t).view.emb j = ix3 1 (row t (j 1)) (j 2))
  blk_ext [at2, row]
theorem iblk3 (t : Fin cfg0.N) : iblk m c 3 t = fun j : S1x512x512.Idx => m (c.tc.loc main_arg3) (ix3 1 (row t (j 1)) (j 2)) := by
  funext j
  refine congrArg (m (c.tc.loc main_arg3)) (?_ : ((win0_3).blk t).view.emb j = ix3 1 (row t (j 1)) (j 2))
  blk_ext [at3, row]
theorem iblk4 (t : Fin cfg0.N) : iblk m c 4 t = fun j : S1x512x512.Idx => m (c.tc.loc main_arg4) (ix3 1 (row t (j 1)) (j 2)) := by
  funext j
  refine congrArg (m (c.tc.loc main_arg4)) (?_ : ((win0_4).blk t).view.emb j = ix3 1 (row t (j 1)) (j 2))
  blk_ext [at4, row]

/-! The arrays that the kernel writes over: its results after the layer before this one. -/

theorem V5 : V m c main_v0_0 = m (c.tc.loc main_arg5) := by
  unfold_abbrev_sides; after_results; rfl
theorem V6 : V m c main_v0_1 = m (c.tc.loc main_arg6) := by
  unfold_abbrev_sides; after_results; rfl
theorem V7 : V m c main_v0_2 = m (c.tc.loc main_arg7) := by
  unfold_abbrev_sides; after_results; rfl
theorem V8 : V m c main_v0_3 = m (c.tc.loc main_arg8) := by
  unfold_abbrev_sides; after_results; rfl

/-! The results after the kernel has run: in its layer the new values, elsewhere what was there before. -/

theorem final5 : (dats m 0 c).arrAt 5 cfg0.N = val_main_v31 (F := Ideal) (m (c.tc.loc main_arg0)) (m (c.tc.loc main_arg1)) (m (c.tc.loc main_arg5)) := by
  refine ((dats m 0 c).arrAt_eq_of_coversWhere 5 (val_main_v3 (F := Ideal) (m (c.tc.loc main_arg0)) (m (c.tc.loc main_arg1))) (fun β => β (0 : Fin _) = 1) (by decide +kernel)
    (P := fun i => (i 0 : ℕ) = 1) (fun t hf y => ?_) (fun j => ?_)).trans ?_
  · have hy : (win0_5.blk t).view.emb y = ix3 1 (row t (y 1)) (y 2) := by blk_ext [at5, row]
    blk_simp
    rw [after0_5]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0]
      have hs : sent t (m (c.tc.loc main_arg0)) (m (c.tc.loc main_arg1)) = m (c.tc.loc main_arg0) := if_pos h0
      refine Eq.trans ?_ (point5 t (m (c.tc.loc main_arg0)) (m (c.tc.loc main_arg1)) y)
      rw [hs]
      exact upper5 (m (c.tc.loc main_arg0))  y
    · rw [outsAt0_B m c t (by omega) (by omega)]
      frame_out
      rw [iblk1]
      have hs : sent t (m (c.tc.loc main_arg0)) (m (c.tc.loc main_arg1)) = m (c.tc.loc main_arg1) := if_neg (by omega)
      refine Eq.trans ?_ (point5 t (m (c.tc.loc main_arg0)) (m (c.tc.loc main_arg1)) y)
      rw [hs]
      exact low5 (m (c.tc.loc main_arg1))  y
  · blk_simp [Pipeline.Window.cell_apply]
    omega
  · funext i
    rw [val_main_v31_apply, here]
    split_ifs with h
    · rfl
    · exact congrFun ((A_eq m c 5).trans (V5 m c)) i

theorem final6 : (dats m 0 c).arrAt 6 cfg0.N = val_main_v32 (F := Ideal) (m (c.tc.loc main_arg0)) (m (c.tc.loc main_arg1)) (m (c.tc.loc main_arg2)) (m (c.tc.loc main_arg3)) (m (c.tc.loc main_arg4)) (m (c.tc.loc main_arg6)) := by
  refine ((dats m 0 c).arrAt_eq_of_coversWhere 6 (val_main_v30 (F := Ideal) (m (c.tc.loc main_arg0)) (m (c.tc.loc main_arg1)) (m (c.tc.loc main_arg2)) (m (c.tc.loc main_arg3)) (m (c.tc.loc main_arg4))) (fun β => β (0 : Fin _) = 1) (by decide +kernel)
    (P := fun i => (i 0 : ℕ) = 1) (fun t hf y => ?_) (fun j => ?_)).trans ?_
  · have hy : (win0_6.blk t).view.emb y = ix3 1 (row t (y 1)) (y 2) := by blk_ext [at6, row]
    blk_simp
    rw [after0_6]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0, iblk2, iblk3, iblk4]
      have hs : sent t (m (c.tc.loc main_arg0)) (m (c.tc.loc main_arg1)) = m (c.tc.loc main_arg0) := if_pos h0
      refine Eq.trans ?_ (point6 t (m (c.tc.loc main_arg0)) (m (c.tc.loc main_arg1)) (m (c.tc.loc main_arg2)) (m (c.tc.loc main_arg3)) (m (c.tc.loc main_arg4)) y)
      rw [hs]
      exact upper6 (m (c.tc.loc main_arg0)) _ _ _ y
    · rw [outsAt0_B m c t (by omega) (by omega)]
      frame_out
      rw [iblk1, iblk2, iblk3, iblk4]
      have hs : sent t (m (c.tc.loc main_arg0)) (m (c.tc.loc main_arg1)) = m (c.tc.loc main_arg1) := if_neg (by omega)
      refine Eq.trans ?_ (point6 t (m (c.tc.loc main_arg0)) (m (c.tc.loc main_arg1)) (m (c.tc.loc main_arg2)) (m (c.tc.loc main_arg3)) (m (c.tc.loc main_arg4)) y)
      rw [hs]
      exact low6 (m (c.tc.loc main_arg1)) _ _ _ y
  · blk_simp [Pipeline.Window.cell_apply]
    omega
  · funext i
    rw [val_main_v32_apply, here]
    split_ifs with h
    · rfl
    · exact congrFun ((A_eq m c 6).trans (V6 m c)) i

theorem final7 : (dats m 0 c).arrAt 7 cfg0.N = val_main_v33 (F := Ideal) (m (c.tc.loc main_arg0)) (m (c.tc.loc main_arg1)) (m (c.tc.loc main_arg3)) (m (c.tc.loc main_arg7)) := by
  refine ((dats m 0 c).arrAt_eq_of_coversWhere 7 (val_main_v11 (F := Ideal) (m (c.tc.loc main_arg0)) (m (c.tc.loc main_arg1)) (m (c.tc.loc main_arg3))) (fun β => β (0 : Fin _) = 1) (by decide +kernel)
    (P := fun i => (i 0 : ℕ) = 1) (fun t hf y => ?_) (fun j => ?_)).trans ?_
  · have hy : (win0_7.blk t).view.emb y = ix3 1 (row t (y 1)) (y 2) := by blk_ext [at7, row]
    blk_simp
    rw [after0_7]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0, iblk3]
      have hs : sent t (m (c.tc.loc main_arg0)) (m (c.tc.loc main_arg1)) = m (c.tc.loc main_arg0) := if_pos h0
      refine Eq.trans ?_ (point7 t (m (c.tc.loc main_arg0)) (m (c.tc.loc main_arg1)) (m (c.tc.loc main_arg3)) y)
      rw [hs]
      exact upper7 (m (c.tc.loc main_arg0)) _ y
    · rw [outsAt0_B m c t (by omega) (by omega)]
      frame_out
      rw [iblk1, iblk3]
      have hs : sent t (m (c.tc.loc main_arg0)) (m (c.tc.loc main_arg1)) = m (c.tc.loc main_arg1) := if_neg (by omega)
      refine Eq.trans ?_ (point7 t (m (c.tc.loc main_arg0)) (m (c.tc.loc main_arg1)) (m (c.tc.loc main_arg3)) y)
      rw [hs]
      exact low7 (m (c.tc.loc main_arg1)) _ y
  · blk_simp [Pipeline.Window.cell_apply]
    omega
  · funext i
    rw [val_main_v33_apply, here]
    split_ifs with h
    · rfl
    · exact congrFun ((A_eq m c 7).trans (V7 m c)) i

theorem final8 : (dats m 0 c).arrAt 8 cfg0.N = val_main_v34 (F := Ideal) (m (c.tc.loc main_arg0)) (m (c.tc.loc main_arg1)) (m (c.tc.loc main_arg4)) (m (c.tc.loc main_arg8)) := by
  refine ((dats m 0 c).arrAt_eq_of_coversWhere 8 (val_main_v17 (F := Ideal) (m (c.tc.loc main_arg0)) (m (c.tc.loc main_arg1)) (m (c.tc.loc main_arg4))) (fun β => β (0 : Fin _) = 1) (by decide +kernel)
    (P := fun i => (i 0 : ℕ) = 1) (fun t hf y => ?_) (fun j => ?_)).trans ?_
  · have hy : (win0_8.blk t).view.emb y = ix3 1 (row t (y 1)) (y 2) := by blk_ext [at8, row]
    blk_simp
    rw [after0_8]
    refine Eq.trans ?_ (congrArg _ hy.symm)
    rcases (show t.val = 0 ∨ t.val = 1 by have h : t.val < 2 := lt_of_lt_of_eq t.isLt N_0; omega) with h0 | h0
    · rw [outsAt0_A m c t (by omega) (by omega)]
      frame_out
      rw [iblk0, iblk4]
      have hs : sent t (m (c.tc.loc main_arg0)) (m (c.tc.loc main_arg1)) = m (c.tc.loc main_arg0) := if_pos h0
      refine Eq.trans ?_ (point8 t (m (c.tc.loc main_arg0)) (m (c.tc.loc main_arg1)) (m (c.tc.loc main_arg4)) y)
      rw [hs]
      exact upper8 (m (c.tc.loc main_arg0)) _ y
    · rw [outsAt0_B m c t (by omega) (by omega)]
      frame_out
      rw [iblk1, iblk4]
      have hs : sent t (m (c.tc.loc main_arg0)) (m (c.tc.loc main_arg1)) = m (c.tc.loc main_arg1) := if_neg (by omega)
      refine Eq.trans ?_ (point8 t (m (c.tc.loc main_arg0)) (m (c.tc.loc main_arg1)) (m (c.tc.loc main_arg4)) y)
      rw [hs]
      exact low8 (m (c.tc.loc main_arg1)) _ y
  · blk_simp [Pipeline.Window.cell_apply]
    omega
  · funext i
    rw [val_main_v34_apply, here]
    split_ifs with h
    · rfl
    · exact congrFun ((A_eq m c 8).trans (V8 m c)) i

/-! The claims. -/

theorem frame_kernel : Cert.quiescent_Kernel29 := fun m ρ _ => Cert.Kernel29.Gen.frame m ρ

theorem frame_ideal : Cert.quiescent_Kernel29Ideal := fun m ρ _ => Cert.Kernel29Ideal.Gen.frame m ρ

theorem frame_reference : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

theorem preserves : Cert.preserves_Kernel29_Kernel29Ideal := trivial

/-- The kernel and the reference have the same results. -/
theorem algebraic : Cert.algebraic_Kernel29Ideal_Reference29Ideal := by
  intro m ρ m' ρ' _ hagree
  refine ⟨_, _, _, _, Cert.Kernel29Ideal.Value.run_blocks m ρ, ?_⟩
  refine (θ_run Cert.Reference29Ideal.defs _ _).mono (fun _ h c => ?_) (Cert.Reference29Ideal.Value.run (F := Ideal) m' ρ')
  obtain ⟨h0, h1, h2, h3, hargs⟩ := h c
  obtain ⟨a0, a1, a2, a3, a4, a5, a6, a7, a8⟩ := hagree c
  refine ⟨h0.trans ?_, h1.trans ?_, h2.trans ?_, h3.trans ?_, hargs⟩
  · rw [val_main_v31_eq, a0, a1, a5]; exact (final5 m c).symm
  · rw [val_main_v32_eq, a0, a1, a2, a3, a4, a6]; exact (final6 m c).symm
  · rw [val_main_v33_eq, a0, a1, a3, a7]; exact (final7 m c).symm
  · rw [val_main_v34_eq, a0, a1, a4, a8]; exact (final8 m c).symm

end Cert.BigD1

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel20.Frame
public import proofs.«01_k».proof.Proof.Gen.Kernel20Ideal.Value
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Read
public import proofs.«01_k».proof.Proof.Gen.On_first_layer_Kernel20Ideal
public import proofs.«01_k».proof.Proof.Gen.On_first_layer_Kernel22Ideal
public import proofs.«01_k».proof.Proof.Gen.On_first_layer_Kernel24Ideal
public import proofs.«01_k».proof.Proof.Gen.On_first_layer_halves
public import proofs.«01_k».proof.Proof.Norm.Claim
public import proofs.«01_k».proof.Proof.Gm.Claim
public import proofs.«01_k».proof.Proof.Prod.DwDown
public import proofs.«01_k».proof.Proof.Prod.Dhid
public import proofs.«01_k».proof.Proof.Prod.DwOutA
public import proofs.«01_k».proof.Proof.Prod.DmixedA
public import proofs.«01_k».proof.Proof.Prod.DwOutB
public import proofs.«01_k».proof.Proof.Prod.DmixedB
public import proofs.«01_k».proof.Proof.Prod.DwUp
public import proofs.«01_k».proof.Proof.Prod.Dh2
public import proofs.«01_k».proof.Proof.Prod.DhMix
public import proofs.«01_k».proof.Proof.Prod.DwIn
public import proofs.«01_k».proof.Proof.Prod.GmIn
public import proofs.«01_k».proof.Proof.Prod.HgIn
public import proofs.«01_k».proof.Proof.Prod.FfnUp
public import proofs.«01_k».proof.Proof.Opt.AdamAda
public import proofs.«01_k».proof.Proof.NormLast.Claim
public import proofs.«01_k».proof.Proof.Opt.AdaGrads
public import proofs.«01_k».proof.Proof.Opt.AdamSmall
public import proofs.«01_k».proof.Proof.Opt.BigA0
public import proofs.«01_k».proof.Proof.Opt.BigA1
public import proofs.«01_k».proof.Proof.Opt.BigB0
public import proofs.«01_k».proof.Proof.Opt.BigB1
public import proofs.«01_k».proof.Proof.Opt.BigC0
public import proofs.«01_k».proof.Proof.Opt.BigC1
public import proofs.«01_k».proof.Proof.Opt.BigC2
public import proofs.«01_k».proof.Proof.Opt.BigC3
public import proofs.«01_k».proof.Proof.Opt.BigD0
public import proofs.«01_k».proof.Proof.Opt.BigD1
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel17.Gen.facts, Cert.Kernel17Ideal.Gen.facts, Cert.Reference17Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Gm.finite_facts, Cert.On_first_layer_Kernel20Ideal.Gen.facts, Cert.On_first_layer_Kernel22Ideal.Gen.facts,
  Cert.On_first_layer_Kernel24Ideal.Gen.facts, Cert.On_first_layer_halves.Gen.facts,
  Cert.Gm.frame_kernel, Cert.Gm.frame_ideal, Cert.Gm.frame_ideal_finite,
  Cert.Gm.frame_reference, Cert.Gm.frame_reference_finite, Cert.Norm.frame_kernel,
  Cert.Norm.frame_ideal, Cert.Norm.frame_reference, Cert.DwDown.frame_kernel,
  Cert.DwDown.frame_ideal, Cert.DwDown.frame_reference, Cert.Dhid.frame_kernel,
  Cert.Dhid.frame_ideal, Cert.Dhid.frame_reference, Cert.DwOutA.frame_kernel,
  Cert.DwOutA.frame_ideal, Cert.DwOutA.frame_reference, Cert.DmixedA.frame_kernel,
  Cert.DmixedA.frame_ideal, Cert.DmixedA.frame_reference, Cert.DwOutB.frame_kernel,
  Cert.DwOutB.frame_ideal, Cert.DwOutB.frame_reference, Cert.DmixedB.frame_kernel,
  Cert.DmixedB.frame_ideal, Cert.DmixedB.frame_reference, Cert.DwUp.frame_kernel,
  Cert.DwUp.frame_ideal, Cert.DwUp.frame_reference, Cert.Dh2.frame_kernel,
  Cert.Dh2.frame_ideal, Cert.Dh2.frame_reference, Cert.DhMix.frame_kernel,
  Cert.DhMix.frame_ideal, Cert.DhMix.frame_reference, Cert.DwIn.frame_kernel,
  Cert.DwIn.frame_ideal, Cert.DwIn.frame_reference, Cert.GmIn.frame_kernel,
  Cert.GmIn.frame_ideal, Cert.GmIn.frame_reference, Cert.HgIn.frame_kernel,
  Cert.HgIn.frame_ideal, Cert.HgIn.frame_reference, Cert.FfnUp.frame_kernel,
  Cert.FfnUp.frame_ideal, Cert.FfnUp.frame_reference, Cert.AdamAda.frame_kernel,
  Cert.AdamAda.frame_ideal, Cert.AdamAda.frame_reference, Cert.NormLast.frame_kernel,
  Cert.NormLast.frame_ideal, Cert.NormLast.frame_reference, Cert.AdaGrads.frame_kernel,
  Cert.AdaGrads.frame_ideal, Cert.AdaGrads.frame_reference, Cert.AdamSmall.frame_kernel,
  Cert.AdamSmall.frame_ideal, Cert.AdamSmall.frame_reference, Cert.BigA0.frame_kernel,
  Cert.BigA0.frame_ideal, Cert.BigA0.frame_reference, Cert.BigA1.frame_kernel,
  Cert.BigA1.frame_ideal, Cert.BigA1.frame_reference, Cert.BigB0.frame_kernel,
  Cert.BigB0.frame_ideal, Cert.BigB0.frame_reference, Cert.BigB1.frame_kernel,
  Cert.BigB1.frame_ideal, Cert.BigB1.frame_reference, Cert.BigC0.frame_kernel,
  Cert.BigC0.frame_ideal, Cert.BigC0.frame_reference, Cert.BigC1.frame_kernel,
  Cert.BigC1.frame_ideal, Cert.BigC1.frame_reference, Cert.BigC2.frame_kernel,
  Cert.BigC2.frame_ideal, Cert.BigC2.frame_reference, Cert.BigC3.frame_kernel,
  Cert.BigC3.frame_ideal, Cert.BigC3.frame_reference, Cert.BigD0.frame_kernel,
  Cert.BigD0.frame_ideal, Cert.BigD0.frame_reference, Cert.BigD1.frame_kernel,
  Cert.BigD1.frame_ideal, Cert.BigD1.frame_reference,
  Cert.Gm.preserves, Cert.Gm.algebraic,
  Cert.Norm.preserves, Cert.Norm.algebraic,
  Cert.DwDown.preserves, Cert.DwDown.algebraic,
  Cert.Dhid.preserves, Cert.Dhid.algebraic,
  Cert.DwOutA.preserves, Cert.DwOutA.algebraic,
  Cert.DmixedA.preserves, Cert.DmixedA.algebraic,
  Cert.DwOutB.preserves, Cert.DwOutB.algebraic,
  Cert.DmixedB.preserves, Cert.DmixedB.algebraic,
  Cert.DwUp.preserves, Cert.DwUp.algebraic,
  Cert.Dh2.preserves, Cert.Dh2.algebraic,
  Cert.DhMix.preserves, Cert.DhMix.algebraic,
  Cert.DwIn.preserves, Cert.DwIn.algebraic,
  Cert.GmIn.preserves, Cert.GmIn.algebraic,
  Cert.HgIn.preserves, Cert.HgIn.algebraic,
  Cert.FfnUp.preserves, Cert.FfnUp.algebraic,
  Cert.AdamAda.preserves, Cert.AdamAda.algebraic,
  Cert.NormLast.preserves, Cert.NormLast.algebraic,
  Cert.AdaGrads.preserves, Cert.AdaGrads.algebraic,
  Cert.AdamSmall.preserves, Cert.AdamSmall.algebraic,
  Cert.BigA0.preserves, Cert.BigA0.algebraic,
  Cert.BigA1.preserves, Cert.BigA1.algebraic,
  Cert.BigB0.preserves, Cert.BigB0.algebraic,
  Cert.BigB1.preserves, Cert.BigB1.algebraic,
  Cert.BigC0.preserves, Cert.BigC0.algebraic,
  Cert.BigC1.preserves, Cert.BigC1.algebraic,
  Cert.BigC2.preserves, Cert.BigC2.algebraic,
  Cert.BigC3.preserves, Cert.BigC3.algebraic,
  Cert.BigD0.preserves, Cert.BigD0.algebraic,
  Cert.BigD1.preserves, Cert.BigD1.algebraic⟩

end Cert.Proof

end
